-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_Adam1 (m : (ℓ : Loc Cert.Adam1.nD Cert.Adam1.τ Cert.Adam1.sig) → Buf (Elt Bits) ℓ) : Prop :=
  True

def Pre_Adam1Ideal (m : (ℓ : Loc Cert.Adam1Ideal.nD Cert.Adam1Ideal.τ Cert.Adam1Ideal.sig) → Buf (Elt Ideal) ℓ) : Prop :=
  True

def Pre_Adam1RefIdeal (m : (ℓ : Loc Cert.Adam1RefIdeal.nD Cert.Adam1RefIdeal.τ Cert.Adam1RefIdeal.sig) → Buf (Elt Ideal) ℓ) : Prop :=
  True

def Pre_Adam2 (m : (ℓ : Loc Cert.Adam2.nD Cert.Adam2.τ Cert.Adam2.sig) → Buf (Elt Bits) ℓ) : Prop :=
  True

def Pre_Adam2Ideal (m : (ℓ : Loc Cert.Adam2Ideal.nD Cert.Adam2Ideal.τ Cert.Adam2Ideal.sig) → Buf (Elt Ideal) ℓ) : Prop :=
  True

def Pre_Adam2RefIdeal (m : (ℓ : Loc Cert.Adam2RefIdeal.nD Cert.Adam2RefIdeal.τ Cert.Adam2RefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_GradWAda (m : (ℓ : Loc Cert.GradWAda.nD Cert.GradWAda.τ Cert.GradWAda.sig) → Buf (Elt Bits) ℓ) : Prop :=
  True

def Pre_GradWAdaIdeal (m : (ℓ : Loc Cert.GradWAdaIdeal.nD Cert.GradWAdaIdeal.τ Cert.GradWAdaIdeal.sig) → Buf (Elt Ideal) ℓ) : Prop :=
  True

def Pre_GradWAdaRefIdeal (m : (ℓ : Loc Cert.GradWAdaRefIdeal.nD Cert.GradWAdaRefIdeal.τ Cert.GradWAdaRefIdeal.sig) → Buf (Elt Ideal) ℓ) : Prop :=
  True

def Pre_GradW1 (m : (ℓ : Loc Cert.GradW1.nD Cert.GradW1.τ Cert.GradW1.sig) → Buf (Elt Bits) ℓ) : Prop :=
  True

def Pre_GradW1Ideal (m : (ℓ : Loc Cert.GradW1Ideal.nD Cert.GradW1Ideal.τ Cert.GradW1Ideal.sig) → Buf (Elt Ideal) ℓ) : Prop :=
  True

def Pre_GradW1RefIdeal (m : (ℓ : Loc Cert.GradW1RefIdeal.nD Cert.GradW1RefIdeal.τ Cert.GradW1RefIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_ModPart (m : (ℓ : Loc Cert.ModPart.nD Cert.ModPart.τ Cert.ModPart.sig) → Buf (Elt Bits) ℓ) : Prop :=
  True

def Pre_ModPartIdeal (m : (ℓ : Loc Cert.ModPartIdeal.nD Cert.ModPartIdeal.τ Cert.ModPartIdeal.sig) → Buf (Elt Ideal) ℓ) : Prop :=
  True

def Pre_ModPartRefIdeal (m : (ℓ : Loc Cert.ModPartRefIdeal.nD Cert.ModPartRefIdeal.τ Cert.ModPartRefIdeal.sig) → Buf (Elt Ideal) ℓ) : Prop :=
  True

def Pre_RelBias (m : (ℓ : Loc Cert.RelBias.nD Cert.RelBias.τ Cert.RelBias.sig) → Buf (Elt Bits) ℓ) : Prop :=
  True

def Pre_RelBiasIdeal (m : (ℓ : Loc Cert.RelBiasIdeal.nD Cert.RelBiasIdeal.τ Cert.RelBiasIdeal.sig) → Buf (Elt Ideal) ℓ) : Prop :=
  True

def Pre_RelBiasRefIdeal (m : (ℓ : Loc Cert.RelBiasRefIdeal.nD Cert.RelBiasRefIdeal.τ Cert.RelBiasRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_ChipSum [hPre_core : Cert.Pre_core.Facts] (m : (ℓ : Loc Cert.ChipSum.nD Cert.ChipSum.τ Cert.ChipSum.sig) → Buf (Elt Bits) ℓ) : Prop :=
  ∀ c : Dev Cert.ChipSum.nD,
    (Cert.Pre_core.fn (F := Bits) (m ((c.tc : Thread Cert.ChipSum.nD Cert.ChipSum.τ).loc Cert.ChipSum.main_arg0)) (m ((c.tc : Thread Cert.ChipSum.nD Cert.ChipSum.τ).loc Cert.ChipSum.main_arg1)) (m ((c.tc : Thread Cert.ChipSum.nD Cert.ChipSum.τ).loc Cert.ChipSum.main_arg2))) = (fun _ => 1#1)

def Pre_ChipSumIdeal [hPre_core : Cert.Pre_core.Facts] (m : (ℓ : Loc Cert.ChipSumIdeal.nD Cert.ChipSumIdeal.τ Cert.ChipSumIdeal.sig) → Buf (Elt Ideal) ℓ) : Prop :=
  ∀ c : Dev Cert.ChipSumIdeal.nD,
    (Cert.Pre_core.fn (F := Ideal) (m ((c.tc : Thread Cert.ChipSumIdeal.nD Cert.ChipSumIdeal.τ).loc Cert.ChipSumIdeal.main_arg0)) (m ((c.tc : Thread Cert.ChipSumIdeal.nD Cert.ChipSumIdeal.τ).loc Cert.ChipSumIdeal.main_arg1)) (m ((c.tc : Thread Cert.ChipSumIdeal.nD Cert.ChipSumIdeal.τ).loc Cert.ChipSumIdeal.main_arg2))) = (fun _ => 1#1)

def Pre_ChipSumRefIdeal (m : (ℓ : Loc Cert.ChipSumRefIdeal.nD Cert.ChipSumRefIdeal.τ Cert.ChipSumRefIdeal.sig) → Buf (Elt Ideal) ℓ) : Prop :=
  True

def Pre_ChipSumRefIdeal_core [hPre_core : Cert.Pre_core.Facts] (m : (ℓ : Loc Cert.ChipSumRefIdeal.nD Cert.ChipSumRefIdeal.τ Cert.ChipSumRefIdeal.sig) → Buf (Elt Ideal) ℓ) : Prop :=
  ∀ c : Dev Cert.ChipSumRefIdeal.nD,
    (Cert.Pre_core.fn (F := Ideal) (m ((c.tc : Thread Cert.ChipSumRefIdeal.nD Cert.ChipSumRefIdeal.τ).loc Cert.ChipSumRefIdeal.main_arg0)) (m ((c.tc : Thread Cert.ChipSumRefIdeal.nD Cert.ChipSumRefIdeal.τ).loc Cert.ChipSumRefIdeal.main_arg1)) (m ((c.tc : Thread Cert.ChipSumRefIdeal.nD Cert.ChipSumRefIdeal.τ).loc Cert.ChipSumRefIdeal.main_arg2))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6)
      ∧ r.2.mem ((c.tc : Thread Cert.FfnFwd.nD Cert.FfnFwd.τ).loc Cert.FfnFwd.main_arg7) = m ((c.tc : Thread Cert.FfnFwd.nD Cert.FfnFwd.τ).loc Cert.FfnFwd.main_arg7)
      ∧ r.2.mem ((c.tc : Thread Cert.FfnFwd.nD Cert.FfnFwd.τ).loc Cert.FfnFwd.main_arg8) = m ((c.tc : Thread Cert.FfnFwd.nD Cert.FfnFwd.τ).loc Cert.FfnFwd.main_arg8))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
      ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7)
      ∧ r.2.mem ((c.tc : Thread Cert.FfnFwdRefIdeal.nD Cert.FfnFwdRefIdeal.τ).loc Cert.FfnFwdRefIdeal.main_arg8) = m ((c.tc : Thread Cert.FfnFwdRefIdeal.nD Cert.FfnFwdRefIdeal.τ).loc Cert.FfnFwdRefIdeal.main_arg8))
      ∧ r.2.sem = fun _ => 0)

def quiescent_Adam1 [hAdam1 : Cert.Adam1.Facts] : Prop :=
  ∀ (m : (ℓ : Loc Cert.Adam1.nD Cert.Adam1.τ Cert.Adam1.sig) → Buf (Elt Bits) ℓ) (g : Dev Cert.Adam1.nD → PrngReg), Pre_Adam1 m →
    θ_run (Cert.Adam1.defs (F := Bits)) (onTc (τ := Cert.Adam1.τ) (Cert.Adam1.main (F := Bits))) ⟨m, fun _ => 0, g⟩ (fun r => (∀ c : Dev Cert.Adam1.nD,
      r.2.mem ((c.tc : Thread Cert.Adam1.nD Cert.Adam1.τ).loc Cert.Adam1.main_arg0) = m ((c.tc : Thread Cert.Adam1.nD Cert.Adam1.τ).loc Cert.Adam1.main_arg0)
      ∧ r.2.mem ((c.tc : Thread Cert.Adam1.nD Cert.Adam1.τ).loc Cert.Adam1.main_arg1) = m ((c.tc : Thread Cert.Adam1.nD Cert.Adam1.τ).loc Cert.Adam1.main_arg1)
      ∧ r.2.mem ((c.tc : Thread Cert.Adam1.nD Cert.Adam1.τ).loc Cert.Adam1.main_arg2) = m ((c.tc : Thread Cert.Adam1.nD Cert.Adam1.τ).loc Cert.Adam1.main_arg2)
      ∧ r.2.mem ((c.tc : Thread Cert.Adam1.nD Cert.Adam1.τ).loc Cert.Adam1.main_arg3) = m ((c.tc : Thread Cert.Adam1.nD Cert.Adam1.τ).loc Cert.Adam1.main_arg3))
      ∧ r.2.sem = fun _ => 0)

def quiescent_Adam1Ideal [hAdam1Ideal : Cert.Adam1Ideal.Facts] : Prop :=
  ∀ (m : (ℓ : Loc Cert.Adam1Ideal.nD Cert.Adam1Ideal.τ Cert.Adam1Ideal.sig) → Buf (Elt Ideal) ℓ) (g : Dev Cert.Adam1Ideal.nD → PrngReg), Pre_Adam1Ideal m →
    θ_run (Cert.Adam1Ideal.defs (F := Ideal)) (onTc (τ := Cert.Adam1Ideal.τ) (Cert.Adam1Ideal.main (F := Ideal))) ⟨m, fun _ => 0, g⟩ (fun r => (∀ c : Dev Cert.Adam1Ideal.nD,
      r.2.mem ((c.tc : Thread Cert.Adam1Ideal.nD Cert.Adam1Ideal.τ).loc Cert.Adam1Ideal.main_arg0) = m ((c.tc : Thread Cert.Adam1Ideal.nD Cert.Adam1Ideal.τ).loc Cert.Adam1Ideal.main_arg0)
      ∧ r.2.mem ((c.tc : Thread Cert.Adam1Ideal.nD Cert.Adam1Ideal.τ).loc Cert.Adam1Ideal.main_arg1) = m ((c.tc : Thread Cert.Adam1Ideal.nD Cert.Adam1Ideal.τ).loc Cert.Adam1Ideal.main_arg1)
      ∧ r.2.mem ((c.tc : Thread Cert.Adam1Ideal.nD Cert.Adam1Ideal.τ).loc Cert.Adam1Ideal.main_arg2) = m ((c.tc : Thread Cert.Adam1Ideal.nD Cert.Adam1Ideal.τ).loc Cert.Adam1Ideal.main_arg2)
      ∧ r.2.mem ((c.tc : Thread Cert.Adam1Ideal.nD Cert.Adam1Ideal.τ).loc Cert.Adam1Ideal.main_arg3) = m ((c.tc : Thread Cert.Adam1Ideal.nD Cert.Adam1Ideal.τ).loc Cert.Adam1Ideal.main_arg3))
      ∧ r.2.sem = fun _ => 0)

def quiescent_Adam1RefIdeal [hAdam1RefIdeal : Cert.Adam1RefIdeal.Facts] : Prop :=
  ∀ (m : (ℓ : Loc Cert.Adam1RefIdeal.nD Cert.Adam1RefIdeal.τ Cert.Adam1RefIdeal.sig) → Buf (Elt Ideal) ℓ) (g : Dev Cert.Adam1RefIdeal.nD → PrngReg), Pre_Adam1RefIdeal m →
    θ_run (Cert.Adam1RefIdeal.defs (F := Ideal)) (onTc (τ := Cert.Adam1RefIdeal.τ) (Cert.Adam1RefIdeal.main (F := Ideal))) ⟨m, fun _ => 0, g⟩ (fun r => (∀ c : Dev Cert.Adam1RefIdeal.nD,
      r.2.mem ((c.tc : Thread Cert.Adam1RefIdeal.nD Cert.Adam1RefIdeal.τ).loc Cert.Adam1RefIdeal.main_arg0) = m ((c.tc : Thread Cert.Adam1RefIdeal.nD Cert.Adam1RefIdeal.τ).loc Cert.Adam1RefIdeal.main_arg0)
      ∧ r.2.mem ((c.tc : Thread Cert.Adam1RefIdeal.nD Cert.Adam1RefIdeal.τ).loc Cert.Adam1RefIdeal.main_arg1) = m ((c.tc : Thread Cert.Adam1RefIdeal.nD Cert.Adam1RefIdeal.τ).loc Cert.Adam1RefIdeal.main_arg1)
      ∧ r.2.mem ((c.tc : Thread Cert.Adam1RefIdeal.nD Cert.Adam1RefIdeal.τ).loc Cert.Adam1RefIdeal.main_arg2) = m ((c.tc : Thread Cert.Adam1RefIdeal.nD Cert.Adam1RefIdeal.τ).loc Cert.Adam1RefIdeal.main_arg2)
      ∧ r.2.mem ((c.tc : Thread Cert.Adam1RefIdeal.nD Cert.Adam1RefIdeal.τ).loc Cert.Adam1RefIdeal.main_arg3) = m ((c.tc : Thread Cert.Adam1RefIdeal.nD Cert.Adam1RefIdeal.τ).loc Cert.Adam1RefIdeal.main_arg3))
      ∧ r.2.sem = fun _ => 0)

def quiescent_Adam2 [hAdam2 : Cert.Adam2.Facts] : Prop :=
  ∀ (m : (ℓ : Loc Cert.Adam2.nD Cert.Adam2.τ Cert.Adam2.sig) → Buf (Elt Bits) ℓ) (g : Dev Cert.Adam2.nD → PrngReg), Pre_Adam2 m →
    θ_run (Cert.Adam2.defs (F := Bits)) (onTc (τ := Cert.Adam2.τ) (Cert.Adam2.main (F := Bits))) ⟨m, fun _ => 0, g⟩ (fun r => (∀ c : Dev Cert.Adam2.nD,
      r.2.mem ((c.tc : Thread Cert.Adam2.nD Cert.Adam2.τ).loc Cert.Adam2.main_arg0) = m ((c.tc : Thread Cert.Adam2.nD Cert.Adam2.τ).loc Cert.Adam2.main_arg0)
      ∧ r.2.mem ((c.tc : Thread Cert.Adam2.nD Cert.Adam2.τ).loc Cert.Adam2.main_arg1) = m ((c.tc : Thread Cert.Adam2.nD Cert.Adam2.τ).loc Cert.Adam2.main_arg1)
      ∧ r.2.mem ((c.tc : Thread Cert.Adam2.nD Cert.Adam2.τ).loc Cert.Adam2.main_arg2) = m ((c.tc : Thread Cert.Adam2.nD Cert.Adam2.τ).loc Cert.Adam2.main_arg2)
      ∧ r.2.mem ((c.tc : Thread Cert.Adam2.nD Cert.Adam2.τ).loc Cert.Adam2.main_arg3) = m ((c.tc : Thread Cert.Adam2.nD Cert.Adam2.τ).loc Cert.Adam2.main_arg3))
      ∧ r.2.sem = fun _ => 0)

def quiescent_Adam2Ideal [hAdam2Ideal : Cert.Adam2Ideal.Facts] : Prop :=
  ∀ (m : (ℓ : Loc Cert.Adam2Ideal.nD Cert.Adam2Ideal.τ Cert.Adam2Ideal.sig) → Buf (Elt Ideal) ℓ) (g : Dev Cert.Adam2Ideal.nD → PrngReg), Pre_Adam2Ideal m →
    θ_run (Cert.Adam2Ideal.defs (F := Ideal)) (onTc (τ := Cert.Adam2Ideal.τ) (Cert.Adam2Ideal.main (F := Ideal))) ⟨m, fun _ => 0, g⟩ (fun r => (∀ c : Dev Cert.Adam2Ideal.nD,
      r.2.mem ((c.tc : Thread Cert.Adam2Ideal.nD Cert.Adam2Ideal.τ).loc Cert.Adam2Ideal.main_arg0) = m ((c.tc : Thread Cert.Adam2Ideal.nD Cert.Adam2Ideal.τ).loc Cert.Adam2Ideal.main_arg0)
      ∧ r.2.mem ((c.tc : Thread Cert.Adam2Ideal.nD Cert.Adam2Ideal.τ).loc Cert.Adam2Ideal.main_arg1) = m ((c.tc : Thread Cert.Adam2Ideal.nD Cert.Adam2Ideal.τ).loc Cert.Adam2Ideal.main_arg1)
      ∧ r.2.mem ((c.tc : Thread Cert.Adam2Ideal.nD Cert.Adam2Ideal.τ).loc Cert.Adam2Ideal.main_arg2) = m ((c.tc : Thread Cert.Adam2Ideal.nD Cert.Adam2Ideal.τ).loc Cert.Adam2Ideal.main_arg2)
      ∧ r.2.mem ((c.tc : Thread Cert.Adam2Ideal.nD Cert.Adam2Ideal.τ).loc Cert.Adam2Ideal.main_arg3) = m ((c.tc : Thread Cert.Adam2Ideal.nD Cert.Adam2Ideal.τ).loc Cert.Adam2Ideal.main_arg3))
      ∧ r.2.sem = fun _ => 0)

def quiescent_Adam2RefIdeal [hAdam2RefIdeal : Cert.Adam2RefIdeal.Facts] : Prop :=
  ∀ (m : (ℓ : Loc Cert.Adam2RefIdeal.nD Cert.Adam2RefIdeal.τ Cert.Adam2RefIdeal.sig) → Buf (Elt Ideal) ℓ) (g : Dev Cert.Adam2RefIdeal.nD → PrngReg), Pre_Adam2RefIdeal m →
    θ_run (Cert.Adam2RefIdeal.defs (F := Ideal)) (onTc (τ := Cert.Adam2RefIdeal.τ) (Cert.Adam2RefIdeal.main (F := Ideal))) ⟨m, fun _ => 0, g⟩ (fun r => (∀ c : Dev Cert.Adam2RefIdeal.nD,
      r.2.mem ((c.tc : Thread Cert.Adam2RefIdeal.nD Cert.Adam2RefIdeal.τ).loc Cert.Adam2RefIdeal.main_arg0) = m ((c.tc : Thread Cert.Adam2RefIdeal.nD Cert.Adam2RefIdeal.τ).loc Cert.Adam2RefIdeal.main_arg0)
      ∧ r.2.mem ((c.tc : Thread Cert.Adam2RefIdeal.nD Cert.Adam2RefIdeal.τ).loc Cert.Adam2RefIdeal.main_arg1) = m ((c.tc : Thread Cert.Adam2RefIdeal.nD Cert.Adam2RefIdeal.τ).loc Cert.Adam2RefIdeal.main_arg1)
      ∧ r.2.mem ((c.tc : Thread Cert.Adam2RefIdeal.nD Cert.Adam2RefIdeal.τ).loc Cert.Adam2RefIdeal.main_arg2) = m ((c.tc : Thread Cert.Adam2RefIdeal.nD Cert.Adam2RefIdeal.τ).loc Cert.Adam2RefIdeal.main_arg2)
      ∧ r.2.mem ((c.tc : Thread Cert.Adam2RefIdeal.nD Cert.Adam2RefIdeal.τ).loc Cert.Adam2RefIdeal.main_arg3) = m ((c.tc : Thread Cert.Adam2RefIdeal.nD Cert.Adam2RefIdeal.τ).loc Cert.Adam2RefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_GradWAda [hGradWAda : Cert.GradWAda.Facts] : Prop :=
  ∀ (m : (ℓ : Loc Cert.GradWAda.nD Cert.GradWAda.τ Cert.GradWAda.sig) → Buf (Elt Bits) ℓ) (g : Dev Cert.GradWAda.nD → PrngReg), Pre_GradWAda m →
    θ_run (Cert.GradWAda.defs (F := Bits)) (onTc (τ := Cert.GradWAda.τ) (Cert.GradWAda.main (F := Bits))) ⟨m, fun _ => 0, g⟩ (fun r => (∀ c : Dev Cert.GradWAda.nD,
      r.2.mem ((c.tc : Thread Cert.GradWAda.nD Cert.GradWAda.τ).loc Cert.GradWAda.main_arg0) = m ((c.tc : Thread Cert.GradWAda.nD Cert.GradWAda.τ).loc Cert.GradWAda.main_arg0)
      ∧ r.2.mem ((c.tc : Thread Cert.GradWAda.nD Cert.GradWAda.τ).loc Cert.GradWAda.main_arg1) = m ((c.tc : Thread Cert.GradWAda.nD Cert.GradWAda.τ).loc Cert.GradWAda.main_arg1)
      ∧ r.2.mem ((c.tc : Thread Cert.GradWAda.nD Cert.GradWAda.τ).loc Cert.GradWAda.main_arg2) = m ((c.tc : Thread Cert.GradWAda.nD Cert.GradWAda.τ).loc Cert.GradWAda.main_arg2))
      ∧ r.2.sem = fun _ => 0)

def quiescent_GradWAdaIdeal [hGradWAdaIdeal : Cert.GradWAdaIdeal.Facts] : Prop :=
  ∀ (m : (ℓ : Loc Cert.GradWAdaIdeal.nD Cert.GradWAdaIdeal.τ Cert.GradWAdaIdeal.sig) → Buf (Elt Ideal) ℓ) (g : Dev Cert.GradWAdaIdeal.nD → PrngReg), Pre_GradWAdaIdeal m →
    θ_run (Cert.GradWAdaIdeal.defs (F := Ideal)) (onTc (τ := Cert.GradWAdaIdeal.τ) (Cert.GradWAdaIdeal.main (F := Ideal))) ⟨m, fun _ => 0, g⟩ (fun r => (∀ c : Dev Cert.GradWAdaIdeal.nD,
      r.2.mem ((c.tc : Thread Cert.GradWAdaIdeal.nD Cert.GradWAdaIdeal.τ).loc Cert.GradWAdaIdeal.main_arg0) = m ((c.tc : Thread Cert.GradWAdaIdeal.nD Cert.GradWAdaIdeal.τ).loc Cert.GradWAdaIdeal.main_arg0)
      ∧ r.2.mem ((c.tc : Thread Cert.GradWAdaIdeal.nD Cert.GradWAdaIdeal.τ).loc Cert.GradWAdaIdeal.main_arg1) = m ((c.tc : Thread Cert.GradWAdaIdeal.nD Cert.GradWAdaIdeal.τ).loc Cert.GradWAdaIdeal.main_arg1)
      ∧ r.2.mem ((c.tc : Thread Cert.GradWAdaIdeal.nD Cert.GradWAdaIdeal.τ).loc Cert.GradWAdaIdeal.main_arg2) = m ((c.tc : Thread Cert.GradWAdaIdeal.nD Cert.GradWAdaIdeal.τ).loc Cert.GradWAdaIdeal.main_arg2))
      ∧ r.2.sem = fun _ => 0)

def quiescent_GradWAdaRefIdeal [hGradWAdaRefIdeal : Cert.GradWAdaRefIdeal.Facts] : Prop :=
  ∀ (m : (ℓ : Loc Cert.GradWAdaRefIdeal.nD Cert.GradWAdaRefIdeal.τ Cert.GradWAdaRefIdeal.sig) → Buf (Elt Ideal) ℓ) (g : Dev Cert.GradWAdaRefIdeal.nD → PrngReg), Pre_GradWAdaRefIdeal m →
    θ_run (Cert.GradWAdaRefIdeal.defs (F := Ideal)) (onTc (τ := Cert.GradWAdaRefIdeal.τ) (Cert.GradWAdaRefIdeal.main (F := Ideal))) ⟨m, fun _ => 0, g⟩ (fun r => (∀ c : Dev Cert.GradWAdaRefIdeal.nD,
      r.2.mem ((c.tc : Thread Cert.GradWAdaRefIdeal.nD Cert.GradWAdaRefIdeal.τ).loc Cert.GradWAdaRefIdeal.main_arg0) = m ((c.tc : Thread Cert.GradWAdaRefIdeal.nD Cert.GradWAdaRefIdeal.τ).loc Cert.GradWAdaRefIdeal.main_arg0)
      ∧ r.2.mem ((c.tc : Thread Cert.GradWAdaRefIdeal.nD Cert.GradWAdaRefIdeal.τ).loc Cert.GradWAdaRefIdeal.main_arg1) = m ((c.tc : Thread Cert.GradWAdaRefIdeal.nD Cert.GradWAdaRefIdeal.τ).loc Cert.GradWAdaRefIdeal.main_arg1)
      ∧ r.2.mem ((c.tc : Thread Cert.GradWAdaRefIdeal.nD Cert.GradWAdaRefIdeal.τ).loc Cert.GradWAdaRefIdeal.main_arg2) = m ((c.tc : Thread Cert.GradWAdaRefIdeal.nD Cert.GradWAdaRefIdeal.τ).loc Cert.GradWAdaRefIdeal.main_arg2))
      ∧ r.2.sem = fun _ => 0)

def quiescent_GradW1 [hGradW1 : Cert.GradW1.Facts] : Prop :=
  ∀ (m : (ℓ : Loc Cert.GradW1.nD Cert.GradW1.τ Cert.GradW1.sig) → Buf (Elt Bits) ℓ) (g : Dev Cert.GradW1.nD → PrngReg), Pre_GradW1 m →
    θ_run (Cert.GradW1.defs (F := Bits)) (onTc (τ := Cert.GradW1.τ) (Cert.GradW1.main (F := Bits))) ⟨m, fun _ => 0, g⟩ (fun r => (∀ c : Dev Cert.GradW1.nD,
      r.2.mem ((c.tc : Thread Cert.GradW1.nD Cert.GradW1.τ).loc Cert.GradW1.main_arg0) = m ((c.tc : Thread Cert.GradW1.nD Cert.GradW1.τ).loc Cert.GradW1.main_arg0)
      ∧ r.2.mem ((c.tc : Thread Cert.GradW1.nD Cert.GradW1.τ).loc Cert.GradW1.main_arg1) = m ((c.tc : Thread Cert.GradW1.nD Cert.GradW1.τ).loc Cert.GradW1.main_arg1)
      ∧ r.2.mem ((c.tc : Thread Cert.GradW1.nD Cert.GradW1.τ).loc Cert.GradW1.main_arg2) = m ((c.tc : Thread Cert.GradW1.nD Cert.GradW1.τ).loc Cert.GradW1.main_arg2))
      ∧ r.2.sem = fun _ => 0)

def quiescent_GradW1Ideal [hGradW1Ideal : Cert.GradW1Ideal.Facts] : Prop :=
  ∀ (m : (ℓ : Loc Cert.GradW1Ideal.nD Cert.GradW1Ideal.τ Cert.GradW1Ideal.sig) → Buf (Elt Ideal) ℓ) (g : Dev Cert.GradW1Ideal.nD → PrngReg), Pre_GradW1Ideal m →
    θ_run (Cert.GradW1Ideal.defs (F := Ideal)) (onTc (τ := Cert.GradW1Ideal.τ) (Cert.GradW1Ideal.main (F := Ideal))) ⟨m, fun _ => 0, g⟩ (fun r => (∀ c : Dev Cert.GradW1Ideal.nD,
      r.2.mem ((c.tc : Thread Cert.GradW1Ideal.nD Cert.GradW1Ideal.τ).loc Cert.GradW1Ideal.main_arg0) = m ((c.tc : Thread Cert.GradW1Ideal.nD Cert.GradW1Ideal.τ).loc Cert.GradW1Ideal.main_arg0)
      ∧ r.2.mem ((c.tc : Thread Cert.GradW1Ideal.nD Cert.GradW1Ideal.τ).loc Cert.GradW1Ideal.main_arg1) = m ((c.tc : Thread Cert.GradW1Ideal.nD Cert.GradW1Ideal.τ).loc Cert.GradW1Ideal.main_arg1)
      ∧ r.2.mem ((c.tc : Thread Cert.GradW1Ideal.nD Cert.GradW1Ideal.τ).loc Cert.GradW1Ideal.main_arg2) = m ((c.tc : Thread Cert.GradW1Ideal.nD Cert.GradW1Ideal.τ).loc Cert.GradW1Ideal.main_arg2))
      ∧ r.2.sem = fun _ => 0)

def quiescent_GradW1RefIdeal [hGradW1RefIdeal : Cert.GradW1RefIdeal.Facts] : Prop :=
  ∀ (m : (ℓ : Loc Cert.GradW1RefIdeal.nD Cert.GradW1RefIdeal.τ Cert.GradW1RefIdeal.sig) → Buf (Elt Ideal) ℓ) (g : Dev Cert.GradW1RefIdeal.nD → PrngReg), Pre_GradW1RefIdeal m →
    θ_run (Cert.GradW1RefIdeal.defs (F := Ideal)) (onTc (τ := Cert.GradW1RefIdeal.τ) (Cert.GradW1RefIdeal.main (F := Ideal))) ⟨m, fun _ => 0, g⟩ (fun r => (∀ c : Dev Cert.GradW1RefIdeal.nD,
      r.2.mem ((c.tc : Thread Cert.GradW1RefIdeal.nD Cert.GradW1RefIdeal.τ).loc Cert.GradW1RefIdeal.main_arg0) = m ((c.tc : Thread Cert.GradW1RefIdeal.nD Cert.GradW1RefIdeal.τ).loc Cert.GradW1RefIdeal.main_arg0)
      ∧ r.2.mem ((c.tc : Thread Cert.GradW1RefIdeal.nD Cert.GradW1RefIdeal.τ).loc Cert.GradW1RefIdeal.main_arg1) = m ((c.tc : Thread Cert.GradW1RefIdeal.nD Cert.GradW1RefIdeal.τ).loc Cert.GradW1RefIdeal.main_arg1)
      ∧ r.2.mem ((c.tc : Thread Cert.GradW1RefIdeal.nD Cert.GradW1RefIdeal.τ).loc Cert.GradW1RefIdeal.main_arg2) = m ((c.tc : Thread Cert.GradW1RefIdeal.nD Cert.GradW1RefIdeal.τ).loc Cert.GradW1RefIdeal.main_arg2))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1)
      ∧ r.2.mem ((c.tc : Thread Cert.GradWOut.nD Cert.GradWOut.τ).loc Cert.GradWOut.main_arg2) = m ((c.tc : Thread Cert.GradWOut.nD Cert.GradWOut.τ).loc Cert.GradWOut.main_arg2))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1)
      ∧ r.2.mem ((c.tc : Thread Cert.GradWOutIdeal.nD Cert.GradWOutIdeal.τ).loc Cert.GradWOutIdeal.main_arg2) = m ((c.tc : Thread Cert.GradWOutIdeal.nD Cert.GradWOutIdeal.τ).loc Cert.GradWOutIdeal.main_arg2))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1)
      ∧ r.2.mem ((c.tc : Thread Cert.GradWOutRefIdeal.nD Cert.GradWOutRefIdeal.τ).loc Cert.GradWOutRefIdeal.main_arg2) = m ((c.tc : Thread Cert.GradWOutRefIdeal.nD Cert.GradWOutRefIdeal.τ).loc Cert.GradWOutRefIdeal.main_arg2))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1)
      ∧ r.2.mem ((c.tc : Thread Cert.DMix.nD Cert.DMix.τ).loc Cert.DMix.main_arg2) = m ((c.tc : Thread Cert.DMix.nD Cert.DMix.τ).loc Cert.DMix.main_arg2))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1)
      ∧ r.2.mem ((c.tc : Thread Cert.DMixIdeal.nD Cert.DMixIdeal.τ).loc Cert.DMixIdeal.main_arg2) = m ((c.tc : Thread Cert.DMixIdeal.nD Cert.DMixIdeal.τ).loc Cert.DMixIdeal.main_arg2))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1)
      ∧ r.2.mem ((c.tc : Thread Cert.DMixRefIdeal.nD Cert.DMixRefIdeal.τ).loc Cert.DMixRefIdeal.main_arg2) = m ((c.tc : Thread Cert.DMixRefIdeal.nD Cert.DMixRefIdeal.τ).loc Cert.DMixRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_ModPart [hModPart : Cert.ModPart.Facts] : Prop :=
  ∀ (m : (ℓ : Loc Cert.ModPart.nD Cert.ModPart.τ Cert.ModPart.sig) → Buf (Elt Bits) ℓ) (g : Dev Cert.ModPart.nD → PrngReg), Pre_ModPart m →
    θ_run (Cert.ModPart.defs (F := Bits)) (onTc (τ := Cert.ModPart.τ) (Cert.ModPart.main (F := Bits))) ⟨m, fun _ => 0, g⟩ (fun r => (∀ c : Dev Cert.ModPart.nD,
      r.2.mem ((c.tc : Thread Cert.ModPart.nD Cert.ModPart.τ).loc Cert.ModPart.main_arg0) = m ((c.tc : Thread Cert.ModPart.nD Cert.ModPart.τ).loc Cert.ModPart.main_arg0)
      ∧ r.2.mem ((c.tc : Thread Cert.ModPart.nD Cert.ModPart.τ).loc Cert.ModPart.main_arg1) = m ((c.tc : Thread Cert.ModPart.nD Cert.ModPart.τ).loc Cert.ModPart.main_arg1)
      ∧ r.2.mem ((c.tc : Thread Cert.ModPart.nD Cert.ModPart.τ).loc Cert.ModPart.main_arg2) = m ((c.tc : Thread Cert.ModPart.nD Cert.ModPart.τ).loc Cert.ModPart.main_arg2))
      ∧ r.2.sem = fun _ => 0)

def quiescent_ModPartIdeal [hModPartIdeal : Cert.ModPartIdeal.Facts] : Prop :=
  ∀ (m : (ℓ : Loc Cert.ModPartIdeal.nD Cert.ModPartIdeal.τ Cert.ModPartIdeal.sig) → Buf (Elt Ideal) ℓ) (g : Dev Cert.ModPartIdeal.nD → PrngReg), Pre_ModPartIdeal m →
    θ_run (Cert.ModPartIdeal.defs (F := Ideal)) (onTc (τ := Cert.ModPartIdeal.τ) (Cert.ModPartIdeal.main (F := Ideal))) ⟨m, fun _ => 0, g⟩ (fun r => (∀ c : Dev Cert.ModPartIdeal.nD,
      r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
      ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1)
      ∧ r.2.mem ((c.tc : Thread Cert.ModPartIdeal.nD Cert.ModPartIdeal.τ).loc Cert.ModPartIdeal.main_arg2) = m ((c.tc : Thread Cert.ModPartIdeal.nD Cert.ModPartIdeal.τ).loc Cert.ModPartIdeal.main_arg2))
      ∧ r.2.sem = fun _ => 0)

def quiescent_ModPartRefIdeal [hModPartRefIdeal : Cert.ModPartRefIdeal.Facts] : Prop :=
  ∀ (m : (ℓ : Loc Cert.ModPartRefIdeal.nD Cert.ModPartRefIdeal.τ Cert.ModPartRefIdeal.sig) → Buf (Elt Ideal) ℓ) (g : Dev Cert.ModPartRefIdeal.nD → PrngReg), Pre_ModPartRefIdeal m →
    θ_run (Cert.ModPartRefIdeal.defs (F := Ideal)) (onTc (τ := Cert.ModPartRefIdeal.τ) (Cert.ModPartRefIdeal.main (F := Ideal))) ⟨m, fun _ => 0, g⟩ (fun r => (∀ c : Dev Cert.ModPartRefIdeal.nD,
      r.2.mem ((c.tc : Thread Cert.ModPartRefIdeal.nD Cert.ModPartRefIdeal.τ).loc Cert.ModPartRefIdeal.main_arg0) = m ((c.tc : Thread Cert.ModPartRefIdeal.nD Cert.ModPartRefIdeal.τ).loc Cert.ModPartRefIdeal.main_arg0)
      ∧ r.2.mem ((c.tc : Thread Cert.ModPartRefIdeal.nD Cert.ModPartRefIdeal.τ).loc Cert.ModPartRefIdeal.main_arg1) = m ((c.tc : Thread Cert.ModPartRefIdeal.nD Cert.ModPartRefIdeal.τ).loc Cert.ModPartRefIdeal.main_arg1)
      ∧ r.2.mem ((c.tc : Thread Cert.ModPartRefIdeal.nD Cert.ModPartRefIdeal.τ).loc Cert.ModPartRefIdeal.main_arg2) = m ((c.tc : Thread Cert.ModPartRefIdeal.nD Cert.ModPartRefIdeal.τ).loc Cert.ModPartRefIdeal.main_arg2))
      ∧ r.2.sem = fun _ => 0)

def quiescent_RelBias [hRelBias : Cert.RelBias.Facts] : Prop :=
  ∀ (m : (ℓ : Loc Cert.RelBias.nD Cert.RelBias.τ Cert.RelBias.sig) → Buf (Elt Bits) ℓ) (g : Dev Cert.RelBias.nD → PrngReg), Pre_RelBias m →
    θ_run (Cert.RelBias.defs (F := Bits)) (onTc (τ := Cert.RelBias.τ) (Cert.RelBias.main (F := Bits))) ⟨m, fun _ => 0, g⟩ (fun r => (∀ c : Dev Cert.RelBias.nD,
      r.2.mem ((c.tc : Thread Cert.RelBias.nD Cert.RelBias.τ).loc Cert.RelBias.main_arg0) = m ((c.tc : Thread Cert.RelBias.nD Cert.RelBias.τ).loc Cert.RelBias.main_arg0)
      ∧ r.2.mem ((c.tc : Thread Cert.RelBias.nD Cert.RelBias.τ).loc Cert.RelBias.main_arg1) = m ((c.tc : Thread Cert.RelBias.nD Cert.RelBias.τ).loc Cert.RelBias.main_arg1))
      ∧ r.2.sem = fun _ => 0)

def quiescent_RelBiasIdeal [hRelBiasIdeal : Cert.RelBiasIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg), Pre_RelBiasIdeal m →
    θ_run (Cert.RelBiasIdeal.defs (F := Ideal)) (onTc (τ := Cert.RelBiasIdeal.τ) (Cert.RelBiasIdeal.main (F := Ideal))) ⟨m, fun _ => 0, g⟩ (fun r => (∀ c : Dev Cert.RelBiasIdeal.nD,
      r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0)
      ∧ r.2.mem ((c.tc : Thread Cert.RelBiasIdeal.nD Cert.RelBiasIdeal.τ).loc Cert.RelBiasIdeal.main_arg1) = m ((c.tc : Thread Cert.RelBiasIdeal.nD Cert.RelBiasIdeal.τ).loc Cert.RelBiasIdeal.main_arg1))
      ∧ r.2.sem = fun _ => 0)

def quiescent_RelBiasRefIdeal [hRelBiasRefIdeal : Cert.RelBiasRefIdeal.Facts] : Prop :=
  ∀ (m : (ℓ : Loc Cert.RelBiasRefIdeal.nD Cert.RelBiasRefIdeal.τ Cert.RelBiasRefIdeal.sig) → Buf (Elt Ideal) ℓ) (g : Dev Cert.RelBiasRefIdeal.nD → PrngReg), Pre_RelBiasRefIdeal m →
    θ_run (Cert.RelBiasRefIdeal.defs (F := Ideal)) (onTc (τ := Cert.RelBiasRefIdeal.τ) (Cert.RelBiasRefIdeal.main (F := Ideal))) ⟨m, fun _ => 0, g⟩ (fun r => (∀ c : Dev Cert.RelBiasRefIdeal.nD,
      r.2.mem ((c.tc : Thread Cert.RelBiasRefIdeal.nD Cert.RelBiasRefIdeal.τ).loc Cert.RelBiasRefIdeal.main_arg0) = m ((c.tc : Thread Cert.RelBiasRefIdeal.nD Cert.RelBiasRefIdeal.τ).loc Cert.RelBiasRefIdeal.main_arg0)
      ∧ r.2.mem ((c.tc : Thread Cert.RelBiasRefIdeal.nD Cert.RelBiasRefIdeal.τ).loc Cert.RelBiasRefIdeal.main_arg1) = m ((c.tc : Thread Cert.RelBiasRefIdeal.nD Cert.RelBiasRefIdeal.τ).loc Cert.RelBiasRefIdeal.main_arg1))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2)
      ∧ r.2.mem ((c.tc : Thread Cert.PreNorm.nD Cert.PreNorm.τ).loc Cert.PreNorm.main_arg3) = m ((c.tc : Thread Cert.PreNorm.nD Cert.PreNorm.τ).loc Cert.PreNorm.main_arg3))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
      ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2)
      ∧ r.2.mem ((c.tc : Thread Cert.PreNormRefIdeal.nD Cert.PreNormRefIdeal.τ).loc Cert.PreNormRefIdeal.main_arg3) = m ((c.tc : Thread Cert.PreNormRefIdeal.nD Cert.PreNormRefIdeal.τ).loc Cert.PreNormRefIdeal.main_arg3))
      ∧ r.2.sem = fun _ => 0)

def quiescent_ChipSum [hChipSum : Cert.ChipSum.Facts] [hPre_core : Cert.Pre_core.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1)
      ∧ r.2.mem ((c.tc : Thread Cert.ChipSum.nD Cert.ChipSum.τ).loc Cert.ChipSum.main_arg2) = m ((c.tc : Thread Cert.ChipSum.nD Cert.ChipSum.τ).loc Cert.ChipSum.main_arg2))
      ∧ r.2.sem = fun _ => 0)

def quiescent_ChipSumIdeal [hChipSumIdeal : Cert.ChipSumIdeal.Facts] [hPre_core : Cert.Pre_core.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
      ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1)
      ∧ r.2.mem ((c.tc : Thread Cert.ChipSumRefIdeal.nD Cert.ChipSumRefIdeal.τ).loc Cert.ChipSumRefIdeal.main_arg2) = m ((c.tc : Thread Cert.ChipSumRefIdeal.nD Cert.ChipSumRefIdeal.τ).loc Cert.ChipSumRefIdeal.main_arg2))
      ∧ r.2.sem = fun _ => 0)

def quiescent_ChipSumRefIdeal_pre_core [hChipSumRefIdeal : Cert.ChipSumRefIdeal.Facts] [hPre_core : Cert.Pre_core.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal_core m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1)
      ∧ r.2.mem ((c.tc : Thread Cert.ChipSumRefIdeal.nD Cert.ChipSumRefIdeal.τ).loc Cert.ChipSumRefIdeal.main_arg2) = m ((c.tc : Thread Cert.ChipSumRefIdeal.nD Cert.ChipSumRefIdeal.τ).loc Cert.ChipSumRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)
      ∧ m' ((c.tc : Thread Cert.FfnFwdRefIdeal.nD Cert.FfnFwdRefIdeal.τ).loc Cert.FfnFwdRefIdeal.main_arg7) = m ((c.tc : Thread Cert.FfnFwdIdeal.nD Cert.FfnFwdIdeal.τ).loc Cert.FfnFwdIdeal.main_arg7)
      ∧ m' ((c.tc : Thread Cert.FfnFwdRefIdeal.nD Cert.FfnFwdRefIdeal.τ).loc Cert.FfnFwdRefIdeal.main_arg8) = m ((c.tc : Thread Cert.FfnFwdIdeal.nD Cert.FfnFwdIdeal.τ).loc Cert.FfnFwdIdeal.main_arg8)) →
    ∃ (v0 : (c : Dev Cert.FfnFwdIdeal.nD) → Buf (Elt Ideal) ((c.tc : Thread Cert.FfnFwdIdeal.nD Cert.FfnFwdIdeal.τ).loc Cert.FfnFwdIdeal.main_v3_0)) (v1 : (c : Dev Cert.FfnFwdIdeal.nD) → Buf (Elt Ideal) ((c.tc : Thread Cert.FfnFwdIdeal.nD Cert.FfnFwdIdeal.τ).loc Cert.FfnFwdIdeal.main_v3_1)) (v2 : (c : Dev Cert.FfnFwdIdeal.nD) → Buf (Elt Ideal) ((c.tc : Thread Cert.FfnFwdIdeal.nD Cert.FfnFwdIdeal.τ).loc Cert.FfnFwdIdeal.main_v3_2)) (v3 : (c : Dev Cert.FfnFwdIdeal.nD) → Buf (Elt Ideal) ((c.tc : Thread Cert.FfnFwdIdeal.nD Cert.FfnFwdIdeal.τ).loc Cert.FfnFwdIdeal.main_v3_3)) (v4 : (c : Dev Cert.FfnFwdIdeal.nD) → Buf (Elt Ideal) ((c.tc : Thread Cert.FfnFwdIdeal.nD Cert.FfnFwdIdeal.τ).loc Cert.FfnFwdIdeal.main_v3_4)) (v5 : (c : Dev Cert.FfnFwdIdeal.nD) → Buf (Elt Ideal) ((c.tc : Thread Cert.FfnFwdIdeal.nD Cert.FfnFwdIdeal.τ).loc Cert.FfnFwdIdeal.main_v3_5)) (v6 : (c : Dev Cert.FfnFwdIdeal.nD) → Buf (Elt Ideal) ((c.tc : Thread Cert.FfnFwdIdeal.nD Cert.FfnFwdIdeal.τ).loc Cert.FfnFwdIdeal.main_v3_6)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v3_0) = v0 c
          ∧ r.2.mem ((c.tc : Thread Cert.FfnFwdIdeal.nD Cert.FfnFwdIdeal.τ).loc Cert.FfnFwdIdeal.main_v3_1) = v1 c
          ∧ r.2.mem ((c.tc : Thread Cert.FfnFwdIdeal.nD Cert.FfnFwdIdeal.τ).loc Cert.FfnFwdIdeal.main_v3_2) = v2 c
          ∧ r.2.mem ((c.tc : Thread Cert.FfnFwdIdeal.nD Cert.FfnFwdIdeal.τ).loc Cert.FfnFwdIdeal.main_v3_3) = v3 c
          ∧ r.2.mem ((c.tc : Thread Cert.FfnFwdIdeal.nD Cert.FfnFwdIdeal.τ).loc Cert.FfnFwdIdeal.main_v3_4) = v4 c
          ∧ r.2.mem ((c.tc : Thread Cert.FfnFwdIdeal.nD Cert.FfnFwdIdeal.τ).loc Cert.FfnFwdIdeal.main_v3_5) = v5 c
          ∧ r.2.mem ((c.tc : Thread Cert.FfnFwdIdeal.nD Cert.FfnFwdIdeal.τ).loc Cert.FfnFwdIdeal.main_v3_6) = v6 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
          ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
          ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v54) = v0 c
          ∧ r.2.mem ((c.tc : Thread Cert.FfnFwdRefIdeal.nD Cert.FfnFwdRefIdeal.τ).loc Cert.FfnFwdRefIdeal.main_v42) = v1 c
          ∧ r.2.mem ((c.tc : Thread Cert.FfnFwdRefIdeal.nD Cert.FfnFwdRefIdeal.τ).loc Cert.FfnFwdRefIdeal.main_v55) = v2 c
          ∧ r.2.mem ((c.tc : Thread Cert.FfnFwdRefIdeal.nD Cert.FfnFwdRefIdeal.τ).loc Cert.FfnFwdRefIdeal.main_v56) = v3 c
          ∧ r.2.mem ((c.tc : Thread Cert.FfnFwdRefIdeal.nD Cert.FfnFwdRefIdeal.τ).loc Cert.FfnFwdRefIdeal.main_v57) = v4 c
          ∧ r.2.mem ((c.tc : Thread Cert.FfnFwdRefIdeal.nD Cert.FfnFwdRefIdeal.τ).loc Cert.FfnFwdRefIdeal.main_v49) = v5 c
          ∧ r.2.mem ((c.tc : Thread Cert.FfnFwdRefIdeal.nD Cert.FfnFwdRefIdeal.τ).loc Cert.FfnFwdRefIdeal.main_v53) = v6 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6)
          ∧ r.2.mem ((c.tc : Thread Cert.FfnFwdRefIdeal.nD Cert.FfnFwdRefIdeal.τ).loc Cert.FfnFwdRefIdeal.main_arg7) = m' ((c.tc : Thread Cert.FfnFwdRefIdeal.nD Cert.FfnFwdRefIdeal.τ).loc Cert.FfnFwdRefIdeal.main_arg7)
          ∧ r.2.mem ((c.tc : Thread Cert.FfnFwdRefIdeal.nD Cert.FfnFwdRefIdeal.τ).loc Cert.FfnFwdRefIdeal.main_arg8) = m' ((c.tc : Thread Cert.FfnFwdRefIdeal.nD Cert.FfnFwdRefIdeal.τ).loc Cert.FfnFwdRefIdeal.main_arg8))

def preserves_Adam1_Adam1Ideal : Prop :=
  True

def algebraic_Adam1Ideal_Adam1RefIdeal [hAdam1Ideal : Cert.Adam1Ideal.Facts] [hAdam1RefIdeal : Cert.Adam1RefIdeal.Facts] : Prop :=
  ∀ (m : (ℓ : Loc Cert.Adam1Ideal.nD Cert.Adam1Ideal.τ Cert.Adam1Ideal.sig) → Buf (Elt Ideal) ℓ) (g : Dev Cert.Adam1Ideal.nD → PrngReg)
    (m' : (ℓ : Loc Cert.Adam1RefIdeal.nD Cert.Adam1RefIdeal.τ Cert.Adam1RefIdeal.sig) → Buf (Elt Ideal) ℓ) (g' : Dev Cert.Adam1RefIdeal.nD → PrngReg), Pre_Adam1Ideal m →
    (∀ c : Dev Cert.Adam1Ideal.nD,
      m' ((c.tc : Thread Cert.Adam1RefIdeal.nD Cert.Adam1RefIdeal.τ).loc Cert.Adam1RefIdeal.main_arg0) = m ((c.tc : Thread Cert.Adam1Ideal.nD Cert.Adam1Ideal.τ).loc Cert.Adam1Ideal.main_arg0)
      ∧ m' ((c.tc : Thread Cert.Adam1RefIdeal.nD Cert.Adam1RefIdeal.τ).loc Cert.Adam1RefIdeal.main_arg1) = m ((c.tc : Thread Cert.Adam1Ideal.nD Cert.Adam1Ideal.τ).loc Cert.Adam1Ideal.main_arg1)
      ∧ m' ((c.tc : Thread Cert.Adam1RefIdeal.nD Cert.Adam1RefIdeal.τ).loc Cert.Adam1RefIdeal.main_arg2) = m ((c.tc : Thread Cert.Adam1Ideal.nD Cert.Adam1Ideal.τ).loc Cert.Adam1Ideal.main_arg2)
      ∧ m' ((c.tc : Thread Cert.Adam1RefIdeal.nD Cert.Adam1RefIdeal.τ).loc Cert.Adam1RefIdeal.main_arg3) = m ((c.tc : Thread Cert.Adam1Ideal.nD Cert.Adam1Ideal.τ).loc Cert.Adam1Ideal.main_arg3)) →
    ∃ (v0 : (c : Dev Cert.Adam1Ideal.nD) → Buf (Elt Ideal) ((c.tc : Thread Cert.Adam1Ideal.nD Cert.Adam1Ideal.τ).loc Cert.Adam1Ideal.main_v0_0)) (v1 : (c : Dev Cert.Adam1Ideal.nD) → Buf (Elt Ideal) ((c.tc : Thread Cert.Adam1Ideal.nD Cert.Adam1Ideal.τ).loc Cert.Adam1Ideal.main_v0_1)) (v2 : (c : Dev Cert.Adam1Ideal.nD) → Buf (Elt Ideal) ((c.tc : Thread Cert.Adam1Ideal.nD Cert.Adam1Ideal.τ).loc Cert.Adam1Ideal.main_v0_2)) (v3 : (c : Dev Cert.Adam1Ideal.nD) → Buf (Elt Ideal) ((c.tc : Thread Cert.Adam1Ideal.nD Cert.Adam1Ideal.τ).loc Cert.Adam1Ideal.main_v0_3)),
      θ_run (Cert.Adam1Ideal.defs (F := Ideal)) (onTc (τ := Cert.Adam1Ideal.τ) (Cert.Adam1Ideal.main (F := Ideal))) ⟨m, fun _ => 0, g⟩ (fun r => ∀ c : Dev Cert.Adam1Ideal.nD,
          r.2.mem ((c.tc : Thread Cert.Adam1Ideal.nD Cert.Adam1Ideal.τ).loc Cert.Adam1Ideal.main_v0_0) = v0 c
          ∧ r.2.mem ((c.tc : Thread Cert.Adam1Ideal.nD Cert.Adam1Ideal.τ).loc Cert.Adam1Ideal.main_v0_1) = v1 c
          ∧ r.2.mem ((c.tc : Thread Cert.Adam1Ideal.nD Cert.Adam1Ideal.τ).loc Cert.Adam1Ideal.main_v0_2) = v2 c
          ∧ r.2.mem ((c.tc : Thread Cert.Adam1Ideal.nD Cert.Adam1Ideal.τ).loc Cert.Adam1Ideal.main_v0_3) = v3 c
          ∧ r.2.mem ((c.tc : Thread Cert.Adam1Ideal.nD Cert.Adam1Ideal.τ).loc Cert.Adam1Ideal.main_arg0) = m ((c.tc : Thread Cert.Adam1Ideal.nD Cert.Adam1Ideal.τ).loc Cert.Adam1Ideal.main_arg0)
          ∧ r.2.mem ((c.tc : Thread Cert.Adam1Ideal.nD Cert.Adam1Ideal.τ).loc Cert.Adam1Ideal.main_arg1) = m ((c.tc : Thread Cert.Adam1Ideal.nD Cert.Adam1Ideal.τ).loc Cert.Adam1Ideal.main_arg1)
          ∧ r.2.mem ((c.tc : Thread Cert.Adam1Ideal.nD Cert.Adam1Ideal.τ).loc Cert.Adam1Ideal.main_arg2) = m ((c.tc : Thread Cert.Adam1Ideal.nD Cert.Adam1Ideal.τ).loc Cert.Adam1Ideal.main_arg2)
          ∧ r.2.mem ((c.tc : Thread Cert.Adam1Ideal.nD Cert.Adam1Ideal.τ).loc Cert.Adam1Ideal.main_arg3) = m ((c.tc : Thread Cert.Adam1Ideal.nD Cert.Adam1Ideal.τ).loc Cert.Adam1Ideal.main_arg3))
      ∧ θ_run (Cert.Adam1RefIdeal.defs (F := Ideal)) (onTc (τ := Cert.Adam1RefIdeal.τ) (Cert.Adam1RefIdeal.main (F := Ideal))) ⟨m', fun _ => 0, g'⟩ (fun r => ∀ c : Dev Cert.Adam1RefIdeal.nD,
          r.2.mem ((c.tc : Thread Cert.Adam1RefIdeal.nD Cert.Adam1RefIdeal.τ).loc Cert.Adam1RefIdeal.main_arg1) = v0 c
          ∧ r.2.mem ((c.tc : Thread Cert.Adam1RefIdeal.nD Cert.Adam1RefIdeal.τ).loc Cert.Adam1RefIdeal.main_v23) = v1 c
          ∧ r.2.mem ((c.tc : Thread Cert.Adam1RefIdeal.nD Cert.Adam1RefIdeal.τ).loc Cert.Adam1RefIdeal.main_v4) = v2 c
          ∧ r.2.mem ((c.tc : Thread Cert.Adam1RefIdeal.nD Cert.Adam1RefIdeal.τ).loc Cert.Adam1RefIdeal.main_v10) = v3 c
          ∧ r.2.mem ((c.tc : Thread Cert.Adam1RefIdeal.nD Cert.Adam1RefIdeal.τ).loc Cert.Adam1RefIdeal.main_arg0) = m' ((c.tc : Thread Cert.Adam1RefIdeal.nD Cert.Adam1RefIdeal.τ).loc Cert.Adam1RefIdeal.main_arg0)
          ∧ r.2.mem ((c.tc : Thread Cert.Adam1RefIdeal.nD Cert.Adam1RefIdeal.τ).loc Cert.Adam1RefIdeal.main_arg1) = m' ((c.tc : Thread Cert.Adam1RefIdeal.nD Cert.Adam1RefIdeal.τ).loc Cert.Adam1RefIdeal.main_arg1)
          ∧ r.2.mem ((c.tc : Thread Cert.Adam1RefIdeal.nD Cert.Adam1RefIdeal.τ).loc Cert.Adam1RefIdeal.main_arg2) = m' ((c.tc : Thread Cert.Adam1RefIdeal.nD Cert.Adam1RefIdeal.τ).loc Cert.Adam1RefIdeal.main_arg2)
          ∧ r.2.mem ((c.tc : Thread Cert.Adam1RefIdeal.nD Cert.Adam1RefIdeal.τ).loc Cert.Adam1RefIdeal.main_arg3) = m' ((c.tc : Thread Cert.Adam1RefIdeal.nD Cert.Adam1RefIdeal.τ).loc Cert.Adam1RefIdeal.main_arg3))

def preserves_Adam2_Adam2Ideal : Prop :=
  True

def algebraic_Adam2Ideal_Adam2RefIdeal [hAdam2Ideal : Cert.Adam2Ideal.Facts] [hAdam2RefIdeal : Cert.Adam2RefIdeal.Facts] : Prop :=
  ∀ (m : (ℓ : Loc Cert.Adam2Ideal.nD Cert.Adam2Ideal.τ Cert.Adam2Ideal.sig) → Buf (Elt Ideal) ℓ) (g : Dev Cert.Adam2Ideal.nD → PrngReg)
    (m' : (ℓ : Loc Cert.Adam2RefIdeal.nD Cert.Adam2RefIdeal.τ Cert.Adam2RefIdeal.sig) → Buf (Elt Ideal) ℓ) (g' : Dev Cert.Adam2RefIdeal.nD → PrngReg), Pre_Adam2Ideal m →
    (∀ c : Dev Cert.Adam2Ideal.nD,
      m' ((c.tc : Thread Cert.Adam2RefIdeal.nD Cert.Adam2RefIdeal.τ).loc Cert.Adam2RefIdeal.main_arg0) = m ((c.tc : Thread Cert.Adam2Ideal.nD Cert.Adam2Ideal.τ).loc Cert.Adam2Ideal.main_arg0)
      ∧ m' ((c.tc : Thread Cert.Adam2RefIdeal.nD Cert.Adam2RefIdeal.τ).loc Cert.Adam2RefIdeal.main_arg1) = m ((c.tc : Thread Cert.Adam2Ideal.nD Cert.Adam2Ideal.τ).loc Cert.Adam2Ideal.main_arg1)
      ∧ m' ((c.tc : Thread Cert.Adam2RefIdeal.nD Cert.Adam2RefIdeal.τ).loc Cert.Adam2RefIdeal.main_arg2) = m ((c.tc : Thread Cert.Adam2Ideal.nD Cert.Adam2Ideal.τ).loc Cert.Adam2Ideal.main_arg2)
      ∧ m' ((c.tc : Thread Cert.Adam2RefIdeal.nD Cert.Adam2RefIdeal.τ).loc Cert.Adam2RefIdeal.main_arg3) = m ((c.tc : Thread Cert.Adam2Ideal.nD Cert.Adam2Ideal.τ).loc Cert.Adam2Ideal.main_arg3)) →
    ∃ (v0 : (c : Dev Cert.Adam2Ideal.nD) → Buf (Elt Ideal) ((c.tc : Thread Cert.Adam2Ideal.nD Cert.Adam2Ideal.τ).loc Cert.Adam2Ideal.main_v0_0)) (v1 : (c : Dev Cert.Adam2Ideal.nD) → Buf (Elt Ideal) ((c.tc : Thread Cert.Adam2Ideal.nD Cert.Adam2Ideal.τ).loc Cert.Adam2Ideal.main_v0_1)) (v2 : (c : Dev Cert.Adam2Ideal.nD) → Buf (Elt Ideal) ((c.tc : Thread Cert.Adam2Ideal.nD Cert.Adam2Ideal.τ).loc Cert.Adam2Ideal.main_v0_2)) (v3 : (c : Dev Cert.Adam2Ideal.nD) → Buf (Elt Ideal) ((c.tc : Thread Cert.Adam2Ideal.nD Cert.Adam2Ideal.τ).loc Cert.Adam2Ideal.main_v0_3)),
      θ_run (Cert.Adam2Ideal.defs (F := Ideal)) (onTc (τ := Cert.Adam2Ideal.τ) (Cert.Adam2Ideal.main (F := Ideal))) ⟨m, fun _ => 0, g⟩ (fun r => ∀ c : Dev Cert.Adam2Ideal.nD,
          r.2.mem ((c.tc : Thread Cert.Adam2Ideal.nD Cert.Adam2Ideal.τ).loc Cert.Adam2Ideal.main_v0_0) = v0 c
          ∧ r.2.mem ((c.tc : Thread Cert.Adam2Ideal.nD Cert.Adam2Ideal.τ).loc Cert.Adam2Ideal.main_v0_1) = v1 c
          ∧ r.2.mem ((c.tc : Thread Cert.Adam2Ideal.nD Cert.Adam2Ideal.τ).loc Cert.Adam2Ideal.main_v0_2) = v2 c
          ∧ r.2.mem ((c.tc : Thread Cert.Adam2Ideal.nD Cert.Adam2Ideal.τ).loc Cert.Adam2Ideal.main_v0_3) = v3 c
          ∧ r.2.mem ((c.tc : Thread Cert.Adam2Ideal.nD Cert.Adam2Ideal.τ).loc Cert.Adam2Ideal.main_arg0) = m ((c.tc : Thread Cert.Adam2Ideal.nD Cert.Adam2Ideal.τ).loc Cert.Adam2Ideal.main_arg0)
          ∧ r.2.mem ((c.tc : Thread Cert.Adam2Ideal.nD Cert.Adam2Ideal.τ).loc Cert.Adam2Ideal.main_arg1) = m ((c.tc : Thread Cert.Adam2Ideal.nD Cert.Adam2Ideal.τ).loc Cert.Adam2Ideal.main_arg1)
          ∧ r.2.mem ((c.tc : Thread Cert.Adam2Ideal.nD Cert.Adam2Ideal.τ).loc Cert.Adam2Ideal.main_arg2) = m ((c.tc : Thread Cert.Adam2Ideal.nD Cert.Adam2Ideal.τ).loc Cert.Adam2Ideal.main_arg2)
          ∧ r.2.mem ((c.tc : Thread Cert.Adam2Ideal.nD Cert.Adam2Ideal.τ).loc Cert.Adam2Ideal.main_arg3) = m ((c.tc : Thread Cert.Adam2Ideal.nD Cert.Adam2Ideal.τ).loc Cert.Adam2Ideal.main_arg3))
      ∧ θ_run (Cert.Adam2RefIdeal.defs (F := Ideal)) (onTc (τ := Cert.Adam2RefIdeal.τ) (Cert.Adam2RefIdeal.main (F := Ideal))) ⟨m', fun _ => 0, g'⟩ (fun r => ∀ c : Dev Cert.Adam2RefIdeal.nD,
          r.2.mem ((c.tc : Thread Cert.Adam2RefIdeal.nD Cert.Adam2RefIdeal.τ).loc Cert.Adam2RefIdeal.main_arg1) = v0 c
          ∧ r.2.mem ((c.tc : Thread Cert.Adam2RefIdeal.nD Cert.Adam2RefIdeal.τ).loc Cert.Adam2RefIdeal.main_v23) = v1 c
          ∧ r.2.mem ((c.tc : Thread Cert.Adam2RefIdeal.nD Cert.Adam2RefIdeal.τ).loc Cert.Adam2RefIdeal.main_v4) = v2 c
          ∧ r.2.mem ((c.tc : Thread Cert.Adam2RefIdeal.nD Cert.Adam2RefIdeal.τ).loc Cert.Adam2RefIdeal.main_v10) = v3 c
          ∧ r.2.mem ((c.tc : Thread Cert.Adam2RefIdeal.nD Cert.Adam2RefIdeal.τ).loc Cert.Adam2RefIdeal.main_arg0) = m' ((c.tc : Thread Cert.Adam2RefIdeal.nD Cert.Adam2RefIdeal.τ).loc Cert.Adam2RefIdeal.main_arg0)
          ∧ r.2.mem ((c.tc : Thread Cert.Adam2RefIdeal.nD Cert.Adam2RefIdeal.τ).loc Cert.Adam2RefIdeal.main_arg1) = m' ((c.tc : Thread Cert.Adam2RefIdeal.nD Cert.Adam2RefIdeal.τ).loc Cert.Adam2RefIdeal.main_arg1)
          ∧ r.2.mem ((c.tc : Thread Cert.Adam2RefIdeal.nD Cert.Adam2RefIdeal.τ).loc Cert.Adam2RefIdeal.main_arg2) = m' ((c.tc : Thread Cert.Adam2RefIdeal.nD Cert.Adam2RefIdeal.τ).loc Cert.Adam2RefIdeal.main_arg2)
          ∧ r.2.mem ((c.tc : Thread Cert.Adam2RefIdeal.nD Cert.Adam2RefIdeal.τ).loc Cert.Adam2RefIdeal.main_arg3) = m' ((c.tc : Thread Cert.Adam2RefIdeal.nD Cert.Adam2RefIdeal.τ).loc Cert.Adam2RefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_arg1) = v0 c
          ∧ r.2.mem ((c.tc : Thread Cert.AdamInRefIdeal.nD Cert.AdamInRefIdeal.τ).loc Cert.AdamInRefIdeal.main_v23) = v1 c
          ∧ r.2.mem ((c.tc : Thread Cert.AdamInRefIdeal.nD Cert.AdamInRefIdeal.τ).loc Cert.AdamInRefIdeal.main_v4) = v2 c
          ∧ r.2.mem ((c.tc : Thread Cert.AdamInRefIdeal.nD Cert.AdamInRefIdeal.τ).loc Cert.AdamInRefIdeal.main_v10) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_arg1) = v0 c
          ∧ r.2.mem ((c.tc : Thread Cert.AdamOutRefIdeal.nD Cert.AdamOutRefIdeal.τ).loc Cert.AdamOutRefIdeal.main_v23) = v1 c
          ∧ r.2.mem ((c.tc : Thread Cert.AdamOutRefIdeal.nD Cert.AdamOutRefIdeal.τ).loc Cert.AdamOutRefIdeal.main_v4) = v2 c
          ∧ r.2.mem ((c.tc : Thread Cert.AdamOutRefIdeal.nD Cert.AdamOutRefIdeal.τ).loc Cert.AdamOutRefIdeal.main_v10) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v24) = v1 c
          ∧ r.2.mem ((c.tc : Thread Cert.SmallRefIdeal.nD Cert.SmallRefIdeal.τ).loc Cert.SmallRefIdeal.main_v5) = v2 c
          ∧ r.2.mem ((c.tc : Thread Cert.SmallRefIdeal.nD Cert.SmallRefIdeal.τ).loc Cert.SmallRefIdeal.main_v11) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_GradWAda_GradWAdaIdeal : Prop :=
  True

def algebraic_GradWAdaIdeal_GradWAdaRefIdeal [hGradWAdaIdeal : Cert.GradWAdaIdeal.Facts] [hGradWAdaRefIdeal : Cert.GradWAdaRefIdeal.Facts] : Prop :=
  ∀ (m : (ℓ : Loc Cert.GradWAdaIdeal.nD Cert.GradWAdaIdeal.τ Cert.GradWAdaIdeal.sig) → Buf (Elt Ideal) ℓ) (g : Dev Cert.GradWAdaIdeal.nD → PrngReg)
    (m' : (ℓ : Loc Cert.GradWAdaRefIdeal.nD Cert.GradWAdaRefIdeal.τ Cert.GradWAdaRefIdeal.sig) → Buf (Elt Ideal) ℓ) (g' : Dev Cert.GradWAdaRefIdeal.nD → PrngReg), Pre_GradWAdaIdeal m →
    (∀ c : Dev Cert.GradWAdaIdeal.nD,
      m' ((c.tc : Thread Cert.GradWAdaRefIdeal.nD Cert.GradWAdaRefIdeal.τ).loc Cert.GradWAdaRefIdeal.main_arg0) = m ((c.tc : Thread Cert.GradWAdaIdeal.nD Cert.GradWAdaIdeal.τ).loc Cert.GradWAdaIdeal.main_arg0)
      ∧ m' ((c.tc : Thread Cert.GradWAdaRefIdeal.nD Cert.GradWAdaRefIdeal.τ).loc Cert.GradWAdaRefIdeal.main_arg1) = m ((c.tc : Thread Cert.GradWAdaIdeal.nD Cert.GradWAdaIdeal.τ).loc Cert.GradWAdaIdeal.main_arg1)
      ∧ m' ((c.tc : Thread Cert.GradWAdaRefIdeal.nD Cert.GradWAdaRefIdeal.τ).loc Cert.GradWAdaRefIdeal.main_arg2) = m ((c.tc : Thread Cert.GradWAdaIdeal.nD Cert.GradWAdaIdeal.τ).loc Cert.GradWAdaIdeal.main_arg2)) →
    ∃ (v0 : (c : Dev Cert.GradWAdaIdeal.nD) → Buf (Elt Ideal) ((c.tc : Thread Cert.GradWAdaIdeal.nD Cert.GradWAdaIdeal.τ).loc Cert.GradWAdaIdeal.main_v5)),
      θ_run (Cert.GradWAdaIdeal.defs (F := Ideal)) (onTc (τ := Cert.GradWAdaIdeal.τ) (Cert.GradWAdaIdeal.main (F := Ideal))) ⟨m, fun _ => 0, g⟩ (fun r => ∀ c : Dev Cert.GradWAdaIdeal.nD,
          r.2.mem ((c.tc : Thread Cert.GradWAdaIdeal.nD Cert.GradWAdaIdeal.τ).loc Cert.GradWAdaIdeal.main_v5) = v0 c
          ∧ r.2.mem ((c.tc : Thread Cert.GradWAdaIdeal.nD Cert.GradWAdaIdeal.τ).loc Cert.GradWAdaIdeal.main_arg0) = m ((c.tc : Thread Cert.GradWAdaIdeal.nD Cert.GradWAdaIdeal.τ).loc Cert.GradWAdaIdeal.main_arg0)
          ∧ r.2.mem ((c.tc : Thread Cert.GradWAdaIdeal.nD Cert.GradWAdaIdeal.τ).loc Cert.GradWAdaIdeal.main_arg1) = m ((c.tc : Thread Cert.GradWAdaIdeal.nD Cert.GradWAdaIdeal.τ).loc Cert.GradWAdaIdeal.main_arg1)
          ∧ r.2.mem ((c.tc : Thread Cert.GradWAdaIdeal.nD Cert.GradWAdaIdeal.τ).loc Cert.GradWAdaIdeal.main_arg2) = m ((c.tc : Thread Cert.GradWAdaIdeal.nD Cert.GradWAdaIdeal.τ).loc Cert.GradWAdaIdeal.main_arg2))
      ∧ θ_run (Cert.GradWAdaRefIdeal.defs (F := Ideal)) (onTc (τ := Cert.GradWAdaRefIdeal.τ) (Cert.GradWAdaRefIdeal.main (F := Ideal))) ⟨m', fun _ => 0, g'⟩ (fun r => ∀ c : Dev Cert.GradWAdaRefIdeal.nD,
          r.2.mem ((c.tc : Thread Cert.GradWAdaRefIdeal.nD Cert.GradWAdaRefIdeal.τ).loc Cert.GradWAdaRefIdeal.main_v3) = v0 c
          ∧ r.2.mem ((c.tc : Thread Cert.GradWAdaRefIdeal.nD Cert.GradWAdaRefIdeal.τ).loc Cert.GradWAdaRefIdeal.main_arg0) = m' ((c.tc : Thread Cert.GradWAdaRefIdeal.nD Cert.GradWAdaRefIdeal.τ).loc Cert.GradWAdaRefIdeal.main_arg0)
          ∧ r.2.mem ((c.tc : Thread Cert.GradWAdaRefIdeal.nD Cert.GradWAdaRefIdeal.τ).loc Cert.GradWAdaRefIdeal.main_arg1) = m' ((c.tc : Thread Cert.GradWAdaRefIdeal.nD Cert.GradWAdaRefIdeal.τ).loc Cert.GradWAdaRefIdeal.main_arg1)
          ∧ r.2.mem ((c.tc : Thread Cert.GradWAdaRefIdeal.nD Cert.GradWAdaRefIdeal.τ).loc Cert.GradWAdaRefIdeal.main_arg2) = m' ((c.tc : Thread Cert.GradWAdaRefIdeal.nD Cert.GradWAdaRefIdeal.τ).loc Cert.GradWAdaRefIdeal.main_arg2))

def preserves_GradW1_GradW1Ideal : Prop :=
  True

def algebraic_GradW1Ideal_GradW1RefIdeal [hGradW1Ideal : Cert.GradW1Ideal.Facts] [hGradW1RefIdeal : Cert.GradW1RefIdeal.Facts] : Prop :=
  ∀ (m : (ℓ : Loc Cert.GradW1Ideal.nD Cert.GradW1Ideal.τ Cert.GradW1Ideal.sig) → Buf (Elt Ideal) ℓ) (g : Dev Cert.GradW1Ideal.nD → PrngReg)
    (m' : (ℓ : Loc Cert.GradW1RefIdeal.nD Cert.GradW1RefIdeal.τ Cert.GradW1RefIdeal.sig) → Buf (Elt Ideal) ℓ) (g' : Dev Cert.GradW1RefIdeal.nD → PrngReg), Pre_GradW1Ideal m →
    (∀ c : Dev Cert.GradW1Ideal.nD,
      m' ((c.tc : Thread Cert.GradW1RefIdeal.nD Cert.GradW1RefIdeal.τ).loc Cert.GradW1RefIdeal.main_arg0) = m ((c.tc : Thread Cert.GradW1Ideal.nD Cert.GradW1Ideal.τ).loc Cert.GradW1Ideal.main_arg0)
      ∧ m' ((c.tc : Thread Cert.GradW1RefIdeal.nD Cert.GradW1RefIdeal.τ).loc Cert.GradW1RefIdeal.main_arg1) = m ((c.tc : Thread Cert.GradW1Ideal.nD Cert.GradW1Ideal.τ).loc Cert.GradW1Ideal.main_arg1)
      ∧ m' ((c.tc : Thread Cert.GradW1RefIdeal.nD Cert.GradW1RefIdeal.τ).loc Cert.GradW1RefIdeal.main_arg2) = m ((c.tc : Thread Cert.GradW1Ideal.nD Cert.GradW1Ideal.τ).loc Cert.GradW1Ideal.main_arg2)) →
    ∃ (v0 : (c : Dev Cert.GradW1Ideal.nD) → Buf (Elt Ideal) ((c.tc : Thread Cert.GradW1Ideal.nD Cert.GradW1Ideal.τ).loc Cert.GradW1Ideal.main_v2)),
      θ_run (Cert.GradW1Ideal.defs (F := Ideal)) (onTc (τ := Cert.GradW1Ideal.τ) (Cert.GradW1Ideal.main (F := Ideal))) ⟨m, fun _ => 0, g⟩ (fun r => ∀ c : Dev Cert.GradW1Ideal.nD,
          r.2.mem ((c.tc : Thread Cert.GradW1Ideal.nD Cert.GradW1Ideal.τ).loc Cert.GradW1Ideal.main_v2) = v0 c
          ∧ r.2.mem ((c.tc : Thread Cert.GradW1Ideal.nD Cert.GradW1Ideal.τ).loc Cert.GradW1Ideal.main_arg0) = m ((c.tc : Thread Cert.GradW1Ideal.nD Cert.GradW1Ideal.τ).loc Cert.GradW1Ideal.main_arg0)
          ∧ r.2.mem ((c.tc : Thread Cert.GradW1Ideal.nD Cert.GradW1Ideal.τ).loc Cert.GradW1Ideal.main_arg1) = m ((c.tc : Thread Cert.GradW1Ideal.nD Cert.GradW1Ideal.τ).loc Cert.GradW1Ideal.main_arg1)
          ∧ r.2.mem ((c.tc : Thread Cert.GradW1Ideal.nD Cert.GradW1Ideal.τ).loc Cert.GradW1Ideal.main_arg2) = m ((c.tc : Thread Cert.GradW1Ideal.nD Cert.GradW1Ideal.τ).loc Cert.GradW1Ideal.main_arg2))
      ∧ θ_run (Cert.GradW1RefIdeal.defs (F := Ideal)) (onTc (τ := Cert.GradW1RefIdeal.τ) (Cert.GradW1RefIdeal.main (F := Ideal))) ⟨m', fun _ => 0, g'⟩ (fun r => ∀ c : Dev Cert.GradW1RefIdeal.nD,
          r.2.mem ((c.tc : Thread Cert.GradW1RefIdeal.nD Cert.GradW1RefIdeal.τ).loc Cert.GradW1RefIdeal.main_v4) = v0 c
          ∧ r.2.mem ((c.tc : Thread Cert.GradW1RefIdeal.nD Cert.GradW1RefIdeal.τ).loc Cert.GradW1RefIdeal.main_arg0) = m' ((c.tc : Thread Cert.GradW1RefIdeal.nD Cert.GradW1RefIdeal.τ).loc Cert.GradW1RefIdeal.main_arg0)
          ∧ r.2.mem ((c.tc : Thread Cert.GradW1RefIdeal.nD Cert.GradW1RefIdeal.τ).loc Cert.GradW1RefIdeal.main_arg1) = m' ((c.tc : Thread Cert.GradW1RefIdeal.nD Cert.GradW1RefIdeal.τ).loc Cert.GradW1RefIdeal.main_arg1)
          ∧ r.2.mem ((c.tc : Thread Cert.GradW1RefIdeal.nD Cert.GradW1RefIdeal.τ).loc Cert.GradW1RefIdeal.main_arg2) = m' ((c.tc : Thread Cert.GradW1RefIdeal.nD Cert.GradW1RefIdeal.τ).loc Cert.GradW1RefIdeal.main_arg2))

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)
      ∧ m' ((c.tc : Thread Cert.GradWOutRefIdeal.nD Cert.GradWOutRefIdeal.τ).loc Cert.GradWOutRefIdeal.main_arg2) = m ((c.tc : Thread Cert.GradWOutIdeal.nD Cert.GradWOutIdeal.τ).loc Cert.GradWOutIdeal.main_arg2)) →
    ∃ (v0 : (c : Dev Cert.GradWOutIdeal.nD) → Buf (Elt Ideal) ((c.tc : Thread Cert.GradWOutIdeal.nD Cert.GradWOutIdeal.τ).loc Cert.GradWOutIdeal.main_v2)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v2) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1)
          ∧ r.2.mem ((c.tc : Thread Cert.GradWOutIdeal.nD Cert.GradWOutIdeal.τ).loc Cert.GradWOutIdeal.main_arg2) = m ((c.tc : Thread Cert.GradWOutIdeal.nD Cert.GradWOutIdeal.τ).loc Cert.GradWOutIdeal.main_arg2))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v2) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1)
          ∧ r.2.mem ((c.tc : Thread Cert.GradWOutRefIdeal.nD Cert.GradWOutRefIdeal.τ).loc Cert.GradWOutRefIdeal.main_arg2) = m' ((c.tc : Thread Cert.GradWOutRefIdeal.nD Cert.GradWOutRefIdeal.τ).loc Cert.GradWOutRefIdeal.main_arg2))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)
      ∧ m' ((c.tc : Thread Cert.DMixRefIdeal.nD Cert.DMixRefIdeal.τ).loc Cert.DMixRefIdeal.main_arg2) = m ((c.tc : Thread Cert.DMixIdeal.nD Cert.DMixIdeal.τ).loc Cert.DMixIdeal.main_arg2)) →
    ∃ (v0 : (c : Dev Cert.DMixIdeal.nD) → Buf (Elt Ideal) ((c.tc : Thread Cert.DMixIdeal.nD Cert.DMixIdeal.τ).loc Cert.DMixIdeal.main_v2)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v2) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1)
          ∧ r.2.mem ((c.tc : Thread Cert.DMixIdeal.nD Cert.DMixIdeal.τ).loc Cert.DMixIdeal.main_arg2) = m ((c.tc : Thread Cert.DMixIdeal.nD Cert.DMixIdeal.τ).loc Cert.DMixIdeal.main_arg2))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v2) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1)
          ∧ r.2.mem ((c.tc : Thread Cert.DMixRefIdeal.nD Cert.DMixRefIdeal.τ).loc Cert.DMixRefIdeal.main_arg2) = m' ((c.tc : Thread Cert.DMixRefIdeal.nD Cert.DMixRefIdeal.τ).loc Cert.DMixRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v4) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_ModPart_ModPartIdeal : Prop :=
  True

def algebraic_ModPartIdeal_ModPartRefIdeal [hModPartIdeal : Cert.ModPartIdeal.Facts] [hModPartRefIdeal : Cert.ModPartRefIdeal.Facts] : Prop :=
  ∀ (m : (ℓ : Loc Cert.ModPartIdeal.nD Cert.ModPartIdeal.τ Cert.ModPartIdeal.sig) → Buf (Elt Ideal) ℓ) (g : Dev Cert.ModPartIdeal.nD → PrngReg)
    (m' : (ℓ : Loc Cert.ModPartRefIdeal.nD Cert.ModPartRefIdeal.τ Cert.ModPartRefIdeal.sig) → Buf (Elt Ideal) ℓ) (g' : Dev Cert.ModPartRefIdeal.nD → PrngReg), Pre_ModPartIdeal m →
    (∀ c : Dev Cert.ModPartIdeal.nD,
      m' ((c.tc : Thread Cert.ModPartRefIdeal.nD Cert.ModPartRefIdeal.τ).loc Cert.ModPartRefIdeal.main_arg0) = m ((c.tc : Thread Cert.ModPartIdeal.nD Cert.ModPartIdeal.τ).loc Cert.ModPartIdeal.main_arg0)
      ∧ m' ((c.tc : Thread Cert.ModPartRefIdeal.nD Cert.ModPartRefIdeal.τ).loc Cert.ModPartRefIdeal.main_arg1) = m ((c.tc : Thread Cert.ModPartIdeal.nD Cert.ModPartIdeal.τ).loc Cert.ModPartIdeal.main_arg1)
      ∧ m' ((c.tc : Thread Cert.ModPartRefIdeal.nD Cert.ModPartRefIdeal.τ).loc Cert.ModPartRefIdeal.main_arg2) = m ((c.tc : Thread Cert.ModPartIdeal.nD Cert.ModPartIdeal.τ).loc Cert.ModPartIdeal.main_arg2)) →
    ∃ (v0 : (c : Dev Cert.ModPartIdeal.nD) → Buf (Elt Ideal) ((c.tc : Thread Cert.ModPartIdeal.nD Cert.ModPartIdeal.τ).loc Cert.ModPartIdeal.main_v0_0)) (v1 : (c : Dev Cert.ModPartIdeal.nD) → Buf (Elt Ideal) ((c.tc : Thread Cert.ModPartIdeal.nD Cert.ModPartIdeal.τ).loc Cert.ModPartIdeal.main_v0_1)),
      θ_run (Cert.ModPartIdeal.defs (F := Ideal)) (onTc (τ := Cert.ModPartIdeal.τ) (Cert.ModPartIdeal.main (F := Ideal))) ⟨m, fun _ => 0, g⟩ (fun r => ∀ c : Dev Cert.ModPartIdeal.nD,
          r.2.mem ((c.tc : Thread Cert.ModPartIdeal.nD Cert.ModPartIdeal.τ).loc Cert.ModPartIdeal.main_v0_0) = v0 c
          ∧ r.2.mem ((c.tc : Thread Cert.ModPartIdeal.nD Cert.ModPartIdeal.τ).loc Cert.ModPartIdeal.main_v0_1) = v1 c
          ∧ r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
          ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1)
          ∧ r.2.mem ((c.tc : Thread Cert.ModPartIdeal.nD Cert.ModPartIdeal.τ).loc Cert.ModPartIdeal.main_arg2) = m ((c.tc : Thread Cert.ModPartIdeal.nD Cert.ModPartIdeal.τ).loc Cert.ModPartIdeal.main_arg2))
      ∧ θ_run (Cert.ModPartRefIdeal.defs (F := Ideal)) (onTc (τ := Cert.ModPartRefIdeal.τ) (Cert.ModPartRefIdeal.main (F := Ideal))) ⟨m', fun _ => 0, g'⟩ (fun r => ∀ c : Dev Cert.ModPartRefIdeal.nD,
          r.2.mem ((c.tc : Thread Cert.ModPartRefIdeal.nD Cert.ModPartRefIdeal.τ).loc Cert.ModPartRefIdeal.main_v3) = v0 c
          ∧ r.2.mem ((c.tc : Thread Cert.ModPartRefIdeal.nD Cert.ModPartRefIdeal.τ).loc Cert.ModPartRefIdeal.main_v4) = v1 c
          ∧ r.2.mem ((c.tc : Thread Cert.ModPartRefIdeal.nD Cert.ModPartRefIdeal.τ).loc Cert.ModPartRefIdeal.main_arg0) = m' ((c.tc : Thread Cert.ModPartRefIdeal.nD Cert.ModPartRefIdeal.τ).loc Cert.ModPartRefIdeal.main_arg0)
          ∧ r.2.mem ((c.tc : Thread Cert.ModPartRefIdeal.nD Cert.ModPartRefIdeal.τ).loc Cert.ModPartRefIdeal.main_arg1) = m' ((c.tc : Thread Cert.ModPartRefIdeal.nD Cert.ModPartRefIdeal.τ).loc Cert.ModPartRefIdeal.main_arg1)
          ∧ r.2.mem ((c.tc : Thread Cert.ModPartRefIdeal.nD Cert.ModPartRefIdeal.τ).loc Cert.ModPartRefIdeal.main_arg2) = m' ((c.tc : Thread Cert.ModPartRefIdeal.nD Cert.ModPartRefIdeal.τ).loc Cert.ModPartRefIdeal.main_arg2))

def preserves_RelBias_RelBiasIdeal : Prop :=
  True

def algebraic_RelBiasIdeal_RelBiasRefIdeal [hRelBiasIdeal : Cert.RelBiasIdeal.Facts] [hRelBiasRefIdeal : Cert.RelBiasRefIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg)
    (m' : (ℓ : Loc Cert.RelBiasRefIdeal.nD Cert.RelBiasRefIdeal.τ Cert.RelBiasRefIdeal.sig) → Buf (Elt Ideal) ℓ) (g' : Dev Cert.RelBiasRefIdeal.nD → PrngReg), Pre_RelBiasIdeal m →
    (∀ c : Dev Cert.RelBiasIdeal.nD,
      m' ((c.tc : Thread Cert.RelBiasRefIdeal.nD Cert.RelBiasRefIdeal.τ).loc Cert.RelBiasRefIdeal.main_arg0) = m ((c.tc : Thread Cert.RelBiasIdeal.nD Cert.RelBiasIdeal.τ).loc Cert.RelBiasIdeal.main_arg0)
      ∧ m' ((c.tc : Thread Cert.RelBiasRefIdeal.nD Cert.RelBiasRefIdeal.τ).loc Cert.RelBiasRefIdeal.main_arg1) = m ((c.tc : Thread Cert.RelBiasIdeal.nD Cert.RelBiasIdeal.τ).loc Cert.RelBiasIdeal.main_arg1)) →
    ∃ (v0 : (c : Dev Cert.RelBiasIdeal.nD) → Buf (Elt Ideal) ((c.tc : Thread Cert.RelBiasIdeal.nD Cert.RelBiasIdeal.τ).loc Cert.RelBiasIdeal.main_v0)),
      θ_run (Cert.RelBiasIdeal.defs (F := Ideal)) (onTc (τ := Cert.RelBiasIdeal.τ) (Cert.RelBiasIdeal.main (F := Ideal))) ⟨m, fun _ => 0, g⟩ (fun r => ∀ c : Dev Cert.RelBiasIdeal.nD,
          r.2.mem ((c.tc : Thread Cert.RelBiasIdeal.nD Cert.RelBiasIdeal.τ).loc Cert.RelBiasIdeal.main_v0) = v0 c
          ∧ r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0)
          ∧ r.2.mem ((c.tc : Thread Cert.RelBiasIdeal.nD Cert.RelBiasIdeal.τ).loc Cert.RelBiasIdeal.main_arg1) = m ((c.tc : Thread Cert.RelBiasIdeal.nD Cert.RelBiasIdeal.τ).loc Cert.RelBiasIdeal.main_arg1))
      ∧ θ_run (Cert.RelBiasRefIdeal.defs (F := Ideal)) (onTc (τ := Cert.RelBiasRefIdeal.τ) (Cert.RelBiasRefIdeal.main (F := Ideal))) ⟨m', fun _ => 0, g'⟩ (fun r => ∀ c : Dev Cert.RelBiasRefIdeal.nD,
          r.2.mem ((c.tc : Thread Cert.RelBiasRefIdeal.nD Cert.RelBiasRefIdeal.τ).loc Cert.RelBiasRefIdeal.main_v3) = v0 c
          ∧ r.2.mem ((c.tc : Thread Cert.RelBiasRefIdeal.nD Cert.RelBiasRefIdeal.τ).loc Cert.RelBiasRefIdeal.main_arg0) = m' ((c.tc : Thread Cert.RelBiasRefIdeal.nD Cert.RelBiasRefIdeal.τ).loc Cert.RelBiasRefIdeal.main_arg0)
          ∧ r.2.mem ((c.tc : Thread Cert.RelBiasRefIdeal.nD Cert.RelBiasRefIdeal.τ).loc Cert.RelBiasRefIdeal.main_arg1) = m' ((c.tc : Thread Cert.RelBiasRefIdeal.nD Cert.RelBiasRefIdeal.τ).loc Cert.RelBiasRefIdeal.main_arg1))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)
      ∧ m' ((c.tc : Thread Cert.PreNormRefIdeal.nD Cert.PreNormRefIdeal.τ).loc Cert.PreNormRefIdeal.main_arg3) = m ((c.tc : Thread Cert.PreNormIdeal.nD Cert.PreNormIdeal.τ).loc Cert.PreNormIdeal.main_arg3)) →
    ∃ (v0 : (c : Dev Cert.PreNormIdeal.nD) → Buf (Elt Ideal) ((c.tc : Thread Cert.PreNormIdeal.nD Cert.PreNormIdeal.τ).loc Cert.PreNormIdeal.main_v0)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v0) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
          ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v18) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2)
          ∧ r.2.mem ((c.tc : Thread Cert.PreNormRefIdeal.nD Cert.PreNormRefIdeal.τ).loc Cert.PreNormRefIdeal.main_arg3) = m' ((c.tc : Thread Cert.PreNormRefIdeal.nD Cert.PreNormRefIdeal.τ).loc Cert.PreNormRefIdeal.main_arg3))

def preserves_ChipSum_ChipSumIdeal : Prop :=
  True

def algebraic_ChipSumIdeal_ChipSumRefIdeal [hChipSumIdeal : Cert.ChipSumIdeal.Facts] [hChipSumRefIdeal : Cert.ChipSumRefIdeal.Facts] [hPre_core : Cert.Pre_core.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)
      ∧ m' ((c.tc : Thread Cert.ChipSumRefIdeal.nD Cert.ChipSumRefIdeal.τ).loc Cert.ChipSumRefIdeal.main_arg1) = m ((c.tc : Thread Cert.ChipSumIdeal.nD Cert.ChipSumIdeal.τ).loc Cert.ChipSumIdeal.main_arg1)
      ∧ m' ((c.tc : Thread Cert.ChipSumRefIdeal.nD Cert.ChipSumRefIdeal.τ).loc Cert.ChipSumRefIdeal.main_arg2) = m ((c.tc : Thread Cert.ChipSumIdeal.nD Cert.ChipSumIdeal.τ).loc Cert.ChipSumIdeal.main_arg2)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
          ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v6) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0)
          ∧ r.2.mem ((c.tc : Thread Cert.ChipSumRefIdeal.nD Cert.ChipSumRefIdeal.τ).loc Cert.ChipSumRefIdeal.main_arg1) = m' ((c.tc : Thread Cert.ChipSumRefIdeal.nD Cert.ChipSumRefIdeal.τ).loc Cert.ChipSumRefIdeal.main_arg1)
          ∧ r.2.mem ((c.tc : Thread Cert.ChipSumRefIdeal.nD Cert.ChipSumRefIdeal.τ).loc Cert.ChipSumRefIdeal.main_arg2) = m' ((c.tc : Thread Cert.ChipSumRefIdeal.nD Cert.ChipSumRefIdeal.τ).loc Cert.ChipSumRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)) (v3 : (c : Dev Cert.NormBwdIdeal.nD) → Buf (Elt Ideal) ((c.tc : Thread Cert.NormBwdIdeal.nD Cert.NormBwdIdeal.τ).loc Cert.NormBwdIdeal.main_v1_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_v1_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v48) = v0 c
          ∧ r.2.mem ((c.tc : Thread Cert.NormBwdRefIdeal.nD Cert.NormBwdRefIdeal.τ).loc Cert.NormBwdRefIdeal.main_v23) = v1 c
          ∧ r.2.mem ((c.tc : Thread Cert.NormBwdRefIdeal.nD Cert.NormBwdRefIdeal.τ).loc Cert.NormBwdRefIdeal.main_v26) = v2 c
          ∧ r.2.mem ((c.tc : Thread Cert.NormBwdRefIdeal.nD Cert.NormBwdRefIdeal.τ).loc Cert.NormBwdRefIdeal.main_v31) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def Claim : Prop :=
  ∃ (hKernel : Cert.Kernel.Facts) (hKernelIdeal : Cert.KernelIdeal.Facts) (hReferenceIdeal : Cert.ReferenceIdeal.Facts) (hFfnFwd : Cert.FfnFwd.Facts) (hFfnFwdIdeal : Cert.FfnFwdIdeal.Facts) (hFfnFwdRefIdeal : Cert.FfnFwdRefIdeal.Facts) (hAdam1 : Cert.Adam1.Facts) (hAdam1Ideal : Cert.Adam1Ideal.Facts) (hAdam1RefIdeal : Cert.Adam1RefIdeal.Facts) (hAdam2 : Cert.Adam2.Facts) (hAdam2Ideal : Cert.Adam2Ideal.Facts) (hAdam2RefIdeal : Cert.Adam2RefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamAda : Cert.AdamAda.Facts) (hAdamAdaIdeal : Cert.AdamAdaIdeal.Facts) (hAdamAdaRefIdeal : Cert.AdamAdaRefIdeal.Facts) (hSmall : Cert.Small.Facts) (hSmallIdeal : Cert.SmallIdeal.Facts) (hSmallRefIdeal : Cert.SmallRefIdeal.Facts) (hGradWAda : Cert.GradWAda.Facts) (hGradWAdaIdeal : Cert.GradWAdaIdeal.Facts) (hGradWAdaRefIdeal : Cert.GradWAdaRefIdeal.Facts) (hGradW1 : Cert.GradW1.Facts) (hGradW1Ideal : Cert.GradW1Ideal.Facts) (hGradW1RefIdeal : Cert.GradW1RefIdeal.Facts) (hGradWOut : Cert.GradWOut.Facts) (hGradWOutIdeal : Cert.GradWOutIdeal.Facts) (hGradWOutRefIdeal : Cert.GradWOutRefIdeal.Facts) (hDMix : Cert.DMix.Facts) (hDMixIdeal : Cert.DMixIdeal.Facts) (hDMixRefIdeal : Cert.DMixRefIdeal.Facts) (hOut : Cert.Out.Facts) (hOutIdeal : Cert.OutIdeal.Facts) (hOutRefIdeal : Cert.OutRefIdeal.Facts) (hModPart : Cert.ModPart.Facts) (hModPartIdeal : Cert.ModPartIdeal.Facts) (hModPartRefIdeal : Cert.ModPartRefIdeal.Facts) (hRelBias : Cert.RelBias.Facts) (hRelBiasIdeal : Cert.RelBiasIdeal.Facts) (hRelBiasRefIdeal : Cert.RelBiasRefIdeal.Facts) (hPreNorm : Cert.PreNorm.Facts) (hPreNormIdeal : Cert.PreNormIdeal.Facts) (hPreNormRefIdeal : Cert.PreNormRefIdeal.Facts) (hChipSum : Cert.ChipSum.Facts) (hChipSumIdeal : Cert.ChipSumIdeal.Facts) (hChipSumRefIdeal : Cert.ChipSumRefIdeal.Facts) (hNormBwd : Cert.NormBwd.Facts) (hNormBwdIdeal : Cert.NormBwdIdeal.Facts) (hNormBwdRefIdeal : Cert.NormBwdRefIdeal.Facts) (hPre_finite : Cert.Pre_finite.Facts) (hPre_core : Cert.Pre_core.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_Adam1 (hAdam1 := hAdam1)
    ∧ quiescent_Adam1Ideal (hAdam1Ideal := hAdam1Ideal)
    ∧ quiescent_Adam1RefIdeal (hAdam1RefIdeal := hAdam1RefIdeal)
    ∧ quiescent_Adam2 (hAdam2 := hAdam2)
    ∧ quiescent_Adam2Ideal (hAdam2Ideal := hAdam2Ideal)
    ∧ quiescent_Adam2RefIdeal (hAdam2RefIdeal := hAdam2RefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_Small (hSmall := hSmall)
    ∧ quiescent_SmallIdeal (hSmallIdeal := hSmallIdeal)
    ∧ quiescent_SmallRefIdeal (hSmallRefIdeal := hSmallRefIdeal)
    ∧ quiescent_GradWAda (hGradWAda := hGradWAda)
    ∧ quiescent_GradWAdaIdeal (hGradWAdaIdeal := hGradWAdaIdeal)
    ∧ quiescent_GradWAdaRefIdeal (hGradWAdaRefIdeal := hGradWAdaRefIdeal)
    ∧ quiescent_GradW1 (hGradW1 := hGradW1)
    ∧ quiescent_GradW1Ideal (hGradW1Ideal := hGradW1Ideal)
    ∧ quiescent_GradW1RefIdeal (hGradW1RefIdeal := hGradW1RefIdeal)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_DMix (hDMix := hDMix)
    ∧ quiescent_DMixIdeal (hDMixIdeal := hDMixIdeal)
    ∧ quiescent_DMixRefIdeal (hDMixRefIdeal := hDMixRefIdeal)
    ∧ quiescent_Out (hOut := hOut)
    ∧ quiescent_OutIdeal (hOutIdeal := hOutIdeal)
    ∧ quiescent_OutRefIdeal (hOutRefIdeal := hOutRefIdeal)
    ∧ quiescent_ModPart (hModPart := hModPart)
    ∧ quiescent_ModPartIdeal (hModPartIdeal := hModPartIdeal)
    ∧ quiescent_ModPartRefIdeal (hModPartRefIdeal := hModPartRefIdeal)
    ∧ quiescent_RelBias (hRelBias := hRelBias)
    ∧ quiescent_RelBiasIdeal (hRelBiasIdeal := hRelBiasIdeal)
    ∧ quiescent_RelBiasRefIdeal (hRelBiasRefIdeal := hRelBiasRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_ChipSum (hChipSum := hChipSum) (hPre_core := hPre_core)
    ∧ quiescent_ChipSumIdeal (hChipSumIdeal := hChipSumIdeal) (hPre_core := hPre_core)
    ∧ quiescent_ChipSumRefIdeal (hChipSumRefIdeal := hChipSumRefIdeal)
    ∧ quiescent_ChipSumRefIdeal_pre_core (hChipSumRefIdeal := hChipSumRefIdeal) (hPre_core := hPre_core)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_Adam1_Adam1Ideal
    ∧ algebraic_Adam1Ideal_Adam1RefIdeal (hAdam1Ideal := hAdam1Ideal) (hAdam1RefIdeal := hAdam1RefIdeal)
    ∧ preserves_Adam2_Adam2Ideal
    ∧ algebraic_Adam2Ideal_Adam2RefIdeal (hAdam2Ideal := hAdam2Ideal) (hAdam2RefIdeal := hAdam2RefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_Small_SmallIdeal
    ∧ algebraic_SmallIdeal_SmallRefIdeal (hSmallIdeal := hSmallIdeal) (hSmallRefIdeal := hSmallRefIdeal)
    ∧ preserves_GradWAda_GradWAdaIdeal
    ∧ algebraic_GradWAdaIdeal_GradWAdaRefIdeal (hGradWAdaIdeal := hGradWAdaIdeal) (hGradWAdaRefIdeal := hGradWAdaRefIdeal)
    ∧ preserves_GradW1_GradW1Ideal
    ∧ algebraic_GradW1Ideal_GradW1RefIdeal (hGradW1Ideal := hGradW1Ideal) (hGradW1RefIdeal := hGradW1RefIdeal)
    ∧ preserves_GradWOut_GradWOutIdeal
    ∧ algebraic_GradWOutIdeal_GradWOutRefIdeal (hGradWOutIdeal := hGradWOutIdeal) (hGradWOutRefIdeal := hGradWOutRefIdeal)
    ∧ preserves_DMix_DMixIdeal
    ∧ algebraic_DMixIdeal_DMixRefIdeal (hDMixIdeal := hDMixIdeal) (hDMixRefIdeal := hDMixRefIdeal)
    ∧ preserves_Out_OutIdeal
    ∧ algebraic_OutIdeal_OutRefIdeal (hOutIdeal := hOutIdeal) (hOutRefIdeal := hOutRefIdeal)
    ∧ preserves_ModPart_ModPartIdeal
    ∧ algebraic_ModPartIdeal_ModPartRefIdeal (hModPartIdeal := hModPartIdeal) (hModPartRefIdeal := hModPartRefIdeal)
    ∧ preserves_RelBias_RelBiasIdeal
    ∧ algebraic_RelBiasIdeal_RelBiasRefIdeal (hRelBiasIdeal := hRelBiasIdeal) (hRelBiasRefIdeal := hRelBiasRefIdeal)
    ∧ preserves_PreNorm_PreNormIdeal
    ∧ algebraic_PreNormIdeal_PreNormRefIdeal (hPreNormIdeal := hPreNormIdeal) (hPreNormRefIdeal := hPreNormRefIdeal)
    ∧ preserves_ChipSum_ChipSumIdeal
    ∧ algebraic_ChipSumIdeal_ChipSumRefIdeal (hChipSumIdeal := hChipSumIdeal) (hChipSumRefIdeal := hChipSumRefIdeal) (hPre_core := hPre_core)
    ∧ preserves_NormBwd_NormBwdIdeal
    ∧ algebraic_NormBwdIdeal_NormBwdRefIdeal (hNormBwdIdeal := hNormBwdIdeal) (hNormBwdRefIdeal := hNormBwdRefIdeal)
-- ==== Pre_core.lean ====
abbrev S4x2048x1408 : Shape := ⟨3, ![4, 2048, 1408]⟩
abbrev S4x1024x1408 : Shape := ⟨3, ![4, 1024, 1408]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S4x2048x1408 .f32) (main_arg1 : FVec F S4x1024x1408 .f32) (main_arg2 : IVec S1 32) : IVec S_ 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_finite.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  bcast_S_S5632x2048 : S_.BroadcastsInDim S5632x2048 (![] : Fin 0 → Fin S5632x2048.rank)
  bcast_S_S2048x5632 : S_.BroadcastsInDim S2048x5632 (![] : Fin 0 → Fin S2048x5632.rank)

variable [Facts]

def fn {F : FTy → Type} [FloatOps F] (main_arg0 : FVec F S8192x2048 .f32) (main_arg1 : FVec F S2048x5632 .f32) (main_arg2 : FVec F S2048x5632 .f32) (main_arg3 : FVec F S5632x2048 .f32) (main_arg4 : FVec F S8192x2048 .f32) : IVec S8192x2048 1 × IVec S5632x2048 1 × IVec S8192x2048 1 × IVec S2048x5632 1 :=
  let main_v0 : FVec F S8192x2048 .f32 := subf main_arg4 main_arg4
  let main_cst : FVec F S_ .f32 := constant S_ .f32 0x00000000#32
  let main_v1 : FVec F S8192x2048 .f32 := broadcastInDim S8192x2048 ![] bcast_S_S8192x2048 main_cst
  let main_v2 : IVec S8192x2048 1 := cmpf .oeq main_v0 main_v1
  let main_v3 : FVec F S5632x2048 .f32 := subf main_arg3 main_arg3
  let main_cst_0 : FVec F S_ .f32 := constant S_ .f32 0x00000000#32
  let main_v4 : FVec F S5632x2048 .f32 := broadcastInDim S5632x2048 ![] bcast_S_S5632x2048 main_cst_0
  let main_v5 : IVec S5632x2048 1 := cmpf .oeq main_v3 main_v4
  let main_v6 : FVec F S8192x2048 .f32 := subf main_arg0 main_arg0
  let main_cst_1 : FVec F S_ .f32 := constant S_ .f32 0x00000000#32
  let main_v7 : FVec F S8192x2048 .f32 := broadcastInDim S8192x2048 ![] bcast_S_S8192x2048 main_cst_1
  let main_v8 : IVec S8192x2048 1 := cmpf .oeq main_v6 main_v7
  let main_v9 : FVec F S2048x5632 .f32 := subf main_arg2 main_arg2
  let main_cst_2 : FVec F S_ .f32 := constant S_ .f32 0x00000000#32
  let main_v10 : FVec F S2048x5632 .f32 := broadcastInDim S2048x5632 ![] bcast_S_S2048x5632 main_cst_2
  let main_v11 : IVec S2048x5632 1 := cmpf .oeq main_v9 main_v10
  (main_v2, main_v5, main_v8, main_v11)
-- ==== Kernel.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S512x2048 : Shape := ⟨2, ![512, 2048]⟩
abbrev S512x1024 : Shape := ⟨2, ![512, 1024]⟩
abbrev S2048x1024 : Shape := ⟨2, ![2048, 1024]⟩
abbrev S1024x2048 : Shape := ⟨2, ![1024, 2048]⟩
abbrev S512x512 : Shape := ⟨2, ![512, 512]⟩
abbrev S2048x512 : Shape := ⟨2, ![2048, 512]⟩

abbrev nBuf : Space → Nat
  | .hbm => 17
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .f32⟩
  | .hbm, ⟨5, _⟩ => ⟨S8192x5632, .f32⟩
  | .hbm, ⟨6, _⟩ => ⟨S8192x5632, .bf16⟩
  | .hbm, ⟨7, _⟩ => ⟨S8192x5632, .f32⟩
  | .hbm, ⟨8, _⟩ => ⟨S8192x5632, .bf16⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S8192x2048, .bf16⟩
  | .hbm, ⟨13, _⟩ => ⟨S8192x5632, .bf16⟩
  | .hbm, ⟨14, _⟩ => ⟨S8192x5632, .bf16⟩
  | .hbm, ⟨15, _⟩ => ⟨S8192x5632, .bf16⟩
  | .hbm, ⟨16, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x2048, .bf16⟩
  | .local _ .vmem, ⟨11, _⟩ => ⟨S1024x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c5_i32 : BitVec 32 := 5#32
  let v4 : BitVec 1 := Scalar.cmpi .slt arg1 c5_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c5_i32_3 : BitVec 32 := 5#32
  let v8 : BitVec 1 := Scalar.cmpi .eq arg1 c5_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c5_i32_5 : BitVec 32 := 5#32
  let v11 : BitVec 1 := Scalar.cmpi .eq arg1 c5_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S_, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x2048, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x5632, .f32⟩
  | .hbm, ⟨57, _⟩ => ⟨S8192x5632, .f32⟩
  | .hbm, ⟨58, _⟩ => ⟨S_, .f32⟩
  | .hbm, ⟨59, _⟩ => ⟨S8192x5632, .f32⟩
  | .hbm, ⟨60, _⟩ => ⟨S8192x5632, .f32⟩
  | .hbm, ⟨61, _⟩ => ⟨S_, .f32⟩
  | .hbm, ⟨62, _⟩ => ⟨S8192x5632, .f32⟩
  | .hbm, ⟨63, _⟩ => ⟨S8192x5632, .f32⟩
  | .hbm, ⟨64, _⟩ => ⟨S8192x5632, .f32⟩
  | .hbm, ⟨65, _⟩ => ⟨S8192x5632, .f32⟩
  | .hbm, ⟨66, _⟩ => ⟨S8192x5632, .bf16⟩
  | .hbm, ⟨67, _⟩ => ⟨S8192x5632, .bf16⟩
  | .hbm, ⟨68, _⟩ => ⟨S8192x5632, .bf16⟩
  | .hbm, ⟨69, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_v11_2 : Ref sig .tc := ⟨.hbm, 38, rfl⟩
abbrev main_call2_cst_1 : Ref sig .tc := ⟨.hbm, 39, rfl⟩
abbrev main_call2_v6 : Ref sig .tc := ⟨.hbm, 40, rfl⟩
abbrev main_call2_v7 : Ref sig .tc := ⟨.hbm, 41, rfl⟩
abbrev main_v11_1 : Ref sig .tc := ⟨.hbm, 42, rfl⟩
abbrev main_v11_0 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_call4_v0 : Ref sig .tc := ⟨.hbm, 56, rfl⟩
abbrev main_call4_v1 : Ref sig .tc := ⟨.hbm, 57, rfl⟩
abbrev main_call4_cst : Ref sig .tc := ⟨.hbm, 58, rfl⟩
abbrev main_call4_v2 : Ref sig .tc := ⟨.hbm, 59, rfl⟩
abbrev main_call4_v3 : Ref sig .tc := ⟨.hbm, 60, rfl⟩
abbrev main_call4_cst_0 : Ref sig .tc := ⟨.hbm, 61, rfl⟩
abbrev main_call4_v4 : Ref sig .tc := ⟨.hbm, 62, rfl⟩
abbrev main_call4_v5 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩

abbrev nD : Nat := 1
abbrev τ : Topo := Topo.v7x

variable {F : FTy → Type} [FloatOps F]
-- ==== FfnFwd.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S8192x5632 : Shape := ⟨2, ![8192, 5632]⟩
abbrev S1x128 : Shape := ⟨2, ![1, 128]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S64x2048 : Shape := ⟨2, ![64, 2048]⟩
abbrev S64 : Shape := ⟨1, ![64]⟩
abbrev S64x1 : Shape := ⟨2, ![64, 1]⟩
abbrev S2048x512 : Shape := ⟨2, ![2048, 512]⟩
abbrev S512x512 : Shape := ⟨2, ![512, 512]⟩
abbrev S2048 : Shape := ⟨1, ![2048]⟩
abbrev S1 : Shape := ⟨1, ![1]⟩
abbrev S1x1 : Shape := ⟨2, ![1, 1]⟩

abbrev nBuf : Space → Nat
  | .hbm => 19
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S8192x2048, .f32⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S8192x2048, .bf16⟩
  | .hbm, ⟨13, _⟩ => ⟨S8192x2048, .f32⟩
  | .hbm, ⟨14, _⟩ => ⟨S8192x2048, .bf16⟩
  | .hbm, ⟨15, _⟩ => ⟨S8192x5632, .bf16⟩
  | .hbm, ⟨16, _⟩ => ⟨S8192x5632, .bf16⟩
  | .hbm, ⟨17, _⟩ => ⟨S1x2048, .f32⟩
  | .hbm, ⟨18, _⟩ => ⟨S1x128, .f32⟩
  | .local _ .vmem, ⟨0, _⟩ => ⟨S1x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x2048, .bf16⟩
  | .local _ .vmem, ⟨11, _⟩ => ⟨S1024x2048, .bf16⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1x2048, .f32⟩
  | .local _ .vmem, ⟨22, _⟩ => ⟨S1x128, .f32⟩
  | .local _ .vmem, ⟨23, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c8_i32 : BitVec 32 := 8#32
  let v17 : BitVec 32 := Scalar.addi c0_i32_9 c8_i32
  let c1_i32 : BitVec 32 := 1#32
  ⟨c0_i32_9, v17, c1_i32⟩
def k0_mult1 (k0_t1 : Fin k0_t1_loop.trips) : BitVec 32 :=
  let c0_i32_9 : BitVec 32 := 0#32
  let c1_i32 : BitVec 32 := 1#32
  let arg19 : BitVec 32 := Scf.iv c0_i32_9 c1_i32 k0_t1
  let c64_i32 : BitVec 32 := 64#32
  let v18 : BitVec 32 := Scalar.muli arg19 c64_i32
  v18
def k0_off1 (k0_t1 : Fin k0_t1_loop.trips) : Fin 2 → Nat :=
  let c0_i32_9 : BitVec 32 := 0#32
  let c1_i32 : BitVec 32 := 1#32
  let arg19 : BitVec 32 := Scf.iv c0_i32_9 c1_i32 k0_t1
  let c64_i32 : BitVec 32 := 64#32
  let v18 : BitVec 32 := Scalar.muli arg19 c64_i32
  let v19 : BitVec 32 := v18
  let v20 : Index := Scalar.indexCast v19
  let c0 : Index := 0#32
  ![v20.toNat, 0]
def k0_cond5 (i : grid0.Coords) : BitVec 1 :=
  let arg1 : BitVec 32 := BitVec.ofNat 32 (i 1).val
  let c5_i32_7 : BitVec 32 := 5#32
  let v14 : BitVec 1 := Scalar.cmpi .eq arg1 c5_i32_7
  let v15 : BitVec 32 := Scalar.extui v14
  let c0_i32_8 : BitVec 32 := 0#32
  let v16 : BitVec 1 := Scalar.cmpi .ne v15 c0_i32_8
  v16

@[reducible] def k0_t2_loop : Scf.Loop 32 :=
  let c0_i32_11 : BitVec 32 := 0#32
  let c8_i32 : BitVec 32 := 8#32
  let v20 : BitVec 32 := Scalar.addi c0_i32_11 c8_i32
  let c1_i32 : BitVec 32 := 1#32
  ⟨c0_i32_11, v20, c1_i32⟩
def k0_mult2 (k0_t2 : Fin k0_t2_loop.trips) : BitVec 32 :=
  let c0_i32_11 : BitVec 32 := 0#32
  let c1_i32 : BitVec 32 := 1#32
  let arg19 : BitVec 32 := Scf.iv c0_i32_11 c1_i32 k0_t2
  let c64_i32 : BitVec 32 := 64#32
  let v21 : BitVec 32 := Scalar.muli arg19 c64_i32
  v21
def k0_off2 (k0_t2 : Fin k0_t2_loop.trips) : Fin 2 → Nat :=
  let c0_i32_11 : BitVec 32 := 0#32
  let c1_i32 : BitVec 32 := 1#32
  let arg19 : BitVec 32 := Scf.iv c0_i32_11 c1_i32 k0_t2
  let c64_i32 : BitVec 32 := 64#32
  let v21 : BitVec 32 := Scalar.muli arg19 c64_i32
  let v22 : BitVec 32 := v21
  let v23 : Index := Scalar.indexCast v22
  let c0 : Index := 0#32
  ![v23.toNat, 0]
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c5_i32 : BitVec 32 := 5#32
  let v7 : BitVec 1 := Scalar.cmpi .slt arg1 c5_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c5_i32_5 : BitVec 32 := 5#32
  let v11 : BitVec 1 := Scalar.cmpi .eq arg1 c5_i32_5
  let v12 : BitVec 32 := Scalar.extui v11
  let c0_i32_6 : BitVec 32 := 0#32
  let v13 : BitVec 1 := Scalar.cmpi .ne v12 c0_i32_6
  v13

def k0_cond6 (i : grid0.Coords) : BitVec 1 :=
  let arg0 : BitVec 32 := BitVec.ofNat 32 (i 0).val
  let c0_i32_9 : BitVec 32 := 0#32
  let v17 : BitVec 1 := Scalar.cmpi .eq arg0 c0_i32_9
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== FfnFwdRefIdeal.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S2048 : Shape := ⟨1, ![2048]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S_, .f32⟩
  | .hbm, ⟨80, _⟩ => ⟨S1x2048, .f32⟩
  | .hbm, ⟨81, _⟩ => ⟨S1x2048, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S_, .f32⟩
  | .hbm, ⟨86, _⟩ => ⟨S1x128, .f32⟩
  | .hbm, ⟨87, _⟩ => ⟨S8192x2048, .bf16⟩
  | .hbm, ⟨88, _⟩ => ⟨S8192x2048, .bf16⟩
  | .hbm, ⟨89, _⟩ => ⟨S8192x5632, .bf16⟩
  | .hbm, ⟨90, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_cst_9 : Ref sig .tc := ⟨.hbm, 64, rfl⟩
abbrev main_cst_10 : Ref sig .tc := ⟨.hbm, 65, rfl⟩
abbrev main_v37 : Ref sig .tc := ⟨.hbm, 66, rfl⟩
abbrev main_v38 : Ref sig .tc := ⟨.hbm, 67, rfl⟩
abbrev main_cst_11 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_12 : Ref sig .tc := ⟨.hbm, 76, rfl⟩
abbrev main_v46 : Ref sig .tc := ⟨.hbm, 77, rfl⟩
abbrev main_v47 : Ref sig .tc := ⟨.hbm, 78, rfl⟩
abbrev main_cst_13 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_14 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Adam1.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Adam1Ideal.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Adam1RefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adam2.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Adam2Ideal.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Adam2RefIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x832 : Shape := ⟨2, ![2048, 832]⟩
abbrev S512x832 : Shape := ⟨2, ![512, 832]⟩

abbrev nBuf : Space → Nat
  | .hbm => 8
  | .vmem => 16
  | .smem => 0
  | _ => 0

abbrev bufTy : (tb : Table) → Fin (tcTables nBuf tb) → BufTy
  | .hbm, ⟨0, _⟩ => ⟨S2048x832, .f32⟩
  | .hbm, ⟨1, _⟩ => ⟨S2048x832, .f32⟩
  | .hbm, ⟨2, _⟩ => ⟨S2048x832, .f32⟩
  | .hbm, ⟨3, _⟩ => ⟨S2048x832, .f32⟩
  | .hbm, ⟨4, _⟩ => ⟨S2048x832, .f32⟩
  | .hbm, ⟨5, _⟩ => ⟨S2048x832, .f32⟩
  | .hbm, ⟨6, _⟩ => ⟨S2048x832, .f32⟩
  | .hbm, ⟨7, _⟩ => ⟨S2048x832, .f32⟩
  | .local _ .vmem, ⟨0, _⟩ => ⟨S512x832, .f32⟩
  | .local _ .vmem, ⟨1, _⟩ => ⟨S512x832, .f32⟩
  | .local _ .vmem, ⟨2, _⟩ => ⟨S512x832, .f32⟩
  | .local _ .vmem, ⟨3, _⟩ => ⟨S512x832, .f32⟩
  | .local _ .vmem, ⟨4, _⟩ => ⟨S512x832, .f32⟩
  | .local _ .vmem, ⟨5, _⟩ => ⟨S512x832, .f32⟩
  | .local _ .vmem, ⟨6, _⟩ => ⟨S512x832, .f32⟩
  | .local _ .vmem, ⟨7, _⟩ => ⟨S512x832, .f32⟩
  | .local _ .vmem, ⟨8, _⟩ => ⟨S512x832, .f32⟩
  | .local _ .vmem, ⟨9, _⟩ => ⟨S512x832, .f32⟩
  | .local _ .vmem, ⟨10, _⟩ => ⟨S512x832, .f32⟩
  | .local _ .vmem, ⟨11, _⟩ => ⟨S512x832, .f32⟩
  | .local _ .vmem, ⟨12, _⟩ => ⟨S512x832, .f32⟩
  | .local _ .vmem, ⟨13, _⟩ => ⟨S512x832, .f32⟩
  | .local _ .vmem, ⟨14, _⟩ => ⟨S512x832, .f32⟩
  | .local _ .vmem, ⟨15, _⟩ => ⟨S512x832, .f32⟩
  | _, _ => ⟨S2048x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x832 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x832 : Shape := ⟨2, ![2048, 832]⟩
abbrev S512x832 : Shape := ⟨2, ![512, 832]⟩

abbrev nBuf : Space → Nat
  | .hbm => 8
  | .vmem => 16
  | .smem => 0
  | _ => 0

abbrev bufTy : (tb : Table) → Fin (tcTables nBuf tb) → BufTy
  | .hbm, ⟨0, _⟩ => ⟨S2048x832, .f32⟩
  | .hbm, ⟨1, _⟩ => ⟨S2048x832, .f32⟩
  | .hbm, ⟨2, _⟩ => ⟨S2048x832, .f32⟩
  | .hbm, ⟨3, _⟩ => ⟨S2048x832, .f32⟩
  | .hbm, ⟨4, _⟩ => ⟨S2048x832, .f32⟩
  | .hbm, ⟨5, _⟩ => ⟨S2048x832, .f32⟩
  | .hbm, ⟨6, _⟩ => ⟨S2048x832, .f32⟩
  | .hbm, ⟨7, _⟩ => ⟨S2048x832, .f32⟩
  | .local _ .vmem, ⟨0, _⟩ => ⟨S512x832, .f32⟩
  | .local _ .vmem, ⟨1, _⟩ => ⟨S512x832, .f32⟩
  | .local _ .vmem, ⟨2, _⟩ => ⟨S512x832, .f32⟩
  | .local _ .vmem, ⟨3, _⟩ => ⟨S512x832, .f32⟩
  | .local _ .vmem, ⟨4, _⟩ => ⟨S512x832, .f32⟩
  | .local _ .vmem, ⟨5, _⟩ => ⟨S512x832, .f32⟩
  | .local _ .vmem, ⟨6, _⟩ => ⟨S512x832, .f32⟩
  | .local _ .vmem, ⟨7, _⟩ => ⟨S512x832, .f32⟩
  | .local _ .vmem, ⟨8, _⟩ => ⟨S512x832, .f32⟩
  | .local _ .vmem, ⟨9, _⟩ => ⟨S512x832, .f32⟩
  | .local _ .vmem, ⟨10, _⟩ => ⟨S512x832, .f32⟩
  | .local _ .vmem, ⟨11, _⟩ => ⟨S512x832, .f32⟩
  | .local _ .vmem, ⟨12, _⟩ => ⟨S512x832, .f32⟩
  | .local _ .vmem, ⟨13, _⟩ => ⟨S512x832, .f32⟩
  | .local _ .vmem, ⟨14, _⟩ => ⟨S512x832, .f32⟩
  | .local _ .vmem, ⟨15, _⟩ => ⟨S512x832, .f32⟩
  | _, _ => ⟨S2048x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x832 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x832 : Shape := ⟨2, ![2048, 832]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x832, .f32⟩
  | .hbm, ⟨1, _⟩ => ⟨S2048x832, .f32⟩
  | .hbm, ⟨2, _⟩ => ⟨S2048x832, .f32⟩
  | .hbm, ⟨3, _⟩ => ⟨S2048x832, .f32⟩
  | .hbm, ⟨4, _⟩ => ⟨S_, .f32⟩
  | .hbm, ⟨5, _⟩ => ⟨S2048x832, .f32⟩
  | .hbm, ⟨6, _⟩ => ⟨S2048x832, .f32⟩
  | .hbm, ⟨7, _⟩ => ⟨S_, .f32⟩
  | .hbm, ⟨8, _⟩ => ⟨S2048x832, .f32⟩
  | .hbm, ⟨9, _⟩ => ⟨S2048x832, .f32⟩
  | .hbm, ⟨10, _⟩ => ⟨S2048x832, .f32⟩
  | .hbm, ⟨11, _⟩ => ⟨S_, .f32⟩
  | .hbm, ⟨12, _⟩ => ⟨S2048x832, .f32⟩
  | .hbm, ⟨13, _⟩ => ⟨S2048x832, .f32⟩
  | .hbm, ⟨14, _⟩ => ⟨S2048x832, .f32⟩
  | .hbm, ⟨15, _⟩ => ⟨S_, .f32⟩
  | .hbm, ⟨16, _⟩ => ⟨S2048x832, .f32⟩
  | .hbm, ⟨17, _⟩ => ⟨S2048x832, .f32⟩
  | .hbm, ⟨18, _⟩ => ⟨S2048x832, .f32⟩
  | .hbm, ⟨19, _⟩ => ⟨S_, .f32⟩
  | .hbm, ⟨20, _⟩ => ⟨S2048x832, .f32⟩
  | .hbm, ⟨21, _⟩ => ⟨S2048x832, .f32⟩
  | .hbm, ⟨22, _⟩ => ⟨S_, .f32⟩
  | .hbm, ⟨23, _⟩ => ⟨S2048x832, .f32⟩
  | .hbm, ⟨24, _⟩ => ⟨S2048x832, .f32⟩
  | .hbm, ⟨25, _⟩ => ⟨S2048x832, .f32⟩
  | .hbm, ⟨26, _⟩ => ⟨S_, .f32⟩
  | .hbm, ⟨27, _⟩ => ⟨S2048x832, .f32⟩
  | .hbm, ⟨28, _⟩ => ⟨S2048x832, .f32⟩
  | .hbm, ⟨29, _⟩ => ⟨S2048x832, .f32⟩
  | .hbm, ⟨30, _⟩ => ⟨S_, .f32⟩
  | .hbm, ⟨31, _⟩ => ⟨S2048x832, .f32⟩
  | .hbm, ⟨32, _⟩ => ⟨S2048x832, .f32⟩
  | .hbm, ⟨33, _⟩ => ⟨S2048x832, .f32⟩
  | .hbm, ⟨34, _⟩ => ⟨S_, .f32⟩
  | .hbm, ⟨35, _⟩ => ⟨S2048x832, .f32⟩
  | .hbm, ⟨36, _⟩ => ⟨S2048x832, .f32⟩
  | _, _ => ⟨S2048x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S2048x4608 : Shape := ⟨2, ![2048, 4608]⟩
abbrev S64x4608 : Shape := ⟨2, ![64, 4608]⟩

abbrev nBuf : Space → Nat
  | .hbm => 7
  | .vmem => 14
  | .smem => 0
  | _ => 0

abbrev bufTy : (tb : Table) → Fin (tcTables nBuf tb) → BufTy
  | .hbm, ⟨0, _⟩ => ⟨S2048x4608, .f32⟩
  | .hbm, ⟨1, _⟩ => ⟨S2048x4608, .f32⟩
  | .hbm, ⟨2, _⟩ => ⟨S2048x4608, .f32⟩
  | .hbm, ⟨3, _⟩ => ⟨S2048x4608, .f32⟩
  | .hbm, ⟨4, _⟩ => ⟨S2048x4608, .f32⟩
  | .hbm, ⟨5, _⟩ => ⟨S2048x4608, .f32⟩
  | .hbm, ⟨6, _⟩ => ⟨S2048x4608, .f32⟩
  | .local _ .vmem, ⟨0, _⟩ => ⟨S64x4608, .f32⟩
  | .local _ .vmem, ⟨1, _⟩ => ⟨S64x4608, .f32⟩
  | .local _ .vmem, ⟨2, _⟩ => ⟨S64x4608, .f32⟩
  | .local _ .vmem, ⟨3, _⟩ => ⟨S64x4608, .f32⟩
  | .local _ .vmem, ⟨4, _⟩ => ⟨S64x4608, .f32⟩
  | .local _ .vmem, ⟨5, _⟩ => ⟨S64x4608, .f32⟩
  | .local _ .vmem, ⟨6, _⟩ => ⟨S64x4608, .f32⟩
  | .local _ .vmem, ⟨7, _⟩ => ⟨S64x4608, .f32⟩
  | .local _ .vmem, ⟨8, _⟩ => ⟨S64x4608, .f32⟩
  | .local _ .vmem, ⟨9, _⟩ => ⟨S64x4608, .f32⟩
  | .local _ .vmem, ⟨10, _⟩ => ⟨S64x4608, .f32⟩
  | .local _ .vmem, ⟨11, _⟩ => ⟨S64x4608, .f32⟩
  | .local _ .vmem, ⟨12, _⟩ => ⟨S64x4608, .f32⟩
  | .local _ .vmem, ⟨13, _⟩ => ⟨S64x4608, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4608 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4608 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S2048x4608 : Shape := ⟨2, ![2048, 4608]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x4608, .f32⟩
  | .hbm, ⟨1, _⟩ => ⟨S2048x4608, .f32⟩
  | .hbm, ⟨2, _⟩ => ⟨S2048x4608, .f32⟩
  | .hbm, ⟨3, _⟩ => ⟨S2048x4608, .f32⟩
  | .hbm, ⟨4, _⟩ => ⟨S_, .f32⟩
  | .hbm, ⟨5, _⟩ => ⟨S2048x4608, .f32⟩
  | .hbm, ⟨6, _⟩ => ⟨S2048x4608, .f32⟩
  | .hbm, ⟨7, _⟩ => ⟨S_, .f32⟩
  | .hbm, ⟨8, _⟩ => ⟨S2048x4608, .f32⟩
  | .hbm, ⟨9, _⟩ => ⟨S2048x4608, .f32⟩
  | .hbm, ⟨10, _⟩ => ⟨S2048x4608, .f32⟩
  | .hbm, ⟨11, _⟩ => ⟨S_, .f32⟩
  | .hbm, ⟨12, _⟩ => ⟨S2048x4608, .f32⟩
  | .hbm, ⟨13, _⟩ => ⟨S2048x4608, .f32⟩
  | .hbm, ⟨14, _⟩ => ⟨S2048x4608, .f32⟩
  | .hbm, ⟨15, _⟩ => ⟨S_, .f32⟩
  | .hbm, ⟨16, _⟩ => ⟨S2048x4608, .f32⟩
  | .hbm, ⟨17, _⟩ => ⟨S2048x4608, .f32⟩
  | .hbm, ⟨18, _⟩ => ⟨S2048x4608, .f32⟩
  | .hbm, ⟨19, _⟩ => ⟨S_, .f32⟩
  | .hbm, ⟨20, _⟩ => ⟨S2048x4608, .f32⟩
  | .hbm, ⟨21, _⟩ => ⟨S2048x4608, .f32⟩
  | .hbm, ⟨22, _⟩ => ⟨S_, .f32⟩
  | .hbm, ⟨23, _⟩ => ⟨S2048x4608, .f32⟩
  | .hbm, ⟨24, _⟩ => ⟨S2048x4608, .f32⟩
  | .hbm, ⟨25, _⟩ => ⟨S2048x4608, .f32⟩
  | .hbm, ⟨26, _⟩ => ⟨S_, .f32⟩
  | .hbm, ⟨27, _⟩ => ⟨S2048x4608, .f32⟩
  | .hbm, ⟨28, _⟩ => ⟨S2048x4608, .f32⟩
  | .hbm, ⟨29, _⟩ => ⟨S2048x4608, .f32⟩
  | .hbm, ⟨30, _⟩ => ⟨S_, .f32⟩
  | .hbm, ⟨31, _⟩ => ⟨S2048x4608, .f32⟩
  | .hbm, ⟨32, _⟩ => ⟨S2048x4608, .f32⟩
  | .hbm, ⟨33, _⟩ => ⟨S2048x4608, .f32⟩
  | .hbm, ⟨34, _⟩ => ⟨S_, .f32⟩
  | .hbm, ⟨35, _⟩ => ⟨S2048x4608, .f32⟩
  | .hbm, ⟨36, _⟩ => ⟨S2048x4608, .f32⟩
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Small.lean ====
abbrev S8x1264x128 : Shape := ⟨3, ![8, 1264, 128]⟩
abbrev S1264x128 : Shape := ⟨2, ![1264, 128]⟩
abbrev S1x1264x128 : Shape := ⟨3, ![1, 1264, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1264x128, .f32⟩
  | .hbm, ⟨1, _⟩ => ⟨S1264x128, .f32⟩
  | .hbm, ⟨2, _⟩ => ⟨S1264x128, .f32⟩
  | .hbm, ⟨3, _⟩ => ⟨S1264x128, .f32⟩
  | .hbm, ⟨4, _⟩ => ⟨S1264x128, .f32⟩
  | .hbm, ⟨5, _⟩ => ⟨S1264x128, .f32⟩
  | .hbm, ⟨6, _⟩ => ⟨S1264x128, .f32⟩
  | .hbm, ⟨7, _⟩ => ⟨S1264x128, .f32⟩
  | .local _ .vmem, ⟨0, _⟩ => ⟨S8x1264x128, .f32⟩
  | .local _ .vmem, ⟨1, _⟩ => ⟨S1264x128, .f32⟩
  | .local _ .vmem, ⟨2, _⟩ => ⟨S1264x128, .f32⟩
  | .local _ .vmem, ⟨3, _⟩ => ⟨S1264x128, .f32⟩
  | .local _ .vmem, ⟨4, _⟩ => ⟨S1264x128, .f32⟩
  | .local _ .vmem, ⟨5, _⟩ => ⟨S1264x128, .f32⟩
  | .local _ .vmem, ⟨6, _⟩ => ⟨S1264x128, .f32⟩
  | .local _ .vmem, ⟨7, _⟩ => ⟨S1264x128, .f32⟩
  | _, _ => ⟨S8x1264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1264x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1264x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1264x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1264x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1264x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1264x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1264x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1264x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallRefIdeal.lean ====
abbrev S8x1264x128 : Shape := ⟨3, ![8, 1264, 128]⟩
abbrev S1264x128 : Shape := ⟨2, ![1264, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1264x128, .f32⟩
  | .hbm, ⟨1, _⟩ => ⟨S1264x128, .f32⟩
  | .hbm, ⟨2, _⟩ => ⟨S1264x128, .f32⟩
  | .hbm, ⟨3, _⟩ => ⟨S1264x128, .f32⟩
  | .hbm, ⟨4, _⟩ => ⟨S_, .f32⟩
  | .hbm, ⟨5, _⟩ => ⟨S1264x128, .f32⟩
  | .hbm, ⟨6, _⟩ => ⟨S_, .f32⟩
  | .hbm, ⟨7, _⟩ => ⟨S1264x128, .f32⟩
  | .hbm, ⟨8, _⟩ => ⟨S1264x128, .f32⟩
  | .hbm, ⟨9, _⟩ => ⟨S_, .f32⟩
  | .hbm, ⟨10, _⟩ => ⟨S1264x128, .f32⟩
  | .hbm, ⟨11, _⟩ => ⟨S1264x128, .f32⟩
  | .hbm, ⟨12, _⟩ => ⟨S1264x128, .f32⟩
  | .hbm, ⟨13, _⟩ => ⟨S_, .f32⟩
  | .hbm, ⟨14, _⟩ => ⟨S1264x128, .f32⟩
  | .hbm, ⟨15, _⟩ => ⟨S1264x128, .f32⟩
  | .hbm, ⟨16, _⟩ => ⟨S1264x128, .f32⟩
  | .hbm, ⟨17, _⟩ => ⟨S_, .f32⟩
  | .hbm, ⟨18, _⟩ => ⟨S1264x128, .f32⟩
  | .hbm, ⟨19, _⟩ => ⟨S1264x128, .f32⟩
  | .hbm, ⟨20, _⟩ => ⟨S1264x128, .f32⟩
  | .hbm, ⟨21, _⟩ => ⟨S_, .f32⟩
  | .hbm, ⟨22, _⟩ => ⟨S1264x128, .f32⟩
  | .hbm, ⟨23, _⟩ => ⟨S1264x128, .f32⟩
  | .hbm, ⟨24, _⟩ => ⟨S_, .f32⟩
  | .hbm, ⟨25, _⟩ => ⟨S1264x128, .f32⟩
  | .hbm, ⟨26, _⟩ => ⟨S1264x128, .f32⟩
  | .hbm, ⟨27, _⟩ => ⟨S1264x128, .f32⟩
  | .hbm, ⟨28, _⟩ => ⟨S_, .f32⟩
  | .hbm, ⟨29, _⟩ => ⟨S1264x128, .f32⟩
  | .hbm, ⟨30, _⟩ => ⟨S1264x128, .f32⟩
  | .hbm, ⟨31, _⟩ => ⟨S1264x128, .f32⟩
  | .hbm, ⟨32, _⟩ => ⟨S_, .f32⟩
  | .hbm, ⟨33, _⟩ => ⟨S1264x128, .f32⟩
  | .hbm, ⟨34, _⟩ => ⟨S1264x128, .f32⟩
  | .hbm, ⟨35, _⟩ => ⟨S1264x128, .f32⟩
  | .hbm, ⟨36, _⟩ => ⟨S_, .f32⟩
  | .hbm, ⟨37, _⟩ => ⟨S1264x128, .f32⟩
  | .hbm, ⟨38, _⟩ => ⟨S1264x128, .f32⟩
  | _, _ => ⟨S8x1264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== GradWAda.lean ====
abbrev S8x2048 : Shape := ⟨2, ![8, 2048]⟩
abbrev S2048x4608 : Shape := ⟨2, ![2048, 4608]⟩
abbrev S8x4608 : Shape := ⟨2, ![8, 4608]⟩
abbrev S_ : Shape := ⟨0, ![]⟩
abbrev S16x2048 : Shape := ⟨2, ![16, 2048]⟩
abbrev S16x4608 : Shape := ⟨2, ![16, 4608]⟩
abbrev S16x1024 : Shape := ⟨2, ![16, 1024]⟩
abbrev S16x512 : Shape := ⟨2, ![16, 512]⟩
abbrev S1024x512 : Shape := ⟨2, ![1024, 512]⟩

abbrev nBuf : Space → Nat
  | .hbm => 21
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S2048x4608, .f32⟩
  | .hbm, ⟨2, _⟩ => ⟨S8x4608, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S_, .i32⟩
  | .hbm, ⟨13, _⟩ => ⟨S_, .f32⟩
  | .hbm, ⟨14, _⟩ => ⟨S16x2048, .f32⟩
  | .hbm, ⟨15, _⟩ => ⟨S16x2048, .bf16⟩
  | .hbm, ⟨16, _⟩ => ⟨S_, .i32⟩
  | .hbm, ⟨17, _⟩ => ⟨S_, .f32⟩
  | .hbm, ⟨18, _⟩ => ⟨S16x4608, .f32⟩
  | .hbm, ⟨19, _⟩ => ⟨S16x4608, .bf16⟩
  | .hbm, ⟨20, _⟩ => ⟨S2048x4608, .f32⟩
  | .local _ .vmem, ⟨0, _⟩ => ⟨S16x1024, .bf16⟩
  | .local _ .vmem, ⟨1, _⟩ => ⟨S16x1024, .bf16⟩
  | .local _ .vmem, ⟨2, _⟩ => ⟨S16x512, .bf16⟩
  | .local _ .vmem, ⟨3, _⟩ => ⟨S16x512, .bf16⟩
  | .local _ .vmem, ⟨4, _⟩ => ⟨S1024x512, .f32⟩
  | .local _ .vmem, ⟨5, _⟩ => ⟨S1024x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_c : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call2_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWAdaRefIdeal.lean ====
abbrev S8x2048 : Shape := ⟨2, ![8, 2048]⟩
abbrev S2048x4608 : Shape := ⟨2, ![2048, 4608]⟩
abbrev S8x4608 : Shape := ⟨2, ![8, 4608]⟩
abbrev S_ : Shape := ⟨0, ![]⟩
abbrev S4608x2048 : Shape := ⟨2, ![4608, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x4608, .f32⟩
  | .hbm, ⟨2, _⟩ => ⟨S8x4608, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x4608, .f32⟩
  | .hbm, ⟨13, _⟩ => ⟨S4608x2048, .f32⟩
  | .hbm, ⟨14, _⟩ => ⟨S2048x4608, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== GradW1.lean ====
abbrev S8192x2048 : Shape := ⟨2, ![8192, 2048]⟩
abbrev S2048x5632 : Shape := ⟨2, ![2048, 5632]⟩
abbrev S8192x5632 : Shape := ⟨2, ![8192, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x2048, .bf16⟩
  | .hbm, ⟨4, _⟩ => ⟨S8192x5632, .bf16⟩
  | .hbm, ⟨5, _⟩ => ⟨S4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradW1RefIdeal.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S5632x2048, .f32⟩
  | .hbm, ⟨5, _⟩ => ⟨S2048x5632, .f32⟩
  | .hbm, ⟨6, _⟩ => ⟨S2048x4x1408, .f32⟩
  | .hbm, ⟨7, _⟩ => ⟨S4x2048x1408, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradWOut.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWOutRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DMix.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 6
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S2048x2048, .bf16⟩
  | .hbm, ⟨6, _⟩ => ⟨S8192x2048, .f32⟩
  | .hbm, ⟨7, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ModPart.lean ====
abbrev S16x2048 : Shape := ⟨2, ![16, 2048]⟩
abbrev S2048x4608 : Shape := ⟨2, ![2048, 4608]⟩
abbrev S1x4608 : Shape := ⟨2, ![1, 4608]⟩
abbrev S16x4608 : Shape := ⟨2, ![16, 4608]⟩
abbrev S2048x512 : Shape := ⟨2, ![2048, 512]⟩
abbrev S1x512 : Shape := ⟨2, ![1, 512]⟩
abbrev S16x512 : Shape := ⟨2, ![16, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S2048x4608, .f32⟩
  | .hbm, ⟨2, _⟩ => ⟨S1x4608, .f32⟩
  | .hbm, ⟨3, _⟩ => ⟨S16x4608, .f32⟩
  | .hbm, ⟨4, _⟩ => ⟨S16x2048, .bf16⟩
  | .local _ .vmem, ⟨0, _⟩ => ⟨S16x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | .local _ .vmem, ⟨7, _⟩ => ⟨S16x2048, .bf16⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ModPartRefIdeal.lean ====
abbrev S16x2048 : Shape := ⟨2, ![16, 2048]⟩
abbrev S2048x4608 : Shape := ⟨2, ![2048, 4608]⟩
abbrev S1x4608 : Shape := ⟨2, ![1, 4608]⟩
abbrev S_ : Shape := ⟨0, ![]⟩
abbrev S16x4608 : Shape := ⟨2, ![16, 4608]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x4608, .f32⟩
  | .hbm, ⟨2, _⟩ => ⟨S1x4608, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x4608, .f32⟩
  | .hbm, ⟨13, _⟩ => ⟨S16x4608, .f32⟩
  | .hbm, ⟨14, _⟩ => ⟨S16x4608, .f32⟩
  | .hbm, ⟨15, _⟩ => ⟨S16x2048, .bf16⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== RelBias.lean ====
abbrev S16x32768 : Shape := ⟨2, ![16, 32768]⟩
abbrev S32x32768 : Shape := ⟨2, ![32, 32768]⟩
abbrev S32x16 : Shape := ⟨2, ![32, 16]⟩

abbrev nBuf : Space → Nat
  | .hbm => 3
  | .vmem => 3
  | .smem => 0
  | _ => 0

abbrev bufTy : (tb : Table) → Fin (tcTables nBuf tb) → BufTy
  | .hbm, ⟨0, _⟩ => ⟨S16x32768, .f32⟩
  | .hbm, ⟨1, _⟩ => ⟨S32x32768, .f32⟩
  | .hbm, ⟨2, _⟩ => ⟨S32x16, .f32⟩
  | .local _ .vmem, ⟨0, _⟩ => ⟨S16x32768, .f32⟩
  | .local _ .vmem, ⟨1, _⟩ => ⟨S32x32768, .f32⟩
  | .local _ .vmem, ⟨2, _⟩ => ⟨S32x16, .f32⟩
  | _, _ => ⟨S16x32768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RelBiasRefIdeal.lean ====
abbrev S16x32768 : Shape := ⟨2, ![16, 32768]⟩
abbrev S32x32768 : Shape := ⟨2, ![32, 32768]⟩
abbrev S_ : Shape := ⟨0, ![]⟩
abbrev S32x16 : Shape := ⟨2, ![32, 16]⟩
abbrev S16x32 : Shape := ⟨2, ![16, 32]⟩

abbrev nBuf : Space → Nat
  | .hbm => 7
  | .vmem => 0
  | .smem => 0
  | _ => 0

abbrev bufTy : (tb : Table) → Fin (tcTables nBuf tb) → BufTy
  | .hbm, ⟨0, _⟩ => ⟨S16x32768, .f32⟩
  | .hbm, ⟨1, _⟩ => ⟨S32x32768, .f32⟩
  | .hbm, ⟨2, _⟩ => ⟨S_, .f32⟩
  | .hbm, ⟨3, _⟩ => ⟨S32x16, .f32⟩
  | .hbm, ⟨4, _⟩ => ⟨S16x32768, .f32⟩
  | .hbm, ⟨5, _⟩ => ⟨S16x32, .f32⟩
  | .hbm, ⟨6, _⟩ => ⟨S32x16, .f32⟩
  | _, _ => ⟨S16x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PreNorm.lean ====
abbrev S8192x2048 : Shape := ⟨2, ![8192, 2048]⟩
abbrev S1x2048 : Shape := ⟨2, ![1, 2048]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v1 : BitVec 32 := Scalar.muli arg6 c64_i32
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32 : BitVec 32 := 64#32
  let v1 : BitVec 32 := Scalar.muli arg6 c64_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreNormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== ChipSum.lean ====
abbrev S4x2048x1408 : Shape := ⟨3, ![4, 2048, 1408]⟩
abbrev S4x1024x1408 : Shape := ⟨3, ![4, 1024, 1408]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 3
  | .vmem => 6
  | .smem => 1
  | _ => 0

abbrev bufTy : (tb : Table) → Fin (tcTables nBuf tb) → BufTy
  | .hbm, ⟨0, _⟩ => ⟨S4x2048x1408, .f32⟩
  | .hbm, ⟨1, _⟩ => ⟨S4x1024x1408, .f32⟩
  | .hbm, ⟨2, _⟩ => ⟨S4x1024x1408, .bf16⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .bf16⟩
  | .local _ .vmem, ⟨5, _⟩ => ⟨S1x256x1408, .bf16⟩
  | .local _ .smem, ⟨0, _⟩ => ⟨S1, .i32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChipSumRefIdeal.lean ====
abbrev S4x2048x1408 : Shape := ⟨3, ![4, 2048, 1408]⟩
abbrev S4x1024x1408 : Shape := ⟨3, ![4, 1024, 1408]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S4x1024x1408, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .bf16⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== NormBwd.lean ====
abbrev S8192x2048 : Shape := ⟨2, ![8192, 2048]⟩
abbrev S1x2048 : Shape := ⟨2, ![1, 2048]⟩
abbrev S256x2048 : Shape := ⟨2, ![256, 2048]⟩
abbrev S64x2048 : Shape := ⟨2, ![64, 2048]⟩
abbrev S64 : Shape := ⟨1, ![64]⟩
abbrev S64x1 : Shape := ⟨2, ![64, 1]⟩
abbrev S2048 : Shape := ⟨1, ![2048]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  v4
def k0_off1 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v6 : Index := Scalar.indexCast v5
  let c0 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormBwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.ValueKit.Basic
public import Idealize.ShloMosaic.Lib.WritesUnit
public import Idealize.ShloMosaic.Lib.Pointwise.Index

@[expose] public section

set_option maxRecDepth 16384

noncomputable section

namespace Cert.KernelIdeal.FfnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

/-- The first 512 rows of a block of the second matrix. -/
abbrev topR (x : Vec F S1024x2048 .bf16) : Vec F S512x2048 .bf16 :=
  View.ld x (Rect.unit (s := S1024x2048) ![0, 0] S512x2048.size inb_S1024x2048_S512x2048_0_0)
/-- The first 512 columns of a block of activations. -/
abbrev leftC (x : Vec F S512x1024 .bf16) : Vec F S512x512 .bf16 :=
  View.ld x (Rect.unit (s := S512x1024) ![0, 0] S512x512.size inb_S512x1024_S512x512_0_0)
/-- The first 512 columns of a block of an input matrix. -/
abbrev leftW (x : Vec F S2048x1024 .bf16) : Vec F S2048x512 .bf16 :=
  View.ld x (Rect.unit (s := S2048x1024) ![0, 0] S2048x512.size inb_S2048x1024_S2048x512_0_0)
/-- A block whose first 512 columns are overwritten by `w`. -/
def putL (y : Vec F S512x1024 .bf16) (w : Vec F S512x512 .bf16) : Vec F S512x1024 .bf16 :=
  fun j => if h : (j 1).val < 512 then w (ix2 (j 0) ⟨(j 1).val, h⟩) else y j

/-- The two zero offsets, as a constant function. -/
theorem zeros2 : (![0, 0] : Fin 2 → Nat) = fun _ => 0 := funext fun a => by fin_cases a <;> rfl

/-- A store over the whole of a view, last, leaves exactly what was stored. -/
theorem read_store_all {κ : Kind} {sp : Space} {s : Shape} {e : EltTy} (v : View sig κ sp s e) (f : v.ty.Contents (Elt F))
    {off : Fin s.rank → Nat} (ho : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  subst ho
  funext y
  exact View.read_writes_cons_unit_of_mem v f inb w L y y rfl fun a => (Nat.zero_add _).symm

/-- A load of a unit rectangle of a view reads that rectangle of what the view reads. -/
theorem ld_of_load {κ : Kind} {sp : Space} {s : Shape} {e : EltTy} (v : View sig κ sp s e) (f : v.ty.Contents (Elt F))
    (off size : Fin s.rank → Nat) (inb : ∀ a, off a + size a ≤ s.size a) :
    v.readAt (Elt F) (Rect.unit off size inb).toLoadRect f = View.ld (v.read (Elt F) f) (Rect.unit off size inb) := rfl

/-- The whole of a row block in the narrow format. -/
theorem ld_rows16 (X : Vec F S512x2048 .bf16) :
    View.ld X (Rect.unit (s := S512x2048) ![0, 0] ![512, 2048] inb_S512x2048_S512x2048_0_0) = X :=
  View.ld_unit_zero (S := S512x2048) zeros2 inb_S512x2048_S512x2048_0_0 X

/-- The whole of a row block in the wide format. -/
theorem ld_rows32 (X : Vec F S512x2048 .f32) :
    View.ld X (Rect.unit (s := S512x2048) ![0, 0] ![512, 2048] inb_S512x2048_S512x2048_0_0) = X :=
  View.ld_unit_zero (S := S512x2048) zeros2 inb_S512x2048_S512x2048_0_0 X

/-- The wide row block read back after it was stored. -/
theorem cov_rows32 {κ : Kind} {sp : Space} (v : View sig κ sp S512x2048 .f32) (w : Vec F S512x2048 .f32) :
    v.readCov [(⟨Rect.unit (s := S512x2048) ![0, 0] ![512, 2048] inb_S512x2048_S512x2048_0_0, w⟩ : View.Piece (Elt F) S512x2048 .f32)]
      (Rect.unit (s := S512x2048) ![0, 0] ![512, 2048] inb_S512x2048_S512x2048_0_0).toLoadRect = w :=
  View.readCov_unit_zero (S := S512x2048) v zeros2 inb_S512x2048_S512x2048_0_0 w

/-- The whole of a block of activations. -/
theorem ld_acts (X : Vec F S512x1024 .bf16) :
    View.ld X (Rect.unit (s := S512x1024) ![0, 0] ![512, 1024] inb_S512x1024_S512x1024_0_0) = X :=
  View.ld_unit_zero (S := S512x1024) zeros2 inb_S512x1024_S512x1024_0_0 X

/-- The whole of a block of an input matrix. -/
theorem ld_win (X : Vec F S2048x1024 .bf16) :
    View.ld X (Rect.unit (s := S2048x1024) ![0, 0] ![2048, 1024] inb_S2048x1024_S2048x1024_0_0) = X :=
  View.ld_unit_zero (S := S2048x1024) zeros2 inb_S2048x1024_S2048x1024_0_0 X

/-- The whole of a block of the second matrix. -/
theorem ld_wout (X : Vec F S1024x2048 .bf16) :
    View.ld X (Rect.unit (s := S1024x2048) ![0, 0] ![1024, 2048] inb_S1024x2048_S1024x2048_0_0) = X :=
  View.ld_unit_zero (S := S1024x2048) zeros2 inb_S1024x2048_S1024x2048_0_0 X

/-- A store over the first 512 columns of a block leaves the rest of the block as it was. -/
theorem read_store_left {κ : Kind} {sp : Space} (v : View sig κ sp S512x1024 .bf16) (f : v.ty.Contents (Elt F))
    (w : Vec F S512x512 .bf16) :
    v.read (Elt F) (v.writes (Elt F) f [⟨Rect.unit (s := S512x1024) ![0, 0] S512x512.size inb_S512x1024_S512x512_0_0, w⟩])
      = putL (v.read (Elt F) f) w := by
  funext y
  unfold putL
  split
  · next h =>
    exact View.read_writes_cons_unit_of_mem v f _ w [] y (ix2 (y 0) ⟨(y 1).val, h⟩) rfl
      (Fin.forall_fin_two.mpr ⟨(Nat.zero_add _).symm, (Nat.zero_add _).symm⟩)
  · next h =>
    refine (View.read_writes_cons_unit_of_not_mem v f inb_S512x1024_S512x512_0_0 w [] y rfl (1 : Fin 2) (Or.inr ?_)).trans rfl
    show 0 + 512 ≤ (y 1).val
    omega

set_option maxHeartbeats 1000000 in
/-- At the first column block of a row block. -/
theorem run_first (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1024x2048 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S512x2048 .f32) (harg12 : arg12.IsWhole)
    (h1 : k0_cond1 i = 1#1) (h2 : ¬ k0_cond2 i = 1#1) (h3 : ¬ k0_cond3 i = 1#1) (h4 : ¬ k0_cond4 i = 1#1)
    (xf : Vec F S512x2048 .bf16) (xa : Vec F S512x1024 .bf16) (xb : Vec F S512x1024 .bf16) (x1 : Vec F S2048x1024 .bf16) (x3 : Vec F S2048x1024 .bf16) (x2 : Vec F S1024x2048 .bf16) (ya : Vec F S512x1024 .bf16) (yb : Vec F S512x1024 .bf16) (ys : Vec F S512x1024 .bf16) (yh : Vec F S512x2048 .bf16) (acc : Vec F S512x2048 .f32) :
      ∀ (E : Set ℕ) (K : PUnit → sProp 𝕄),
        iprop(owns (c : Thread nD τ) arg2 fullShare xf ∗ owns (c : Thread nD τ) arg3 fullShare xa ∗ owns (c : Thread nD τ) arg4 fullShare xb ∗ owns (c : Thread nD τ) arg5 fullShare x1 ∗ owns (c : Thread nD τ) arg6 fullShare x3 ∗ owns (c : Thread nD τ) arg7 fullShare x2 ∗ owns (c : Thread nD τ) arg8 fullShare ya ∗ owns (c : Thread nD τ) arg9 fullShare yb ∗ owns (c : Thread nD τ) arg10 fullShare ys ∗ owns (c : Thread nD τ) arg11 fullShare yh ∗ owns (c : Thread nD τ) arg12 fullShare acc
            ∗ (iprop(owns (c : Thread nD τ) arg2 fullShare xf ∗ owns (c : Thread nD τ) arg3 fullShare xa ∗ owns (c : Thread nD τ) arg4 fullShare xb ∗ owns (c : Thread nD τ) arg5 fullShare x1 ∗ owns (c : Thread nD τ) arg6 fullShare x3 ∗ owns (c : Thread nD τ) arg7 fullShare x2 ∗ owns (c : Thread nD τ) arg8 fullShare (k0_pay10 xf x2 xa xb) ∗ owns (c : Thread nD τ) arg9 fullShare (k0_pay11 xf x2 xa) ∗ owns (c : Thread nD τ) arg10 fullShare (k0_pay12 xa xb) ∗ owns (c : Thread nD τ) arg11 fullShare yh ∗ owns (c : Thread nD τ) arg12 fullShare (k0_pay1 (k0_pay10 xf x2 xa xb) (k0_pay11 xf x2 xa) x1 x3)) -∗ K ⟨⟩))
          ⊢ wp frame (wpE (defs₀ (F := F)) Variants.none c none) E (cc0_ffn2_bwd i arg2 harg2 arg3 harg3 arg4 harg4 arg5 harg5 arg6 harg6 arg7 harg7 arg8 harg8 arg9 harg9 arg10 harg10 arg11 harg11 arg12 harg12) K := by
    intro E K
    simp only [cc0_ffn2_bwd_eq_skeleton, k0_part1_eq_skeleton, k0_part2_eq_skeleton, k0_part3_eq_skeleton]
    unfold cc0_ffn2_bwd_skel
    simp only [k0_part1_eq_skeleton, k0_part2_eq_skeleton, k0_part3_eq_skeleton]
    unfold k0_part1_skel k0_part2_skel k0_part3_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact h1 | sl_exact h2 | sl_exact h3 | sl_exact h4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; refine (read_store_all _ _ zeros2 _ _ _).trans ?_; simp only [ld_of_load, ld_rows16, ld_rows32, ld_acts, ld_win, ld_wout, hf0, hf1, hf2, hf3, hf4, hf5, hf6, hf7, hf8, hf9, hf10]
    isplitl [H7]
    · iexists _; isplitr; swap; · iexact H7
      ipureintro; refine (read_store_all _ _ zeros2 _ _ _).trans ?_; simp only [ld_of_load, ld_rows16, ld_rows32, ld_acts, ld_win, ld_wout, hf0, hf1, hf2, hf3, hf4, hf5, hf6, hf7, hf8, hf9, hf10]
    isplitl [H8]
    · iexists _; isplitr; swap; · iexact H8
      ipureintro; refine (read_store_all _ _ zeros2 _ _ _).trans ?_; simp only [ld_of_load, ld_rows16, ld_rows32, ld_acts, ld_win, ld_wout, hf0, hf1, hf2, hf3, hf4, hf5, hf6, hf7, hf8, hf9, hf10]
    isplitl [H9]
    · iexists _; isplitr; swap; · iexact H9
      ipureintro; exact harg11.read_unread _
    iexists _; isplitr; swap; · iexact H10
    ipureintro; refine (read_store_all _ _ zeros2 _ _ _).trans ?_; simp only [ld_of_load, ld_rows16, ld_rows32, ld_acts, ld_win, ld_wout, hf0, hf1, hf2, hf3, hf4, hf5, hf6, hf7, hf8, hf9, hf10]

set_option maxHeartbeats 1000000 in
/-- At a column block between the first and the last. -/
theorem run_mid (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1024x2048 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S512x2048 .f32) (harg12 : arg12.IsWhole)
    (h1 : ¬ k0_cond1 i = 1#1) (h2 : k0_cond2 i = 1#1) (h3 : ¬ k0_cond3 i = 1#1) (h4 : ¬ k0_cond4 i = 1#1)
    (xf : Vec F S512x2048 .bf16) (xa : Vec F S512x1024 .bf16) (xb : Vec F S512x1024 .bf16) (x1 : Vec F S2048x1024 .bf16) (x3 : Vec F S2048x1024 .bf16) (x2 : Vec F S1024x2048 .bf16) (ya : Vec F S512x1024 .bf16) (yb : Vec F S512x1024 .bf16) (ys : Vec F S512x1024 .bf16) (yh : Vec F S512x2048 .bf16) (acc : Vec F S512x2048 .f32) :
      ∀ (E : Set ℕ) (K : PUnit → sProp 𝕄),
        iprop(owns (c : Thread nD τ) arg2 fullShare xf ∗ owns (c : Thread nD τ) arg3 fullShare xa ∗ owns (c : Thread nD τ) arg4 fullShare xb ∗ owns (c : Thread nD τ) arg5 fullShare x1 ∗ owns (c : Thread nD τ) arg6 fullShare x3 ∗ owns (c : Thread nD τ) arg7 fullShare x2 ∗ owns (c : Thread nD τ) arg8 fullShare ya ∗ owns (c : Thread nD τ) arg9 fullShare yb ∗ owns (c : Thread nD τ) arg10 fullShare ys ∗ owns (c : Thread nD τ) arg11 fullShare yh ∗ owns (c : Thread nD τ) arg12 fullShare acc
            ∗ (iprop(owns (c : Thread nD τ) arg2 fullShare xf ∗ owns (c : Thread nD τ) arg3 fullShare xa ∗ owns (c : Thread nD τ) arg4 fullShare xb ∗ owns (c : Thread nD τ) arg5 fullShare x1 ∗ owns (c : Thread nD τ) arg6 fullShare x3 ∗ owns (c : Thread nD τ) arg7 fullShare x2 ∗ owns (c : Thread nD τ) arg8 fullShare (k0_pay18 xf x2 xa xb) ∗ owns (c : Thread nD τ) arg9 fullShare (k0_pay19 xf x2 xa) ∗ owns (c : Thread nD τ) arg10 fullShare (k0_pay20 xa xb) ∗ owns (c : Thread nD τ) arg11 fullShare yh ∗ owns (c : Thread nD τ) arg12 fullShare (k0_pay2 (k0_pay18 xf x2 xa xb) (k0_pay19 xf x2 xa) x1 x3 acc)) -∗ K ⟨⟩))
          ⊢ wp frame (wpE (defs₀ (F := F)) Variants.none c none) E (cc0_ffn2_bwd i arg2 harg2 arg3 harg3 arg4 harg4 arg5 harg5 arg6 harg6 arg7 harg7 arg8 harg8 arg9 harg9 arg10 harg10 arg11 harg11 arg12 harg12) K := by
    intro E K
    simp only [cc0_ffn2_bwd_eq_skeleton, k0_part1_eq_skeleton, k0_part2_eq_skeleton, k0_part3_eq_skeleton]
    unfold cc0_ffn2_bwd_skel
    simp only [k0_part1_eq_skeleton, k0_part2_eq_skeleton, k0_part3_eq_skeleton]
    unfold k0_part1_skel k0_part2_skel k0_part3_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact h1 | sl_exact h2 | sl_exact h3 | sl_exact h4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; refine (read_store_all _ _ zeros2 _ _ _).trans ?_; simp only [ld_of_load, ld_rows16, ld_rows32, ld_acts, ld_win, ld_wout, hf0, hf1, hf2, hf3, hf4, hf5, hf6, hf7, hf8, hf9, hf10]
    isplitl [H7]
    · iexists _; isplitr; swap; · iexact H7
      ipureintro; refine (read_store_all _ _ zeros2 _ _ _).trans ?_; simp only [ld_of_load, ld_rows16, ld_rows32, ld_acts, ld_win, ld_wout, hf0, hf1, hf2, hf3, hf4, hf5, hf6, hf7, hf8, hf9, hf10]
    isplitl [H8]
    · iexists _; isplitr; swap; · iexact H8
      ipureintro; refine (read_store_all _ _ zeros2 _ _ _).trans ?_; simp only [ld_of_load, ld_rows16, ld_rows32, ld_acts, ld_win, ld_wout, hf0, hf1, hf2, hf3, hf4, hf5, hf6, hf7, hf8, hf9, hf10]
    isplitl [H9]
    · iexists _; isplitr; swap; · iexact H9
      ipureintro; exact harg11.read_unread _
    iexists _; isplitr; swap; · iexact H10
    ipureintro; refine (read_store_all _ _ zeros2 _ _ _).trans ?_; simp only [ld_of_load, ld_rows16, ld_rows32, ld_acts, ld_win, ld_wout, hf0, hf1, hf2, hf3, hf4, hf5, hf6, hf7, hf8, hf9, hf10]

set_option maxHeartbeats 1000000 in
/-- At the last column block of a row block: only the first 512 columns exist. -/
theorem run_last (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1024x2048 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S512x2048 .f32) (harg12 : arg12.IsWhole)
    (h1 : ¬ k0_cond1 i = 1#1) (h2 : ¬ k0_cond2 i = 1#1) (h3 : k0_cond3 i = 1#1) (h4 : k0_cond4 i = 1#1)
    (xf : Vec F S512x2048 .bf16) (xa : Vec F S512x1024 .bf16) (xb : Vec F S512x1024 .bf16) (x1 : Vec F S2048x1024 .bf16) (x3 : Vec F S2048x1024 .bf16) (x2 : Vec F S1024x2048 .bf16) (ya : Vec F S512x1024 .bf16) (yb : Vec F S512x1024 .bf16) (ys : Vec F S512x1024 .bf16) (yh : Vec F S512x2048 .bf16) (acc : Vec F S512x2048 .f32) :
      ∀ (E : Set ℕ) (K : PUnit → sProp 𝕄),
        iprop(owns (c : Thread nD τ) arg2 fullShare xf ∗ owns (c : Thread nD τ) arg3 fullShare xa ∗ owns (c : Thread nD τ) arg4 fullShare xb ∗ owns (c : Thread nD τ) arg5 fullShare x1 ∗ owns (c : Thread nD τ) arg6 fullShare x3 ∗ owns (c : Thread nD τ) arg7 fullShare x2 ∗ owns (c : Thread nD τ) arg8 fullShare ya ∗ owns (c : Thread nD τ) arg9 fullShare yb ∗ owns (c : Thread nD τ) arg10 fullShare ys ∗ owns (c : Thread nD τ) arg11 fullShare yh ∗ owns (c : Thread nD τ) arg12 fullShare acc
            ∗ (iprop(owns (c : Thread nD τ) arg2 fullShare xf ∗ owns (c : Thread nD τ) arg3 fullShare xa ∗ owns (c : Thread nD τ) arg4 fullShare xb ∗ owns (c : Thread nD τ) arg5 fullShare x1 ∗ owns (c : Thread nD τ) arg6 fullShare x3 ∗ owns (c : Thread nD τ) arg7 fullShare x2 ∗ owns (c : Thread nD τ) arg8 fullShare (putL ya (k0_pay26 xf (topR x2) (leftC xa) (leftC xb))) ∗ owns (c : Thread nD τ) arg9 fullShare (putL yb (k0_pay27 xf (topR x2) (leftC xa))) ∗ owns (c : Thread nD τ) arg10 fullShare (putL ys (k0_pay28 (leftC xa) (leftC xb))) ∗ owns (c : Thread nD τ) arg11 fullShare (k0_pay4 (k0_pay3 (k0_pay26 xf (topR x2) (leftC xa) (leftC xb)) (k0_pay27 xf (topR x2) (leftC xa)) (leftW x1) (leftW x3) acc)) ∗ owns (c : Thread nD τ) arg12 fullShare (k0_pay3 (k0_pay26 xf (topR x2) (leftC xa) (leftC xb)) (k0_pay27 xf (topR x2) (leftC xa)) (leftW x1) (leftW x3) acc)) -∗ K ⟨⟩))
          ⊢ wp frame (wpE (defs₀ (F := F)) Variants.none c none) E (cc0_ffn2_bwd i arg2 harg2 arg3 harg3 arg4 harg4 arg5 harg5 arg6 harg6 arg7 harg7 arg8 harg8 arg9 harg9 arg10 harg10 arg11 harg11 arg12 harg12) K := by
    intro E K
    simp only [cc0_ffn2_bwd_eq_skeleton, k0_part1_eq_skeleton, k0_part2_eq_skeleton, k0_part3_eq_skeleton]
    unfold cc0_ffn2_bwd_skel
    simp only [k0_part1_eq_skeleton, k0_part2_eq_skeleton, k0_part3_eq_skeleton]
    unfold k0_part1_skel k0_part2_skel k0_part3_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact h1 | sl_exact h2 | sl_exact h3 | sl_exact h4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; sl_unfold_words; refine (read_store_left _ _ _).trans ?_; simp only [ld_of_load, cov_rows32, ld_rows16, ld_rows32, ld_acts, ld_win, ld_wout, hf0, hf1, hf2, hf3, hf4, hf5, hf6, hf7, hf8, hf9, hf10]
    isplitl [H7]
    · iexists _; isplitr; swap; · iexact H7
      ipureintro; sl_unfold_words; refine (read_store_left _ _ _).trans ?_; simp only [ld_of_load, cov_rows32, ld_rows16, ld_rows32, ld_acts, ld_win, ld_wout, hf0, hf1, hf2, hf3, hf4, hf5, hf6, hf7, hf8, hf9, hf10]
    isplitl [H8]
    · iexists _; isplitr; swap; · iexact H8
      ipureintro; sl_unfold_words; refine (read_store_left _ _ _).trans ?_; simp only [ld_of_load, cov_rows32, ld_rows16, ld_rows32, ld_acts, ld_win, ld_wout, hf0, hf1, hf2, hf3, hf4, hf5, hf6, hf7, hf8, hf9, hf10]
    isplitl [H9]
    · iexists _; isplitr; swap; · iexact H9
      ipureintro; sl_unfold_words; refine (read_store_all _ _ zeros2 _ _ _).trans ?_; simp only [ld_of_load, cov_rows32, ld_rows16, ld_rows32, ld_acts, ld_win, ld_wout, hf0, hf1, hf2, hf3, hf4, hf5, hf6, hf7, hf8, hf9, hf10]
    iexists _; isplitr; swap; · iexact H10
    ipureintro; sl_unfold_words; refine (read_store_all _ _ zeros2 _ _ _).trans ?_; simp only [ld_of_load, cov_rows32, ld_rows16, ld_rows32, ld_acts, ld_win, ld_wout, hf0, hf1, hf2, hf3, hf4, hf5, hf6, hf7, hf8, hf9, hf10]

end Cert.KernelIdeal.FfnBwd

end
-- ==== Proof.Run.lean ====
module

public import proofs.«01_k».proof.Proof.Body
public import proofs.«01_k».proof.Proof.Gen.KernelIdeal.Skeleton
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise.Index

@[expose] public section

set_option maxRecDepth 16384

noncomputable section

namespace Cert.KernelIdeal.FfnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which column block a point is on -/

theorem first_iff : ∀ t : Fin grid0.N, k0_cond1 (grid0.coords t) = 1#1 ↔ t.val % 6 = 0 := by decide +kernel
theorem mid_iff : ∀ t : Fin grid0.N, k0_cond2 (grid0.coords t) = 1#1 ↔ (t.val % 6 ≠ 0 ∧ t.val % 6 ≠ 5) := by decide +kernel
theorem last_iff : ∀ t : Fin grid0.N, k0_cond3 (grid0.coords t) = 1#1 ↔ t.val % 6 = 5 := by decide +kernel
theorem emit_iff : ∀ t : Fin grid0.N, k0_cond4 (grid0.coords t) = 1#1 ↔ t.val % 6 = 5 := by decide +kernel

/-- No point is idle for the three activations' gradients; the row block's own result is idle but at the last column block. -/
theorem busy6 : ∀ t : Fin grid0.N, cfg0.idle 6 (grid0.coords t) = false := by decide +kernel
theorem busy7 : ∀ t : Fin grid0.N, cfg0.idle 7 (grid0.coords t) = false := by decide +kernel
theorem busy8 : ∀ t : Fin grid0.N, cfg0.idle 8 (grid0.coords t) = false := by decide +kernel
theorem idle9 : ∀ t : Fin grid0.N, t.val % 6 ≠ 5 → cfg0.idle 9 (grid0.coords t) = true := by decide +kernel
theorem busy9 : ∀ t : Fin grid0.N, t.val % 6 = 5 → cfg0.idle 9 (grid0.coords t) = false := by decide +kernel

/-- How many columns (rows, for the second matrix) of a block lie inside its array: all but at the last column block, where it is half. -/
theorem cols1 : ∀ t : Fin grid0.N, ∀ a : Fin 2, win0_1.xsize (grid0.coords t) a = if a = 1 ∧ t.val % 6 = 5 then 512 else S512x1024.size a := by decide +kernel
theorem cols2 : ∀ t : Fin grid0.N, ∀ a : Fin 2, win0_2.xsize (grid0.coords t) a = if a = 1 ∧ t.val % 6 = 5 then 512 else S512x1024.size a := by decide +kernel
theorem cols3 : ∀ t : Fin grid0.N, ∀ a : Fin 2, win0_3.xsize (grid0.coords t) a = if a = 1 ∧ t.val % 6 = 5 then 512 else S2048x1024.size a := by decide +kernel
theorem cols4 : ∀ t : Fin grid0.N, ∀ a : Fin 2, win0_4.xsize (grid0.coords t) a = if a = 1 ∧ t.val % 6 = 5 then 512 else S2048x1024.size a := by decide +kernel
theorem rows5 : ∀ t : Fin grid0.N, ∀ a : Fin 2, win0_5.xsize (grid0.coords t) a = if a = 0 ∧ t.val % 6 = 5 then 512 else S1024x2048.size a := by decide +kernel
theorem cols6 : ∀ t : Fin grid0.N, ∀ a : Fin 2, win0_6.xsize (grid0.coords t) a = if a = 1 ∧ t.val % 6 = 5 then 512 else S512x1024.size a := by decide +kernel
theorem cols7 : ∀ t : Fin grid0.N, ∀ a : Fin 2, win0_7.xsize (grid0.coords t) a = if a = 1 ∧ t.val % 6 = 5 then 512 else S512x1024.size a := by decide +kernel
theorem cols8 : ∀ t : Fin grid0.N, ∀ a : Fin 2, win0_8.xsize (grid0.coords t) a = if a = 1 ∧ t.val % 6 = 5 then 512 else S512x1024.size a := by decide +kernel

/-! ## What the fetched blocks hold, whatever the staging buffers held past the arrays' end -/

/-- A clipped block filled out with a constant past the array's end. -/
def zero16 : Elt F .bf16 := Scalar.ofBits .bf16 0#16
def blkA (c : Dev nD) (t : Fin cfg0.N) : Vec F S512x1024 .bf16 := win0_1.fill (grid0.coords t) (fun _ => zero16) (iblk m c 1 t)
def blkB (c : Dev nD) (t : Fin cfg0.N) : Vec F S512x1024 .bf16 := win0_2.fill (grid0.coords t) (fun _ => zero16) (iblk m c 2 t)
def blk1 (c : Dev nD) (t : Fin cfg0.N) : Vec F S2048x1024 .bf16 := win0_3.fill (grid0.coords t) (fun _ => zero16) (iblk m c 3 t)
def blk3 (c : Dev nD) (t : Fin cfg0.N) : Vec F S2048x1024 .bf16 := win0_4.fill (grid0.coords t) (fun _ => zero16) (iblk m c 4 t)
def blk2 (c : Dev nD) (t : Fin cfg0.N) : Vec F S1024x2048 .bf16 := win0_5.fill (grid0.coords t) (fun _ => zero16) (iblk m c 5 t)
/-- The incoming gradient's row block. -/
def blkF (c : Dev nD) (t : Fin cfg0.N) : Vec F S512x2048 .bf16 := iblk m c 0 t

/-- Two fillings of a clipped block agree where the block lies inside its array. -/
theorem fill_agree {W : Window sig grid0} (i : grid0.Coords) {e : EltTy} (d d' : W.block.Idx → Elt F e) (g : (W.xblock i).Idx → Elt F e)
    (j : W.block.Idx) (h : ∀ a, (j a).val < W.xsize i a) : W.fill i d g j = W.fill i d' g j := by
  unfold Window.fill
  rw [dif_pos ((W.moved_iff i j).mpr h), dif_pos ((W.moved_iff i j).mpr h)]

theorem whole1 (c : Dev nD) (t : Fin cfg0.N) (h : t.val % 6 ≠ 5) (d : Vec F S512x1024 .bf16) :
    win0_1.fill (grid0.coords t) d (iblk m c 1 t) = blkA m c t :=
  funext fun j => fill_agree (W := win0_1) (grid0.coords t) d _ _ j fun a => by
    rw [cols1 t a, if_neg (fun e => h e.2)]; exact (j a).isLt
theorem half1 (c : Dev nD) (t : Fin cfg0.N) (d : Vec F S512x1024 .bf16) :
    leftC (win0_1.fill (grid0.coords t) d (iblk m c 1 t)) = leftC (blkA m c t) :=
  funext fun j => fill_agree (W := win0_1) (grid0.coords t) d _ _ _ fun a => by
    have h0 : (j 0).val < _ := (j 0).isLt
    have h1 : (j 1).val < _ := (j 1).isLt
    refine lt_of_lt_of_le (b := ![512, 512] a) ?_ ?_
    · rw [Rect.idx_unit_val]
      fin_cases a
      · exact lt_of_eq_of_lt (Nat.zero_add _) h0
      · exact lt_of_eq_of_lt (Nat.zero_add _) h1
    · rw [cols1 t a]; fin_cases a <;> split <;> first | decide | (next h => exact absurd h.1 (by decide))

theorem whole2 (c : Dev nD) (t : Fin cfg0.N) (h : t.val % 6 ≠ 5) (d : Vec F S512x1024 .bf16) :
    win0_2.fill (grid0.coords t) d (iblk m c 2 t) = blkB m c t :=
  funext fun j => fill_agree (W := win0_2) (grid0.coords t) d _ _ j fun a => by
    rw [cols2 t a, if_neg (fun e => h e.2)]; exact (j a).isLt
theorem half2 (c : Dev nD) (t : Fin cfg0.N) (d : Vec F S512x1024 .bf16) :
    leftC (win0_2.fill (grid0.coords t) d (iblk m c 2 t)) = leftC (blkB m c t) :=
  funext fun j => fill_agree (W := win0_2) (grid0.coords t) d _ _ _ fun a => by
    have h0 : (j 0).val < _ := (j 0).isLt
    have h1 : (j 1).val < _ := (j 1).isLt
    refine lt_of_lt_of_le (b := ![512, 512] a) ?_ ?_
    · rw [Rect.idx_unit_val]
      fin_cases a
      · exact lt_of_eq_of_lt (Nat.zero_add _) h0
      · exact lt_of_eq_of_lt (Nat.zero_add _) h1
    · rw [cols2 t a]; fin_cases a <;> split <;> first | decide | (next h => exact absurd h.1 (by decide))

theorem whole3 (c : Dev nD) (t : Fin cfg0.N) (h : t.val % 6 ≠ 5) (d : Vec F S2048x1024 .bf16) :
    win0_3.fill (grid0.coords t) d (iblk m c 3 t) = blk1 m c t :=
  funext fun j => fill_agree (W := win0_3) (grid0.coords t) d _ _ j fun a => by
    rw [cols3 t a, if_neg (fun e => h e.2)]; exact (j a).isLt
theorem half3 (c : Dev nD) (t : Fin cfg0.N) (d : Vec F S2048x1024 .bf16) :
    leftW (win0_3.fill (grid0.coords t) d (iblk m c 3 t)) = leftW (blk1 m c t) :=
  funext fun j => fill_agree (W := win0_3) (grid0.coords t) d _ _ _ fun a => by
    have h0 : (j 0).val < _ := (j 0).isLt
    have h1 : (j 1).val < _ := (j 1).isLt
    refine lt_of_lt_of_le (b := ![2048, 512] a) ?_ ?_
    · rw [Rect.idx_unit_val]
      fin_cases a
      · exact lt_of_eq_of_lt (Nat.zero_add _) h0
      · exact lt_of_eq_of_lt (Nat.zero_add _) h1
    · rw [cols3 t a]; fin_cases a <;> split <;> first | decide | (next h => exact absurd h.1 (by decide))

theorem whole4 (c : Dev nD) (t : Fin cfg0.N) (h : t.val % 6 ≠ 5) (d : Vec F S2048x1024 .bf16) :
    win0_4.fill (grid0.coords t) d (iblk m c 4 t) = blk3 m c t :=
  funext fun j => fill_agree (W := win0_4) (grid0.coords t) d _ _ j fun a => by
    rw [cols4 t a, if_neg (fun e => h e.2)]; exact (j a).isLt
theorem half4 (c : Dev nD) (t : Fin cfg0.N) (d : Vec F S2048x1024 .bf16) :
    leftW (win0_4.fill (grid0.coords t) d (iblk m c 4 t)) = leftW (blk3 m c t) :=
  funext fun j => fill_agree (W := win0_4) (grid0.coords t) d _ _ _ fun a => by
    have h0 : (j 0).val < _ := (j 0).isLt
    have h1 : (j 1).val < _ := (j 1).isLt
    refine lt_of_lt_of_le (b := ![2048, 512] a) ?_ ?_
    · rw [Rect.idx_unit_val]
      fin_cases a
      · exact lt_of_eq_of_lt (Nat.zero_add _) h0
      · exact lt_of_eq_of_lt (Nat.zero_add _) h1
    · rw [cols4 t a]; fin_cases a <;> split <;> first | decide | (next h => exact absurd h.1 (by decide))

theorem whole5 (c : Dev nD) (t : Fin cfg0.N) (h : t.val % 6 ≠ 5) (d : Vec F S1024x2048 .bf16) :
    win0_5.fill (grid0.coords t) d (iblk m c 5 t) = blk2 m c t :=
  funext fun j => fill_agree (W := win0_5) (grid0.coords t) d _ _ j fun a => by
    rw [rows5 t a, if_neg (fun e => h e.2)]; exact (j a).isLt
theorem half5 (c : Dev nD) (t : Fin cfg0.N) (d : Vec F S1024x2048 .bf16) :
    topR (win0_5.fill (grid0.coords t) d (iblk m c 5 t)) = topR (blk2 m c t) :=
  funext fun j => fill_agree (W := win0_5) (grid0.coords t) d _ _ _ fun a => by
    have h0 : (j 0).val < _ := (j 0).isLt
    have h1 : (j 1).val < _ := (j 1).isLt
    refine lt_of_lt_of_le (b := ![512, 2048] a) ?_ ?_
    · rw [Rect.idx_unit_val]
      fin_cases a
      · exact lt_of_eq_of_lt (Nat.zero_add _) h0
      · exact lt_of_eq_of_lt (Nat.zero_add _) h1
    · rw [rows5 t a]; fin_cases a <;> split <;> first | decide | (next h => exact absurd h.1 (by decide))

/-! ## What a point computes -/

/-- The gradient of the first activation, on a point's block. -/
def outDa (c : Dev nD) (t : Fin cfg0.N) : Vec F S512x1024 .bf16 :=
  if t.val % 6 = 5 then
    putL (fun _ => zero16) (k0_pay26 (blkF m c t) (topR (blk2 m c t)) (leftC (blkA m c t)) (leftC (blkB m c t)))
  else k0_pay10 (blkF m c t) (blk2 m c t) (blkA m c t) (blkB m c t)
/-- The gradient of the second activation. -/
def outDb (c : Dev nD) (t : Fin cfg0.N) : Vec F S512x1024 .bf16 :=
  if t.val % 6 = 5 then
    putL (fun _ => zero16) (k0_pay27 (blkF m c t) (topR (blk2 m c t)) (leftC (blkA m c t)))
  else k0_pay11 (blkF m c t) (blk2 m c t) (blkA m c t)
/-- The gated activation, computed again. -/
def outS (c : Dev nD) (t : Fin cfg0.N) : Vec F S512x1024 .bf16 :=
  if t.val % 6 = 5 then putL (fun _ => zero16) (k0_pay28 (leftC (blkA m c t)) (leftC (blkB m c t)))
  else k0_pay12 (blkA m c t) (blkB m c t)
/-- The row block's sum after a point, from the sum before it. -/
def accStep (c : Dev nD) (t : Fin cfg0.N) (prev : Vec F S512x2048 .f32) : Vec F S512x2048 .f32 :=
  if t.val % 6 = 0 then
    k0_pay1 (k0_pay10 (blkF m c t) (blk2 m c t) (blkA m c t) (blkB m c t)) (k0_pay11 (blkF m c t) (blk2 m c t) (blkA m c t))
      (blk1 m c t) (blk3 m c t)
  else if t.val % 6 = 5 then
    k0_pay3 (k0_pay26 (blkF m c t) (topR (blk2 m c t)) (leftC (blkA m c t)) (leftC (blkB m c t)))
      (k0_pay27 (blkF m c t) (topR (blk2 m c t)) (leftC (blkA m c t))) (leftW (blk1 m c t)) (leftW (blk3 m c t)) prev
  else
    k0_pay2 (k0_pay10 (blkF m c t) (blk2 m c t) (blkA m c t) (blkB m c t)) (k0_pay11 (blkF m c t) (blk2 m c t) (blkA m c t))
      (blk1 m c t) (blk3 m c t) prev
/-- The sum before point `n`: what the points before it left in the scratch buffer. -/
def accN (c : Dev nD) : Nat → Vec F S512x2048 .f32
  | 0 => fun _ => Scalar.ofBits .f32 0#32
  | n + 1 => if h : n < cfg0.N then accStep m c ⟨n, h⟩ (accN c n) else accN c n

theorem accN_succ (c : Dev nD) (t : Fin cfg0.N) : accN m c (t.val + 1) = accStep m c t (accN m c t.val) := by
  show (if h : t.val < cfg0.N then accStep m c ⟨t.val, h⟩ (accN m c t.val) else accN m c t.val) = _
  rw [dif_pos t.isLt]

/-- At the first column block nothing of the earlier sum survives. -/
theorem accStep_first (c : Dev nD) (t : Fin cfg0.N) (h : t.val % 6 = 0) (p q : Vec F S512x2048 .f32) :
    accStep m c t p = accStep m c t q := by
  unfold accStep; rw [if_pos h, if_pos h]

/-- The proof data: the arrays as the region finds them; after the body the inputs' blocks, the three activations'
    gradients and the row block's sum; between points, the scratch buffer at the sum so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blkA m c t
    | ⟨2, _⟩ => blkB m c t
    | ⟨3, _⟩ => blk1 m c t
    | ⟨4, _⟩ => blk3 m c t
    | ⟨5, _⟩ => blk2 m c t
    | ⟨6, _⟩ => outDa m c t
    | ⟨7, _⟩ => outDb m c t
    | ⟨8, _⟩ => outS m c t
    | ⟨9, _⟩ => k0_pay4 (accN m c (t.val + 1))
  Φ n := iprop((∃ f : Buf (Elt F) ((c : Thread nD τ).loc cc0_scratch0), ⌜n.val % 6 ≠ 0 → f = accN m c n.val⌝ ∗ (((c : Thread nD τ).loc cc0_scratch0) ↦{fullShare} f)) ∗ ∃ r, prngReg c r)
  q _ := fullShare
  owed _ := 0

theorem A_eq (c : Dev nD) (w : Fin cfg0.W) : (dats m 0 c).A w = V m c (Pipeline.arrRef spec0 w) := by dsimp only [dats]

theorem Phi_eq (c : Dev nD) (n : Fin (cfg0.N + 1)) : (dats m 0 c).Φ n =
    iprop((∃ f : Buf (Elt F) ((c : Thread nD τ).loc cc0_scratch0), ⌜n.val % 6 ≠ 0 → f = accN m c n.val⌝ ∗ (((c : Thread nD τ).loc cc0_scratch0) ↦{fullShare} f)) ∗ ∃ r, prngReg c r) := by
  dsimp only [dats]

theorem after0 (c : Dev nD) (t : Fin cfg0.N) : (dats m 0 c).after 0 t = iblk m c 0 t := by dsimp only [dats]
theorem after1 (c : Dev nD) (t : Fin cfg0.N) : (dats m 0 c).after 1 t = blkA m c t := by dsimp only [dats]
theorem after2 (c : Dev nD) (t : Fin cfg0.N) : (dats m 0 c).after 2 t = blkB m c t := by dsimp only [dats]
theorem after3 (c : Dev nD) (t : Fin cfg0.N) : (dats m 0 c).after 3 t = blk1 m c t := by dsimp only [dats]
theorem after4 (c : Dev nD) (t : Fin cfg0.N) : (dats m 0 c).after 4 t = blk3 m c t := by dsimp only [dats]
theorem after5 (c : Dev nD) (t : Fin cfg0.N) : (dats m 0 c).after 5 t = blk2 m c t := by dsimp only [dats]
theorem after6 (c : Dev nD) (t : Fin cfg0.N) : (dats m 0 c).after 6 t = outDa m c t := by dsimp only [dats]
theorem after7 (c : Dev nD) (t : Fin cfg0.N) : (dats m 0 c).after 7 t = outDb m c t := by dsimp only [dats]
theorem after8 (c : Dev nD) (t : Fin cfg0.N) : (dats m 0 c).after 8 t = outS m c t := by dsimp only [dats]
theorem after9 (c : Dev nD) (t : Fin cfg0.N) : (dats m 0 c).after 9 t = k0_pay4 (accN m c (t.val + 1)) := by dsimp only [dats]

/-! ## What the body finds -/

theorem before0 (c : Dev nD) (t : Fin cfg0.N) (d) : (dats m 0 c).before 0 t d = blkF m c t :=
  before0_0_of m (dats m 0 c) (A_eq m c 0) (after0 m c) t d
theorem before1 (c : Dev nD) (t : Fin cfg0.N) (d) : (dats m 0 c).before 1 t d = win0_1.fill (grid0.coords t) d (iblk m c 1 t) :=
  (dats m 0 c).before_fetched 1 t (fetch0_1 t) d
theorem before2 (c : Dev nD) (t : Fin cfg0.N) (d) : (dats m 0 c).before 2 t d = win0_2.fill (grid0.coords t) d (iblk m c 2 t) :=
  (dats m 0 c).before_fetched 2 t (fetch0_2 t) d
theorem before3 (c : Dev nD) (t : Fin cfg0.N) (d) : (dats m 0 c).before 3 t d = win0_3.fill (grid0.coords t) d (iblk m c 3 t) :=
  (dats m 0 c).before_fetched 3 t (fetch0_3 t) d
theorem before4 (c : Dev nD) (t : Fin cfg0.N) (d) : (dats m 0 c).before 4 t d = win0_4.fill (grid0.coords t) d (iblk m c 4 t) :=
  (dats m 0 c).before_fetched 4 t (fetch0_4 t) d
theorem before5 (c : Dev nD) (t : Fin cfg0.N) (d) : (dats m 0 c).before 5 t d = win0_5.fill (grid0.coords t) d (iblk m c 5 t) :=
  (dats m 0 c).before_fetched 5 t (fetch0_5 t) d

/-! ## What the body leaves -/

/-- A clipped window's buffer need only be right where its block lies inside the array. -/
theorem leaves_cut {c : Dev nD} (dat : Dat τ (Elt F) Unit ℕ (UR sig nD τ) ℕ cfg0 c) (w : Fin cfg0.W) (t : Fin cfg0.N)
    (hl : cfg0.loose w = true) (hi : cfg0.idle w (grid0.coords t) = false)
    (X : (cfg0.win w).block.Idx → Elt F (cfg0.win w).elt)
    (h : (cfg0.win w).cut (grid0.coords t) X = (cfg0.win w).cut (grid0.coords t) (dat.after w t)) :
    owns (c : Thread nD τ) ((cfg0.win w).stage (cfg0.slots t w)) fullShare X ⊢ (dat.leaves w t : sProp 𝕄) := by
  unfold Dat.leaves
  rw [show cfg0.idle w (cfg0.grid.coords t) = false from hi, hl]
  dsimp only
  iintro H
  iexists X
  rw [(cfg0.win w).fill_congr_cut _ h]
  iexact H

/-- An uncut window's buffer holds exactly what the data says. -/
theorem leaves_whole {c : Dev nD} (dat : Dat τ (Elt F) Unit ℕ (UR sig nD τ) ℕ cfg0 c) (w : Fin cfg0.W) (t : Fin cfg0.N)
    (hl : cfg0.loose w = false) (hi : cfg0.idle w (grid0.coords t) = false)
    (X : (cfg0.win w).block.Idx → Elt F (cfg0.win w).elt) (h : X = dat.after w t) :
    owns (c : Thread nD τ) ((cfg0.win w).stage (cfg0.slots t w)) fullShare X ⊢ (dat.leaves w t : sProp 𝕄) := by
  unfold Dat.leaves
  rw [show cfg0.idle w (cfg0.grid.coords t) = false from hi, hl, h]

theorem keeps1 (c : Dev nD) (t : Fin cfg0.N) (d : Vec F S512x1024 .bf16) :
    owns (c : Thread nD τ) (win0_1.stage (cfg0.slots t 1)) fullShare (win0_1.fill (grid0.coords t) d (iblk m c 1 t))
      ⊢ ((dats m 0 c).leaves 1 t : sProp 𝕄) :=
  leaves_cut (dats m 0 c) 1 t rfl rfl _ (by
    rw [after1]; exact (win0_1.cut_fill _ _ _).trans (win0_1.cut_fill (grid0.coords t) (fun _ => zero16) (iblk m c 1 t)).symm)

theorem keeps2 (c : Dev nD) (t : Fin cfg0.N) (d : Vec F S512x1024 .bf16) :
    owns (c : Thread nD τ) (win0_2.stage (cfg0.slots t 2)) fullShare (win0_2.fill (grid0.coords t) d (iblk m c 2 t))
      ⊢ ((dats m 0 c).leaves 2 t : sProp 𝕄) :=
  leaves_cut (dats m 0 c) 2 t rfl rfl _ (by
    rw [after2]; exact (win0_2.cut_fill _ _ _).trans (win0_2.cut_fill (grid0.coords t) (fun _ => zero16) (iblk m c 2 t)).symm)

theorem keeps3 (c : Dev nD) (t : Fin cfg0.N) (d : Vec F S2048x1024 .bf16) :
    owns (c : Thread nD τ) (win0_3.stage (cfg0.slots t 3)) fullShare (win0_3.fill (grid0.coords t) d (iblk m c 3 t))
      ⊢ ((dats m 0 c).leaves 3 t : sProp 𝕄) :=
  leaves_cut (dats m 0 c) 3 t rfl rfl _ (by
    rw [after3]; exact (win0_3.cut_fill _ _ _).trans (win0_3.cut_fill (grid0.coords t) (fun _ => zero16) (iblk m c 3 t)).symm)

theorem keeps4 (c : Dev nD) (t : Fin cfg0.N) (d : Vec F S2048x1024 .bf16) :
    owns (c : Thread nD τ) (win0_4.stage (cfg0.slots t 4)) fullShare (win0_4.fill (grid0.coords t) d (iblk m c 4 t))
      ⊢ ((dats m 0 c).leaves 4 t : sProp 𝕄) :=
  leaves_cut (dats m 0 c) 4 t rfl rfl _ (by
    rw [after4]; exact (win0_4.cut_fill _ _ _).trans (win0_4.cut_fill (grid0.coords t) (fun _ => zero16) (iblk m c 4 t)).symm)

theorem keeps5 (c : Dev nD) (t : Fin cfg0.N) (d : Vec F S1024x2048 .bf16) :
    owns (c : Thread nD τ) (win0_5.stage (cfg0.slots t 5)) fullShare (win0_5.fill (grid0.coords t) d (iblk m c 5 t))
      ⊢ ((dats m 0 c).leaves 5 t : sProp 𝕄) :=
  leaves_cut (dats m 0 c) 5 t rfl rfl _ (by
    rw [after5]; exact (win0_5.cut_fill _ _ _).trans (win0_5.cut_fill (grid0.coords t) (fun _ => zero16) (iblk m c 5 t)).symm)

theorem gives6 (c : Dev nD) (t : Fin cfg0.N) (X : Vec F S512x1024 .bf16) (hX : X = outDa m c t) :
    owns (c : Thread nD τ) (win0_6.stage (cfg0.slots t 6)) fullShare X ⊢ ((dats m 0 c).leaves 6 t : sProp 𝕄) :=
  leaves_cut (dats m 0 c) 6 t rfl (busy6 t) X (by rw [after6, hX])
theorem givesLeft6 (c : Dev nD) (t : Fin cfg0.N) (h5 : t.val % 6 = 5) (y : Vec F S512x1024 .bf16) (w : Vec F S512x512 .bf16)
    (hX : putL (fun _ => zero16) w = outDa m c t) :
    owns (c : Thread nD τ) (win0_6.stage (cfg0.slots t 6)) fullShare (putL y w) ⊢ ((dats m 0 c).leaves 6 t : sProp 𝕄) :=
  leaves_cut (dats m 0 c) 6 t rfl (busy6 t) _ (by
    rw [after6, ← hX]
    funext j
    have hj : (win0_6.xinj (grid0.coords t) j 1).val < 512 := by
      have h := (j 1).isLt
      have e : win0_6.xsize (grid0.coords t) 1 = 512 := by rw [cols6 t 1, if_pos ⟨rfl, h5⟩]
      exact lt_of_lt_of_eq h e
    show putL y w (win0_6.xinj (grid0.coords t) j) = putL (fun _ => zero16) w (win0_6.xinj (grid0.coords t) j)
    unfold putL
    rw [dif_pos hj, dif_pos hj])

theorem gives7 (c : Dev nD) (t : Fin cfg0.N) (X : Vec F S512x1024 .bf16) (hX : X = outDb m c t) :
    owns (c : Thread nD τ) (win0_7.stage (cfg0.slots t 7)) fullShare X ⊢ ((dats m 0 c).leaves 7 t : sProp 𝕄) :=
  leaves_cut (dats m 0 c) 7 t rfl (busy7 t) X (by rw [after7, hX])
theorem givesLeft7 (c : Dev nD) (t : Fin cfg0.N) (h5 : t.val % 6 = 5) (y : Vec F S512x1024 .bf16) (w : Vec F S512x512 .bf16)
    (hX : putL (fun _ => zero16) w = outDb m c t) :
    owns (c : Thread nD τ) (win0_7.stage (cfg0.slots t 7)) fullShare (putL y w) ⊢ ((dats m 0 c).leaves 7 t : sProp 𝕄) :=
  leaves_cut (dats m 0 c) 7 t rfl (busy7 t) _ (by
    rw [after7, ← hX]
    funext j
    have hj : (win0_7.xinj (grid0.coords t) j 1).val < 512 := by
      have h := (j 1).isLt
      have e : win0_7.xsize (grid0.coords t) 1 = 512 := by rw [cols7 t 1, if_pos ⟨rfl, h5⟩]
      exact lt_of_lt_of_eq h e
    show putL y w (win0_7.xinj (grid0.coords t) j) = putL (fun _ => zero16) w (win0_7.xinj (grid0.coords t) j)
    unfold putL
    rw [dif_pos hj, dif_pos hj])

theorem gives8 (c : Dev nD) (t : Fin cfg0.N) (X : Vec F S512x1024 .bf16) (hX : X = outS m c t) :
    owns (c : Thread nD τ) (win0_8.stage (cfg0.slots t 8)) fullShare X ⊢ ((dats m 0 c).leaves 8 t : sProp 𝕄) :=
  leaves_cut (dats m 0 c) 8 t rfl (busy8 t) X (by rw [after8, hX])
theorem givesLeft8 (c : Dev nD) (t : Fin cfg0.N) (h5 : t.val % 6 = 5) (y : Vec F S512x1024 .bf16) (w : Vec F S512x512 .bf16)
    (hX : putL (fun _ => zero16) w = outS m c t) :
    owns (c : Thread nD τ) (win0_8.stage (cfg0.slots t 8)) fullShare (putL y w) ⊢ ((dats m 0 c).leaves 8 t : sProp 𝕄) :=
  leaves_cut (dats m 0 c) 8 t rfl (busy8 t) _ (by
    rw [after8, ← hX]
    funext j
    have hj : (win0_8.xinj (grid0.coords t) j 1).val < 512 := by
      have h := (j 1).isLt
      have e : win0_8.xsize (grid0.coords t) 1 = 512 := by rw [cols8 t 1, if_pos ⟨rfl, h5⟩]
      exact lt_of_lt_of_eq h e
    show putL y w (win0_8.xinj (grid0.coords t) j) = putL (fun _ => zero16) w (win0_8.xinj (grid0.coords t) j)
    unfold putL
    rw [dif_pos hj, dif_pos hj])

/-! ## The body's results, from buffers filled out with anything -/

theorem full10 (c : Dev nD) (t : Fin cfg0.N) (h5 : t.val % 6 ≠ 5) (d5 : Vec F S1024x2048 .bf16) (d1 d2 : Vec F S512x1024 .bf16) :
    k0_pay10 (blkF m c t) (win0_5.fill (grid0.coords t) d5 (iblk m c 5 t)) (win0_1.fill (grid0.coords t) d1 (iblk m c 1 t)) (win0_2.fill (grid0.coords t) d2 (iblk m c 2 t)) = outDa m c t := by
  rw [outDa, if_neg h5]; simp only [whole1 m c t h5, whole2 m c t h5, whole3 m c t h5, whole4 m c t h5, whole5 m c t h5]
theorem full11 (c : Dev nD) (t : Fin cfg0.N) (h5 : t.val % 6 ≠ 5) (d5 : Vec F S1024x2048 .bf16) (d1 : Vec F S512x1024 .bf16) :
    k0_pay11 (blkF m c t) (win0_5.fill (grid0.coords t) d5 (iblk m c 5 t)) (win0_1.fill (grid0.coords t) d1 (iblk m c 1 t)) = outDb m c t := by
  rw [outDb, if_neg h5]; simp only [whole1 m c t h5, whole2 m c t h5, whole3 m c t h5, whole4 m c t h5, whole5 m c t h5]
theorem full12 (c : Dev nD) (t : Fin cfg0.N) (h5 : t.val % 6 ≠ 5) (d1 d2 : Vec F S512x1024 .bf16) :
    k0_pay12 (win0_1.fill (grid0.coords t) d1 (iblk m c 1 t)) (win0_2.fill (grid0.coords t) d2 (iblk m c 2 t)) = outS m c t := by
  rw [outS, if_neg h5]; simp only [whole1 m c t h5, whole2 m c t h5, whole3 m c t h5, whole4 m c t h5, whole5 m c t h5]
theorem full18 (c : Dev nD) (t : Fin cfg0.N) (h5 : t.val % 6 ≠ 5) (d5 : Vec F S1024x2048 .bf16) (d1 d2 : Vec F S512x1024 .bf16) :
    k0_pay18 (blkF m c t) (win0_5.fill (grid0.coords t) d5 (iblk m c 5 t)) (win0_1.fill (grid0.coords t) d1 (iblk m c 1 t)) (win0_2.fill (grid0.coords t) d2 (iblk m c 2 t)) = outDa m c t := by
  rw [outDa, if_neg h5]; simp only [whole1 m c t h5, whole2 m c t h5, whole3 m c t h5, whole4 m c t h5, whole5 m c t h5]; rfl
theorem full19 (c : Dev nD) (t : Fin cfg0.N) (h5 : t.val % 6 ≠ 5) (d5 : Vec F S1024x2048 .bf16) (d1 : Vec F S512x1024 .bf16) :
    k0_pay19 (blkF m c t) (win0_5.fill (grid0.coords t) d5 (iblk m c 5 t)) (win0_1.fill (grid0.coords t) d1 (iblk m c 1 t)) = outDb m c t := by
  rw [outDb, if_neg h5]; simp only [whole1 m c t h5, whole2 m c t h5, whole3 m c t h5, whole4 m c t h5, whole5 m c t h5]; rfl
theorem full20 (c : Dev nD) (t : Fin cfg0.N) (h5 : t.val % 6 ≠ 5) (d1 d2 : Vec F S512x1024 .bf16) :
    k0_pay20 (win0_1.fill (grid0.coords t) d1 (iblk m c 1 t)) (win0_2.fill (grid0.coords t) d2 (iblk m c 2 t)) = outS m c t := by
  rw [outS, if_neg h5]; simp only [whole1 m c t h5, whole2 m c t h5, whole3 m c t h5, whole4 m c t h5, whole5 m c t h5]; rfl
theorem half26 (c : Dev nD) (t : Fin cfg0.N) (h5 : t.val % 6 = 5) (d5 : Vec F S1024x2048 .bf16) (d1 d2 : Vec F S512x1024 .bf16) :
    putL (fun _ => zero16) (k0_pay26 (blkF m c t) (topR (win0_5.fill (grid0.coords t) d5 (iblk m c 5 t))) (leftC (win0_1.fill (grid0.coords t) d1 (iblk m c 1 t))) (leftC (win0_2.fill (grid0.coords t) d2 (iblk m c 2 t)))) = outDa m c t := by
  rw [outDa, if_pos h5]; simp only [half1 m c t, half2 m c t, half3 m c t, half4 m c t, half5 m c t]
theorem half27 (c : Dev nD) (t : Fin cfg0.N) (h5 : t.val % 6 = 5) (d5 : Vec F S1024x2048 .bf16) (d1 : Vec F S512x1024 .bf16) :
    putL (fun _ => zero16) (k0_pay27 (blkF m c t) (topR (win0_5.fill (grid0.coords t) d5 (iblk m c 5 t))) (leftC (win0_1.fill (grid0.coords t) d1 (iblk m c 1 t)))) = outDb m c t := by
  rw [outDb, if_pos h5]; simp only [half1 m c t, half2 m c t, half3 m c t, half4 m c t, half5 m c t]
theorem half28 (c : Dev nD) (t : Fin cfg0.N) (h5 : t.val % 6 = 5) (d1 d2 : Vec F S512x1024 .bf16) :
    putL (fun _ => zero16) (k0_pay28 (leftC (win0_1.fill (grid0.coords t) d1 (iblk m c 1 t))) (leftC (win0_2.fill (grid0.coords t) d2 (iblk m c 2 t)))) = outS m c t := by
  rw [outS, if_pos h5]; simp only [half1 m c t, half2 m c t, half3 m c t, half4 m c t, half5 m c t]
theorem accFirst (c : Dev nD) (t : Fin cfg0.N) (h0 : t.val % 6 = 0) (d5 : Vec F S1024x2048 .bf16) (d1 d2 : Vec F S512x1024 .bf16) (d3 d4 : Vec F S2048x1024 .bf16) :
    k0_pay1 (k0_pay10 (blkF m c t) (win0_5.fill (grid0.coords t) d5 (iblk m c 5 t)) (win0_1.fill (grid0.coords t) d1 (iblk m c 1 t)) (win0_2.fill (grid0.coords t) d2 (iblk m c 2 t))) (k0_pay11 (blkF m c t) (win0_5.fill (grid0.coords t) d5 (iblk m c 5 t)) (win0_1.fill (grid0.coords t) d1 (iblk m c 1 t))) (win0_3.fill (grid0.coords t) d3 (iblk m c 3 t)) (win0_4.fill (grid0.coords t) d4 (iblk m c 4 t)) = accN m c (t.val + 1) := by
  have h5 : t.val % 6 ≠ 5 := by omega
  rw [accN_succ, accStep, if_pos h0]; simp only [whole1 m c t h5, whole2 m c t h5, whole3 m c t h5, whole4 m c t h5, whole5 m c t h5]
theorem accMid (c : Dev nD) (t : Fin cfg0.N) (h0 : t.val % 6 ≠ 0) (h5 : t.val % 6 ≠ 5) (d5 : Vec F S1024x2048 .bf16) (d1 d2 : Vec F S512x1024 .bf16) (d3 d4 : Vec F S2048x1024 .bf16) :
    k0_pay2 (k0_pay18 (blkF m c t) (win0_5.fill (grid0.coords t) d5 (iblk m c 5 t)) (win0_1.fill (grid0.coords t) d1 (iblk m c 1 t)) (win0_2.fill (grid0.coords t) d2 (iblk m c 2 t))) (k0_pay19 (blkF m c t) (win0_5.fill (grid0.coords t) d5 (iblk m c 5 t)) (win0_1.fill (grid0.coords t) d1 (iblk m c 1 t))) (win0_3.fill (grid0.coords t) d3 (iblk m c 3 t)) (win0_4.fill (grid0.coords t) d4 (iblk m c 4 t)) (accN m c t.val) = accN m c (t.val + 1) := by
  rw [accN_succ, accStep, if_neg h0, if_neg h5]; simp only [whole1 m c t h5, whole2 m c t h5, whole3 m c t h5, whole4 m c t h5, whole5 m c t h5]; rfl
theorem accLast (c : Dev nD) (t : Fin cfg0.N) (h5 : t.val % 6 = 5) (d5 : Vec F S1024x2048 .bf16) (d1 d2 : Vec F S512x1024 .bf16) (d3 d4 : Vec F S2048x1024 .bf16) :
    k0_pay3 (k0_pay26 (blkF m c t) (topR (win0_5.fill (grid0.coords t) d5 (iblk m c 5 t))) (leftC (win0_1.fill (grid0.coords t) d1 (iblk m c 1 t))) (leftC (win0_2.fill (grid0.coords t) d2 (iblk m c 2 t)))) (k0_pay27 (blkF m c t) (topR (win0_5.fill (grid0.coords t) d5 (iblk m c 5 t))) (leftC (win0_1.fill (grid0.coords t) d1 (iblk m c 1 t)))) (leftW (win0_3.fill (grid0.coords t) d3 (iblk m c 3 t))) (leftW (win0_4.fill (grid0.coords t) d4 (iblk m c 4 t))) (accN m c t.val) = accN m c (t.val + 1) := by
  have h0 : t.val % 6 ≠ 0 := by omega
  rw [accN_succ, accStep, if_neg h0, if_pos h5]; simp only [half1 m c t, half2 m c t, half3 m c t, half4 m c t, half5 m c t]

/-! ## The body's obligation -/

/-- The whole of the scratch buffer, as a memref. -/
theorem scratch_owns (c : Dev nD) (f : Vec F S512x2048 .f32) :
    (owns (c : Thread nD τ) (Memref.whole cc0_scratch0) fullShare f : sProp 𝕄) ⊣⊢ (((c : Thread nD τ).loc cc0_scratch0) ↦{fullShare} (f : Buf (Elt F) ((c : Thread nD τ).loc cc0_scratch0))) := by
  rw [owns_whole_eq]
  constructor
  · iintro ⟨%g, %hg, H⟩; subst hg; iexact H
  · iintro H; iexists f; isplitr; · ipureintro; rfl
    iexact H

/-- The input gradient is written back only at the last column block. -/
theorem flush9 (t : Fin cfg0.N) (h : t.val % 6 ≠ 5) : (cfg0.win 9).flush t = false :=
  Bool.eq_false_iff.2 (mt (flush0_9 t).1 h)

set_option maxHeartbeats 1000000 in
theorem sound_body (c : Dev nD) (t : Fin cfg0.N) :
    iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)))
      ⊢ wp frame (wpE (defs₀ (F := F)) Variants.none c none) Set.univ (bodyAt0 t) (fun _ =>
        iprop((dats m 0 c).Φ t.succ ∗ (dats m 0 c).owesAt () t.succ ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t)) := by
  unfold bodyAt0
  rw [Phi_eq, Phi_eq, show (dats m 0 c).owesAt () t.succ = (dats m 0 c).owesAt () t.castSucc from rfl]
  simp only [before0, before1, before2, before3, before4, before5, Fin.val_succ, Fin.val_castSucc]
  have hN : t.val < 96 := lt_of_lt_of_eq t.isLt (show cfg0.N = 96 from N_0)
  iintro ⟨⟨⟨%f, %hf, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave Hs := (scratch_owns c f).2 $$ Hs
  by_cases h0 : t.val % 6 = 0
  · have h5 : t.val % 6 ≠ 5 := by omega
    iapply (run_first c (grid0.coords t) _ _ _ _ _ _ _ _ _ _ _ _ _ _ _ _ _ _ _ _ _ _ ((first_iff t).2 h0) (mt (mid_iff t).1 (by omega)) (mt (last_iff t).1 h5) (mt (emit_iff t).1 h5) _ _ _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hs]; · iexact Hs
    iintro ⟨H0, H1, H2, H3, H4, H5, H6, H7, H8, H9, Hs⟩
    isplitl [Hs Hg]
    · isplitl [Hs]
      · iexists accN m c (t.val + 1)
        isplitr; · ipureintro; intro _; rfl
        iapply (scratch_owns c _).1
        rw [← accFirst m c t h0 d5 d1 d2 d3 d4]
        iexact Hs
      · iexact Hg
    isplitl [Ho]; · iexact Ho
    isplitl [H0]; · iapply (leaves_whole (dats m 0 c) 0 t rfl rfl _ (after0 m c t).symm); iexact H0
    isplitl [H1]; · iapply (keeps1 m c t d1); iexact H1
    isplitl [H2]; · iapply (keeps2 m c t d2); iexact H2
    isplitl [H3]; · iapply (keeps3 m c t d3); iexact H3
    isplitl [H4]; · iapply (keeps4 m c t d4); iexact H4
    isplitl [H5]; · iapply (keeps5 m c t d5); iexact H5
    isplitl [H6]; · iapply (gives6 m c t _ (full10 m c t h5 d5 d1 d2)); iexact H6
    isplitl [H7]; · iapply (gives7 m c t _ (full11 m c t h5 d5 d1)); iexact H7
    isplitl [H8]; · iapply (gives8 m c t _ (full12 m c t h5 d1 d2)); iexact H8
    rw [(dats m 0 c).leaves_idle 9 t (idle9 t h5) (flush9 t h5)]
    iexists d9; iexact H9
  by_cases h5 : t.val % 6 = 5
  · have hf := hf h0; subst hf
    iapply (run_last c (grid0.coords t) _ _ _ _ _ _ _ _ _ _ _ _ _ _ _ _ _ _ _ _ _ _ (mt (first_iff t).1 h0) (mt (mid_iff t).1 (by omega)) ((last_iff t).2 h5) ((emit_iff t).2 h5) _ _ _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hs]; · iexact Hs
    iintro ⟨H0, H1, H2, H3, H4, H5, H6, H7, H8, H9, Hs⟩
    isplitl [Hs Hg]
    · isplitl [Hs]
      · iexists accN m c (t.val + 1)
        isplitr; · ipureintro; intro _; rfl
        iapply (scratch_owns c _).1
        rw [← accLast m c t h5 d5 d1 d2 d3 d4]
        iexact Hs
      · iexact Hg
    isplitl [Ho]; · iexact Ho
    isplitl [H0]; · iapply (leaves_whole (dats m 0 c) 0 t rfl rfl _ (after0 m c t).symm); iexact H0
    isplitl [H1]; · iapply (keeps1 m c t d1); iexact H1
    isplitl [H2]; · iapply (keeps2 m c t d2); iexact H2
    isplitl [H3]; · iapply (keeps3 m c t d3); iexact H3
    isplitl [H4]; · iapply (keeps4 m c t d4); iexact H4
    isplitl [H5]; · iapply (keeps5 m c t d5); iexact H5
    isplitl [H6]; · iapply (givesLeft6 m c t h5 _ _ (half26 m c t h5 d5 d1 d2)); iexact H6
    isplitl [H7]; · iapply (givesLeft7 m c t h5 _ _ (half27 m c t h5 d5 d1)); iexact H7
    isplitl [H8]; · iapply (givesLeft8 m c t h5 _ _ (half28 m c t h5 d1 d2)); iexact H8
    iapply (leaves_whole (dats m 0 c) 9 t rfl (busy9 t h5) _ ((congrArg k0_pay4 (accLast m c t h5 d5 d1 d2 d3 d4)).trans (after9 m c t).symm))
    iexact H9
  · have hf := hf h0; subst hf
    iapply (run_mid c (grid0.coords t) _ _ _ _ _ _ _ _ _ _ _ _ _ _ _ _ _ _ _ _ _ _ (mt (first_iff t).1 h0) ((mid_iff t).2 ⟨h0, h5⟩) (mt (last_iff t).1 h5) (mt (emit_iff t).1 h5) _ _ _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hs]; · iexact Hs
    iintro ⟨H0, H1, H2, H3, H4, H5, H6, H7, H8, H9, Hs⟩
    isplitl [Hs Hg]
    · isplitl [Hs]
      · iexists accN m c (t.val + 1)
        isplitr; · ipureintro; intro _; rfl
        iapply (scratch_owns c _).1
        rw [← accMid m c t h0 h5 d5 d1 d2 d3 d4]
        iexact Hs
      · iexact Hg
    isplitl [Ho]; · iexact Ho
    isplitl [H0]; · iapply (leaves_whole (dats m 0 c) 0 t rfl rfl _ (after0 m c t).symm); iexact H0
    isplitl [H1]; · iapply (keeps1 m c t d1); iexact H1
    isplitl [H2]; · iapply (keeps2 m c t d2); iexact H2
    isplitl [H3]; · iapply (keeps3 m c t d3); iexact H3
    isplitl [H4]; · iapply (keeps4 m c t d4); iexact H4
    isplitl [H5]; · iapply (keeps5 m c t d5); iexact H5
    isplitl [H6]; · iapply (gives6 m c t _ (full18 m c t h5 d5 d1 d2)); iexact H6
    isplitl [H7]; · iapply (gives7 m c t _ (full19 m c t h5 d5 d1)); iexact H7
    isplitl [H8]; · iapply (gives8 m c t _ (full20 m c t h5 d1 d2)); iexact H8
    rw [(dats m 0 c).leaves_idle 9 t (idle9 t h5) (flush9 t h5)]
    iexists d9; iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats m 0 c) (defs₀ (F := F)) Variants.none () Set.univ := fun t => by
  rw [bigSep_W0, bigSep_W0, defs₀_row]
  exact sound_body m c t

/-! ## The launch -/

theorem phi_in (c : Dev nD) : Pipeline.ΦA spec0 c ⊢ ((dats m 0 c).Φ 0 : sProp 𝕄) := by
  rw [Phi_eq, show Pipeline.ΦA spec0 c = iprop(Pipeline.scopedRest spec0 c ∗ ∃ r, prngReg c r) from rfl, scopedRest0_eq]
  iintro ⟨⟨%f, Hs⟩, Hg⟩
  isplitl [Hs]
  · iexists f
    isplitr; · ipureintro; intro h; exact absurd rfl h
    iexact Hs
  · iexact Hg
theorem phi_out (c : Dev nD) : ((dats m 0 c).Φ (Fin.last cfg0.N) : sProp 𝕄) ⊢ Pipeline.ΦA spec0 c := by
  rw [Phi_eq, show Pipeline.ΦA spec0 c = iprop(Pipeline.scopedRest spec0 c ∗ ∃ r, prngReg c r) from rfl, scopedRest0_eq]
  iintro ⟨⟨%f, %hf, Hs⟩, Hg⟩
  isplitl [Hs]
  · iexists f; iexact Hs
  · iexact Hg

set_option backward.isDefEq.respectTransparency.types false in
/-- From any memory with zero counters every weakly fair execution ends, the arrays at what the body's results fold
    them to, every other buffer as the host left it, and every counter at zero. -/
theorem run_main : θ_run defs (onTc (τ := τ) (main (F := F))) (s₀ m ρ) (fun r =>
    Pipeline.FramePost cfgs (dats m) 0 (V m) r ∧ r.2.sem = fun _ => 0) :=
  Pipeline.θ_run_frame_track (Q' := _) cfgs (dats m) (0 : Fin 1) launch0 defs₀ Variants.none m ρ main
    (hbody := body_obligation m)
    (hshare := fun c => (dats m 0 c).share_full fun _ => rfl) (howed := fun _ _ => rfl)
    (V := V m) (hmain := hmain m Variants.none) (hA := A_eq m)
    (hin := phi_in m) (hout := phi_out m)

end Cert.KernelIdeal.FfnBwd

end
-- ==== Proof.Blocks.lean ====
module

public import proofs.«01_k».proof.Proof.Run
public import proofs.«01_k».proof.Proof.Gen.KernelIdeal.Skeleton
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

namespace Cert.KernelIdeal.FfnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

/-! ## One block's arithmetic over the extended reals -/

/-- The logistic function, as the kernel computes it. -/
def sg (a : EReal) : EReal := Ideal.div 1 (1 + Ideal.exp (0 - a))
/-- The gradient of the first activation, of the gradient `d` of the gated product and the two activations. -/
def Da (d a b : EReal) : EReal := (d * b) * (sg a * (1 + a * (1 - sg a)))
/-- The gradient of the second activation. -/
def Db (d a : EReal) : EReal := d * (a * sg a)
/-- The gated product. -/
def Sv (a b : EReal) : EReal := (a * sg a) * b

theorem pay10_at (xf : Vec Ideal S512x2048 .bf16) (x2 : Vec Ideal S1024x2048 .bf16) (xa xb : Vec Ideal S512x1024 .bf16)
    (p : Fin 512) (q : Fin 1024) : k0_pay10 xf x2 xa xb (ix2 p q)
      = Da (∑ k : Fin 2048, xf (ix2 p k) * x2 (ix2 q k)) (xa (ix2 p q)) (xb (ix2 p q)) := by
  unfold Da sg
  pointwise [k0_pay10, k0_pay5, k0_pay6, k0_pay7, k0_pay8, k0_pay9]
theorem pay11_at (xf : Vec Ideal S512x2048 .bf16) (x2 : Vec Ideal S1024x2048 .bf16) (xa : Vec Ideal S512x1024 .bf16)
    (p : Fin 512) (q : Fin 1024) : k0_pay11 xf x2 xa (ix2 p q)
      = Db (∑ k : Fin 2048, xf (ix2 p k) * x2 (ix2 q k)) (xa (ix2 p q)) := by
  unfold Db sg
  pointwise [k0_pay11, k0_pay5, k0_pay6, k0_pay7, k0_pay8, k0_pay9]
theorem pay12_at (xa xb : Vec Ideal S512x1024 .bf16)
    (p : Fin 512) (q : Fin 1024) : k0_pay12 xa xb (ix2 p q) = Sv (xa (ix2 p q)) (xb (ix2 p q)) := by
  unfold Sv sg
  pointwise [k0_pay12, k0_pay5, k0_pay6, k0_pay7, k0_pay8, k0_pay9]
theorem pay26_at (xf : Vec Ideal S512x2048 .bf16) (x2 : Vec Ideal S512x2048 .bf16) (xa xb : Vec Ideal S512x512 .bf16)
    (p : Fin 512) (q : Fin 512) : k0_pay26 xf x2 xa xb (ix2 p q)
      = Da (∑ k : Fin 2048, xf (ix2 p k) * x2 (ix2 q k)) (xa (ix2 p q)) (xb (ix2 p q)) := by
  unfold Da sg
  pointwise [k0_pay26, k0_pay21, k0_pay22, k0_pay23, k0_pay24, k0_pay25]
theorem pay27_at (xf : Vec Ideal S512x2048 .bf16) (x2 : Vec Ideal S512x2048 .bf16) (xa : Vec Ideal S512x512 .bf16)
    (p : Fin 512) (q : Fin 512) : k0_pay27 xf x2 xa (ix2 p q)
      = Db (∑ k : Fin 2048, xf (ix2 p k) * x2 (ix2 q k)) (xa (ix2 p q)) := by
  unfold Db sg
  pointwise [k0_pay27, k0_pay21, k0_pay22, k0_pay23, k0_pay24, k0_pay25]
theorem pay28_at (xa xb : Vec Ideal S512x512 .bf16)
    (p : Fin 512) (q : Fin 512) : k0_pay28 xa xb (ix2 p q) = Sv (xa (ix2 p q)) (xb (ix2 p q)) := by
  unfold Sv sg
  pointwise [k0_pay28, k0_pay21, k0_pay22, k0_pay23, k0_pay24, k0_pay25]
theorem pay1_at (da db : FVec Ideal S512x1024 .bf16) (x1 x3 : Vec Ideal S2048x1024 .bf16)
    (p : Fin 512) (n : Fin 2048) : k0_pay1 da db x1 x3 (ix2 p n)
      = ((∑ k : Fin 1024, da (ix2 p k) * x1 (ix2 n k)) + ∑ k : Fin 1024, db (ix2 p k) * x3 (ix2 n k)) := by
  pointwise [k0_pay1]
theorem pay2_at (da db : FVec Ideal S512x1024 .bf16) (x1 x3 : Vec Ideal S2048x1024 .bf16) (acc : Vec Ideal S512x2048 .f32)
    (p : Fin 512) (n : Fin 2048) : k0_pay2 da db x1 x3 acc (ix2 p n)
      = acc (ix2 p n) + ((∑ k : Fin 1024, da (ix2 p k) * x1 (ix2 n k)) + ∑ k : Fin 1024, db (ix2 p k) * x3 (ix2 n k)) := by
  pointwise [k0_pay2]
theorem pay3_at (da db : FVec Ideal S512x512 .bf16) (x1 x3 : Vec Ideal S2048x512 .bf16) (acc : Vec Ideal S512x2048 .f32)
    (p : Fin 512) (n : Fin 2048) : k0_pay3 da db x1 x3 acc (ix2 p n)
      = acc (ix2 p n) + ((∑ k : Fin 512, da (ix2 p k) * x1 (ix2 n k)) + ∑ k : Fin 512, db (ix2 p k) * x3 (ix2 n k)) := by
  pointwise [k0_pay3]
theorem pay4_at (acc : Vec Ideal S512x2048 .f32) (p : Fin 512) (n : Fin 2048) : k0_pay4 acc (ix2 p n) = acc (ix2 p n) := by
  pointwise [k0_pay4]

end Cert.KernelIdeal.FfnBwd

end
-- ==== Proof.Values.lean ====
module

public import proofs.«01_k».proof.Proof.Blocks
public import proofs.«01_k».proof.Proof.Gen.KernelIdeal.Skeleton
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

namespace Cert.KernelIdeal.FfnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable (m : (ℓ : Loc nD τ sig) → Buf (Elt Ideal) ℓ)

/-! ## The arrays the call reads -/

/-- The arguments, by name. -/
abbrev argH (c : Dev nD) : S8192x2048.Idx → EReal := m ((c.tc : Thread nD τ).loc main_arg0)
abbrev argW1 (c : Dev nD) : S2048x5632.Idx → EReal := m ((c.tc : Thread nD τ).loc main_arg1)
abbrev argW3 (c : Dev nD) : S2048x5632.Idx → EReal := m ((c.tc : Thread nD τ).loc main_arg2)
abbrev argW2 (c : Dev nD) : S5632x2048.Idx → EReal := m ((c.tc : Thread nD τ).loc main_arg3)
abbrev argDf (c : Dev nD) : S8192x2048.Idx → EReal := m ((c.tc : Thread nD τ).loc main_arg4)

/-- An activation: a row of `h` against a column of a weight. -/
def actR (h : S8192x2048.Idx → EReal) (w : S2048x5632.Idx → EReal) (r : Fin 8192) (q : Fin 5632) : EReal :=
  ∑ k : Fin 2048, h (ix2 r k) * w (ix2 k q)
/-- The gated product's gradient: a row of `df` against a row of `w2`. -/
def dsR (df : S8192x2048.Idx → EReal) (w2 : S5632x2048.Idx → EReal) (r : Fin 8192) (q : Fin 5632) : EReal :=
  ∑ k : Fin 2048, df (ix2 r k) * w2 (ix2 q k)

theorem V_a (c : Dev nD) : V m c main_v1 = fun i => actR (argH m c) (argW1 m c) (i 0) (i 1) := by
  have h : V m c main_v1 = truncf (F := Ideal) .bf16 (Host.dotGeneral (F := Ideal) (φ₁ := .f32) (φ₂ := .f32) dot_S8192x2048_S2048x5632_S8192x5632_1_0_0_1_n_n none (argH m c) (argW1 m c)) bitsLt_bf16_f32 := by
    unfold V; simp only [hostOps0]; after_results_simp
  rw [h]; funext i; unfold actR; idx_vars i; pointwise
theorem V_b (c : Dev nD) : V m c main_v3 = fun i => actR (argH m c) (argW3 m c) (i 0) (i 1) := by
  have h : V m c main_v3 = truncf (F := Ideal) .bf16 (Host.dotGeneral (F := Ideal) (φ₁ := .f32) (φ₂ := .f32) dot_S8192x2048_S2048x5632_S8192x5632_1_0_0_1_n_n none (argH m c) (argW3 m c)) bitsLt_bf16_f32 := by
    unfold V; simp only [hostOps0]; after_results_simp
  rw [h]; funext i; unfold actR; idx_vars i; pointwise
theorem V_w1 (c : Dev nD) : V m c main_v4 = argW1 m c := by
  have h : V m c main_v4 = truncf (F := Ideal) .bf16 (argW1 m c) bitsLt_bf16_f32 := by
    unfold V; simp only [hostOps0]; after_results_simp
  rw [h]; exact funext fun i => rfl
theorem V_w3 (c : Dev nD) : V m c main_v5 = argW3 m c := by
  have h : V m c main_v5 = truncf (F := Ideal) .bf16 (argW3 m c) bitsLt_bf16_f32 := by
    unfold V; simp only [hostOps0]; after_results_simp
  rw [h]; exact funext fun i => rfl
theorem V_w2 (c : Dev nD) : V m c main_v6 = argW2 m c := by
  have h : V m c main_v6 = truncf (F := Ideal) .bf16 (argW2 m c) bitsLt_bf16_f32 := by
    unfold V; simp only [hostOps0]; after_results_simp
  rw [h]; exact funext fun i => rfl
theorem V_df (c : Dev nD) : V m c main_v7 = argDf m c := by
  have h : V m c main_v7 = truncf (F := Ideal) .bf16 (argDf m c) bitsLt_bf16_f32 := by
    unfold V; simp only [hostOps0]; after_results_simp
  rw [h]; exact funext fun i => rfl

/-! ## Where the blocks lie -/

theorem at0 : ∀ t : Fin grid0.N, win0_0.index t 0 = t.val / 6 ∧ win0_0.index t 1 = 0 := by decide +kernel
theorem read0 (t : Fin cfg0.N) (G : S8192x2048.Idx → EReal) (j : (win0_0.xblock (grid0.coords t)).Idx) (i : S8192x2048.Idx)
    (h0 : t.val / 6 * 512 + (j 0).val = (i 0).val) (h1 : (j 1).val = (i 1).val) :
    ((win0_0.blk t).view.read (Elt Ideal) G : _ → EReal) j = G i := by
  refine congrArg G (funext fun a => Fin.ext ?_)
  match a with
  | ⟨0, _⟩ =>
    refine (Rect.idx_unit_val _ _ _ _ _).trans ?_
    show win0_0.index t 0 * 512 + (j 0).val = (i 0).val
    rw [(at0 t).1, h0]
  | ⟨1, _⟩ =>
    refine (Rect.idx_unit_val _ _ _ _ _).trans ?_
    show win0_0.index t 1 * 2048 + (j 1).val = (i 1).val
    rw [(at0 t).2, Nat.zero_mul, Nat.zero_add, h1]
theorem at1 : ∀ t : Fin grid0.N, win0_1.index t 0 = t.val / 6 ∧ win0_1.index t 1 = t.val % 6 := by decide +kernel
theorem read1 (t : Fin cfg0.N) (G : S8192x5632.Idx → EReal) (j : (win0_1.xblock (grid0.coords t)).Idx) (i : S8192x5632.Idx)
    (h0 : t.val / 6 * 512 + (j 0).val = (i 0).val) (h1 : t.val % 6 * 1024 + (j 1).val = (i 1).val) :
    ((win0_1.blk t).view.read (Elt Ideal) G : _ → EReal) j = G i := by
  refine congrArg G (funext fun a => Fin.ext ?_)
  match a with
  | ⟨0, _⟩ =>
    refine (Rect.idx_unit_val _ _ _ _ _).trans ?_
    show win0_1.index t 0 * 512 + (j 0).val = (i 0).val
    rw [(at1 t).1, h0]
  | ⟨1, _⟩ =>
    refine (Rect.idx_unit_val _ _ _ _ _).trans ?_
    show win0_1.index t 1 * 1024 + (j 1).val = (i 1).val
    rw [(at1 t).2, h1]
theorem at2 : ∀ t : Fin grid0.N, win0_2.index t 0 = t.val / 6 ∧ win0_2.index t 1 = t.val % 6 := by decide +kernel
theorem read2 (t : Fin cfg0.N) (G : S8192x5632.Idx → EReal) (j : (win0_2.xblock (grid0.coords t)).Idx) (i : S8192x5632.Idx)
    (h0 : t.val / 6 * 512 + (j 0).val = (i 0).val) (h1 : t.val % 6 * 1024 + (j 1).val = (i 1).val) :
    ((win0_2.blk t).view.read (Elt Ideal) G : _ → EReal) j = G i := by
  refine congrArg G (funext fun a => Fin.ext ?_)
  match a with
  | ⟨0, _⟩ =>
    refine (Rect.idx_unit_val _ _ _ _ _).trans ?_
    show win0_2.index t 0 * 512 + (j 0).val = (i 0).val
    rw [(at2 t).1, h0]
  | ⟨1, _⟩ =>
    refine (Rect.idx_unit_val _ _ _ _ _).trans ?_
    show win0_2.index t 1 * 1024 + (j 1).val = (i 1).val
    rw [(at2 t).2, h1]
theorem at3 : ∀ t : Fin grid0.N, win0_3.index t 0 = 0 ∧ win0_3.index t 1 = t.val % 6 := by decide +kernel
theorem read3 (t : Fin cfg0.N) (G : S2048x5632.Idx → EReal) (j : (win0_3.xblock (grid0.coords t)).Idx) (i : S2048x5632.Idx)
    (h0 : (j 0).val = (i 0).val) (h1 : t.val % 6 * 1024 + (j 1).val = (i 1).val) :
    ((win0_3.blk t).view.read (Elt Ideal) G : _ → EReal) j = G i := by
  refine congrArg G (funext fun a => Fin.ext ?_)
  match a with
  | ⟨0, _⟩ =>
    refine (Rect.idx_unit_val _ _ _ _ _).trans ?_
    show win0_3.index t 0 * 2048 + (j 0).val = (i 0).val
    rw [(at3 t).1, Nat.zero_mul, Nat.zero_add, h0]
  | ⟨1, _⟩ =>
    refine (Rect.idx_unit_val _ _ _ _ _).trans ?_
    show win0_3.index t 1 * 1024 + (j 1).val = (i 1).val
    rw [(at3 t).2, h1]
theorem at4 : ∀ t : Fin grid0.N, win0_4.index t 0 = 0 ∧ win0_4.index t 1 = t.val % 6 := by decide +kernel
theorem read4 (t : Fin cfg0.N) (G : S2048x5632.Idx → EReal) (j : (win0_4.xblock (grid0.coords t)).Idx) (i : S2048x5632.Idx)
    (h0 : (j 0).val = (i 0).val) (h1 : t.val % 6 * 1024 + (j 1).val = (i 1).val) :
    ((win0_4.blk t).view.read (Elt Ideal) G : _ → EReal) j = G i := by
  refine congrArg G (funext fun a => Fin.ext ?_)
  match a with
  | ⟨0, _⟩ =>
    refine (Rect.idx_unit_val _ _ _ _ _).trans ?_
    show win0_4.index t 0 * 2048 + (j 0).val = (i 0).val
    rw [(at4 t).1, Nat.zero_mul, Nat.zero_add, h0]
  | ⟨1, _⟩ =>
    refine (Rect.idx_unit_val _ _ _ _ _).trans ?_
    show win0_4.index t 1 * 1024 + (j 1).val = (i 1).val
    rw [(at4 t).2, h1]
theorem at5 : ∀ t : Fin grid0.N, win0_5.index t 0 = t.val % 6 ∧ win0_5.index t 1 = 0 := by decide +kernel
theorem read5 (t : Fin cfg0.N) (G : S5632x2048.Idx → EReal) (j : (win0_5.xblock (grid0.coords t)).Idx) (i : S5632x2048.Idx)
    (h0 : t.val % 6 * 1024 + (j 0).val = (i 0).val) (h1 : (j 1).val = (i 1).val) :
    ((win0_5.blk t).view.read (Elt Ideal) G : _ → EReal) j = G i := by
  refine congrArg G (funext fun a => Fin.ext ?_)
  match a with
  | ⟨0, _⟩ =>
    refine (Rect.idx_unit_val _ _ _ _ _).trans ?_
    show win0_5.index t 0 * 1024 + (j 0).val = (i 0).val
    rw [(at5 t).1, h0]
  | ⟨1, _⟩ =>
    refine (Rect.idx_unit_val _ _ _ _ _).trans ?_
    show win0_5.index t 1 * 2048 + (j 1).val = (i 1).val
    rw [(at5 t).2, Nat.zero_mul, Nat.zero_add, h1]
theorem at6 : ∀ t : Fin grid0.N, win0_6.index t 0 = t.val / 6 ∧ win0_6.index t 1 = t.val % 6 := by decide +kernel
theorem read6 (t : Fin cfg0.N) (G : S8192x5632.Idx → EReal) (j : (win0_6.xblock (grid0.coords t)).Idx) (i : S8192x5632.Idx)
    (h0 : t.val / 6 * 512 + (j 0).val = (i 0).val) (h1 : t.val % 6 * 1024 + (j 1).val = (i 1).val) :
    ((win0_6.blk t).view.read (Elt Ideal) G : _ → EReal) j = G i := by
  refine congrArg G (funext fun a => Fin.ext ?_)
  match a with
  | ⟨0, _⟩ =>
    refine (Rect.idx_unit_val _ _ _ _ _).trans ?_
    show win0_6.index t 0 * 512 + (j 0).val = (i 0).val
    rw [(at6 t).1, h0]
  | ⟨1, _⟩ =>
    refine (Rect.idx_unit_val _ _ _ _ _).trans ?_
    show win0_6.index t 1 * 1024 + (j 1).val = (i 1).val
    rw [(at6 t).2, h1]
theorem at7 : ∀ t : Fin grid0.N, win0_7.index t 0 = t.val / 6 ∧ win0_7.index t 1 = t.val % 6 := by decide +kernel
theorem read7 (t : Fin cfg0.N) (G : S8192x5632.Idx → EReal) (j : (win0_7.xblock (grid0.coords t)).Idx) (i : S8192x5632.Idx)
    (h0 : t.val / 6 * 512 + (j 0).val = (i 0).val) (h1 : t.val % 6 * 1024 + (j 1).val = (i 1).val) :
    ((win0_7.blk t).view.read (Elt Ideal) G : _ → EReal) j = G i := by
  refine congrArg G (funext fun a => Fin.ext ?_)
  match a with
  | ⟨0, _⟩ =>
    refine (Rect.idx_unit_val _ _ _ _ _).trans ?_
    show win0_7.index t 0 * 512 + (j 0).val = (i 0).val
    rw [(at7 t).1, h0]
  | ⟨1, _⟩ =>
    refine (Rect.idx_unit_val _ _ _ _ _).trans ?_
    show win0_7.index t 1 * 1024 + (j 1).val = (i 1).val
    rw [(at7 t).2, h1]
theorem at8 : ∀ t : Fin grid0.N, win0_8.index t 0 = t.val / 6 ∧ win0_8.index t 1 = t.val % 6 := by decide +kernel
theorem read8 (t : Fin cfg0.N) (G : S8192x5632.Idx → EReal) (j : (win0_8.xblock (grid0.coords t)).Idx) (i : S8192x5632.Idx)
    (h0 : t.val / 6 * 512 + (j 0).val = (i 0).val) (h1 : t.val % 6 * 1024 + (j 1).val = (i 1).val) :
    ((win0_8.blk t).view.read (Elt Ideal) G : _ → EReal) j = G i := by
  refine congrArg G (funext fun a => Fin.ext ?_)
  match a with
  | ⟨0, _⟩ =>
    refine (Rect.idx_unit_val _ _ _ _ _).trans ?_
    show win0_8.index t 0 * 512 + (j 0).val = (i 0).val
    rw [(at8 t).1, h0]
  | ⟨1, _⟩ =>
    refine (Rect.idx_unit_val _ _ _ _ _).trans ?_
    show win0_8.index t 1 * 1024 + (j 1).val = (i 1).val
    rw [(at8 t).2, h1]
theorem at9 : ∀ t : Fin grid0.N, win0_9.index t 0 = t.val / 6 ∧ win0_9.index t 1 = 0 := by decide +kernel
theorem read9 (t : Fin cfg0.N) (G : S8192x2048.Idx → EReal) (j : (win0_9.xblock (grid0.coords t)).Idx) (i : S8192x2048.Idx)
    (h0 : t.val / 6 * 512 + (j 0).val = (i 0).val) (h1 : (j 1).val = (i 1).val) :
    ((win0_9.blk t).view.read (Elt Ideal) G : _ → EReal) j = G i := by
  refine congrArg G (funext fun a => Fin.ext ?_)
  match a with
  | ⟨0, _⟩ =>
    refine (Rect.idx_unit_val _ _ _ _ _).trans ?_
    show win0_9.index t 0 * 512 + (j 0).val = (i 0).val
    rw [(at9 t).1, h0]
  | ⟨1, _⟩ =>
    refine (Rect.idx_unit_val _ _ _ _ _).trans ?_
    show win0_9.index t 1 * 2048 + (j 1).val = (i 1).val
    rw [(at9 t).2, Nat.zero_mul, Nat.zero_add, h1]

/-! ## The blocks at an index -/

theorem topR_at (x : Vec Ideal S1024x2048 .bf16) (k : Fin 512) (n : Fin 2048) : (topR (F := Ideal) x (ix2 k n) : EReal) = x (ix2 ⟨k.val, by omega⟩ n) := by
  refine congrArg x ((eq_ix2 _).trans (congrArg₂ ix2 (Fin.ext ?_) (Fin.ext ?_)))
  · exact (Rect.idx_unit_val _ _ _ _ _).trans (Nat.zero_add _)
  · exact (Rect.idx_unit_val _ _ _ _ _).trans (Nat.zero_add _)
theorem leftC_at (x : Vec Ideal S512x1024 .bf16) (p : Fin 512) (k : Fin 512) : (leftC (F := Ideal) x (ix2 p k) : EReal) = x (ix2 p ⟨k.val, by omega⟩) := by
  refine congrArg x ((eq_ix2 _).trans (congrArg₂ ix2 (Fin.ext ?_) (Fin.ext ?_)))
  · exact (Rect.idx_unit_val _ _ _ _ _).trans (Nat.zero_add _)
  · exact (Rect.idx_unit_val _ _ _ _ _).trans (Nat.zero_add _)
theorem leftW_at (x : Vec Ideal S2048x1024 .bf16) (n : Fin 2048) (k : Fin 512) : (leftW (F := Ideal) x (ix2 n k) : EReal) = x (ix2 n ⟨k.val, by omega⟩) := by
  refine congrArg x ((eq_ix2 _).trans (congrArg₂ ix2 (Fin.ext ?_) (Fin.ext ?_)))
  · exact (Rect.idx_unit_val _ _ _ _ _).trans (Nat.zero_add _)
  · exact (Rect.idx_unit_val _ _ _ _ _).trans (Nat.zero_add _)

theorem blkF_at (c : Dev nD) (t : Fin cfg0.N) (p : Fin 512) (k : Fin 2048) (r : Fin 8192) (hr : t.val / 6 * 512 + p.val = r.val) :
    (blkF m c t (ix2 p k) : EReal) = argDf m c (ix2 r k) := by
  show ((win0_0.blk t).view.read (Elt Ideal) (V m c main_v7) : _ → EReal) (ix2 p k) = _
  rw [V_df]
  exact read0 t _ _ (ix2 r k) hr rfl
theorem blkA_at (c : Dev nD) (t : Fin cfg0.N) (p : Fin 512) (k : Fin 1024) (r : Fin 8192) (q : Fin 5632)
    (hr : t.val / 6 * 512 + p.val = r.val) (hq : t.val % 6 * 1024 + k.val = q.val) :
    (blkA m c t (ix2 p k) : EReal) = actR (argH m c) (argW1 m c) r q := by
  have hm : win0_1.moved (grid0.coords t) (ix2 p k) = true := (win0_1.moved_iff _ _).2 fun a => by
    have hq' := q.isLt
    have e := cols1 t a
    match a with
    | ⟨0, _⟩ => rw [e, if_neg (fun h => absurd (congrArg Fin.val h.1) Nat.zero_ne_one)]; exact p.isLt
    | ⟨1, _⟩ =>
      rw [e]; split
      · next h => show k.val < 512; have := h.2; omega
      · exact k.isLt
  unfold blkA Window.fill
  rw [dif_pos hm]
  show ((win0_1.blk t).view.read (Elt Ideal) (V m c main_v1) : _ → EReal) _ = _
  rw [V_a]
  exact read1 t _ _ (ix2 r q) hr hq
theorem blkB_at (c : Dev nD) (t : Fin cfg0.N) (p : Fin 512) (k : Fin 1024) (r : Fin 8192) (q : Fin 5632)
    (hr : t.val / 6 * 512 + p.val = r.val) (hq : t.val % 6 * 1024 + k.val = q.val) :
    (blkB m c t (ix2 p k) : EReal) = actR (argH m c) (argW3 m c) r q := by
  have hm : win0_2.moved (grid0.coords t) (ix2 p k) = true := (win0_2.moved_iff _ _).2 fun a => by
    have hq' := q.isLt
    have e := cols2 t a
    match a with
    | ⟨0, _⟩ => rw [e, if_neg (fun h => absurd (congrArg Fin.val h.1) Nat.zero_ne_one)]; exact p.isLt
    | ⟨1, _⟩ =>
      rw [e]; split
      · next h => show k.val < 512; have := h.2; omega
      · exact k.isLt
  unfold blkB Window.fill
  rw [dif_pos hm]
  show ((win0_2.blk t).view.read (Elt Ideal) (V m c main_v3) : _ → EReal) _ = _
  rw [V_b]
  exact read2 t _ _ (ix2 r q) hr hq
theorem blk1_at (c : Dev nD) (t : Fin cfg0.N) (n : Fin 2048) (k : Fin 1024) (q : Fin 5632)
    (hq : t.val % 6 * 1024 + k.val = q.val) : (blk1 m c t (ix2 n k) : EReal) = argW1 m c (ix2 n q) := by
  have hm : win0_3.moved (grid0.coords t) (ix2 n k) = true := (win0_3.moved_iff _ _).2 fun a => by
    have hq' := q.isLt
    have e := cols3 t a
    match a with
    | ⟨0, _⟩ => rw [e, if_neg (fun h => absurd (congrArg Fin.val h.1) Nat.zero_ne_one)]; exact n.isLt
    | ⟨1, _⟩ =>
      rw [e]; split
      · next h => show k.val < 512; have := h.2; omega
      · exact k.isLt
  unfold blk1 Window.fill
  rw [dif_pos hm]
  show ((win0_3.blk t).view.read (Elt Ideal) (V m c main_v4) : _ → EReal) _ = _
  rw [V_w1]
  exact read3 t _ _ (ix2 n q) rfl hq
theorem blk3_at (c : Dev nD) (t : Fin cfg0.N) (n : Fin 2048) (k : Fin 1024) (q : Fin 5632)
    (hq : t.val % 6 * 1024 + k.val = q.val) : (blk3 m c t (ix2 n k) : EReal) = argW3 m c (ix2 n q) := by
  have hm : win0_4.moved (grid0.coords t) (ix2 n k) = true := (win0_4.moved_iff _ _).2 fun a => by
    have hq' := q.isLt
    have e := cols4 t a
    match a with
    | ⟨0, _⟩ => rw [e, if_neg (fun h => absurd (congrArg Fin.val h.1) Nat.zero_ne_one)]; exact n.isLt
    | ⟨1, _⟩ =>
      rw [e]; split
      · next h => show k.val < 512; have := h.2; omega
      · exact k.isLt
  unfold blk3 Window.fill
  rw [dif_pos hm]
  show ((win0_4.blk t).view.read (Elt Ideal) (V m c main_v5) : _ → EReal) _ = _
  rw [V_w3]
  exact read4 t _ _ (ix2 n q) rfl hq
theorem blk2_at (c : Dev nD) (t : Fin cfg0.N) (k : Fin 1024) (n : Fin 2048) (q : Fin 5632)
    (hq : t.val % 6 * 1024 + k.val = q.val) : (blk2 m c t (ix2 k n) : EReal) = argW2 m c (ix2 q n) := by
  have hm : win0_5.moved (grid0.coords t) (ix2 k n) = true := (win0_5.moved_iff _ _).2 fun a => by
    have hq' := q.isLt
    have e := rows5 t a
    match a with
    | ⟨0, _⟩ =>
      rw [e]; split
      · next h => show k.val < 512; have := h.2; omega
      · exact k.isLt
    | ⟨1, _⟩ => rw [e, if_neg (fun h => absurd (congrArg Fin.val h.1) Nat.one_ne_zero)]; exact n.isLt
  unfold blk2 Window.fill
  rw [dif_pos hm]
  show ((win0_5.blk t).view.read (Elt Ideal) (V m c main_v6) : _ → EReal) _ = _
  rw [V_w2]
  exact read5 t _ _ (ix2 q n) hq rfl

/-! ## The three activations' gradients, on a block -/

/-- What the call computes, at a row and a column of the whole arrays. -/
def daK (c : Dev nD) (r : Fin 8192) (q : Fin 5632) : EReal :=
  Da (dsR (argDf m c) (argW2 m c) r q) (actR (argH m c) (argW1 m c) r q) (actR (argH m c) (argW3 m c) r q)
def dbK (c : Dev nD) (r : Fin 8192) (q : Fin 5632) : EReal :=
  Db (dsR (argDf m c) (argW2 m c) r q) (actR (argH m c) (argW1 m c) r q)
def sK (c : Dev nD) (r : Fin 8192) (q : Fin 5632) : EReal :=
  Sv (actR (argH m c) (argW1 m c) r q) (actR (argH m c) (argW3 m c) r q)

theorem dsum (c : Dev nD) (t : Fin cfg0.N) (p : Fin 512) (k : Fin 1024) (r : Fin 8192) (q : Fin 5632)
    (hr : t.val / 6 * 512 + p.val = r.val) (hq : t.val % 6 * 1024 + k.val = q.val) :
    (∑ k' : Fin 2048, (blkF m c t (ix2 p k') : EReal) * blk2 m c t (ix2 k k')) = dsR (argDf m c) (argW2 m c) r q :=
  Finset.sum_congr rfl fun k' _ => congrArg₂ (· * ·) (blkF_at m c t p k' r hr) (blk2_at m c t k k' q hq)
theorem dsumH (c : Dev nD) (t : Fin cfg0.N) (p : Fin 512) (k : Fin 512) (r : Fin 8192) (q : Fin 5632)
    (hr : t.val / 6 * 512 + p.val = r.val) (hq : t.val % 6 * 1024 + k.val = q.val) :
    (∑ k' : Fin 2048, (blkF m c t (ix2 p k') : EReal) * topR (F := Ideal) (blk2 m c t) (ix2 k k')) = dsR (argDf m c) (argW2 m c) r q := by
  refine Finset.sum_congr rfl fun k' _ => congrArg₂ (· * ·) (blkF_at m c t p k' r hr) ?_
  exact (topR_at _ k k').trans (blk2_at m c t ⟨k.val, by omega⟩ k' q hq)
theorem leftA_at (c : Dev nD) (t : Fin cfg0.N) (p : Fin 512) (k : Fin 512) (r : Fin 8192) (q : Fin 5632)
    (hr : t.val / 6 * 512 + p.val = r.val) (hq : t.val % 6 * 1024 + k.val = q.val) :
    (leftC (F := Ideal) (blkA m c t) (ix2 p k) : EReal) = actR (argH m c) (argW1 m c) r q :=
  (leftC_at _ p k).trans (blkA_at m c t p ⟨k.val, by omega⟩ r q hr hq)
theorem leftB_at (c : Dev nD) (t : Fin cfg0.N) (p : Fin 512) (k : Fin 512) (r : Fin 8192) (q : Fin 5632)
    (hr : t.val / 6 * 512 + p.val = r.val) (hq : t.val % 6 * 1024 + k.val = q.val) :
    (leftC (F := Ideal) (blkB m c t) (ix2 p k) : EReal) = actR (argH m c) (argW3 m c) r q :=
  (leftC_at _ p k).trans (blkB_at m c t p ⟨k.val, by omega⟩ r q hr hq)
theorem fullDa (c : Dev nD) (t : Fin cfg0.N) (p : Fin 512) (k : Fin 1024) (r : Fin 8192) (q : Fin 5632)
    (hr : t.val / 6 * 512 + p.val = r.val) (hq : t.val % 6 * 1024 + k.val = q.val) :
    (k0_pay10 (blkF m c t) (blk2 m c t) (blkA m c t) (blkB m c t) (ix2 p k) : EReal) = daK m c r q := by
  refine (pay10_at (blkF m c t) (blk2 m c t) (blkA m c t) (blkB m c t) p k).trans ?_
  exact congr (congrArg₂ Da (dsum m c t p k r q hr hq) (blkA_at m c t p k r q hr hq)) (blkB_at m c t p k r q hr hq)
theorem partDa (c : Dev nD) (t : Fin cfg0.N) (p : Fin 512) (k : Fin 512) (r : Fin 8192) (q : Fin 5632)
    (hr : t.val / 6 * 512 + p.val = r.val) (hq : t.val % 6 * 1024 + k.val = q.val) :
    (k0_pay26 (blkF m c t) (topR (blk2 m c t)) (leftC (blkA m c t)) (leftC (blkB m c t)) (ix2 p k) : EReal) = daK m c r q := by
  refine (pay26_at (blkF m c t) (topR (blk2 m c t)) (leftC (blkA m c t)) (leftC (blkB m c t)) p k).trans ?_
  exact congr (congrArg₂ Da (dsumH m c t p k r q hr hq) (leftA_at m c t p k r q hr hq)) (leftB_at m c t p k r q hr hq)
theorem outDa_at (c : Dev nD) (t : Fin cfg0.N) (p : Fin 512) (k : Fin 1024) (r : Fin 8192) (q : Fin 5632)
    (hr : t.val / 6 * 512 + p.val = r.val) (hq : t.val % 6 * 1024 + k.val = q.val) : (outDa m c t (ix2 p k) : EReal) = daK m c r q := by
  unfold outDa
  split
  · next h =>
    have hk : k.val < 512 := by have := q.isLt; omega
    unfold putL
    rw [dif_pos (show ((ix2 p k : S512x1024.Idx) 1).val < 512 from hk)]
    exact partDa m c t p ⟨k.val, hk⟩ r q hr hq
  · exact fullDa m c t p k r q hr hq
theorem fullDb (c : Dev nD) (t : Fin cfg0.N) (p : Fin 512) (k : Fin 1024) (r : Fin 8192) (q : Fin 5632)
    (hr : t.val / 6 * 512 + p.val = r.val) (hq : t.val % 6 * 1024 + k.val = q.val) :
    (k0_pay11 (blkF m c t) (blk2 m c t) (blkA m c t) (ix2 p k) : EReal) = dbK m c r q := by
  refine (pay11_at (blkF m c t) (blk2 m c t) (blkA m c t) p k).trans ?_
  exact congrArg₂ Db (dsum m c t p k r q hr hq) (blkA_at m c t p k r q hr hq)
theorem partDb (c : Dev nD) (t : Fin cfg0.N) (p : Fin 512) (k : Fin 512) (r : Fin 8192) (q : Fin 5632)
    (hr : t.val / 6 * 512 + p.val = r.val) (hq : t.val % 6 * 1024 + k.val = q.val) :
    (k0_pay27 (blkF m c t) (topR (blk2 m c t)) (leftC (blkA m c t)) (ix2 p k) : EReal) = dbK m c r q := by
  refine (pay27_at (blkF m c t) (topR (blk2 m c t)) (leftC (blkA m c t)) p k).trans ?_
  exact congrArg₂ Db (dsumH m c t p k r q hr hq) (leftA_at m c t p k r q hr hq)
theorem outDb_at (c : Dev nD) (t : Fin cfg0.N) (p : Fin 512) (k : Fin 1024) (r : Fin 8192) (q : Fin 5632)
    (hr : t.val / 6 * 512 + p.val = r.val) (hq : t.val % 6 * 1024 + k.val = q.val) : (outDb m c t (ix2 p k) : EReal) = dbK m c r q := by
  unfold outDb
  split
  · next h =>
    have hk : k.val < 512 := by have := q.isLt; omega
    unfold putL
    rw [dif_pos (show ((ix2 p k : S512x1024.Idx) 1).val < 512 from hk)]
    exact partDb m c t p ⟨k.val, hk⟩ r q hr hq
  · exact fullDb m c t p k r q hr hq
theorem fullS (c : Dev nD) (t : Fin cfg0.N) (p : Fin 512) (k : Fin 1024) (r : Fin 8192) (q : Fin 5632)
    (hr : t.val / 6 * 512 + p.val = r.val) (hq : t.val % 6 * 1024 + k.val = q.val) :
    (k0_pay12 (blkA m c t) (blkB m c t) (ix2 p k) : EReal) = sK m c r q := by
  refine (pay12_at (blkA m c t) (blkB m c t) p k).trans ?_
  exact congrArg₂ Sv (blkA_at m c t p k r q hr hq) (blkB_at m c t p k r q hr hq)
theorem partS (c : Dev nD) (t : Fin cfg0.N) (p : Fin 512) (k : Fin 512) (r : Fin 8192) (q : Fin 5632)
    (hr : t.val / 6 * 512 + p.val = r.val) (hq : t.val % 6 * 1024 + k.val = q.val) :
    (k0_pay28 (leftC (blkA m c t)) (leftC (blkB m c t)) (ix2 p k) : EReal) = sK m c r q := by
  refine (pay28_at (leftC (blkA m c t)) (leftC (blkB m c t)) p k).trans ?_
  exact congrArg₂ Sv (leftA_at m c t p k r q hr hq) (leftB_at m c t p k r q hr hq)
theorem outS_at (c : Dev nD) (t : Fin cfg0.N) (p : Fin 512) (k : Fin 1024) (r : Fin 8192) (q : Fin 5632)
    (hr : t.val / 6 * 512 + p.val = r.val) (hq : t.val % 6 * 1024 + k.val = q.val) : (outS m c t (ix2 p k) : EReal) = sK m c r q := by
  unfold outS
  split
  · next h =>
    have hk : k.val < 512 := by have := q.isLt; omega
    unfold putL
    rw [dif_pos (show ((ix2 p k : S512x1024.Idx) 1).val < 512 from hk)]
    exact partS m c t p ⟨k.val, hk⟩ r q hr hq
  · exact fullS m c t p k r q hr hq

end Cert.KernelIdeal.FfnBwd

end
-- ==== Proof.Final.lean ====
module

public import proofs.«01_k».proof.Proof.Values
public import proofs.«01_k».proof.Proof.Gen.KernelIdeal.Skeleton
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

namespace Cert.KernelIdeal.FfnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable (m : (ℓ : Loc nD τ sig) → Buf (Elt Ideal) ℓ)

/-! ## The sum over the column blocks -/

/-- Term `k` of the two products that make the last result, zero past the arrays' end. -/
def gN (c : Dev nD) (r : Fin 8192) (n : Fin 2048) (k : ℕ) : EReal :=
  if h : k < 5632 then daK m c r ⟨k, h⟩ * argW1 m c (ix2 n ⟨k, h⟩) else 0
def hN (c : Dev nD) (r : Fin 8192) (n : Fin 2048) (k : ℕ) : EReal :=
  if h : k < 5632 then dbK m c r ⟨k, h⟩ * argW3 m c (ix2 n ⟨k, h⟩) else 0
/-- The two products' sums over the first `K` columns. -/
def dhN (c : Dev nD) (r : Fin 8192) (n : Fin 2048) (K : ℕ) : EReal :=
  (∑ k ∈ Finset.range K, gN m c r n k) + ∑ k ∈ Finset.range K, hN m c r n k

theorem dhN_add (c : Dev nD) (r : Fin 8192) (n : Fin 2048) (K L : ℕ) : dhN m c r n (K + L)
    = dhN m c r n K + ((∑ k ∈ Finset.range L, gN m c r n (K + k)) + ∑ k ∈ Finset.range L, hN m c r n (K + k)) := by
  unfold dhN
  rw [Finset.sum_range_add, Finset.sum_range_add, add_add_add_comm]

theorem incfullDa (c : Dev nD) (t : Fin cfg0.N) (p : Fin 512) (n : Fin 2048) (r : Fin 8192)
    (hr : t.val / 6 * 512 + p.val = r.val) (h5 : t.val % 6 ≠ 5) :
    (∑ k : Fin 1024, (k0_pay10 (blkF m c t) (blk2 m c t) (blkA m c t) (blkB m c t) (ix2 p k) : EReal) * blk1 m c t (ix2 n k))
      = ∑ k ∈ Finset.range 1024, gN m c r n (t.val % 6 * 1024 + k) := by
  rw [Finset.sum_range]
  refine Finset.sum_congr rfl fun k _ => ?_
  have hk : t.val % 6 * 1024 + k.val < 5632 := by have := k.isLt; omega
  unfold gN
  rw [dif_pos hk]
  exact congrArg₂ (· * ·) (fullDa m c t p k r ⟨t.val % 6 * 1024 + k.val, hk⟩ hr rfl) (blk1_at m c t n k ⟨t.val % 6 * 1024 + k.val, hk⟩ rfl)
theorem incfullDb (c : Dev nD) (t : Fin cfg0.N) (p : Fin 512) (n : Fin 2048) (r : Fin 8192)
    (hr : t.val / 6 * 512 + p.val = r.val) (h5 : t.val % 6 ≠ 5) :
    (∑ k : Fin 1024, (k0_pay11 (blkF m c t) (blk2 m c t) (blkA m c t) (ix2 p k) : EReal) * blk3 m c t (ix2 n k))
      = ∑ k ∈ Finset.range 1024, hN m c r n (t.val % 6 * 1024 + k) := by
  rw [Finset.sum_range]
  refine Finset.sum_congr rfl fun k _ => ?_
  have hk : t.val % 6 * 1024 + k.val < 5632 := by have := k.isLt; omega
  unfold hN
  rw [dif_pos hk]
  exact congrArg₂ (· * ·) (fullDb m c t p k r ⟨t.val % 6 * 1024 + k.val, hk⟩ hr rfl) (blk3_at m c t n k ⟨t.val % 6 * 1024 + k.val, hk⟩ rfl)
theorem incpartDa (c : Dev nD) (t : Fin cfg0.N) (p : Fin 512) (n : Fin 2048) (r : Fin 8192)
    (hr : t.val / 6 * 512 + p.val = r.val) (h5 : t.val % 6 = 5) :
    (∑ k : Fin 512, (k0_pay26 (blkF m c t) (topR (blk2 m c t)) (leftC (blkA m c t)) (leftC (blkB m c t)) (ix2 p k) : EReal) * leftW (F := Ideal) (blk1 m c t) (ix2 n k))
      = ∑ k ∈ Finset.range 512, gN m c r n (t.val % 6 * 1024 + k) := by
  rw [Finset.sum_range]
  refine Finset.sum_congr rfl fun k _ => ?_
  have hk : t.val % 6 * 1024 + k.val < 5632 := by have := k.isLt; omega
  unfold gN
  rw [dif_pos hk]
  exact congrArg₂ (· * ·) (partDa m c t p k r ⟨t.val % 6 * 1024 + k.val, hk⟩ hr rfl) ((leftW_at _ n k).trans (blk1_at m c t n ⟨k.val, by omega⟩ ⟨t.val % 6 * 1024 + k.val, hk⟩ rfl))
theorem incpartDb (c : Dev nD) (t : Fin cfg0.N) (p : Fin 512) (n : Fin 2048) (r : Fin 8192)
    (hr : t.val / 6 * 512 + p.val = r.val) (h5 : t.val % 6 = 5) :
    (∑ k : Fin 512, (k0_pay27 (blkF m c t) (topR (blk2 m c t)) (leftC (blkA m c t)) (ix2 p k) : EReal) * leftW (F := Ideal) (blk3 m c t) (ix2 n k))
      = ∑ k ∈ Finset.range 512, hN m c r n (t.val % 6 * 1024 + k) := by
  rw [Finset.sum_range]
  refine Finset.sum_congr rfl fun k _ => ?_
  have hk : t.val % 6 * 1024 + k.val < 5632 := by have := k.isLt; omega
  unfold hN
  rw [dif_pos hk]
  exact congrArg₂ (· * ·) (partDb m c t p k r ⟨t.val % 6 * 1024 + k.val, hk⟩ hr rfl) ((leftW_at _ n k).trans (blk3_at m c t n ⟨k.val, by omega⟩ ⟨t.val % 6 * 1024 + k.val, hk⟩ rfl))

/-- One point adds its column block's terms. -/
theorem step_at (c : Dev nD) (t : Fin cfg0.N) (p : Fin 512) (n : Fin 2048) (r : Fin 8192)
    (hr : t.val / 6 * 512 + p.val = r.val) (prev : Vec Ideal S512x2048 .f32)
    (hp : t.val % 6 ≠ 0 → (prev (ix2 p n) : EReal) = dhN m c r n (t.val % 6 * 1024)) :
    (accStep m c t prev (ix2 p n) : EReal) = dhN m c r n (min ((t.val % 6 + 1) * 1024) 5632) := by
  unfold accStep
  split
  · next h =>
    refine (pay1_at _ _ _ _ p n).trans ?_
    refine (congrArg₂ (· + ·) (incfullDa m c t p n r hr (by omega)) (incfullDb m c t p n r hr (by omega))).trans ?_
    rw [h]
    unfold dhN
    simp only [Nat.zero_mul, Nat.zero_add, Nat.one_mul]
    rfl
  · next h =>
    split
    · next h5 =>
      refine (pay3_at _ _ _ _ _ p n).trans ?_
      refine (congrArg₂ (· + ·) (hp h) (congrArg₂ (· + ·) (incpartDa m c t p n r hr h5) (incpartDb m c t p n r hr h5))).trans ?_
      rw [← dhN_add]
      congr 1
      omega
    · next h5 =>
      refine (pay2_at _ _ _ _ _ p n).trans ?_
      refine (congrArg₂ (· + ·) (hp h) (congrArg₂ (· + ·) (incfullDa m c t p n r hr h5) (incfullDb m c t p n r hr h5))).trans ?_
      rw [← dhN_add]
      congr 1
      omega

/-- After column block `j` of a row block: the terms of the column blocks up to it. -/
theorem acc_at (c : Dev nD) (i : ℕ) (hi : i < 16) (p : Fin 512) (n : Fin 2048) (r : Fin 8192) (hr : i * 512 + p.val = r.val) :
    ∀ j : ℕ, j < 6 → (accN m c (6 * i + j + 1) (ix2 p n) : EReal) = dhN m c r n (min ((j + 1) * 1024) 5632)
  | 0, _ => by
    have hN : 6 * i < cfg0.N := by show _ < 96; omega
    have hs := step_at m c ⟨6 * i, hN⟩ p n r (by show 6 * i / 6 * 512 + p.val = r.val; omega) (accN m c (6 * i))
      (fun h => absurd (show 6 * i % 6 = 0 by omega) h)
    rw [← accN_succ m c ⟨6 * i, hN⟩] at hs
    rw [show (⟨6 * i, hN⟩ : Fin cfg0.N).val % 6 = 0 from by show 6 * i % 6 = 0; omega] at hs
    exact hs
  | j + 1, hj => by
    have ih := acc_at c i hi p n r hr j (by omega)
    have hN : 6 * i + j + 1 < cfg0.N := by show _ < 96; omega
    have e6 : (⟨6 * i + j + 1, hN⟩ : Fin cfg0.N).val % 6 = j + 1 := by show (6 * i + j + 1) % 6 = j + 1; omega
    have hs := step_at m c ⟨6 * i + j + 1, hN⟩ p n r (by show (6 * i + j + 1) / 6 * 512 + p.val = r.val; omega)
      (accN m c (6 * i + j + 1)) (fun _ => by rw [e6, ih]; congr 1; omega)
    rw [← accN_succ m c ⟨6 * i + j + 1, hN⟩, e6] at hs
    exact hs

/-- The last result: the two products over all columns. -/
def dhK (c : Dev nD) (r : Fin 8192) (n : Fin 2048) : EReal :=
  (∑ q : Fin 5632, daK m c r q * argW1 m c (ix2 n q)) + ∑ q : Fin 5632, dbK m c r q * argW3 m c (ix2 n q)
theorem dhN_all (c : Dev nD) (r : Fin 8192) (n : Fin 2048) : dhN m c r n 5632 = dhK m c r n := by
  unfold dhN dhK
  rw [Finset.sum_range, Finset.sum_range]
  refine congrArg₂ (· + ·) (Finset.sum_congr rfl fun q _ => ?_) (Finset.sum_congr rfl fun q _ => ?_)
  · unfold gN; rw [dif_pos q.isLt]
  · unfold hN; rw [dif_pos q.isLt]

/-! ## The four result arrays -/

abbrev arr6 (c : Dev nD) : S8192x5632.Idx → EReal := fun i => daK m c (i 0) (i 1)
theorem flushed6 (c : Dev nD) (t : Fin cfg0.N) :
    ∀ j : (win0_6.xblock (grid0.coords t)).Idx,
    (win0_6.cut (grid0.coords t) (outDa m c t) j : EReal) = ((win0_6.blk t).view.read (Elt Ideal) (arr6 m c) : _ → EReal) j := by
  intro j
  have ht : t.val < 96 := t.isLt
  have e0 : (j 0).val < win0_6.xsize (grid0.coords t) 0 := (j 0).isLt
  have e1 : (j 1).val < win0_6.xsize (grid0.coords t) 1 := (j 1).isLt
  rw [cols6 t 0, if_neg (fun h => absurd (congrArg Fin.val h.1) Nat.zero_ne_one)] at e0
  rw [cols6 t 1] at e1
  have e0 : (j 0).val < 512 := e0
  have h1 : (j 1).val < 1024 ∧ t.val % 6 * 1024 + (j 1).val < 5632 := by
    by_cases h : t.val % 6 = 5
    · rw [if_pos ⟨rfl, h⟩] at e1; omega
    · rw [if_neg (fun h' => h h'.2)] at e1
      have e1 : (j 1).val < 1024 := e1
      omega
  rw [read6 t (arr6 m c) j (ix2 ⟨t.val / 6 * 512 + (j 0).val, by omega⟩ ⟨t.val % 6 * 1024 + (j 1).val, h1.2⟩) rfl rfl]
  have e : win0_6.cut (grid0.coords t) (outDa m c t) j = outDa m c t (ix2 ⟨(j 0).val, e0⟩ ⟨(j 1).val, h1.1⟩) :=
    congrArg (outDa m c t) ((eq_ix2 _).trans (congrArg₂ ix2 (Fin.ext rfl) (Fin.ext rfl)))
  rw [e]
  exact outDa_at m c t _ _ _ _ rfl rfl
theorem final6 (c : Dev nD) : (dats m 0 c).arrAt 6 cfg0.N = arr6 m c := by
  refine (dats m 0 c).arrAt_eq_of_cover 6 (arr6 m c) (fun t _ => ?_) (fun i => ?_)
  · refine (congrArg (win0_6.cut (grid0.coords t)) (after6 m c t)).trans (funext fun j => ?_)
    exact flushed6 m c t j
  · have i0 : (i 0).val < 8192 := (i 0).isLt
    have i1 : (i 1).val < 5632 := (i 1).isLt
    have hN : (i 0).val / 512 * 6 + (i 1).val / 1024 < cfg0.N := by show _ < 96; omega
    refine ⟨⟨(i 0).val / 512 * 6 + (i 1).val / 1024, hN⟩, flush0_6 _, ?_⟩
    show i ∈ ((View.whole main_v8_0).slice (win0_6.rect ⟨(i 0).val / 512 * 6 + (i 1).val / 1024, hN⟩)).set
    rw [View.set_slice_whole]
    refine Rect.mem_set_unit.2 fun a => ?_
    have hx := cols6 ⟨(i 0).val / 512 * 6 + (i 1).val / 1024, hN⟩ a
    have ea := at6 ⟨(i 0).val / 512 * 6 + (i 1).val / 1024, hN⟩
    match a with
    | ⟨0, _⟩ =>
      show win0_6.index _ 0 * 512 ≤ (i 0).val ∧ (i 0).val < win0_6.index _ 0 * 512 + win0_6.xsize (grid0.coords _) 0
      rw [ea.1, show win0_6.xsize (grid0.coords _) 0 = 512 from hx.trans (if_neg (fun h => absurd (congrArg Fin.val h.1) Nat.zero_ne_one))]
      show ((i 0).val / 512 * 6 + (i 1).val / 1024) / 6 * 512 ≤ (i 0).val ∧ (i 0).val < ((i 0).val / 512 * 6 + (i 1).val / 1024) / 6 * 512 + 512
      omega
    | ⟨1, _⟩ =>
      show win0_6.index _ 1 * 1024 ≤ (i 1).val ∧ (i 1).val < win0_6.index _ 1 * 1024 + win0_6.xsize (grid0.coords _) 1
      rw [ea.2]
      by_cases h : ((i 0).val / 512 * 6 + (i 1).val / 1024) % 6 = 5
      · rw [show win0_6.xsize (grid0.coords _) 1 = 512 from hx.trans (if_pos ⟨rfl, h⟩)]
        show ((i 0).val / 512 * 6 + (i 1).val / 1024) % 6 * 1024 ≤ (i 1).val ∧ (i 1).val < ((i 0).val / 512 * 6 + (i 1).val / 1024) % 6 * 1024 + 512
        omega
      · rw [show win0_6.xsize (grid0.coords _) 1 = 1024 from hx.trans (if_neg (fun h' => h h'.2))]
        show ((i 0).val / 512 * 6 + (i 1).val / 1024) % 6 * 1024 ≤ (i 1).val ∧ (i 1).val < ((i 0).val / 512 * 6 + (i 1).val / 1024) % 6 * 1024 + 1024
        omega
abbrev arr7 (c : Dev nD) : S8192x5632.Idx → EReal := fun i => dbK m c (i 0) (i 1)
theorem flushed7 (c : Dev nD) (t : Fin cfg0.N) :
    ∀ j : (win0_7.xblock (grid0.coords t)).Idx,
    (win0_7.cut (grid0.coords t) (outDb m c t) j : EReal) = ((win0_7.blk t).view.read (Elt Ideal) (arr7 m c) : _ → EReal) j := by
  intro j
  have ht : t.val < 96 := t.isLt
  have e0 : (j 0).val < win0_7.xsize (grid0.coords t) 0 := (j 0).isLt
  have e1 : (j 1).val < win0_7.xsize (grid0.coords t) 1 := (j 1).isLt
  rw [cols7 t 0, if_neg (fun h => absurd (congrArg Fin.val h.1) Nat.zero_ne_one)] at e0
  rw [cols7 t 1] at e1
  have e0 : (j 0).val < 512 := e0
  have h1 : (j 1).val < 1024 ∧ t.val % 6 * 1024 + (j 1).val < 5632 := by
    by_cases h : t.val % 6 = 5
    · rw [if_pos ⟨rfl, h⟩] at e1; omega
    · rw [if_neg (fun h' => h h'.2)] at e1
      have e1 : (j 1).val < 1024 := e1
      omega
  rw [read7 t (arr7 m c) j (ix2 ⟨t.val / 6 * 512 + (j 0).val, by omega⟩ ⟨t.val % 6 * 1024 + (j 1).val, h1.2⟩) rfl rfl]
  have e : win0_7.cut (grid0.coords t) (outDb m c t) j = outDb m c t (ix2 ⟨(j 0).val, e0⟩ ⟨(j 1).val, h1.1⟩) :=
    congrArg (outDb m c t) ((eq_ix2 _).trans (congrArg₂ ix2 (Fin.ext rfl) (Fin.ext rfl)))
  rw [e]
  exact outDb_at m c t _ _ _ _ rfl rfl
theorem final7 (c : Dev nD) : (dats m 0 c).arrAt 7 cfg0.N = arr7 m c := by
  refine (dats m 0 c).arrAt_eq_of_cover 7 (arr7 m c) (fun t _ => ?_) (fun i => ?_)
  · refine (congrArg (win0_7.cut (grid0.coords t)) (after7 m c t)).trans (funext fun j => ?_)
    exact flushed7 m c t j
  · have i0 : (i 0).val < 8192 := (i 0).isLt
    have i1 : (i 1).val < 5632 := (i 1).isLt
    have hN : (i 0).val / 512 * 6 + (i 1).val / 1024 < cfg0.N := by show _ < 96; omega
    refine ⟨⟨(i 0).val / 512 * 6 + (i 1).val / 1024, hN⟩, flush0_7 _, ?_⟩
    show i ∈ ((View.whole main_v8_1).slice (win0_7.rect ⟨(i 0).val / 512 * 6 + (i 1).val / 1024, hN⟩)).set
    rw [View.set_slice_whole]
    refine Rect.mem_set_unit.2 fun a => ?_
    have hx := cols7 ⟨(i 0).val / 512 * 6 + (i 1).val / 1024, hN⟩ a
    have ea := at7 ⟨(i 0).val / 512 * 6 + (i 1).val / 1024, hN⟩
    match a with
    | ⟨0, _⟩ =>
      show win0_7.index _ 0 * 512 ≤ (i 0).val ∧ (i 0).val < win0_7.index _ 0 * 512 + win0_7.xsize (grid0.coords _) 0
      rw [ea.1, show win0_7.xsize (grid0.coords _) 0 = 512 from hx.trans (if_neg (fun h => absurd (congrArg Fin.val h.1) Nat.zero_ne_one))]
      show ((i 0).val / 512 * 6 + (i 1).val / 1024) / 6 * 512 ≤ (i 0).val ∧ (i 0).val < ((i 0).val / 512 * 6 + (i 1).val / 1024) / 6 * 512 + 512
      omega
    | ⟨1, _⟩ =>
      show win0_7.index _ 1 * 1024 ≤ (i 1).val ∧ (i 1).val < win0_7.index _ 1 * 1024 + win0_7.xsize (grid0.coords _) 1
      rw [ea.2]
      by_cases h : ((i 0).val / 512 * 6 + (i 1).val / 1024) % 6 = 5
      · rw [show win0_7.xsize (grid0.coords _) 1 = 512 from hx.trans (if_pos ⟨rfl, h⟩)]
        show ((i 0).val / 512 * 6 + (i 1).val / 1024) % 6 * 1024 ≤ (i 1).val ∧ (i 1).val < ((i 0).val / 512 * 6 + (i 1).val / 1024) % 6 * 1024 + 512
        omega
      · rw [show win0_7.xsize (grid0.coords _) 1 = 1024 from hx.trans (if_neg (fun h' => h h'.2))]
        show ((i 0).val / 512 * 6 + (i 1).val / 1024) % 6 * 1024 ≤ (i 1).val ∧ (i 1).val < ((i 0).val / 512 * 6 + (i 1).val / 1024) % 6 * 1024 + 1024
        omega
abbrev arr8 (c : Dev nD) : S8192x5632.Idx → EReal := fun i => sK m c (i 0) (i 1)
theorem flushed8 (c : Dev nD) (t : Fin cfg0.N) :
    ∀ j : (win0_8.xblock (grid0.coords t)).Idx,
    (win0_8.cut (grid0.coords t) (outS m c t) j : EReal) = ((win0_8.blk t).view.read (Elt Ideal) (arr8 m c) : _ → EReal) j := by
  intro j
  have ht : t.val < 96 := t.isLt
  have e0 : (j 0).val < win0_8.xsize (grid0.coords t) 0 := (j 0).isLt
  have e1 : (j 1).val < win0_8.xsize (grid0.coords t) 1 := (j 1).isLt
  rw [cols8 t 0, if_neg (fun h => absurd (congrArg Fin.val h.1) Nat.zero_ne_one)] at e0
  rw [cols8 t 1] at e1
  have e0 : (j 0).val < 512 := e0
  have h1 : (j 1).val < 1024 ∧ t.val % 6 * 1024 + (j 1).val < 5632 := by
    by_cases h : t.val % 6 = 5
    · rw [if_pos ⟨rfl, h⟩] at e1; omega
    · rw [if_neg (fun h' => h h'.2)] at e1
      have e1 : (j 1).val < 1024 := e1
      omega
  rw [read8 t (arr8 m c) j (ix2 ⟨t.val / 6 * 512 + (j 0).val, by omega⟩ ⟨t.val % 6 * 1024 + (j 1).val, h1.2⟩) rfl rfl]
  have e : win0_8.cut (grid0.coords t) (outS m c t) j = outS m c t (ix2 ⟨(j 0).val, e0⟩ ⟨(j 1).val, h1.1⟩) :=
    congrArg (outS m c t) ((eq_ix2 _).trans (congrArg₂ ix2 (Fin.ext rfl) (Fin.ext rfl)))
  rw [e]
  exact outS_at m c t _ _ _ _ rfl rfl
theorem final8 (c : Dev nD) : (dats m 0 c).arrAt 8 cfg0.N = arr8 m c := by
  refine (dats m 0 c).arrAt_eq_of_cover 8 (arr8 m c) (fun t _ => ?_) (fun i => ?_)
  · refine (congrArg (win0_8.cut (grid0.coords t)) (after8 m c t)).trans (funext fun j => ?_)
    exact flushed8 m c t j
  · have i0 : (i 0).val < 8192 := (i 0).isLt
    have i1 : (i 1).val < 5632 := (i 1).isLt
    have hN : (i 0).val / 512 * 6 + (i 1).val / 1024 < cfg0.N := by show _ < 96; omega
    refine ⟨⟨(i 0).val / 512 * 6 + (i 1).val / 1024, hN⟩, flush0_8 _, ?_⟩
    show i ∈ ((View.whole main_v8_2).slice (win0_8.rect ⟨(i 0).val / 512 * 6 + (i 1).val / 1024, hN⟩)).set
    rw [View.set_slice_whole]
    refine Rect.mem_set_unit.2 fun a => ?_
    have hx := cols8 ⟨(i 0).val / 512 * 6 + (i 1).val / 1024, hN⟩ a
    have ea := at8 ⟨(i 0).val / 512 * 6 + (i 1).val / 1024, hN⟩
    match a with
    | ⟨0, _⟩ =>
      show win0_8.index _ 0 * 512 ≤ (i 0).val ∧ (i 0).val < win0_8.index _ 0 * 512 + win0_8.xsize (grid0.coords _) 0
      rw [ea.1, show win0_8.xsize (grid0.coords _) 0 = 512 from hx.trans (if_neg (fun h => absurd (congrArg Fin.val h.1) Nat.zero_ne_one))]
      show ((i 0).val / 512 * 6 + (i 1).val / 1024) / 6 * 512 ≤ (i 0).val ∧ (i 0).val < ((i 0).val / 512 * 6 + (i 1).val / 1024) / 6 * 512 + 512
      omega
    | ⟨1, _⟩ =>
      show win0_8.index _ 1 * 1024 ≤ (i 1).val ∧ (i 1).val < win0_8.index _ 1 * 1024 + win0_8.xsize (grid0.coords _) 1
      rw [ea.2]
      by_cases h : ((i 0).val / 512 * 6 + (i 1).val / 1024) % 6 = 5
      · rw [show win0_8.xsize (grid0.coords _) 1 = 512 from hx.trans (if_pos ⟨rfl, h⟩)]
        show ((i 0).val / 512 * 6 + (i 1).val / 1024) % 6 * 1024 ≤ (i 1).val ∧ (i 1).val < ((i 0).val / 512 * 6 + (i 1).val / 1024) % 6 * 1024 + 512
        omega
      · rw [show win0_8.xsize (grid0.coords _) 1 = 1024 from hx.trans (if_neg (fun h' => h h'.2))]
        show ((i 0).val / 512 * 6 + (i 1).val / 1024) % 6 * 1024 ≤ (i 1).val ∧ (i 1).val < ((i 0).val / 512 * 6 + (i 1).val / 1024) % 6 * 1024 + 1024
        omega
abbrev arr9 (c : Dev nD) : S8192x2048.Idx → EReal := fun i => dhK m c (i 0) (i 1)
theorem whole9 : ∀ t : Fin grid0.N, ∀ a : Fin 2, win0_9.xsize (grid0.coords t) a = S512x2048.size a := by decide +kernel
theorem flushed9 (c : Dev nD) (t : Fin cfg0.N) (h5 : t.val % 6 = 5) : ∀ j : (win0_9.xblock (grid0.coords t)).Idx,
    (win0_9.cut (grid0.coords t) (k0_pay4 (accN m c (t.val + 1))) j : EReal)
      = ((win0_9.blk t).view.read (Elt Ideal) (arr9 m c) : _ → EReal) j := by
  intro j
  have ht : t.val < 96 := t.isLt
  have e0 : (j 0).val < 512 := lt_of_lt_of_eq (j 0).isLt (whole9 t 0)
  have e1 : (j 1).val < 2048 := lt_of_lt_of_eq (j 1).isLt (whole9 t 1)
  rw [read9 t (arr9 m c) j (ix2 ⟨t.val / 6 * 512 + (j 0).val, by omega⟩ ⟨(j 1).val, e1⟩) rfl rfl]
  have e : win0_9.cut (grid0.coords t) (k0_pay4 (accN m c (t.val + 1))) j = k0_pay4 (accN m c (t.val + 1)) (ix2 ⟨(j 0).val, e0⟩ ⟨(j 1).val, e1⟩) :=
    congrArg (k0_pay4 (accN m c (t.val + 1))) ((eq_ix2 _).trans (congrArg₂ ix2 (Fin.ext rfl) (Fin.ext rfl)))
  rw [e]
  refine (pay4_at _ _ _).trans ?_
  have h := acc_at m c (t.val / 6) (by omega) ⟨(j 0).val, e0⟩ ⟨(j 1).val, e1⟩ ⟨t.val / 6 * 512 + (j 0).val, by omega⟩ rfl 5 (by omega)
  rw [show 6 * (t.val / 6) + 5 + 1 = t.val + 1 by omega] at h
  exact h.trans (dhN_all m c _ _)
theorem final9 (c : Dev nD) : (dats m 0 c).arrAt 9 cfg0.N = arr9 m c := by
  refine (dats m 0 c).arrAt_eq_of_cover 9 (arr9 m c) (fun t ht => ?_) (fun i => ?_)
  · refine (congrArg (win0_9.cut (grid0.coords t)) (after9 m c t)).trans (funext fun j => ?_)
    exact flushed9 m c t ((flush0_9 t).1 ht) j
  · have i0 : (i 0).val < 8192 := (i 0).isLt
    have i1 : (i 1).val < 2048 := (i 1).isLt
    have hN : (i 0).val / 512 * 6 + 5 < cfg0.N := by show _ < 96; omega
    refine ⟨⟨(i 0).val / 512 * 6 + 5, hN⟩, (flush0_9 _).2 (by show ((i 0).val / 512 * 6 + 5) % 6 = 5; omega), ?_⟩
    show i ∈ ((View.whole main_v8_3).slice (win0_9.rect ⟨(i 0).val / 512 * 6 + 5, hN⟩)).set
    rw [View.set_slice_whole]
    refine Rect.mem_set_unit.2 fun a => ?_
    have hx := whole9 ⟨(i 0).val / 512 * 6 + 5, hN⟩ a
    have ea := at9 ⟨(i 0).val / 512 * 6 + 5, hN⟩
    match a with
    | ⟨0, _⟩ =>
      show win0_9.index _ 0 * 512 ≤ (i 0).val ∧ (i 0).val < win0_9.index _ 0 * 512 + win0_9.xsize (grid0.coords _) 0
      rw [ea.1, show win0_9.xsize (grid0.coords _) 0 = 512 from hx]
      show ((i 0).val / 512 * 6 + 5) / 6 * 512 ≤ (i 0).val ∧ (i 0).val < ((i 0).val / 512 * 6 + 5) / 6 * 512 + 512
      omega
    | ⟨1, _⟩ =>
      show win0_9.index _ 1 * 2048 ≤ (i 1).val ∧ (i 1).val < win0_9.index _ 1 * 2048 + win0_9.xsize (grid0.coords _) 1
      rw [ea.2, show win0_9.xsize (grid0.coords _) 1 = 2048 from hx]
      omega

end Cert.KernelIdeal.FfnBwd

end
-- ==== Proof.Equation.lean ====
module

public import proofs.«01_k».proof.Proof.Final
public import proofs.«01_k».proof.Proof.Gen.KernelIdeal.Skeleton
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

namespace Cert.KernelIdeal.FfnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

/-! ## The gradient of the first activation, two ways -/

/-- An extended real that is a real number. -/
def Fin' (x : EReal) : Prop := ∃ r : ℝ, x = r

theorem Fin'.mul {x y : EReal} : Fin' x → Fin' y → Fin' (x * y)
  | ⟨a, ha⟩, ⟨b, hb⟩ => ⟨a * b, by rw [ha, hb, EReal.coe_mul]⟩
theorem Fin'.sum {n : ℕ} (f : Fin n → EReal) (h : ∀ k, Fin' (f k)) : Fin' (∑ k, f k) :=
  Finset.sum_induction f Fin' (fun _ _ ⟨a, ha⟩ ⟨b, hb⟩ => ⟨a + b, by rw [ha, hb, EReal.coe_add]⟩) ⟨0, EReal.coe_zero.symm⟩ fun k _ => h k

theorem sg_real (a : ℝ) : Fin' (sg a) := by
  unfold sg
  have e : (0 : EReal) - (a : EReal) = ((0 - a : ℝ) : EReal) := by rw [EReal.coe_sub, EReal.coe_zero]
  have hx : Ideal.exp ((0 - a : ℝ) : EReal) = ((Real.exp (0 - a) : ℝ) : EReal) := rfl
  have h1 : (1 : EReal) + ((Real.exp (0 - a) : ℝ) : EReal) = ((1 + Real.exp (0 - a) : ℝ) : EReal) := by rw [EReal.coe_add, EReal.coe_one]
  rw [e, hx, h1]
  have hne : ((1 + Real.exp (0 - a) : ℝ) : EReal) ≠ 0 := by
    have : (0 : ℝ) < 1 + Real.exp (0 - a) := by have := Real.exp_pos (0 - a); linarith
    exact_mod_cast this.ne'
  unfold Ideal.div
  rw [if_neg hne, one_mul]
  exact ⟨(1 + Real.exp (0 - a))⁻¹, (EReal.coe_inv _).symm⟩
theorem sg_top : sg ⊤ = 1 := by
  unfold sg
  have : (0 : EReal) - ⊤ = ⊥ := EReal.sub_top _
  rw [this]
  show Ideal.div 1 (1 + 0) = 1
  unfold Ideal.div
  rw [add_zero, if_neg one_ne_zero, one_mul]
  rw [← EReal.coe_one, ← EReal.coe_inv, inv_one]
theorem sg_bot : sg ⊥ = 0 := by
  unfold sg
  have : (0 : EReal) - ⊥ = ⊤ := by rw [← EReal.coe_zero]; exact EReal.coe_sub_bot _
  rw [this]
  show Ideal.div 1 (1 + ⊤) = 0
  have h1 : (1 : EReal) + ⊤ = ⊤ := by rw [← EReal.coe_one]; exact EReal.coe_add_top _
  unfold Ideal.div
  rw [h1, if_neg EReal.top_ne_zero, one_mul, EReal.inv_top]

/-- The factored form and the sum that the transposed chain rule writes agree where the cotangent `x` of the gate is finite. -/
theorem da_forms (x a : EReal) (hx : Fin' x) : x * (sg a * (1 + a * (1 - sg a))) = x * sg a + (a * x) * (sg a * (1 - sg a)) := by
  obtain ⟨x, rfl⟩ := hx
  induction a using EReal.rec with
  | bot => rw [sg_bot]; simp
  | top =>
    have h : (1 : EReal) - 1 = 0 := by rw [← EReal.coe_one, ← EReal.coe_sub, sub_self, EReal.coe_zero]
    rw [sg_top, h]; simp
  | coe a =>
    obtain ⟨s, hs⟩ := sg_real a
    rw [hs]
    have : x * (s * (1 + a * (1 - s))) = x * s + (a * x) * (s * (1 - s)) := by ring
    exact_mod_cast congrArg (fun r : ℝ => (r : EReal)) this

/-! ## What finiteness gives -/

theorem fin_of (x : EReal) (h : x - x = 0) : Fin' x := by
  induction x using EReal.rec with
  | bot => exact absurd h (by simp)
  | top => exact absurd h (by simp)
  | coe r => exact ⟨r, rfl⟩

theorem sg_neg (a : EReal) : Ideal.div 1 (1 + Ideal.exp (-a)) = sg a := by unfold sg; rw [zero_sub]

end Cert.KernelIdeal.FfnBwd

end
-- ==== Proof.Reference.lean ====
module

public import proofs.«01_k».proof.Proof.Equation
public import proofs.«01_k».proof.Proof.Gen.ReferenceIdeal.Run

@[expose] public section

set_option maxRecDepth 16384

noncomputable section

namespace Cert.ReferenceIdeal.FfnRef

open Idealize.ShloMosaic Idealize.ShloMosaic.TcCoe Idealize.SL.Sem
open Cert.ReferenceIdeal Cert.ReferenceIdeal.Gen
open Cert.KernelIdeal.FfnBwd (sg Da Db Sv actR dsR sg_neg da_forms Fin' Fin'.mul Fin'.sum)

/-! ## The reference's composed terms, in pieces -/

/-- The constant one, over the activations' shape. -/
abbrev ones : FVec Ideal S8192x5632 .f32 := broadcastInDim S8192x5632 ![] bcast_S_S8192x5632 (constant S_ .f32 0x3F800000#32)
abbrev act (h : FVec Ideal S8192x2048 .f32) (w : FVec Ideal S2048x5632 .f32) : FVec Ideal S8192x5632 .f32 :=
  Host.dotGeneral dot_S8192x2048_S2048x5632_S8192x5632_1_0_0_1_n_n none h w
abbrev dss (df : FVec Ideal S8192x2048 .f32) (w2 : FVec Ideal S5632x2048 .f32) : FVec Ideal S8192x5632 .f32 :=
  Host.dotGeneral dot_S8192x2048_S5632x2048_S8192x5632_1_1_0_0_n_n none df w2
abbrev sgm (a : FVec Ideal S8192x5632 .f32) : FVec Ideal S8192x5632 .f32 := Host.divf ones (addf ones (Host.exp (Host.negf a)))
abbrev daOf (d a b : FVec Ideal S8192x5632 .f32) : FVec Ideal S8192x5632 .f32 :=
  addf (mulf (mulf d b) (sgm a)) (mulf (mulf a (mulf d b)) (mulf (sgm a) (subf ones (sgm a))))
abbrev dbOf (d a : FVec Ideal S8192x5632 .f32) : FVec Ideal S8192x5632 .f32 := mulf (mulf a (sgm a)) d
abbrev sOf (a b : FVec Ideal S8192x5632 .f32) : FVec Ideal S8192x5632 .f32 := mulf (mulf a (sgm a)) b
abbrev dhOf (da db : FVec Ideal S8192x5632 .f32) (w1 w3 : FVec Ideal S2048x5632 .f32) : FVec Ideal S8192x2048 .f32 :=
  addf (Host.dotGeneral dot_S8192x5632_S2048x5632_S8192x2048_1_1_0_0_n_n none db w3)
    (Host.dotGeneral dot_S8192x5632_S2048x5632_S8192x2048_1_1_0_0_n_n none da w1)

theorem act_at (h : FVec Ideal S8192x2048 .f32) (w : FVec Ideal S2048x5632 .f32) (r : Fin 8192) (q : Fin 5632) :
    act h w (ix2 r q) = actR h w r q := by unfold actR; pointwise
theorem dss_at (df : FVec Ideal S8192x2048 .f32) (w2 : FVec Ideal S5632x2048 .f32) (r : Fin 8192) (q : Fin 5632) :
    dss df w2 (ix2 r q) = dsR df w2 r q := by unfold dsR; pointwise
theorem sgm_at (a : FVec Ideal S8192x5632 .f32) (r : Fin 8192) (q : Fin 5632) : sgm a (ix2 r q) = sg (a (ix2 r q)) := by
  rw [← sg_neg]; pointwise
theorem dbOf_at (d a : FVec Ideal S8192x5632 .f32) (r : Fin 8192) (q : Fin 5632) :
    dbOf d a (ix2 r q) = Db (d (ix2 r q)) (a (ix2 r q)) := by
  show a (ix2 r q) * sgm a (ix2 r q) * d (ix2 r q) = _
  rw [sgm_at]; unfold Db; exact mul_comm _ _
theorem sOf_at (a b : FVec Ideal S8192x5632 .f32) (r : Fin 8192) (q : Fin 5632) :
    sOf a b (ix2 r q) = Sv (a (ix2 r q)) (b (ix2 r q)) := by
  show a (ix2 r q) * sgm a (ix2 r q) * b (ix2 r q) = _
  rw [sgm_at]; rfl
theorem ones_at (r : Fin 8192) (q : Fin 5632) : ones (ix2 r q) = 1 := by pointwise
/-- The first activation's gradient, where the cotangent of the gate is finite. -/
theorem daOf_at (d a b : FVec Ideal S8192x5632 .f32) (r : Fin 8192) (q : Fin 5632) (hd : Fin' (d (ix2 r q))) (hb : Fin' (b (ix2 r q))) :
    daOf d a b (ix2 r q) = Da (d (ix2 r q)) (a (ix2 r q)) (b (ix2 r q)) := by
  show d (ix2 r q) * b (ix2 r q) * sgm a (ix2 r q) + a (ix2 r q) * (d (ix2 r q) * b (ix2 r q)) * (sgm a (ix2 r q) * (ones (ix2 r q) - sgm a (ix2 r q))) = _
  rw [sgm_at, ones_at]
  exact (da_forms _ _ (hd.mul hb)).symm
theorem dhOf_at (da db : FVec Ideal S8192x5632 .f32) (w1 w3 : FVec Ideal S2048x5632 .f32) (r : Fin 8192) (n : Fin 2048) :
    dhOf da db w1 w3 (ix2 r n) = (∑ q : Fin 5632, da (ix2 r q) * w1 (ix2 n q)) + ∑ q : Fin 5632, db (ix2 r q) * w3 (ix2 n q) := by
  rw [add_comm]; pointwise

theorem act_fin (h : FVec Ideal S8192x2048 .f32) (w : FVec Ideal S2048x5632 .f32) (hh : ∀ i, Fin' (h i)) (hw : ∀ i, Fin' (w i))
    (r : Fin 8192) (q : Fin 5632) : Fin' (act h w (ix2 r q)) := by
  rw [act_at]; exact Fin'.sum _ fun k => (hh _).mul (hw _)
theorem dss_fin (h : FVec Ideal S8192x2048 .f32) (w : FVec Ideal S5632x2048 .f32) (hh : ∀ i, Fin' (h i)) (hw : ∀ i, Fin' (w i))
    (r : Fin 8192) (q : Fin 5632) : Fin' (dss h w (ix2 r q)) := by
  rw [dss_at]; exact Fin'.sum _ fun k => (hh _).mul (hw _)

/-! ## The whole arrays -/

variable (h df : FVec Ideal S8192x2048 .f32) (w1 w3 : FVec Ideal S2048x5632 .f32) (w2 : FVec Ideal S5632x2048 .f32)

theorem db_eq : dbOf (dss df w2) (act h w1) = fun i => Db (dsR df w2 (i 0) (i 1)) (actR h w1 (i 0) (i 1)) := by
  funext i; obtain ⟨r, q, rfl⟩ : ∃ (r : Fin 8192) (q : Fin 5632), i = ix2 r q := ⟨i 0, i 1, eq_ix2 i⟩
  rw [dbOf_at, dss_at, act_at]; rfl
theorem s_eq : sOf (act h w1) (act h w3) = fun i => Sv (actR h w1 (i 0) (i 1)) (actR h w3 (i 0) (i 1)) := by
  funext i; obtain ⟨r, q, rfl⟩ : ∃ (r : Fin 8192) (q : Fin 5632), i = ix2 r q := ⟨i 0, i 1, eq_ix2 i⟩
  rw [sOf_at, act_at, act_at]; rfl
theorem da_eq (hdf : ∀ i, Fin' (df i)) (hw2 : ∀ i, Fin' (w2 i)) (hh : ∀ i, Fin' (h i)) (hw3 : ∀ i, Fin' (w3 i)) :
    daOf (dss df w2) (act h w1) (act h w3)
      = fun i => Da (dsR df w2 (i 0) (i 1)) (actR h w1 (i 0) (i 1)) (actR h w3 (i 0) (i 1)) := by
  funext i; obtain ⟨r, q, rfl⟩ : ∃ (r : Fin 8192) (q : Fin 5632), i = ix2 r q := ⟨i 0, i 1, eq_ix2 i⟩
  rw [daOf_at _ _ _ _ _ (dss_fin df w2 hdf hw2 r q) (act_fin h w3 hh hw3 r q), dss_at, act_at, act_at]; rfl
theorem dh_eq (hdf : ∀ i, Fin' (df i)) (hw2 : ∀ i, Fin' (w2 i)) (hh : ∀ i, Fin' (h i)) (hw3 : ∀ i, Fin' (w3 i)) :
    dhOf (daOf (dss df w2) (act h w1) (act h w3)) (dbOf (dss df w2) (act h w1)) w1 w3
      = fun i => (∑ q : Fin 5632, Da (dsR df w2 (i 0) q) (actR h w1 (i 0) q) (actR h w3 (i 0) q) * w1 (ix2 (i 1) q))
          + ∑ q : Fin 5632, Db (dsR df w2 (i 0) q) (actR h w1 (i 0) q) * w3 (ix2 (i 1) q) := by
  funext i; obtain ⟨r, n, rfl⟩ : ∃ (r : Fin 8192) (n : Fin 2048), i = ix2 r n := ⟨i 0, i 1, eq_ix2 i⟩
  rw [dhOf_at, da_eq h df w1 w3 w2 hdf hw2 hh hw3, db_eq h df w1 w2]; rfl

end Cert.ReferenceIdeal.FfnRef

end
-- ==== Proof.Claims.lean ====
module

public import proofs.«01_k».proof.Proof.Reference
public import proofs.«01_k».proof.Defs
public import proofs.«01_k».proof.Proof.Gen.Kernel
public import proofs.«01_k».proof.Proof.Gen.ReferenceIdeal
public import Idealize.ShloMosaic.Lib.Quiescent

@[expose] public section

set_option maxRecDepth 16384

noncomputable section

/-! The claims about the FFN's backward call, from its run (`Run`), its arrays (`Final`) and the reference's terms (`Reference`). -/

namespace Cert.FfnClaims

open Idealize.ShloMosaic Idealize.ShloMosaic.TcCoe Idealize.SL.Sem

/-- The precondition's program has its side conditions. -/
theorem preFacts : Cert.Pre_finite.Facts where
  bcast_S_S8192x2048 := by decide
  bcast_S_S5632x2048 := by decide
  bcast_S_S2048x5632 := by decide

/-! ## The kernel's arguments end unchanged, and every counter at zero -/

section Kernel
open Cert.KernelIdeal Cert.KernelIdeal.Gen Cert.KernelIdeal.FfnBwd
variable {F : FTy → Type} [FloatOps F]

theorem kept (m : (ℓ : Loc nD τ sig) → Buf (Elt F) ℓ) (r : PUnit × MemSt nD τ sig (Elt F))
    (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

theorem frame_ideal : Cert.quiescent_KernelIdeal := fun m ρ _ =>
  (θ_run Cert.KernelIdeal.defs _ _).mono (fun r h => ⟨kept m r h.1, h.2⟩) (run_main (F := Ideal) m ρ)
theorem frame_ideal_finite : Cert.quiescent_KernelIdeal_pre_finite (hPre_finite := preFacts) := fun m ρ _ =>
  (θ_run Cert.KernelIdeal.defs _ _).mono (fun r h => ⟨kept m r h.1, h.2⟩) (run_main (F := Ideal) m ρ)
set_option backward.isDefEq.respectTransparency.types false
/-- The two programs have one text: their bodies, their body tables and their mains are the same. -/
theorem same_body : Cert.Kernel.defs₀ (F := Bits) = Cert.KernelIdeal.defs₀ := by
  unfold Cert.Kernel.defs₀ Cert.KernelIdeal.defs₀
  refine congrArg Defs.onTc ?_
  funext l a
  obtain rfl : l = 0 := Subsingleton.elim _ _
  rfl
theorem same_defs : Cert.Kernel.defs (F := Bits) = Cert.KernelIdeal.defs := by
  unfold Cert.Kernel.defs Cert.KernelIdeal.defs
  exact congrArg (Pipeline.defs Cert.KernelIdeal.pcfgs) same_body
theorem same_main : Cert.Kernel.main (F := Bits) = Cert.KernelIdeal.main (F := Bits) := rfl

theorem frame_kernel : Cert.quiescent_Kernel := by
  intro m ρ _
  rw [same_defs, same_main]
  exact (θ_run (Cert.KernelIdeal.defs (F := Bits)) _ _).mono (fun r h => ⟨kept m r h.1, h.2⟩) (run_main (F := Bits) m ρ)

end Kernel

/-! ## The reference's -/

section Ref
open Cert.ReferenceIdeal

theorem ref_frame (m : (ℓ : Loc nD τ sig) → Buf (Elt Ideal) ℓ) (g : Dev nD → PrngReg) :
    θ_run (Cert.ReferenceIdeal.defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun r h => ⟨fun c => (h c).2.2.2.2, sem_eq_zero_of_no_sems (by decide) r.2⟩) (Value.run (F := Ideal) m g)

theorem frame_ref : Cert.quiescent_ReferenceIdeal := fun m g _ => ref_frame m g
theorem frame_ref_finite : Cert.quiescent_ReferenceIdeal_pre_finite (hPre_finite := preFacts) := fun m g _ => ref_frame m g

end Ref

/-! ## What the precondition says -/

section Pre
open Cert.KernelIdeal Cert.KernelIdeal.FfnBwd

theorem fin_lane {s : Shape} (x : FVec Ideal s .f32) (z : FVec Ideal s .f32) (hz : ∀ i, z i = (0 : EReal))
    (h : cmpf .oeq (subf x x) z = fun _ => 1#1) (i : s.Idx) : Fin' (x i) := by
  have e := congrFun h i
  refine fin_of _ ?_
  by_contra hne
  have : cmpf .oeq (subf x x) z i = 0#1 := by
    show BitVec.ofBool (decide ((x i - x i : EReal) = z i)) = 0#1
    rw [hz, decide_eq_false hne]; rfl
  rw [this] at e
  exact absurd e (by decide)

theorem zeros {s : Shape} (h : Cert.Pre_finite.S_.BroadcastsInDim s (![] : Fin 0 → Fin s.rank)) (i : s.Idx) :
    (broadcastInDim s ![] h (constant (F := Ideal) Cert.Pre_finite.S_ .f32 0x00000000#32) i : EReal) = 0 := by
  pointwise

theorem finite_of (m : (ℓ : Loc nD τ sig) → Buf (Elt Ideal) ℓ) (h : Cert.Pre_KernelIdeal_finite (hPre_finite := preFacts) m) (c : Dev nD) :
    (∀ i, Fin' (argDf m c i)) ∧ (∀ i, Fin' (argW2 m c i)) ∧ (∀ i, Fin' (argH m c i)) ∧ (∀ i, Fin' (argW3 m c i)) :=
  ⟨fin_lane _ _ (zeros _) (h c).1, fin_lane _ _ (zeros _) (h c).2.1, fin_lane _ _ (zeros _) (h c).2.2.1, fin_lane _ _ (zeros _) (h c).2.2.2⟩

/-- Both programs run, and their four results are equal. -/
theorem values : Cert.algebraic_KernelIdeal_ReferenceIdeal_pre_finite (hPre_finite := preFacts) := by
  intro m g m' g' hpre hargs
  refine ⟨fun c => arr6 m c, fun c => arr7 m c, fun c => arr8 m c, fun c => arr9 m c, ?_, ?_⟩
  · refine (θ_run Cert.KernelIdeal.defs _ _).mono (fun r h c => ?_) (run_main (F := Ideal) m g)
    exact ⟨((h.1 c).1 6).trans (final6 m c), ((h.1 c).1 7).trans (final7 m c), ((h.1 c).1 8).trans (final8 m c),
      ((h.1 c).1 9).trans (final9 m c), kept m r h.1 c⟩
  · refine (θ_run Cert.ReferenceIdeal.defs _ _).mono (fun r h c => ?_) (Cert.ReferenceIdeal.Value.run (F := Ideal) m' g')
    obtain ⟨h0, h1, h2, h3, hk⟩ := h c
    obtain ⟨e0, e1, e2, e3, e4⟩ := hargs c
    obtain ⟨fdf, fw2, fh, fw3⟩ := finite_of m hpre c
    rw [e0, e1, e2, e3, e4] at h0 h3
    rw [e0, e1, e3, e4] at h1
    rw [e0, e1, e2] at h2
    exact ⟨h0.trans (Cert.ReferenceIdeal.FfnRef.da_eq (argH m c) (argDf m c) (argW1 m c) (argW3 m c) (argW2 m c) fdf fw2 fh fw3),
      h1.trans (Cert.ReferenceIdeal.FfnRef.db_eq (argH m c) (argDf m c) (argW1 m c) (argW2 m c)),
      h2.trans (Cert.ReferenceIdeal.FfnRef.s_eq (argH m c) (argW1 m c) (argW3 m c)),
      h3.trans (Cert.ReferenceIdeal.FfnRef.dh_eq (argH m c) (argDf m c) (argW1 m c) (argW3 m c) (argW2 m c) fdf fw2 fh fw3), hk⟩

end Pre

end Cert.FfnClaims

end
-- ==== Proof.FwdLoops.lean ====
module

public import proofs.«01_k».proof.Proof.Claims
public import proofs.«01_k».proof.Proof.Gen.FfnFwdIdeal.Frame
public import proofs.«01_k».proof.Proof.Gen.FfnFwdIdeal.Loops
public import proofs.«01_k».proof.Proof.Gen.FfnFwdIdeal.Skeleton
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise.Index

@[expose] public section

set_option maxRecDepth 16384

noncomputable section

namespace Cert.FfnFwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.FfnFwdIdeal.Gen

variable {F : FTy → Type} [FloatOps F]

local notation "𝕄" => MT nD τ sig Unit (Elt F) ℕ (UR sig nD τ) ℕ

/-! ## Blocks of rows and of columns -/

/-- Rows `64 q` to `64 q + 63` of a row block. -/
def rowsOf {e : EltTy} (X : Vec F S512x2048 e) (q : Fin 8) : Vec F S64x2048 e :=
  fun i => X (ix2 ⟨64 * q.val + (i 0).val, by have h : (i 0).val < 64 := (i 0).isLt; omega⟩ (i 1))
/-- The row block whose rows `64 q` to `64 q + 63` are `P q`. -/
def joinRows {e : EltTy} (P : Fin 8 → Vec F S64x2048 e) : Vec F S512x2048 e :=
  fun j => P ⟨(j 0).val / 64, by have h : (j 0).val < 512 := (j 0).isLt; omega⟩ (ix2 ⟨(j 0).val % 64, Nat.mod_lt _ (by decide)⟩ (j 1))
/-- The first 512 rows of a block of the second matrix. -/
abbrev topR (x : Vec F S1024x2048 .bf16) : Vec F S512x2048 .bf16 :=
  View.ld x (Rect.unit (s := S1024x2048) ![0, 0] S512x2048.size inb_S1024x2048_S512x2048_0_0)
/-- The first 512 columns of a block of an input matrix. -/
abbrev leftW (x : Vec F S2048x1024 .bf16) : Vec F S2048x512 .bf16 :=
  View.ld x (Rect.unit (s := S2048x1024) ![0, 0] S2048x512.size inb_S2048x1024_S2048x512_0_0)
/-- A block whose first 512 columns are overwritten by `w`. -/
def putL (y : Vec F S512x1024 .bf16) (w : Vec F S512x512 .bf16) : Vec F S512x1024 .bf16 :=
  fun j => if h : (j 1).val < 512 then w (ix2 (j 0) ⟨(j 1).val, h⟩) else y j

theorem zeros2 : (![0, 0] : Fin 2 → Nat) = fun _ => 0 := funext fun a => by fin_cases a <;> rfl

/-- A store over the whole of a view, last, leaves exactly what was stored. -/
theorem read_store_all {κ : Kind} {sp : Space} {s : Shape} {e : EltTy} (v : View sig κ sp s e) (f : v.ty.Contents (Elt F))
    {off : Fin s.rank → Nat} (ho : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  subst ho
  funext y
  exact View.read_writes_cons_unit_of_mem v f inb w L y y rfl fun a => (Nat.zero_add _).symm

/-- A load of a unit rectangle of a view reads that rectangle of what the view reads. -/
theorem ld_of_load {κ : Kind} {sp : Space} {s : Shape} {e : EltTy} (v : View sig κ sp s e) (f : v.ty.Contents (Elt F))
    (off size : Fin s.rank → Nat) (inb : ∀ a, off a + size a ≤ s.size a) :
    v.readAt (Elt F) (Rect.unit off size inb).toLoadRect f = View.ld (v.read (Elt F) f) (Rect.unit off size inb) := rfl

/-- A load of the whole of a view reads what the view reads. -/
theorem load_all {κ : Kind} {sp : Space} {s : Shape} {e : EltTy} (v : View sig κ sp s e) (f : v.ty.Contents (Elt F))
    {off : Fin s.rank → Nat} (ho : off = fun _ => 0) (inb : ∀ a, off a + s.size a ≤ s.size a) :
    v.readAt (Elt F) (Rect.unit off s.size inb).toLoadRect f = v.read (Elt F) f :=
  View.ld_unit_zero (S := s) ho inb _

/-- A load of 64 rows of a row block. -/
theorem load_rows {κ : Kind} {sp : Space} {e : EltTy} (v : View sig κ sp S512x2048 e) (f : v.ty.Contents (Elt F))
    (off : Fin 2 → Nat) (q : Fin 8) (ho : off = ![64 * q.val, 0]) (inb : ∀ a, off a + S64x2048.size a ≤ S512x2048.size a) :
    v.readAt (Elt F) (Rect.unit (s := S512x2048) off S64x2048.size inb).toLoadRect f = rowsOf (v.read (Elt F) f) q := by
  subst ho
  funext i
  refine congrArg (v.read (Elt F) f) (funext fun a => Fin.ext ?_)
  match a with
  | ⟨0, _⟩ => exact Rect.idx_unit_val _ _ _ _ _
  | ⟨1, _⟩ => exact (Rect.idx_unit_val _ _ _ _ _).trans (Nat.zero_add _)

/-- Stores of 64 rows each, one after another from the top, leave the rows stored so far and below them what was there. -/
theorem read_rows {κ : Kind} {sp : Space} {e : EltTy} (v : View sig κ sp S512x2048 e) (f : v.ty.Contents (Elt F))
    (P : Fin 8 → Vec F S64x2048 e) (pb : Nat → List (View.Piece (Elt F) S512x2048 e)) (h0 : pb 0 = [])
    (hs : ∀ k : Fin 8, ∃ (off : Fin 2 → Nat) (ho : off = ![64 * k.val, 0]) (inb : ∀ a, off a + S64x2048.size a ≤ S512x2048.size a),
      pb (k.val + 1) = ⟨Rect.unit (s := S512x2048) off S64x2048.size inb, P k⟩ :: pb k.val) :
    ∀ n : Nat, n ≤ 8 → ∀ j : S512x2048.Idx, v.read (Elt F) (v.writes (Elt F) f (pb n)) j
      = if (j 0).val < 64 * n then joinRows P j else v.read (Elt F) f j
  | 0, _, j => by rw [h0, if_neg (by omega)]; rfl
  | n + 1, hn, j => by
    obtain ⟨off, ho, inb, e⟩ := hs ⟨n, hn⟩
    have hj : (j 0).val < 512 := (j 0).isLt
    rw [show pb (n + 1) = _ from e]
    by_cases h : 64 * n ≤ (j 0).val ∧ (j 0).val < 64 * n + 64
    · rw [if_pos (by omega)]
      have hq : (j 0).val / 64 = n := by omega
      refine (View.read_writes_cons_unit_of_mem v f inb (P ⟨n, hn⟩) _ j
        (ix2 ⟨(j 0).val % 64, Nat.mod_lt _ (by decide)⟩ (j 1)) ho
        (Fin.forall_fin_two.mpr ⟨?_, (Nat.zero_add _).symm⟩)).trans ?_
      · show (j 0).val = 64 * n + (j 0).val % 64
        omega
      · unfold joinRows
        exact congrArg (fun q : Fin 8 => P q (ix2 ⟨(j 0).val % 64, Nat.mod_lt _ (by decide)⟩ (j 1))) (Fin.ext hq.symm)
    · refine (View.read_writes_cons_unit_of_not_mem v f inb (P ⟨n, hn⟩) _ j ho (0 : Fin 2) ?_).trans ?_
      · show (j 0).val < 64 * n ∨ 64 * n + 64 ≤ (j 0).val
        omega
      · rw [read_rows v f P pb h0 hs n (by omega) j]
        by_cases h' : (j 0).val < 64 * n
        · rw [if_pos h', if_pos (by omega)]
        · rw [if_neg h', if_neg (by omega)]

/-- All eight of them leave nothing of what was there. -/
theorem read_rows_all {κ : Kind} {sp : Space} {e : EltTy} (v : View sig κ sp S512x2048 e) (f : v.ty.Contents (Elt F))
    (P : Fin 8 → Vec F S64x2048 e) (pb : Nat → List (View.Piece (Elt F) S512x2048 e)) (h0 : pb 0 = [])
    (hs : ∀ k : Fin 8, ∃ (off : Fin 2 → Nat) (ho : off = ![64 * k.val, 0]) (inb : ∀ a, off a + S64x2048.size a ≤ S512x2048.size a),
      pb (k.val + 1) = ⟨Rect.unit (s := S512x2048) off S64x2048.size inb, P k⟩ :: pb k.val) :
    v.read (Elt F) (v.writes (Elt F) f (pb 8)) = joinRows P := by
  funext j
  have hj : (j 0).val < 512 := (j 0).isLt
  rw [read_rows v f P pb h0 hs 8 (Nat.le_refl _) j, if_pos (by omega)]

/-- A store over the first 512 columns of a block leaves the rest of the block as it was. -/
theorem read_store_left {κ : Kind} {sp : Space} (v : View sig κ sp S512x1024 .bf16) (f : v.ty.Contents (Elt F))
    (w : Vec F S512x512 .bf16) :
    v.read (Elt F) (v.writes (Elt F) f [⟨Rect.unit (s := S512x1024) ![0, 0] S512x512.size inb_S512x1024_S512x512_0_0, w⟩])
      = putL (v.read (Elt F) f) w := by
  funext y
  unfold putL
  split
  · next h =>
    exact View.read_writes_cons_unit_of_mem v f _ w [] y (ix2 (y 0) ⟨(y 1).val, h⟩) rfl
      (Fin.forall_fin_two.mpr ⟨(Nat.zero_add _).symm, (Nat.zero_add _).symm⟩)
  · next h =>
    refine (View.read_writes_cons_unit_of_not_mem v f inb_S512x1024_S512x512_0_0 w [] y rfl (1 : Fin 2) (Or.inr ?_)).trans rfl
    show 0 + 512 ≤ (y 1).val
    omega

/-! ## What the two loops over a row block's rows compute -/

/-- The normalised and modulated rows of a row block. -/
def normed (x : Vec F S512x2048 .f32) (g sc sh : Vec F S1x2048 .f32) : Vec F S512x2048 .bf16 :=
  joinRows fun q => k0_pay1 (rowsOf x q) g sc sh
/-- The loss's gradient on a row block, of the block's sum `s`. -/
def lossGrad (s x t : Vec F S512x2048 .f32) (gt : Vec F S1x2048 .f32) : Vec F S512x2048 .f32 :=
  joinRows fun q => k0_pay25 (rowsOf s q) gt (rowsOf x q) (rowsOf t q)
/-- The block's own gradient. -/
def blockGrad (s x t : Vec F S512x2048 .f32) (gt : Vec F S1x2048 .f32) : Vec F S512x2048 .bf16 :=
  joinRows fun q => k0_pay26 (rowsOf s q) gt (rowsOf x q) (rowsOf t q)
/-- The gate's gradient after the first `n` of a row block's eight groups of rows. -/
def gateSum (s x t : Vec F S512x2048 .f32) (gt p : Vec F S1x2048 .f32) : Nat → Vec F S1x2048 .f32
  | 0 => p
  | n + 1 => if h : n < 8 then
      k0_pay27 (rowsOf s ⟨n, h⟩) gt (rowsOf x ⟨n, h⟩) (rowsOf t ⟨n, h⟩) (gateSum s x t gt p n) else p
/-- The sum of squares after the first `n` groups. -/
def squareSum (s x t : Vec F S512x2048 .f32) (gt : Vec F S1x2048 .f32) (p : Vec F S1x128 .f32) : Nat → Vec F S1x128 .f32
  | 0 => p
  | n + 1 => if h : n < 8 then
      k0_pay22 (k0_pay28 (rowsOf s ⟨n, h⟩) gt (rowsOf x ⟨n, h⟩) (rowsOf t ⟨n, h⟩)) (squareSum s x t gt p n) else p

theorem gateSum_succ (s x t : Vec F S512x2048 .f32) (gt p : Vec F S1x2048 .f32) (n : Nat) (h : n < 8) :
    gateSum s x t gt p (n + 1)
      = k0_pay27 (rowsOf s ⟨n, h⟩) gt (rowsOf x ⟨n, h⟩) (rowsOf t ⟨n, h⟩) (gateSum s x t gt p n) := dif_pos h
theorem squareSum_succ (s x t : Vec F S512x2048 .f32) (gt : Vec F S1x2048 .f32) (p : Vec F S1x128 .f32) (n : Nat) (h : n < 8) :
    squareSum s x t gt p (n + 1)
      = k0_pay22 (k0_pay28 (rowsOf s ⟨n, h⟩) gt (rowsOf x ⟨n, h⟩) (rowsOf t ⟨n, h⟩)) (squareSum s x t gt p n) := dif_pos h

theorem trips1 : k0_t1_loop.trips = 8 := by decide +kernel
theorem trips2 : k0_t2_loop.trips = 8 := by decide +kernel

section Loops

variable (c : Dev nD) (i : grid0.Coords) (arg2 : Memref sig .tc .vmem S1x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x1024 .bf16) (harg8 : arg8.IsWhole) (arg9 : Memref sig .tc .vmem S2048x1024 .bf16) (harg9 : arg9.IsWhole) (arg10 : Memref sig .tc .vmem S1024x2048 .bf16) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x2048 .f32) (harg16 : arg16.IsWhole) (arg17 : Memref sig .tc .vmem S1x128 .f32) (harg17 : arg17.IsWhole) (arg18 : Memref sig .tc .vmem S512x2048 .f32) (harg18 : arg18.IsWhole)

/-- What one trip of the first loop stores. -/
theorem trip1 (h1 : k0_cond1 i = 1#1)
    (X2 : BufTy.Contents (Elt F) arg2.view.ty) (X3 : BufTy.Contents (Elt F) arg3.view.ty) (X5 : BufTy.Contents (Elt F) arg5.view.ty)
    (X6 : BufTy.Contents (Elt F) arg6.view.ty) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X2 X3 X5 X6 k
      = [⟨Rect.unit (s := S512x2048) (k0_off1 k) S64x2048.size (k0_off1_inb i k h1),
          k0_pay1 (arg3.view.readAt (Elt F) (Rect.unit (s := S512x2048) (k0_off1 k) S64x2048.size (k0_off1_inb i k h1)).toLoadRect X3)
            (arg2.view.readAt (Elt F) (Rect.unit (s := S1x2048) ![0, 0] S1x2048.size inb_S1x2048_S1x2048_0_0).toLoadRect X2)
            (arg6.view.readAt (Elt F) (Rect.unit (s := S1x2048) ![0, 0] S1x2048.size inb_S1x2048_S1x2048_0_0).toLoadRect X6)
            (arg5.view.readAt (Elt F) (Rect.unit (s := S1x2048) ![0, 0] S1x2048.size inb_S1x2048_S1x2048_0_0).toLoadRect X5)⟩] := by
  unfold tripL_k0_t1 trip_k0_t1
  rfl

/-- The first loop leaves the normalised and modulated rows. -/
theorem loop1 (h1 : k0_cond1 i = 1#1)
    (X2 : BufTy.Contents (Elt F) arg2.view.ty) (X3 : BufTy.Contents (Elt F) arg3.view.ty) (X5 : BufTy.Contents (Elt F) arg5.view.ty)
    (X6 : BufTy.Contents (Elt F) arg6.view.ty) (G : BufTy.Contents (Elt F) arg11.view.ty) :
    arg11.view.read (Elt F) (arg11.view.writes (Elt F) G
        (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X2 X3 X5 X6 k0_t1_loop.trips))
      = normed (arg3.view.read (Elt F) X3) (arg2.view.read (Elt F) X2) (arg6.view.read (Elt F) X6) (arg5.view.read (Elt F) X5) := by
  rw [trips1]
  refine read_rows_all arg11.view G _ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X2 X3 X5 X6) rfl fun k => ?_
  have e := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X2 X3 X5 X6 ⟨k.val, k.isLt.trans_eq trips1.symm⟩
  rw [trip1, load_all _ _ zeros2, load_all _ _ zeros2, load_all _ _ zeros2, load_rows _ _ _ k (k0_off1_eq ⟨k.val, k.isLt.trans_eq trips1.symm⟩)] at e
  exact ⟨_, k0_off1_eq ⟨k.val, k.isLt.trans_eq trips1.symm⟩, _, e⟩

/-- What one trip of the second loop stores, in each of the four buffers. -/
theorem trip2 (h5 : k0_cond5 i = 1#1)
    (X3 : BufTy.Contents (Elt F) arg3.view.ty) (X4 : BufTy.Contents (Elt F) arg4.view.ty) (X7 : BufTy.Contents (Elt F) arg7.view.ty)
    (X18 : BufTy.Contents (Elt F) arg18.view.ty) (k : Fin k0_t2_loop.trips)
    (f12 : BufTy.Contents (Elt F) arg12.view.ty) (f13 : BufTy.Contents (Elt F) arg13.view.ty) (f16 : BufTy.Contents (Elt F) arg16.view.ty)
    (f17 : BufTy.Contents (Elt F) arg17.view.ty) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 k f12 f13 f16 f17 =
      let q := Rect.unit (s := S512x2048) (k0_off2 k) S64x2048.size (k0_off2_inb i k h5)
      let v := Rect.unit (s := S1x2048) ![0, 0] S1x2048.size inb_S1x2048_S1x2048_0_0
      let u := Rect.unit (s := S1x128) ![0, 0] S1x128.size inb_S1x128_S1x128_0_0
      let ps := arg18.view.readAt (Elt F) q.toLoadRect X18
      let pg := arg7.view.readAt (Elt F) v.toLoadRect X7
      let px := arg3.view.readAt (Elt F) q.toLoadRect X3
      let pt := arg4.view.readAt (Elt F) q.toLoadRect X4;
      ([⟨q, k0_pay25 ps pg px pt⟩], [⟨q, k0_pay26 ps pg px pt⟩], [⟨v, k0_pay27 ps pg px pt (arg16.view.readAt (Elt F) v.toLoadRect f16)⟩],
        [⟨u, k0_pay22 (k0_pay28 ps pg px pt) (arg17.view.readAt (Elt F) u.toLoadRect f17)⟩]) := by
  unfold tripL_k0_t2 trip_k0_t2
  rfl

section Second

variable (h5 : k0_cond5 i = 1#1)
    (X3 : BufTy.Contents (Elt F) arg3.view.ty) (X4 : BufTy.Contents (Elt F) arg4.view.ty) (X7 : BufTy.Contents (Elt F) arg7.view.ty)
    (X18 : BufTy.Contents (Elt F) arg18.view.ty)
    (G12 : BufTy.Contents (Elt F) arg12.view.ty) (G13 : BufTy.Contents (Elt F) arg13.view.ty) (G16 : BufTy.Contents (Elt F) arg16.view.ty)
    (G17 : BufTy.Contents (Elt F) arg17.view.ty)

/-- The pieces of the second loop's trips before `n`. -/
abbrev pieces2 (n : Nat) :=
  pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 n

/-- One trip more of the second loop. -/
theorem pieces2_succ (k : Fin 8) : pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 (k.val + 1) =
      let P := pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 k.val
      let q := Rect.unit (s := S512x2048) (k0_off2 ⟨k.val, k.isLt.trans_eq trips2.symm⟩) S64x2048.size (k0_off2_inb i ⟨k.val, k.isLt.trans_eq trips2.symm⟩ h5)
      let v := Rect.unit (s := S1x2048) ![0, 0] S1x2048.size inb_S1x2048_S1x2048_0_0
      let u := Rect.unit (s := S1x128) ![0, 0] S1x128.size inb_S1x128_S1x128_0_0
      let ps := rowsOf (arg18.view.read (Elt F) X18) k
      let pg := arg7.view.read (Elt F) X7
      let px := rowsOf (arg3.view.read (Elt F) X3) k
      let pt := rowsOf (arg4.view.read (Elt F) X4) k;
      (⟨q, k0_pay25 ps pg px pt⟩ :: P.1, ⟨q, k0_pay26 ps pg px pt⟩ :: P.2.1,
        ⟨v, k0_pay27 ps pg px pt (arg16.view.readAt (Elt F) v.toLoadRect (arg16.view.writes (Elt F) G16 P.2.2.1))⟩ :: P.2.2.1,
        ⟨u, k0_pay22 (k0_pay28 ps pg px pt) (arg17.view.readAt (Elt F) u.toLoadRect (arg17.view.writes (Elt F) G17 P.2.2.2))⟩ :: P.2.2.2) := by
  have e := pb_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 ⟨k.val, k.isLt.trans_eq trips2.symm⟩
  rw [trip2] at e
  have rows : ∀ {e : EltTy} (v : View sig .tc .vmem S512x2048 e) (f : v.ty.Contents (Elt F)),
      v.readAt (Elt F) (Rect.unit (s := S512x2048) (k0_off2 ⟨k.val, k.isLt.trans_eq trips2.symm⟩) S64x2048.size
        (k0_off2_inb i ⟨k.val, k.isLt.trans_eq trips2.symm⟩ h5)).toLoadRect f = rowsOf (v.read (Elt F) f) k :=
    fun v f => load_rows v f _ k (k0_off2_eq _) _
  rw [← rows, ← rows, ← rows, ← load_all arg7.view X7 zeros2 inb_S1x2048_S1x2048_0_0]
  exact e

theorem loop2_grad : arg12.view.read (Elt F) (arg12.view.writes (Elt F) G12 (pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 8).1)
      = lossGrad (arg18.view.read (Elt F) X18) (arg3.view.read (Elt F) X3) (arg4.view.read (Elt F) X4) (arg7.view.read (Elt F) X7) := by
  refine read_rows_all arg12.view G12 _ (fun n => (pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 n).1) rfl fun k => ?_
  exact ⟨_, k0_off2_eq ⟨k.val, k.isLt.trans_eq trips2.symm⟩, _, congrArg (fun P => P.1) (pieces2_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 k)⟩

theorem loop2_block : arg13.view.read (Elt F) (arg13.view.writes (Elt F) G13 (pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 8).2.1)
      = blockGrad (arg18.view.read (Elt F) X18) (arg3.view.read (Elt F) X3) (arg4.view.read (Elt F) X4) (arg7.view.read (Elt F) X7) := by
  refine read_rows_all arg13.view G13 _ (fun n => (pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 n).2.1) rfl fun k => ?_
  exact ⟨_, k0_off2_eq ⟨k.val, k.isLt.trans_eq trips2.symm⟩, _, congrArg (fun P => P.2.1) (pieces2_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 k)⟩

theorem loop2_gate : ∀ n : Nat, n ≤ 8 →
    arg16.view.read (Elt F) (arg16.view.writes (Elt F) G16 (pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 n).2.2.1)
      = gateSum (arg18.view.read (Elt F) X18) (arg3.view.read (Elt F) X3) (arg4.view.read (Elt F) X4) (arg7.view.read (Elt F) X7)
          (arg16.view.read (Elt F) G16) n
  | 0, _ => rfl
  | n + 1, h => by
    have e := congrArg (fun P => P.2.2.1) (pieces2_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 ⟨n, h⟩)
    dsimp only at e
    rw [e, read_store_all _ _ zeros2, load_all _ _ zeros2, loop2_gate n (by omega)]
    exact (gateSum_succ _ _ _ _ _ n h).symm

theorem loop2_squares : ∀ n : Nat, n ≤ 8 →
    arg17.view.read (Elt F) (arg17.view.writes (Elt F) G17 (pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 n).2.2.2)
      = squareSum (arg18.view.read (Elt F) X18) (arg3.view.read (Elt F) X3) (arg4.view.read (Elt F) X4) (arg7.view.read (Elt F) X7)
          (arg17.view.read (Elt F) G17) n
  | 0, _ => rfl
  | n + 1, h => by
    have e := congrArg (fun P => P.2.2.2) (pieces2_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 X3 X4 X7 X18 G12 G13 G16 G17 ⟨n, h⟩)
    dsimp only at e
    rw [e, read_store_all _ _ zeros2, load_all _ _ zeros2, loop2_squares n (by omega)]
    exact (squareSum_succ _ _ _ _ _ n h).symm

end Second

end Loops

end Cert.FfnFwdIdeal.Ffn

end
-- ==== Proof.FwdBody.lean ====
module

public import proofs.«01_k».proof.Proof.FwdLoops
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise.Index

@[expose] public section

set_option maxRecDepth 16384

noncomputable section

namespace Cert.FfnFwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.FfnFwdIdeal.Gen

variable {F : FTy → Type} [FloatOps F]

local notation "𝕄" => MT nD τ sig Unit (Elt F) ℕ (UR sig nD τ) ℕ

/-- The whole of a row block in the narrow format. -/
theorem ld_rows16 (X : Vec F S512x2048 .bf16) :
    View.ld X (Rect.unit (s := S512x2048) ![0, 0] ![512, 2048] inb_S512x2048_S512x2048_0_0) = X :=
  View.ld_unit_zero (S := S512x2048) zeros2 inb_S512x2048_S512x2048_0_0 X

/-- The whole of a row block in the wide format. -/
theorem ld_rows32 (X : Vec F S512x2048 .f32) :
    View.ld X (Rect.unit (s := S512x2048) ![0, 0] ![512, 2048] inb_S512x2048_S512x2048_0_0) = X :=
  View.ld_unit_zero (S := S512x2048) zeros2 inb_S512x2048_S512x2048_0_0 X

/-- The whole of a block of an input matrix. -/
theorem ld_win (X : Vec F S2048x1024 .bf16) :
    View.ld X (Rect.unit (s := S2048x1024) ![0, 0] ![2048, 1024] inb_S2048x1024_S2048x1024_0_0) = X :=
  View.ld_unit_zero (S := S2048x1024) zeros2 inb_S2048x1024_S2048x1024_0_0 X

/-- The whole of a block of the second matrix. -/
theorem ld_wout (X : Vec F S1024x2048 .bf16) :
    View.ld X (Rect.unit (s := S1024x2048) ![0, 0] ![1024, 2048] inb_S1024x2048_S1024x2048_0_0) = X :=
  View.ld_unit_zero (S := S1024x2048) zeros2 inb_S1024x2048_S1024x2048_0_0 X

/-- The gate's sum read back after it was started. -/
theorem read_gate {κ : Kind} {sp : Space} (v : View sig κ sp S1x2048 .f32) (f : v.ty.Contents (Elt F)) (w : Vec F S1x2048 .f32) :
    v.read (Elt F) (v.writes (Elt F) f [(⟨Rect.unit (s := S1x2048) ![0, 0] ![1, 2048] inb_S1x2048_S1x2048_0_0, w⟩ : View.Piece (Elt F) S1x2048 .f32)]) = w :=
  read_store_all v f zeros2 inb_S1x2048_S1x2048_0_0 w []

/-- The squares' sum read back after it was started. -/
theorem read_squares {κ : Kind} {sp : Space} (v : View sig κ sp S1x128 .f32) (f : v.ty.Contents (Elt F)) (w : Vec F S1x128 .f32) :
    v.read (Elt F) (v.writes (Elt F) f [(⟨Rect.unit (s := S1x128) ![0, 0] ![1, 128] inb_S1x128_S1x128_0_0, w⟩ : View.Piece (Elt F) S1x128 .f32)]) = w :=
  read_store_all v f zeros2 inb_S1x128_S1x128_0_0 w []

/-- The wide row block read back after it was stored. -/
theorem read_rows32 {κ : Kind} {sp : Space} (v : View sig κ sp S512x2048 .f32) (f : v.ty.Contents (Elt F)) (w : Vec F S512x2048 .f32) :
    v.read (Elt F) (v.writes (Elt F) f [(⟨Rect.unit (s := S512x2048) ![0, 0] ![512, 2048] inb_S512x2048_S512x2048_0_0, w⟩ : View.Piece (Elt F) S512x2048 .f32)]) = w :=
  read_store_all v f zeros2 inb_S512x2048_S512x2048_0_0 w []

section Body

variable (c : Dev nD) (i : grid0.Coords) (arg2 : Memref sig .tc .vmem S1x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x1024 .bf16) (harg8 : arg8.IsWhole) (arg9 : Memref sig .tc .vmem S2048x1024 .bf16) (harg9 : arg9.IsWhole) (arg10 : Memref sig .tc .vmem S1024x2048 .bf16) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x2048 .f32) (harg16 : arg16.IsWhole) (arg17 : Memref sig .tc .vmem S1x128 .f32) (harg17 : arg17.IsWhole) (arg18 : Memref sig .tc .vmem S512x2048 .f32) (harg18 : arg18.IsWhole)

set_option maxHeartbeats 2000000 in
/-- At the first column block of a row block. -/
theorem run_first (h1 : k0_cond1 i = 1#1) (h2 : k0_cond2 i = 1#1) (h3 : ¬ k0_cond3 i = 1#1) (h4 : ¬ k0_cond4 i = 1#1) (h5 : ¬ k0_cond5 i = 1#1)
    (xg : Vec F S1x2048 .f32) (xx : Vec F S512x2048 .f32) (xt : Vec F S512x2048 .f32) (xh : Vec F S1x2048 .f32) (xc : Vec F S1x2048 .f32) (xe : Vec F S1x2048 .f32) (x1 : Vec F S2048x1024 .bf16) (x3 : Vec F S2048x1024 .bf16) (x2 : Vec F S1024x2048 .bf16) (yh : Vec F S512x2048 .bf16) (yg : Vec F S512x2048 .f32) (yf : Vec F S512x2048 .bf16) (ya : Vec F S512x1024 .bf16) (yb : Vec F S512x1024 .bf16) (yd : Vec F S1x2048 .f32) (yl : Vec F S1x128 .f32) (acc : Vec F S512x2048 .f32) (E : Set ℕ) (K : PUnit → sProp 𝕄) :
    iprop(owns (c : Thread nD τ) arg2 fullShare xg ∗ owns (c : Thread nD τ) arg3 fullShare xx ∗ owns (c : Thread nD τ) arg4 fullShare xt ∗ owns (c : Thread nD τ) arg5 fullShare xh ∗ owns (c : Thread nD τ) arg6 fullShare xc ∗ owns (c : Thread nD τ) arg7 fullShare xe ∗ owns (c : Thread nD τ) arg8 fullShare x1 ∗ owns (c : Thread nD τ) arg9 fullShare x3 ∗ owns (c : Thread nD τ) arg10 fullShare x2 ∗ owns (c : Thread nD τ) arg11 fullShare yh ∗ owns (c : Thread nD τ) arg12 fullShare yg ∗ owns (c : Thread nD τ) arg13 fullShare yf ∗ owns (c : Thread nD τ) arg14 fullShare ya ∗ owns (c : Thread nD τ) arg15 fullShare yb ∗ owns (c : Thread nD τ) arg16 fullShare yd ∗ owns (c : Thread nD τ) arg17 fullShare yl ∗ owns (c : Thread nD τ) arg18 fullShare acc
        ∗ (iprop(owns (c : Thread nD τ) arg2 fullShare xg ∗ owns (c : Thread nD τ) arg3 fullShare xx ∗ owns (c : Thread nD τ) arg4 fullShare xt ∗ owns (c : Thread nD τ) arg5 fullShare xh ∗ owns (c : Thread nD τ) arg6 fullShare xc ∗ owns (c : Thread nD τ) arg7 fullShare xe ∗ owns (c : Thread nD τ) arg8 fullShare x1 ∗ owns (c : Thread nD τ) arg9 fullShare x3 ∗ owns (c : Thread nD τ) arg10 fullShare x2 ∗ owns (c : Thread nD τ) arg11 fullShare (normed xx xg xc xh) ∗ owns (c : Thread nD τ) arg12 fullShare yg ∗ owns (c : Thread nD τ) arg13 fullShare yf ∗ owns (c : Thread nD τ) arg14 fullShare (k0_pay5 (normed xx xg xc xh) x1) ∗ owns (c : Thread nD τ) arg15 fullShare (k0_pay6 (normed xx xg xc xh) x3) ∗ owns (c : Thread nD τ) arg16 fullShare yd ∗ owns (c : Thread nD τ) arg17 fullShare yl ∗ owns (c : Thread nD τ) arg18 fullShare (k0_pay7 (normed xx xg xc xh) x1 x3 x2)) -∗ K ⟨⟩))
      ⊢ wp frame (wpE (defs₀ (F := F)) Variants.none c none) E (cc0_ffn2_fwd_loss i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have rows := (loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 (harg2.unread xg) (harg3.unread xx) (harg5.unread xh) (harg6.unread xc) (harg11.unread yh)).trans (show _ = normed xx xg xc xh by simp only [harg2.read_unread, harg3.read_unread, harg5.read_unread, harg6.read_unread])
  rw [cc0_ffn2_fwd_loss_eq_skeleton]
  unfold cc0_ffn2_fwd_loss_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact h1 | sl_exact h2 | sl_exact h3 | sl_exact h4 | sl_exact h5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact rows
  isplitl [H10]
  · iexists _; isplitr; swap; · iexact H10
    ipureintro; exact harg12.read_unread _
  isplitl [H11]
  · iexists _; isplitr; swap; · iexact H11
    ipureintro; exact harg13.read_unread _
  isplitl [H12]
  · iexists _; isplitr; swap; · iexact H12
    ipureintro; sl_unfold_words; refine (read_store_all _ _ zeros2 _ _ _).trans ?_; simp only [ld_of_load, ld_rows16, ld_rows32, ld_win, ld_wout, hf0, hf1, hf2, hf3, hf4, hf5, hf6, hf7, hf8, hf9, hf10, hf11, hf12, hf13, hf14, hf15, hf16]; exact congrArg (fun v => k0_pay5 v x1) rows
  isplitl [H13]
  · iexists _; isplitr; swap; · iexact H13
    ipureintro; sl_unfold_words; refine (read_store_all _ _ zeros2 _ _ _).trans ?_; simp only [ld_of_load, ld_rows16, ld_rows32, ld_win, ld_wout, hf0, hf1, hf2, hf3, hf4, hf5, hf6, hf7, hf8, hf9, hf10, hf11, hf12, hf13, hf14, hf15, hf16]; exact congrArg (fun v => k0_pay6 v x3) rows
  isplitl [H14]
  · iexists _; isplitr; swap; · iexact H14
    ipureintro; exact harg16.read_unread _
  isplitl [H15]
  · iexists _; isplitr; swap; · iexact H15
    ipureintro; exact harg17.read_unread _
  iexists _; isplitr; swap; · iexact H16
  ipureintro; sl_unfold_words; refine (read_store_all _ _ zeros2 _ _ _).trans ?_; simp only [ld_of_load, ld_rows16, ld_rows32, ld_win, ld_wout, hf0, hf1, hf2, hf3, hf4, hf5, hf6, hf7, hf8, hf9, hf10, hf11, hf12, hf13, hf14, hf15, hf16]; exact congrArg (fun v => k0_pay7 v x1 x3 x2) rows

set_option maxHeartbeats 2000000 in
/-- At a column block between the first and the last. -/
theorem run_mid (h1 : ¬ k0_cond1 i = 1#1) (h2 : ¬ k0_cond2 i = 1#1) (h3 : k0_cond3 i = 1#1) (h4 : ¬ k0_cond4 i = 1#1) (h5 : ¬ k0_cond5 i = 1#1)
    (xg : Vec F S1x2048 .f32) (xx : Vec F S512x2048 .f32) (xt : Vec F S512x2048 .f32) (xh : Vec F S1x2048 .f32) (xc : Vec F S1x2048 .f32) (xe : Vec F S1x2048 .f32) (x1 : Vec F S2048x1024 .bf16) (x3 : Vec F S2048x1024 .bf16) (x2 : Vec F S1024x2048 .bf16) (yh : Vec F S512x2048 .bf16) (yg : Vec F S512x2048 .f32) (yf : Vec F S512x2048 .bf16) (ya : Vec F S512x1024 .bf16) (yb : Vec F S512x1024 .bf16) (yd : Vec F S1x2048 .f32) (yl : Vec F S1x128 .f32) (acc : Vec F S512x2048 .f32) (E : Set ℕ) (K : PUnit → sProp 𝕄) :
    iprop(owns (c : Thread nD τ) arg2 fullShare xg ∗ owns (c : Thread nD τ) arg3 fullShare xx ∗ owns (c : Thread nD τ) arg4 fullShare xt ∗ owns (c : Thread nD τ) arg5 fullShare xh ∗ owns (c : Thread nD τ) arg6 fullShare xc ∗ owns (c : Thread nD τ) arg7 fullShare xe ∗ owns (c : Thread nD τ) arg8 fullShare x1 ∗ owns (c : Thread nD τ) arg9 fullShare x3 ∗ owns (c : Thread nD τ) arg10 fullShare x2 ∗ owns (c : Thread nD τ) arg11 fullShare yh ∗ owns (c : Thread nD τ) arg12 fullShare yg ∗ owns (c : Thread nD τ) arg13 fullShare yf ∗ owns (c : Thread nD τ) arg14 fullShare ya ∗ owns (c : Thread nD τ) arg15 fullShare yb ∗ owns (c : Thread nD τ) arg16 fullShare yd ∗ owns (c : Thread nD τ) arg17 fullShare yl ∗ owns (c : Thread nD τ) arg18 fullShare acc
        ∗ (iprop(owns (c : Thread nD τ) arg2 fullShare xg ∗ owns (c : Thread nD τ) arg3 fullShare xx ∗ owns (c : Thread nD τ) arg4 fullShare xt ∗ owns (c : Thread nD τ) arg5 fullShare xh ∗ owns (c : Thread nD τ) arg6 fullShare xc ∗ owns (c : Thread nD τ) arg7 fullShare xe ∗ owns (c : Thread nD τ) arg8 fullShare x1 ∗ owns (c : Thread nD τ) arg9 fullShare x3 ∗ owns (c : Thread nD τ) arg10 fullShare x2 ∗ owns (c : Thread nD τ) arg11 fullShare yh ∗ owns (c : Thread nD τ) arg12 fullShare yg ∗ owns (c : Thread nD τ) arg13 fullShare yf ∗ owns (c : Thread nD τ) arg14 fullShare (k0_pay11 yh x1) ∗ owns (c : Thread nD τ) arg15 fullShare (k0_pay12 yh x3) ∗ owns (c : Thread nD τ) arg16 fullShare yd ∗ owns (c : Thread nD τ) arg17 fullShare yl ∗ owns (c : Thread nD τ) arg18 fullShare (k0_pay13 yh x1 x3 acc x2)) -∗ K ⟨⟩))
      ⊢ wp frame (wpE (defs₀ (F := F)) Variants.none c none) E (cc0_ffn2_fwd_loss i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_ffn2_fwd_loss_eq_skeleton]
  unfold cc0_ffn2_fwd_loss_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact h1 | sl_exact h2 | sl_exact h3 | sl_exact h4 | sl_exact h5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _; isplitr; swap; · iexact H10
    ipureintro; exact harg12.read_unread _
  isplitl [H11]
  · iexists _; isplitr; swap; · iexact H11
    ipureintro; exact harg13.read_unread _
  isplitl [H12]
  · iexists _; isplitr; swap; · iexact H12
    ipureintro; sl_unfold_words; refine (read_store_all _ _ zeros2 _ _ _).trans ?_; simp only [ld_of_load, ld_rows16, ld_rows32, ld_win, ld_wout, hf0, hf1, hf2, hf3, hf4, hf5, hf6, hf7, hf8, hf9, hf10, hf11, hf12, hf13, hf14, hf15, hf16]
  isplitl [H13]
  · iexists _; isplitr; swap; · iexact H13
    ipureintro; sl_unfold_words; refine (read_store_all _ _ zeros2 _ _ _).trans ?_; simp only [ld_of_load, ld_rows16, ld_rows32, ld_win, ld_wout, hf0, hf1, hf2, hf3, hf4, hf5, hf6, hf7, hf8, hf9, hf10, hf11, hf12, hf13, hf14, hf15, hf16]
  isplitl [H14]
  · iexists _; isplitr; swap; · iexact H14
    ipureintro; exact harg16.read_unread _
  isplitl [H15]
  · iexists _; isplitr; swap; · iexact H15
    ipureintro; exact harg17.read_unread _
  iexists _; isplitr; swap; · iexact H16
  ipureintro; sl_unfold_words; refine (read_store_all _ _ zeros2 _ _ _).trans ?_; simp only [ld_of_load, ld_rows16, ld_rows32, ld_win, ld_wout, hf0, hf1, hf2, hf3, hf4, hf5, hf6, hf7, hf8, hf9, hf10, hf11, hf12, hf13, hf14, hf15, hf16]

set_option maxHeartbeats 2000000 in
/-- At the last column block of the first row block: only its first 512 columns exist, and the sums over all rows start. -/
theorem run_last_first (h1 : ¬ k0_cond1 i = 1#1) (h2 : ¬ k0_cond2 i = 1#1) (h3 : ¬ k0_cond3 i = 1#1) (h4 : k0_cond4 i = 1#1) (h5 : k0_cond5 i = 1#1) (h6 : k0_cond6 i = 1#1)
    (xg : Vec F S1x2048 .f32) (xx : Vec F S512x2048 .f32) (xt : Vec F S512x2048 .f32) (xh : Vec F S1x2048 .f32) (xc : Vec F S1x2048 .f32) (xe : Vec F S1x2048 .f32) (x1 : Vec F S2048x1024 .bf16) (x3 : Vec F S2048x1024 .bf16) (x2 : Vec F S1024x2048 .bf16) (yh : Vec F S512x2048 .bf16) (yg : Vec F S512x2048 .f32) (yf : Vec F S512x2048 .bf16) (ya : Vec F S512x1024 .bf16) (yb : Vec F S512x1024 .bf16) (yd : Vec F S1x2048 .f32) (yl : Vec F S1x128 .f32) (acc : Vec F S512x2048 .f32) (E : Set ℕ) (K : PUnit → sProp 𝕄) :
    iprop(owns (c : Thread nD τ) arg2 fullShare xg ∗ owns (c : Thread nD τ) arg3 fullShare xx ∗ owns (c : Thread nD τ) arg4 fullShare xt ∗ owns (c : Thread nD τ) arg5 fullShare xh ∗ owns (c : Thread nD τ) arg6 fullShare xc ∗ owns (c : Thread nD τ) arg7 fullShare xe ∗ owns (c : Thread nD τ) arg8 fullShare x1 ∗ owns (c : Thread nD τ) arg9 fullShare x3 ∗ owns (c : Thread nD τ) arg10 fullShare x2 ∗ owns (c : Thread nD τ) arg11 fullShare yh ∗ owns (c : Thread nD τ) arg12 fullShare yg ∗ owns (c : Thread nD τ) arg13 fullShare yf ∗ owns (c : Thread nD τ) arg14 fullShare ya ∗ owns (c : Thread nD τ) arg15 fullShare yb ∗ owns (c : Thread nD τ) arg16 fullShare yd ∗ owns (c : Thread nD τ) arg17 fullShare yl ∗ owns (c : Thread nD τ) arg18 fullShare acc
        ∗ (iprop(owns (c : Thread nD τ) arg2 fullShare xg ∗ owns (c : Thread nD τ) arg3 fullShare xx ∗ owns (c : Thread nD τ) arg4 fullShare xt ∗ owns (c : Thread nD τ) arg5 fullShare xh ∗ owns (c : Thread nD τ) arg6 fullShare xc ∗ owns (c : Thread nD τ) arg7 fullShare xe ∗ owns (c : Thread nD τ) arg8 fullShare x1 ∗ owns (c : Thread nD τ) arg9 fullShare x3 ∗ owns (c : Thread nD τ) arg10 fullShare x2 ∗ owns (c : Thread nD τ) arg11 fullShare yh ∗ owns (c : Thread nD τ) arg12 fullShare (lossGrad (k0_pay19 yh (leftW x1) (leftW x3) acc (topR x2)) xx xt xe) ∗ owns (c : Thread nD τ) arg13 fullShare (blockGrad (k0_pay19 yh (leftW x1) (leftW x3) acc (topR x2)) xx xt xe) ∗ owns (c : Thread nD τ) arg14 fullShare (putL ya (k0_pay17 yh (leftW x1))) ∗ owns (c : Thread nD τ) arg15 fullShare (putL yb (k0_pay18 yh (leftW x3))) ∗ owns (c : Thread nD τ) arg16 fullShare (gateSum (k0_pay19 yh (leftW x1) (leftW x3) acc (topR x2)) xx xt xe (k0_pay20 (F := F)) 8) ∗ owns (c : Thread nD τ) arg17 fullShare (squareSum (k0_pay19 yh (leftW x1) (leftW x3) acc (topR x2)) xx xt xe (k0_pay21 (F := F)) 8) ∗ owns (c : Thread nD τ) arg18 fullShare (k0_pay19 yh (leftW x1) (leftW x3) acc (topR x2))) -∗ K ⟨⟩))
      ⊢ wp frame (wpE (defs₀ (F := F)) Variants.none c none) E (cc0_ffn2_fwd_loss i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_ffn2_fwd_loss_eq_skeleton]
  unfold cc0_ffn2_fwd_loss_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact h1 | sl_exact h2 | sl_exact h3 | sl_exact h4 | sl_exact h5 | sl_exact h6)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _; isplitr; swap; · iexact H10
    ipureintro; refine (loop2_grad c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 _ _ _ _ _ _ _ _).trans ?_; sl_unfold_words; simp only [read_rows32, read_gate, read_squares, ld_of_load, ld_rows16, ld_rows32, ld_win, ld_wout, hf0, hf1, hf2, hf3, hf4, hf5, hf6, hf7, hf8, hf9, hf10, hf11, hf12, hf13, hf14, hf15, hf16]
  isplitl [H11]
  · iexists _; isplitr; swap; · iexact H11
    ipureintro; refine (loop2_block c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 _ _ _ _ _ _ _ _).trans ?_; sl_unfold_words; simp only [read_rows32, read_gate, read_squares, ld_of_load, ld_rows16, ld_rows32, ld_win, ld_wout, hf0, hf1, hf2, hf3, hf4, hf5, hf6, hf7, hf8, hf9, hf10, hf11, hf12, hf13, hf14, hf15, hf16]
  isplitl [H12]
  · iexists _; isplitr; swap; · iexact H12
    ipureintro; sl_unfold_words; refine (read_store_left _ _ _).trans ?_; simp only [ld_of_load, ld_rows16, ld_rows32, ld_win, ld_wout, hf0, hf1, hf2, hf3, hf4, hf5, hf6, hf7, hf8, hf9, hf10, hf11, hf12, hf13, hf14, hf15, hf16]
  isplitl [H13]
  · iexists _; isplitr; swap; · iexact H13
    ipureintro; sl_unfold_words; refine (read_store_left _ _ _).trans ?_; simp only [ld_of_load, ld_rows16, ld_rows32, ld_win, ld_wout, hf0, hf1, hf2, hf3, hf4, hf5, hf6, hf7, hf8, hf9, hf10, hf11, hf12, hf13, hf14, hf15, hf16]
  isplitl [H14]
  · iexists _; isplitr; swap; · iexact H14
    ipureintro; rw [View.writes_append]; refine (loop2_gate c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 _ _ _ _ _ _ _ _ 8 (Nat.le_refl _)).trans ?_; sl_unfold_words; simp only [read_rows32, read_gate, read_squares, ld_of_load, ld_rows16, ld_rows32, ld_win, ld_wout, hf0, hf1, hf2, hf3, hf4, hf5, hf6, hf7, hf8, hf9, hf10, hf11, hf12, hf13, hf14, hf15, hf16]
  isplitl [H15]
  · iexists _; isplitr; swap; · iexact H15
    ipureintro; rw [View.writes_append]; refine (loop2_squares c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 _ _ _ _ _ _ _ _ 8 (Nat.le_refl _)).trans ?_; sl_unfold_words; simp only [read_rows32, read_gate, read_squares, ld_of_load, ld_rows16, ld_rows32, ld_win, ld_wout, hf0, hf1, hf2, hf3, hf4, hf5, hf6, hf7, hf8, hf9, hf10, hf11, hf12, hf13, hf14, hf15, hf16]
  iexists _; isplitr; swap; · iexact H16
  ipureintro; sl_unfold_words; simp only [read_rows32, ld_of_load, ld_rows16, ld_rows32, ld_win, ld_wout, hf0, hf1, hf2, hf3, hf4, hf5, hf6, hf7, hf8, hf9, hf10, hf11, hf12, hf13, hf14, hf15, hf16]

set_option maxHeartbeats 2000000 in
/-- At the last column block of a later row block: the sums over all rows go on. -/
theorem run_last (h1 : ¬ k0_cond1 i = 1#1) (h2 : ¬ k0_cond2 i = 1#1) (h3 : ¬ k0_cond3 i = 1#1) (h4 : k0_cond4 i = 1#1) (h5 : k0_cond5 i = 1#1) (h6 : ¬ k0_cond6 i = 1#1)
    (xg : Vec F S1x2048 .f32) (xx : Vec F S512x2048 .f32) (xt : Vec F S512x2048 .f32) (xh : Vec F S1x2048 .f32) (xc : Vec F S1x2048 .f32) (xe : Vec F S1x2048 .f32) (x1 : Vec F S2048x1024 .bf16) (x3 : Vec F S2048x1024 .bf16) (x2 : Vec F S1024x2048 .bf16) (yh : Vec F S512x2048 .bf16) (yg : Vec F S512x2048 .f32) (yf : Vec F S512x2048 .bf16) (ya : Vec F S512x1024 .bf16) (yb : Vec F S512x1024 .bf16) (yd : Vec F S1x2048 .f32) (yl : Vec F S1x128 .f32) (acc : Vec F S512x2048 .f32) (E : Set ℕ) (K : PUnit → sProp 𝕄) :
    iprop(owns (c : Thread nD τ) arg2 fullShare xg ∗ owns (c : Thread nD τ) arg3 fullShare xx ∗ owns (c : Thread nD τ) arg4 fullShare xt ∗ owns (c : Thread nD τ) arg5 fullShare xh ∗ owns (c : Thread nD τ) arg6 fullShare xc ∗ owns (c : Thread nD τ) arg7 fullShare xe ∗ owns (c : Thread nD τ) arg8 fullShare x1 ∗ owns (c : Thread nD τ) arg9 fullShare x3 ∗ owns (c : Thread nD τ) arg10 fullShare x2 ∗ owns (c : Thread nD τ) arg11 fullShare yh ∗ owns (c : Thread nD τ) arg12 fullShare yg ∗ owns (c : Thread nD τ) arg13 fullShare yf ∗ owns (c : Thread nD τ) arg14 fullShare ya ∗ owns (c : Thread nD τ) arg15 fullShare yb ∗ owns (c : Thread nD τ) arg16 fullShare yd ∗ owns (c : Thread nD τ) arg17 fullShare yl ∗ owns (c : Thread nD τ) arg18 fullShare acc
        ∗ (iprop(owns (c : Thread nD τ) arg2 fullShare xg ∗ owns (c : Thread nD τ) arg3 fullShare xx ∗ owns (c : Thread nD τ) arg4 fullShare xt ∗ owns (c : Thread nD τ) arg5 fullShare xh ∗ owns (c : Thread nD τ) arg6 fullShare xc ∗ owns (c : Thread nD τ) arg7 fullShare xe ∗ owns (c : Thread nD τ) arg8 fullShare x1 ∗ owns (c : Thread nD τ) arg9 fullShare x3 ∗ owns (c : Thread nD τ) arg10 fullShare x2 ∗ owns (c : Thread nD τ) arg11 fullShare yh ∗ owns (c : Thread nD τ) arg12 fullShare (lossGrad (k0_pay19 yh (leftW x1) (leftW x3) acc (topR x2)) xx xt xe) ∗ owns (c : Thread nD τ) arg13 fullShare (blockGrad (k0_pay19 yh (leftW x1) (leftW x3) acc (topR x2)) xx xt xe) ∗ owns (c : Thread nD τ) arg14 fullShare (putL ya (k0_pay17 yh (leftW x1))) ∗ owns (c : Thread nD τ) arg15 fullShare (putL yb (k0_pay18 yh (leftW x3))) ∗ owns (c : Thread nD τ) arg16 fullShare (gateSum (k0_pay19 yh (leftW x1) (leftW x3) acc (topR x2)) xx xt xe yd 8) ∗ owns (c : Thread nD τ) arg17 fullShare (squareSum (k0_pay19 yh (leftW x1) (leftW x3) acc (topR x2)) xx xt xe yl 8) ∗ owns (c : Thread nD τ) arg18 fullShare (k0_pay19 yh (leftW x1) (leftW x3) acc (topR x2))) -∗ K ⟨⟩))
      ⊢ wp frame (wpE (defs₀ (F := F)) Variants.none c none) E (cc0_ffn2_fwd_loss i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_ffn2_fwd_loss_eq_skeleton]
  unfold cc0_ffn2_fwd_loss_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact h1 | sl_exact h2 | sl_exact h3 | sl_exact h4 | sl_exact h5 | sl_exact h6)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _; isplitr; swap; · iexact H10
    ipureintro; refine (loop2_grad c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 _ _ _ _ _ _ _ _).trans ?_; sl_unfold_words; simp only [read_rows32, read_gate, read_squares, ld_of_load, ld_rows16, ld_rows32, ld_win, ld_wout, hf0, hf1, hf2, hf3, hf4, hf5, hf6, hf7, hf8, hf9, hf10, hf11, hf12, hf13, hf14, hf15, hf16]
  isplitl [H11]
  · iexists _; isplitr; swap; · iexact H11
    ipureintro; refine (loop2_block c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 _ _ _ _ _ _ _ _).trans ?_; sl_unfold_words; simp only [read_rows32, read_gate, read_squares, ld_of_load, ld_rows16, ld_rows32, ld_win, ld_wout, hf0, hf1, hf2, hf3, hf4, hf5, hf6, hf7, hf8, hf9, hf10, hf11, hf12, hf13, hf14, hf15, hf16]
  isplitl [H12]
  · iexists _; isplitr; swap; · iexact H12
    ipureintro; sl_unfold_words; refine (read_store_left _ _ _).trans ?_; simp only [ld_of_load, ld_rows16, ld_rows32, ld_win, ld_wout, hf0, hf1, hf2, hf3, hf4, hf5, hf6, hf7, hf8, hf9, hf10, hf11, hf12, hf13, hf14, hf15, hf16]
  isplitl [H13]
  · iexists _; isplitr; swap; · iexact H13
    ipureintro; sl_unfold_words; refine (read_store_left _ _ _).trans ?_; simp only [ld_of_load, ld_rows16, ld_rows32, ld_win, ld_wout, hf0, hf1, hf2, hf3, hf4, hf5, hf6, hf7, hf8, hf9, hf10, hf11, hf12, hf13, hf14, hf15, hf16]
  isplitl [H14]
  · iexists _; isplitr; swap; · iexact H14
    ipureintro; refine (loop2_gate c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 _ _ _ _ _ _ _ _ 8 (Nat.le_refl _)).trans ?_; sl_unfold_words; simp only [read_rows32, read_gate, read_squares, ld_of_load, ld_rows16, ld_rows32, ld_win, ld_wout, hf0, hf1, hf2, hf3, hf4, hf5, hf6, hf7, hf8, hf9, hf10, hf11, hf12, hf13, hf14, hf15, hf16]
  isplitl [H15]
  · iexists _; isplitr; swap; · iexact H15
    ipureintro; refine (loop2_squares c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h5 _ _ _ _ _ _ _ _ 8 (Nat.le_refl _)).trans ?_; sl_unfold_words; simp only [read_rows32, read_gate, read_squares, ld_of_load, ld_rows16, ld_rows32, ld_win, ld_wout, hf0, hf1, hf2, hf3, hf4, hf5, hf6, hf7, hf8, hf9, hf10, hf11, hf12, hf13, hf14, hf15, hf16]
  iexists _; isplitr; swap; · iexact H16
  ipureintro; sl_unfold_words; simp only [read_rows32, ld_of_load, ld_rows16, ld_rows32, ld_win, ld_wout, hf0, hf1, hf2, hf3, hf4, hf5, hf6, hf7, hf8, hf9, hf10, hf11, hf12, hf13, hf14, hf15, hf16]

end Body

end Cert.FfnFwdIdeal.Ffn

end
-- ==== Proof.FwdRun.lean ====
module

public import proofs.«01_k».proof.Proof.FwdBody
public import Idealize.ShloMosaic.Lib.Pipeline.TableIdle
public import proofs.«01_k».proof.Proof.Gen.FfnFwdIdeal.Skeleton
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise.Index

@[expose] public section

set_option maxRecDepth 16384

noncomputable section

namespace Cert.FfnFwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.FfnFwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which column block a point is on -/

theorem norm_iff : ∀ t : Fin grid0.N, k0_cond1 (grid0.coords t) = 1#1 ↔ t.val % 6 = 0 := by decide +kernel
theorem first_iff : ∀ t : Fin grid0.N, k0_cond2 (grid0.coords t) = 1#1 ↔ t.val % 6 = 0 := by decide +kernel
theorem mid_iff : ∀ t : Fin grid0.N, k0_cond3 (grid0.coords t) = 1#1 ↔ (t.val % 6 ≠ 0 ∧ t.val % 6 ≠ 5) := by decide +kernel
theorem last_iff : ∀ t : Fin grid0.N, k0_cond4 (grid0.coords t) = 1#1 ↔ t.val % 6 = 5 := by decide +kernel
theorem emit_iff : ∀ t : Fin grid0.N, k0_cond5 (grid0.coords t) = 1#1 ↔ t.val % 6 = 5 := by decide +kernel
theorem start_iff : ∀ t : Fin grid0.N, k0_cond6 (grid0.coords t) = 1#1 ↔ t.val < 6 := by decide +kernel

/-- At which points a result's buffer is left as it was. -/
theorem idle9 : ∀ t : Fin grid0.N, cfg0.idle 9 (grid0.coords t) = decide (t.val % 6 ≠ 0) := by decide +kernel
theorem idle10 : ∀ t : Fin grid0.N, cfg0.idle 10 (grid0.coords t) = decide (t.val % 6 ≠ 5) := by decide +kernel
theorem idle11 : ∀ t : Fin grid0.N, cfg0.idle 11 (grid0.coords t) = decide (t.val % 6 ≠ 5) := by decide +kernel
theorem busy12 : ∀ t : Fin grid0.N, cfg0.idle 12 (grid0.coords t) = false := by decide +kernel
theorem busy13 : ∀ t : Fin grid0.N, cfg0.idle 13 (grid0.coords t) = false := by decide +kernel
theorem idle14 : ∀ t : Fin grid0.N, cfg0.idle 14 (grid0.coords t) = decide (t.val % 6 ≠ 5) := by decide +kernel
theorem idle15 : ∀ t : Fin grid0.N, cfg0.idle 15 (grid0.coords t) = decide (t.val % 6 ≠ 5) := by decide +kernel
/-- From which points on a carried result's buffer holds what an earlier point left. -/
theorem fresh9 : ∀ t : Fin grid0.N, cfg0.fresh 9 t.val = decide (t.val % 6 = 0) := by decide +kernel
theorem fresh14 : ∀ t : Fin grid0.N, cfg0.fresh 14 t.val = decide (t.val < 6) := by decide +kernel
theorem fresh15 : ∀ t : Fin grid0.N, cfg0.fresh 15 t.val = decide (t.val < 6) := by decide +kernel

/-- How many columns (rows, for the second matrix) of a block lie inside its array: all but at the last column block, where it is half. -/
theorem cols6 : ∀ t : Fin grid0.N, ∀ a : Fin 2, win0_6.xsize (grid0.coords t) a = if a = 1 ∧ t.val % 6 = 5 then 512 else S2048x1024.size a := by decide +kernel
theorem cols7 : ∀ t : Fin grid0.N, ∀ a : Fin 2, win0_7.xsize (grid0.coords t) a = if a = 1 ∧ t.val % 6 = 5 then 512 else S2048x1024.size a := by decide +kernel
theorem rows8 : ∀ t : Fin grid0.N, ∀ a : Fin 2, win0_8.xsize (grid0.coords t) a = if a = 0 ∧ t.val % 6 = 5 then 512 else S1024x2048.size a := by decide +kernel
theorem cols12 : ∀ t : Fin grid0.N, ∀ a : Fin 2, win0_12.xsize (grid0.coords t) a = if a = 1 ∧ t.val % 6 = 5 then 512 else S512x1024.size a := by decide +kernel
theorem cols13 : ∀ t : Fin grid0.N, ∀ a : Fin 2, win0_13.xsize (grid0.coords t) a = if a = 1 ∧ t.val % 6 = 5 then 512 else S512x1024.size a := by decide +kernel

/-! ## What the fetched blocks hold, whatever the staging buffers held past the arrays' end -/

/-- A clipped block filled out with a constant past the array's end. -/
def zero16 : Elt F .bf16 := Scalar.ofBits .bf16 0#16
def blk1 (c : Dev nD) (t : Fin cfg0.N) : Vec F S2048x1024 .bf16 := win0_6.fill (grid0.coords t) (fun _ => zero16) (iblk m c 6 t)
def blk3 (c : Dev nD) (t : Fin cfg0.N) : Vec F S2048x1024 .bf16 := win0_7.fill (grid0.coords t) (fun _ => zero16) (iblk m c 7 t)
def blk2 (c : Dev nD) (t : Fin cfg0.N) : Vec F S1024x2048 .bf16 := win0_8.fill (grid0.coords t) (fun _ => zero16) (iblk m c 8 t)
/-- The rows' block of the input and of the target, and the four row vectors. -/
def blkX (c : Dev nD) (t : Fin cfg0.N) : Vec F S512x2048 .f32 := iblk m c 1 t
def blkT (c : Dev nD) (t : Fin cfg0.N) : Vec F S512x2048 .f32 := iblk m c 2 t
def rowG (c : Dev nD) (t : Fin cfg0.N) : Vec F S1x2048 .f32 := iblk m c 0 t
def rowSh (c : Dev nD) (t : Fin cfg0.N) : Vec F S1x2048 .f32 := iblk m c 3 t
def rowSc (c : Dev nD) (t : Fin cfg0.N) : Vec F S1x2048 .f32 := iblk m c 4 t
def rowGt (c : Dev nD) (t : Fin cfg0.N) : Vec F S1x2048 .f32 := iblk m c 5 t

/-- Two fillings of a clipped block agree where the block lies inside its array. -/
theorem fill_agree {W : Window sig grid0} (i : grid0.Coords) {e : EltTy} (d d' : W.block.Idx → Elt F e) (g : (W.xblock i).Idx → Elt F e)
    (j : W.block.Idx) (h : ∀ a, (j a).val < W.xsize i a) : W.fill i d g j = W.fill i d' g j := by
  unfold Window.fill
  rw [dif_pos ((W.moved_iff i j).mpr h), dif_pos ((W.moved_iff i j).mpr h)]

theorem whole6 (c : Dev nD) (t : Fin cfg0.N) (h : t.val % 6 ≠ 5) (d : Vec F S2048x1024 .bf16) :
    win0_6.fill (grid0.coords t) d (iblk m c 6 t) = blk1 m c t :=
  funext fun j => fill_agree (W := win0_6) (grid0.coords t) d _ _ j fun a => by
    rw [cols6 t a, if_neg (fun e => h e.2)]; exact (j a).isLt
theorem half6 (c : Dev nD) (t : Fin cfg0.N) (d : Vec F S2048x1024 .bf16) :
    leftW (win0_6.fill (grid0.coords t) d (iblk m c 6 t)) = leftW (blk1 m c t) :=
  funext fun j => fill_agree (W := win0_6) (grid0.coords t) d _ _ _ fun a => by
    have h0 : (j 0).val < _ := (j 0).isLt
    have h1 : (j 1).val < _ := (j 1).isLt
    refine lt_of_lt_of_le (b := ![2048, 512] a) ?_ ?_
    · rw [Rect.idx_unit_val]
      fin_cases a
      · exact lt_of_eq_of_lt (Nat.zero_add _) h0
      · exact lt_of_eq_of_lt (Nat.zero_add _) h1
    · rw [cols6 t a]; fin_cases a <;> split <;> first | decide | (next h => exact absurd h.1 (by decide))

theorem whole7 (c : Dev nD) (t : Fin cfg0.N) (h : t.val % 6 ≠ 5) (d : Vec F S2048x1024 .bf16) :
    win0_7.fill (grid0.coords t) d (iblk m c 7 t) = blk3 m c t :=
  funext fun j => fill_agree (W := win0_7) (grid0.coords t) d _ _ j fun a => by
    rw [cols7 t a, if_neg (fun e => h e.2)]; exact (j a).isLt
theorem half7 (c : Dev nD) (t : Fin cfg0.N) (d : Vec F S2048x1024 .bf16) :
    leftW (win0_7.fill (grid0.coords t) d (iblk m c 7 t)) = leftW (blk3 m c t) :=
  funext fun j => fill_agree (W := win0_7) (grid0.coords t) d _ _ _ fun a => by
    have h0 : (j 0).val < _ := (j 0).isLt
    have h1 : (j 1).val < _ := (j 1).isLt
    refine lt_of_lt_of_le (b := ![2048, 512] a) ?_ ?_
    · rw [Rect.idx_unit_val]
      fin_cases a
      · exact lt_of_eq_of_lt (Nat.zero_add _) h0
      · exact lt_of_eq_of_lt (Nat.zero_add _) h1
    · rw [cols7 t a]; fin_cases a <;> split <;> first | decide | (next h => exact absurd h.1 (by decide))

theorem whole8 (c : Dev nD) (t : Fin cfg0.N) (h : t.val % 6 ≠ 5) (d : Vec F S1024x2048 .bf16) :
    win0_8.fill (grid0.coords t) d (iblk m c 8 t) = blk2 m c t :=
  funext fun j => fill_agree (W := win0_8) (grid0.coords t) d _ _ j fun a => by
    rw [rows8 t a, if_neg (fun e => h e.2)]; exact (j a).isLt
theorem half8 (c : Dev nD) (t : Fin cfg0.N) (d : Vec F S1024x2048 .bf16) :
    topR (win0_8.fill (grid0.coords t) d (iblk m c 8 t)) = topR (blk2 m c t) :=
  funext fun j => fill_agree (W := win0_8) (grid0.coords t) d _ _ _ fun a => by
    have h0 : (j 0).val < _ := (j 0).isLt
    have h1 : (j 1).val < _ := (j 1).isLt
    refine lt_of_lt_of_le (b := ![512, 2048] a) ?_ ?_
    · rw [Rect.idx_unit_val]
      fin_cases a
      · exact lt_of_eq_of_lt (Nat.zero_add _) h0
      · exact lt_of_eq_of_lt (Nat.zero_add _) h1
    · rw [rows8 t a]; fin_cases a <;> split <;> first | decide | (next h => exact absurd h.1 (by decide))

/-! ## What a point computes -/

/-- The first point of a point's row block. -/
def firstOf (t : Fin cfg0.N) : Fin cfg0.N := ⟨t.val - t.val % 6, Nat.lt_of_le_of_lt (Nat.sub_le _ _) t.isLt⟩
theorem firstOf_first (t : Fin cfg0.N) (h : t.val % 6 = 0) : firstOf t = t := Fin.ext (by show t.val - t.val % 6 = t.val; omega)
/-- The normalised and modulated rows of a point's row block. -/
def hOf (c : Dev nD) (t : Fin cfg0.N) : Vec F S512x2048 .bf16 :=
  normed (blkX m c (firstOf t)) (rowG m c (firstOf t)) (rowSc m c (firstOf t)) (rowSh m c (firstOf t))
/-- The first activation, on a point's block. -/
def outA (c : Dev nD) (t : Fin cfg0.N) : Vec F S512x1024 .bf16 :=
  if t.val % 6 = 5 then putL (fun _ => zero16) (k0_pay17 (hOf m c t) (leftW (blk1 m c t))) else k0_pay5 (hOf m c t) (blk1 m c t)
/-- The second activation. -/
def outB (c : Dev nD) (t : Fin cfg0.N) : Vec F S512x1024 .bf16 :=
  if t.val % 6 = 5 then putL (fun _ => zero16) (k0_pay18 (hOf m c t) (leftW (blk3 m c t))) else k0_pay6 (hOf m c t) (blk3 m c t)
/-- The row block's sum after a point, from the sum before it. -/
def accStep (c : Dev nD) (t : Fin cfg0.N) (prev : Vec F S512x2048 .f32) : Vec F S512x2048 .f32 :=
  if t.val % 6 = 0 then k0_pay7 (hOf m c t) (blk1 m c t) (blk3 m c t) (blk2 m c t)
  else if t.val % 6 = 5 then k0_pay19 (hOf m c t) (leftW (blk1 m c t)) (leftW (blk3 m c t)) prev (topR (blk2 m c t))
  else k0_pay13 (hOf m c t) (blk1 m c t) (blk3 m c t) prev (blk2 m c t)
/-- The sum before point `n`: what the points before it left in the scratch buffer. -/
def accN (c : Dev nD) : Nat → Vec F S512x2048 .f32
  | 0 => fun _ => Scalar.ofBits .f32 0#32
  | n + 1 => if h : n < cfg0.N then accStep m c ⟨n, h⟩ (accN c n) else accN c n
theorem accN_succ (c : Dev nD) (t : Fin cfg0.N) : accN m c (t.val + 1) = accStep m c t (accN m c t.val) := dif_pos t.isLt
/-- The loss's gradient and the block's, on a point's row block. -/
def gradY (c : Dev nD) (t : Fin cfg0.N) : Vec F S512x2048 .f32 := lossGrad (accN m c (t.val + 1)) (blkX m c t) (blkT m c t) (rowGt m c t)
def gradF (c : Dev nD) (t : Fin cfg0.N) : Vec F S512x2048 .bf16 := blockGrad (accN m c (t.val + 1)) (blkX m c t) (blkT m c t) (rowGt m c t)
/-- The gate's gradient after `n` row blocks. -/
def gateN (c : Dev nD) : Nat → Vec F S1x2048 .f32
  | 0 => k0_pay20
  | n + 1 => if h : 6 * n + 5 < cfg0.N then
      gateSum (accN m c (6 * n + 6)) (blkX m c ⟨6 * n + 5, h⟩) (blkT m c ⟨6 * n + 5, h⟩) (rowGt m c ⟨6 * n + 5, h⟩) (gateN c n) 8 else gateN c n
/-- The sum of squares after `n` row blocks. -/
def squaresN (c : Dev nD) : Nat → Vec F S1x128 .f32
  | 0 => k0_pay21
  | n + 1 => if h : 6 * n + 5 < cfg0.N then
      squareSum (accN m c (6 * n + 6)) (blkX m c ⟨6 * n + 5, h⟩) (blkT m c ⟨6 * n + 5, h⟩) (rowGt m c ⟨6 * n + 5, h⟩) (squaresN c n) 8 else squaresN c n
theorem gateN_succ (c : Dev nD) (n : Nat) (h : 6 * n + 5 < cfg0.N) : gateN m c (n + 1)
    = gateSum (accN m c (6 * n + 6)) (blkX m c ⟨6 * n + 5, h⟩) (blkT m c ⟨6 * n + 5, h⟩) (rowGt m c ⟨6 * n + 5, h⟩) (gateN m c n) 8 := dif_pos h
theorem squaresN_succ (c : Dev nD) (n : Nat) (h : 6 * n + 5 < cfg0.N) : squaresN m c (n + 1)
    = squareSum (accN m c (6 * n + 6)) (blkX m c ⟨6 * n + 5, h⟩) (blkT m c ⟨6 * n + 5, h⟩) (rowGt m c ⟨6 * n + 5, h⟩) (squaresN m c n) 8 := dif_pos h

/-- The proof data: the arrays as the region finds them; after the body the inputs' blocks and the results so far;
    between points, the scratch buffer at the row block's sum so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blk1 m c t
    | ⟨7, _⟩ => blk3 m c t
    | ⟨8, _⟩ => blk2 m c t
    | ⟨9, _⟩ => hOf m c t
    | ⟨10, _⟩ => gradY m c t
    | ⟨11, _⟩ => gradF m c t
    | ⟨12, _⟩ => outA m c t
    | ⟨13, _⟩ => outB m c t
    | ⟨14, _⟩ => gateN m c ((t.val + 1) / 6)
    | ⟨15, _⟩ => squaresN m c ((t.val + 1) / 6)
    | ⟨n + 16, h⟩ => absurd (show n + 16 < 16 from h) (by omega)
  Φ n := iprop((∃ f : Buf (Elt F) ((c : Thread nD τ).loc cc0_scratch0), ⌜n.val % 6 ≠ 0 → f = accN m c n.val⌝ ∗ (((c : Thread nD τ).loc cc0_scratch0) ↦{fullShare} f)) ∗ ∃ r, prngReg c r)
  q _ := fullShare
  owed _ := 0

theorem A_eq (c : Dev nD) (w : Fin cfg0.W) : (dats m 0 c).A w = V m c (Pipeline.arrRef spec0 w) := by dsimp only [dats]

theorem Phi_eq (c : Dev nD) (n : Fin (cfg0.N + 1)) : (dats m 0 c).Φ n =
    iprop((∃ f : Buf (Elt F) ((c : Thread nD τ).loc cc0_scratch0), ⌜n.val % 6 ≠ 0 → f = accN m c n.val⌝ ∗ (((c : Thread nD τ).loc cc0_scratch0) ↦{fullShare} f)) ∗ ∃ r, prngReg c r) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = blk1 m c t := by dsimp only [dats]
theorem after7 (c : Dev nD) (t : Fin cfg0.N) : (dats m 0 c).after 7 t = blk3 m c t := by dsimp only [dats]
theorem after8 (c : Dev nD) (t : Fin cfg0.N) : (dats m 0 c).after 8 t = blk2 m c t := by dsimp only [dats]
theorem after9 (c : Dev nD) (t : Fin cfg0.N) : (dats m 0 c).after 9 t = hOf m c t := by dsimp only [dats]
theorem after10 (c : Dev nD) (t : Fin cfg0.N) : (dats m 0 c).after 10 t = gradY m c t := by dsimp only [dats]
theorem after11 (c : Dev nD) (t : Fin cfg0.N) : (dats m 0 c).after 11 t = gradF m c t := by dsimp only [dats]
theorem after12 (c : Dev nD) (t : Fin cfg0.N) : (dats m 0 c).after 12 t = outA m c t := by dsimp only [dats]
theorem after13 (c : Dev nD) (t : Fin cfg0.N) : (dats m 0 c).after 13 t = outB m c t := by dsimp only [dats]
theorem after14 (c : Dev nD) (t : Fin cfg0.N) : (dats m 0 c).after 14 t = gateN m c ((t.val + 1) / 6) := by dsimp only [dats]
theorem after15 (c : Dev nD) (t : Fin cfg0.N) : (dats m 0 c).after 15 t = squaresN m c ((t.val + 1) / 6) := by dsimp only [dats]

/-! ## What the body finds -/

theorem before0 (c : Dev nD) (t : Fin cfg0.N) (d) : (dats m 0 c).before 0 t d = rowG m c t :=
  before0_0_of m (dats m 0 c) (A_eq m c 0) (after0 m c) t d
theorem before1 (c : Dev nD) (t : Fin cfg0.N) (d) : (dats m 0 c).before 1 t d = blkX m c t :=
  before0_1_of m (dats m 0 c) (A_eq m c 1) (after1 m c) t d
theorem before2 (c : Dev nD) (t : Fin cfg0.N) (d) : (dats m 0 c).before 2 t d = blkT m c t :=
  before0_2_of m (dats m 0 c) (A_eq m c 2) (after2 m c) t d
theorem before3 (c : Dev nD) (t : Fin cfg0.N) (d) : (dats m 0 c).before 3 t d = rowSh m c t :=
  before0_3_of m (dats m 0 c) (A_eq m c 3) (after3 m c) t d
theorem before4 (c : Dev nD) (t : Fin cfg0.N) (d) : (dats m 0 c).before 4 t d = rowSc m c t :=
  before0_4_of m (dats m 0 c) (A_eq m c 4) (after4 m c) t d
theorem before5 (c : Dev nD) (t : Fin cfg0.N) (d) : (dats m 0 c).before 5 t d = rowGt m c t :=
  before0_5_of m (dats m 0 c) (A_eq m c 5) (after5 m c) t d
theorem before6 (c : Dev nD) (t : Fin cfg0.N) (d) : (dats m 0 c).before 6 t d = win0_6.fill (grid0.coords t) d (iblk m c 6 t) :=
  (dats m 0 c).before_fetched 6 t (fetch0_6 t) d
theorem before7 (c : Dev nD) (t : Fin cfg0.N) (d) : (dats m 0 c).before 7 t d = win0_7.fill (grid0.coords t) d (iblk m c 7 t) :=
  (dats m 0 c).before_fetched 7 t (fetch0_7 t) d
theorem before8 (c : Dev nD) (t : Fin cfg0.N) (d) : (dats m 0 c).before 8 t d = win0_8.fill (grid0.coords t) d (iblk m c 8 t) :=
  (dats m 0 c).before_fetched 8 t (fetch0_8 t) d

/-- Between the first column block and the next row block's the rows' buffer holds them. -/
theorem before9 (c : Dev nD) (t : Fin cfg0.N) (h : t.val % 6 ≠ 0) (d) : (dats m 0 c).before 9 t d = hOf m c t := by
  have step (u : Fin cfg0.N) (hu : u.val % 6 ≠ 0) (h' : u.val - 1 < cfg0.N) : hOf m c u = hOf m c ⟨u.val - 1, h'⟩ :=
    congrArg (fun v => normed (blkX m c v) (rowG m c v) (rowSc m c v) (rowSh m c v)) (Fin.ext (show u.val - u.val % 6 = u.val - 1 - (u.val - 1) % 6 by omega))
  rw [Dat.before_out_traj _ 9 rfl (fun _ _ => rfl) (fun u _ hi _ => by
      rw [after9, after9]; exact step u (of_decide_eq_true ((idle9 u).symm.trans hi)) _) t.val t rfl d,
    if_neg (by rw [fresh9 t, decide_eq_false h]; exact Bool.false_ne_true), after9]
  exact (step t h _).symm
theorem before14 (c : Dev nD) (t : Fin cfg0.N) (h : ¬ t.val < 6) (d) : (dats m 0 c).before 14 t d = gateN m c (t.val / 6) := by
  rw [Dat.before_out_traj _ 14 rfl (fun _ _ => rfl) (fun u h0 hi _ => by
      have h5 : u.val % 6 ≠ 5 := of_decide_eq_true ((idle14 u).symm.trans hi)
      rw [after14, after14]; exact congrArg (gateN m c) (show (u.val + 1) / 6 = (u.val - 1 + 1) / 6 by omega)) t.val t rfl d,
    if_neg (by rw [fresh14 t, decide_eq_false h]; exact Bool.false_ne_true), after14]
  exact congrArg (gateN m c) (show (t.val - 1 + 1) / 6 = t.val / 6 by omega)
theorem before15 (c : Dev nD) (t : Fin cfg0.N) (h : ¬ t.val < 6) (d) : (dats m 0 c).before 15 t d = squaresN m c (t.val / 6) := by
  rw [Dat.before_out_traj _ 15 rfl (fun _ _ => rfl) (fun u h0 hi _ => by
      have h5 : u.val % 6 ≠ 5 := of_decide_eq_true ((idle15 u).symm.trans hi)
      rw [after15, after15]; exact congrArg (squaresN m c) (show (u.val + 1) / 6 = (u.val - 1 + 1) / 6 by omega)) t.val t rfl d,
    if_neg (by rw [fresh15 t, decide_eq_false h]; exact Bool.false_ne_true), after15]
  exact congrArg (squaresN m c) (show (t.val - 1 + 1) / 6 = t.val / 6 by omega)

/-! ## What the body leaves -/

/-- A clipped window's buffer need only be right where its block lies inside the array. -/
theorem leaves_cut {c : Dev nD} (dat : Dat τ (Elt F) Unit ℕ (UR sig nD τ) ℕ cfg0 c) (w : Fin cfg0.W) (t : Fin cfg0.N)
    (hl : cfg0.loose w = true) (hi : cfg0.idle w (grid0.coords t) = false)
    (X : (cfg0.win w).block.Idx → Elt F (cfg0.win w).elt)
    (h : (cfg0.win w).cut (grid0.coords t) X = (cfg0.win w).cut (grid0.coords t) (dat.after w t)) :
    owns (c : Thread nD τ) ((cfg0.win w).stage (cfg0.slots t w)) fullShare X ⊢ (dat.leaves w t : sProp 𝕄) := by
  unfold Dat.leaves
  rw [show cfg0.idle w (cfg0.grid.coords t) = false from hi, hl]
  dsimp only
  iintro H
  iexists X
  rw [(cfg0.win w).fill_congr_cut _ h]
  iexact H

/-- An uncut window's buffer holds exactly what the data says. -/
theorem leaves_whole {c : Dev nD} (dat : Dat τ (Elt F) Unit ℕ (UR sig nD τ) ℕ cfg0 c) (w : Fin cfg0.W) (t : Fin cfg0.N)
    (hl : cfg0.loose w = false) (hi : cfg0.idle w (grid0.coords t) = false)
    (X : (cfg0.win w).block.Idx → Elt F (cfg0.win w).elt) (h : X = dat.after w t) :
    owns (c : Thread nD τ) ((cfg0.win w).stage (cfg0.slots t w)) fullShare X ⊢ (dat.leaves w t : sProp 𝕄) := by
  unfold Dat.leaves
  rw [show cfg0.idle w (cfg0.grid.coords t) = false from hi, hl, h]

theorem keeps6 (c : Dev nD) (t : Fin cfg0.N) (d : Vec F S2048x1024 .bf16) :
    owns (c : Thread nD τ) (win0_6.stage (cfg0.slots t 6)) fullShare (win0_6.fill (grid0.coords t) d (iblk m c 6 t))
      ⊢ ((dats m 0 c).leaves 6 t : sProp 𝕄) :=
  leaves_cut (dats m 0 c) 6 t rfl rfl _ (by
    rw [after6]; exact (win0_6.cut_fill _ _ _).trans (win0_6.cut_fill (grid0.coords t) (fun _ => zero16) (iblk m c 6 t)).symm)

theorem keeps7 (c : Dev nD) (t : Fin cfg0.N) (d : Vec F S2048x1024 .bf16) :
    owns (c : Thread nD τ) (win0_7.stage (cfg0.slots t 7)) fullShare (win0_7.fill (grid0.coords t) d (iblk m c 7 t))
      ⊢ ((dats m 0 c).leaves 7 t : sProp 𝕄) :=
  leaves_cut (dats m 0 c) 7 t rfl rfl _ (by
    rw [after7]; exact (win0_7.cut_fill _ _ _).trans (win0_7.cut_fill (grid0.coords t) (fun _ => zero16) (iblk m c 7 t)).symm)

theorem keeps8 (c : Dev nD) (t : Fin cfg0.N) (d : Vec F S1024x2048 .bf16) :
    owns (c : Thread nD τ) (win0_8.stage (cfg0.slots t 8)) fullShare (win0_8.fill (grid0.coords t) d (iblk m c 8 t))
      ⊢ ((dats m 0 c).leaves 8 t : sProp 𝕄) :=
  leaves_cut (dats m 0 c) 8 t rfl rfl _ (by
    rw [after8]; exact (win0_8.cut_fill _ _ _).trans (win0_8.cut_fill (grid0.coords t) (fun _ => zero16) (iblk m c 8 t)).symm)

/-- A window idle at a point that writes nothing back is left as it was found. -/
theorem leaves_found {c : Dev nD} (dat : Dat τ (Elt F) Unit ℕ (UR sig nD τ) ℕ cfg0 c) (w : Fin cfg0.W) (t : Fin cfg0.N)
    (hi : cfg0.idle w (grid0.coords t) = true) (hf : (cfg0.win w).flush t = false) (d) :
    owns (c : Thread nD τ) ((cfg0.win w).stage (cfg0.slots t w)) fullShare (dat.before w t d) ⊢ (dat.leaves w t : sProp 𝕄) := by
  rw [dat.leaves_idle w t hi hf]
  iintro H
  iexists d; iexact H

theorem gives12 (c : Dev nD) (t : Fin cfg0.N) (X : Vec F S512x1024 .bf16) (hX : X = outA m c t) :
    owns (c : Thread nD τ) (win0_12.stage (cfg0.slots t 12)) fullShare X ⊢ ((dats m 0 c).leaves 12 t : sProp 𝕄) :=
  leaves_cut (dats m 0 c) 12 t rfl (busy12 t) X (by rw [after12, hX])
theorem givesLeft12 (c : Dev nD) (t : Fin cfg0.N) (h5 : t.val % 6 = 5) (y : Vec F S512x1024 .bf16) (w : Vec F S512x512 .bf16)
    (hX : putL (fun _ => zero16) w = outA m c t) :
    owns (c : Thread nD τ) (win0_12.stage (cfg0.slots t 12)) fullShare (putL y w) ⊢ ((dats m 0 c).leaves 12 t : sProp 𝕄) :=
  leaves_cut (dats m 0 c) 12 t rfl (busy12 t) _ (by
    rw [after12, ← hX]
    funext j
    have hj : (win0_12.xinj (grid0.coords t) j 1).val < 512 :=
      lt_of_lt_of_eq (j 1).isLt (show win0_12.xsize (grid0.coords t) 1 = 512 by rw [cols12 t 1, if_pos ⟨rfl, h5⟩])
    show putL y w (win0_12.xinj (grid0.coords t) j) = putL (fun _ => zero16) w (win0_12.xinj (grid0.coords t) j)
    unfold putL
    rw [dif_pos hj, dif_pos hj])

theorem gives13 (c : Dev nD) (t : Fin cfg0.N) (X : Vec F S512x1024 .bf16) (hX : X = outB m c t) :
    owns (c : Thread nD τ) (win0_13.stage (cfg0.slots t 13)) fullShare X ⊢ ((dats m 0 c).leaves 13 t : sProp 𝕄) :=
  leaves_cut (dats m 0 c) 13 t rfl (busy13 t) X (by rw [after13, hX])
theorem givesLeft13 (c : Dev nD) (t : Fin cfg0.N) (h5 : t.val % 6 = 5) (y : Vec F S512x1024 .bf16) (w : Vec F S512x512 .bf16)
    (hX : putL (fun _ => zero16) w = outB m c t) :
    owns (c : Thread nD τ) (win0_13.stage (cfg0.slots t 13)) fullShare (putL y w) ⊢ ((dats m 0 c).leaves 13 t : sProp 𝕄) :=
  leaves_cut (dats m 0 c) 13 t rfl (busy13 t) _ (by
    rw [after13, ← hX]
    funext j
    have hj : (win0_13.xinj (grid0.coords t) j 1).val < 512 :=
      lt_of_lt_of_eq (j 1).isLt (show win0_13.xsize (grid0.coords t) 1 = 512 by rw [cols13 t 1, if_pos ⟨rfl, h5⟩])
    show putL y w (win0_13.xinj (grid0.coords t) j) = putL (fun _ => zero16) w (win0_13.xinj (grid0.coords t) j)
    unfold putL
    rw [dif_pos hj, dif_pos hj])

/-! ## The body's results, from buffers filled out with anything -/

theorem hOf_first (c : Dev nD) (t : Fin cfg0.N) (h : t.val % 6 = 0) : (normed (blkX m c t) (rowG m c t) (rowSc m c t) (rowSh m c t)) = hOf m c t := by
  unfold hOf; rw [firstOf_first t h]
theorem fullA (c : Dev nD) (t : Fin cfg0.N) (h5 : t.val % 6 ≠ 5) (d6 : Vec F S2048x1024 .bf16) : k0_pay5 (hOf m c t) (win0_6.fill (grid0.coords t) d6 (iblk m c 6 t)) = outA m c t := by
  rw [outA, if_neg h5, whole6 m c t h5]
theorem fullB (c : Dev nD) (t : Fin cfg0.N) (h5 : t.val % 6 ≠ 5) (d7 : Vec F S2048x1024 .bf16) : k0_pay6 (hOf m c t) (win0_7.fill (grid0.coords t) d7 (iblk m c 7 t)) = outB m c t := by
  rw [outB, if_neg h5, whole7 m c t h5]
theorem halfA (c : Dev nD) (t : Fin cfg0.N) (h5 : t.val % 6 = 5) (d6 : Vec F S2048x1024 .bf16) :
    putL (fun _ => zero16) (k0_pay17 (hOf m c t) (leftW (win0_6.fill (grid0.coords t) d6 (iblk m c 6 t)))) = outA m c t := by rw [outA, if_pos h5, half6 m c t]
theorem halfB (c : Dev nD) (t : Fin cfg0.N) (h5 : t.val % 6 = 5) (d7 : Vec F S2048x1024 .bf16) :
    putL (fun _ => zero16) (k0_pay18 (hOf m c t) (leftW (win0_7.fill (grid0.coords t) d7 (iblk m c 7 t)))) = outB m c t := by rw [outB, if_pos h5, half7 m c t]
theorem accFirst (c : Dev nD) (t : Fin cfg0.N) (h0 : t.val % 6 = 0) (d6 d7 : Vec F S2048x1024 .bf16) (d8 : Vec F S1024x2048 .bf16) :
    k0_pay7 (hOf m c t) (win0_6.fill (grid0.coords t) d6 (iblk m c 6 t)) (win0_7.fill (grid0.coords t) d7 (iblk m c 7 t)) (win0_8.fill (grid0.coords t) d8 (iblk m c 8 t)) = accN m c (t.val + 1) := by
  have h5 : t.val % 6 ≠ 5 := by omega
  rw [accN_succ, accStep, if_pos h0]; simp only [whole6 m c t h5, whole7 m c t h5, whole8 m c t h5]
theorem accMid (c : Dev nD) (t : Fin cfg0.N) (h0 : t.val % 6 ≠ 0) (h5 : t.val % 6 ≠ 5) (d6 d7 : Vec F S2048x1024 .bf16) (d8 : Vec F S1024x2048 .bf16) :
    k0_pay13 (hOf m c t) (win0_6.fill (grid0.coords t) d6 (iblk m c 6 t)) (win0_7.fill (grid0.coords t) d7 (iblk m c 7 t)) (accN m c t.val) (win0_8.fill (grid0.coords t) d8 (iblk m c 8 t)) = accN m c (t.val + 1) := by
  rw [accN_succ, accStep, if_neg h0, if_neg h5]; simp only [whole6 m c t h5, whole7 m c t h5, whole8 m c t h5]
theorem accLast (c : Dev nD) (t : Fin cfg0.N) (h5 : t.val % 6 = 5) (d6 d7 : Vec F S2048x1024 .bf16) (d8 : Vec F S1024x2048 .bf16) :
    k0_pay19 (hOf m c t) (leftW (win0_6.fill (grid0.coords t) d6 (iblk m c 6 t))) (leftW (win0_7.fill (grid0.coords t) d7 (iblk m c 7 t))) (accN m c t.val) (topR (win0_8.fill (grid0.coords t) d8 (iblk m c 8 t))) = accN m c (t.val + 1) := by
  have h0 : t.val % 6 ≠ 0 := by omega
  rw [accN_succ, accStep, if_neg h0, if_pos h5]; simp only [half6 m c t, half7 m c t, half8 m c t]
theorem gateLast (c : Dev nD) (t : Fin cfg0.N) (h5 : t.val % 6 = 5) :
    gateSum (accN m c (t.val + 1)) (blkX m c t) (blkT m c t) (rowGt m c t) (gateN m c (t.val / 6)) 8 = gateN m c ((t.val + 1) / 6) := by
  have e : 6 * (t.val / 6) + 5 = t.val := by omega
  have e' : t = ⟨6 * (t.val / 6) + 5, lt_of_eq_of_lt e t.isLt⟩ := Fin.ext e.symm
  rw [show (t.val + 1) / 6 = t.val / 6 + 1 by omega, gateN_succ m c (t.val / 6) (lt_of_eq_of_lt e t.isLt), ← e',
    show 6 * (t.val / 6) + 6 = t.val + 1 by omega]
theorem squaresLast (c : Dev nD) (t : Fin cfg0.N) (h5 : t.val % 6 = 5) :
    squareSum (accN m c (t.val + 1)) (blkX m c t) (blkT m c t) (rowGt m c t) (squaresN m c (t.val / 6)) 8 = squaresN m c ((t.val + 1) / 6) := by
  have e : 6 * (t.val / 6) + 5 = t.val := by omega
  have e' : t = ⟨6 * (t.val / 6) + 5, lt_of_eq_of_lt e t.isLt⟩ := Fin.ext e.symm
  rw [show (t.val + 1) / 6 = t.val / 6 + 1 by omega, squaresN_succ m c (t.val / 6) (lt_of_eq_of_lt e t.isLt), ← e',
    show 6 * (t.val / 6) + 6 = t.val + 1 by omega]

/-! ## The body's obligation -/

/-- The whole of the scratch buffer, as a memref. -/
theorem scratch_owns (c : Dev nD) (f : Vec F S512x2048 .f32) :
    (owns (c : Thread nD τ) (Memref.whole cc0_scratch0) fullShare f : sProp 𝕄) ⊣⊢ (((c : Thread nD τ).loc cc0_scratch0) ↦{fullShare} (f : Buf (Elt F) ((c : Thread nD τ).loc cc0_scratch0))) := by
  rw [owns_whole_eq]
  constructor
  · iintro ⟨%g, %hg, H⟩; subst hg; iexact H
  · iintro H; iexists f; isplitr; · ipureintro; rfl
    iexact H

theorem flush9 (t : Fin cfg0.N) (h : t.val % 6 ≠ 5) : (cfg0.win 9).flush t = false := Bool.eq_false_iff.2 (mt (flush0_9 t).1 h)
theorem flush10 (t : Fin cfg0.N) (h : t.val % 6 ≠ 5) : (cfg0.win 10).flush t = false := Bool.eq_false_iff.2 (mt (flush0_10 t).1 h)
theorem flush11 (t : Fin cfg0.N) (h : t.val % 6 ≠ 5) : (cfg0.win 11).flush t = false := Bool.eq_false_iff.2 (mt (flush0_11 t).1 h)
theorem flush14 (t : Fin cfg0.N) (h : t.val % 6 ≠ 5) : (cfg0.win 14).flush t = false := Bool.eq_false_iff.2 (mt (flush0_14 t).1 (by omega))
theorem flush15 (t : Fin cfg0.N) (h : t.val % 6 ≠ 5) : (cfg0.win 15).flush t = false := Bool.eq_false_iff.2 (mt (flush0_15 t).1 (by omega))
/-- At the last column block the rows, which it leaves alone, are written back. -/
theorem leaves9 (c : Dev nD) (t : Fin cfg0.N) (h5 : t.val % 6 = 5) :
    owns (c : Thread nD τ) (win0_9.stage (cfg0.slots t 9)) fullShare (hOf m c t) ⊢ ((dats m 0 c).leaves 9 t : sProp 𝕄) := by
  unfold Dat.leaves
  rw [show cfg0.idle 9 (cfg0.grid.coords t) = true from (idle9 t).trans (decide_eq_true (by omega)), (flush0_9 t).2 h5, ← after9]

set_option maxHeartbeats 1000000 in
theorem sound_body (c : Dev nD) (t : Fin cfg0.N) :
    iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)))
      ⊢ wp frame (wpE (defs₀ (F := F)) Variants.none c none) Set.univ (bodyAt0 t) (fun _ =>
        iprop((dats m 0 c).Φ t.succ ∗ (dats m 0 c).owesAt () t.succ ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t ∗ (dats m 0 c).leaves 13 t ∗ (dats m 0 c).leaves 14 t ∗ (dats m 0 c).leaves 15 t)) := by
  unfold bodyAt0
  rw [Phi_eq, Phi_eq, show (dats m 0 c).owesAt () t.succ = (dats m 0 c).owesAt () t.castSucc from rfl]
  simp only [before0, before1, before2, before3, before4, before5, before6, before7, before8, Fin.val_succ, Fin.val_castSucc]
  have hN : t.val < 96 := lt_of_lt_of_eq t.isLt (show cfg0.N = 96 from N_0)
  iintro ⟨⟨⟨%f, %hf, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  ihave Hs := (scratch_owns c f).2 $$ Hs
  by_cases h0 : t.val % 6 = 0
  · have h5 : t.val % 6 ≠ 5 := by omega
    iapply (run_first c (grid0.coords t) _ _ _ _ _ _ _ _ _ _ _ _ _ _ _ _ _ _ _ _ _ _ _ _ _ _ _ _ _ _ _ _ _ _ ((norm_iff t).2 h0) ((first_iff t).2 h0) (mt (mid_iff t).1 (by omega)) (mt (last_iff t).1 h5) (mt (emit_iff t).1 h5) _ _ _ _ _ _ _ _ _ _ _ _ _ _ _ _ _ _ _ )
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [Hs]; · iexact Hs
    iintro ⟨H0, H1, H2, H3, H4, H5, H6, H7, H8, H9, H10, H11, H12, H13, H14, H15, Hs⟩
    isplitl [Hs Hg]
    · isplitl [Hs]
      · iexists accN m c (t.val + 1)
        isplitr; · ipureintro; intro _; rfl
        iapply (scratch_owns c _).1
        rw [hOf_first m c t h0, accFirst m c t h0 d6 d7 d8]
        iexact Hs
      · iexact Hg
    isplitl [Ho]; · iexact Ho
    isplitl [H0]; · iapply (leaves_whole (dats m 0 c) 0 t rfl rfl _ (after0 m c t).symm); iexact H0
    isplitl [H1]; · iapply (leaves_whole (dats m 0 c) 1 t rfl rfl _ (after1 m c t).symm); iexact H1
    isplitl [H2]; · iapply (leaves_whole (dats m 0 c) 2 t rfl rfl _ (after2 m c t).symm); iexact H2
    isplitl [H3]; · iapply (leaves_whole (dats m 0 c) 3 t rfl rfl _ (after3 m c t).symm); iexact H3
    isplitl [H4]; · iapply (leaves_whole (dats m 0 c) 4 t rfl rfl _ (after4 m c t).symm); iexact H4
    isplitl [H5]; · iapply (leaves_whole (dats m 0 c) 5 t rfl rfl _ (after5 m c t).symm); iexact H5
    isplitl [H6]; · iapply (keeps6 m c t d6); iexact H6
    isplitl [H7]; · iapply (keeps7 m c t d7); iexact H7
    isplitl [H8]; · iapply (keeps8 m c t d8); iexact H8
    isplitl [H9]; · iapply (leaves_whole (dats m 0 c) 9 t rfl ((idle9 t).trans (decide_eq_false (by omega))) _ ((hOf_first m c t h0).trans (after9 m c t).symm)); iexact H9
    isplitl [H10]; · iapply (leaves_found (dats m 0 c) 10 t ((idle10 t).trans (decide_eq_true (by omega))) (flush10 t h5) d10); iexact H10
    isplitl [H11]; · iapply (leaves_found (dats m 0 c) 11 t ((idle11 t).trans (decide_eq_true (by omega))) (flush11 t h5) d11); iexact H11
    isplitl [H12]; · iapply (gives12 m c t _ ((congrArg (fun h => k0_pay5 h _) (hOf_first m c t h0)).trans (fullA m c t h5 d6))); iexact H12
    isplitl [H13]; · iapply (gives13 m c t _ ((congrArg (fun h => k0_pay6 h _) (hOf_first m c t h0)).trans (fullB m c t h5 d7))); iexact H13
    isplitl [H14]; · iapply (leaves_found (dats m 0 c) 14 t ((idle14 t).trans (decide_eq_true (by omega))) (flush14 t h5) d14); iexact H14
    iapply (leaves_found (dats m 0 c) 15 t ((idle15 t).trans (decide_eq_true (by omega))) (flush15 t h5) d15); iexact H15
  have hf := hf h0; subst hf
  by_cases h5 : t.val % 6 = 5
  · by_cases hb : t.val < 6
    · have e0 : t.val / 6 = 0 := by omega
      have hg := gateLast m c t h5
      have hs := squaresLast m c t h5
      rw [e0] at hg hs
      rw [before9 m c t h0]
      iapply (run_last_first c (grid0.coords t) _ _ _ _ _ _ _ _ _ _ _ _ _ _ _ _ _ _ _ _ _ _ _ _ _ _ _ _ _ _ _ _ _ _ (mt (norm_iff t).1 h0) (mt (first_iff t).1 h0) (mt (mid_iff t).1 (by omega)) ((last_iff t).2 h5) ((emit_iff t).2 h5) ((start_iff t).2 hb) _ _ _ _ _ _ _ _ _ _ _ _ _ _ _ _ _ _ _ )
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [Hs]; · iexact Hs
      iintro ⟨H0, H1, H2, H3, H4, H5, H6, H7, H8, H9, H10, H11, H12, H13, H14, H15, Hs⟩
      isplitl [Hs Hg]
      · isplitl [Hs]
        · iexists accN m c (t.val + 1)
          isplitr; · ipureintro; intro _; rfl
          iapply (scratch_owns c _).1
          rw [accLast m c t h5 d6 d7 d8]
          iexact Hs
        · iexact Hg
      isplitl [Ho]; · iexact Ho
      isplitl [H0]; · iapply (leaves_whole (dats m 0 c) 0 t rfl rfl _ (after0 m c t).symm); iexact H0
      isplitl [H1]; · iapply (leaves_whole (dats m 0 c) 1 t rfl rfl _ (after1 m c t).symm); iexact H1
      isplitl [H2]; · iapply (leaves_whole (dats m 0 c) 2 t rfl rfl _ (after2 m c t).symm); iexact H2
      isplitl [H3]; · iapply (leaves_whole (dats m 0 c) 3 t rfl rfl _ (after3 m c t).symm); iexact H3
      isplitl [H4]; · iapply (leaves_whole (dats m 0 c) 4 t rfl rfl _ (after4 m c t).symm); iexact H4
      isplitl [H5]; · iapply (leaves_whole (dats m 0 c) 5 t rfl rfl _ (after5 m c t).symm); iexact H5
      isplitl [H6]; · iapply (keeps6 m c t d6); iexact H6
      isplitl [H7]; · iapply (keeps7 m c t d7); iexact H7
      isplitl [H8]; · iapply (keeps8 m c t d8); iexact H8
      isplitl [H9]; · iapply (leaves9 m c t h5); iexact H9
      isplitl [H10]; · iapply (leaves_whole (dats m 0 c) 10 t rfl ((idle10 t).trans (decide_eq_false (by omega))) _ ((congrArg (fun s => lossGrad s _ _ _) (accLast m c t h5 d6 d7 d8)).trans (after10 m c t).symm)); iexact H10
      isplitl [H11]; · iapply (leaves_whole (dats m 0 c) 11 t rfl ((idle11 t).trans (decide_eq_false (by omega))) _ ((congrArg (fun s => blockGrad s _ _ _) (accLast m c t h5 d6 d7 d8)).trans (after11 m c t).symm)); iexact H11
      isplitl [H12]; · iapply (givesLeft12 m c t h5 _ _ (halfA m c t h5 d6)); iexact H12
      isplitl [H13]; · iapply (givesLeft13 m c t h5 _ _ (halfB m c t h5 d7)); iexact H13
      isplitl [H14]; · iapply (leaves_whole (dats m 0 c) 14 t rfl ((idle14 t).trans (decide_eq_false (by omega))) _ ((congrArg (fun s => gateSum s _ _ _ _ 8) (accLast m c t h5 d6 d7 d8)).trans (hg.trans (after14 m c t).symm))); iexact H14
      iapply (leaves_whole (dats m 0 c) 15 t rfl ((idle15 t).trans (decide_eq_false (by omega))) _ ((congrArg (fun s => squareSum s _ _ _ _ 8) (accLast m c t h5 d6 d7 d8)).trans (hs.trans (after15 m c t).symm))); iexact H15
    · rw [before9 m c t h0, before14 m c t hb, before15 m c t hb]
      iapply (run_last c (grid0.coords t) _ _ _ _ _ _ _ _ _ _ _ _ _ _ _ _ _ _ _ _ _ _ _ _ _ _ _ _ _ _ _ _ _ _ (mt (norm_iff t).1 h0) (mt (first_iff t).1 h0) (mt (mid_iff t).1 (by omega)) ((last_iff t).2 h5) ((emit_iff t).2 h5) (mt (start_iff t).1 hb) _ _ _ _ _ _ _ _ _ _ _ _ _ _ _ _ _ _ _ )
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [Hs]; · iexact Hs
      iintro ⟨H0, H1, H2, H3, H4, H5, H6, H7, H8, H9, H10, H11, H12, H13, H14, H15, Hs⟩
      isplitl [Hs Hg]
      · isplitl [Hs]
        · iexists accN m c (t.val + 1)
          isplitr; · ipureintro; intro _; rfl
          iapply (scratch_owns c _).1
          rw [accLast m c t h5 d6 d7 d8]
          iexact Hs
        · iexact Hg
      isplitl [Ho]; · iexact Ho
      isplitl [H0]; · iapply (leaves_whole (dats m 0 c) 0 t rfl rfl _ (after0 m c t).symm); iexact H0
      isplitl [H1]; · iapply (leaves_whole (dats m 0 c) 1 t rfl rfl _ (after1 m c t).symm); iexact H1
      isplitl [H2]; · iapply (leaves_whole (dats m 0 c) 2 t rfl rfl _ (after2 m c t).symm); iexact H2
      isplitl [H3]; · iapply (leaves_whole (dats m 0 c) 3 t rfl rfl _ (after3 m c t).symm); iexact H3
      isplitl [H4]; · iapply (leaves_whole (dats m 0 c) 4 t rfl rfl _ (after4 m c t).symm); iexact H4
      isplitl [H5]; · iapply (leaves_whole (dats m 0 c) 5 t rfl rfl _ (after5 m c t).symm); iexact H5
      isplitl [H6]; · iapply (keeps6 m c t d6); iexact H6
      isplitl [H7]; · iapply (keeps7 m c t d7); iexact H7
      isplitl [H8]; · iapply (keeps8 m c t d8); iexact H8
      isplitl [H9]; · iapply (leaves9 m c t h5); iexact H9
      isplitl [H10]; · iapply (leaves_whole (dats m 0 c) 10 t rfl ((idle10 t).trans (decide_eq_false (by omega))) _ ((congrArg (fun s => lossGrad s _ _ _) (accLast m c t h5 d6 d7 d8)).trans (after10 m c t).symm)); iexact H10
      isplitl [H11]; · iapply (leaves_whole (dats m 0 c) 11 t rfl ((idle11 t).trans (decide_eq_false (by omega))) _ ((congrArg (fun s => blockGrad s _ _ _) (accLast m c t h5 d6 d7 d8)).trans (after11 m c t).symm)); iexact H11
      isplitl [H12]; · iapply (givesLeft12 m c t h5 _ _ (halfA m c t h5 d6)); iexact H12
      isplitl [H13]; · iapply (givesLeft13 m c t h5 _ _ (halfB m c t h5 d7)); iexact H13
      isplitl [H14]; · iapply (leaves_whole (dats m 0 c) 14 t rfl ((idle14 t).trans (decide_eq_false (by omega))) _ ((congrArg (fun s => gateSum s _ _ _ _ 8) (accLast m c t h5 d6 d7 d8)).trans ((gateLast m c t h5).trans (after14 m c t).symm))); iexact H14
      iapply (leaves_whole (dats m 0 c) 15 t rfl ((idle15 t).trans (decide_eq_false (by omega))) _ ((congrArg (fun s => squareSum s _ _ _ _ 8) (accLast m c t h5 d6 d7 d8)).trans ((squaresLast m c t h5).trans (after15 m c t).symm))); iexact H15
  · have e9 := before9 m c t h0 d9
    iapply (run_mid c (grid0.coords t) _ _ _ _ _ _ _ _ _ _ _ _ _ _ _ _ _ _ _ _ _ _ _ _ _ _ _ _ _ _ _ _ _ _ (mt (norm_iff t).1 h0) (mt (first_iff t).1 h0) ((mid_iff t).2 ⟨h0, h5⟩) (mt (last_iff t).1 h5) (mt (emit_iff t).1 h5) _ _ _ _ _ _ _ _ _ _ _ _ _ _ _ _ _ _ _ )
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [Hs]; · iexact Hs
    iintro ⟨H0, H1, H2, H3, H4, H5, H6, H7, H8, H9, H10, H11, H12, H13, H14, H15, Hs⟩
    isplitl [Hs Hg]
    · isplitl [Hs]
      · iexists accN m c (t.val + 1)
        isplitr; · ipureintro; intro _; rfl
        iapply (scratch_owns c _).1
        rw [e9, accMid m c t h0 h5 d6 d7 d8]
        iexact Hs
      · iexact Hg
    isplitl [Ho]; · iexact Ho
    isplitl [H0]; · iapply (leaves_whole (dats m 0 c) 0 t rfl rfl _ (after0 m c t).symm); iexact H0
    isplitl [H1]; · iapply (leaves_whole (dats m 0 c) 1 t rfl rfl _ (after1 m c t).symm); iexact H1
    isplitl [H2]; · iapply (leaves_whole (dats m 0 c) 2 t rfl rfl _ (after2 m c t).symm); iexact H2
    isplitl [H3]; · iapply (leaves_whole (dats m 0 c) 3 t rfl rfl _ (after3 m c t).symm); iexact H3
    isplitl [H4]; · iapply (leaves_whole (dats m 0 c) 4 t rfl rfl _ (after4 m c t).symm); iexact H4
    isplitl [H5]; · iapply (leaves_whole (dats m 0 c) 5 t rfl rfl _ (after5 m c t).symm); iexact H5
    isplitl [H6]; · iapply (keeps6 m c t d6); iexact H6
    isplitl [H7]; · iapply (keeps7 m c t d7); iexact H7
    isplitl [H8]; · iapply (keeps8 m c t d8); iexact H8
    isplitl [H9]; · iapply (leaves_found (dats m 0 c) 9 t ((idle9 t).trans (decide_eq_true (by omega))) (flush9 t h5) d9); iexact H9
    isplitl [H10]; · iapply (leaves_found (dats m 0 c) 10 t ((idle10 t).trans (decide_eq_true (by omega))) (flush10 t h5) d10); iexact H10
    isplitl [H11]; · iapply (leaves_found (dats m 0 c) 11 t ((idle11 t).trans (decide_eq_true (by omega))) (flush11 t h5) d11); iexact H11
    isplitl [H12]; · iapply (gives12 m c t _ ((congrArg (fun h => k0_pay11 h _) e9).trans (fullA m c t h5 d6))); iexact H12
    isplitl [H13]; · iapply (gives13 m c t _ ((congrArg (fun h => k0_pay12 h _) e9).trans (fullB m c t h5 d7))); iexact H13
    isplitl [H14]; · iapply (leaves_found (dats m 0 c) 14 t ((idle14 t).trans (decide_eq_true (by omega))) (flush14 t h5) d14); iexact H14
    iapply (leaves_found (dats m 0 c) 15 t ((idle15 t).trans (decide_eq_true (by omega))) (flush15 t h5) d15); iexact H15

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats m 0 c) (defs₀ (F := F)) Variants.none () Set.univ := fun t => by
  rw [bigSep_W0, bigSep_W0, defs₀_row]
  exact sound_body m c t

/-! ## The launch -/

theorem phi_in (c : Dev nD) : Pipeline.ΦA spec0 c ⊢ ((dats m 0 c).Φ 0 : sProp 𝕄) := by
  rw [Phi_eq, show Pipeline.ΦA spec0 c = iprop(Pipeline.scopedRest spec0 c ∗ ∃ r, prngReg c r) from rfl, scopedRest0_eq]
  iintro ⟨⟨%f, Hs⟩, Hg⟩
  isplitl [Hs]
  · iexists f
    isplitr; · ipureintro; intro h; exact absurd rfl h
    iexact Hs
  · iexact Hg
theorem phi_out (c : Dev nD) : ((dats m 0 c).Φ (Fin.last cfg0.N) : sProp 𝕄) ⊢ Pipeline.ΦA spec0 c := by
  rw [Phi_eq, show Pipeline.ΦA spec0 c = iprop(Pipeline.scopedRest spec0 c ∗ ∃ r, prngReg c r) from rfl, scopedRest0_eq]
  iintro ⟨⟨%f, %hf, Hs⟩, Hg⟩
  isplitl [Hs]
  · iexists f; iexact Hs
  · iexact Hg

set_option backward.isDefEq.respectTransparency.types false in
/-- From any memory with zero counters every weakly fair execution ends, the arrays at what the body's results fold
    them to, every other buffer as the host left it, and every counter at zero. -/
theorem run_main : θ_run defs (onTc (τ := τ) (main (F := F))) (s₀ m ρ) (fun r =>
    Pipeline.FramePost cfgs (dats m) 0 (V m) r ∧ r.2.sem = fun _ => 0) :=
  Pipeline.θ_run_frame_track (Q' := _) cfgs (dats m) (0 : Fin 1) launch0 defs₀ Variants.none m ρ main
    (hbody := body_obligation m)
    (hshare := fun c => (dats m 0 c).share_full fun _ => rfl) (howed := fun _ _ => rfl)
    (V := V m) (hmain := hmain m Variants.none) (hA := A_eq m)
    (hin := phi_in m) (hout := phi_out m)

end Cert.FfnFwdIdeal.Ffn

end
-- ==== Proof.FwdPoint.lean ====
module

public import proofs.«01_k».proof.Proof.FwdRun
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

namespace Cert.FfnFwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.FfnFwdIdeal.Gen

/-! ## One block's arithmetic over the extended reals -/

/-- The logistic function, as the kernel computes it. -/
def lg (a : EReal) : EReal := Ideal.div 1 (1 + Ideal.exp (0 - a))
/-- The gated product. -/
def Gated (a b : EReal) : EReal := (a * lg a) * b
/-- The constants of the two formulas. -/
abbrev width : EReal := (Scalar.ofBits .f32 0x45000000#32 : Ideal .f32)
abbrev tiny : EReal := (Scalar.ofBits .f32 0x358637BD#32 : Ideal .f32)
abbrev halfK : EReal := (Scalar.ofBits .f32 0x3F000000#32 : Ideal .f32)
abbrev invK : EReal := (Scalar.ofBits .f32 0x3A000000#32 : Ideal .f32)
/-- A normalised and modulated entry, of its row's sum of squares `s`. -/
def Nrm (s x g sc sh : EReal) : EReal := x * Ideal.rsqrt (Ideal.div s width + tiny) * g * (1 + sc) + sh
/-- The error at an entry, of the block's output `f` there. -/
def Err (f gt x t : EReal) : EReal := x + (halfK * gt) * f - t
/-- The loss's gradient at an entry. -/
def Gy (f gt x t : EReal) : EReal := Err f gt x t * invK

theorem pay1_at (x : Vec Ideal S64x2048 .f32) (g sc sh : Vec Ideal S1x2048 .f32) (p : Fin 64) (n : Fin 2048) :
    k0_pay1 x g sc sh (ix2 p n) = Nrm (∑ k : Fin 2048, x (ix2 p k) * x (ix2 p k)) (x (ix2 p n)) (g (ix2 0 n)) (sc (ix2 0 n)) (sh (ix2 0 n)) := by
  unfold Nrm
  pointwise [k0_pay1]
theorem pay5_at (h : Vec Ideal S512x2048 .bf16) (w : Vec Ideal S2048x1024 .bf16) (p : Fin 512) (q : Fin 1024) :
    k0_pay5 h w (ix2 p q) = ∑ k : Fin 2048, h (ix2 p k) * w (ix2 k q) := by
  pointwise [k0_pay5, k0_pay3, k0_pay2]
theorem pay6_at (h : Vec Ideal S512x2048 .bf16) (w : Vec Ideal S2048x1024 .bf16) (p : Fin 512) (q : Fin 1024) :
    k0_pay6 h w (ix2 p q) = ∑ k : Fin 2048, h (ix2 p k) * w (ix2 k q) := by
  pointwise [k0_pay6, k0_pay4, k0_pay2]
theorem pay17_at (h : Vec Ideal S512x2048 .bf16) (w : Vec Ideal S2048x512 .bf16) (p : Fin 512) (q : Fin 512) :
    k0_pay17 h w (ix2 p q) = ∑ k : Fin 2048, h (ix2 p k) * w (ix2 k q) := by
  pointwise [k0_pay17, k0_pay15, k0_pay14]
theorem pay18_at (h : Vec Ideal S512x2048 .bf16) (w : Vec Ideal S2048x512 .bf16) (p : Fin 512) (q : Fin 512) :
    k0_pay18 h w (ix2 p q) = ∑ k : Fin 2048, h (ix2 p k) * w (ix2 k q) := by
  pointwise [k0_pay18, k0_pay16, k0_pay14]
theorem pay7_at (h : Vec Ideal S512x2048 .bf16) (w1 w3 : Vec Ideal S2048x1024 .bf16) (w2 : Vec Ideal S1024x2048 .bf16) (p : Fin 512) (n : Fin 2048) :
    k0_pay7 h w1 w3 w2 (ix2 p n) = ∑ q : Fin 1024, Gated (∑ k : Fin 2048, h (ix2 p k) * w1 (ix2 k q)) (∑ k : Fin 2048, h (ix2 p k) * w3 (ix2 k q)) * w2 (ix2 q n) := by
  unfold Gated lg
  pointwise [k0_pay7, k0_pay2, k0_pay3, k0_pay4]
theorem pay13_at (h : Vec Ideal S512x2048 .bf16) (w1 w3 : Vec Ideal S2048x1024 .bf16) (acc : Vec Ideal S512x2048 .f32) (w2 : Vec Ideal S1024x2048 .bf16) (p : Fin 512) (n : Fin 2048) :
    k0_pay13 h w1 w3 acc w2 (ix2 p n) = acc (ix2 p n) + ∑ q : Fin 1024, Gated (∑ k : Fin 2048, h (ix2 p k) * w1 (ix2 k q)) (∑ k : Fin 2048, h (ix2 p k) * w3 (ix2 k q)) * w2 (ix2 q n) := by
  unfold Gated lg
  pointwise [k0_pay13, k0_pay8, k0_pay9, k0_pay10]
theorem pay19_at (h : Vec Ideal S512x2048 .bf16) (w1 w3 : Vec Ideal S2048x512 .bf16) (acc : Vec Ideal S512x2048 .f32) (w2 : Vec Ideal S512x2048 .bf16) (p : Fin 512) (n : Fin 2048) :
    k0_pay19 h w1 w3 acc w2 (ix2 p n) = acc (ix2 p n) + ∑ q : Fin 512, Gated (∑ k : Fin 2048, h (ix2 p k) * w1 (ix2 k q)) (∑ k : Fin 2048, h (ix2 p k) * w3 (ix2 k q)) * w2 (ix2 q n) := by
  unfold Gated lg
  pointwise [k0_pay19, k0_pay14, k0_pay15, k0_pay16]
theorem pay20_at (n : Fin 2048) : (k0_pay20 (F := Ideal)) (ix2 0 n) = (0 : EReal) := by pointwise [k0_pay20]
theorem pay21_at (n : Fin 128) : (k0_pay21 (F := Ideal)) (ix2 0 n) = (0 : EReal) := by pointwise [k0_pay21]
theorem pay25_at (f : Vec Ideal S64x2048 .f32) (gt : Vec Ideal S1x2048 .f32) (x t : Vec Ideal S64x2048 .f32) (p : Fin 64) (n : Fin 2048) :
    k0_pay25 f gt x t (ix2 p n) = Gy (f (ix2 p n)) (gt (ix2 0 n)) (x (ix2 p n)) (t (ix2 p n)) := by
  unfold Gy Err
  pointwise [k0_pay25, k0_pay24, k0_pay23]
theorem pay26_at (f : Vec Ideal S64x2048 .f32) (gt : Vec Ideal S1x2048 .f32) (x t : Vec Ideal S64x2048 .f32) (p : Fin 64) (n : Fin 2048) :
    k0_pay26 f gt x t (ix2 p n) = (halfK * gt (ix2 0 n)) * Gy (f (ix2 p n)) (gt (ix2 0 n)) (x (ix2 p n)) (t (ix2 p n)) := by
  unfold Gy Err
  pointwise [k0_pay26, k0_pay25, k0_pay24, k0_pay23]
theorem pay27_at (f : Vec Ideal S64x2048 .f32) (gt : Vec Ideal S1x2048 .f32) (x t : Vec Ideal S64x2048 .f32) (old : Vec Ideal S1x2048 .f32) (n : Fin 2048) :
    k0_pay27 f gt x t old (ix2 0 n) = old (ix2 0 n) + halfK * ∑ p : Fin 64, Gy (f (ix2 p n)) (gt (ix2 0 n)) (x (ix2 p n)) (t (ix2 p n)) * f (ix2 p n) := by
  unfold Gy Err
  pointwise [k0_pay27, k0_pay25, k0_pay24, k0_pay23]
theorem pay28_at (f : Vec Ideal S64x2048 .f32) (gt : Vec Ideal S1x2048 .f32) (x t : Vec Ideal S64x2048 .f32) :
    k0_pay28 f gt x t (ix2 0 0) = ∑ p : Fin 64, ∑ n : Fin 2048, Err (f (ix2 p n)) (gt (ix2 0 n)) (x (ix2 p n)) (t (ix2 p n)) * Err (f (ix2 p n)) (gt (ix2 0 n)) (x (ix2 p n)) (t (ix2 p n)) := by
  unfold Err
  pointwise [k0_pay28, k0_pay24, k0_pay23]
theorem pay22_at (s : FVec Ideal S1x1 .f32) (old : Vec Ideal S1x128 .f32) (n : Fin 128) :
    k0_pay22 s old (ix2 0 n) = old (ix2 0 n) + s (ix2 0 0) := by
  pointwise [k0_pay22]

end Cert.FfnFwdIdeal.Ffn

end
-- ==== Proof.FwdValues.lean ====
module

public import proofs.«01_k».proof.Proof.FwdPoint
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

namespace Cert.FfnFwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.FfnFwdIdeal.Gen

variable (m : (ℓ : Loc nD τ sig) → Buf (Elt Ideal) ℓ)

/-! ## What the call computes, at a row and a column of the whole arrays -/

/-- The normalised and modulated input. -/
def hV (x : S8192x2048.Idx → EReal) (g sc sh : S1x2048.Idx → EReal) (r : Fin 8192) (n : Fin 2048) : EReal :=
  Nrm (∑ k : Fin 2048, x (ix2 r k) * x (ix2 r k)) (x (ix2 r n)) (g (ix2 0 n)) (sc (ix2 0 n)) (sh (ix2 0 n))
/-- An activation, of the normalised input `h`. -/
def aV (h : Fin 8192 → Fin 2048 → EReal) (w : S2048x5632.Idx → EReal) (r : Fin 8192) (q : Fin 5632) : EReal :=
  ∑ k : Fin 2048, h r k * w (ix2 k q)
/-- The block's output, of the two activations. -/
def fV (a b : Fin 8192 → Fin 5632 → EReal) (w2 : S5632x2048.Idx → EReal) (r : Fin 8192) (n : Fin 2048) : EReal :=
  ∑ q : Fin 5632, Gated (a r q) (b r q) * w2 (ix2 q n)
/-- The error and the loss's gradient, of the output `f`. -/
def errV (f : Fin 8192 → Fin 2048 → EReal) (x t : S8192x2048.Idx → EReal) (gt : S1x2048.Idx → EReal) (r : Fin 8192) (n : Fin 2048) : EReal :=
  Err (f r n) (gt (ix2 0 n)) (x (ix2 r n)) (t (ix2 r n))
def gyV (f : Fin 8192 → Fin 2048 → EReal) (x t : S8192x2048.Idx → EReal) (gt : S1x2048.Idx → EReal) (r : Fin 8192) (n : Fin 2048) : EReal :=
  Gy (f r n) (gt (ix2 0 n)) (x (ix2 r n)) (t (ix2 r n))

/-- The arguments, by name. -/
abbrev argX (c : Dev nD) : S8192x2048.Idx → EReal := m ((c.tc : Thread nD τ).loc main_arg0)
abbrev argG (c : Dev nD) : S1x2048.Idx → EReal := m ((c.tc : Thread nD τ).loc main_arg1)
abbrev argSh (c : Dev nD) : S1x2048.Idx → EReal := m ((c.tc : Thread nD τ).loc main_arg2)
abbrev argSc (c : Dev nD) : S1x2048.Idx → EReal := m ((c.tc : Thread nD τ).loc main_arg3)
abbrev argGt (c : Dev nD) : S1x2048.Idx → EReal := m ((c.tc : Thread nD τ).loc main_arg4)
abbrev argW1 (c : Dev nD) : S2048x5632.Idx → EReal := m ((c.tc : Thread nD τ).loc main_arg5)
abbrev argW3 (c : Dev nD) : S2048x5632.Idx → EReal := m ((c.tc : Thread nD τ).loc main_arg6)
abbrev argW2 (c : Dev nD) : S5632x2048.Idx → EReal := m ((c.tc : Thread nD τ).loc main_arg7)
abbrev argT (c : Dev nD) : S8192x2048.Idx → EReal := m ((c.tc : Thread nD τ).loc main_arg8)
abbrev mh (c : Dev nD) : Fin 8192 → Fin 2048 → EReal := hV (argX m c) (argG m c) (argSc m c) (argSh m c)
abbrev ma (c : Dev nD) : Fin 8192 → Fin 5632 → EReal := aV (mh m c) (argW1 m c)
abbrev mb (c : Dev nD) : Fin 8192 → Fin 5632 → EReal := aV (mh m c) (argW3 m c)
abbrev mf (c : Dev nD) : Fin 8192 → Fin 2048 → EReal := fV (ma m c) (mb m c) (argW2 m c)

/-! ## The arrays the call reads -/

theorem V_w1 (c : Dev nD) : V m c main_v0 = argW1 m c := by
  have h : V m c main_v0 = truncf (F := Ideal) .bf16 (argW1 m c) bitsLt_bf16_f32 := by
    unfold V; simp only [hostOps0]; after_results_simp
  rw [h]; exact funext fun i => rfl
theorem V_w3 (c : Dev nD) : V m c main_v1 = argW3 m c := by
  have h : V m c main_v1 = truncf (F := Ideal) .bf16 (argW3 m c) bitsLt_bf16_f32 := by
    unfold V; simp only [hostOps0]; after_results_simp
  rw [h]; exact funext fun i => rfl
theorem V_w2 (c : Dev nD) : V m c main_v2 = argW2 m c := by
  have h : V m c main_v2 = truncf (F := Ideal) .bf16 (argW2 m c) bitsLt_bf16_f32 := by
    unfold V; simp only [hostOps0]; after_results_simp
  rw [h]; exact funext fun i => rfl

/-! ## Where the blocks lie -/
theorem at0 : ∀ t : Fin grid0.N, win0_0.index t 0 = 0 ∧ win0_0.index t 1 = 0 := by decide +kernel
theorem read0 (t : Fin cfg0.N) (G : S1x2048.Idx → EReal) (j : (win0_0.xblock (grid0.coords t)).Idx) (i : S1x2048.Idx)
    (h0 : 0 * 1 + (j 0).val = (i 0).val) (h1 : 0 * 2048 + (j 1).val = (i 1).val) :
    ((win0_0.blk t).view.read (Elt Ideal) G : _ → EReal) j = G i :=
  congrArg G (funext (Fin.forall_fin_two.mpr
    ⟨Fin.ext ((Rect.idx_unit_val _ _ _ _ _).trans ((congrArg (· * 1 + (j 0).val) (at0 t).1).trans h0)),
      Fin.ext ((Rect.idx_unit_val _ _ _ _ _).trans ((congrArg (· * 2048 + (j 1).val) (at0 t).2).trans h1))⟩))
theorem at1 : ∀ t : Fin grid0.N, win0_1.index t 0 = t.val / 6 ∧ win0_1.index t 1 = 0 := by decide +kernel
theorem read1 (t : Fin cfg0.N) (G : S8192x2048.Idx → EReal) (j : (win0_1.xblock (grid0.coords t)).Idx) (i : S8192x2048.Idx)
    (h0 : t.val / 6 * 512 + (j 0).val = (i 0).val) (h1 : 0 * 2048 + (j 1).val = (i 1).val) :
    ((win0_1.blk t).view.read (Elt Ideal) G : _ → EReal) j = G i :=
  congrArg G (funext (Fin.forall_fin_two.mpr
    ⟨Fin.ext ((Rect.idx_unit_val _ _ _ _ _).trans ((congrArg (· * 512 + (j 0).val) (at1 t).1).trans h0)),
      Fin.ext ((Rect.idx_unit_val _ _ _ _ _).trans ((congrArg (· * 2048 + (j 1).val) (at1 t).2).trans h1))⟩))
theorem at2 : ∀ t : Fin grid0.N, win0_2.index t 0 = t.val / 6 ∧ win0_2.index t 1 = 0 := by decide +kernel
theorem read2 (t : Fin cfg0.N) (G : S8192x2048.Idx → EReal) (j : (win0_2.xblock (grid0.coords t)).Idx) (i : S8192x2048.Idx)
    (h0 : t.val / 6 * 512 + (j 0).val = (i 0).val) (h1 : 0 * 2048 + (j 1).val = (i 1).val) :
    ((win0_2.blk t).view.read (Elt Ideal) G : _ → EReal) j = G i :=
  congrArg G (funext (Fin.forall_fin_two.mpr
    ⟨Fin.ext ((Rect.idx_unit_val _ _ _ _ _).trans ((congrArg (· * 512 + (j 0).val) (at2 t).1).trans h0)),
      Fin.ext ((Rect.idx_unit_val _ _ _ _ _).trans ((congrArg (· * 2048 + (j 1).val) (at2 t).2).trans h1))⟩))
theorem at3 : ∀ t : Fin grid0.N, win0_3.index t 0 = 0 ∧ win0_3.index t 1 = 0 := by decide +kernel
theorem read3 (t : Fin cfg0.N) (G : S1x2048.Idx → EReal) (j : (win0_3.xblock (grid0.coords t)).Idx) (i : S1x2048.Idx)
    (h0 : 0 * 1 + (j 0).val = (i 0).val) (h1 : 0 * 2048 + (j 1).val = (i 1).val) :
    ((win0_3.blk t).view.read (Elt Ideal) G : _ → EReal) j = G i :=
  congrArg G (funext (Fin.forall_fin_two.mpr
    ⟨Fin.ext ((Rect.idx_unit_val _ _ _ _ _).trans ((congrArg (· * 1 + (j 0).val) (at3 t).1).trans h0)),
      Fin.ext ((Rect.idx_unit_val _ _ _ _ _).trans ((congrArg (· * 2048 + (j 1).val) (at3 t).2).trans h1))⟩))
theorem at4 : ∀ t : Fin grid0.N, win0_4.index t 0 = 0 ∧ win0_4.index t 1 = 0 := by decide +kernel
theorem read4 (t : Fin cfg0.N) (G : S1x2048.Idx → EReal) (j : (win0_4.xblock (grid0.coords t)).Idx) (i : S1x2048.Idx)
    (h0 : 0 * 1 + (j 0).val = (i 0).val) (h1 : 0 * 2048 + (j 1).val = (i 1).val) :
    ((win0_4.blk t).view.read (Elt Ideal) G : _ → EReal) j = G i :=
  congrArg G (funext (Fin.forall_fin_two.mpr
    ⟨Fin.ext ((Rect.idx_unit_val _ _ _ _ _).trans ((congrArg (· * 1 + (j 0).val) (at4 t).1).trans h0)),
      Fin.ext ((Rect.idx_unit_val _ _ _ _ _).trans ((congrArg (· * 2048 + (j 1).val) (at4 t).2).trans h1))⟩))
theorem at5 : ∀ t : Fin grid0.N, win0_5.index t 0 = 0 ∧ win0_5.index t 1 = 0 := by decide +kernel
theorem read5 (t : Fin cfg0.N) (G : S1x2048.Idx → EReal) (j : (win0_5.xblock (grid0.coords t)).Idx) (i : S1x2048.Idx)
    (h0 : 0 * 1 + (j 0).val = (i 0).val) (h1 : 0 * 2048 + (j 1).val = (i 1).val) :
    ((win0_5.blk t).view.read (Elt Ideal) G : _ → EReal) j = G i :=
  congrArg G (funext (Fin.forall_fin_two.mpr
    ⟨Fin.ext ((Rect.idx_unit_val _ _ _ _ _).trans ((congrArg (· * 1 + (j 0).val) (at5 t).1).trans h0)),
      Fin.ext ((Rect.idx_unit_val _ _ _ _ _).trans ((congrArg (· * 2048 + (j 1).val) (at5 t).2).trans h1))⟩))
theorem at6 : ∀ t : Fin grid0.N, win0_6.index t 0 = 0 ∧ win0_6.index t 1 = t.val % 6 := by decide +kernel
theorem read6 (t : Fin cfg0.N) (G : S2048x5632.Idx → EReal) (j : (win0_6.xblock (grid0.coords t)).Idx) (i : S2048x5632.Idx)
    (h0 : 0 * 2048 + (j 0).val = (i 0).val) (h1 : t.val % 6 * 1024 + (j 1).val = (i 1).val) :
    ((win0_6.blk t).view.read (Elt Ideal) G : _ → EReal) j = G i :=
  congrArg G (funext (Fin.forall_fin_two.mpr
    ⟨Fin.ext ((Rect.idx_unit_val _ _ _ _ _).trans ((congrArg (· * 2048 + (j 0).val) (at6 t).1).trans h0)),
      Fin.ext ((Rect.idx_unit_val _ _ _ _ _).trans ((congrArg (· * 1024 + (j 1).val) (at6 t).2).trans h1))⟩))
theorem at7 : ∀ t : Fin grid0.N, win0_7.index t 0 = 0 ∧ win0_7.index t 1 = t.val % 6 := by decide +kernel
theorem read7 (t : Fin cfg0.N) (G : S2048x5632.Idx → EReal) (j : (win0_7.xblock (grid0.coords t)).Idx) (i : S2048x5632.Idx)
    (h0 : 0 * 2048 + (j 0).val = (i 0).val) (h1 : t.val % 6 * 1024 + (j 1).val = (i 1).val) :
    ((win0_7.blk t).view.read (Elt Ideal) G : _ → EReal) j = G i :=
  congrArg G (funext (Fin.forall_fin_two.mpr
    ⟨Fin.ext ((Rect.idx_unit_val _ _ _ _ _).trans ((congrArg (· * 2048 + (j 0).val) (at7 t).1).trans h0)),
      Fin.ext ((Rect.idx_unit_val _ _ _ _ _).trans ((congrArg (· * 1024 + (j 1).val) (at7 t).2).trans h1))⟩))
theorem at8 : ∀ t : Fin grid0.N, win0_8.index t 0 = t.val % 6 ∧ win0_8.index t 1 = 0 := by decide +kernel
theorem read8 (t : Fin cfg0.N) (G : S5632x2048.Idx → EReal) (j : (win0_8.xblock (grid0.coords t)).Idx) (i : S5632x2048.Idx)
    (h0 : t.val % 6 * 1024 + (j 0).val = (i 0).val) (h1 : 0 * 2048 + (j 1).val = (i 1).val) :
    ((win0_8.blk t).view.read (Elt Ideal) G : _ → EReal) j = G i :=
  congrArg G (funext (Fin.forall_fin_two.mpr
    ⟨Fin.ext ((Rect.idx_unit_val _ _ _ _ _).trans ((congrArg (· * 1024 + (j 0).val) (at8 t).1).trans h0)),
      Fin.ext ((Rect.idx_unit_val _ _ _ _ _).trans ((congrArg (· * 2048 + (j 1).val) (at8 t).2).trans h1))⟩))
theorem at9 : ∀ t : Fin grid0.N, win0_9.index t 0 = t.val / 6 ∧ win0_9.index t 1 = 0 := by decide +kernel
theorem read9 (t : Fin cfg0.N) (G : S8192x2048.Idx → EReal) (j : (win0_9.xblock (grid0.coords t)).Idx) (i : S8192x2048.Idx)
    (h0 : t.val / 6 * 512 + (j 0).val = (i 0).val) (h1 : 0 * 2048 + (j 1).val = (i 1).val) :
    ((win0_9.blk t).view.read (Elt Ideal) G : _ → EReal) j = G i :=
  congrArg G (funext (Fin.forall_fin_two.mpr
    ⟨Fin.ext ((Rect.idx_unit_val _ _ _ _ _).trans ((congrArg (· * 512 + (j 0).val) (at9 t).1).trans h0)),
      Fin.ext ((Rect.idx_unit_val _ _ _ _ _).trans ((congrArg (· * 2048 + (j 1).val) (at9 t).2).trans h1))⟩))
theorem at10 : ∀ t : Fin grid0.N, win0_10.index t 0 = t.val / 6 ∧ win0_10.index t 1 = 0 := by decide +kernel
theorem read10 (t : Fin cfg0.N) (G : S8192x2048.Idx → EReal) (j : (win0_10.xblock (grid0.coords t)).Idx) (i : S8192x2048.Idx)
    (h0 : t.val / 6 * 512 + (j 0).val = (i 0).val) (h1 : 0 * 2048 + (j 1).val = (i 1).val) :
    ((win0_10.blk t).view.read (Elt Ideal) G : _ → EReal) j = G i :=
  congrArg G (funext (Fin.forall_fin_two.mpr
    ⟨Fin.ext ((Rect.idx_unit_val _ _ _ _ _).trans ((congrArg (· * 512 + (j 0).val) (at10 t).1).trans h0)),
      Fin.ext ((Rect.idx_unit_val _ _ _ _ _).trans ((congrArg (· * 2048 + (j 1).val) (at10 t).2).trans h1))⟩))
theorem at11 : ∀ t : Fin grid0.N, win0_11.index t 0 = t.val / 6 ∧ win0_11.index t 1 = 0 := by decide +kernel
theorem read11 (t : Fin cfg0.N) (G : S8192x2048.Idx → EReal) (j : (win0_11.xblock (grid0.coords t)).Idx) (i : S8192x2048.Idx)
    (h0 : t.val / 6 * 512 + (j 0).val = (i 0).val) (h1 : 0 * 2048 + (j 1).val = (i 1).val) :
    ((win0_11.blk t).view.read (Elt Ideal) G : _ → EReal) j = G i :=
  congrArg G (funext (Fin.forall_fin_two.mpr
    ⟨Fin.ext ((Rect.idx_unit_val _ _ _ _ _).trans ((congrArg (· * 512 + (j 0).val) (at11 t).1).trans h0)),
      Fin.ext ((Rect.idx_unit_val _ _ _ _ _).trans ((congrArg (· * 2048 + (j 1).val) (at11 t).2).trans h1))⟩))
theorem at12 : ∀ t : Fin grid0.N, win0_12.index t 0 = t.val / 6 ∧ win0_12.index t 1 = t.val % 6 := by decide +kernel
theorem read12 (t : Fin cfg0.N) (G : S8192x5632.Idx → EReal) (j : (win0_12.xblock (grid0.coords t)).Idx) (i : S8192x5632.Idx)
    (h0 : t.val / 6 * 512 + (j 0).val = (i 0).val) (h1 : t.val % 6 * 1024 + (j 1).val = (i 1).val) :
    ((win0_12.blk t).view.read (Elt Ideal) G : _ → EReal) j = G i :=
  congrArg G (funext (Fin.forall_fin_two.mpr
    ⟨Fin.ext ((Rect.idx_unit_val _ _ _ _ _).trans ((congrArg (· * 512 + (j 0).val) (at12 t).1).trans h0)),
      Fin.ext ((Rect.idx_unit_val _ _ _ _ _).trans ((congrArg (· * 1024 + (j 1).val) (at12 t).2).trans h1))⟩))
theorem at13 : ∀ t : Fin grid0.N, win0_13.index t 0 = t.val / 6 ∧ win0_13.index t 1 = t.val % 6 := by decide +kernel
theorem read13 (t : Fin cfg0.N) (G : S8192x5632.Idx → EReal) (j : (win0_13.xblock (grid0.coords t)).Idx) (i : S8192x5632.Idx)
    (h0 : t.val / 6 * 512 + (j 0).val = (i 0).val) (h1 : t.val % 6 * 1024 + (j 1).val = (i 1).val) :
    ((win0_13.blk t).view.read (Elt Ideal) G : _ → EReal) j = G i :=
  congrArg G (funext (Fin.forall_fin_two.mpr
    ⟨Fin.ext ((Rect.idx_unit_val _ _ _ _ _).trans ((congrArg (· * 512 + (j 0).val) (at13 t).1).trans h0)),
      Fin.ext ((Rect.idx_unit_val _ _ _ _ _).trans ((congrArg (· * 1024 + (j 1).val) (at13 t).2).trans h1))⟩))
theorem at14 : ∀ t : Fin grid0.N, win0_14.index t 0 = 0 ∧ win0_14.index t 1 = 0 := by decide +kernel
theorem read14 (t : Fin cfg0.N) (G : S1x2048.Idx → EReal) (j : (win0_14.xblock (grid0.coords t)).Idx) (i : S1x2048.Idx)
    (h0 : 0 * 1 + (j 0).val = (i 0).val) (h1 : 0 * 2048 + (j 1).val = (i 1).val) :
    ((win0_14.blk t).view.read (Elt Ideal) G : _ → EReal) j = G i :=
  congrArg G (funext (Fin.forall_fin_two.mpr
    ⟨Fin.ext ((Rect.idx_unit_val _ _ _ _ _).trans ((congrArg (· * 1 + (j 0).val) (at14 t).1).trans h0)),
      Fin.ext ((Rect.idx_unit_val _ _ _ _ _).trans ((congrArg (· * 2048 + (j 1).val) (at14 t).2).trans h1))⟩))
theorem at15 : ∀ t : Fin grid0.N, win0_15.index t 0 = 0 ∧ win0_15.index t 1 = 0 := by decide +kernel
theorem read15 (t : Fin cfg0.N) (G : S1x128.Idx → EReal) (j : (win0_15.xblock (grid0.coords t)).Idx) (i : S1x128.Idx)
    (h0 : 0 * 1 + (j 0).val = (i 0).val) (h1 : 0 * 128 + (j 1).val = (i 1).val) :
    ((win0_15.blk t).view.read (Elt Ideal) G : _ → EReal) j = G i :=
  congrArg G (funext (Fin.forall_fin_two.mpr
    ⟨Fin.ext ((Rect.idx_unit_val _ _ _ _ _).trans ((congrArg (· * 1 + (j 0).val) (at15 t).1).trans h0)),
      Fin.ext ((Rect.idx_unit_val _ _ _ _ _).trans ((congrArg (· * 128 + (j 1).val) (at15 t).2).trans h1))⟩))

/-! ## The blocks at an index -/

theorem topR_at (x : Vec Ideal S1024x2048 .bf16) (k : Fin 512) (n : Fin 2048) : (topR (F := Ideal) x (ix2 k n) : EReal) = x (ix2 ⟨k.val, by omega⟩ n) := by
  refine congrArg x ((eq_ix2 _).trans (congrArg₂ ix2 (Fin.ext ?_) (Fin.ext ?_)))
  · exact (Rect.idx_unit_val _ _ _ _ _).trans (Nat.zero_add _)
  · exact (Rect.idx_unit_val _ _ _ _ _).trans (Nat.zero_add _)
theorem leftW_at (x : Vec Ideal S2048x1024 .bf16) (n : Fin 2048) (k : Fin 512) : (leftW (F := Ideal) x (ix2 n k) : EReal) = x (ix2 n ⟨k.val, by omega⟩) := by
  refine congrArg x ((eq_ix2 _).trans (congrArg₂ ix2 (Fin.ext ?_) (Fin.ext ?_)))
  · exact (Rect.idx_unit_val _ _ _ _ _).trans (Nat.zero_add _)
  · exact (Rect.idx_unit_val _ _ _ _ _).trans (Nat.zero_add _)

theorem blkX_at (c : Dev nD) (t : Fin cfg0.N) (p : Fin 512) (k : Fin 2048) (r : Fin 8192) (hr : t.val / 6 * 512 + p.val = r.val) :
    (blkX m c t (ix2 p k) : EReal) = argX m c (ix2 r k) := by
  show ((win0_1.blk t).view.read (Elt Ideal) (V m c main_arg0) : _ → EReal) (ix2 p k) = _
  rw [V_main_arg0]
  exact read1 t _ _ (ix2 r k) hr (Nat.zero_add _)
theorem blkT_at (c : Dev nD) (t : Fin cfg0.N) (p : Fin 512) (k : Fin 2048) (r : Fin 8192) (hr : t.val / 6 * 512 + p.val = r.val) :
    (blkT m c t (ix2 p k) : EReal) = argT m c (ix2 r k) := by
  show ((win0_2.blk t).view.read (Elt Ideal) (V m c main_arg8) : _ → EReal) (ix2 p k) = _
  rw [V_main_arg8]
  exact read2 t _ _ (ix2 r k) hr (Nat.zero_add _)
theorem rowG_at (c : Dev nD) (t : Fin cfg0.N) (k : Fin 2048) : (rowG m c t (ix2 0 k) : EReal) = argG m c (ix2 0 k) := by
  show ((win0_0.blk t).view.read (Elt Ideal) (V m c main_arg1) : _ → EReal) (ix2 0 k) = _
  rw [V_main_arg1]
  exact read0 t _ _ (ix2 0 k) rfl (Nat.zero_add _)
theorem rowSh_at (c : Dev nD) (t : Fin cfg0.N) (k : Fin 2048) : (rowSh m c t (ix2 0 k) : EReal) = argSh m c (ix2 0 k) := by
  show ((win0_3.blk t).view.read (Elt Ideal) (V m c main_arg2) : _ → EReal) (ix2 0 k) = _
  rw [V_main_arg2]
  exact read3 t _ _ (ix2 0 k) rfl (Nat.zero_add _)
theorem rowSc_at (c : Dev nD) (t : Fin cfg0.N) (k : Fin 2048) : (rowSc m c t (ix2 0 k) : EReal) = argSc m c (ix2 0 k) := by
  show ((win0_4.blk t).view.read (Elt Ideal) (V m c main_arg3) : _ → EReal) (ix2 0 k) = _
  rw [V_main_arg3]
  exact read4 t _ _ (ix2 0 k) rfl (Nat.zero_add _)
theorem rowGt_at (c : Dev nD) (t : Fin cfg0.N) (k : Fin 2048) : (rowGt m c t (ix2 0 k) : EReal) = argGt m c (ix2 0 k) := by
  show ((win0_5.blk t).view.read (Elt Ideal) (V m c main_arg4) : _ → EReal) (ix2 0 k) = _
  rw [V_main_arg4]
  exact read5 t _ _ (ix2 0 k) rfl (Nat.zero_add _)
theorem blk1_at (c : Dev nD) (t : Fin cfg0.N) (n : Fin 2048) (k : Fin 1024) (q : Fin 5632)
    (hq : t.val % 6 * 1024 + k.val = q.val) : (blk1 m c t (ix2 n k) : EReal) = argW1 m c (ix2 n q) := by
  have hm : win0_6.moved (grid0.coords t) (ix2 n k) = true := (win0_6.moved_iff _ _).2 fun a => by
    have hq' := q.isLt
    have e := cols6 t a
    match a with
    | ⟨0, _⟩ => rw [e, if_neg (fun h => absurd (congrArg Fin.val h.1) Nat.zero_ne_one)]; exact n.isLt
    | ⟨1, _⟩ =>
      rw [e]; split
      · next h => show k.val < 512; have := h.2; omega
      · exact k.isLt
  unfold blk1 Window.fill
  rw [dif_pos hm]
  show ((win0_6.blk t).view.read (Elt Ideal) (V m c main_v0) : _ → EReal) _ = _
  rw [V_w1]
  exact read6 t _ _ (ix2 n q) (Nat.zero_add _) hq
theorem blk3_at (c : Dev nD) (t : Fin cfg0.N) (n : Fin 2048) (k : Fin 1024) (q : Fin 5632)
    (hq : t.val % 6 * 1024 + k.val = q.val) : (blk3 m c t (ix2 n k) : EReal) = argW3 m c (ix2 n q) := by
  have hm : win0_7.moved (grid0.coords t) (ix2 n k) = true := (win0_7.moved_iff _ _).2 fun a => by
    have hq' := q.isLt
    have e := cols7 t a
    match a with
    | ⟨0, _⟩ => rw [e, if_neg (fun h => absurd (congrArg Fin.val h.1) Nat.zero_ne_one)]; exact n.isLt
    | ⟨1, _⟩ =>
      rw [e]; split
      · next h => show k.val < 512; have := h.2; omega
      · exact k.isLt
  unfold blk3 Window.fill
  rw [dif_pos hm]
  show ((win0_7.blk t).view.read (Elt Ideal) (V m c main_v1) : _ → EReal) _ = _
  rw [V_w3]
  exact read7 t _ _ (ix2 n q) (Nat.zero_add _) hq
theorem blk2_at (c : Dev nD) (t : Fin cfg0.N) (k : Fin 1024) (n : Fin 2048) (q : Fin 5632)
    (hq : t.val % 6 * 1024 + k.val = q.val) : (blk2 m c t (ix2 k n) : EReal) = argW2 m c (ix2 q n) := by
  have hm : win0_8.moved (grid0.coords t) (ix2 k n) = true := (win0_8.moved_iff _ _).2 fun a => by
    have hq' := q.isLt
    have e := rows8 t a
    match a with
    | ⟨0, _⟩ =>
      rw [e]; split
      · next h => show k.val < 512; have := h.2; omega
      · exact k.isLt
    | ⟨1, _⟩ => rw [e, if_neg (fun h => absurd (congrArg Fin.val h.1) Nat.one_ne_zero)]; exact n.isLt
  unfold blk2 Window.fill
  rw [dif_pos hm]
  show ((win0_8.blk t).view.read (Elt Ideal) (V m c main_v2) : _ → EReal) _ = _
  rw [V_w2]
  exact read8 t _ _ (ix2 q n) hq (Nat.zero_add _)

/-! ## The normalised rows and the two activations, on a block -/

/-- A row of a row block, by its group of 64 rows. -/
theorem joinRows_at {e : EltTy} (P : Fin 8 → Vec Ideal S64x2048 e) (p : Fin 512) (n : Fin 2048) :
    joinRows P (ix2 p n) = P ⟨p.val / 64, by omega⟩ (ix2 ⟨p.val % 64, Nat.mod_lt _ (by decide)⟩ n) := rfl
theorem rowsOf_at {e : EltTy} (X : Vec Ideal S512x2048 e) (p : Fin 512) (n : Fin 2048) :
    rowsOf X ⟨p.val / 64, by omega⟩ (ix2 ⟨p.val % 64, Nat.mod_lt _ (by decide)⟩ n) = X (ix2 p n) :=
  congrArg X (congrArg₂ ix2 (Fin.ext (by show 64 * (p.val / 64) + p.val % 64 = p.val; omega)) rfl)

theorem hOf_at (c : Dev nD) (t : Fin cfg0.N) (p : Fin 512) (n : Fin 2048) (r : Fin 8192) (hr : t.val / 6 * 512 + p.val = r.val) :
    (hOf m c t (ix2 p n) : EReal) = mh m c r n := by
  have hr' : (firstOf t).val / 6 * 512 + p.val = r.val := by
    show (t.val - t.val % 6) / 6 * 512 + p.val = r.val
    rw [show (t.val - t.val % 6) / 6 = t.val / 6 by omega]; exact hr
  have hx : ∀ k : Fin 2048, (rowsOf (blkX m c (firstOf t)) ⟨p.val / 64, by omega⟩ (ix2 ⟨p.val % 64, Nat.mod_lt _ (by decide)⟩ k) : EReal) = argX m c (ix2 r k) :=
    fun k => (rowsOf_at _ p k).trans (blkX_at m c (firstOf t) p k r hr')
  unfold hOf normed
  refine (joinRows_at _ p n).trans ((pay1_at _ _ _ _ _ n).trans ?_)
  unfold mh hV
  rw [hx n, rowG_at, rowSc_at, rowSh_at]
  exact congrArg (fun s => Nrm s _ _ _ _) (Finset.sum_congr rfl fun k _ => congrArg₂ (· * ·) (hx k) (hx k))
theorem asum (c : Dev nD) (t : Fin cfg0.N) (p : Fin 512) (k : Fin 1024) (r : Fin 8192) (q : Fin 5632)
    (hr : t.val / 6 * 512 + p.val = r.val) (hq : t.val % 6 * 1024 + k.val = q.val) :
    (∑ n : Fin 2048, (hOf m c t (ix2 p n) : EReal) * blk1 m c t (ix2 n k)) = ma m c r q :=
  Finset.sum_congr rfl fun n _ => congrArg₂ (· * ·) (hOf_at m c t p n r hr) (blk1_at m c t n k q hq)
theorem asumL (c : Dev nD) (t : Fin cfg0.N) (p : Fin 512) (k : Fin 512) (r : Fin 8192) (q : Fin 5632)
    (hr : t.val / 6 * 512 + p.val = r.val) (hq : t.val % 6 * 1024 + k.val = q.val) :
    (∑ n : Fin 2048, (hOf m c t (ix2 p n) : EReal) * leftW (F := Ideal) (blk1 m c t) (ix2 n k)) = ma m c r q :=
  Finset.sum_congr rfl fun n _ => congrArg₂ (· * ·) (hOf_at m c t p n r hr) ((leftW_at _ n k).trans (blk1_at m c t n ⟨k.val, by omega⟩ q hq))
theorem bsum (c : Dev nD) (t : Fin cfg0.N) (p : Fin 512) (k : Fin 1024) (r : Fin 8192) (q : Fin 5632)
    (hr : t.val / 6 * 512 + p.val = r.val) (hq : t.val % 6 * 1024 + k.val = q.val) :
    (∑ n : Fin 2048, (hOf m c t (ix2 p n) : EReal) * blk3 m c t (ix2 n k)) = mb m c r q :=
  Finset.sum_congr rfl fun n _ => congrArg₂ (· * ·) (hOf_at m c t p n r hr) (blk3_at m c t n k q hq)
theorem bsumL (c : Dev nD) (t : Fin cfg0.N) (p : Fin 512) (k : Fin 512) (r : Fin 8192) (q : Fin 5632)
    (hr : t.val / 6 * 512 + p.val = r.val) (hq : t.val % 6 * 1024 + k.val = q.val) :
    (∑ n : Fin 2048, (hOf m c t (ix2 p n) : EReal) * leftW (F := Ideal) (blk3 m c t) (ix2 n k)) = mb m c r q :=
  Finset.sum_congr rfl fun n _ => congrArg₂ (· * ·) (hOf_at m c t p n r hr) ((leftW_at _ n k).trans (blk3_at m c t n ⟨k.val, by omega⟩ q hq))
theorem outA_at (c : Dev nD) (t : Fin cfg0.N) (p : Fin 512) (k : Fin 1024) (r : Fin 8192) (q : Fin 5632)
    (hr : t.val / 6 * 512 + p.val = r.val) (hq : t.val % 6 * 1024 + k.val = q.val) : (outA m c t (ix2 p k) : EReal) = ma m c r q := by
  unfold outA
  split
  · next h =>
    have hk : k.val < 512 := by have := q.isLt; omega
    unfold putL
    rw [dif_pos (show ((ix2 p k : S512x1024.Idx) 1).val < 512 from hk)]
    exact (pay17_at _ _ p ⟨k.val, hk⟩).trans (asumL m c t p ⟨k.val, hk⟩ r q hr hq)
  · exact (pay5_at _ _ p k).trans (asum m c t p k r q hr hq)
theorem outB_at (c : Dev nD) (t : Fin cfg0.N) (p : Fin 512) (k : Fin 1024) (r : Fin 8192) (q : Fin 5632)
    (hr : t.val / 6 * 512 + p.val = r.val) (hq : t.val % 6 * 1024 + k.val = q.val) : (outB m c t (ix2 p k) : EReal) = mb m c r q := by
  unfold outB
  split
  · next h =>
    have hk : k.val < 512 := by have := q.isLt; omega
    unfold putL
    rw [dif_pos (show ((ix2 p k : S512x1024.Idx) 1).val < 512 from hk)]
    exact (pay18_at _ _ p ⟨k.val, hk⟩).trans (bsumL m c t p ⟨k.val, hk⟩ r q hr hq)
  · exact (pay6_at _ _ p k).trans (bsum m c t p k r q hr hq)

/-! ## The sum over the column blocks -/

/-- Term `k` of the product that makes the block's output, zero past the arrays' end. -/
def tN (c : Dev nD) (r : Fin 8192) (n : Fin 2048) (k : ℕ) : EReal :=
  if h : k < 5632 then Gated (ma m c r ⟨k, h⟩) (mb m c r ⟨k, h⟩) * argW2 m c (ix2 ⟨k, h⟩ n) else 0
/-- The terms of a whole column block, and of the last one. -/
theorem incFull (c : Dev nD) (t : Fin cfg0.N) (p : Fin 512) (n : Fin 2048) (r : Fin 8192)
    (hr : t.val / 6 * 512 + p.val = r.val) (h5 : t.val % 6 ≠ 5) :
    (∑ q : Fin 1024, Gated (∑ k : Fin 2048, (hOf m c t (ix2 p k) : EReal) * blk1 m c t (ix2 k q)) (∑ k : Fin 2048, (hOf m c t (ix2 p k) : EReal) * blk3 m c t (ix2 k q)) * (blk2 m c t (ix2 q n) : EReal))
      = ∑ k ∈ Finset.range 1024, tN m c r n (t.val % 6 * 1024 + k) := by
  rw [Finset.sum_range]
  refine Finset.sum_congr rfl fun k _ => ?_
  have hk : t.val % 6 * 1024 + k.val < 5632 := by have := k.isLt; omega
  unfold tN
  rw [dif_pos hk]
  exact congrArg₂ (· * ·) (congrArg₂ Gated (asum m c t p k r ⟨t.val % 6 * 1024 + k.val, hk⟩ hr rfl) (bsum m c t p k r ⟨t.val % 6 * 1024 + k.val, hk⟩ hr rfl)) (blk2_at m c t k n ⟨t.val % 6 * 1024 + k.val, hk⟩ rfl)
theorem incPart (c : Dev nD) (t : Fin cfg0.N) (p : Fin 512) (n : Fin 2048) (r : Fin 8192)
    (hr : t.val / 6 * 512 + p.val = r.val) (h5 : t.val % 6 = 5) :
    (∑ q : Fin 512, Gated (∑ k : Fin 2048, (hOf m c t (ix2 p k) : EReal) * leftW (F := Ideal) (blk1 m c t) (ix2 k q)) (∑ k : Fin 2048, (hOf m c t (ix2 p k) : EReal) * leftW (F := Ideal) (blk3 m c t) (ix2 k q)) * (topR (F := Ideal) (blk2 m c t) (ix2 q n) : EReal))
      = ∑ k ∈ Finset.range 512, tN m c r n (t.val % 6 * 1024 + k) := by
  rw [Finset.sum_range]
  refine Finset.sum_congr rfl fun k _ => ?_
  have hk : t.val % 6 * 1024 + k.val < 5632 := by have := k.isLt; omega
  unfold tN
  rw [dif_pos hk]
  exact congrArg₂ (· * ·) (congrArg₂ Gated (asumL m c t p k r ⟨t.val % 6 * 1024 + k.val, hk⟩ hr rfl) (bsumL m c t p k r ⟨t.val % 6 * 1024 + k.val, hk⟩ hr rfl)) ((topR_at _ k n).trans (blk2_at m c t ⟨k.val, by omega⟩ n ⟨t.val % 6 * 1024 + k.val, hk⟩ rfl))

/-- One point adds its column block's terms. -/
theorem step_at (c : Dev nD) (t : Fin cfg0.N) (p : Fin 512) (n : Fin 2048) (r : Fin 8192)
    (hr : t.val / 6 * 512 + p.val = r.val) (prev : Vec Ideal S512x2048 .f32)
    (hp : t.val % 6 ≠ 0 → (prev (ix2 p n) : EReal) = ∑ k ∈ Finset.range (t.val % 6 * 1024), tN m c r n k) :
    (accStep m c t prev (ix2 p n) : EReal) = ∑ k ∈ Finset.range (min ((t.val % 6 + 1) * 1024) 5632), tN m c r n k := by
  unfold accStep
  split
  · next h =>
    refine (pay7_at _ _ _ _ p n).trans ((incFull m c t p n r hr (by omega)).trans ?_)
    rw [h]
    simp only [Nat.zero_mul, Nat.zero_add, Nat.one_mul]
    rfl
  · next h =>
    split
    · next h5 =>
      refine (pay19_at _ _ _ _ _ p n).trans ((congrArg₂ (· + ·) (hp h) (incPart m c t p n r hr h5)).trans ?_)
      rw [← Finset.sum_range_add]
      congr 2
      omega
    · next h5 =>
      refine (pay13_at _ _ _ _ _ p n).trans ((congrArg₂ (· + ·) (hp h) (incFull m c t p n r hr h5)).trans ?_)
      rw [← Finset.sum_range_add]
      congr 2
      omega

/-- After column block `j` of a row block: the terms of the column blocks up to it. -/
theorem acc_at (c : Dev nD) (i : ℕ) (hi : i < 16) (p : Fin 512) (n : Fin 2048) (r : Fin 8192) (hr : i * 512 + p.val = r.val) :
    ∀ j : ℕ, j < 6 → (accN m c (6 * i + j + 1) (ix2 p n) : EReal) = ∑ k ∈ Finset.range (min ((j + 1) * 1024) 5632), tN m c r n k
  | 0, _ => by
    have hN : 6 * i < cfg0.N := by show _ < 96; omega
    have hs := step_at m c ⟨6 * i, hN⟩ p n r (by show 6 * i / 6 * 512 + p.val = r.val; omega) (accN m c (6 * i))
      (fun h => absurd (show 6 * i % 6 = 0 by omega) h)
    rw [← accN_succ m c ⟨6 * i, hN⟩] at hs
    rw [show (⟨6 * i, hN⟩ : Fin cfg0.N).val % 6 = 0 from by show 6 * i % 6 = 0; omega] at hs
    exact hs
  | j + 1, hj => by
    have ih := acc_at c i hi p n r hr j (by omega)
    have hN : 6 * i + j + 1 < cfg0.N := by show _ < 96; omega
    have e6 : (⟨6 * i + j + 1, hN⟩ : Fin cfg0.N).val % 6 = j + 1 := by show (6 * i + j + 1) % 6 = j + 1; omega
    have hs := step_at m c ⟨6 * i + j + 1, hN⟩ p n r (by show (6 * i + j + 1) / 6 * 512 + p.val = r.val; omega)
      (accN m c (6 * i + j + 1)) (fun _ => by rw [e6, ih]; congr 2; omega)
    rw [← accN_succ m c ⟨6 * i + j + 1, hN⟩, e6] at hs
    exact hs

/-- After a row block's last point: the block's output. -/
theorem f_at (c : Dev nD) (i : ℕ) (hi : i < 16) (p : Fin 512) (n : Fin 2048) (r : Fin 8192) (hr : i * 512 + p.val = r.val) :
    (accN m c (6 * i + 6) (ix2 p n) : EReal) = mf m c r n := by
  refine (acc_at m c i hi p n r hr 5 (by omega)).trans ?_
  rw [show min ((5 + 1) * 1024) 5632 = 5632 from rfl, Finset.sum_range]
  unfold mf fV
  exact Finset.sum_congr rfl fun q _ => by unfold tN; rw [dif_pos q.isLt]

end Cert.FfnFwdIdeal.Ffn

end
-- ==== Proof.FwdFinal.lean ====
module

public import proofs.«01_k».proof.Proof.FwdValues
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

namespace Cert.FfnFwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.FfnFwdIdeal.Gen

variable (m : (ℓ : Loc nD τ sig) → Buf (Elt Ideal) ℓ)

/-! ## The loss's gradient on a row block -/

abbrev mgy (c : Dev nD) : Fin 8192 → Fin 2048 → EReal := gyV (mf m c) (argX m c) (argT m c) (argGt m c)
abbrev merr (c : Dev nD) : Fin 8192 → Fin 2048 → EReal := errV (mf m c) (argX m c) (argT m c) (argGt m c)
/-- The gradient that enters the block, at an entry. -/
def dfV (gt : S1x2048.Idx → EReal) (gy : Fin 8192 → Fin 2048 → EReal) (r : Fin 8192) (n : Fin 2048) : EReal := (halfK * gt (ix2 0 n)) * gy r n

/-- What the last point of row block `i` reads, at a row of group `q`. -/
theorem point_at (c : Dev nD) (i : ℕ) (hi : 6 * i + 5 < cfg0.N) (q : Fin 8) (p : Fin 64) (n : Fin 2048) (r : Fin 8192)
    (hr : i * 512 + (64 * q.val + p.val) = r.val) :
    (rowsOf (accN m c (6 * i + 6)) q (ix2 p n) : EReal) = mf m c r n
      ∧ (rowsOf (blkX m c ⟨6 * i + 5, hi⟩) q (ix2 p n) : EReal) = argX m c (ix2 r n)
      ∧ (rowsOf (blkT m c ⟨6 * i + 5, hi⟩) q (ix2 p n) : EReal) = argT m c (ix2 r n) := by
  have h96 : 6 * i + 5 < 96 := hi
  have hr' : (6 * i + 5) / 6 * 512 + (64 * q.val + p.val) = r.val := by omega
  exact ⟨f_at m c i (by omega) ⟨64 * q.val + p.val, by omega⟩ n r hr,
    blkX_at m c ⟨6 * i + 5, hi⟩ ⟨64 * q.val + p.val, by omega⟩ n r hr', blkT_at m c ⟨6 * i + 5, hi⟩ ⟨64 * q.val + p.val, by omega⟩ n r hr'⟩
/-- A row block's last point is the sixth. -/
theorem last_form (t : Fin cfg0.N) (h5 : t.val % 6 = 5) : ∃ (i : ℕ) (hi : 6 * i + 5 < cfg0.N), t = ⟨6 * i + 5, hi⟩ ∧ t.val / 6 = i := by
  have e : 6 * (t.val / 6) + 5 = t.val := by omega
  exact ⟨t.val / 6, lt_of_eq_of_lt e t.isLt, Fin.ext e.symm, rfl⟩
theorem gradY_at (c : Dev nD) (t : Fin cfg0.N) (h5 : t.val % 6 = 5) (p : Fin 512) (n : Fin 2048) (r : Fin 8192)
    (hr : t.val / 6 * 512 + p.val = r.val) : (gradY m c t (ix2 p n) : EReal) = mgy m c r n := by
  obtain ⟨i, hi, rfl, ei⟩ := last_form t h5
  rw [ei] at hr
  obtain ⟨h1, h2, h3⟩ := point_at m c i hi ⟨p.val / 64, by omega⟩ ⟨p.val % 64, Nat.mod_lt _ (by decide)⟩ n r (by rw [← hr]; show _ + (64 * (p.val / 64) + p.val % 64) = _; omega)
  unfold gradY lossGrad
  refine (joinRows_at _ p n).trans ((pay25_at _ _ _ _ _ n).trans ?_)
  unfold mgy gyV
  exact congr (congr (congrArg₂ Gy h1 (rowGt_at m c _ n)) h2) h3
theorem gradF_at (c : Dev nD) (t : Fin cfg0.N) (h5 : t.val % 6 = 5) (p : Fin 512) (n : Fin 2048) (r : Fin 8192)
    (hr : t.val / 6 * 512 + p.val = r.val) : (gradF m c t (ix2 p n) : EReal) = dfV (argGt m c) (mgy m c) r n := by
  obtain ⟨i, hi, rfl, ei⟩ := last_form t h5
  rw [ei] at hr
  obtain ⟨h1, h2, h3⟩ := point_at m c i hi ⟨p.val / 64, by omega⟩ ⟨p.val % 64, Nat.mod_lt _ (by decide)⟩ n r (by rw [← hr]; show _ + (64 * (p.val / 64) + p.val % 64) = _; omega)
  unfold gradF blockGrad
  refine (joinRows_at _ p n).trans ((pay26_at _ _ _ _ _ n).trans ?_)
  unfold dfV mgy gyV
  exact congrArg₂ (· * ·) (congrArg (halfK * ·) (rowGt_at m c _ n)) (congr (congr (congrArg₂ Gy h1 (rowGt_at m c _ n)) h2) h3)

/-! ## The two sums over all rows -/

/-- A row's term of the gate's gradient and of the sum of squares, zero past the arrays' end. -/
def gT (c : Dev nD) (n : Fin 2048) (r : ℕ) : EReal := if h : r < 8192 then mgy m c ⟨r, h⟩ n * mf m c ⟨r, h⟩ n else 0
def sT (c : Dev nD) (r : ℕ) : EReal := if h : r < 8192 then ∑ n : Fin 2048, merr m c ⟨r, h⟩ n * merr m c ⟨r, h⟩ n else 0

/-- The two constants that are powers of two. -/
theorem half_eq : halfK = ((1 / 2 : ℝ) : EReal) := by
  show Ideal.ofBits .f32 0x3F000000#32 = _
  simp [Ideal.ofBits, Ideal.ieee, -EReal.coe_mul]; norm_num
theorem inv_eq : invK = ((1 / 2048 : ℝ) : EReal) := by
  show Ideal.ofBits .f32 0x3A000000#32 = _
  simp [Ideal.ofBits, Ideal.ieee, -EReal.coe_mul]; norm_num
theorem width_eq : width = ((2048 : ℝ) : EReal) := by
  show Ideal.ofBits .f32 0x45000000#32 = _
  simp [Ideal.ofBits, Ideal.ieee, -EReal.coe_mul]; norm_num
theorem two_eq : (Scalar.ofBits .f32 0x40000000#32 : Ideal .f32) = ((2 : ℝ) : EReal) := by
  show Ideal.ofBits .f32 0x40000000#32 = _
  simp [Ideal.ofBits, Ideal.ieee, -EReal.coe_mul]; norm_num
/-- The half is a real number that is not negative, so it goes over a sum. -/
theorem half_add (a b : EReal) : halfK * (a + b) = halfK * a + halfK * b := by
  have e : halfK = ((1 / 2 : ℝ) : EReal) := half_eq
  rw [e]
  exact EReal.left_distrib_of_nonneg_of_ne_top (EReal.coe_nonneg.2 (by norm_num)) (EReal.coe_ne_top _) a b

/-- After `k` of row block `i`'s groups of rows. -/
theorem gateSum_at (c : Dev nD) (i : ℕ) (hi : 6 * i + 5 < cfg0.N) (old : Vec Ideal S1x2048 .f32) (n : Fin 2048)
    (ho : (old (ix2 0 n) : EReal) = halfK * ∑ r ∈ Finset.range (512 * i), gT m c n r) : ∀ k : ℕ, k ≤ 8 →
    (gateSum (accN m c (6 * i + 6)) (blkX m c ⟨6 * i + 5, hi⟩) (blkT m c ⟨6 * i + 5, hi⟩) (rowGt m c ⟨6 * i + 5, hi⟩) old k (ix2 0 n) : EReal)
      = halfK * ∑ r ∈ Finset.range (512 * i + 64 * k), gT m c n r
  | 0, _ => ho
  | k + 1, hk => by
    have h96 : 6 * i + 5 < 96 := hi
    rw [gateSum_succ _ _ _ _ _ k hk]
    refine (pay27_at _ _ _ _ _ n).trans ?_
    rw [gateSum_at c i hi old n ho k (by omega), ← half_add, show 512 * i + 64 * (k + 1) = 512 * i + 64 * k + 64 by omega,
      Finset.sum_range_add _ (512 * i + 64 * k) 64, Finset.sum_range (fun x => gT m c n (512 * i + 64 * k + x))]
    refine congrArg (halfK * ·) (congrArg (_ + ·) (Finset.sum_congr rfl fun p _ => ?_))
    have hr : 512 * i + 64 * k + p.val < 8192 := by have := p.isLt; omega
    obtain ⟨h1, h2, h3⟩ := point_at m c i hi ⟨k, hk⟩ p n ⟨512 * i + 64 * k + p.val, hr⟩ (by show i * 512 + (64 * k + p.val) = 512 * i + 64 * k + p.val; omega)
    unfold gT
    rw [dif_pos hr]
    exact congrArg₂ (· * ·) (congr (congr (congrArg₂ Gy h1 (rowGt_at m c _ n)) h2) h3) h1
theorem squareSum_at (c : Dev nD) (i : ℕ) (hi : 6 * i + 5 < cfg0.N) (old : Vec Ideal S1x128 .f32) (l : Fin 128)
    (ho : (old (ix2 0 l) : EReal) = ∑ r ∈ Finset.range (512 * i), sT m c r) : ∀ k : ℕ, k ≤ 8 →
    (squareSum (accN m c (6 * i + 6)) (blkX m c ⟨6 * i + 5, hi⟩) (blkT m c ⟨6 * i + 5, hi⟩) (rowGt m c ⟨6 * i + 5, hi⟩) old k (ix2 0 l) : EReal)
      = ∑ r ∈ Finset.range (512 * i + 64 * k), sT m c r
  | 0, _ => ho
  | k + 1, hk => by
    have h96 : 6 * i + 5 < 96 := hi
    rw [squareSum_succ _ _ _ _ _ k hk]
    refine (pay22_at _ _ l).trans ?_
    rw [squareSum_at c i hi old l ho k (by omega), pay28_at, show 512 * i + 64 * (k + 1) = 512 * i + 64 * k + 64 by omega,
      Finset.sum_range_add _ (512 * i + 64 * k) 64, Finset.sum_range (fun x => sT m c (512 * i + 64 * k + x))]
    refine congrArg (_ + ·) (Finset.sum_congr rfl fun p _ => ?_)
    have hr : 512 * i + 64 * k + p.val < 8192 := by have := p.isLt; omega
    unfold sT
    rw [dif_pos hr]
    refine Finset.sum_congr rfl fun n _ => ?_
    obtain ⟨h1, h2, h3⟩ := point_at m c i hi ⟨k, hk⟩ p n ⟨512 * i + 64 * k + p.val, hr⟩ (by show i * 512 + (64 * k + p.val) = 512 * i + 64 * k + p.val; omega)
    have e := congr (congr (congrArg₂ Err h1 (rowGt_at m c ⟨6 * i + 5, hi⟩ n)) h2) h3
    exact congrArg₂ (· * ·) e e
theorem gateN_at (c : Dev nD) (n : Fin 2048) : ∀ i : ℕ, i ≤ 16 → (gateN m c i (ix2 0 n) : EReal) = halfK * ∑ r ∈ Finset.range (512 * i), gT m c n r
  | 0, _ => (pay20_at n).trans (mul_zero _).symm
  | i + 1, hi => by
    have h : 6 * i + 5 < cfg0.N := by show _ < 96; omega
    rw [gateN_succ m c i h]
    exact gateSum_at m c i h _ n (gateN_at c n i (by omega)) 8 (Nat.le_refl _)
theorem squaresN_at (c : Dev nD) (l : Fin 128) : ∀ i : ℕ, i ≤ 16 → (squaresN m c i (ix2 0 l) : EReal) = ∑ r ∈ Finset.range (512 * i), sT m c r
  | 0, _ => pay21_at l
  | i + 1, hi => by
    have h : 6 * i + 5 < cfg0.N := by show _ < 96; omega
    rw [squaresN_succ m c i h]
    exact squareSum_at m c i h _ l (squaresN_at c l i (by omega)) 8 (Nat.le_refl _)

/-- The gate's gradient at a column, and the sum of squares. -/
def dgV (gy f : Fin 8192 → Fin 2048 → EReal) (n : Fin 2048) : EReal := halfK * ∑ r : Fin 8192, gy r n * f r n
def sqV (err : Fin 8192 → Fin 2048 → EReal) : EReal := ∑ r : Fin 8192, ∑ n : Fin 2048, err r n * err r n
theorem gate_all (c : Dev nD) (n : Fin 2048) : (gateN m c 16 (ix2 0 n) : EReal) = dgV (mgy m c) (mf m c) n := by
  refine (gateN_at m c n 16 (Nat.le_refl _)).trans ?_
  rw [show 512 * 16 = 8192 from rfl, Finset.sum_range]
  exact congrArg (halfK * ·) (Finset.sum_congr rfl fun r _ => by unfold gT; rw [dif_pos r.isLt])
theorem squares_all (c : Dev nD) (l : Fin 128) : (squaresN m c 16 (ix2 0 l) : EReal) = sqV (merr m c) := by
  refine (squaresN_at m c l 16 (Nat.le_refl _)).trans ?_
  rw [show 512 * 16 = 8192 from rfl, Finset.sum_range]
  exact Finset.sum_congr rfl fun r _ => by unfold sT; rw [dif_pos r.isLt]

/-! ## The seven result arrays -/

abbrev arr9 (c : Dev nD) : S8192x2048.Idx → EReal := fun i => mh m c (i 0) (i 1)
theorem whole9 : ∀ t : Fin grid0.N, ∀ a : Fin 2, win0_9.xsize (grid0.coords t) a = S512x2048.size a := by decide +kernel
theorem flushed9 (c : Dev nD) (t : Fin cfg0.N) (h5 : t.val % 6 = 5) : ∀ j : (win0_9.xblock (grid0.coords t)).Idx,
    (win0_9.cut (grid0.coords t) (hOf m c t) j : EReal) = ((win0_9.blk t).view.read (Elt Ideal) (arr9 m c) : _ → EReal) j := by
  intro j
  have ht : t.val < 96 := t.isLt
  have e0 : (j 0).val < 512 := lt_of_lt_of_eq (j 0).isLt (whole9 t 0)
  have e1 : (j 1).val < 2048 := lt_of_lt_of_eq (j 1).isLt (whole9 t 1)
  rw [read9 t (arr9 m c) j (ix2 ⟨t.val / 6 * 512 + (j 0).val, by omega⟩ ⟨(j 1).val, e1⟩) rfl (Nat.zero_add _)]
  have e : win0_9.cut (grid0.coords t) (hOf m c t) j = hOf m c t (ix2 ⟨(j 0).val, e0⟩ ⟨(j 1).val, e1⟩) :=
    congrArg (hOf m c t) ((eq_ix2 _).trans (congrArg₂ ix2 (Fin.ext rfl) (Fin.ext rfl)))
  rw [e]
  exact hOf_at m c t _ _ _ rfl
theorem final9 (c : Dev nD) : (dats m 0 c).arrAt 9 cfg0.N = arr9 m c := by
  refine (dats m 0 c).arrAt_eq_of_cover 9 (arr9 m c) (fun t ht => ?_) (fun i => ?_)
  · refine (congrArg (win0_9.cut (grid0.coords t)) (after9 m c t)).trans (funext fun j => ?_)
    exact flushed9 m c t ((flush0_9 t).1 ht) j
  · have i0 : (i 0).val < 8192 := (i 0).isLt
    have i1 : (i 1).val < 2048 := (i 1).isLt
    have hN : (i 0).val / 512 * 6 + 5 < cfg0.N := by show _ < 96; omega
    refine ⟨⟨(i 0).val / 512 * 6 + 5, hN⟩, (flush0_9 _).2 (by show ((i 0).val / 512 * 6 + 5) % 6 = 5; omega), ?_⟩
    show i ∈ ((View.whole main_v3_0).slice (win0_9.rect ⟨(i 0).val / 512 * 6 + 5, hN⟩)).set
    rw [View.set_slice_whole]
    refine Rect.mem_set_unit.2 fun a => ?_
    have hx := whole9 ⟨(i 0).val / 512 * 6 + 5, hN⟩ a
    have ea := at9 ⟨(i 0).val / 512 * 6 + 5, hN⟩
    match a with
    | ⟨0, _⟩ =>
      show win0_9.index _ 0 * 512 ≤ (i 0).val ∧ (i 0).val < win0_9.index _ 0 * 512 + win0_9.xsize (grid0.coords _) 0
      rw [ea.1, show win0_9.xsize (grid0.coords _) 0 = 512 from hx]
      show ((i 0).val / 512 * 6 + 5) / 6 * 512 ≤ (i 0).val ∧ (i 0).val < ((i 0).val / 512 * 6 + 5) / 6 * 512 + 512
      omega
    | ⟨1, _⟩ =>
      show win0_9.index _ 1 * 2048 ≤ (i 1).val ∧ (i 1).val < win0_9.index _ 1 * 2048 + win0_9.xsize (grid0.coords _) 1
      rw [ea.2, show win0_9.xsize (grid0.coords _) 1 = 2048 from hx]
      omega

abbrev arr10 (c : Dev nD) : S8192x2048.Idx → EReal := fun i => mgy m c (i 0) (i 1)
theorem whole10 : ∀ t : Fin grid0.N, ∀ a : Fin 2, win0_10.xsize (grid0.coords t) a = S512x2048.size a := by decide +kernel
theorem flushed10 (c : Dev nD) (t : Fin cfg0.N) (h5 : t.val % 6 = 5) : ∀ j : (win0_10.xblock (grid0.coords t)).Idx,
    (win0_10.cut (grid0.coords t) (gradY m c t) j : EReal) = ((win0_10.blk t).view.read (Elt Ideal) (arr10 m c) : _ → EReal) j := by
  intro j
  have ht : t.val < 96 := t.isLt
  have e0 : (j 0).val < 512 := lt_of_lt_of_eq (j 0).isLt (whole10 t 0)
  have e1 : (j 1).val < 2048 := lt_of_lt_of_eq (j 1).isLt (whole10 t 1)
  rw [read10 t (arr10 m c) j (ix2 ⟨t.val / 6 * 512 + (j 0).val, by omega⟩ ⟨(j 1).val, e1⟩) rfl (Nat.zero_add _)]
  have e : win0_10.cut (grid0.coords t) (gradY m c t) j = gradY m c t (ix2 ⟨(j 0).val, e0⟩ ⟨(j 1).val, e1⟩) :=
    congrArg (gradY m c t) ((eq_ix2 _).trans (congrArg₂ ix2 (Fin.ext rfl) (Fin.ext rfl)))
  rw [e]
  exact gradY_at m c t h5 _ _ _ rfl
theorem final10 (c : Dev nD) : (dats m 0 c).arrAt 10 cfg0.N = arr10 m c := by
  refine (dats m 0 c).arrAt_eq_of_cover 10 (arr10 m c) (fun t ht => ?_) (fun i => ?_)
  · refine (congrArg (win0_10.cut (grid0.coords t)) (after10 m c t)).trans (funext fun j => ?_)
    exact flushed10 m c t ((flush0_10 t).1 ht) j
  · have i0 : (i 0).val < 8192 := (i 0).isLt
    have i1 : (i 1).val < 2048 := (i 1).isLt
    have hN : (i 0).val / 512 * 6 + 5 < cfg0.N := by show _ < 96; omega
    refine ⟨⟨(i 0).val / 512 * 6 + 5, hN⟩, (flush0_10 _).2 (by show ((i 0).val / 512 * 6 + 5) % 6 = 5; omega), ?_⟩
    show i ∈ ((View.whole main_v3_1).slice (win0_10.rect ⟨(i 0).val / 512 * 6 + 5, hN⟩)).set
    rw [View.set_slice_whole]
    refine Rect.mem_set_unit.2 fun a => ?_
    have hx := whole10 ⟨(i 0).val / 512 * 6 + 5, hN⟩ a
    have ea := at10 ⟨(i 0).val / 512 * 6 + 5, hN⟩
    match a with
    | ⟨0, _⟩ =>
      show win0_10.index _ 0 * 512 ≤ (i 0).val ∧ (i 0).val < win0_10.index _ 0 * 512 + win0_10.xsize (grid0.coords _) 0
      rw [ea.1, show win0_10.xsize (grid0.coords _) 0 = 512 from hx]
      show ((i 0).val / 512 * 6 + 5) / 6 * 512 ≤ (i 0).val ∧ (i 0).val < ((i 0).val / 512 * 6 + 5) / 6 * 512 + 512
      omega
    | ⟨1, _⟩ =>
      show win0_10.index _ 1 * 2048 ≤ (i 1).val ∧ (i 1).val < win0_10.index _ 1 * 2048 + win0_10.xsize (grid0.coords _) 1
      rw [ea.2, show win0_10.xsize (grid0.coords _) 1 = 2048 from hx]
      omega

abbrev arr11 (c : Dev nD) : S8192x2048.Idx → EReal := fun i => dfV (argGt m c) (mgy m c) (i 0) (i 1)
theorem whole11 : ∀ t : Fin grid0.N, ∀ a : Fin 2, win0_11.xsize (grid0.coords t) a = S512x2048.size a := by decide +kernel
theorem flushed11 (c : Dev nD) (t : Fin cfg0.N) (h5 : t.val % 6 = 5) : ∀ j : (win0_11.xblock (grid0.coords t)).Idx,
    (win0_11.cut (grid0.coords t) (gradF m c t) j : EReal) = ((win0_11.blk t).view.read (Elt Ideal) (arr11 m c) : _ → EReal) j := by
  intro j
  have ht : t.val < 96 := t.isLt
  have e0 : (j 0).val < 512 := lt_of_lt_of_eq (j 0).isLt (whole11 t 0)
  have e1 : (j 1).val < 2048 := lt_of_lt_of_eq (j 1).isLt (whole11 t 1)
  rw [read11 t (arr11 m c) j (ix2 ⟨t.val / 6 * 512 + (j 0).val, by omega⟩ ⟨(j 1).val, e1⟩) rfl (Nat.zero_add _)]
  have e : win0_11.cut (grid0.coords t) (gradF m c t) j = gradF m c t (ix2 ⟨(j 0).val, e0⟩ ⟨(j 1).val, e1⟩) :=
    congrArg (gradF m c t) ((eq_ix2 _).trans (congrArg₂ ix2 (Fin.ext rfl) (Fin.ext rfl)))
  rw [e]
  exact gradF_at m c t h5 _ _ _ rfl
theorem final11 (c : Dev nD) : (dats m 0 c).arrAt 11 cfg0.N = arr11 m c := by
  refine (dats m 0 c).arrAt_eq_of_cover 11 (arr11 m c) (fun t ht => ?_) (fun i => ?_)
  · refine (congrArg (win0_11.cut (grid0.coords t)) (after11 m c t)).trans (funext fun j => ?_)
    exact flushed11 m c t ((flush0_11 t).1 ht) j
  · have i0 : (i 0).val < 8192 := (i 0).isLt
    have i1 : (i 1).val < 2048 := (i 1).isLt
    have hN : (i 0).val / 512 * 6 + 5 < cfg0.N := by show _ < 96; omega
    refine ⟨⟨(i 0).val / 512 * 6 + 5, hN⟩, (flush0_11 _).2 (by show ((i 0).val / 512 * 6 + 5) % 6 = 5; omega), ?_⟩
    show i ∈ ((View.whole main_v3_2).slice (win0_11.rect ⟨(i 0).val / 512 * 6 + 5, hN⟩)).set
    rw [View.set_slice_whole]
    refine Rect.mem_set_unit.2 fun a => ?_
    have hx := whole11 ⟨(i 0).val / 512 * 6 + 5, hN⟩ a
    have ea := at11 ⟨(i 0).val / 512 * 6 + 5, hN⟩
    match a with
    | ⟨0, _⟩ =>
      show win0_11.index _ 0 * 512 ≤ (i 0).val ∧ (i 0).val < win0_11.index _ 0 * 512 + win0_11.xsize (grid0.coords _) 0
      rw [ea.1, show win0_11.xsize (grid0.coords _) 0 = 512 from hx]
      show ((i 0).val / 512 * 6 + 5) / 6 * 512 ≤ (i 0).val ∧ (i 0).val < ((i 0).val / 512 * 6 + 5) / 6 * 512 + 512
      omega
    | ⟨1, _⟩ =>
      show win0_11.index _ 1 * 2048 ≤ (i 1).val ∧ (i 1).val < win0_11.index _ 1 * 2048 + win0_11.xsize (grid0.coords _) 1
      rw [ea.2, show win0_11.xsize (grid0.coords _) 1 = 2048 from hx]
      omega

abbrev arr12 (c : Dev nD) : S8192x5632.Idx → EReal := fun i => ma m c (i 0) (i 1)
theorem flushed12 (c : Dev nD) (t : Fin cfg0.N) :
    ∀ j : (win0_12.xblock (grid0.coords t)).Idx,
    (win0_12.cut (grid0.coords t) (outA m c t) j : EReal) = ((win0_12.blk t).view.read (Elt Ideal) (arr12 m c) : _ → EReal) j := by
  intro j
  have ht : t.val < 96 := t.isLt
  have e0 : (j 0).val < win0_12.xsize (grid0.coords t) 0 := (j 0).isLt
  have e1 : (j 1).val < win0_12.xsize (grid0.coords t) 1 := (j 1).isLt
  rw [cols12 t 0, if_neg (fun h => absurd (congrArg Fin.val h.1) Nat.zero_ne_one)] at e0
  rw [cols12 t 1] at e1
  have e0 : (j 0).val < 512 := e0
  have h1 : (j 1).val < 1024 ∧ t.val % 6 * 1024 + (j 1).val < 5632 := by
    by_cases h : t.val % 6 = 5
    · rw [if_pos ⟨rfl, h⟩] at e1; omega
    · rw [if_neg (fun h' => h h'.2)] at e1
      have e1 : (j 1).val < 1024 := e1
      omega
  rw [read12 t (arr12 m c) j (ix2 ⟨t.val / 6 * 512 + (j 0).val, by omega⟩ ⟨t.val % 6 * 1024 + (j 1).val, h1.2⟩) rfl rfl]
  have e : win0_12.cut (grid0.coords t) (outA m c t) j = outA m c t (ix2 ⟨(j 0).val, e0⟩ ⟨(j 1).val, h1.1⟩) :=
    congrArg (outA m c t) ((eq_ix2 _).trans (congrArg₂ ix2 (Fin.ext rfl) (Fin.ext rfl)))
  rw [e]
  exact outA_at m c t _ _ _ _ rfl rfl
theorem final12 (c : Dev nD) : (dats m 0 c).arrAt 12 cfg0.N = arr12 m c := by
  refine (dats m 0 c).arrAt_eq_of_cover 12 (arr12 m c) (fun t _ => ?_) (fun i => ?_)
  · refine (congrArg (win0_12.cut (grid0.coords t)) (after12 m c t)).trans (funext fun j => ?_)
    exact flushed12 m c t j
  · have i0 : (i 0).val < 8192 := (i 0).isLt
    have i1 : (i 1).val < 5632 := (i 1).isLt
    have hN : (i 0).val / 512 * 6 + (i 1).val / 1024 < cfg0.N := by show _ < 96; omega
    refine ⟨⟨(i 0).val / 512 * 6 + (i 1).val / 1024, hN⟩, flush0_12 _, ?_⟩
    show i ∈ ((View.whole main_v3_3).slice (win0_12.rect ⟨(i 0).val / 512 * 6 + (i 1).val / 1024, hN⟩)).set
    rw [View.set_slice_whole]
    refine Rect.mem_set_unit.2 fun a => ?_
    have hx := cols12 ⟨(i 0).val / 512 * 6 + (i 1).val / 1024, hN⟩ a
    have ea := at12 ⟨(i 0).val / 512 * 6 + (i 1).val / 1024, hN⟩
    match a with
    | ⟨0, _⟩ =>
      show win0_12.index _ 0 * 512 ≤ (i 0).val ∧ (i 0).val < win0_12.index _ 0 * 512 + win0_12.xsize (grid0.coords _) 0
      rw [ea.1, show win0_12.xsize (grid0.coords _) 0 = 512 from hx.trans (if_neg (fun h => absurd (congrArg Fin.val h.1) Nat.zero_ne_one))]
      show ((i 0).val / 512 * 6 + (i 1).val / 1024) / 6 * 512 ≤ (i 0).val ∧ (i 0).val < ((i 0).val / 512 * 6 + (i 1).val / 1024) / 6 * 512 + 512
      omega
    | ⟨1, _⟩ =>
      show win0_12.index _ 1 * 1024 ≤ (i 1).val ∧ (i 1).val < win0_12.index _ 1 * 1024 + win0_12.xsize (grid0.coords _) 1
      rw [ea.2]
      by_cases h : ((i 0).val / 512 * 6 + (i 1).val / 1024) % 6 = 5
      · rw [show win0_12.xsize (grid0.coords _) 1 = 512 from hx.trans (if_pos ⟨rfl, h⟩)]
        show ((i 0).val / 512 * 6 + (i 1).val / 1024) % 6 * 1024 ≤ (i 1).val ∧ (i 1).val < ((i 0).val / 512 * 6 + (i 1).val / 1024) % 6 * 1024 + 512
        omega
      · rw [show win0_12.xsize (grid0.coords _) 1 = 1024 from hx.trans (if_neg (fun h' => h h'.2))]
        show ((i 0).val / 512 * 6 + (i 1).val / 1024) % 6 * 1024 ≤ (i 1).val ∧ (i 1).val < ((i 0).val / 512 * 6 + (i 1).val / 1024) % 6 * 1024 + 1024
        omega

abbrev arr13 (c : Dev nD) : S8192x5632.Idx → EReal := fun i => mb m c (i 0) (i 1)
theorem flushed13 (c : Dev nD) (t : Fin cfg0.N) :
    ∀ j : (win0_13.xblock (grid0.coords t)).Idx,
    (win0_13.cut (grid0.coords t) (outB m c t) j : EReal) = ((win0_13.blk t).view.read (Elt Ideal) (arr13 m c) : _ → EReal) j := by
  intro j
  have ht : t.val < 96 := t.isLt
  have e0 : (j 0).val < win0_13.xsize (grid0.coords t) 0 := (j 0).isLt
  have e1 : (j 1).val < win0_13.xsize (grid0.coords t) 1 := (j 1).isLt
  rw [cols13 t 0, if_neg (fun h => absurd (congrArg Fin.val h.1) Nat.zero_ne_one)] at e0
  rw [cols13 t 1] at e1
  have e0 : (j 0).val < 512 := e0
  have h1 : (j 1).val < 1024 ∧ t.val % 6 * 1024 + (j 1).val < 5632 := by
    by_cases h : t.val % 6 = 5
    · rw [if_pos ⟨rfl, h⟩] at e1; omega
    · rw [if_neg (fun h' => h h'.2)] at e1
      have e1 : (j 1).val < 1024 := e1
      omega
  rw [read13 t (arr13 m c) j (ix2 ⟨t.val / 6 * 512 + (j 0).val, by omega⟩ ⟨t.val % 6 * 1024 + (j 1).val, h1.2⟩) rfl rfl]
  have e : win0_13.cut (grid0.coords t) (outB m c t) j = outB m c t (ix2 ⟨(j 0).val, e0⟩ ⟨(j 1).val, h1.1⟩) :=
    congrArg (outB m c t) ((eq_ix2 _).trans (congrArg₂ ix2 (Fin.ext rfl) (Fin.ext rfl)))
  rw [e]
  exact outB_at m c t _ _ _ _ rfl rfl
theorem final13 (c : Dev nD) : (dats m 0 c).arrAt 13 cfg0.N = arr13 m c := by
  refine (dats m 0 c).arrAt_eq_of_cover 13 (arr13 m c) (fun t _ => ?_) (fun i => ?_)
  · refine (congrArg (win0_13.cut (grid0.coords t)) (after13 m c t)).trans (funext fun j => ?_)
    exact flushed13 m c t j
  · have i0 : (i 0).val < 8192 := (i 0).isLt
    have i1 : (i 1).val < 5632 := (i 1).isLt
    have hN : (i 0).val / 512 * 6 + (i 1).val / 1024 < cfg0.N := by show _ < 96; omega
    refine ⟨⟨(i 0).val / 512 * 6 + (i 1).val / 1024, hN⟩, flush0_13 _, ?_⟩
    show i ∈ ((View.whole main_v3_4).slice (win0_13.rect ⟨(i 0).val / 512 * 6 + (i 1).val / 1024, hN⟩)).set
    rw [View.set_slice_whole]
    refine Rect.mem_set_unit.2 fun a => ?_
    have hx := cols13 ⟨(i 0).val / 512 * 6 + (i 1).val / 1024, hN⟩ a
    have ea := at13 ⟨(i 0).val / 512 * 6 + (i 1).val / 1024, hN⟩
    match a with
    | ⟨0, _⟩ =>
      show win0_13.index _ 0 * 512 ≤ (i 0).val ∧ (i 0).val < win0_13.index _ 0 * 512 + win0_13.xsize (grid0.coords _) 0
      rw [ea.1, show win0_13.xsize (grid0.coords _) 0 = 512 from hx.trans (if_neg (fun h => absurd (congrArg Fin.val h.1) Nat.zero_ne_one))]
      show ((i 0).val / 512 * 6 + (i 1).val / 1024) / 6 * 512 ≤ (i 0).val ∧ (i 0).val < ((i 0).val / 512 * 6 + (i 1).val / 1024) / 6 * 512 + 512
      omega
    | ⟨1, _⟩ =>
      show win0_13.index _ 1 * 1024 ≤ (i 1).val ∧ (i 1).val < win0_13.index _ 1 * 1024 + win0_13.xsize (grid0.coords _) 1
      rw [ea.2]
      by_cases h : ((i 0).val / 512 * 6 + (i 1).val / 1024) % 6 = 5
      · rw [show win0_13.xsize (grid0.coords _) 1 = 512 from hx.trans (if_pos ⟨rfl, h⟩)]
        show ((i 0).val / 512 * 6 + (i 1).val / 1024) % 6 * 1024 ≤ (i 1).val ∧ (i 1).val < ((i 0).val / 512 * 6 + (i 1).val / 1024) % 6 * 1024 + 512
        omega
      · rw [show win0_13.xsize (grid0.coords _) 1 = 1024 from hx.trans (if_neg (fun h' => h h'.2))]
        show ((i 0).val / 512 * 6 + (i 1).val / 1024) % 6 * 1024 ≤ (i 1).val ∧ (i 1).val < ((i 0).val / 512 * 6 + (i 1).val / 1024) % 6 * 1024 + 1024
        omega

abbrev arr14 (c : Dev nD) : S1x2048.Idx → EReal := fun i => dgV (mgy m c) (mf m c) (i 1)
theorem whole14 : ∀ t : Fin grid0.N, ∀ a : Fin 2, win0_14.xsize (grid0.coords t) a = S1x2048.size a := by decide +kernel
theorem flushed14 (c : Dev nD) (t : Fin cfg0.N) : ∀ j : (win0_14.xblock (grid0.coords t)).Idx,
    (win0_14.cut (grid0.coords t) (gateN m c 16) j : EReal) = ((win0_14.blk t).view.read (Elt Ideal) (arr14 m c) : _ → EReal) j := by
  intro j
  have e0 : (j 0).val < 1 := lt_of_lt_of_eq (j 0).isLt (whole14 t 0)
  have e1 : (j 1).val < 2048 := lt_of_lt_of_eq (j 1).isLt (whole14 t 1)
  rw [read14 t (arr14 m c) j (ix2 0 ⟨(j 1).val, e1⟩) (by show 0 * 1 + (j 0).val = 0; omega) (Nat.zero_add _)]
  have e : win0_14.cut (grid0.coords t) (gateN m c 16) j = gateN m c 16 (ix2 0 ⟨(j 1).val, e1⟩) :=
    congrArg (gateN m c 16) ((eq_ix2 _).trans (congrArg₂ ix2 (Fin.ext (by show (j 0).val = 0; omega)) (Fin.ext rfl)))
  rw [e]
  exact gate_all m c _
theorem final14 (c : Dev nD) : (dats m 0 c).arrAt 14 cfg0.N = arr14 m c := by
  refine (dats m 0 c).arrAt_eq_of_cover 14 (arr14 m c) (fun t ht => ?_) (fun i => ?_)
  · have h95 : t.val = 95 := by have := (flush0_14 t).1 ht; have h : t.val < 96 := t.isLt; omega
    refine (congrArg (win0_14.cut (grid0.coords t)) ((after14 m c t).trans (congrArg (gateN m c) (by rw [h95] : (t.val + 1) / 6 = 16)))).trans (funext fun j => ?_)
    exact flushed14 m c t j
  · have i0 : (i 0).val < 1 := (i 0).isLt
    have i1 : (i 1).val < 2048 := (i 1).isLt
    have hN : 95 < cfg0.N := by show _ < 96; omega
    refine ⟨⟨95, hN⟩, (flush0_14 _).2 (by show 95 % 96 = 95; rfl), ?_⟩
    show i ∈ ((View.whole main_v3_5).slice (win0_14.rect ⟨95, hN⟩)).set
    rw [View.set_slice_whole]
    refine Rect.mem_set_unit.2 fun a => ?_
    have hx := whole14 ⟨95, hN⟩ a
    have ea := at14 ⟨95, hN⟩
    match a with
    | ⟨0, _⟩ =>
      show win0_14.index _ 0 * 1 ≤ (i 0).val ∧ (i 0).val < win0_14.index _ 0 * 1 + win0_14.xsize (grid0.coords _) 0
      rw [ea.1, show win0_14.xsize (grid0.coords _) 0 = 1 from hx]
      omega
    | ⟨1, _⟩ =>
      show win0_14.index _ 1 * 2048 ≤ (i 1).val ∧ (i 1).val < win0_14.index _ 1 * 2048 + win0_14.xsize (grid0.coords _) 1
      rw [ea.2, show win0_14.xsize (grid0.coords _) 1 = 2048 from hx]
      omega

abbrev arr15 (c : Dev nD) : S1x128.Idx → EReal := fun i => sqV (merr m c)
theorem whole15 : ∀ t : Fin grid0.N, ∀ a : Fin 2, win0_15.xsize (grid0.coords t) a = S1x128.size a := by decide +kernel
theorem flushed15 (c : Dev nD) (t : Fin cfg0.N) : ∀ j : (win0_15.xblock (grid0.coords t)).Idx,
    (win0_15.cut (grid0.coords t) (squaresN m c 16) j : EReal) = ((win0_15.blk t).view.read (Elt Ideal) (arr15 m c) : _ → EReal) j := by
  intro j
  have e0 : (j 0).val < 1 := lt_of_lt_of_eq (j 0).isLt (whole15 t 0)
  have e1 : (j 1).val < 128 := lt_of_lt_of_eq (j 1).isLt (whole15 t 1)
  rw [read15 t (arr15 m c) j (ix2 0 ⟨(j 1).val, e1⟩) (by show 0 * 1 + (j 0).val = 0; omega) (Nat.zero_add _)]
  have e : win0_15.cut (grid0.coords t) (squaresN m c 16) j = squaresN m c 16 (ix2 0 ⟨(j 1).val, e1⟩) :=
    congrArg (squaresN m c 16) ((eq_ix2 _).trans (congrArg₂ ix2 (Fin.ext (by show (j 0).val = 0; omega)) (Fin.ext rfl)))
  rw [e]
  exact squares_all m c _
theorem final15 (c : Dev nD) : (dats m 0 c).arrAt 15 cfg0.N = arr15 m c := by
  refine (dats m 0 c).arrAt_eq_of_cover 15 (arr15 m c) (fun t ht => ?_) (fun i => ?_)
  · have h95 : t.val = 95 := by have := (flush0_15 t).1 ht; have h : t.val < 96 := t.isLt; omega
    refine (congrArg (win0_15.cut (grid0.coords t)) ((after15 m c t).trans (congrArg (squaresN m c) (by rw [h95] : (t.val + 1) / 6 = 16)))).trans (funext fun j => ?_)
    exact flushed15 m c t j
  · have i0 : (i 0).val < 1 := (i 0).isLt
    have i1 : (i 1).val < 128 := (i 1).isLt
    have hN : 95 < cfg0.N := by show _ < 96; omega
    refine ⟨⟨95, hN⟩, (flush0_15 _).2 (by show 95 % 96 = 95; rfl), ?_⟩
    show i ∈ ((View.whole main_v3_6).slice (win0_15.rect ⟨95, hN⟩)).set
    rw [View.set_slice_whole]
    refine Rect.mem_set_unit.2 fun a => ?_
    have hx := whole15 ⟨95, hN⟩ a
    have ea := at15 ⟨95, hN⟩
    match a with
    | ⟨0, _⟩ =>
      show win0_15.index _ 0 * 1 ≤ (i 0).val ∧ (i 0).val < win0_15.index _ 0 * 1 + win0_15.xsize (grid0.coords _) 0
      rw [ea.1, show win0_15.xsize (grid0.coords _) 0 = 1 from hx]
      omega
    | ⟨1, _⟩ =>
      show win0_15.index _ 1 * 128 ≤ (i 1).val ∧ (i 1).val < win0_15.index _ 1 * 128 + win0_15.xsize (grid0.coords _) 1
      rw [ea.2, show win0_15.xsize (grid0.coords _) 1 = 128 from hx]
      omega

end Cert.FfnFwdIdeal.Ffn

end
-- ==== Proof.FwdRef.lean ====
module

public import proofs.«01_k».proof.Proof.FwdFinal
public import proofs.«01_k».proof.Proof.Gen.FfnFwdRefIdeal.Run

@[expose] public section

set_option maxRecDepth 16384

noncomputable section

namespace Cert.FfnFwdRefIdeal.FwdRef

open Idealize.ShloMosaic Idealize.ShloMosaic.TcCoe Idealize.SL.Sem
open Cert.FfnFwdRefIdeal Cert.FfnFwdRefIdeal.Gen
open Cert.FfnFwdIdeal.Ffn (lg Gated width tiny halfK invK Nrm Err Gy hV aV fV errV gyV dfV dgV sqV half_eq inv_eq width_eq two_eq)

/-! ## The reference's composed terms, in pieces -/

abbrev sums (x : FVec Ideal S8192x2048 .f32) : FVec Ideal S8192 .f32 :=
  Host.reduceAdd (mulf x x) (constant S_ .f32 0x00000000#32) reducesTo_S8192x2048_S8192_d1 h_S_
abbrev scales (s : FVec Ideal S8192 .f32) : FVec Ideal S8192x1 .f32 :=
  Host.rsqrt (addf (Host.divf (broadcastInDim S8192x1 ![0] bcast_S8192_S8192x1_0 s) (broadcastInDim S8192x1 ![] bcast_S_S8192x1 (constant S_ .f32 0x45000000#32))) (broadcastInDim S8192x1 ![] bcast_S_S8192x1 (constant S_ .f32 0x358637BD#32)))
/-- A row vector, over all rows. -/
abbrev rows (v : FVec Ideal S1x2048 .f32) : FVec Ideal S8192x2048 .f32 := broadcastInDim S8192x2048 ![0, 1] bcast_S1x2048_S8192x2048_0_1 v
abbrev norms (x : FVec Ideal S8192x2048 .f32) (g sc sh : FVec Ideal S1x2048 .f32) : FVec Ideal S8192x2048 .f32 :=
  addf (mulf (mulf (mulf x (broadcastInDim S8192x2048 ![0, 1] bcast_S8192x1_S8192x2048_0_1 (scales (sums x)))) (rows g))
    (rows (addf (broadcastInDim S1x2048 ![] bcast_S_S1x2048 (constant S_ .f32 0x3F800000#32)) sc))) (rows sh)
abbrev acts (h : FVec Ideal S8192x2048 .f32) (w : FVec Ideal S2048x5632 .f32) : FVec Ideal S8192x5632 .f32 :=
  Host.dotGeneral dot_S8192x2048_S2048x5632_S8192x5632_1_0_0_1_n_n none h w
abbrev ones : FVec Ideal S8192x5632 .f32 := broadcastInDim S8192x5632 ![] bcast_S_S8192x5632 (constant S_ .f32 0x3F800000#32)
abbrev gates (a b : FVec Ideal S8192x5632 .f32) : FVec Ideal S8192x5632 .f32 :=
  mulf (mulf a (Host.divf ones (addf ones (Host.exp (Host.negf a))))) b
abbrev outs (s : FVec Ideal S8192x5632 .f32) (w2 : FVec Ideal S5632x2048 .f32) : FVec Ideal S8192x2048 .f32 :=
  Host.dotGeneral dot_S8192x5632_S5632x2048_S8192x2048_1_0_0_1_n_n none s w2
abbrev halfG (gt : FVec Ideal S1x2048 .f32) : FVec Ideal S1x2048 .f32 := mulf (broadcastInDim S1x2048 ![] bcast_S_S1x2048 (constant S_ .f32 0x3F000000#32)) gt
abbrev errs (f x t : FVec Ideal S8192x2048 .f32) (gt : FVec Ideal S1x2048 .f32) : FVec Ideal S8192x2048 .f32 :=
  subf (addf x (mulf (rows (halfG gt)) f)) t
abbrev gys (e : FVec Ideal S8192x2048 .f32) : FVec Ideal S8192x2048 .f32 :=
  mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32))))
    (mulf (broadcastInDim S8192x2048 ![] bcast_S_S8192x2048 (constant S_ .f32 0x40000000#32)) e)
abbrev dgs (gy f : FVec Ideal S8192x2048 .f32) : FVec Ideal S1x2048 .f32 :=
  mulf (broadcastInDim S1x2048 ![] bcast_S_S1x2048 (constant S_ .f32 0x3F000000#32)) (shapeCast S1x2048 (Host.reduceAdd (mulf gy f) (constant S_ .f32 0x00000000#32) reducesTo_S8192x2048_S2048_d0 h_S_) shapeCasts_S2048_S1x2048)
abbrev sqs (e : FVec Ideal S8192x2048 .f32) : FVec Ideal S1x128 .f32 :=
  broadcastInDim S1x128 ![] bcast_S_S1x128 (Host.reduceAdd (mulf e e) (constant S_ .f32 0x00000000#32) reducesTo_S8192x2048_S_d0_1 h_S_)

theorem norms_at (x : FVec Ideal S8192x2048 .f32) (g sc sh : FVec Ideal S1x2048 .f32) (r : Fin 8192) (n : Fin 2048) :
    norms x g sc sh (ix2 r n) = hV x g sc sh r n := by
  unfold hV Nrm; pointwise
theorem acts_at (h : FVec Ideal S8192x2048 .f32) (w : FVec Ideal S2048x5632 .f32) (r : Fin 8192) (q : Fin 5632) :
    acts h w (ix2 r q) = aV (fun r n => h (ix2 r n)) w r q := by
  unfold aV; pointwise
theorem lg_neg (a : EReal) : Ideal.div 1 (1 + Ideal.exp (-a)) = lg a := by
  unfold lg; rw [zero_sub]
theorem gates_at (a b : FVec Ideal S8192x5632 .f32) (r : Fin 8192) (q : Fin 5632) :
    gates a b (ix2 r q) = Gated (a (ix2 r q)) (b (ix2 r q)) := by
  unfold Gated; rw [← lg_neg]; pointwise
theorem outs_at (s : FVec Ideal S8192x5632 .f32) (w2 : FVec Ideal S5632x2048 .f32) (r : Fin 8192) (n : Fin 2048) :
    outs s w2 (ix2 r n) = ∑ q : Fin 5632, s (ix2 r q) * w2 (ix2 q n) := by pointwise
theorem errs_at (f x t : FVec Ideal S8192x2048 .f32) (gt : FVec Ideal S1x2048 .f32) (r : Fin 8192) (n : Fin 2048) :
    errs f x t gt (ix2 r n) = errV (fun r n => f (ix2 r n)) x t gt r n := by
  unfold errV Err; pointwise
/-- Half of twice an error over the width is the error times the width's reciprocal. -/
theorem gy_forms (e : EReal) : Ideal.div (halfK * 1) width * ((Scalar.ofBits .f32 0x40000000#32 : Ideal .f32) * e) = e * invK := by
  have hd : Ideal.div (halfK * 1) width = ((1 / 4096 : ℝ) : EReal) := by
    rw [mul_one, half_eq, width_eq]
    unfold Ideal.div
    rw [if_neg (by norm_num), ← EReal.coe_inv, ← EReal.coe_mul]
    norm_num
  rw [hd, two_eq, inv_eq, ← mul_assoc, ← EReal.coe_mul, mul_comm]
  norm_num
theorem gys_at (e : FVec Ideal S8192x2048 .f32) (r : Fin 8192) (n : Fin 2048) : gys e (ix2 r n) = e (ix2 r n) * invK := by
  rw [← gy_forms]; pointwise
theorem dgs_at (gy f : FVec Ideal S8192x2048 .f32) (n : Fin 2048) :
    dgs gy f (ix2 0 n) = dgV (fun r n => gy (ix2 r n)) (fun r n => f (ix2 r n)) n := by
  unfold dgV; pointwise
theorem sqs_at (e : FVec Ideal S8192x2048 .f32) (l : Fin 128) : sqs e (ix2 0 l) = sqV (fun r n => e (ix2 r n)) := by
  unfold sqV; pointwise

/-! ## The reference's results, as arrays -/

section Whole
variable (x t : FVec Ideal S8192x2048 .f32) (g sh sc gt : FVec Ideal S1x2048 .f32) (w1 w3 : FVec Ideal S2048x5632 .f32) (w2 : FVec Ideal S5632x2048 .f32)

/-- The reference's arrays, named by what they hold. -/
abbrev rh : FVec Ideal S8192x2048 .f32 := norms x g sc sh
abbrev rf : FVec Ideal S8192x2048 .f32 := outs (gates (acts (rh x g sh sc) w1) (acts (rh x g sh sc) w3)) w2
abbrev re : FVec Ideal S8192x2048 .f32 := errs (rf x g sh sc w1 w3 w2) x t gt

/-- The rows of the block's output, as the kernel's equations have it. -/
abbrev vh : Fin 8192 → Fin 2048 → EReal := hV x g sc sh
abbrev vf : Fin 8192 → Fin 2048 → EReal := fV (aV (vh x g sh sc) w1) (aV (vh x g sh sc) w3) w2

theorem rh_at : (fun r n => rh x g sh sc (ix2 r n)) = vh x g sh sc := funext fun r => funext fun n => norms_at x g sc sh r n
theorem racts_at (w : FVec Ideal S2048x5632 .f32) (r : Fin 8192) (q : Fin 5632) : acts (rh x g sh sc) w (ix2 r q) = aV (vh x g sh sc) w r q :=
  (acts_at _ _ r q).trans (congrArg (fun h => aV h w r q) (rh_at x g sh sc))
theorem rf_at : (fun r n => rf x g sh sc w1 w3 w2 (ix2 r n)) = vf x g sh sc w1 w3 w2 := funext fun r => funext fun n =>
  (outs_at _ _ r n).trans (Finset.sum_congr rfl fun q _ => by
    rw [gates_at, racts_at, racts_at])
theorem re_at : (fun r n => re x t g sh sc gt w1 w3 w2 (ix2 r n)) = errV (vf x g sh sc w1 w3 w2) x t gt := funext fun r => funext fun n =>
  (errs_at _ x t gt r n).trans (congrArg (fun f => errV f x t gt r n) (rf_at x g sh sc w1 w3 w2))
theorem rgy_at : (fun r n => gys (re x t g sh sc gt w1 w3 w2) (ix2 r n)) = gyV (vf x g sh sc w1 w3 w2) x t gt := funext fun r => funext fun n =>
  (gys_at _ r n).trans (congrArg (fun e => e r n * invK) (re_at x t g sh sc gt w1 w3 w2))

theorem h_eq : truncf .bf16 (rh x g sh sc) bitsLt_bf16_f32 = fun i => vh x g sh sc (i 0) (i 1) := by
  funext i; obtain ⟨r, n, rfl⟩ : ∃ r n, i = ix2 r n := ⟨i 0, i 1, eq_ix2 i⟩
  exact congrFun (congrFun (rh_at x g sh sc) r) n
theorem a_eq (w : FVec Ideal S2048x5632 .f32) : truncf .bf16 (acts (rh x g sh sc) w) bitsLt_bf16_f32 = fun i => aV (vh x g sh sc) w (i 0) (i 1) := by
  funext i; obtain ⟨r, q, rfl⟩ : ∃ r q, i = ix2 r q := ⟨i 0, i 1, eq_ix2 i⟩
  exact racts_at x g sh sc w r q
theorem gy_eq : gys (re x t g sh sc gt w1 w3 w2) = fun i => gyV (vf x g sh sc w1 w3 w2) x t gt (i 0) (i 1) := by
  funext i; obtain ⟨r, n, rfl⟩ : ∃ r n, i = ix2 r n := ⟨i 0, i 1, eq_ix2 i⟩
  exact congrFun (congrFun (rgy_at x t g sh sc gt w1 w3 w2) r) n
theorem df_at (gy : FVec Ideal S8192x2048 .f32) (r : Fin 8192) (n : Fin 2048) :
    mulf (rows (halfG gt)) gy (ix2 r n) = dfV gt (fun r n => gy (ix2 r n)) r n := by
  unfold dfV; pointwise
theorem df_eq : truncf .bf16 (mulf (rows (halfG gt)) (gys (re x t g sh sc gt w1 w3 w2))) bitsLt_bf16_f32
    = fun i => dfV gt (gyV (vf x g sh sc w1 w3 w2) x t gt) (i 0) (i 1) := by
  funext i; obtain ⟨r, n, rfl⟩ : ∃ r n, i = ix2 r n := ⟨i 0, i 1, eq_ix2 i⟩
  exact (df_at gt _ r n).trans (congrArg (fun e => dfV gt e r n) (rgy_at x t g sh sc gt w1 w3 w2))
theorem dg_eq : dgs (gys (re x t g sh sc gt w1 w3 w2)) (rf x g sh sc w1 w3 w2)
    = fun i => dgV (gyV (vf x g sh sc w1 w3 w2) x t gt) (vf x g sh sc w1 w3 w2) (i 1) := by
  funext i; obtain ⟨z, n, rfl⟩ : ∃ z n, i = ix2 z n := ⟨i 0, i 1, eq_ix2 i⟩
  obtain rfl : z = 0 := Subsingleton.elim _ _
  exact (dgs_at _ _ n).trans (by rw [rgy_at, rf_at]; rfl)
theorem sq_eq : sqs (re x t g sh sc gt w1 w3 w2) = fun _ => sqV (errV (vf x g sh sc w1 w3 w2) x t gt) := by
  funext i; obtain ⟨z, n, rfl⟩ : ∃ z n, i = ix2 z n := ⟨i 0, i 1, eq_ix2 i⟩
  obtain rfl : z = 0 := Subsingleton.elim _ _
  exact (sqs_at _ n).trans (by rw [re_at])

end Whole

/-! ## The results the reference run names, in these pieces -/

section Named
variable (m : (ℓ : Loc nD τ sig) → Buf (Elt Ideal) ℓ) (c : Dev nD)
abbrev arg0 : FVec Ideal S8192x2048 .f32 := m ((c.tc : Thread nD τ).loc main_arg0)
abbrev arg1 : FVec Ideal S1x2048 .f32 := m ((c.tc : Thread nD τ).loc main_arg1)
abbrev arg2 : FVec Ideal S1x2048 .f32 := m ((c.tc : Thread nD τ).loc main_arg2)
abbrev arg3 : FVec Ideal S1x2048 .f32 := m ((c.tc : Thread nD τ).loc main_arg3)
abbrev arg4 : FVec Ideal S1x2048 .f32 := m ((c.tc : Thread nD τ).loc main_arg4)
abbrev arg5 : FVec Ideal S2048x5632 .f32 := m ((c.tc : Thread nD τ).loc main_arg5)
abbrev arg6 : FVec Ideal S2048x5632 .f32 := m ((c.tc : Thread nD τ).loc main_arg6)
abbrev arg7 : FVec Ideal S5632x2048 .f32 := m ((c.tc : Thread nD τ).loc main_arg7)
abbrev arg8 : FVec Ideal S8192x2048 .f32 := m ((c.tc : Thread nD τ).loc main_arg8)
/-- The block's output and the loss's gradient, of the reference's arguments. -/
abbrev nf : Fin 8192 → Fin 2048 → EReal := vf (arg0 m c) (arg1 m c) (arg2 m c) (arg3 m c) (arg5 m c) (arg6 m c) (arg7 m c)
abbrev ngy : Fin 8192 → Fin 2048 → EReal := gyV (nf m c) (arg0 m c) (arg8 m c) (arg4 m c)
theorem gy_named : Value.res_main_v42 m c = fun i => ngy m c (i 0) (i 1) :=
  Eq.trans (rfl : Value.res_main_v42 m c = gys (re (arg0 m c) (arg8 m c) (arg1 m c) (arg2 m c) (arg3 m c) (arg4 m c) (arg5 m c) (arg6 m c) (arg7 m c))) (gy_eq (arg0 m c) (arg8 m c) (arg1 m c) (arg2 m c) (arg3 m c) (arg4 m c) (arg5 m c) (arg6 m c) (arg7 m c))
theorem df_named : Value.res_main_v55 m c = fun i => dfV (arg4 m c) (ngy m c) (i 0) (i 1) :=
  Eq.trans (rfl : Value.res_main_v55 m c = truncf .bf16 (mulf (rows (halfG (arg4 m c))) (gys (re (arg0 m c) (arg8 m c) (arg1 m c) (arg2 m c) (arg3 m c) (arg4 m c) (arg5 m c) (arg6 m c) (arg7 m c)))) bitsLt_bf16_f32) (df_eq (arg0 m c) (arg8 m c) (arg1 m c) (arg2 m c) (arg3 m c) (arg4 m c) (arg5 m c) (arg6 m c) (arg7 m c))
theorem dg_named : Value.res_main_v49 m c = fun i => dgV (ngy m c) (nf m c) (i 1) :=
  Eq.trans (rfl : Value.res_main_v49 m c = dgs (gys (re (arg0 m c) (arg8 m c) (arg1 m c) (arg2 m c) (arg3 m c) (arg4 m c) (arg5 m c) (arg6 m c) (arg7 m c))) (rf (arg0 m c) (arg1 m c) (arg2 m c) (arg3 m c) (arg5 m c) (arg6 m c) (arg7 m c))) (dg_eq (arg0 m c) (arg8 m c) (arg1 m c) (arg2 m c) (arg3 m c) (arg4 m c) (arg5 m c) (arg6 m c) (arg7 m c))
theorem sq_named : Value.res_main_v53 m c = fun _ => sqV (errV (nf m c) (arg0 m c) (arg8 m c) (arg4 m c)) :=
  Eq.trans (rfl : Value.res_main_v53 m c = sqs (re (arg0 m c) (arg8 m c) (arg1 m c) (arg2 m c) (arg3 m c) (arg4 m c) (arg5 m c) (arg6 m c) (arg7 m c))) (sq_eq (arg0 m c) (arg8 m c) (arg1 m c) (arg2 m c) (arg3 m c) (arg4 m c) (arg5 m c) (arg6 m c) (arg7 m c))
end Named

end Cert.FfnFwdRefIdeal.FwdRef

end
-- ==== Proof.FwdClaims.lean ====
module

public import proofs.«01_k».proof.Proof.FwdRef
public import proofs.«01_k».proof.Defs
public import proofs.«01_k».proof.Proof.Gen.FfnFwd
public import proofs.«01_k».proof.Proof.Gen.FfnFwdRefIdeal
public import Idealize.ShloMosaic.Lib.Quiescent

@[expose] public section

set_option maxRecDepth 16384

noncomputable section

/-! The claims about the second FFN's forward call, from its run (`FwdRun`), its arrays (`FwdFinal`) and the reference's terms (`FwdRef`). -/

namespace Cert.FwdClaims

open Idealize.ShloMosaic Idealize.ShloMosaic.TcCoe Idealize.SL.Sem

section Kernel
open Cert.FfnFwdIdeal Cert.FfnFwdIdeal.Gen Cert.FfnFwdIdeal.Ffn
variable {F : FTy → Type} [FloatOps F]

/-- The arguments end unchanged. -/
theorem kept (m : (ℓ : Loc nD τ sig) → Buf (Elt F) ℓ) (r : PUnit × MemSt nD τ sig (Elt F))
    (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨((h c).1 1).trans (((dats m 0 c).arrAt_in 1 rfl _).trans ((A_eq m c 1).trans (V_main_arg0 m c))),
   ((h c).1 0).trans (((dats m 0 c).arrAt_in 0 rfl _).trans ((A_eq m c 0).trans (V_main_arg1 m c))),
   ((h c).1 3).trans (((dats m 0 c).arrAt_in 3 rfl _).trans ((A_eq m c 3).trans (V_main_arg2 m c))),
   ((h c).1 4).trans (((dats m 0 c).arrAt_in 4 rfl _).trans ((A_eq m c 4).trans (V_main_arg3 m c))),
   ((h c).1 5).trans (((dats m 0 c).arrAt_in 5 rfl _).trans ((A_eq m c 5).trans (V_main_arg4 m c))),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).1 2).trans (((dats m 0 c).arrAt_in 2 rfl _).trans ((A_eq m c 2).trans (V_main_arg8 m c)))⟩

theorem frame_ideal : Cert.quiescent_FfnFwdIdeal := fun m ρ _ =>
  (θ_run Cert.FfnFwdIdeal.defs _ _).mono (fun r h => ⟨kept m r h.1, h.2⟩) (run_main (F := Ideal) m ρ)
set_option backward.isDefEq.respectTransparency.types false
/-- The two programs have one text: their bodies, their body tables and their mains are the same. -/
theorem same_body : Cert.FfnFwd.defs₀ (F := Bits) = Cert.FfnFwdIdeal.defs₀ := by
  unfold Cert.FfnFwd.defs₀ Cert.FfnFwdIdeal.defs₀
  refine congrArg Defs.onTc ?_
  funext l a
  obtain rfl : l = 0 := Subsingleton.elim _ _
  rfl
theorem same_defs : Cert.FfnFwd.defs (F := Bits) = Cert.FfnFwdIdeal.defs := by
  unfold Cert.FfnFwd.defs Cert.FfnFwdIdeal.defs
  exact congrArg (Pipeline.defs Cert.FfnFwdIdeal.pcfgs) same_body
theorem same_main : Cert.FfnFwd.main (F := Bits) = Cert.FfnFwdIdeal.main (F := Bits) := rfl

theorem frame_kernel : Cert.quiescent_FfnFwd := by
  intro m ρ _
  rw [same_defs, same_main]
  exact (θ_run (Cert.FfnFwdIdeal.defs (F := Bits)) _ _).mono (fun r h => ⟨kept m r h.1, h.2⟩) (run_main (F := Bits) m ρ)

end Kernel

section Ref
open Cert.FfnFwdRefIdeal

theorem frame_ref : Cert.quiescent_FfnFwdRefIdeal := fun m g _ =>
  (θ_run _ _ _).mono (fun r h => ⟨fun c => (h c).2.2.2.2.2.2.2, sem_eq_zero_of_no_sems (by decide) r.2⟩) (Value.run (F := Ideal) m g)

end Ref

section Values
open Cert.FfnFwdIdeal Cert.FfnFwdIdeal.Ffn Cert.FfnFwdRefIdeal.FwdRef

/-- Both programs run, and their seven results are equal. -/
theorem values : Cert.algebraic_FfnFwdIdeal_FfnFwdRefIdeal := by
  intro m g m' g' _ hargs
  refine ⟨fun c => arr9 m c, fun c => arr10 m c, fun c => arr11 m c, fun c => arr12 m c, fun c => arr13 m c, fun c => arr14 m c, fun c => arr15 m c, ?_, ?_⟩
  · refine (θ_run Cert.FfnFwdIdeal.defs _ _).mono (fun r h c => ?_) (run_main (F := Ideal) m g)
    exact ⟨((h.1 c).1 9).trans (final9 m c), ((h.1 c).1 10).trans (final10 m c), ((h.1 c).1 11).trans (final11 m c), ((h.1 c).1 12).trans (final12 m c), ((h.1 c).1 13).trans (final13 m c), ((h.1 c).1 14).trans (final14 m c), ((h.1 c).1 15).trans (final15 m c), kept m r h.1 c⟩
  · refine (θ_run Cert.FfnFwdRefIdeal.defs _ _).mono (fun r h c => ?_) (Cert.FfnFwdRefIdeal.Value.run (F := Ideal) m' g')
    obtain ⟨h0, h1, h2, h3, h4, h5, h6, hk⟩ := h c
    obtain ⟨e0, e1, e2, e3, e4, e5, e6, e7, e8⟩ := hargs c
    have d0 : arg0 m' c = argX m c := e0
    have d1 : arg1 m' c = argG m c := e1
    have d2 : arg2 m' c = argSh m c := e2
    have d3 : arg3 m' c = argSc m c := e3
    have d4 : arg4 m' c = argGt m c := e4
    have d5 : arg5 m' c = argW1 m c := e5
    have d6 : arg6 m' c = argW3 m c := e6
    have d7 : arg7 m' c = argW2 m c := e7
    have d8 : arg8 m' c = argT m c := e8
    rw [e0, e1, e2, e3] at h0
    rw [e0, e1, e2, e3, e5] at h3
    rw [e0, e1, e2, e3, e6] at h4
    have hf : nf m' c = mf m c := by unfold nf; rw [d0, d1, d2, d3, d5, d6, d7]
    have hgy : ngy m' c = mgy m c := by unfold ngy; rw [hf, d0, d8, d4]
    exact ⟨h0.trans (h_eq (argX m c) (argG m c) (argSh m c) (argSc m c)),
      h1.trans ((gy_named m' c).trans (by rw [hgy]; rfl)),
      h2.trans ((df_named m' c).trans (by rw [hgy, d4]; rfl)),
      h3.trans (a_eq (argX m c) (argG m c) (argSh m c) (argSc m c) (argW1 m c)),
      h4.trans (a_eq (argX m c) (argG m c) (argSh m c) (argSc m c) (argW3 m c)),
      h5.trans ((dg_named m' c).trans (by rw [hgy, hf]; rfl)),
      h6.trans ((sq_named m' c).trans (by rw [hf, d0, d8, d4]; rfl)), hk⟩

end Values

end Cert.FwdClaims

end
-- ==== Proof.AdamMath.lean ====
module

public import proofs.«01_k».proof.Proof.FwdClaims
public import Idealize.ShloMosaic.PureOps.Ideal
public import Idealize.ShloMosaic.Lib.Pipeline.Value

@[expose] public section

noncomputable section

/-! The optimiser's update of one element, over the extended reals. -/

namespace Cert.Adam

open Idealize.ShloMosaic

/-- The extended real of a float literal. -/
abbrev lit (b : BitVec 32) : EReal := Scalar.ofBits (F := Ideal) .f32 b
/-- The first moment's next value, of the gradient and the moment. -/
def nextM (g m : EReal) : EReal := lit 0x3F666666#32 * m + lit 0x3DCCCCCD#32 * g
/-- The second moment's next value. -/
def nextV (g v : EReal) : EReal := lit 0x3F7FBE77#32 * v + lit 0x3A83126F#32 * (g * g)
/-- The weight's change. -/
def delta (w g m v : EReal) : EReal :=
  lit 0xBA83126F#32 * (Ideal.div (Ideal.div (nextM g m) (lit 0x3F26BD02#32))
    (Ideal.sqrt (Ideal.div (nextV g v) (lit 0x3C231ACC#32)) + lit 0x322BCC77#32) + lit 0x3C23D70A#32 * w)

/-- A block that is read or written whole starts at the origin. -/
theorem origin : (![0, 0] : Fin 2 → Nat) = fun _ => 0 := funext fun a => by fin_cases a <;> rfl
/-- Row `p` lies in the block of `w` rows that is its quotient by `w`, whose columns are all there. -/
theorem in_rows {w C p : ℕ} (index size block : Fin 2 → ℕ) {i : Fin 2 → ℕ} (hw : 0 < w)
    (hi : index 0 = p / w ∧ index 1 = 0) (hs : size 0 = w ∧ size 1 = C) (hb : block 0 = w) (hp : i 0 = p) (hq : i 1 < C) (a : Fin 2) :
    index a * block a ≤ i a ∧ i a < index a * block a + size a := by
  match a with
  | ⟨0, _⟩ =>
    show index 0 * block 0 ≤ i 0 ∧ i 0 < index 0 * block 0 + size 0
    rw [hi.1, hs.1, hb, hp]
    exact ⟨Nat.div_mul_le_self p w, Nat.lt_div_mul_add hw⟩
  | ⟨1, _⟩ =>
    show index 1 * block 1 ≤ i 1 ∧ i 1 < index 1 * block 1 + size 1
    rw [hi.2, hs.2]; omega

end Cert.Adam

end
-- ==== Proof.Adam1.lean ====
module

public import proofs.«01_k».proof.Proof.AdamMath
public import proofs.«01_k».proof.Proof.Gen.Adam1Ideal.Value
public import proofs.«01_k».proof.Proof.Gen.Adam1.Frame
public import proofs.«01_k».proof.Proof.Gen.Adam1RefIdeal.Run
public import proofs.«01_k».proof.Defs
public import Idealize.ShloMosaic.Lib.Quiescent

@[expose] public section

set_option maxRecDepth 16384

noncomputable section

/-! The optimiser's call on a device's part of the FFN's two inner weights (2048 rows of 1408 columns, 256 rows at a time): its result arrays, element by element. -/

namespace Cert.Adam1Ideal.Update

open Idealize.ShloMosaic Idealize.ShloMosaic.TcCoe Idealize.SL.Sem
open Cert.Adam1Ideal Cert.Adam1Ideal.Gen
open Cert.Adam (nextM nextV delta origin in_rows)

variable (m : (ℓ : Loc nD τ sig) → Buf (Elt Ideal) ℓ)

abbrev argW (c : Dev nD) : FVec Ideal S2048x1408 .f32 := m ((c.tc : Thread nD τ).loc main_arg0)
abbrev argG (c : Dev nD) : FVec Ideal S2048x1408 .f32 := m ((c.tc : Thread nD τ).loc main_arg1)
abbrev argM (c : Dev nD) : FVec Ideal S2048x1408 .f32 := m ((c.tc : Thread nD τ).loc main_arg2)
abbrev argV (c : Dev nD) : FVec Ideal S2048x1408 .f32 := m ((c.tc : Thread nD τ).loc main_arg3)

abbrev passed (c : Dev nD) : FVec Ideal S2048x1408 .f32 := fun i => argG m c i
abbrev change (c : Dev nD) : FVec Ideal S2048x1408 .f32 := fun i => delta (argW m c i) (argG m c i) (argM m c i) (argV m c i)
abbrev first (c : Dev nD) : FVec Ideal S2048x1408 .f32 := fun i => nextM (argG m c i) (argM m c i)
abbrev second (c : Dev nD) : FVec Ideal S2048x1408 .f32 := fun i => nextV (argG m c i) (argV m c i)

/-- Point `t`'s blocks are rows `256 t` to `256 t + 255`; the points' blocks cover an array. -/
theorem rows4 : ∀ t : Fin cfg0.N, (win0_4.index t 0 = t.val ∧ win0_4.index t 1 = 0) ∧ win0_4.xsize (grid0.coords t) 0 = 256 ∧ win0_4.xsize (grid0.coords t) 1 = 1408 :=
  (by decide +kernel : ∀ t : Fin grid0.N, (win0_4.index t 0 = t.val ∧ win0_4.index t 1 = 0) ∧ win0_4.xsize (grid0.coords t) 0 = 256 ∧ win0_4.xsize (grid0.coords t) 1 = 1408)
theorem covered (i : S2048x1408.Idx) : ∃ t : Fin cfg0.N, i ∈ ((View.whole main_v0_0).slice (win0_4.rect t)).set := by
  have i0 : (i 0).val < 2048 := (i 0).isLt
  have hN : (i 0).val / 256 < cfg0.N := by show _ < 8; omega
  obtain ⟨ea, ex⟩ := rows4 ⟨(i 0).val / 256, hN⟩
  refine ⟨⟨(i 0).val / 256, hN⟩, ?_⟩
  rw [View.set_slice_whole]
  exact Rect.mem_set_unit.2 (in_rows (i := fun a => (i a).val) _ _ S256x1408.size (by decide) ea ex rfl rfl (i 1).isLt)

theorem final4 (c : Dev nD) : (dats m 0 c).arrAt 4 cfg0.N = passed m c := by
  refine (dats m 0 c).arrAt_eq_of_cover 4 (passed m c) (fun t _ => ?_) (fun i => (covered i).imp fun t ht => ⟨flush0_4 t, ht⟩)
  rw [Value.flushed4]
  unfold out0_4
  rw [View.canon_unit_zero origin]
  simp only [View.ld_unit_zero (S := S256x1408) origin]
  rfl
theorem final5 (c : Dev nD) : (dats m 0 c).arrAt 5 cfg0.N = change m c := by
  refine (dats m 0 c).arrAt_eq_of_cover 5 (change m c) (fun t _ => ?_) (fun i => (covered i).imp fun t ht => ⟨flush0_5 t, ht⟩)
  rw [Value.flushed5]
  unfold out0_5
  rw [View.canon_unit_zero origin]
  simp only [View.ld_unit_zero (S := S256x1408) origin]
  rfl
theorem final6 (c : Dev nD) : (dats m 0 c).arrAt 6 cfg0.N = first m c := by
  refine (dats m 0 c).arrAt_eq_of_cover 6 (first m c) (fun t _ => ?_) (fun i => (covered i).imp fun t ht => ⟨flush0_6 t, ht⟩)
  rw [Value.flushed6]
  unfold out0_6
  rw [View.canon_unit_zero origin]
  simp only [View.ld_unit_zero (S := S256x1408) origin]
  rfl
theorem final7 (c : Dev nD) : (dats m 0 c).arrAt 7 cfg0.N = second m c := by
  refine (dats m 0 c).arrAt_eq_of_cover 7 (second m c) (fun t _ => ?_) (fun i => (covered i).imp fun t ht => ⟨flush0_7 t, ht⟩)
  rw [Value.flushed7]
  unfold out0_7
  rw [View.canon_unit_zero origin]
  simp only [View.ld_unit_zero (S := S256x1408) origin]
  rfl

theorem frame_kernel : Cert.quiescent_Adam1 := fun m ρ _ => Cert.Adam1.Gen.frame m ρ
theorem frame_ideal : Cert.quiescent_Adam1Ideal := fun m ρ _ => Cert.Adam1Ideal.Gen.frame m ρ
theorem frame_ref : Cert.quiescent_Adam1RefIdeal := fun m ρ _ =>
  (θ_run _ _ _).mono (fun r h => ⟨fun c => (h c).2.2.2.2, sem_eq_zero_of_no_sems (by decide) r.2⟩) (Cert.Adam1RefIdeal.Value.run (F := Ideal) m ρ)

/-- Both programs run, and their results are equal. -/
theorem values : Cert.algebraic_Adam1Ideal_Adam1RefIdeal := by
  intro m g m' g' _ hargs
  refine ⟨passed m, change m, first m, second m, ?_, ?_⟩
  · refine (θ_run Cert.Adam1Ideal.defs _ _).mono (fun r h c => ?_) (Value.run_blocks (F := Ideal) m g)
    obtain ⟨h4, h5, h6, h7, hk⟩ := h c
    exact ⟨h4.trans (final4 m c), h5.trans (final5 m c), h6.trans (final6 m c), h7.trans (final7 m c), hk⟩
  · refine (θ_run Cert.Adam1RefIdeal.defs _ _).mono (fun r h c => ?_) (Cert.Adam1RefIdeal.Value.run (F := Ideal) m' g')
    obtain ⟨h4, h5, h6, h7, hk⟩ := h c
    obtain ⟨e0, e1, e2, e3⟩ := hargs c
    rw [e1] at h4
    rw [e0, e1, e2, e3] at h5
    rw [e1, e2] at h6
    rw [e1, e3] at h7
    exact ⟨h4.trans rfl, h5.trans rfl, h6.trans rfl, h7.trans rfl, hk⟩

end Cert.Adam1Ideal.Update

end
-- ==== Proof.Adam2.lean ====
module

public import proofs.«01_k».proof.Proof.Adam1
public import proofs.«01_k».proof.Proof.Gen.Adam2Ideal.Value
public import proofs.«01_k».proof.Proof.Gen.Adam2.Frame
public import proofs.«01_k».proof.Proof.Gen.Adam2RefIdeal.Run
public import proofs.«01_k».proof.Defs
public import Idealize.ShloMosaic.Lib.Quiescent

@[expose] public section

set_option maxRecDepth 16384

noncomputable section

/-! The optimiser's call on a device's part of the FFN's outer weight (1408 rows of 2048 columns, 176 rows at a time): its result arrays, element by element. -/

namespace Cert.Adam2Ideal.Update

open Idealize.ShloMosaic Idealize.ShloMosaic.TcCoe Idealize.SL.Sem
open Cert.Adam2Ideal Cert.Adam2Ideal.Gen
open Cert.Adam (nextM nextV delta origin in_rows)

variable (m : (ℓ : Loc nD τ sig) → Buf (Elt Ideal) ℓ)

abbrev argW (c : Dev nD) : FVec Ideal S1408x2048 .f32 := m ((c.tc : Thread nD τ).loc main_arg0)
abbrev argG (c : Dev nD) : FVec Ideal S1408x2048 .f32 := m ((c.tc : Thread nD τ).loc main_arg1)
abbrev argM (c : Dev nD) : FVec Ideal S1408x2048 .f32 := m ((c.tc : Thread nD τ).loc main_arg2)
abbrev argV (c : Dev nD) : FVec Ideal S1408x2048 .f32 := m ((c.tc : Thread nD τ).loc main_arg3)

abbrev passed (c : Dev nD) : FVec Ideal S1408x2048 .f32 := fun i => argG m c i
abbrev change (c : Dev nD) : FVec Ideal S1408x2048 .f32 := fun i => delta (argW m c i) (argG m c i) (argM m c i) (argV m c i)
abbrev first (c : Dev nD) : FVec Ideal S1408x2048 .f32 := fun i => nextM (argG m c i) (argM m c i)
abbrev second (c : Dev nD) : FVec Ideal S1408x2048 .f32 := fun i => nextV (argG m c i) (argV m c i)

/-- Point `t`'s blocks are rows `176 t` to `176 t + 175`; the points' blocks cover an array. -/
theorem rows4 : ∀ t : Fin cfg0.N, (win0_4.index t 0 = t.val ∧ win0_4.index t 1 = 0) ∧ win0_4.xsize (grid0.coords t) 0 = 176 ∧ win0_4.xsize (grid0.coords t) 1 = 2048 :=
  (by decide +kernel : ∀ t : Fin grid0.N, (win0_4.index t 0 = t.val ∧ win0_4.index t 1 = 0) ∧ win0_4.xsize (grid0.coords t) 0 = 176 ∧ win0_4.xsize (grid0.coords t) 1 = 2048)
theorem covered (i : S1408x2048.Idx) : ∃ t : Fin cfg0.N, i ∈ ((View.whole main_v0_0).slice (win0_4.rect t)).set := by
  have i0 : (i 0).val < 1408 := (i 0).isLt
  have hN : (i 0).val / 176 < cfg0.N := by show _ < 8; omega
  obtain ⟨ea, ex⟩ := rows4 ⟨(i 0).val / 176, hN⟩
  refine ⟨⟨(i 0).val / 176, hN⟩, ?_⟩
  rw [View.set_slice_whole]
  exact Rect.mem_set_unit.2 (in_rows (i := fun a => (i a).val) _ _ S176x2048.size (by decide) ea ex rfl rfl (i 1).isLt)

theorem final4 (c : Dev nD) : (dats m 0 c).arrAt 4 cfg0.N = passed m c := by
  refine (dats m 0 c).arrAt_eq_of_cover 4 (passed m c) (fun t _ => ?_) (fun i => (covered i).imp fun t ht => ⟨flush0_4 t, ht⟩)
  rw [Value.flushed4]
  unfold out0_4
  rw [View.canon_unit_zero origin]
  simp only [View.ld_unit_zero (S := S176x2048) origin]
  rfl
theorem final5 (c : Dev nD) : (dats m 0 c).arrAt 5 cfg0.N = change m c := by
  refine (dats m 0 c).arrAt_eq_of_cover 5 (change m c) (fun t _ => ?_) (fun i => (covered i).imp fun t ht => ⟨flush0_5 t, ht⟩)
  rw [Value.flushed5]
  unfold out0_5
  rw [View.canon_unit_zero origin]
  simp only [View.ld_unit_zero (S := S176x2048) origin]
  rfl
theorem final6 (c : Dev nD) : (dats m 0 c).arrAt 6 cfg0.N = first m c := by
  refine (dats m 0 c).arrAt_eq_of_cover 6 (first m c) (fun t _ => ?_) (fun i => (covered i).imp fun t ht => ⟨flush0_6 t, ht⟩)
  rw [Value.flushed6]
  unfold out0_6
  rw [View.canon_unit_zero origin]
  simp only [View.ld_unit_zero (S := S176x2048) origin]
  rfl
theorem final7 (c : Dev nD) : (dats m 0 c).arrAt 7 cfg0.N = second m c := by
  refine (dats m 0 c).arrAt_eq_of_cover 7 (second m c) (fun t _ => ?_) (fun i => (covered i).imp fun t ht => ⟨flush0_7 t, ht⟩)
  rw [Value.flushed7]
  unfold out0_7
  rw [View.canon_unit_zero origin]
  simp only [View.ld_unit_zero (S := S176x2048) origin]
  rfl

theorem frame_kernel : Cert.quiescent_Adam2 := fun m ρ _ => Cert.Adam2.Gen.frame m ρ
theorem frame_ideal : Cert.quiescent_Adam2Ideal := fun m ρ _ => Cert.Adam2Ideal.Gen.frame m ρ
theorem frame_ref : Cert.quiescent_Adam2RefIdeal := fun m ρ _ =>
  (θ_run _ _ _).mono (fun r h => ⟨fun c => (h c).2.2.2.2, sem_eq_zero_of_no_sems (by decide) r.2⟩) (Cert.Adam2RefIdeal.Value.run (F := Ideal) m ρ)

/-- Both programs run, and their results are equal. -/
theorem values : Cert.algebraic_Adam2Ideal_Adam2RefIdeal := by
  intro m g m' g' _ hargs
  refine ⟨passed m, change m, first m, second m, ?_, ?_⟩
  · refine (θ_run Cert.Adam2Ideal.defs _ _).mono (fun r h c => ?_) (Value.run_blocks (F := Ideal) m g)
    obtain ⟨h4, h5, h6, h7, hk⟩ := h c
    exact ⟨h4.trans (final4 m c), h5.trans (final5 m c), h6.trans (final6 m c), h7.trans (final7 m c), hk⟩
  · refine (θ_run Cert.Adam2RefIdeal.defs _ _).mono (fun r h c => ?_) (Cert.Adam2RefIdeal.Value.run (F := Ideal) m' g')
    obtain ⟨h4, h5, h6, h7, hk⟩ := h c
    obtain ⟨e0, e1, e2, e3⟩ := hargs c
    rw [e1] at h4
    rw [e0, e1, e2, e3] at h5
    rw [e1, e2] at h6
    rw [e1, e3] at h7
    exact ⟨h4.trans rfl, h5.trans rfl, h6.trans rfl, h7.trans rfl, hk⟩

end Cert.Adam2Ideal.Update

end
-- ==== Proof.AdamIn.lean ====
module

public import proofs.«01_k».proof.Proof.Adam2
public import proofs.«01_k».proof.Proof.Gen.AdamInIdeal.Value
public import proofs.«01_k».proof.Proof.Gen.AdamIn.Frame
public import proofs.«01_k».proof.Proof.Gen.AdamInRefIdeal.Run
public import proofs.«01_k».proof.Defs
public import Idealize.ShloMosaic.Lib.Quiescent

@[expose] public section

set_option maxRecDepth 16384

noncomputable section

/-! The optimiser's call on a device's part of the mixer's inner weight (2048 rows of 832 columns, 512 rows at a time): its result arrays, element by element. -/

namespace Cert.AdamInIdeal.Update

open Idealize.ShloMosaic Idealize.ShloMosaic.TcCoe Idealize.SL.Sem
open Cert.AdamInIdeal Cert.AdamInIdeal.Gen
open Cert.Adam (nextM nextV delta origin in_rows)

variable (m : (ℓ : Loc nD τ sig) → Buf (Elt Ideal) ℓ)

abbrev argW (c : Dev nD) : FVec Ideal S2048x832 .f32 := m ((c.tc : Thread nD τ).loc main_arg0)
abbrev argG (c : Dev nD) : FVec Ideal S2048x832 .f32 := m ((c.tc : Thread nD τ).loc main_arg1)
abbrev argM (c : Dev nD) : FVec Ideal S2048x832 .f32 := m ((c.tc : Thread nD τ).loc main_arg2)
abbrev argV (c : Dev nD) : FVec Ideal S2048x832 .f32 := m ((c.tc : Thread nD τ).loc main_arg3)

abbrev passed (c : Dev nD) : FVec Ideal S2048x832 .f32 := fun i => argG m c i
abbrev change (c : Dev nD) : FVec Ideal S2048x832 .f32 := fun i => delta (argW m c i) (argG m c i) (argM m c i) (argV m c i)
abbrev first (c : Dev nD) : FVec Ideal S2048x832 .f32 := fun i => nextM (argG m c i) (argM m c i)
abbrev second (c : Dev nD) : FVec Ideal S2048x832 .f32 := fun i => nextV (argG m c i) (argV m c i)

/-- Point `t`'s blocks are rows `512 t` to `512 t + 511`; the points' blocks cover an array. -/
theorem rows4 : ∀ t : Fin cfg0.N, (win0_4.index t 0 = t.val ∧ win0_4.index t 1 = 0) ∧ win0_4.xsize (grid0.coords t) 0 = 512 ∧ win0_4.xsize (grid0.coords t) 1 = 832 :=
  (by decide +kernel : ∀ t : Fin grid0.N, (win0_4.index t 0 = t.val ∧ win0_4.index t 1 = 0) ∧ win0_4.xsize (grid0.coords t) 0 = 512 ∧ win0_4.xsize (grid0.coords t) 1 = 832)
theorem covered (i : S2048x832.Idx) : ∃ t : Fin cfg0.N, i ∈ ((View.whole main_v0_0).slice (win0_4.rect t)).set := by
  have i0 : (i 0).val < 2048 := (i 0).isLt
  have hN : (i 0).val / 512 < cfg0.N := by show _ < 4; omega
  obtain ⟨ea, ex⟩ := rows4 ⟨(i 0).val / 512, hN⟩
  refine ⟨⟨(i 0).val / 512, hN⟩, ?_⟩
  rw [View.set_slice_whole]
  exact Rect.mem_set_unit.2 (in_rows (i := fun a => (i a).val) _ _ S512x832.size (by decide) ea ex rfl rfl (i 1).isLt)

theorem final4 (c : Dev nD) : (dats m 0 c).arrAt 4 cfg0.N = passed m c := by
  refine (dats m 0 c).arrAt_eq_of_cover 4 (passed m c) (fun t _ => ?_) (fun i => (covered i).imp fun t ht => ⟨flush0_4 t, ht⟩)
  rw [Value.flushed4]
  unfold out0_4
  rw [View.canon_unit_zero origin]
  simp only [View.ld_unit_zero (S := S512x832) origin]
  rfl
theorem final5 (c : Dev nD) : (dats m 0 c).arrAt 5 cfg0.N = change m c := by
  refine (dats m 0 c).arrAt_eq_of_cover 5 (change m c) (fun t _ => ?_) (fun i => (covered i).imp fun t ht => ⟨flush0_5 t, ht⟩)
  rw [Value.flushed5]
  unfold out0_5
  rw [View.canon_unit_zero origin]
  simp only [View.ld_unit_zero (S := S512x832) origin]
  rfl
theorem final6 (c : Dev nD) : (dats m 0 c).arrAt 6 cfg0.N = first m c := by
  refine (dats m 0 c).arrAt_eq_of_cover 6 (first m c) (fun t _ => ?_) (fun i => (covered i).imp fun t ht => ⟨flush0_6 t, ht⟩)
  rw [Value.flushed6]
  unfold out0_6
  rw [View.canon_unit_zero origin]
  simp only [View.ld_unit_zero (S := S512x832) origin]
  rfl
theorem final7 (c : Dev nD) : (dats m 0 c).arrAt 7 cfg0.N = second m c := by
  refine (dats m 0 c).arrAt_eq_of_cover 7 (second m c) (fun t _ => ?_) (fun i => (covered i).imp fun t ht => ⟨flush0_7 t, ht⟩)
  rw [Value.flushed7]
  unfold out0_7
  rw [View.canon_unit_zero origin]
  simp only [View.ld_unit_zero (S := S512x832) origin]
  rfl

theorem frame_kernel : Cert.quiescent_AdamIn := fun m ρ _ => Cert.AdamIn.Gen.frame m ρ
theorem frame_ideal : Cert.quiescent_AdamInIdeal := fun m ρ _ => Cert.AdamInIdeal.Gen.frame m ρ
theorem frame_ref : Cert.quiescent_AdamInRefIdeal := fun m ρ _ =>
  (θ_run _ _ _).mono (fun r h => ⟨fun c => (h c).2.2.2.2, sem_eq_zero_of_no_sems (by decide) r.2⟩) (Cert.AdamInRefIdeal.Value.run (F := Ideal) m ρ)

/-- Both programs run, and their results are equal. -/
theorem values : Cert.algebraic_AdamInIdeal_AdamInRefIdeal := by
  intro m g m' g' _ hargs
  refine ⟨passed m, change m, first m, second m, ?_, ?_⟩
  · refine (θ_run Cert.AdamInIdeal.defs _ _).mono (fun r h c => ?_) (Value.run_blocks (F := Ideal) m g)
    obtain ⟨h4, h5, h6, h7, hk⟩ := h c
    exact ⟨h4.trans (final4 m c), h5.trans (final5 m c), h6.trans (final6 m c), h7.trans (final7 m c), hk⟩
  · refine (θ_run Cert.AdamInRefIdeal.defs _ _).mono (fun r h c => ?_) (Cert.AdamInRefIdeal.Value.run (F := Ideal) m' g')
    obtain ⟨h4, h5, h6, h7, hk⟩ := h c
    obtain ⟨e0, e1, e2, e3⟩ := hargs c
    rw [e1] at h4
    rw [e0, e1, e2, e3] at h5
    rw [e1, e2] at h6
    rw [e1, e3] at h7
    exact ⟨h4.trans rfl, h5.trans rfl, h6.trans rfl, h7.trans rfl, hk⟩

end Cert.AdamInIdeal.Update

end
-- ==== Proof.AdamOut.lean ====
module

public import proofs.«01_k».proof.Proof.AdamIn
public import proofs.«01_k».proof.Proof.Gen.AdamOutIdeal.Value
public import proofs.«01_k».proof.Proof.Gen.AdamOut.Frame
public import proofs.«01_k».proof.Proof.Gen.AdamOutRefIdeal.Run
public import proofs.«01_k».proof.Defs
public import Idealize.ShloMosaic.Lib.Quiescent

@[expose] public section

set_option maxRecDepth 16384

noncomputable section

/-! The optimiser's call on a device's part of the mixer's outer weight (512 rows of 2048 columns, 256 rows at a time): its result arrays, element by element. -/

namespace Cert.AdamOutIdeal.Update

open Idealize.ShloMosaic Idealize.ShloMosaic.TcCoe Idealize.SL.Sem
open Cert.AdamOutIdeal Cert.AdamOutIdeal.Gen
open Cert.Adam (nextM nextV delta origin in_rows)

variable (m : (ℓ : Loc nD τ sig) → Buf (Elt Ideal) ℓ)

abbrev argW (c : Dev nD) : FVec Ideal S512x2048 .f32 := m ((c.tc : Thread nD τ).loc main_arg0)
abbrev argG (c : Dev nD) : FVec Ideal S512x2048 .f32 := m ((c.tc : Thread nD τ).loc main_arg1)
abbrev argM (c : Dev nD) : FVec Ideal S512x2048 .f32 := m ((c.tc : Thread nD τ).loc main_arg2)
abbrev argV (c : Dev nD) : FVec Ideal S512x2048 .f32 := m ((c.tc : Thread nD τ).loc main_arg3)

abbrev passed (c : Dev nD) : FVec Ideal S512x2048 .f32 := fun i => argG m c i
abbrev change (c : Dev nD) : FVec Ideal S512x2048 .f32 := fun i => delta (argW m c i) (argG m c i) (argM m c i) (argV m c i)
abbrev first (c : Dev nD) : FVec Ideal S512x2048 .f32 := fun i => nextM (argG m c i) (argM m c i)
abbrev second (c : Dev nD) : FVec Ideal S512x2048 .f32 := fun i => nextV (argG m c i) (argV m c i)

/-- Point `t`'s blocks are rows `256 t` to `256 t + 255`; the points' blocks cover an array. -/
theorem rows4 : ∀ t : Fin cfg0.N, (win0_4.index t 0 = t.val ∧ win0_4.index t 1 = 0) ∧ win0_4.xsize (grid0.coords t) 0 = 256 ∧ win0_4.xsize (grid0.coords t) 1 = 2048 :=
  (by decide +kernel : ∀ t : Fin grid0.N, (win0_4.index t 0 = t.val ∧ win0_4.index t 1 = 0) ∧ win0_4.xsize (grid0.coords t) 0 = 256 ∧ win0_4.xsize (grid0.coords t) 1 = 2048)
theorem covered (i : S512x2048.Idx) : ∃ t : Fin cfg0.N, i ∈ ((View.whole main_v0_0).slice (win0_4.rect t)).set := by
  have i0 : (i 0).val < 512 := (i 0).isLt
  have hN : (i 0).val / 256 < cfg0.N := by show _ < 2; omega
  obtain ⟨ea, ex⟩ := rows4 ⟨(i 0).val / 256, hN⟩
  refine ⟨⟨(i 0).val / 256, hN⟩, ?_⟩
  rw [View.set_slice_whole]
  exact Rect.mem_set_unit.2 (in_rows (i := fun a => (i a).val) _ _ S256x2048.size (by decide) ea ex rfl rfl (i 1).isLt)

theorem final4 (c : Dev nD) : (dats m 0 c).arrAt 4 cfg0.N = passed m c := by
  refine (dats m 0 c).arrAt_eq_of_cover 4 (passed m c) (fun t _ => ?_) (fun i => (covered i).imp fun t ht => ⟨flush0_4 t, ht⟩)
  rw [Value.flushed4]
  unfold out0_4
  rw [View.canon_unit_zero origin]
  simp only [View.ld_unit_zero (S := S256x2048) origin]
  rfl
theorem final5 (c : Dev nD) : (dats m 0 c).arrAt 5 cfg0.N = change m c := by
  refine (dats m 0 c).arrAt_eq_of_cover 5 (change m c) (fun t _ => ?_) (fun i => (covered i).imp fun t ht => ⟨flush0_5 t, ht⟩)
  rw [Value.flushed5]
  unfold out0_5
  rw [View.canon_unit_zero origin]
  simp only [View.ld_unit_zero (S := S256x2048) origin]
  rfl
theorem final6 (c : Dev nD) : (dats m 0 c).arrAt 6 cfg0.N = first m c := by
  refine (dats m 0 c).arrAt_eq_of_cover 6 (first m c) (fun t _ => ?_) (fun i => (covered i).imp fun t ht => ⟨flush0_6 t, ht⟩)
  rw [Value.flushed6]
  unfold out0_6
  rw [View.canon_unit_zero origin]
  simp only [View.ld_unit_zero (S := S256x2048) origin]
  rfl
theorem final7 (c : Dev nD) : (dats m 0 c).arrAt 7 cfg0.N = second m c := by
  refine (dats m 0 c).arrAt_eq_of_cover 7 (second m c) (fun t _ => ?_) (fun i => (covered i).imp fun t ht => ⟨flush0_7 t, ht⟩)
  rw [Value.flushed7]
  unfold out0_7
  rw [View.canon_unit_zero origin]
  simp only [View.ld_unit_zero (S := S256x2048) origin]
  rfl

theorem frame_kernel : Cert.quiescent_AdamOut := fun m ρ _ => Cert.AdamOut.Gen.frame m ρ
theorem frame_ideal : Cert.quiescent_AdamOutIdeal := fun m ρ _ => Cert.AdamOutIdeal.Gen.frame m ρ
theorem frame_ref : Cert.quiescent_AdamOutRefIdeal := fun m ρ _ =>
  (θ_run _ _ _).mono (fun r h => ⟨fun c => (h c).2.2.2.2, sem_eq_zero_of_no_sems (by decide) r.2⟩) (Cert.AdamOutRefIdeal.Value.run (F := Ideal) m ρ)

/-- Both programs run, and their results are equal. -/
theorem values : Cert.algebraic_AdamOutIdeal_AdamOutRefIdeal := by
  intro m g m' g' _ hargs
  refine ⟨passed m, change m, first m, second m, ?_, ?_⟩
  · refine (θ_run Cert.AdamOutIdeal.defs _ _).mono (fun r h c => ?_) (Value.run_blocks (F := Ideal) m g)
    obtain ⟨h4, h5, h6, h7, hk⟩ := h c
    exact ⟨h4.trans (final4 m c), h5.trans (final5 m c), h6.trans (final6 m c), h7.trans (final7 m c), hk⟩
  · refine (θ_run Cert.AdamOutRefIdeal.defs _ _).mono (fun r h c => ?_) (Cert.AdamOutRefIdeal.Value.run (F := Ideal) m' g')
    obtain ⟨h4, h5, h6, h7, hk⟩ := h c
    obtain ⟨e0, e1, e2, e3⟩ := hargs c
    rw [e1] at h4
    rw [e0, e1, e2, e3] at h5
    rw [e1, e2] at h6
    rw [e1, e3] at h7
    exact ⟨h4.trans rfl, h5.trans rfl, h6.trans rfl, h7.trans rfl, hk⟩

end Cert.AdamOutIdeal.Update

end
-- ==== Proof.AdamAda.lean ====
module

public import proofs.«01_k».proof.Proof.AdamOut
public import proofs.«01_k».proof.Proof.Gen.AdamAdaIdeal.Value
public import proofs.«01_k».proof.Proof.Gen.AdamAda.Frame
public import proofs.«01_k».proof.Proof.Gen.AdamAdaRefIdeal.Run
public import proofs.«01_k».proof.Defs
public import Idealize.ShloMosaic.Lib.Quiescent

@[expose] public section

set_option maxRecDepth 16384

noncomputable section

/-! The optimiser's call on a device's part of the modulation's weight (2048 rows of 4608 columns, 64 rows at a time): its result arrays, element by element. -/

namespace Cert.AdamAdaIdeal.Update

open Idealize.ShloMosaic Idealize.ShloMosaic.TcCoe Idealize.SL.Sem
open Cert.AdamAdaIdeal Cert.AdamAdaIdeal.Gen
open Cert.Adam (nextM nextV delta origin in_rows)

variable (m : (ℓ : Loc nD τ sig) → Buf (Elt Ideal) ℓ)

abbrev argW (c : Dev nD) : FVec Ideal S2048x4608 .f32 := m ((c.tc : Thread nD τ).loc main_arg0)
abbrev argG (c : Dev nD) : FVec Ideal S2048x4608 .f32 := m ((c.tc : Thread nD τ).loc main_arg1)
abbrev argM (c : Dev nD) : FVec Ideal S2048x4608 .f32 := m ((c.tc : Thread nD τ).loc main_arg2)
abbrev argV (c : Dev nD) : FVec Ideal S2048x4608 .f32 := m ((c.tc : Thread nD τ).loc main_arg3)

abbrev change (c : Dev nD) : FVec Ideal S2048x4608 .f32 := fun i => delta (argW m c i) (argG m c i) (argM m c i) (argV m c i)
abbrev first (c : Dev nD) : FVec Ideal S2048x4608 .f32 := fun i => nextM (argG m c i) (argM m c i)
abbrev second (c : Dev nD) : FVec Ideal S2048x4608 .f32 := fun i => nextV (argG m c i) (argV m c i)

/-- Point `t`'s blocks are rows `64 t` to `64 t + 63`; the points' blocks cover an array. -/
theorem rows4 : ∀ t : Fin cfg0.N, (win0_4.index t 0 = t.val ∧ win0_4.index t 1 = 0) ∧ win0_4.xsize (grid0.coords t) 0 = 64 ∧ win0_4.xsize (grid0.coords t) 1 = 4608 :=
  (by decide +kernel : ∀ t : Fin grid0.N, (win0_4.index t 0 = t.val ∧ win0_4.index t 1 = 0) ∧ win0_4.xsize (grid0.coords t) 0 = 64 ∧ win0_4.xsize (grid0.coords t) 1 = 4608)
theorem covered (i : S2048x4608.Idx) : ∃ t : Fin cfg0.N, i ∈ ((View.whole main_v0_0).slice (win0_4.rect t)).set := by
  have i0 : (i 0).val < 2048 := (i 0).isLt
  have hN : (i 0).val / 64 < cfg0.N := by show _ < 32; omega
  obtain ⟨ea, ex⟩ := rows4 ⟨(i 0).val / 64, hN⟩
  refine ⟨⟨(i 0).val / 64, hN⟩, ?_⟩
  rw [View.set_slice_whole]
  exact Rect.mem_set_unit.2 (in_rows (i := fun a => (i a).val) _ _ S64x4608.size (by decide) ea ex rfl rfl (i 1).isLt)

theorem final4 (c : Dev nD) : (dats m 0 c).arrAt 4 cfg0.N = change m c := by
  refine (dats m 0 c).arrAt_eq_of_cover 4 (change m c) (fun t _ => ?_) (fun i => (covered i).imp fun t ht => ⟨flush0_4 t, ht⟩)
  rw [Value.flushed4]
  unfold out0_4
  rw [View.canon_unit_zero origin]
  simp only [View.ld_unit_zero (S := S64x4608) origin]
  rfl
theorem final5 (c : Dev nD) : (dats m 0 c).arrAt 5 cfg0.N = first m c := by
  refine (dats m 0 c).arrAt_eq_of_cover 5 (first m c) (fun t _ => ?_) (fun i => (covered i).imp fun t ht => ⟨flush0_5 t, ht⟩)
  rw [Value.flushed5]
  unfold out0_5
  rw [View.canon_unit_zero origin]
  simp only [View.ld_unit_zero (S := S64x4608) origin]
  rfl
theorem final6 (c : Dev nD) : (dats m 0 c).arrAt 6 cfg0.N = second m c := by
  refine (dats m 0 c).arrAt_eq_of_cover 6 (second m c) (fun t _ => ?_) (fun i => (covered i).imp fun t ht => ⟨flush0_6 t, ht⟩)
  rw [Value.flushed6]
  unfold out0_6
  rw [View.canon_unit_zero origin]
  simp only [View.ld_unit_zero (S := S64x4608) origin]
  rfl

theorem frame_kernel : Cert.quiescent_AdamAda := fun m ρ _ => Cert.AdamAda.Gen.frame m ρ
theorem frame_ideal : Cert.quiescent_AdamAdaIdeal := fun m ρ _ => Cert.AdamAdaIdeal.Gen.frame m ρ
theorem frame_ref : Cert.quiescent_AdamAdaRefIdeal := fun m ρ _ =>
  (θ_run _ _ _).mono (fun r h => ⟨fun c => (h c).2.2.2, sem_eq_zero_of_no_sems (by decide) r.2⟩) (Cert.AdamAdaRefIdeal.Value.run (F := Ideal) m ρ)

/-- Both programs run, and their results are equal. -/
theorem values : Cert.algebraic_AdamAdaIdeal_AdamAdaRefIdeal := by
  intro m g m' g' _ hargs
  refine ⟨change m, first m, second m, ?_, ?_⟩
  · refine (θ_run Cert.AdamAdaIdeal.defs _ _).mono (fun r h c => ?_) (Value.run_blocks (F := Ideal) m g)
    obtain ⟨h4, h5, h6, hk⟩ := h c
    exact ⟨h4.trans (final4 m c), h5.trans (final5 m c), h6.trans (final6 m c), hk⟩
  · refine (θ_run Cert.AdamAdaRefIdeal.defs _ _).mono (fun r h c => ?_) (Cert.AdamAdaRefIdeal.Value.run (F := Ideal) m' g')
    obtain ⟨h4, h5, h6, hk⟩ := h c
    obtain ⟨e0, e1, e2, e3⟩ := hargs c
    rw [e0, e1, e2, e3] at h4
    rw [e1, e2] at h5
    rw [e1, e3] at h6
    exact ⟨h4.trans rfl, h5.trans rfl, h6.trans rfl, hk⟩

end Cert.AdamAdaIdeal.Update

end
-- ==== Proof.Small.lean ====
module

public import proofs.«01_k».proof.Proof.AdamAda
public import proofs.«01_k».proof.Proof.Gen.SmallIdeal.Value
public import proofs.«01_k».proof.Proof.Gen.Small.Frame
public import proofs.«01_k».proof.Proof.Gen.SmallRefIdeal.Run
public import proofs.«01_k».proof.Defs
public import Idealize.ShloMosaic.Lib.Quiescent
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! The optimiser's call on the packed small weights: the devices' gradients, summed, and the update from their sum. -/

namespace Cert.SmallIdeal.Update

open Idealize.ShloMosaic Idealize.ShloMosaic.TcCoe Idealize.SL.Sem
open Cert.SmallIdeal Cert.SmallIdeal.Gen
open Cert.Adam (nextM nextV delta)

/-- The devices' sum. -/
def sums (x : S8x1264x128.Idx → EReal) (i : S1264x128.Idx) : EReal := ∑ d : Fin 8, x (ix3 d (i 0) (i 1))

/-- Device `d`'s part, as the body loads it. -/
theorem ld_at (x : Vec Ideal S8x1264x128 .f32) (d : ℕ) (hd : d < 8) (h : ∀ a, (![d, 0, 0] : Fin 3 → ℕ) a + S1x1264x128.size a ≤ S8x1264x128.size a)
    (p : Fin 1264) (q : Fin 128) :
    View.ld x (Rect.unit (s := S8x1264x128) ![d, 0, 0] S1x1264x128.size h) (ix3 0 p q) = x (ix3 ⟨d, hd⟩ p q) := by
  refine congrArg x (funext fun a => Fin.ext ((Rect.idx_unit_val _ _ _ _ _).trans ?_))
  match a with
  | ⟨0, _⟩ => exact Nat.add_zero d
  | ⟨1, _⟩ => exact Nat.zero_add p.val
  | ⟨2, _⟩ => exact Nat.zero_add q.val

theorem pay4_at (v0 v1 v2 v3 v4 v5 v6 v7 : Vec Ideal S1x1264x128 .f32) (p : Fin 1264) (q : Fin 128) :
    (k0_pay4 v0 v1 v2 v3 v4 v5 v6 v7 (ix2 p q) : EReal) = v0 (ix3 0 p q) + v1 (ix3 0 p q) + v2 (ix3 0 p q) + v3 (ix3 0 p q) + v4 (ix3 0 p q) + v5 (ix3 0 p q) + v6 (ix3 0 p q) + v7 (ix3 0 p q) := by
  pointwise [k0_pay4]

theorem sums_eq (x : Vec Ideal S8x1264x128 .f32) (w u v : Vec Ideal S1264x128 .f32) : Value.G4 x w u v = sums x := by
  funext i; obtain ⟨p, q, rfl⟩ : ∃ p q, i = ix2 p q := ⟨i 0, i 1, eq_ix2 i⟩
  refine (pay4_at _ _ _ _ _ _ _ _ p q).trans ?_
  unfold sums
  rw [Fin.sum_univ_eight]
  rw [ld_at x 0 (by decide), ld_at x 1 (by decide), ld_at x 2 (by decide), ld_at x 3 (by decide), ld_at x 4 (by decide), ld_at x 5 (by decide), ld_at x 6 (by decide), ld_at x 7 (by decide)]; rfl

/-! ## The update's three arrays, of the summed gradient -/

theorem change_eq (g w u v : Vec Ideal S1264x128 .f32) : k0_pay3 g w u v = fun i => delta (w i) (g i) (u i) (v i) := rfl
theorem first_eq (g u : Vec Ideal S1264x128 .f32) : k0_pay1 g u = fun i => nextM (g i) (u i) := rfl
theorem second_eq (g v : Vec Ideal S1264x128 .f32) : k0_pay2 g v = fun i => nextV (g i) (v i) := rfl

theorem frame_kernel : Cert.quiescent_Small := fun m ρ _ => Cert.Small.Gen.frame m ρ
theorem frame_ideal : Cert.quiescent_SmallIdeal := fun m ρ _ => Cert.SmallIdeal.Gen.frame m ρ
theorem frame_ref : Cert.quiescent_SmallRefIdeal := fun m ρ _ =>
  (θ_run _ _ _).mono (fun r h => ⟨fun c => (h c).2.2.2.2, sem_eq_zero_of_no_sems (by decide) r.2⟩) (Cert.SmallRefIdeal.Value.run (F := Ideal) m ρ)

section Ref
open Cert.SmallRefIdeal Cert.SmallRefIdeal.Gen

theorem ref_sums (x : FVec Ideal S8x1264x128 .f32) :
    Host.reduceAdd x (constant S_ .f32 0x00000000#32) reducesTo_S8x1264x128_S1264x128_d0 h_S_ = sums x := by
  funext i; obtain ⟨p, q, rfl⟩ : ∃ p q, i = ix2 p q := ⟨i 0, i 1, eq_ix2 i⟩
  unfold sums
  pointwise

end Ref

/-- Both programs run, and their four results are equal. -/
theorem values : Cert.algebraic_SmallIdeal_SmallRefIdeal := by
  intro m g m' g' _ hargs
  let W : Dev nD → FVec Ideal S1264x128 .f32 := fun c => m ((c.tc : Thread nD τ).loc main_arg1)
  let U : Dev nD → FVec Ideal S1264x128 .f32 := fun c => m ((c.tc : Thread nD τ).loc main_arg2)
  let V : Dev nD → FVec Ideal S1264x128 .f32 := fun c => m ((c.tc : Thread nD τ).loc main_arg3)
  let G : Dev nD → FVec Ideal S1264x128 .f32 := fun c => sums (m ((c.tc : Thread nD τ).loc main_arg0))
  refine ⟨G, fun c i => delta (W c i) (G c i) (U c i) (V c i), fun c i => nextM (G c i) (U c i), fun c i => nextV (G c i) (V c i), ?_, ?_⟩
  · refine (θ_run Cert.SmallIdeal.defs _ _).mono (fun r h c => ?_) (Value.run (F := Ideal) m g)
    obtain ⟨h4, h5, h6, h7, hk⟩ := h c
    have e := sums_eq (m ((c.tc : Thread nD τ).loc main_arg0)) (W c) (U c) (V c)
    exact ⟨h4.trans e, (h5.trans (change_eq _ _ _ _)).trans (funext fun i => congrArg (fun s => delta (W c i) s (U c i) (V c i)) (congrFun e i)),
      (h6.trans (first_eq _ _)).trans (funext fun i => congrArg (fun s => nextM s (U c i)) (congrFun e i)),
      (h7.trans (second_eq _ _)).trans (funext fun i => congrArg (fun s => nextV s (V c i)) (congrFun e i)), hk⟩
  · refine (θ_run Cert.SmallRefIdeal.defs _ _).mono (fun r h c => ?_) (Cert.SmallRefIdeal.Value.run (F := Ideal) m' g')
    obtain ⟨h4, h5, h6, h7, hk⟩ := h c
    obtain ⟨e0, e1, e2, e3⟩ := hargs c
    rw [ref_sums] at h4 h5 h6 h7
    rw [e0] at h4
    rw [e0, e1, e2, e3] at h5
    rw [e0, e2] at h6
    rw [e0, e3] at h7
    exact ⟨h4, h5.trans rfl, h6.trans rfl, h7.trans rfl, hk⟩

end Cert.SmallIdeal.Update

end
-- ==== Proof.GradWAda.lean ====
module

public import proofs.«01_k».proof.Proof.Small
public import proofs.«01_k».proof.Proof.Gen.GradWAdaIdeal.Value
public import proofs.«01_k».proof.Proof.Gen.GradWAda.Frame
public import proofs.«01_k».proof.Proof.Gen.GradWAdaRefIdeal.Run
public import proofs.«01_k».proof.Defs
public import Idealize.ShloMosaic.Lib.Quiescent
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! The gradient of the modulation's weight: `silu c` transposed times the cotangent of the modulation, over the eight
devices' rows.  The call pads both to sixteen rows; the padding's terms are zero. -/

namespace Cert.GradWAdaIdeal.Grad

open Idealize.ShloMosaic Idealize.ShloMosaic.TcCoe Idealize.SL.Sem
open Cert.GradWAdaIdeal Cert.GradWAdaIdeal.Gen
open Cert.Adam (origin)

variable (m : (ℓ : Loc nD τ sig) → Buf (Elt Ideal) ℓ)

abbrev argC (c : Dev nD) : FVec Ideal S8x2048 .f32 := m ((c.tc : Thread nD τ).loc main_arg0)
abbrev argD (c : Dev nD) : FVec Ideal S8x4608 .f32 := m ((c.tc : Thread nD τ).loc main_arg2)

/-- `silu` of an array, as the host computes it. -/
def silu (x : FVec Ideal S8x2048 .f32) : FVec Ideal S8x2048 .f32 :=
  mulf x (Host.divf (broadcastInDim S8x2048 ![] bcast_S_S8x2048 (constant S_ .f32 0x3F800000#32)) (addf (broadcastInDim S8x2048 ![] bcast_S_S8x2048 (constant S_ .f32 0x3F800000#32)) (Host.exp (Host.negf x))))

/-- The padding's value. -/
def zero : FVec Ideal S_ .f32 := sitofp .f32 (constantI S_ 32 0#32)

theorem zero_is : (FloatOps.sitofp (F := Ideal) .f32 (0#32) : EReal) = 0 := by
  show (((0#32).toInt : ℝ) : EReal) = 0
  simp

theorem V_a (c : Dev nD) : V m c main_v2 = truncf (F := Ideal) .bf16 (pad S16x2048 ![0, 0] ![8, 0] ![0, 0] (silu (argC m c)) zero pads_S8x2048_S16x2048_080_000 h_S_) bitsLt_bf16_f32 := by
  unfold V silu zero
  simp only [hostOps0, hostOps0_1, hostOps0_2, hostOps0_3, hostOps0_4, hostOps0_5, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
theorem V_d (c : Dev nD) : V m c main_v4 = truncf (F := Ideal) .bf16 (pad S16x4608 ![0, 0] ![8, 0] ![0, 0] (argD m c) zero pads_S8x4608_S16x4608_080_000 h_S_) bitsLt_bf16_f32 := by
  unfold V zero
  simp only [hostOps0, hostOps0_1, hostOps0_2, hostOps0_3, hostOps0_4, hostOps0_5, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

/-- A row of the padded arrays: the array's, or zero. -/
theorem a_at (x : FVec Ideal S8x2048 .f32) (r : Fin 16) (p : Fin 2048) :
    (truncf (F := Ideal) .bf16 (pad S16x2048 ![0, 0] ![8, 0] ![0, 0] x zero pads_S8x2048_S16x2048_080_000 h_S_) bitsLt_bf16_f32 (ix2 r p) : EReal)
      = if h : r.val < 8 then x (ix2 ⟨r.val, h⟩ p) else 0 := by
  pointwise [zero]
  exact congrArg (dite _ _) (funext fun _ => zero_is)
theorem d_at (x : FVec Ideal S8x4608 .f32) (r : Fin 16) (q : Fin 4608) :
    (truncf (F := Ideal) .bf16 (pad S16x4608 ![0, 0] ![8, 0] ![0, 0] x zero pads_S8x4608_S16x4608_080_000 h_S_) bitsLt_bf16_f32 (ix2 r q) : EReal)
      = if h : r.val < 8 then x (ix2 ⟨r.val, h⟩ q) else 0 := by
  pointwise [zero]
  exact congrArg (dite _ _) (funext fun _ => zero_is)

theorem pay1_at (x : Vec Ideal S16x1024 .bf16) (y : Vec Ideal S16x512 .bf16) (p : Fin 1024) (q : Fin 512) :
    (k0_pay1 (F := Ideal) x y (ix2 p q) : EReal) = ∑ k : Fin 16, x (ix2 k p) * y (ix2 k q) := by
  pointwise [k0_pay1]

/-- The sixteen rows' products are the eight rows'. -/
theorem sixteen (x : Fin 8 → EReal) (y : Fin 8 → EReal) :
    ∑ k : Fin 16, (if h : k.val < 8 then x ⟨k.val, h⟩ else 0) * (if h : k.val < 8 then y ⟨k.val, h⟩ else 0) = ∑ k : Fin 8, x k * y k := by
  rw [show (∑ k : Fin 16, (if h : k.val < 8 then x ⟨k.val, h⟩ else 0) * (if h : k.val < 8 then y ⟨k.val, h⟩ else 0)) = ∑ k : Fin (8 + 8), (if h : k.val < 8 then x ⟨k.val, h⟩ else 0) * (if h : k.val < 8 then y ⟨k.val, h⟩ else 0) from rfl,
    Fin.sum_univ_add]
  simp

/-! ## The array -/

abbrev arr (c : Dev nD) : FVec Ideal S2048x4608 .f32 := fun i =>
  ∑ k : Fin 8, (silu (argC m c) (ix2 k (i 0)) : EReal) * argD m c (ix2 k (i 1))

theorem at0 : ∀ t : Fin cfg0.N, win0_0.index t 0 = 0 ∧ win0_0.index t 1 = t.val / 9 :=
  (by decide +kernel : ∀ t : Fin grid0.N, win0_0.index t 0 = 0 ∧ win0_0.index t 1 = t.val / 9)
theorem at1 : ∀ t : Fin cfg0.N, win0_1.index t 0 = 0 ∧ win0_1.index t 1 = t.val % 9 :=
  (by decide +kernel : ∀ t : Fin grid0.N, win0_1.index t 0 = 0 ∧ win0_1.index t 1 = t.val % 9)
theorem at2 : ∀ t : Fin cfg0.N, win0_2.index t 0 = t.val / 9 ∧ win0_2.index t 1 = t.val % 9 :=
  (by decide +kernel : ∀ t : Fin grid0.N, win0_2.index t 0 = t.val / 9 ∧ win0_2.index t 1 = t.val % 9)
theorem size2 : ∀ t : Fin cfg0.N, win0_2.xsize (grid0.coords t) 0 = 1024 ∧ win0_2.xsize (grid0.coords t) 1 = 512 :=
  (by decide +kernel : ∀ t : Fin grid0.N, win0_2.xsize (grid0.coords t) 0 = 1024 ∧ win0_2.xsize (grid0.coords t) 1 = 512)

abbrev blkA (c : Dev nD) (t : Fin cfg0.N) : Vec Ideal S16x1024 .bf16 := iblk m c 0 t
abbrev blkD (c : Dev nD) (t : Fin cfg0.N) : Vec Ideal S16x512 .bf16 := iblk m c 1 t

theorem blkA_at (c : Dev nD) (t : Fin cfg0.N) (k : Fin 16) (p : Fin 1024) (a : Fin 2048) (ha : t.val / 9 * 1024 + p.val = a.val) :
    (blkA m c t (ix2 k p) : EReal) = if h : k.val < 8 then silu (argC m c) (ix2 ⟨k.val, h⟩ a) else 0 := by
  show ((win0_0.blk t).view.read (Elt Ideal) (V m c main_v2) : _ → EReal) (ix2 k p) = _
  rw [V_a]
  refine Eq.trans ?_ (a_at _ k a)
  generalize (truncf (F := Ideal) .bf16 (pad S16x2048 ![0, 0] ![8, 0] ![0, 0] (silu (argC m c)) zero pads_S8x2048_S16x2048_080_000 h_S_) bitsLt_bf16_f32) = f
  refine congrArg f ((eq_ix2 _).trans (congrArg₂ ix2 (Fin.ext ?_) (Fin.ext ?_)))
  · refine (Rect.idx_unit_val _ _ _ _ _).trans ?_
    show win0_0.index t 0 * 16 + k.val = k.val
    rw [(at0 t).1]; omega
  · refine (Rect.idx_unit_val _ _ _ _ _).trans ?_
    show win0_0.index t 1 * 1024 + p.val = a.val
    rw [(at0 t).2, ha]
theorem blkD_at (c : Dev nD) (t : Fin cfg0.N) (k : Fin 16) (q : Fin 512) (b : Fin 4608) (hb : t.val % 9 * 512 + q.val = b.val) :
    (blkD m c t (ix2 k q) : EReal) = if h : k.val < 8 then argD m c (ix2 ⟨k.val, h⟩ b) else 0 := by
  show ((win0_1.blk t).view.read (Elt Ideal) (V m c main_v4) : _ → EReal) (ix2 k q) = _
  rw [V_d]
  refine Eq.trans ?_ (d_at _ k b)
  generalize (truncf (F := Ideal) .bf16 (pad S16x4608 ![0, 0] ![8, 0] ![0, 0] (argD m c) zero pads_S8x4608_S16x4608_080_000 h_S_) bitsLt_bf16_f32) = f
  refine congrArg f ((eq_ix2 _).trans (congrArg₂ ix2 (Fin.ext ?_) (Fin.ext ?_)))
  · refine (Rect.idx_unit_val _ _ _ _ _).trans ?_
    show win0_1.index t 0 * 16 + k.val = k.val
    rw [(at1 t).1]; omega
  · refine (Rect.idx_unit_val _ _ _ _ _).trans ?_
    show win0_1.index t 1 * 512 + q.val = b.val
    rw [(at1 t).2, hb]

theorem read2 (t : Fin cfg0.N) (G : S2048x4608.Idx → EReal) (j : (win0_2.xblock (grid0.coords t)).Idx) (i : S2048x4608.Idx)
    (h0 : t.val / 9 * 1024 + (j 0).val = (i 0).val) (h1 : t.val % 9 * 512 + (j 1).val = (i 1).val) :
    ((win0_2.blk t).view.read (Elt Ideal) G : _ → EReal) j = G i := by
  refine congrArg G (funext fun a => Fin.ext ?_)
  match a with
  | ⟨0, _⟩ =>
    refine (Rect.idx_unit_val _ _ _ _ _).trans ?_
    show win0_2.index t 0 * 1024 + (j 0).val = (i 0).val
    rw [(at2 t).1, h0]
  | ⟨1, _⟩ =>
    refine (Rect.idx_unit_val _ _ _ _ _).trans ?_
    show win0_2.index t 1 * 512 + (j 1).val = (i 1).val
    rw [(at2 t).2, h1]

theorem final (c : Dev nD) : (dats m 0 c).arrAt 2 cfg0.N = arr m c := by
  refine (dats m 0 c).arrAt_eq_of_cover 2 (arr m c) (fun t _ => ?_) (fun i => ?_)
  · have hN : t.val < 18 := t.isLt
    rw [Value.flushed2]
    unfold out0_2
    rw [View.canon_unit_zero origin]
    simp only [View.ld_unit_zero (S := S16x1024) origin, View.ld_unit_zero (S := S16x512) origin]
    funext j
    have j0 : (j 0).val < 1024 := lt_of_lt_of_eq (j 0).isLt (size2 t).1
    have j1 : (j 1).val < 512 := lt_of_lt_of_eq (j 1).isLt (size2 t).2
    refine Eq.trans ?_ (read2 t (arr m c) j (ix2 ⟨t.val / 9 * 1024 + (j 0).val, by omega⟩ ⟨t.val % 9 * 512 + (j 1).val, by omega⟩) rfl rfl).symm
    refine Eq.trans (congrArg (k0_pay1 (F := Ideal) (blkA m c t) (blkD m c t)) (funext fun a => by fin_cases a <;> rfl)) ((pay1_at (blkA m c t) (blkD m c t) ⟨(j 0).val, j0⟩ ⟨(j 1).val, j1⟩).trans ?_)
    refine (Finset.sum_congr rfl fun k _ => congrArg₂ _ (blkA_at m c t k ⟨(j 0).val, j0⟩ ⟨t.val / 9 * 1024 + (j 0).val, by omega⟩ rfl) (blkD_at m c t k ⟨(j 1).val, j1⟩ ⟨t.val % 9 * 512 + (j 1).val, by omega⟩ rfl)).trans ?_
    exact sixteen (fun k => silu (argC m c) (ix2 k _)) (fun k => argD m c (ix2 k _))
  · have i0 : (i 0).val < 2048 := (i 0).isLt
    have i1 : (i 1).val < 4608 := (i 1).isLt
    have hN : (i 0).val / 1024 * 9 + (i 1).val / 512 < cfg0.N := by show _ < 18; omega
    refine ⟨⟨(i 0).val / 1024 * 9 + (i 1).val / 512, hN⟩, flush0_2 _, ?_⟩
    show i ∈ ((View.whole main_v5).slice (win0_2.rect ⟨(i 0).val / 1024 * 9 + (i 1).val / 512, hN⟩)).set
    rw [View.set_slice_whole]
    refine Rect.mem_set_unit.2 fun a => ?_
    have ea := at2 ⟨_, hN⟩
    have ex := size2 ⟨_, hN⟩
    match a with
    | ⟨0, _⟩ =>
      show win0_2.index _ 0 * 1024 ≤ (i 0).val ∧ (i 0).val < win0_2.index _ 0 * 1024 + win0_2.xsize (grid0.coords _) 0
      rw [ea.1, ex.1]; dsimp only; omega
    | ⟨1, _⟩ =>
      show win0_2.index _ 1 * 512 ≤ (i 1).val ∧ (i 1).val < win0_2.index _ 1 * 512 + win0_2.xsize (grid0.coords _) 1
      rw [ea.2, ex.2]; dsimp only; omega

/-! ## The claims -/

theorem frame_kernel : Cert.quiescent_GradWAda := fun m ρ _ => Cert.GradWAda.Gen.frame m ρ
theorem frame_ideal : Cert.quiescent_GradWAdaIdeal := fun m ρ _ => Cert.GradWAdaIdeal.Gen.frame m ρ
theorem frame_ref : Cert.quiescent_GradWAdaRefIdeal := fun m ρ _ =>
  (θ_run _ _ _).mono (fun r h => ⟨fun c => (h c).2, sem_eq_zero_of_no_sems (by decide) r.2⟩) (Cert.GradWAdaRefIdeal.Value.run (F := Ideal) m ρ)

section Ref
open Cert.GradWAdaRefIdeal Cert.GradWAdaRefIdeal.Gen

/-- The reference's array, entry by entry. -/
theorem ref_at (x : FVec Ideal S8x2048 .f32) (y : FVec Ideal S8x4608 .f32) (a : Fin 2048) (b : Fin 4608) :
    (transpose S2048x4608 [1, 0] (Host.dotGeneral (F := Ideal) (φ₁ := .f32) (φ₂ := .f32) dot_S8x4608_S8x2048_S4608x2048_0_0_1_1_n_n none y x) transposes_S4608x2048_S2048x4608_1_0 (ix2 a b) : EReal)
      = ∑ k : Fin 8, y (ix2 k b) * x (ix2 k a) := by
  pointwise

end Ref

/-- Both programs run, and their results are equal. -/
theorem values : Cert.algebraic_GradWAdaIdeal_GradWAdaRefIdeal := by
  intro m g m' g' _ hargs
  refine ⟨fun c => arr m c, ?_, ?_⟩
  · refine (θ_run Cert.GradWAdaIdeal.defs _ _).mono (fun r h c => ?_) (Value.run_blocks (F := Ideal) m g)
    exact ⟨(h c).1.trans (final m c), (h c).2⟩
  · refine (θ_run Cert.GradWAdaRefIdeal.defs _ _).mono (fun r h c => ?_) (Cert.GradWAdaRefIdeal.Value.run (F := Ideal) m' g')
    obtain ⟨h0, hk⟩ := h c
    obtain ⟨e0, e1, e2⟩ := hargs c
    rw [e0, e2] at h0
    refine ⟨h0.trans (funext fun i => ?_), hk⟩
    obtain ⟨a, b, rfl⟩ : ∃ a b, i = ix2 a b := ⟨i 0, i 1, eq_ix2 i⟩
    exact (ref_at _ _ _ _).trans (Finset.sum_congr rfl fun r _ => mul_comm _ _)

end Cert.GradWAdaIdeal.Grad

end
-- ==== Proof.GradW1.lean ====
module

public import proofs.«01_k».proof.Proof.GradWAda
public import proofs.«01_k».proof.Proof.Gen.GradW1Ideal.Value
public import proofs.«01_k».proof.Proof.Gen.GradW1.Frame
public import proofs.«01_k».proof.Proof.Gen.GradW1RefIdeal.Run
public import proofs.«01_k».proof.Defs
public import Idealize.ShloMosaic.Lib.Quiescent
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! A product of two arrays over their rows, by parts of 2048 rows. -/

namespace Cert.Rows

open Idealize.ShloMosaic

/-- Row `r`'s term of entry `(a, b)`: zero below the arrays. -/
def term {A B : ℕ} (x : Fin 8192 → Fin A → EReal) (y : Fin 8192 → Fin B → EReal) (a : Fin A) (b : Fin B) (r : ℕ) : EReal :=
  if hr : r < 8192 then x ⟨r, hr⟩ a * y ⟨r, hr⟩ b else 0
/-- The entry's sum over the first `n` rows. -/
def upto {A B : ℕ} (x : Fin 8192 → Fin A → EReal) (y : Fin 8192 → Fin B → EReal) (a : Fin A) (b : Fin B) (n : ℕ) : EReal :=
  ∑ r ∈ Finset.range n, term x y a b r

theorem upto_zero {A B : ℕ} (x : Fin 8192 → Fin A → EReal) (y : Fin 8192 → Fin B → EReal) (a : Fin A) (b : Fin B) :
    upto x y a b 0 = 0 := Finset.sum_range_zero _
theorem upto_all {A B : ℕ} (x : Fin 8192 → Fin A → EReal) (y : Fin 8192 → Fin B → EReal) (a : Fin A) (b : Fin B) :
    upto x y a b 8192 = ∑ r : Fin 8192, x r a * y r b := by
  unfold upto
  rw [Finset.sum_range]
  exact Finset.sum_congr rfl fun r _ => dif_pos r.isLt
/-- The rows of one more part. -/
theorem upto_add {A B : ℕ} (x : Fin 8192 → Fin A → EReal) (y : Fin 8192 → Fin B → EReal) (a : Fin A) (b : Fin B) (s : ℕ) (hs : s < 4) :
    upto x y a b ((s + 1) * 2048)
      = upto x y a b (s * 2048) + ∑ k : Fin 2048, x ⟨s * 2048 + k.val, by omega⟩ a * y ⟨s * 2048 + k.val, by omega⟩ b := by
  unfold upto
  rw [Nat.succ_mul, Finset.sum_range_add, Finset.sum_range (n := 2048)]
  exact congrArg _ (Finset.sum_congr rfl fun k _ => dif_pos (by omega))

end Cert.Rows

/-! The gradient of the first weights: `h` transposed times `da`, summed over four parts of the rows. -/

namespace Cert.GradW1Ideal.Grad

open Idealize.ShloMosaic Idealize.ShloMosaic.TcCoe Idealize.SL.Sem
open Cert.GradW1Ideal Cert.GradW1Ideal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The call's two arrays, row by row. -/
abbrev rowH (c : Dev nD) (r : Fin 8192) (a : Fin 2048) : EReal := m ((c.tc : Thread nD τ).loc main_arg0) (ix2 r a)
abbrev rowD (c : Dev nD) (r : Fin 8192) (b : Fin 5632) : EReal := m ((c.tc : Thread nD τ).loc main_arg2) (ix2 r b)

theorem V_h (c : Dev nD) : V m c main_v0 = m ((c.tc : Thread nD τ).loc main_arg0) := by
  have h : V m c main_v0 = truncf (F := Ideal) .bf16 (m ((c.tc : Thread nD τ).loc main_arg0)) bitsLt_bf16_f32 := by
    unfold V; simp only [hostOps0]; after_results_simp
  rw [h]; exact funext fun i => rfl
theorem V_d (c : Dev nD) : V m c main_v1 = m ((c.tc : Thread nD τ).loc main_arg2) := by
  have h : V m c main_v1 = truncf (F := Ideal) .bf16 (m ((c.tc : Thread nD τ).loc main_arg2)) bitsLt_bf16_f32 := by
    unfold V; simp only [hostOps0]; after_results_simp
  rw [h]; exact funext fun i => rfl

/-! ## The blocks -/

theorem at0 : ∀ t : Fin cfg0.N, win0_0.index t 0 = t.val % 4 ∧ win0_0.index t 1 = t.val / 16 :=
  (by decide +kernel : ∀ t : Fin grid0.N, win0_0.index t 0 = t.val % 4 ∧ win0_0.index t 1 = t.val / 16)
theorem at1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)
theorem at2 : ∀ t : Fin cfg0.N, win0_2.index t 0 = t.val / 4 % 4 ∧ win0_2.index t 1 = t.val / 16 ∧ win0_2.index t 2 = 0 :=
  (by decide +kernel : ∀ t : Fin grid0.N, win0_2.index t 0 = t.val / 4 % 4 ∧ win0_2.index t 1 = t.val / 16 ∧ win0_2.index t 2 = 0)
theorem size2 : ∀ t : Fin cfg0.N, win0_2.xsize (grid0.coords t) 0 = 1 ∧ win0_2.xsize (grid0.coords t) 1 = 1024 ∧ win0_2.xsize (grid0.coords t) 2 = 1408 :=
  (by decide +kernel : ∀ t : Fin grid0.N, win0_2.xsize (grid0.coords t) 0 = 1 ∧ win0_2.xsize (grid0.coords t) 1 = 1024 ∧ win0_2.xsize (grid0.coords t) 2 = 1408)

abbrev blkH (c : Dev nD) (t : Fin cfg0.N) : Vec Ideal S2048x1024 .bf16 := iblk m c 0 t
abbrev blkD (c : Dev nD) (t : Fin cfg0.N) : Vec Ideal S2048x1408 .bf16 := iblk m c 1 t

theorem blkH_at (c : Dev nD) (t : Fin cfg0.N) (k : Fin 2048) (p : Fin 1024) (r : Fin 8192) (a : Fin 2048)
    (hr : t.val % 4 * 2048 + k.val = r.val) (ha : t.val / 16 * 1024 + p.val = a.val) : (blkH m c t (ix2 k p) : EReal) = rowH m c r a := by
  show ((win0_0.blk t).view.read (Elt Ideal) (V m c main_v0) : _ → EReal) (ix2 k p) = _
  rw [V_h]
  refine congrArg (m ((c.tc : Thread nD τ).loc main_arg0)) ((eq_ix2 _).trans (congrArg₂ ix2 (Fin.ext ?_) (Fin.ext ?_)))
  · refine (Rect.idx_unit_val _ _ _ _ _).trans ?_
    show win0_0.index t 0 * 2048 + k.val = r.val
    rw [(at0 t).1, hr]
  · refine (Rect.idx_unit_val _ _ _ _ _).trans ?_
    show win0_0.index t 1 * 1024 + p.val = a.val
    rw [(at0 t).2, ha]
theorem blkD_at (c : Dev nD) (t : Fin cfg0.N) (k : Fin 2048) (q : Fin 1408) (r : Fin 8192) (b : Fin 5632)
    (hr : t.val % 4 * 2048 + k.val = r.val) (hb : t.val / 4 % 4 * 1408 + q.val = b.val) : (blkD m c t (ix2 k q) : EReal) = rowD m c r b := by
  show ((win0_1.blk t).view.read (Elt Ideal) (V m c main_v1) : _ → EReal) (ix2 k q) = _
  rw [V_d]
  refine congrArg (m ((c.tc : Thread nD τ).loc main_arg2)) ((eq_ix2 _).trans (congrArg₂ ix2 (Fin.ext ?_) (Fin.ext ?_)))
  · refine (Rect.idx_unit_val _ _ _ _ _).trans ?_
    show win0_1.index t 0 * 2048 + k.val = r.val
    rw [(at1 t).1, hr]
  · refine (Rect.idx_unit_val _ _ _ _ _).trans ?_
    show win0_1.index t 1 * 1408 + q.val = b.val
    rw [(at1 t).2, hb]

/-! ## What a point leaves -/

theorem out_A (c : Dev nD) (i : grid0.Coords) (a3 : Memref sig .tc .vmem S2048x1024 .bf16) (h3 : a3.IsWhole) (a4 : Memref sig .tc .vmem S2048x1408 .bf16) (h4 : a4.IsWhole) (a5 : Memref sig .tc .vmem S1x1024x1408 .f32) (h5 : a5.IsWhole) (hc0 : cond0_0 i) (hc1 : ¬cond0_1 i)
    (x : Vec Ideal S2048x1024 .bf16) (y : Vec Ideal S2048x1408 .bf16) : out0_A_2 c i a3 h3 a4 h4 a5 h5 hc0 hc1 x y = k0_pay1 x y := by
  unfold out0_A_2
  rw [View.read_writes_eq_canon _ _ _ (cover0_A_2 c i a3 h3 a4 h4 a5 h5 hc0 hc1 x y)]
  unfold kernelRun0_A
  dsimp only
  rw [View.canon_unit_zero hz3]
  simp only [View.readAt_eq_ld, h3.read_unread, h4.read_unread, View.ld_unit_zero (S := S2048x1024) hz2, View.ld_unit_zero (S := S2048x1408) hz2]
theorem out_B (c : Dev nD) (i : grid0.Coords) (a3 : Memref sig .tc .vmem S2048x1024 .bf16) (h3 : a3.IsWhole) (a4 : Memref sig .tc .vmem S2048x1408 .bf16) (h4 : a4.IsWhole) (a5 : Memref sig .tc .vmem S1x1024x1408 .f32) (h5 : a5.IsWhole) (hc0 : ¬cond0_0 i) (hc1 : cond0_1 i)
    (x : Vec Ideal S2048x1024 .bf16) (y : Vec Ideal S2048x1408 .bf16) (z : Vec Ideal S1x1024x1408 .f32) : out0_B_2 c i a3 h3 a4 h4 a5 h5 hc0 hc1 x y z = k0_pay2 z x y := by
  unfold out0_B_2
  rw [View.read_writes_eq_canon _ _ _ (cover0_B_2 c i a3 h3 a4 h4 a5 h5 hc0 hc1 x y z)]
  unfold kernelRun0_B
  dsimp only
  rw [View.canon_unit_zero hz3]
  simp only [View.readAt_eq_ld, h3.read_unread, h4.read_unread, h5.read_unread, View.ld_unit_zero (S := S2048x1024) hz2, View.ld_unit_zero (S := S2048x1408) hz2, View.ld_unit_zero (S := S1x1024x1408) hz3]

theorem pay1_at (x : Vec Ideal S2048x1024 .bf16) (y : Vec Ideal S2048x1408 .bf16) (o : Fin 1) (p : Fin 1024) (q : Fin 1408) :
    (k0_pay1 (F := Ideal) x y (ix3 o p q) : EReal) = ∑ k : Fin 2048, x (ix2 k p) * y (ix2 k q) := by
  obtain rfl : o = 0 := Subsingleton.elim _ _
  pointwise [k0_pay1]
theorem pay2_at (z : Vec Ideal S1x1024x1408 .f32) (x : Vec Ideal S2048x1024 .bf16) (y : Vec Ideal S2048x1408 .bf16) (o : Fin 1) (p : Fin 1024) (q : Fin 1408) :
    (k0_pay2 (F := Ideal) z x y (ix3 o p q) : EReal) = z (ix3 o p q) + ∑ k : Fin 2048, x (ix2 k p) * y (ix2 k q) := by
  obtain rfl : o = 0 := Subsingleton.elim _ _
  pointwise [k0_pay2]

/-- After a point the output's block holds the sum over the rows of the parts so far. -/
theorem left (c : Dev nD) : ∀ (n : ℕ) (h : n < cfg0.N) (o : Fin 1) (p : Fin 1024) (q : Fin 1408) (a : Fin 2048) (b : Fin 5632)
    (ha : n / 16 * 1024 + p.val = a.val) (hb : n / 4 % 4 * 1408 + q.val = b.val),
    (outsAt0 m c n h (ix3 o p q) : EReal) = Cert.Rows.upto (rowH m c) (rowD m c) a b ((n % 4 + 1) * 2048) := by
  intro n
  induction n with
  | zero =>
    intro h o p q a b ha hb
    rw [outsAt0_A m c ⟨0, h⟩ rfl (by dsimp only; omega), out_A]
    refine ((pay1_at (blkH m c ⟨0, h⟩) (blkD m c ⟨0, h⟩) o p q).trans (Finset.sum_congr rfl fun k _ => ?_)).trans
      (((zero_add _).symm.trans (congrArg (· + _) (Cert.Rows.upto_zero _ _ _ _).symm)).trans (Cert.Rows.upto_add (rowH m c) (rowD m c) a b 0 (by omega)).symm)
    exact congrArg₂ _ (blkH_at m c ⟨0, h⟩ k p _ a rfl ha) (blkD_at m c ⟨0, h⟩ k q _ b rfl hb)
  | succ n ih =>
    intro h o p q a b ha hb
    have hs : (n + 1) % 4 < 4 := Nat.mod_lt _ (by decide)
    have e : ∑ k : Fin 2048, (blkH m c ⟨n + 1, h⟩ (ix2 k p) : EReal) * blkD m c ⟨n + 1, h⟩ (ix2 k q)
        = ∑ k : Fin 2048, rowH m c ⟨(n + 1) % 4 * 2048 + k.val, by omega⟩ a * rowD m c ⟨(n + 1) % 4 * 2048 + k.val, by omega⟩ b :=
      Finset.sum_congr rfl fun k _ => congrArg₂ _ (blkH_at m c ⟨n + 1, h⟩ k p _ a rfl ha) (blkD_at m c ⟨n + 1, h⟩ k q _ b rfl hb)
    rw [Cert.Rows.upto_add _ _ _ _ _ hs, ← e]
    by_cases hA : (n + 1) % 4 = 0
    · rw [outsAt0_A m c ⟨n + 1, h⟩ hA (by dsimp only; omega), out_A, hA, Nat.zero_mul, Cert.Rows.upto_zero, zero_add]
      exact pay1_at (blkH m c ⟨n + 1, h⟩) (blkD m c ⟨n + 1, h⟩) o p q
    · rw [outsAt0_B m c ⟨n + 1, h⟩ hA (by dsimp only; omega), out_B]
      refine (pay2_at _ (blkH m c ⟨n + 1, h⟩) (blkD m c ⟨n + 1, h⟩) o p q).trans (congrArg (· + _) ?_)
      refine (ih _ o p q a b (by omega) (by omega)).trans (congrArg _ ?_)
      omega

/-! ## The array -/

/-- The gradient: entry `(j, a, q)` is column `1408 j + q` of the weights' gradient's row `a`. -/
abbrev arr (c : Dev nD) : FVec Ideal S4x2048x1408 .f32 := fun i =>
  ∑ r : Fin 8192, rowH m c r (i 1) * rowD m c r ⟨(i 0).val * 1408 + (i 2).val, by have h0 : (i 0).val < 4 := (i 0).isLt; have h2 : (i 2).val < 1408 := (i 2).isLt; omega⟩

theorem read2 (t : Fin cfg0.N) (G : S4x2048x1408.Idx → EReal) (j : (win0_2.xblock (grid0.coords t)).Idx) (i : S4x2048x1408.Idx)
    (h0 : t.val / 4 % 4 + (j 0).val = (i 0).val) (h1 : t.val / 16 * 1024 + (j 1).val = (i 1).val) (h2 : (j 2).val = (i 2).val) :
    ((win0_2.blk t).view.read (Elt Ideal) G : _ → EReal) j = G i := by
  refine congrArg G (funext fun a => Fin.ext ?_)
  match a with
  | ⟨0, _⟩ =>
    refine (Rect.idx_unit_val _ _ _ _ _).trans ?_
    show win0_2.index t 0 * 1 + (j 0).val = (i 0).val
    rw [(at2 t).1, Nat.mul_one, h0]
  | ⟨1, _⟩ =>
    refine (Rect.idx_unit_val _ _ _ _ _).trans ?_
    show win0_2.index t 1 * 1024 + (j 1).val = (i 1).val
    rw [(at2 t).2.1, h1]
  | ⟨2, _⟩ =>
    refine (Rect.idx_unit_val _ _ _ _ _).trans ?_
    show win0_2.index t 2 * 1408 + (j 2).val = (i 2).val
    rw [(at2 t).2.2, Nat.zero_mul, Nat.zero_add, h2]

theorem final (c : Dev nD) : (dats m 0 c).arrAt 2 cfg0.N = arr m c := by
  refine (dats m 0 c).arrAt_eq_of_cover 2 (arr m c) (fun t hf => ?_) (fun i => ?_)
  · have hN : t.val < 32 := t.isLt
    have h3 : t.val % 4 = 3 := (flush0_2 t).mp hf
    rw [Value.flushed2]
    funext j
    have j0 : (j 0).val < 1 := lt_of_lt_of_eq (j 0).isLt (size2 t).1
    have j1 : (j 1).val < 1024 := lt_of_lt_of_eq (j 1).isLt (size2 t).2.1
    have j2 : (j 2).val < 1408 := lt_of_lt_of_eq (j 2).isLt (size2 t).2.2
    have e := left m c t.val t.isLt ⟨(j 0).val, j0⟩ ⟨(j 1).val, j1⟩ ⟨(j 2).val, j2⟩ ⟨t.val / 16 * 1024 + (j 1).val, by omega⟩ ⟨t.val / 4 % 4 * 1408 + (j 2).val, by omega⟩ rfl rfl
    rw [h3] at e
    refine Eq.trans ?_ ((e.trans (Cert.Rows.upto_all _ _ _ _)).trans (read2 t (arr m c) j (ix3 ⟨t.val / 4 % 4, by omega⟩ ⟨t.val / 16 * 1024 + (j 1).val, by omega⟩ ⟨(j 2).val, j2⟩) ?_ rfl rfl).symm)
    · exact congrArg (outsAt0 m c t.val t.isLt) (funext fun a => by fin_cases a <;> rfl)
    · show t.val / 4 % 4 + (j 0).val = t.val / 4 % 4
      omega
  · have i0 : (i 0).val < 4 := (i 0).isLt
    have i1 : (i 1).val < 2048 := (i 1).isLt
    have i2 : (i 2).val < 1408 := (i 2).isLt
    have hN : (i 1).val / 1024 * 16 + (i 0).val * 4 + 3 < cfg0.N := by show _ < 32; omega
    refine ⟨⟨(i 1).val / 1024 * 16 + (i 0).val * 4 + 3, hN⟩, (flush0_2 _).mpr (by dsimp only; omega), ?_⟩
    show i ∈ ((View.whole main_v2).slice (win0_2.rect ⟨(i 1).val / 1024 * 16 + (i 0).val * 4 + 3, hN⟩)).set
    rw [View.set_slice_whole]
    refine Rect.mem_set_unit.2 fun a => ?_
    have ea := at2 ⟨_, hN⟩
    have ex := size2 ⟨_, hN⟩
    match a with
    | ⟨0, _⟩ =>
      show win0_2.index _ 0 * 1 ≤ (i 0).val ∧ (i 0).val < win0_2.index _ 0 * 1 + win0_2.xsize (grid0.coords _) 0
      rw [ea.1, ex.1]; dsimp only; omega
    | ⟨1, _⟩ =>
      show win0_2.index _ 1 * 1024 ≤ (i 1).val ∧ (i 1).val < win0_2.index _ 1 * 1024 + win0_2.xsize (grid0.coords _) 1
      rw [ea.2.1, ex.2.1]; dsimp only; omega
    | ⟨2, _⟩ =>
      show win0_2.index _ 2 * 1408 ≤ (i 2).val ∧ (i 2).val < win0_2.index _ 2 * 1408 + win0_2.xsize (grid0.coords _) 2
      rw [ea.2.2, ex.2.2]; omega

/-! ## The claims -/

theorem frame_kernel : Cert.quiescent_GradW1 := fun m ρ _ => Cert.GradW1.Gen.frame m ρ
theorem frame_ideal : Cert.quiescent_GradW1Ideal := fun m ρ _ => Cert.GradW1Ideal.Gen.frame m ρ
theorem frame_ref : Cert.quiescent_GradW1RefIdeal := fun m ρ _ =>
  (θ_run _ _ _).mono (fun r h => ⟨fun c => (h c).2, sem_eq_zero_of_no_sems (by decide) r.2⟩) (Cert.GradW1RefIdeal.Value.run (F := Ideal) m ρ)

section Ref
open Cert.GradW1RefIdeal Cert.GradW1RefIdeal.Gen

/-- The reference's array, entry by entry. -/
theorem ref_at (x : FVec Ideal S8192x2048 .f32) (y : FVec Ideal S8192x5632 .f32) (j : Fin 4) (a : Fin 2048) (q : Fin 1408) :
    (transpose S4x2048x1408 [1, 0, 2] (shapeCast S2048x4x1408 (transpose S2048x5632 [1, 0] (Host.dotGeneral (F := Ideal) (φ₁ := .f32) (φ₂ := .f32) dot_S8192x5632_S8192x2048_S5632x2048_0_0_1_1_n_n none y x) transposes_S5632x2048_S2048x5632_1_0) shapeCasts_S2048x5632_S2048x4x1408) transposes_S2048x4x1408_S4x2048x1408_1_0_2 (ix3 j a q) : EReal)
      = ∑ r : Fin 8192, y (ix2 r ⟨j.val * 1408 + q.val, by omega⟩) * x (ix2 r a) := by
  pointwise

end Ref

/-- Both programs run, and their results are equal. -/
theorem values : Cert.algebraic_GradW1Ideal_GradW1RefIdeal := by
  intro m g m' g' _ hargs
  refine ⟨fun c => arr m c, ?_, ?_⟩
  · refine (θ_run Cert.GradW1Ideal.defs _ _).mono (fun r h c => ?_) (Value.run_blocks (F := Ideal) m g)
    exact ⟨(h c).1.trans (final m c), (h c).2⟩
  · refine (θ_run Cert.GradW1RefIdeal.defs _ _).mono (fun r h c => ?_) (Cert.GradW1RefIdeal.Value.run (F := Ideal) m' g')
    obtain ⟨h0, hk⟩ := h c
    obtain ⟨e0, e1, e2⟩ := hargs c
    rw [e0, e2] at h0
    refine ⟨h0.trans (funext fun i => ?_), hk⟩
    idx_vars i
    exact (ref_at _ _ _ _ _).trans (Finset.sum_congr rfl fun r _ => mul_comm _ _)

end Cert.GradW1Ideal.Grad

end
-- ==== Proof.GradWOut.lean ====
module

public import proofs.«01_k».proof.Proof.GradW1
public import proofs.«01_k».proof.Proof.Gen.GradWOutIdeal.Value
public import proofs.«01_k».proof.Proof.Gen.GradWOut.Frame
public import proofs.«01_k».proof.Proof.Gen.GradWOutRefIdeal.Run
public import proofs.«01_k».proof.Defs
public import Idealize.ShloMosaic.Lib.Quiescent
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! The gradient of the mixer's output projection: `mix` transposed times `dy`, summed over four parts of the rows. -/

namespace Cert.GradWOutIdeal.Grad

open Idealize.ShloMosaic Idealize.ShloMosaic.TcCoe Idealize.SL.Sem
open Cert.GradWOutIdeal Cert.GradWOutIdeal.Gen

variable (m : (ℓ : Loc nD τ sig) → Buf (Elt Ideal) ℓ)

theorem hz2 : (![0, 0] : Fin 2 → Nat) = fun _ => 0 := funext fun a => by fin_cases a <;> rfl

/-- The call's two arrays, row by row. -/
abbrev rowH (c : Dev nD) (r : Fin 8192) (a : Fin 2048) : EReal := m ((c.tc : Thread nD τ).loc main_arg0) (ix2 r a)
abbrev rowD (c : Dev nD) (r : Fin 8192) (b : Fin 2048) : EReal := m ((c.tc : Thread nD τ).loc main_arg2) (ix2 r b)

theorem V_h (c : Dev nD) : V m c main_v0 = m ((c.tc : Thread nD τ).loc main_arg0) := by
  have h : V m c main_v0 = truncf (F := Ideal) .bf16 (m ((c.tc : Thread nD τ).loc main_arg0)) bitsLt_bf16_f32 := by
    unfold V; simp only [hostOps0]; after_results_simp
  rw [h]; exact funext fun i => rfl
theorem V_d (c : Dev nD) : V m c main_v1 = m ((c.tc : Thread nD τ).loc main_arg2) := by
  have h : V m c main_v1 = truncf (F := Ideal) .bf16 (m ((c.tc : Thread nD τ).loc main_arg2)) bitsLt_bf16_f32 := by
    unfold V; simp only [hostOps0]; after_results_simp
  rw [h]; exact funext fun i => rfl

/-! ## The blocks -/

theorem at0 : ∀ t : Fin cfg0.N, win0_0.index t 0 = t.val % 4 ∧ win0_0.index t 1 = t.val / 8 :=
  (by decide +kernel : ∀ t : Fin grid0.N, win0_0.index t 0 = t.val % 4 ∧ win0_0.index t 1 = t.val / 8)
theorem at1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)
theorem at2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)
theorem size2 : ∀ t : Fin cfg0.N, win0_2.xsize (grid0.coords t) 0 = 1024 ∧ win0_2.xsize (grid0.coords t) 1 = 1024 :=
  (by decide +kernel : ∀ t : Fin grid0.N, win0_2.xsize (grid0.coords t) 0 = 1024 ∧ win0_2.xsize (grid0.coords t) 1 = 1024)

abbrev blkH (c : Dev nD) (t : Fin cfg0.N) : Vec Ideal S2048x1024 .bf16 := iblk m c 0 t
abbrev blkD (c : Dev nD) (t : Fin cfg0.N) : Vec Ideal S2048x1024 .bf16 := iblk m c 1 t

theorem blkH_at (c : Dev nD) (t : Fin cfg0.N) (k : Fin 2048) (p : Fin 1024) (r : Fin 8192) (a : Fin 2048)
    (hr : t.val % 4 * 2048 + k.val = r.val) (ha : t.val / 8 * 1024 + p.val = a.val) : (blkH m c t (ix2 k p) : EReal) = rowH m c r a := by
  show ((win0_0.blk t).view.read (Elt Ideal) (V m c main_v0) : _ → EReal) (ix2 k p) = _
  rw [V_h]
  refine congrArg (m ((c.tc : Thread nD τ).loc main_arg0)) ((eq_ix2 _).trans (congrArg₂ ix2 (Fin.ext ?_) (Fin.ext ?_)))
  · refine (Rect.idx_unit_val _ _ _ _ _).trans ?_
    show win0_0.index t 0 * 2048 + k.val = r.val
    rw [(at0 t).1, hr]
  · refine (Rect.idx_unit_val _ _ _ _ _).trans ?_
    show win0_0.index t 1 * 1024 + p.val = a.val
    rw [(at0 t).2, ha]
theorem blkD_at (c : Dev nD) (t : Fin cfg0.N) (k : Fin 2048) (q : Fin 1024) (r : Fin 8192) (b : Fin 2048)
    (hr : t.val % 4 * 2048 + k.val = r.val) (hb : t.val / 4 % 2 * 1024 + q.val = b.val) : (blkD m c t (ix2 k q) : EReal) = rowD m c r b := by
  show ((win0_1.blk t).view.read (Elt Ideal) (V m c main_v1) : _ → EReal) (ix2 k q) = _
  rw [V_d]
  refine congrArg (m ((c.tc : Thread nD τ).loc main_arg2)) ((eq_ix2 _).trans (congrArg₂ ix2 (Fin.ext ?_) (Fin.ext ?_)))
  · refine (Rect.idx_unit_val _ _ _ _ _).trans ?_
    show win0_1.index t 0 * 2048 + k.val = r.val
    rw [(at1 t).1, hr]
  · refine (Rect.idx_unit_val _ _ _ _ _).trans ?_
    show win0_1.index t 1 * 1024 + q.val = b.val
    rw [(at1 t).2, hb]

/-! ## What a point leaves -/

theorem out_A (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (hc0 : cond0_0 i) (hc1 : ¬cond0_1 i)
    (x : Vec Ideal S2048x1024 .bf16) (y : Vec Ideal S2048x1024 .bf16) : out0_A_2 c i a3 h3 a4 h4 a5 h5 hc0 hc1 x y = k0_pay1 x y := by
  unfold out0_A_2
  rw [View.read_writes_eq_canon _ _ _ (cover0_A_2 c i a3 h3 a4 h4 a5 h5 hc0 hc1 x y)]
  unfold kernelRun0_A
  dsimp only
  rw [View.canon_unit_zero hz2]
  simp only [View.readAt_eq_ld, h3.read_unread, h4.read_unread, View.ld_unit_zero (S := S2048x1024) hz2]
theorem out_B (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (hc0 : ¬cond0_0 i) (hc1 : cond0_1 i)
    (x : Vec Ideal S2048x1024 .bf16) (y : Vec Ideal S2048x1024 .bf16) (z : Vec Ideal S1024x1024 .f32) : out0_B_2 c i a3 h3 a4 h4 a5 h5 hc0 hc1 x y z = k0_pay2 z x y := by
  unfold out0_B_2
  rw [View.read_writes_eq_canon _ _ _ (cover0_B_2 c i a3 h3 a4 h4 a5 h5 hc0 hc1 x y z)]
  unfold kernelRun0_B
  dsimp only
  rw [View.canon_unit_zero hz2]
  simp only [View.readAt_eq_ld, h3.read_unread, h4.read_unread, h5.read_unread, View.ld_unit_zero (S := S2048x1024) hz2, View.ld_unit_zero (S := S1024x1024) hz2]

theorem pay1_at (x : Vec Ideal S2048x1024 .bf16) (y : Vec Ideal S2048x1024 .bf16) (p : Fin 1024) (q : Fin 1024) :
    (k0_pay1 (F := Ideal) x y (ix2 p q) : EReal) = ∑ k : Fin 2048, x (ix2 k p) * y (ix2 k q) := by
  pointwise [k0_pay1]
theorem pay2_at (z : Vec Ideal S1024x1024 .f32) (x : Vec Ideal S2048x1024 .bf16) (y : Vec Ideal S2048x1024 .bf16) (p : Fin 1024) (q : Fin 1024) :
    (k0_pay2 (F := Ideal) z x y (ix2 p q) : EReal) = z (ix2 p q) + ∑ k : Fin 2048, x (ix2 k p) * y (ix2 k q) := by
  pointwise [k0_pay2]

/-- After a point the output's block holds the sum over the rows of the parts so far. -/
theorem left (c : Dev nD) : ∀ (n : ℕ) (h : n < cfg0.N) (p : Fin 1024) (q : Fin 1024) (a : Fin 2048) (b : Fin 2048)
    (ha : n / 8 * 1024 + p.val = a.val) (hb : n / 4 % 2 * 1024 + q.val = b.val),
    (outsAt0 m c n h (ix2 p q) : EReal) = Cert.Rows.upto (rowH m c) (rowD m c) a b ((n % 4 + 1) * 2048) := by
  intro n
  induction n with
  | zero =>
    intro h p q a b ha hb
    rw [outsAt0_A m c ⟨0, h⟩ rfl (by dsimp only; omega), out_A]
    refine ((pay1_at (blkH m c ⟨0, h⟩) (blkD m c ⟨0, h⟩) p q).trans (Finset.sum_congr rfl fun k _ => ?_)).trans
      (((zero_add _).symm.trans (congrArg (· + _) (Cert.Rows.upto_zero _ _ _ _).symm)).trans (Cert.Rows.upto_add (rowH m c) (rowD m c) a b 0 (by omega)).symm)
    exact congrArg₂ _ (blkH_at m c ⟨0, h⟩ k p _ a rfl ha) (blkD_at m c ⟨0, h⟩ k q _ b rfl hb)
  | succ n ih =>
    intro h p q a b ha hb
    have hs : (n + 1) % 4 < 4 := Nat.mod_lt _ (by decide)
    have e : ∑ k : Fin 2048, (blkH m c ⟨n + 1, h⟩ (ix2 k p) : EReal) * blkD m c ⟨n + 1, h⟩ (ix2 k q)
        = ∑ k : Fin 2048, rowH m c ⟨(n + 1) % 4 * 2048 + k.val, by omega⟩ a * rowD m c ⟨(n + 1) % 4 * 2048 + k.val, by omega⟩ b :=
      Finset.sum_congr rfl fun k _ => congrArg₂ _ (blkH_at m c ⟨n + 1, h⟩ k p _ a rfl ha) (blkD_at m c ⟨n + 1, h⟩ k q _ b rfl hb)
    rw [Cert.Rows.upto_add _ _ _ _ _ hs, ← e]
    by_cases hA : (n + 1) % 4 = 0
    · rw [outsAt0_A m c ⟨n + 1, h⟩ hA (by dsimp only; omega), out_A, hA, Nat.zero_mul, Cert.Rows.upto_zero, zero_add]
      exact pay1_at (blkH m c ⟨n + 1, h⟩) (blkD m c ⟨n + 1, h⟩) p q
    · rw [outsAt0_B m c ⟨n + 1, h⟩ hA (by dsimp only; omega), out_B]
      refine (pay2_at _ (blkH m c ⟨n + 1, h⟩) (blkD m c ⟨n + 1, h⟩) p q).trans (congrArg (· + _) ?_)
      refine (ih _ p q a b (by omega) (by omega)).trans (congrArg _ ?_)
      omega

/-! ## The array -/

abbrev arr (c : Dev nD) : FVec Ideal S2048x2048 .f32 := fun i => ∑ r : Fin 8192, rowH m c r (i 0) * rowD m c r (i 1)

theorem read2 (t : Fin cfg0.N) (G : S2048x2048.Idx → EReal) (j : (win0_2.xblock (grid0.coords t)).Idx) (i : S2048x2048.Idx)
    (h0 : t.val / 8 * 1024 + (j 0).val = (i 0).val) (h1 : t.val / 4 % 2 * 1024 + (j 1).val = (i 1).val) :
    ((win0_2.blk t).view.read (Elt Ideal) G : _ → EReal) j = G i := by
  refine congrArg G (funext fun a => Fin.ext ?_)
  match a with
  | ⟨0, _⟩ =>
    refine (Rect.idx_unit_val _ _ _ _ _).trans ?_
    show win0_2.index t 0 * 1024 + (j 0).val = (i 0).val
    rw [(at2 t).1, h0]
  | ⟨1, _⟩ =>
    refine (Rect.idx_unit_val _ _ _ _ _).trans ?_
    show win0_2.index t 1 * 1024 + (j 1).val = (i 1).val
    rw [(at2 t).2, h1]

theorem final (c : Dev nD) : (dats m 0 c).arrAt 2 cfg0.N = arr m c := by
  refine (dats m 0 c).arrAt_eq_of_cover 2 (arr m c) (fun t hf => ?_) (fun i => ?_)
  · have hN : t.val < 16 := t.isLt
    have h3 : t.val % 4 = 3 := (flush0_2 t).mp hf
    rw [Value.flushed2]
    funext j
    have j0 : (j 0).val < 1024 := lt_of_lt_of_eq (j 0).isLt (size2 t).1
    have j1 : (j 1).val < 1024 := lt_of_lt_of_eq (j 1).isLt (size2 t).2
    have e := left m c t.val t.isLt ⟨(j 0).val, j0⟩ ⟨(j 1).val, j1⟩ ⟨t.val / 8 * 1024 + (j 0).val, by omega⟩ ⟨t.val / 4 % 2 * 1024 + (j 1).val, by omega⟩ rfl rfl
    rw [h3] at e
    refine Eq.trans ?_ ((e.trans (Cert.Rows.upto_all _ _ _ _)).trans (read2 t (arr m c) j (ix2 ⟨t.val / 8 * 1024 + (j 0).val, by omega⟩ ⟨t.val / 4 % 2 * 1024 + (j 1).val, by omega⟩) rfl rfl).symm)
    exact congrArg (outsAt0 m c t.val t.isLt) (funext fun a => by fin_cases a <;> rfl)
  · have i0 : (i 0).val < 2048 := (i 0).isLt
    have i1 : (i 1).val < 2048 := (i 1).isLt
    have hN : (i 0).val / 1024 * 8 + (i 1).val / 1024 * 4 + 3 < cfg0.N := by show _ < 16; omega
    refine ⟨⟨(i 0).val / 1024 * 8 + (i 1).val / 1024 * 4 + 3, hN⟩, (flush0_2 _).mpr (by dsimp only; omega), ?_⟩
    show i ∈ ((View.whole main_v2).slice (win0_2.rect ⟨(i 0).val / 1024 * 8 + (i 1).val / 1024 * 4 + 3, hN⟩)).set
    rw [View.set_slice_whole]
    refine Rect.mem_set_unit.2 fun a => ?_
    have ea := at2 ⟨_, hN⟩
    have ex := size2 ⟨_, hN⟩
    match a with
    | ⟨0, _⟩ =>
      show win0_2.index _ 0 * 1024 ≤ (i 0).val ∧ (i 0).val < win0_2.index _ 0 * 1024 + win0_2.xsize (grid0.coords _) 0
      rw [ea.1, ex.1]; dsimp only; omega
    | ⟨1, _⟩ =>
      show win0_2.index _ 1 * 1024 ≤ (i 1).val ∧ (i 1).val < win0_2.index _ 1 * 1024 + win0_2.xsize (grid0.coords _) 1
      rw [ea.2, ex.2]; dsimp only; omega

/-! ## The claims -/

theorem frame_kernel : Cert.quiescent_GradWOut := fun m ρ _ => Cert.GradWOut.Gen.frame m ρ
theorem frame_ideal : Cert.quiescent_GradWOutIdeal := fun m ρ _ => Cert.GradWOutIdeal.Gen.frame m ρ
theorem frame_ref : Cert.quiescent_GradWOutRefIdeal := fun m ρ _ =>
  (θ_run _ _ _).mono (fun r h => ⟨fun c => (h c).2, sem_eq_zero_of_no_sems (by decide) r.2⟩) (Cert.GradWOutRefIdeal.Value.run (F := Ideal) m ρ)

section Ref
open Cert.GradWOutRefIdeal Cert.GradWOutRefIdeal.Gen

/-- The reference's array, entry by entry. -/
theorem ref_at (x y : FVec Ideal S8192x2048 .f32) (a b : Fin 2048) :
    (transpose S2048x2048 [1, 0] (Host.dotGeneral (F := Ideal) (φ₁ := .f32) (φ₂ := .f32) dot_S8192x2048_S8192x2048_S2048x2048_0_0_1_1_n_n none y x) transposes_S2048x2048_S2048x2048_1_0 (ix2 a b) : EReal)
      = ∑ r : Fin 8192, y (ix2 r b) * x (ix2 r a) := by
  pointwise

end Ref

/-- Both programs run, and their results are equal. -/
theorem values : Cert.algebraic_GradWOutIdeal_GradWOutRefIdeal := by
  intro m g m' g' _ hargs
  refine ⟨fun c => arr m c, ?_, ?_⟩
  · refine (θ_run Cert.GradWOutIdeal.defs _ _).mono (fun r h c => ?_) (Value.run_blocks (F := Ideal) m g)
    exact ⟨(h c).1.trans (final m c), (h c).2⟩
  · refine (θ_run Cert.GradWOutRefIdeal.defs _ _).mono (fun r h c => ?_) (Cert.GradWOutRefIdeal.Value.run (F := Ideal) m' g')
    obtain ⟨h0, hk⟩ := h c
    obtain ⟨e0, e1, e2⟩ := hargs c
    rw [e0, e2] at h0
    refine ⟨h0.trans (funext fun i => ?_), hk⟩
    obtain ⟨a, b, rfl⟩ : ∃ a b, i = ix2 a b := ⟨i 0, i 1, eq_ix2 i⟩
    exact (ref_at _ _ _ _).trans (Finset.sum_congr rfl fun r _ => mul_comm _ _)

end Cert.GradWOutIdeal.Grad

end
-- ==== Proof.DMix.lean ====
module

public import proofs.«01_k».proof.Proof.GradWOut
public import proofs.«01_k».proof.Proof.Gen.DMixIdeal.Value
public import proofs.«01_k».proof.Proof.Gen.DMix.Frame
public import proofs.«01_k».proof.Proof.Gen.DMixRefIdeal.Run
public import proofs.«01_k».proof.Defs
public import Idealize.ShloMosaic.Lib.Quiescent
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! The gradient of the mixer's output: `dy` times the output projection, transposed. -/

namespace Cert.DMixIdeal.Grad

open Idealize.ShloMosaic Idealize.ShloMosaic.TcCoe Idealize.SL.Sem
open Cert.DMixIdeal Cert.DMixIdeal.Gen
open Cert.Adam (origin)

variable (m : (ℓ : Loc nD τ sig) → Buf (Elt Ideal) ℓ)

/-- The call's two arrays, row by row. -/
abbrev rowD (c : Dev nD) (r : Fin 8192) (k : Fin 2048) : EReal := m ((c.tc : Thread nD τ).loc main_arg2) (ix2 r k)
abbrev rowW (c : Dev nD) (b k : Fin 2048) : EReal := m ((c.tc : Thread nD τ).loc main_arg1) (ix2 b k)

theorem V_d (c : Dev nD) : V m c main_v0 = m ((c.tc : Thread nD τ).loc main_arg2) := by
  have h : V m c main_v0 = truncf (F := Ideal) .bf16 (m ((c.tc : Thread nD τ).loc main_arg2)) bitsLt_bf16_f32 := by
    unfold V; simp only [hostOps0]; after_results_simp
  rw [h]; exact funext fun i => rfl
theorem V_w (c : Dev nD) : V m c main_v1 = m ((c.tc : Thread nD τ).loc main_arg1) := by
  have h : V m c main_v1 = truncf (F := Ideal) .bf16 (m ((c.tc : Thread nD τ).loc main_arg1)) bitsLt_bf16_f32 := by
    unfold V; simp only [hostOps0]; after_results_simp
  rw [h]; exact funext fun i => rfl

/-! ## The blocks -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem size2 : ∀ t : Fin cfg0.N, win0_2.xsize (grid0.coords t) 0 = 1024 ∧ win0_2.xsize (grid0.coords t) 1 = 2048 :=
  (by decide +kernel : ∀ t : Fin grid0.N, win0_2.xsize (grid0.coords t) 0 = 1024 ∧ win0_2.xsize (grid0.coords t) 1 = 2048)

abbrev blkD (c : Dev nD) (t : Fin cfg0.N) : Vec Ideal S1024x2048 .bf16 := iblk m c 0 t
abbrev blkW (c : Dev nD) (t : Fin cfg0.N) : Vec Ideal S2048x2048 .bf16 := iblk m c 1 t

theorem blkD_at (c : Dev nD) (t : Fin cfg0.N) (p : Fin 1024) (k : Fin 2048) (r : Fin 8192) (hr : t.val * 1024 + p.val = r.val) :
    (blkD m c t (ix2 p k) : EReal) = rowD m c r k := by
  show ((win0_0.blk t).view.read (Elt Ideal) (V m c main_v0) : _ → EReal) (ix2 p k) = _
  rw [V_d]
  refine congrArg (m ((c.tc : Thread nD τ).loc main_arg2)) ((eq_ix2 _).trans (congrArg₂ ix2 (Fin.ext ?_) (Fin.ext ?_)))
  · refine (Rect.idx_unit_val _ _ _ _ _).trans ?_
    show win0_0.index t 0 * 1024 + p.val = r.val
    rw [(at0 t).1, hr]
  · refine (Rect.idx_unit_val _ _ _ _ _).trans ?_
    show win0_0.index t 1 * 2048 + k.val = k.val
    rw [(at0 t).2, Nat.zero_mul, Nat.zero_add]
theorem blkW_at (c : Dev nD) (t : Fin cfg0.N) (q k : Fin 2048) : (blkW m c t (ix2 q k) : EReal) = rowW m c q k := by
  show ((win0_1.blk t).view.read (Elt Ideal) (V m c main_v1) : _ → EReal) (ix2 q k) = _
  rw [V_w]
  refine congrArg (m ((c.tc : Thread nD τ).loc main_arg1)) ((eq_ix2 _).trans (congrArg₂ ix2 (Fin.ext ?_) (Fin.ext ?_)))
  · refine (Rect.idx_unit_val _ _ _ _ _).trans ?_
    show win0_1.index t 0 * 2048 + q.val = q.val
    rw [(at1 t).1, Nat.zero_mul, Nat.zero_add]
  · refine (Rect.idx_unit_val _ _ _ _ _).trans ?_
    show win0_1.index t 1 * 2048 + k.val = k.val
    rw [(at1 t).2, Nat.zero_mul, Nat.zero_add]

theorem pay1_at (x : Vec Ideal S1024x2048 .bf16) (y : Vec Ideal S2048x2048 .bf16) (p : Fin 1024) (q : Fin 2048) :
    (k0_pay1 (F := Ideal) x y (ix2 p q) : EReal) = ∑ k : Fin 2048, x (ix2 p k) * y (ix2 q k) := by
  pointwise [k0_pay1]

/-! ## The array -/

abbrev arr (c : Dev nD) : FVec Ideal S8192x2048 .bf16 := fun i => ∑ k : Fin 2048, rowD m c (i 0) k * rowW m c (i 1) k

theorem read2 (t : Fin cfg0.N) (G : S8192x2048.Idx → EReal) (j : (win0_2.xblock (grid0.coords t)).Idx) (i : S8192x2048.Idx)
    (h0 : t.val * 1024 + (j 0).val = (i 0).val) (h1 : (j 1).val = (i 1).val) :
    ((win0_2.blk t).view.read (Elt Ideal) G : _ → EReal) j = G i := by
  refine congrArg G (funext fun a => Fin.ext ?_)
  match a with
  | ⟨0, _⟩ =>
    refine (Rect.idx_unit_val _ _ _ _ _).trans ?_
    show win0_2.index t 0 * 1024 + (j 0).val = (i 0).val
    rw [(at2 t).1, h0]
  | ⟨1, _⟩ =>
    refine (Rect.idx_unit_val _ _ _ _ _).trans ?_
    show win0_2.index t 1 * 2048 + (j 1).val = (i 1).val
    rw [(at2 t).2, Nat.zero_mul, Nat.zero_add, h1]

theorem final (c : Dev nD) : (dats m 0 c).arrAt 2 cfg0.N = arr m c := by
  refine (dats m 0 c).arrAt_eq_of_cover 2 (arr m c) (fun t _ => ?_) (fun i => ?_)
  · have hN : t.val < 8 := t.isLt
    rw [Value.flushed2]
    unfold out0_2
    rw [View.canon_unit_zero origin]
    simp only [View.ld_unit_zero (S := S1024x2048) origin, View.ld_unit_zero (S := S2048x2048) origin]
    funext j
    have j0 : (j 0).val < 1024 := lt_of_lt_of_eq (j 0).isLt (size2 t).1
    have j1 : (j 1).val < 2048 := lt_of_lt_of_eq (j 1).isLt (size2 t).2
    refine Eq.trans ?_ (read2 t (arr m c) j (ix2 ⟨t.val * 1024 + (j 0).val, by omega⟩ ⟨(j 1).val, j1⟩) rfl rfl).symm
    refine Eq.trans (congrArg (k0_pay1 (F := Ideal) (blkD m c t) (blkW m c t)) (funext fun a => by fin_cases a <;> rfl)) ((pay1_at (blkD m c t) (blkW m c t) ⟨(j 0).val, j0⟩ ⟨(j 1).val, j1⟩).trans ?_)
    exact Finset.sum_congr rfl fun k _ => congrArg₂ _ (blkD_at m c t ⟨(j 0).val, j0⟩ k ⟨t.val * 1024 + (j 0).val, by omega⟩ rfl) (blkW_at m c t ⟨(j 1).val, j1⟩ k)
  · have i0 : (i 0).val < 8192 := (i 0).isLt
    have i1 : (i 1).val < 2048 := (i 1).isLt
    have hN : (i 0).val / 1024 < cfg0.N := by show _ < 8; omega
    refine ⟨⟨(i 0).val / 1024, hN⟩, flush0_2 _, ?_⟩
    show i ∈ ((View.whole main_v2).slice (win0_2.rect ⟨(i 0).val / 1024, hN⟩)).set
    rw [View.set_slice_whole]
    refine Rect.mem_set_unit.2 fun a => ?_
    have ea := at2 ⟨_, hN⟩
    have ex := size2 ⟨_, hN⟩
    match a with
    | ⟨0, _⟩ =>
      show win0_2.index _ 0 * 1024 ≤ (i 0).val ∧ (i 0).val < win0_2.index _ 0 * 1024 + win0_2.xsize (grid0.coords _) 0
      rw [ea.1, ex.1]; dsimp only; omega
    | ⟨1, _⟩ =>
      show win0_2.index _ 1 * 2048 ≤ (i 1).val ∧ (i 1).val < win0_2.index _ 1 * 2048 + win0_2.xsize (grid0.coords _) 1
      rw [ea.2, ex.2]; omega

/-! ## The claims -/

theorem frame_kernel : Cert.quiescent_DMix := fun m ρ _ => Cert.DMix.Gen.frame m ρ
theorem frame_ideal : Cert.quiescent_DMixIdeal := fun m ρ _ => Cert.DMixIdeal.Gen.frame m ρ
theorem frame_ref : Cert.quiescent_DMixRefIdeal := fun m ρ _ =>
  (θ_run _ _ _).mono (fun r h => ⟨fun c => (h c).2, sem_eq_zero_of_no_sems (by decide) r.2⟩) (Cert.DMixRefIdeal.Value.run (F := Ideal) m ρ)

section Ref
open Cert.DMixRefIdeal Cert.DMixRefIdeal.Gen

/-- The reference's array, entry by entry. -/
theorem ref_at (x : FVec Ideal S8192x2048 .f32) (y : FVec Ideal S2048x2048 .f32) (a : Fin 8192) (b : Fin 2048) :
    (truncf (F := Ideal) .bf16 (Host.dotGeneral (F := Ideal) (φ₁ := .f32) (φ₂ := .f32) dot_S8192x2048_S2048x2048_S8192x2048_1_1_0_0_n_n none x y) Cert.DMixRefIdeal.Gen.bitsLt_bf16_f32 (ix2 a b) : EReal)
      = ∑ k : Fin 2048, x (ix2 a k) * y (ix2 b k) := by
  pointwise

end Ref

/-- Both programs run, and their results are equal. -/
theorem values : Cert.algebraic_DMixIdeal_DMixRefIdeal := by
  intro m g m' g' _ hargs
  refine ⟨fun c => arr m c, ?_, ?_⟩
  · refine (θ_run Cert.DMixIdeal.defs _ _).mono (fun r h c => ?_) (Value.run_blocks (F := Ideal) m g)
    exact ⟨(h c).1.trans (final m c), (h c).2⟩
  · refine (θ_run Cert.DMixRefIdeal.defs _ _).mono (fun r h c => ?_) (Cert.DMixRefIdeal.Value.run (F := Ideal) m' g')
    obtain ⟨h0, hk⟩ := h c
    obtain ⟨e0, e1, e2⟩ := hargs c
    rw [e1, e2] at h0
    refine ⟨h0.trans (funext fun i => ?_), hk⟩
    obtain ⟨a, b, rfl⟩ : ∃ a b, i = ix2 a b := ⟨i 0, i 1, eq_ix2 i⟩
    exact ref_at _ _ _ _

end Cert.DMixIdeal.Grad

end
-- ==== Proof.Out.lean ====
module

public import proofs.«01_k».proof.Proof.DMix
public import proofs.«01_k».proof.Proof.Gen.OutIdeal.Value
public import proofs.«01_k».proof.Proof.Gen.Out.Frame
public import proofs.«01_k».proof.Proof.Gen.OutRefIdeal.Run
public import proofs.«01_k».proof.Defs
public import Idealize.ShloMosaic.Lib.Quiescent
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! The mixer's output projection, gated and added to the residual: `x + gt (mix w_out)`, and `mix w_out` itself. -/

namespace Cert.OutIdeal.Sum

open Idealize.ShloMosaic Idealize.ShloMosaic.TcCoe Idealize.SL.Sem
open Cert.OutIdeal Cert.OutIdeal.Gen
open Cert.Adam (origin)

variable (m : (ℓ : Loc nD τ sig) → Buf (Elt Ideal) ℓ)

/-- The call's arrays, entry by entry. -/
abbrev rowM (c : Dev nD) (r : Fin 8192) (k : Fin 2048) : EReal := m ((c.tc : Thread nD τ).loc main_arg0) (ix2 r k)
abbrev rowW (c : Dev nD) (k b : Fin 2048) : EReal := m ((c.tc : Thread nD τ).loc main_arg1) (ix2 k b)
abbrev rowX (c : Dev nD) (r : Fin 8192) (b : Fin 2048) : EReal := m ((c.tc : Thread nD τ).loc main_arg2) (ix2 r b)
abbrev gate (c : Dev nD) (b : Fin 2048) : EReal := m ((c.tc : Thread nD τ).loc main_arg3) (ix2 0 b)

theorem V_m (c : Dev nD) : V m c main_v0 = m ((c.tc : Thread nD τ).loc main_arg0) := by
  have h : V m c main_v0 = truncf (F := Ideal) .bf16 (m ((c.tc : Thread nD τ).loc main_arg0)) bitsLt_bf16_f32 := by
    unfold V; simp only [hostOps0]; after_results_simp
  rw [h]; exact funext fun i => rfl
theorem V_w (c : Dev nD) : V m c main_v1 = m ((c.tc : Thread nD τ).loc main_arg1) := by
  have h : V m c main_v1 = truncf (F := Ideal) .bf16 (m ((c.tc : Thread nD τ).loc main_arg1)) bitsLt_bf16_f32 := by
    unfold V; simp only [hostOps0]; after_results_simp
  rw [h]; exact funext fun i => rfl

/-! ## The blocks -/

theorem at0 : ∀ t : Fin cfg0.N, win0_0.index t 0 = t.val % 8 ∧ win0_0.index t 1 = 0 :=
  (by decide +kernel : ∀ t : Fin grid0.N, win0_0.index t 0 = t.val % 8 ∧ win0_0.index t 1 = 0)
theorem at1 : ∀ t : Fin cfg0.N, win0_1.index t 0 = 0 ∧ win0_1.index t 1 = t.val / 8 :=
  (by decide +kernel : ∀ t : Fin grid0.N, win0_1.index t 0 = 0 ∧ win0_1.index t 1 = t.val / 8)
theorem at2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)
theorem at3 : ∀ t : Fin cfg0.N, win0_3.index t 0 = 0 ∧ win0_3.index t 1 = t.val / 8 :=
  (by decide +kernel : ∀ t : Fin grid0.N, win0_3.index t 0 = 0 ∧ win0_3.index t 1 = t.val / 8)
theorem at4 : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)
theorem at5 : ∀ t : Fin cfg0.N, win0_5.index t 0 = t.val % 8 ∧ win0_5.index t 1 = t.val / 8 :=
  (by decide +kernel : ∀ t : Fin grid0.N, win0_5.index t 0 = t.val % 8 ∧ win0_5.index t 1 = t.val / 8)
theorem size4 : ∀ t : Fin cfg0.N, win0_4.xsize (grid0.coords t) 0 = 1024 ∧ win0_4.xsize (grid0.coords t) 1 = 1024 :=
  (by decide +kernel : ∀ t : Fin grid0.N, win0_4.xsize (grid0.coords t) 0 = 1024 ∧ win0_4.xsize (grid0.coords t) 1 = 1024)
theorem size5 : ∀ t : Fin cfg0.N, win0_5.xsize (grid0.coords t) 0 = 1024 ∧ win0_5.xsize (grid0.coords t) 1 = 1024 :=
  (by decide +kernel : ∀ t : Fin grid0.N, win0_5.xsize (grid0.coords t) 0 = 1024 ∧ win0_5.xsize (grid0.coords t) 1 = 1024)

abbrev blkM (c : Dev nD) (t : Fin cfg0.N) : Vec Ideal S1024x2048 .bf16 := iblk m c 0 t
abbrev blkW (c : Dev nD) (t : Fin cfg0.N) : Vec Ideal S2048x1024 .bf16 := iblk m c 1 t
abbrev blkX (c : Dev nD) (t : Fin cfg0.N) : Vec Ideal S1024x1024 .f32 := iblk m c 2 t
abbrev blkG (c : Dev nD) (t : Fin cfg0.N) : Vec Ideal S1x1024 .f32 := iblk m c 3 t

theorem blkM_at (c : Dev nD) (t : Fin cfg0.N) (p : Fin 1024) (k : Fin 2048) (r : Fin 8192) (hr : t.val % 8 * 1024 + p.val = r.val) : (blkM m c t (ix2 p k) : EReal) = rowM m c r k := by
  show ((win0_0.blk t).view.read (Elt Ideal) (V m c main_v0) : _ → EReal) (ix2 p k) = _
  rw [V_m]
  refine congrArg (m ((c.tc : Thread nD τ).loc main_arg0)) ((eq_ix2 _).trans (congrArg₂ ix2 (Fin.ext ?_) (Fin.ext ?_)))
  · refine (Rect.idx_unit_val _ _ _ _ _).trans ?_
    show win0_0.index t 0 * 1024 + p.val = r.val
    rw [(at0 t).1, hr]
  · refine (Rect.idx_unit_val _ _ _ _ _).trans ?_
    show win0_0.index t 1 * 2048 + k.val = k.val
    rw [(at0 t).2, Nat.zero_mul, Nat.zero_add]
theorem blkW_at (c : Dev nD) (t : Fin cfg0.N) (k : Fin 2048) (q : Fin 1024) (b : Fin 2048) (hb : t.val / 8 * 1024 + q.val = b.val) : (blkW m c t (ix2 k q) : EReal) = rowW m c k b := by
  show ((win0_1.blk t).view.read (Elt Ideal) (V m c main_v1) : _ → EReal) (ix2 k q) = _
  rw [V_w]
  refine congrArg (m ((c.tc : Thread nD τ).loc main_arg1)) ((eq_ix2 _).trans (congrArg₂ ix2 (Fin.ext ?_) (Fin.ext ?_)))
  · refine (Rect.idx_unit_val _ _ _ _ _).trans ?_
    show win0_1.index t 0 * 2048 + k.val = k.val
    rw [(at1 t).1, Nat.zero_mul, Nat.zero_add]
  · refine (Rect.idx_unit_val _ _ _ _ _).trans ?_
    show win0_1.index t 1 * 1024 + q.val = b.val
    rw [(at1 t).2, hb]
theorem blkX_at (c : Dev nD) (t : Fin cfg0.N) (p q : Fin 1024) (r : Fin 8192) (b : Fin 2048) (hr : t.val % 8 * 1024 + p.val = r.val) (hb : t.val / 8 * 1024 + q.val = b.val) : (blkX m c t (ix2 p q) : EReal) = rowX m c r b := by
  show ((win0_2.blk t).view.read (Elt Ideal) (V m c main_arg2) : _ → EReal) (ix2 p q) = _
  rw [V_main_arg2]
  refine congrArg (m ((c.tc : Thread nD τ).loc main_arg2)) ((eq_ix2 _).trans (congrArg₂ ix2 (Fin.ext ?_) (Fin.ext ?_)))
  · refine (Rect.idx_unit_val _ _ _ _ _).trans ?_
    show win0_2.index t 0 * 1024 + p.val = r.val
    rw [(at2 t).1, hr]
  · refine (Rect.idx_unit_val _ _ _ _ _).trans ?_
    show win0_2.index t 1 * 1024 + q.val = b.val
    rw [(at2 t).2, hb]
theorem blkG_at (c : Dev nD) (t : Fin cfg0.N) (q : Fin 1024) (b : Fin 2048) (hb : t.val / 8 * 1024 + q.val = b.val) : (blkG m c t (ix2 0 q) : EReal) = gate m c b := by
  show ((win0_3.blk t).view.read (Elt Ideal) (V m c main_arg3) : _ → EReal) (ix2 0 q) = _
  rw [V_main_arg3]
  refine congrArg (m ((c.tc : Thread nD τ).loc main_arg3)) ((eq_ix2 _).trans (congrArg₂ ix2 (Fin.ext ?_) (Fin.ext ?_)))
  · refine (Rect.idx_unit_val _ _ _ _ _).trans ?_
    show win0_3.index t 0 * 1 + 0 = 0
    rw [(at3 t).1]
  · refine (Rect.idx_unit_val _ _ _ _ _).trans ?_
    show win0_3.index t 1 * 1024 + q.val = b.val
    rw [(at3 t).2, hb]

theorem pay1_at (x : Vec Ideal S1024x2048 .bf16) (y : Vec Ideal S2048x1024 .bf16) (p q : Fin 1024) :
    (k0_pay1 (F := Ideal) x y (ix2 p q) : EReal) = ∑ k : Fin 2048, x (ix2 p k) * y (ix2 k q) := by
  pointwise [k0_pay1]
theorem pay2_at (x : Vec Ideal S1024x2048 .bf16) (y : Vec Ideal S2048x1024 .bf16) (p q : Fin 1024) :
    (k0_pay2 (F := Ideal) x y (ix2 p q) : EReal) = ∑ k : Fin 2048, x (ix2 p k) * y (ix2 k q) := by
  pointwise [k0_pay2, k0_pay1]
theorem pay3_at (x : Vec Ideal S1024x2048 .bf16) (y : Vec Ideal S2048x1024 .bf16) (z : Vec Ideal S1024x1024 .f32) (g : Vec Ideal S1x1024 .f32) (p q : Fin 1024) :
    (k0_pay3 (F := Ideal) x y z g (ix2 p q) : EReal) = z (ix2 p q) + g (ix2 0 q) * ∑ k : Fin 2048, x (ix2 p k) * y (ix2 k q) := by
  pointwise [k0_pay3, k0_pay1]

/-! ## The arrays -/

/-- The projection, and the gated sum. -/
abbrev arrY (c : Dev nD) : FVec Ideal S8192x2048 .bf16 := fun i => ∑ k : Fin 2048, rowM m c (i 0) k * rowW m c k (i 1)
abbrev arrX (c : Dev nD) : FVec Ideal S8192x2048 .f32 := fun i => rowX m c (i 0) (i 1) + gate m c (i 1) * ∑ k : Fin 2048, rowM m c (i 0) k * rowW m c k (i 1)

/-- A product of the blocks' rows and columns is that of the arrays'. -/
theorem dot_at (c : Dev nD) (t : Fin cfg0.N) (p q : Fin 1024) (r : Fin 8192) (b : Fin 2048) (hr : t.val % 8 * 1024 + p.val = r.val) (hb : t.val / 8 * 1024 + q.val = b.val) :
    ∑ k : Fin 2048, (blkM m c t (ix2 p k) : EReal) * blkW m c t (ix2 k q) = ∑ k : Fin 2048, rowM m c r k * rowW m c k b :=
  Finset.sum_congr rfl fun k _ => congrArg₂ _ (blkM_at m c t p k r hr) (blkW_at m c t k q b hb)

theorem read4 (t : Fin cfg0.N) (G : S8192x2048.Idx → EReal) (j : (win0_4.xblock (grid0.coords t)).Idx) (i : S8192x2048.Idx)
    (h0 : t.val % 8 * 1024 + (j 0).val = (i 0).val) (h1 : t.val / 8 * 1024 + (j 1).val = (i 1).val) :
    ((win0_4.blk t).view.read (Elt Ideal) G : _ → EReal) j = G i := by
  refine congrArg G (funext fun a => Fin.ext ?_)
  match a with
  | ⟨0, _⟩ =>
    refine (Rect.idx_unit_val _ _ _ _ _).trans ?_
    show win0_4.index t 0 * 1024 + (j 0).val = (i 0).val
    rw [(at4 t).1, h0]
  | ⟨1, _⟩ =>
    refine (Rect.idx_unit_val _ _ _ _ _).trans ?_
    show win0_4.index t 1 * 1024 + (j 1).val = (i 1).val
    rw [(at4 t).2, h1]
theorem read5 (t : Fin cfg0.N) (G : S8192x2048.Idx → EReal) (j : (win0_5.xblock (grid0.coords t)).Idx) (i : S8192x2048.Idx)
    (h0 : t.val % 8 * 1024 + (j 0).val = (i 0).val) (h1 : t.val / 8 * 1024 + (j 1).val = (i 1).val) :
    ((win0_5.blk t).view.read (Elt Ideal) G : _ → EReal) j = G i := by
  refine congrArg G (funext fun a => Fin.ext ?_)
  match a with
  | ⟨0, _⟩ =>
    refine (Rect.idx_unit_val _ _ _ _ _).trans ?_
    show win0_5.index t 0 * 1024 + (j 0).val = (i 0).val
    rw [(at5 t).1, h0]
  | ⟨1, _⟩ =>
    refine (Rect.idx_unit_val _ _ _ _ _).trans ?_
    show win0_5.index t 1 * 1024 + (j 1).val = (i 1).val
    rw [(at5 t).2, h1]

theorem finalX (c : Dev nD) : (dats m 0 c).arrAt 4 cfg0.N = arrX m c := by
  refine (dats m 0 c).arrAt_eq_of_cover 4 (arrX m c) (fun t _ => ?_) (fun i => ?_)
  · have hN : t.val < 16 := t.isLt
    rw [Value.flushed4]
    unfold out0_4
    rw [View.canon_unit_zero origin]
    simp only [View.ld_unit_zero (S := S1024x2048) origin, View.ld_unit_zero (S := S2048x1024) origin, View.ld_unit_zero (S := S1024x1024) origin, View.ld_unit_zero (S := S1x1024) origin]
    funext j
    have j0 : (j 0).val < 1024 := lt_of_lt_of_eq (j 0).isLt (size4 t).1
    have j1 : (j 1).val < 1024 := lt_of_lt_of_eq (j 1).isLt (size4 t).2
    refine Eq.trans ?_ (read4 t (arrX m c) j (ix2 ⟨t.val % 8 * 1024 + (j 0).val, by omega⟩ ⟨t.val / 8 * 1024 + (j 1).val, by omega⟩) rfl rfl).symm
    refine Eq.trans (congrArg (k0_pay3 (F := Ideal) (blkM m c t) (blkW m c t) (blkX m c t) (blkG m c t)) (funext fun a => by fin_cases a <;> rfl)) ((pay3_at (blkM m c t) (blkW m c t) (blkX m c t) (blkG m c t) ⟨(j 0).val, j0⟩ ⟨(j 1).val, j1⟩).trans ?_)
    exact congrArg₂ (· + ·) (blkX_at m c t ⟨(j 0).val, j0⟩ ⟨(j 1).val, j1⟩ ⟨t.val % 8 * 1024 + (j 0).val, by omega⟩ ⟨t.val / 8 * 1024 + (j 1).val, by omega⟩ rfl rfl) (congrArg₂ (· * ·) (blkG_at m c t ⟨(j 1).val, j1⟩ ⟨t.val / 8 * 1024 + (j 1).val, by omega⟩ rfl) (dot_at m c t ⟨(j 0).val, j0⟩ ⟨(j 1).val, j1⟩ ⟨t.val % 8 * 1024 + (j 0).val, by omega⟩ ⟨t.val / 8 * 1024 + (j 1).val, by omega⟩ rfl rfl))
  · have i0 : (i 0).val < 8192 := (i 0).isLt
    have i1 : (i 1).val < 2048 := (i 1).isLt
    have hN : (i 1).val / 1024 * 8 + (i 0).val / 1024 < cfg0.N := by show _ < 16; omega
    refine ⟨⟨(i 1).val / 1024 * 8 + (i 0).val / 1024, hN⟩, flush0_4 _, ?_⟩
    show i ∈ ((View.whole main_v2_0).slice (win0_4.rect ⟨(i 1).val / 1024 * 8 + (i 0).val / 1024, hN⟩)).set
    rw [View.set_slice_whole]
    refine Rect.mem_set_unit.2 fun a => ?_
    have ea := at4 ⟨_, hN⟩
    have ex := size4 ⟨_, hN⟩
    match a with
    | ⟨0, _⟩ =>
      show win0_4.index _ 0 * 1024 ≤ (i 0).val ∧ (i 0).val < win0_4.index _ 0 * 1024 + win0_4.xsize (grid0.coords _) 0
      rw [ea.1, ex.1]; dsimp only; omega
    | ⟨1, _⟩ =>
      show win0_4.index _ 1 * 1024 ≤ (i 1).val ∧ (i 1).val < win0_4.index _ 1 * 1024 + win0_4.xsize (grid0.coords _) 1
      rw [ea.2, ex.2]; dsimp only; omega
theorem finalY (c : Dev nD) : (dats m 0 c).arrAt 5 cfg0.N = arrY m c := by
  refine (dats m 0 c).arrAt_eq_of_cover 5 (arrY m c) (fun t _ => ?_) (fun i => ?_)
  · have hN : t.val < 16 := t.isLt
    rw [Value.flushed5]
    unfold out0_5
    rw [View.canon_unit_zero origin]
    simp only [View.ld_unit_zero (S := S1024x2048) origin, View.ld_unit_zero (S := S2048x1024) origin, View.ld_unit_zero (S := S1024x1024) origin, View.ld_unit_zero (S := S1x1024) origin]
    funext j
    have j0 : (j 0).val < 1024 := lt_of_lt_of_eq (j 0).isLt (size5 t).1
    have j1 : (j 1).val < 1024 := lt_of_lt_of_eq (j 1).isLt (size5 t).2
    refine Eq.trans ?_ (read5 t (arrY m c) j (ix2 ⟨t.val % 8 * 1024 + (j 0).val, by omega⟩ ⟨t.val / 8 * 1024 + (j 1).val, by omega⟩) rfl rfl).symm
    refine Eq.trans (congrArg (k0_pay2 (F := Ideal) (blkM m c t) (blkW m c t)) (funext fun a => by fin_cases a <;> rfl)) ((pay2_at (blkM m c t) (blkW m c t) ⟨(j 0).val, j0⟩ ⟨(j 1).val, j1⟩).trans ?_)
    exact dot_at m c t ⟨(j 0).val, j0⟩ ⟨(j 1).val, j1⟩ ⟨t.val % 8 * 1024 + (j 0).val, by omega⟩ ⟨t.val / 8 * 1024 + (j 1).val, by omega⟩ rfl rfl
  · have i0 : (i 0).val < 8192 := (i 0).isLt
    have i1 : (i 1).val < 2048 := (i 1).isLt
    have hN : (i 1).val / 1024 * 8 + (i 0).val / 1024 < cfg0.N := by show _ < 16; omega
    refine ⟨⟨(i 1).val / 1024 * 8 + (i 0).val / 1024, hN⟩, flush0_5 _, ?_⟩
    show i ∈ ((View.whole main_v2_1).slice (win0_5.rect ⟨(i 1).val / 1024 * 8 + (i 0).val / 1024, hN⟩)).set
    rw [View.set_slice_whole]
    refine Rect.mem_set_unit.2 fun a => ?_
    have ea := at5 ⟨_, hN⟩
    have ex := size5 ⟨_, hN⟩
    match a with
    | ⟨0, _⟩ =>
      show win0_5.index _ 0 * 1024 ≤ (i 0).val ∧ (i 0).val < win0_5.index _ 0 * 1024 + win0_5.xsize (grid0.coords _) 0
      rw [ea.1, ex.1]; dsimp only; omega
    | ⟨1, _⟩ =>
      show win0_5.index _ 1 * 1024 ≤ (i 1).val ∧ (i 1).val < win0_5.index _ 1 * 1024 + win0_5.xsize (grid0.coords _) 1
      rw [ea.2, ex.2]; dsimp only; omega

/-! ## The claims -/

theorem frame_kernel : Cert.quiescent_Out := fun m ρ _ => Cert.Out.Gen.frame m ρ
theorem frame_ideal : Cert.quiescent_OutIdeal := fun m ρ _ => Cert.OutIdeal.Gen.frame m ρ
theorem frame_ref : Cert.quiescent_OutRefIdeal := fun m ρ _ =>
  (θ_run _ _ _).mono (fun r h => ⟨fun c => (h c).2.2, sem_eq_zero_of_no_sems (by decide) r.2⟩) (Cert.OutRefIdeal.Value.run (F := Ideal) m ρ)

section Ref
open Cert.OutRefIdeal Cert.OutRefIdeal.Gen

/-- The reference's two arrays, entry by entry. -/
theorem refX_at (x : FVec Ideal S8192x2048 .f32) (w : FVec Ideal S2048x2048 .f32) (z : FVec Ideal S8192x2048 .f32) (g : FVec Ideal S1x2048 .f32) (a : Fin 8192) (b : Fin 2048) :
    (addf z (mulf (broadcastInDim S8192x2048 ![0, 1] bcast_S1x2048_S8192x2048_0_1 g) (Host.dotGeneral (F := Ideal) (φ₁ := .f32) (φ₂ := .f32) dot_S8192x2048_S2048x2048_S8192x2048_1_0_0_1_n_n none x w)) (ix2 a b) : EReal)
      = z (ix2 a b) + g (ix2 0 b) * ∑ k : Fin 2048, x (ix2 a k) * w (ix2 k b) := by
  pointwise
theorem refY_at (x : FVec Ideal S8192x2048 .f32) (w : FVec Ideal S2048x2048 .f32) (a : Fin 8192) (b : Fin 2048) :
    (truncf (F := Ideal) .bf16 (Host.dotGeneral (F := Ideal) (φ₁ := .f32) (φ₂ := .f32) dot_S8192x2048_S2048x2048_S8192x2048_1_0_0_1_n_n none x w) Cert.OutRefIdeal.Gen.bitsLt_bf16_f32 (ix2 a b) : EReal)
      = ∑ k : Fin 2048, x (ix2 a k) * w (ix2 k b) := by
  pointwise

end Ref

/-- Both programs run, and their results are equal. -/
theorem values : Cert.algebraic_OutIdeal_OutRefIdeal := by
  intro m g m' g' _ hargs
  refine ⟨fun c => arrX m c, fun c => arrY m c, ?_, ?_⟩
  · refine (θ_run Cert.OutIdeal.defs _ _).mono (fun r h c => ?_) (Value.run_blocks (F := Ideal) m g)
    exact ⟨(h c).1.trans (finalX m c), (h c).2.1.trans (finalY m c), (h c).2.2⟩
  · refine (θ_run Cert.OutRefIdeal.defs _ _).mono (fun r h c => ?_) (Cert.OutRefIdeal.Value.run (F := Ideal) m' g')
    obtain ⟨h0, h1, hk⟩ := h c
    obtain ⟨e0, e1, e2, e3⟩ := hargs c
    rw [e0, e1, e2, e3] at h0
    rw [e0, e1] at h1
    refine ⟨h0.trans (funext fun i => ?_), h1.trans (funext fun i => ?_), hk⟩
    · obtain ⟨a, b, rfl⟩ : ∃ a b, i = ix2 a b := ⟨i 0, i 1, eq_ix2 i⟩
      exact refX_at _ _ _ _ _ _
    · obtain ⟨a, b, rfl⟩ : ∃ a b, i = ix2 a b := ⟨i 0, i 1, eq_ix2 i⟩
      exact refY_at _ _ _ _

end Cert.OutIdeal.Sum

end
-- ==== Proof.ModPart.lean ====
module

public import proofs.«01_k».proof.Proof.Out
public import proofs.«01_k».proof.Proof.Gen.ModPartIdeal.Value
public import proofs.«01_k».proof.Proof.Gen.ModPart.Frame
public import proofs.«01_k».proof.Proof.Gen.ModPartRefIdeal.Run
public import proofs.«01_k».proof.Defs
public import Idealize.ShloMosaic.Lib.Quiescent
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! The modulation vectors of a shard: `silu(c) w_ada + b_ada`, and `silu(c)` itself, sixteen rows at a time. -/

namespace Cert.ModPartIdeal.Sum

open Idealize.ShloMosaic Idealize.ShloMosaic.TcCoe Idealize.SL.Sem
open Cert.ModPartIdeal Cert.ModPartIdeal.Gen
open Cert.Adam (origin)

variable (m : (ℓ : Loc nD τ sig) → Buf (Elt Ideal) ℓ)

/-- `x / (1 + exp (-x))`, as the kernel groups it. -/
def silu (x : EReal) : EReal := x * Ideal.div 1 (1 + Ideal.exp (0 - x))
theorem silu_neg (x : EReal) : x * Ideal.div 1 (1 + Ideal.exp (-x)) = silu x := by unfold silu; rw [zero_sub]

/-- The call's arrays, entry by entry. -/
abbrev rowC (c : Dev nD) (r : Fin 16) (k : Fin 2048) : EReal := m ((c.tc : Thread nD τ).loc main_arg0) (ix2 r k)
abbrev rowW (c : Dev nD) (k : Fin 2048) (b : Fin 4608) : EReal := m ((c.tc : Thread nD τ).loc main_arg1) (ix2 k b)
abbrev bias (c : Dev nD) (b : Fin 4608) : EReal := m ((c.tc : Thread nD τ).loc main_arg2) (ix2 0 b)

/-! ## The blocks -/

theorem at0 : ∀ t : Fin cfg0.N, win0_0.index t 0 = 0 ∧ win0_0.index t 1 = 0 :=
  (by decide +kernel : ∀ t : Fin grid0.N, win0_0.index t 0 = 0 ∧ win0_0.index t 1 = 0)
theorem at1 : ∀ t : Fin cfg0.N, win0_1.index t 0 = 0 ∧ win0_1.index t 1 = t.val :=
  (by decide +kernel : ∀ t : Fin grid0.N, win0_1.index t 0 = 0 ∧ win0_1.index t 1 = t.val)
theorem at2 : ∀ t : Fin cfg0.N, win0_2.index t 0 = 0 ∧ win0_2.index t 1 = t.val :=
  (by decide +kernel : ∀ t : Fin grid0.N, win0_2.index t 0 = 0 ∧ win0_2.index t 1 = t.val)
theorem at3 : ∀ t : Fin cfg0.N, win0_3.index t 0 = 0 ∧ win0_3.index t 1 = t.val :=
  (by decide +kernel : ∀ t : Fin grid0.N, win0_3.index t 0 = 0 ∧ win0_3.index t 1 = t.val)
theorem at4 : ∀ t : Fin cfg0.N, win0_4.index t 0 = 0 ∧ win0_4.index t 1 = 0 :=
  (by decide +kernel : ∀ t : Fin grid0.N, win0_4.index t 0 = 0 ∧ win0_4.index t 1 = 0)
theorem size3 : ∀ t : Fin cfg0.N, win0_3.xsize (grid0.coords t) 0 = 16 ∧ win0_3.xsize (grid0.coords t) 1 = 512 :=
  (by decide +kernel : ∀ t : Fin grid0.N, win0_3.xsize (grid0.coords t) 0 = 16 ∧ win0_3.xsize (grid0.coords t) 1 = 512)
theorem size4 : ∀ t : Fin cfg0.N, win0_4.xsize (grid0.coords t) 0 = 16 ∧ win0_4.xsize (grid0.coords t) 1 = 2048 :=
  (by decide +kernel : ∀ t : Fin grid0.N, win0_4.xsize (grid0.coords t) 0 = 16 ∧ win0_4.xsize (grid0.coords t) 1 = 2048)

abbrev blkC (c : Dev nD) (t : Fin cfg0.N) : Vec Ideal S16x2048 .f32 := iblk m c 0 t
abbrev blkW (c : Dev nD) (t : Fin cfg0.N) : Vec Ideal S2048x512 .f32 := iblk m c 1 t
abbrev blkB (c : Dev nD) (t : Fin cfg0.N) : Vec Ideal S1x512 .f32 := iblk m c 2 t

theorem blkC_at (c : Dev nD) (t : Fin cfg0.N) (p : Fin 16) (k : Fin 2048) : (blkC m c t (ix2 p k) : EReal) = rowC m c p k := by
  show ((win0_0.blk t).view.read (Elt Ideal) (V m c main_arg0) : _ → EReal) (ix2 p k) = _
  rw [V_main_arg0]
  refine congrArg (m ((c.tc : Thread nD τ).loc main_arg0)) ((eq_ix2 _).trans (congrArg₂ ix2 (Fin.ext ?_) (Fin.ext ?_)))
  · refine (Rect.idx_unit_val _ _ _ _ _).trans ?_
    show win0_0.index t 0 * 16 + p.val = p.val
    rw [(at0 t).1, Nat.zero_mul, Nat.zero_add]
  · refine (Rect.idx_unit_val _ _ _ _ _).trans ?_
    show win0_0.index t 1 * 2048 + k.val = k.val
    rw [(at0 t).2, Nat.zero_mul, Nat.zero_add]
theorem blkW_at (c : Dev nD) (t : Fin cfg0.N) (k : Fin 2048) (q : Fin 512) (b : Fin 4608) (hb : t.val * 512 + q.val = b.val) : (blkW m c t (ix2 k q) : EReal) = rowW m c k b := by
  show ((win0_1.blk t).view.read (Elt Ideal) (V m c main_arg1) : _ → EReal) (ix2 k q) = _
  rw [V_main_arg1]
  refine congrArg (m ((c.tc : Thread nD τ).loc main_arg1)) ((eq_ix2 _).trans (congrArg₂ ix2 (Fin.ext ?_) (Fin.ext ?_)))
  · refine (Rect.idx_unit_val _ _ _ _ _).trans ?_
    show win0_1.index t 0 * 2048 + k.val = k.val
    rw [(at1 t).1, Nat.zero_mul, Nat.zero_add]
  · refine (Rect.idx_unit_val _ _ _ _ _).trans ?_
    show win0_1.index t 1 * 512 + q.val = b.val
    rw [(at1 t).2, hb]
theorem blkB_at (c : Dev nD) (t : Fin cfg0.N) (q : Fin 512) (b : Fin 4608) (hb : t.val * 512 + q.val = b.val) : (blkB m c t (ix2 0 q) : EReal) = bias m c b := by
  show ((win0_2.blk t).view.read (Elt Ideal) (V m c main_arg2) : _ → EReal) (ix2 0 q) = _
  rw [V_main_arg2]
  refine congrArg (m ((c.tc : Thread nD τ).loc main_arg2)) ((eq_ix2 _).trans (congrArg₂ ix2 (Fin.ext ?_) (Fin.ext ?_)))
  · refine (Rect.idx_unit_val _ _ _ _ _).trans ?_
    show win0_2.index t 0 * 1 + 0 = 0
    rw [(at2 t).1]
  · refine (Rect.idx_unit_val _ _ _ _ _).trans ?_
    show win0_2.index t 1 * 512 + q.val = b.val
    rw [(at2 t).2, hb]

theorem pay1_at (x : Vec Ideal S16x2048 .f32) (p : Fin 16) (k : Fin 2048) :
    (k0_pay1 (F := Ideal) x (ix2 p k) : EReal) = silu (x (ix2 p k)) := by
  unfold silu; pointwise [k0_pay1]
theorem pay2_at (x : Vec Ideal S16x2048 .f32) (y : Vec Ideal S2048x512 .f32) (z : Vec Ideal S1x512 .f32) (p : Fin 16) (q : Fin 512) :
    (k0_pay2 (F := Ideal) x y z (ix2 p q) : EReal) = (∑ k : Fin 2048, silu (x (ix2 p k)) * y (ix2 k q)) + z (ix2 0 q) := by
  unfold silu; pointwise [k0_pay2, k0_pay1]

/-! ## The arrays -/

/-- The activated vectors, and their product with the weight, plus the bias. -/
abbrev arrA (c : Dev nD) : FVec Ideal S16x2048 .bf16 := fun i => silu (rowC m c (i 0) (i 1))
abbrev arrO (c : Dev nD) : FVec Ideal S16x4608 .f32 := fun i => (∑ k : Fin 2048, silu (rowC m c (i 0) k) * rowW m c k (i 1)) + bias m c (i 1)

theorem read3 (t : Fin cfg0.N) (G : S16x4608.Idx → EReal) (j : (win0_3.xblock (grid0.coords t)).Idx) (i : S16x4608.Idx)
    (h0 : (j 0).val = (i 0).val) (h1 : t.val * 512 + (j 1).val = (i 1).val) :
    ((win0_3.blk t).view.read (Elt Ideal) G : _ → EReal) j = G i := by
  refine congrArg G (funext fun a => Fin.ext ?_)
  match a with
  | ⟨0, _⟩ =>
    refine (Rect.idx_unit_val _ _ _ _ _).trans ?_
    show win0_3.index t 0 * 16 + (j 0).val = (i 0).val
    rw [(at3 t).1, Nat.zero_mul, Nat.zero_add, h0]
  | ⟨1, _⟩ =>
    refine (Rect.idx_unit_val _ _ _ _ _).trans ?_
    show win0_3.index t 1 * 512 + (j 1).val = (i 1).val
    rw [(at3 t).2, h1]
theorem read4 (t : Fin cfg0.N) (G : S16x2048.Idx → EReal) (j : (win0_4.xblock (grid0.coords t)).Idx) (i : S16x2048.Idx)
    (h0 : (j 0).val = (i 0).val) (h1 : (j 1).val = (i 1).val) :
    ((win0_4.blk t).view.read (Elt Ideal) G : _ → EReal) j = G i := by
  refine congrArg G (funext fun a => Fin.ext ?_)
  match a with
  | ⟨0, _⟩ =>
    refine (Rect.idx_unit_val _ _ _ _ _).trans ?_
    show win0_4.index t 0 * 16 + (j 0).val = (i 0).val
    rw [(at4 t).1, Nat.zero_mul, Nat.zero_add, h0]
  | ⟨1, _⟩ =>
    refine (Rect.idx_unit_val _ _ _ _ _).trans ?_
    show win0_4.index t 1 * 2048 + (j 1).val = (i 1).val
    rw [(at4 t).2, Nat.zero_mul, Nat.zero_add, h1]

theorem finalO (c : Dev nD) : (dats m 0 c).arrAt 3 cfg0.N = arrO m c := by
  refine (dats m 0 c).arrAt_eq_of_cover 3 (arrO m c) (fun t _ => ?_) (fun i => ?_)
  · have hN : t.val < 9 := t.isLt
    rw [Value.flushed3]
    unfold out0_3
    rw [View.canon_unit_zero origin]
    simp only [View.ld_unit_zero (S := S16x2048) origin, View.ld_unit_zero (S := S2048x512) origin, View.ld_unit_zero (S := S1x512) origin]
    funext j
    have j0 : (j 0).val < 16 := lt_of_lt_of_eq (j 0).isLt (size3 t).1
    have j1 : (j 1).val < 512 := lt_of_lt_of_eq (j 1).isLt (size3 t).2
    have hb : t.val * 512 + (j 1).val < 4608 := by omega
    refine Eq.trans ?_ (read3 t (arrO m c) j (ix2 ⟨(j 0).val, j0⟩ ⟨t.val * 512 + (j 1).val, hb⟩) rfl rfl).symm
    refine Eq.trans (congrArg (k0_pay2 (F := Ideal) (blkC m c t) (blkW m c t) (blkB m c t)) (funext fun a => by fin_cases a <;> rfl)) ((pay2_at (blkC m c t) (blkW m c t) (blkB m c t) ⟨(j 0).val, j0⟩ ⟨(j 1).val, j1⟩).trans ?_)
    exact congrArg₂ (· + ·) (Finset.sum_congr rfl fun k _ => congrArg₂ (· * ·) (congrArg silu (blkC_at m c t ⟨(j 0).val, j0⟩ k)) (blkW_at m c t k ⟨(j 1).val, j1⟩ ⟨t.val * 512 + (j 1).val, hb⟩ rfl)) (blkB_at m c t ⟨(j 1).val, j1⟩ ⟨t.val * 512 + (j 1).val, hb⟩ rfl)
  · have i0 : (i 0).val < 16 := (i 0).isLt
    have i1 : (i 1).val < 4608 := (i 1).isLt
    have hN : (i 1).val / 512 < cfg0.N := by show _ < 9; omega
    refine ⟨⟨(i 1).val / 512, hN⟩, flush0_3 _, ?_⟩
    show i ∈ ((View.whole main_v0_0).slice (win0_3.rect ⟨(i 1).val / 512, hN⟩)).set
    rw [View.set_slice_whole]
    refine Rect.mem_set_unit.2 fun a => ?_
    have ea := at3 ⟨_, hN⟩
    have ex := size3 ⟨_, hN⟩
    match a with
    | ⟨0, _⟩ =>
      show win0_3.index _ 0 * 16 ≤ (i 0).val ∧ (i 0).val < win0_3.index _ 0 * 16 + win0_3.xsize (grid0.coords _) 0
      rw [ea.1, ex.1]; omega
    | ⟨1, _⟩ =>
      show win0_3.index _ 1 * 512 ≤ (i 1).val ∧ (i 1).val < win0_3.index _ 1 * 512 + win0_3.xsize (grid0.coords _) 1
      rw [ea.2, ex.2]; dsimp only; omega
theorem finalA (c : Dev nD) : (dats m 0 c).arrAt 4 cfg0.N = arrA m c := by
  refine (dats m 0 c).arrAt_eq_of_cover 4 (arrA m c) (fun t _ => ?_) (fun i => ?_)
  · rw [Value.flushed4]
    unfold out0_4
    rw [View.canon_unit_zero origin]
    simp only [View.ld_unit_zero (S := S16x2048) origin]
    funext j
    have j0 : (j 0).val < 16 := lt_of_lt_of_eq (j 0).isLt (size4 t).1
    have j1 : (j 1).val < 2048 := lt_of_lt_of_eq (j 1).isLt (size4 t).2
    refine Eq.trans ?_ (read4 t (arrA m c) j (ix2 ⟨(j 0).val, j0⟩ ⟨(j 1).val, j1⟩) rfl rfl).symm
    refine Eq.trans (congrArg (k0_pay1 (F := Ideal) (blkC m c t)) (funext fun a => by fin_cases a <;> rfl)) ((pay1_at (blkC m c t) ⟨(j 0).val, j0⟩ ⟨(j 1).val, j1⟩).trans ?_)
    exact congrArg silu (blkC_at m c t ⟨(j 0).val, j0⟩ ⟨(j 1).val, j1⟩)
  · have i0 : (i 0).val < 16 := (i 0).isLt
    have i1 : (i 1).val < 2048 := (i 1).isLt
    have hN : 8 < cfg0.N := by show _ < 9; omega
    refine ⟨⟨8, hN⟩, (flush0_4 _).2 rfl, ?_⟩
    show i ∈ ((View.whole main_v0_1).slice (win0_4.rect ⟨8, hN⟩)).set
    rw [View.set_slice_whole]
    refine Rect.mem_set_unit.2 fun a => ?_
    have ea := at4 ⟨_, hN⟩
    have ex := size4 ⟨_, hN⟩
    match a with
    | ⟨0, _⟩ =>
      show win0_4.index _ 0 * 16 ≤ (i 0).val ∧ (i 0).val < win0_4.index _ 0 * 16 + win0_4.xsize (grid0.coords _) 0
      rw [ea.1, ex.1]; omega
    | ⟨1, _⟩ =>
      show win0_4.index _ 1 * 2048 ≤ (i 1).val ∧ (i 1).val < win0_4.index _ 1 * 2048 + win0_4.xsize (grid0.coords _) 1
      rw [ea.2, ex.2]; omega

/-! ## The claims -/

theorem frame_kernel : Cert.quiescent_ModPart := fun m ρ _ => Cert.ModPart.Gen.frame m ρ
theorem frame_ideal : Cert.quiescent_ModPartIdeal := fun m ρ _ => Cert.ModPartIdeal.Gen.frame m ρ
theorem frame_ref : Cert.quiescent_ModPartRefIdeal := fun m ρ _ =>
  (θ_run _ _ _).mono (fun r h => ⟨fun c => (h c).2.2, sem_eq_zero_of_no_sems (by decide) r.2⟩) (Cert.ModPartRefIdeal.Value.run (F := Ideal) m ρ)

section Ref
open Cert.ModPartRefIdeal Cert.ModPartRefIdeal.Gen

/-- The reference's activation, as an array. -/
abbrev acts (x : FVec Ideal S16x2048 .f32) : FVec Ideal S16x2048 .f32 :=
  mulf x (Host.divf (broadcastInDim S16x2048 ![] bcast_S_S16x2048 (constant (F := Ideal) S_ .f32 0x3F800000#32))
    (addf (broadcastInDim S16x2048 ![] bcast_S_S16x2048 (constant (F := Ideal) S_ .f32 0x3F800000#32)) (Host.exp (Host.negf x))))
/-- The reference's two arrays, entry by entry. -/
theorem acts_at (x : FVec Ideal S16x2048 .f32) (a : Fin 16) (k : Fin 2048) : (acts x (ix2 a k) : EReal) = silu (x (ix2 a k)) := by
  rw [← silu_neg]; pointwise [acts]
theorem refO_at (x : FVec Ideal S16x2048 .f32) (w : FVec Ideal S2048x4608 .f32) (z : FVec Ideal S1x4608 .f32) (a : Fin 16) (b : Fin 4608) :
    (addf (Host.dotGeneral (F := Ideal) (φ₁ := .f32) (φ₂ := .f32) dot_S16x2048_S2048x4608_S16x4608_1_0_0_1_n_n none (acts x) w) (broadcastInDim S16x4608 ![0, 1] bcast_S1x4608_S16x4608_0_1 z) (ix2 a b) : EReal)
      = (∑ k : Fin 2048, silu (x (ix2 a k)) * w (ix2 k b)) + z (ix2 0 b) := by
  have h (u : FVec Ideal S16x2048 .f32) : (addf (Host.dotGeneral (F := Ideal) (φ₁ := .f32) (φ₂ := .f32) dot_S16x2048_S2048x4608_S16x4608_1_0_0_1_n_n none u w) (broadcastInDim S16x4608 ![0, 1] bcast_S1x4608_S16x4608_0_1 z) (ix2 a b) : EReal)
      = (∑ k : Fin 2048, u (ix2 a k) * w (ix2 k b)) + z (ix2 0 b) := by pointwise
  rw [h]
  exact congrArg (· + z (ix2 0 b)) (Finset.sum_congr rfl fun k _ => congrArg (· * w (ix2 k b)) (acts_at x a k))
theorem refA_at (x : FVec Ideal S16x2048 .f32) (a : Fin 16) (k : Fin 2048) :
    (truncf (F := Ideal) .bf16 (acts x) Cert.ModPartRefIdeal.Gen.bitsLt_bf16_f32 (ix2 a k) : EReal) = silu (x (ix2 a k)) := acts_at x a k

end Ref

/-- Both programs run, and their results are equal. -/
theorem values : Cert.algebraic_ModPartIdeal_ModPartRefIdeal := by
  intro m g m' g' _ hargs
  refine ⟨fun c => arrO m c, fun c => arrA m c, ?_, ?_⟩
  · refine (θ_run Cert.ModPartIdeal.defs _ _).mono (fun r h c => ?_) (Value.run_blocks (F := Ideal) m g)
    exact ⟨(h c).1.trans (finalO m c), (h c).2.1.trans (finalA m c), (h c).2.2⟩
  · refine (θ_run Cert.ModPartRefIdeal.defs _ _).mono (fun r h c => ?_) (Cert.ModPartRefIdeal.Value.run (F := Ideal) m' g')
    obtain ⟨h0, h1, hk⟩ := h c
    obtain ⟨e0, e1, e2⟩ := hargs c
    rw [e0, e1, e2] at h0
    rw [e0] at h1
    refine ⟨h0.trans (funext fun i => ?_), h1.trans (funext fun i => ?_), hk⟩
    · obtain ⟨a, b, rfl⟩ : ∃ a b, i = ix2 a b := ⟨i 0, i 1, eq_ix2 i⟩
      exact refO_at _ _ _ _ _
    · obtain ⟨a, b, rfl⟩ : ∃ a b, i = ix2 a b := ⟨i 0, i 1, eq_ix2 i⟩
      exact refA_at _ _ _

end Cert.ModPartIdeal.Sum

end
-- ==== Proof.RelBias.lean ====
module

public import proofs.«01_k».proof.Proof.ModPart
public import proofs.«01_k».proof.Proof.Gen.RelBiasIdeal.Value
public import proofs.«01_k».proof.Proof.Gen.RelBias.Frame
public import proofs.«01_k».proof.Proof.Gen.RelBiasRefIdeal.Run
public import proofs.«01_k».proof.Defs
public import Idealize.ShloMosaic.Lib.Quiescent
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! The gradient of the relative bias: the scores' cotangents, summed bucket by bucket. -/

namespace Cert.RelBiasIdeal.Sum

open Idealize.ShloMosaic Idealize.ShloMosaic.TcCoe Idealize.SL.Sem
open Cert.RelBiasIdeal Cert.RelBiasIdeal.Gen

/-- The sum over a bucket's positions, for each head. -/
abbrev sums (d : S16x32768.Idx → EReal) (o : S32x32768.Idx → EReal) : FVec Ideal S32x16 .f32 := fun i => ∑ n : Fin 32768, o (ix2 (i 0) n) * d (ix2 (i 1) n)

theorem pay1_at (o : Vec Ideal S32x32768 .f32) (d : Vec Ideal S16x32768 .f32) (p : Fin 32) (q : Fin 16) :
    (k0_pay1 (F := Ideal) o d (ix2 p q) : EReal) = ∑ n : Fin 32768, o (ix2 p n) * d (ix2 q n) := by
  pointwise [k0_pay1]

theorem frame_kernel : Cert.quiescent_RelBias := fun m ρ _ => Cert.RelBias.Gen.frame m ρ
theorem frame_ideal : Cert.quiescent_RelBiasIdeal := fun m ρ _ => Cert.RelBiasIdeal.Gen.frame m ρ
theorem frame_ref : Cert.quiescent_RelBiasRefIdeal := fun m ρ _ =>
  (θ_run _ _ _).mono (fun r h => ⟨fun c => (h c).2, sem_eq_zero_of_no_sems (by decide) r.2⟩) (Cert.RelBiasRefIdeal.Value.run (F := Ideal) m ρ)

section Ref
open Cert.RelBiasRefIdeal Cert.RelBiasRefIdeal.Gen

theorem ref_at (d : FVec Ideal S16x32768 .f32) (o : FVec Ideal S32x32768 .f32) (p : Fin 32) (q : Fin 16) :
    (transpose S32x16 [1, 0] (Host.dotGeneral (F := Ideal) (φ₁ := .f32) (φ₂ := .f32) dot_S16x32768_S32x32768_S16x32_1_1_0_0_n_n none d o) transposes_S16x32_S32x16_1_0 (ix2 p q) : EReal)
      = ∑ n : Fin 32768, o (ix2 p n) * d (ix2 q n) := by
  have h : (transpose S32x16 [1, 0] (Host.dotGeneral (F := Ideal) (φ₁ := .f32) (φ₂ := .f32) dot_S16x32768_S32x32768_S16x32_1_1_0_0_n_n none d o) transposes_S16x32_S32x16_1_0 (ix2 p q) : EReal)
      = ∑ n : Fin 32768, d (ix2 q n) * o (ix2 p n) := by pointwise
  rw [h]
  exact Finset.sum_congr rfl fun n _ => mul_comm _ _

end Ref

/-- Both programs run, and their results are equal. -/
theorem values : Cert.algebraic_RelBiasIdeal_RelBiasRefIdeal := by
  intro m g m' g' _ hargs
  refine ⟨fun c => sums (m ((c.tc : Thread nD τ).loc main_arg0)) (m ((c.tc : Thread nD τ).loc main_arg1)), ?_, ?_⟩
  · refine (θ_run Cert.RelBiasIdeal.defs _ _).mono (fun r h c => ?_) (Value.run (F := Ideal) m g)
    refine ⟨(h c).1.trans (funext fun i => ?_), (h c).2⟩
    obtain ⟨a, b, rfl⟩ : ∃ a b, i = ix2 a b := ⟨i 0, i 1, eq_ix2 i⟩
    exact pay1_at _ _ _ _
  · refine (θ_run Cert.RelBiasRefIdeal.defs _ _).mono (fun r h c => ?_) (Cert.RelBiasRefIdeal.Value.run (F := Ideal) m' g')
    obtain ⟨h0, hk⟩ := h c
    obtain ⟨e0, e1⟩ := hargs c
    rw [e0, e1] at h0
    refine ⟨h0.trans (funext fun i => ?_), hk⟩
    obtain ⟨a, b, rfl⟩ : ∃ a b, i = ix2 a b := ⟨i 0, i 1, eq_ix2 i⟩
    exact ref_at _ _ _ _

end Cert.RelBiasIdeal.Sum

end
-- ==== Proof.PreNorm.lean ====
module

public import proofs.«01_k».proof.Proof.RelBias
public import proofs.«01_k».proof.Proof.Gen.PreNormIdeal.Value
public import proofs.«01_k».proof.Proof.Gen.PreNorm.Frame
public import proofs.«01_k».proof.Proof.Gen.PreNormRefIdeal.Run
public import proofs.«01_k».proof.Defs
public import Idealize.ShloMosaic.Lib.Quiescent
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! The first norm and its modulation: `x / rms(x) g (1 + sc) + sh`, by row blocks of eight groups of 64 rows. -/

namespace Cert.PreNormIdeal.Rows

open Idealize.ShloMosaic Idealize.ShloMosaic.TcCoe Idealize.SL.Sem
open Cert.PreNormIdeal Cert.PreNormIdeal.Gen
open Cert.Adam (origin lit)

/-- Rows `64 q` to `64 q + 63` of a row block. -/
def rowsOf {e : EltTy} (X : Vec Ideal S512x2048 e) (q : Fin 8) : Vec Ideal S64x2048 e :=
  fun i => X (ix2 ⟨64 * q.val + (i 0).val, by have h : (i 0).val < 64 := (i 0).isLt; omega⟩ (i 1))
/-- The row block whose rows `64 q` to `64 q + 63` are `P q`. -/
def joinRows {e : EltTy} (P : Fin 8 → Vec Ideal S64x2048 e) : Vec Ideal S512x2048 e :=
  fun j => P ⟨(j 0).val / 64, by have h : (j 0).val < 512 := (j 0).isLt; omega⟩ (ix2 ⟨(j 0).val % 64, Nat.mod_lt _ (by decide)⟩ (j 1))

/-- A load of 64 rows of a row block. -/
theorem group_load {e : EltTy} (v : View sig .tc .vmem S512x2048 e) (f : v.ty.Contents (Elt Ideal))
    (off : Fin 2 → Nat) (q : Fin 8) (ho : off = ![64 * q.val, 0]) (inb : ∀ a, off a + S64x2048.size a ≤ S512x2048.size a) :
    v.readAt (Elt Ideal) (Rect.unit (s := S512x2048) off S64x2048.size inb).toLoadRect f = rowsOf (v.read (Elt Ideal) f) q := by
  subst ho
  funext i
  refine congrArg (v.read (Elt Ideal) f) (funext fun a => Fin.ext ?_)
  match a with
  | ⟨0, _⟩ => exact Rect.idx_unit_val _ _ _ _ _
  | ⟨1, _⟩ => exact (Rect.idx_unit_val _ _ _ _ _).trans (Nat.zero_add _)

/-- Stores of 64 rows each, from the top downwards: the rows stored so far hold their groups. -/
theorem groups_stored {e : EltTy} (v : View sig .tc .vmem S512x2048 e) (f : v.ty.Contents (Elt Ideal))
    (P : Fin 8 → Vec Ideal S64x2048 e) (pb : Nat → List (View.Piece (Elt Ideal) S512x2048 e))
    (hs : ∀ k : Fin 8, ∃ (off : Fin 2 → Nat) (ho : off = ![64 * k.val, 0]) (inb : ∀ a, off a + S64x2048.size a ≤ S512x2048.size a),
      pb (k.val + 1) = ⟨Rect.unit (s := S512x2048) off S64x2048.size inb, P k⟩ :: pb k.val) (j : S512x2048.Idx) :
    ∀ n : Nat, n ≤ 8 → (j 0).val < 64 * n → v.read (Elt Ideal) (v.writes (Elt Ideal) f (pb n)) j = joinRows P j
  | 0, _, h => absurd h (by omega)
  | n + 1, hn, h => by
    obtain ⟨off, ho, inb, e⟩ := hs ⟨n, hn⟩
    rw [show pb (n + 1) = _ from e]
    by_cases hj : (j 0).val < 64 * n
    · refine (View.read_writes_cons_unit_of_not_mem v f inb (P ⟨n, hn⟩) _ j ho (0 : Fin 2) (Or.inl hj)).trans ?_
      exact groups_stored v f P pb hs j n (by omega) hj
    · refine (View.read_writes_cons_unit_of_mem v f inb (P ⟨n, hn⟩) _ j
        (ix2 ⟨(j 0).val % 64, Nat.mod_lt _ (by decide)⟩ (j 1)) ho
        (Fin.forall_fin_two.mpr ⟨?_, (Nat.zero_add _).symm⟩)).trans ?_
      · show (j 0).val = 64 * n + (j 0).val % 64
        omega
      · unfold joinRows
        exact congrArg (fun q : Fin 8 => P q (ix2 ⟨(j 0).val % 64, Nat.mod_lt _ (by decide)⟩ (j 1))) (Fin.ext (by show n = (j 0).val / 64; omega))

theorem trips8 : k0_t1_loop.trips = 8 := by decide +kernel

/-- A row block of the modulated norm. -/
def block (x : Vec Ideal S512x2048 .f32) (g sh sc : Vec Ideal S1x2048 .f32) : Vec Ideal S512x2048 .bf16 :=
  joinRows fun q => k0_pay1 (rowsOf x q) g sc sh

section Loop

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole)

/-- What one trip stores. -/
theorem trip_is (X1 : BufTy.Contents (Elt Ideal) arg1.view.ty) (X2 : BufTy.Contents (Elt Ideal) arg2.view.ty) (X3 : BufTy.Contents (Elt Ideal) arg3.view.ty)
    (X4 : BufTy.Contents (Elt Ideal) arg4.view.ty) (k : Fin k0_t1_loop.trips) :
    tripL_k0_t1 (F := Ideal) Variants.none c none i arg1 harg1 arg2 harg2 arg3 harg3 arg4 harg4 arg5 harg5 X1 X2 X3 X4 k =
      [⟨Rect.unit (s := S512x2048) (k0_off1 k) S64x2048.size (k0_off1_inb k),
        k0_pay1 (arg1.view.readAt (Elt Ideal) (Rect.unit (s := S512x2048) (k0_off1 k) S64x2048.size (k0_off1_inb k)).toLoadRect X1)
          (arg2.view.readAt (Elt Ideal) (Rect.unit (s := S1x2048) ![0, 0] S1x2048.size inb_S1x2048_S1x2048_0_0).toLoadRect X2)
          (arg4.view.readAt (Elt Ideal) (Rect.unit (s := S1x2048) ![0, 0] S1x2048.size inb_S1x2048_S1x2048_0_0).toLoadRect X4)
          (arg3.view.readAt (Elt Ideal) (Rect.unit (s := S1x2048) ![0, 0] S1x2048.size inb_S1x2048_S1x2048_0_0).toLoadRect X3)⟩] := by
  unfold tripL_k0_t1 trip_k0_t1
  rfl

/-- The pieces of the trips before `n`. -/
abbrev pieces (X1 : BufTy.Contents (Elt Ideal) arg1.view.ty) (X2 : BufTy.Contents (Elt Ideal) arg2.view.ty) (X3 : BufTy.Contents (Elt Ideal) arg3.view.ty)
    (X4 : BufTy.Contents (Elt Ideal) arg4.view.ty) (n : Nat) := pb_k0_t1 (F := Ideal) Variants.none c none i arg1 harg1 arg2 harg2 arg3 harg3 arg4 harg4 arg5 harg5 X1 X2 X3 X4 n

/-- One trip more. -/
theorem pieces_succ (X1 : BufTy.Contents (Elt Ideal) arg1.view.ty) (X2 : BufTy.Contents (Elt Ideal) arg2.view.ty) (X3 : BufTy.Contents (Elt Ideal) arg3.view.ty)
    (X4 : BufTy.Contents (Elt Ideal) arg4.view.ty) (k : Fin 8) :
    pieces c i arg1 harg1 arg2 harg2 arg3 harg3 arg4 harg4 arg5 harg5 X1 X2 X3 X4 (k.val + 1) =
      ⟨Rect.unit (s := S512x2048) (k0_off1 ⟨k.val, k.isLt.trans_eq trips8.symm⟩) S64x2048.size (k0_off1_inb ⟨k.val, k.isLt.trans_eq trips8.symm⟩),
        k0_pay1 (rowsOf (arg1.view.read (Elt Ideal) X1) k) (arg2.view.read (Elt Ideal) X2) (arg4.view.read (Elt Ideal) X4) (arg3.view.read (Elt Ideal) X3)⟩
        :: pieces c i arg1 harg1 arg2 harg2 arg3 harg3 arg4 harg4 arg5 harg5 X1 X2 X3 X4 k.val := by
  have e := pb_k0_t1_succ (F := Ideal) Variants.none c none i arg1 harg1 arg2 harg2 arg3 harg3 arg4 harg4 arg5 harg5 X1 X2 X3 X4 ⟨k.val, k.isLt.trans_eq trips8.symm⟩
  have rows := group_load arg1.view X1 (k0_off1 ⟨k.val, k.isLt.trans_eq trips8.symm⟩) k (k0_off1_eq ⟨k.val, k.isLt.trans_eq trips8.symm⟩) (k0_off1_inb ⟨k.val, k.isLt.trans_eq trips8.symm⟩)
  rw [trip_is, rows] at e
  have whole : ∀ (v : View sig .tc .vmem S1x2048 .f32) (f : v.ty.Contents (Elt Ideal)),
      v.readAt (Elt Ideal) (Rect.unit (s := S1x2048) ![0, 0] S1x2048.size inb_S1x2048_S1x2048_0_0).toLoadRect f = v.read (Elt Ideal) f :=
    fun v f => View.ld_unit_zero (S := S1x2048) origin inb_S1x2048_S1x2048_0_0 _
  rw [whole, whole, whole] at e
  exact e

/-- What a point leaves in the output's buffer. -/
theorem out_is (x : Vec Ideal S512x2048 .f32) (g sh sc : Vec Ideal S1x2048 .f32) :
    out0_A_4 c i arg1 harg1 arg2 harg2 arg3 harg3 arg4 harg4 arg5 harg5 x g sh sc = block x g sh sc := by
  have h : (kernelRun0_A c i arg1 harg1 arg2 harg2 arg3 harg3 arg4 harg4 arg5 harg5 x g sh sc).1
      = pieces c i arg1 harg1 arg2 harg2 arg3 harg3 arg4 harg4 arg5 harg5 (harg1.unread x) (harg2.unread g) (harg3.unread sh) (harg4.unread sc) 8 := by
    unfold kernelRun0_A
    rfl
  unfold out0_A_4
  rw [h]
  funext j
  refine (groups_stored VO0_4 _ (fun q => k0_pay1 (rowsOf x q) g sc sh) (pieces c i arg1 harg1 arg2 harg2 arg3 harg3 arg4 harg4 arg5 harg5 (harg1.unread x) (harg2.unread g) (harg3.unread sh) (harg4.unread sc))
    (fun k => ⟨_, k0_off1_eq ⟨k.val, k.isLt.trans_eq trips8.symm⟩, k0_off1_inb ⟨k.val, k.isLt.trans_eq trips8.symm⟩, ?_⟩) j 8 (Nat.le_refl _) (j 0).isLt)
  have e := pieces_succ c i arg1 harg1 arg2 harg2 arg3 harg3 arg4 harg4 arg5 harg5 (harg1.unread x) (harg2.unread g) (harg3.unread sh) (harg4.unread sc) k
  rw [harg1.read_unread, harg2.read_unread, harg3.read_unread, harg4.read_unread] at e
  exact e

end Loop

/-- A normalised and modulated entry, of its row's sum of squares `s`. -/
def nrm (s x g sc sh : EReal) : EReal := x * Ideal.rsqrt (Ideal.div s (lit 0x45000000#32) + lit 0x358637BD#32) * g * (1 + sc) + sh

theorem pay1_at (x : Vec Ideal S64x2048 .f32) (g sc sh : Vec Ideal S1x2048 .f32) (p : Fin 64) (n : Fin 2048) :
    (k0_pay1 x g sc sh (ix2 p n) : EReal) = nrm (∑ k : Fin 2048, x (ix2 p k) * x (ix2 p k)) (x (ix2 p n)) (g (ix2 0 n)) (sc (ix2 0 n)) (sh (ix2 0 n)) := by
  unfold nrm
  pointwise [k0_pay1]

/-! ## The blocks and the array -/

variable (m : (ℓ : Loc nD τ sig) → Buf (Elt Ideal) ℓ)

abbrev rowX (c : Dev nD) (r : Fin 8192) (k : Fin 2048) : EReal := m ((c.tc : Thread nD τ).loc main_arg0) (ix2 r k)
abbrev vecG (c : Dev nD) (k : Fin 2048) : EReal := m ((c.tc : Thread nD τ).loc main_arg1) (ix2 0 k)
abbrev vecSh (c : Dev nD) (k : Fin 2048) : EReal := m ((c.tc : Thread nD τ).loc main_arg2) (ix2 0 k)
abbrev vecSc (c : Dev nD) (k : Fin 2048) : EReal := m ((c.tc : Thread nD τ).loc main_arg3) (ix2 0 k)

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem size4 : ∀ t : Fin cfg0.N, win0_4.xsize (grid0.coords t) 0 = 512 ∧ win0_4.xsize (grid0.coords t) 1 = 2048 :=
  (by decide +kernel : ∀ t : Fin grid0.N, win0_4.xsize (grid0.coords t) 0 = 512 ∧ win0_4.xsize (grid0.coords t) 1 = 2048)

abbrev blkX (c : Dev nD) (t : Fin cfg0.N) : Vec Ideal S512x2048 .f32 := iblk m c 0 t
abbrev blkG (c : Dev nD) (t : Fin cfg0.N) : Vec Ideal S1x2048 .f32 := iblk m c 1 t
abbrev blkSh (c : Dev nD) (t : Fin cfg0.N) : Vec Ideal S1x2048 .f32 := iblk m c 2 t
abbrev blkSc (c : Dev nD) (t : Fin cfg0.N) : Vec Ideal S1x2048 .f32 := iblk m c 3 t

theorem blkX_at (c : Dev nD) (t : Fin cfg0.N) (p : Fin 512) (k : Fin 2048) (r : Fin 8192) (hr : t.val * 512 + p.val = r.val) : (blkX m c t (ix2 p k) : EReal) = rowX m c r k := by
  show ((win0_0.blk t).view.read (Elt Ideal) (V m c main_arg0) : _ → EReal) (ix2 p k) = _
  rw [V_main_arg0]
  refine congrArg (m ((c.tc : Thread nD τ).loc main_arg0)) ((eq_ix2 _).trans (congrArg₂ ix2 (Fin.ext ?_) (Fin.ext ?_)))
  · refine (Rect.idx_unit_val _ _ _ _ _).trans ?_
    show win0_0.index t 0 * 512 + p.val = r.val
    rw [(at0 t).1, hr]
  · refine (Rect.idx_unit_val _ _ _ _ _).trans ?_
    show win0_0.index t 1 * 2048 + k.val = k.val
    rw [(at0 t).2, Nat.zero_mul, Nat.zero_add]
theorem blkG_at (c : Dev nD) (t : Fin cfg0.N) (k : Fin 2048) : (blkG m c t (ix2 0 k) : EReal) = vecG m c k := by
  show ((win0_1.blk t).view.read (Elt Ideal) (V m c main_arg1) : _ → EReal) (ix2 0 k) = _
  rw [V_main_arg1]
  refine congrArg (m ((c.tc : Thread nD τ).loc main_arg1)) ((eq_ix2 _).trans (congrArg₂ ix2 (Fin.ext ?_) (Fin.ext ?_)))
  · refine (Rect.idx_unit_val _ _ _ _ _).trans ?_
    show win0_1.index t 0 * 1 + 0 = 0
    rw [(at1 t).1]
  · refine (Rect.idx_unit_val _ _ _ _ _).trans ?_
    show win0_1.index t 1 * 2048 + k.val = k.val
    rw [(at1 t).2, Nat.zero_mul, Nat.zero_add]
theorem blkSh_at (c : Dev nD) (t : Fin cfg0.N) (k : Fin 2048) : (blkSh m c t (ix2 0 k) : EReal) = vecSh m c k := by
  show ((win0_2.blk t).view.read (Elt Ideal) (V m c main_arg2) : _ → EReal) (ix2 0 k) = _
  rw [V_main_arg2]
  refine congrArg (m ((c.tc : Thread nD τ).loc main_arg2)) ((eq_ix2 _).trans (congrArg₂ ix2 (Fin.ext ?_) (Fin.ext ?_)))
  · refine (Rect.idx_unit_val _ _ _ _ _).trans ?_
    show win0_2.index t 0 * 1 + 0 = 0
    rw [(at2 t).1]
  · refine (Rect.idx_unit_val _ _ _ _ _).trans ?_
    show win0_2.index t 1 * 2048 + k.val = k.val
    rw [(at2 t).2, Nat.zero_mul, Nat.zero_add]
theorem blkSc_at (c : Dev nD) (t : Fin cfg0.N) (k : Fin 2048) : (blkSc m c t (ix2 0 k) : EReal) = vecSc m c k := by
  show ((win0_3.blk t).view.read (Elt Ideal) (V m c main_arg3) : _ → EReal) (ix2 0 k) = _
  rw [V_main_arg3]
  refine congrArg (m ((c.tc : Thread nD τ).loc main_arg3)) ((eq_ix2 _).trans (congrArg₂ ix2 (Fin.ext ?_) (Fin.ext ?_)))
  · refine (Rect.idx_unit_val _ _ _ _ _).trans ?_
    show win0_3.index t 0 * 1 + 0 = 0
    rw [(at3 t).1]
  · refine (Rect.idx_unit_val _ _ _ _ _).trans ?_
    show win0_3.index t 1 * 2048 + k.val = k.val
    rw [(at3 t).2, Nat.zero_mul, Nat.zero_add]

/-- The modulated norm's array. -/
abbrev arrH (c : Dev nD) : FVec Ideal S8192x2048 .bf16 := fun i =>
  nrm (∑ k : Fin 2048, rowX m c (i 0) k * rowX m c (i 0) k) (rowX m c (i 0) (i 1)) (vecG m c (i 1)) (vecSc m c (i 1)) (vecSh m c (i 1))

theorem block_at (c : Dev nD) (t : Fin cfg0.N) (p : Fin 512) (n : Fin 2048) (r : Fin 8192) (hr : t.val * 512 + p.val = r.val) :
    (block (blkX m c t) (blkG m c t) (blkSh m c t) (blkSc m c t) (ix2 p n) : EReal) = arrH m c (ix2 r n) := by
  have hrow (k : Fin 2048) : (rowsOf (blkX m c t) ⟨p.val / 64, by omega⟩ (ix2 ⟨p.val % 64, Nat.mod_lt _ (by decide)⟩ k) : EReal) = rowX m c r k := by
    refine blkX_at m c t ⟨64 * (p.val / 64) + p.val % 64, by omega⟩ k r ?_
    show t.val * 512 + (64 * (p.val / 64) + p.val % 64) = r.val
    omega
  refine (pay1_at (rowsOf (blkX m c t) ⟨p.val / 64, by omega⟩) (blkG m c t) (blkSc m c t) (blkSh m c t) ⟨p.val % 64, Nat.mod_lt _ (by decide)⟩ n).trans ?_
  rw [hrow n, blkG_at, blkSc_at, blkSh_at]
  exact congrArg (fun s => nrm s (rowX m c r n) (vecG m c n) (vecSc m c n) (vecSh m c n)) (Finset.sum_congr rfl fun k _ => congrArg₂ (· * ·) (hrow k) (hrow k))

theorem read4 (t : Fin cfg0.N) (G : S8192x2048.Idx → EReal) (j : (win0_4.xblock (grid0.coords t)).Idx) (i : S8192x2048.Idx)
    (h0 : t.val * 512 + (j 0).val = (i 0).val) (h1 : (j 1).val = (i 1).val) :
    ((win0_4.blk t).view.read (Elt Ideal) G : _ → EReal) j = G i := by
  refine congrArg G (funext fun a => Fin.ext ?_)
  match a with
  | ⟨0, _⟩ =>
    refine (Rect.idx_unit_val _ _ _ _ _).trans ?_
    show win0_4.index t 0 * 512 + (j 0).val = (i 0).val
    rw [(at4 t).1, h0]
  | ⟨1, _⟩ =>
    refine (Rect.idx_unit_val _ _ _ _ _).trans ?_
    show win0_4.index t 1 * 2048 + (j 1).val = (i 1).val
    rw [(at4 t).2, Nat.zero_mul, Nat.zero_add, h1]

theorem finalH (c : Dev nD) : (dats m 0 c).arrAt 4 cfg0.N = arrH m c := by
  refine (dats m 0 c).arrAt_eq_of_cover 4 (arrH m c) (fun t _ => ?_) (fun i => ?_)
  · have hN : t.val < 16 := t.isLt
    rw [Value.flushed4]
    funext j
    have j0 : (j 0).val < 512 := lt_of_lt_of_eq (j 0).isLt (size4 t).1
    have j1 : (j 1).val < 2048 := lt_of_lt_of_eq (j 1).isLt (size4 t).2
    have hr : t.val * 512 + (j 0).val < 8192 := by omega
    refine Eq.trans ?_ (read4 t (arrH m c) j (ix2 ⟨t.val * 512 + (j 0).val, hr⟩ ⟨(j 1).val, j1⟩) rfl rfl).symm
    refine Eq.trans (congrArg (outsAt0 m c t) (funext fun a => by fin_cases a <;> rfl)) ((congrFun (out_is c (grid0.coords t) _ _ _ _ _ _ _ _ _ _ (blkX m c t) (blkG m c t) (blkSh m c t) (blkSc m c t)) (ix2 ⟨(j 0).val, j0⟩ ⟨(j 1).val, j1⟩)).trans ?_)
    exact block_at m c t ⟨(j 0).val, j0⟩ ⟨(j 1).val, j1⟩ ⟨t.val * 512 + (j 0).val, hr⟩ rfl
  · have i0 : (i 0).val < 8192 := (i 0).isLt
    have i1 : (i 1).val < 2048 := (i 1).isLt
    have hN : (i 0).val / 512 < cfg0.N := by show _ < 16; omega
    refine ⟨⟨(i 0).val / 512, hN⟩, flush0_4 _, ?_⟩
    show i ∈ ((View.whole main_v0).slice (win0_4.rect ⟨(i 0).val / 512, hN⟩)).set
    rw [View.set_slice_whole]
    refine Rect.mem_set_unit.2 fun a => ?_
    have ea := at4 ⟨_, hN⟩
    have ex := size4 ⟨_, hN⟩
    match a with
    | ⟨0, _⟩ =>
      show win0_4.index _ 0 * 512 ≤ (i 0).val ∧ (i 0).val < win0_4.index _ 0 * 512 + win0_4.xsize (grid0.coords _) 0
      rw [ea.1, ex.1]; dsimp only; omega
    | ⟨1, _⟩ =>
      show win0_4.index _ 1 * 2048 ≤ (i 1).val ∧ (i 1).val < win0_4.index _ 1 * 2048 + win0_4.xsize (grid0.coords _) 1
      rw [ea.2, ex.2]; omega

/-! ## The claims -/

theorem frame_kernel : Cert.quiescent_PreNorm := fun m ρ _ => Cert.PreNorm.Gen.frame m ρ
theorem frame_ideal : Cert.quiescent_PreNormIdeal := fun m ρ _ => Cert.PreNormIdeal.Gen.frame m ρ
theorem frame_ref : Cert.quiescent_PreNormRefIdeal := fun m ρ _ =>
  (θ_run _ _ _).mono (fun r h => ⟨fun c => (h c).2, sem_eq_zero_of_no_sems (by decide) r.2⟩) (Cert.PreNormRefIdeal.Value.run (F := Ideal) m ρ)

section Ref
open Cert.PreNormRefIdeal Cert.PreNormRefIdeal.Gen

/-- The reference's array. -/
abbrev rows (v : FVec Ideal S1x2048 .f32) : FVec Ideal S8192x2048 .f32 := broadcastInDim S8192x2048 ![0, 1] bcast_S1x2048_S8192x2048_0_1 v
abbrev scales (x : FVec Ideal S8192x2048 .f32) : FVec Ideal S8192x1 .f32 :=
  Host.rsqrt (addf (Host.divf (broadcastInDim S8192x1 ![0] bcast_S8192_S8192x1_0 (Host.reduceAdd (mulf x x) (constant (F := Ideal) S_ .f32 0x00000000#32) reducesTo_S8192x2048_S8192_d1 h_S_))
    (broadcastInDim S8192x1 ![] bcast_S_S8192x1 (constant (F := Ideal) S_ .f32 0x45000000#32))) (broadcastInDim S8192x1 ![] bcast_S_S8192x1 (constant (F := Ideal) S_ .f32 0x358637BD#32)))
abbrev norms (x : FVec Ideal S8192x2048 .f32) (g sh sc : FVec Ideal S1x2048 .f32) : FVec Ideal S8192x2048 .f32 :=
  addf (mulf (mulf (mulf x (broadcastInDim S8192x2048 ![0, 1] bcast_S8192x1_S8192x2048_0_1 (scales x))) (rows g))
    (rows (addf (broadcastInDim S1x2048 ![] bcast_S_S1x2048 (constant (F := Ideal) S_ .f32 0x3F800000#32)) sc))) (rows sh)
/-- Its entries. -/
theorem norms_at (x : FVec Ideal S8192x2048 .f32) (g sh sc : FVec Ideal S1x2048 .f32) (r : Fin 8192) (n : Fin 2048) :
    (truncf (F := Ideal) .bf16 (norms x g sh sc) Cert.PreNormRefIdeal.Gen.bitsLt_bf16_f32 (ix2 r n) : EReal)
      = nrm (∑ k : Fin 2048, x (ix2 r k) * x (ix2 r k)) (x (ix2 r n)) (g (ix2 0 n)) (sc (ix2 0 n)) (sh (ix2 0 n)) := by
  unfold nrm; pointwise

end Ref

/-- Both programs run, and their results are equal. -/
theorem values : Cert.algebraic_PreNormIdeal_PreNormRefIdeal := by
  intro m g m' g' _ hargs
  refine ⟨fun c => arrH m c, ?_, ?_⟩
  · refine (θ_run Cert.PreNormIdeal.defs _ _).mono (fun r h c => ?_) (Value.run_blocks (F := Ideal) m g)
    exact ⟨(h c).1.trans (finalH m c), (h c).2⟩
  · refine (θ_run Cert.PreNormRefIdeal.defs _ _).mono (fun r h c => ?_) (Cert.PreNormRefIdeal.Value.run (F := Ideal) m' g')
    obtain ⟨h0, hk⟩ := h c
    obtain ⟨e0, e1, e2, e3⟩ := hargs c
    rw [e0, e1, e2, e3] at h0
    refine ⟨h0.trans (funext fun i => ?_), hk⟩
    obtain ⟨a, b, rfl⟩ : ∃ a b, i = ix2 a b := ⟨i 0, i 1, eq_ix2 i⟩
    exact norms_at _ _ _ _ _ _

end Cert.PreNormIdeal.Rows

end
-- ==== Proof.ChipSum.lean ====
module

public import proofs.«01_k».proof.Proof.PreNorm
public import proofs.«01_k».proof.Proof.Gen.ChipSumIdeal.Frame
public import proofs.«01_k».proof.Proof.Gen.ChipSum.Frame
public import proofs.«01_k».proof.Proof.Gen.ChipSumRefIdeal.Run
public import proofs.«01_k».proof.Proof.Gen.Pre_core
public import proofs.«01_k».proof.Defs
public import Idealize.ShloMosaic.Lib.StableHlo.Predicate
public import Idealize.ShloMosaic.Lib.ReduceAll
public import Idealize.ShloMosaic.Lib.DynamicIndex
public import Idealize.ShloMosaic.Lib.Quiescent
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! The sum of a chip's two cores in the reduction of the gradients of `w1` and `w3`: a core's half of its gradient, plus what it received. -/

namespace Cert.ChipSumIdeal.Sum

open Idealize.ShloMosaic Idealize.ShloMosaic.TcCoe Idealize.SL.Sem

/-- A word that the precondition's comparisons admit. -/
theorem core_word (x : BitVec 32) (h : IntOp.ori (IntOp.cmpi .eq x 0#32) (IntOp.cmpi .eq x 1#32) = 1#1) :
    ∃ k : Fin 2, x = BitVec.ofNat 32 k.val := by
  by_cases h0 : x = 0#32
  · exact ⟨0, h0⟩
  · by_cases h1 : x = 1#32
    · exact ⟨1, h1⟩
    · exfalso
      have e0 : IntOp.cmpi .eq x 0#32 = 0#1 := by
        show BitVec.ofBool (x == 0#32) = 0#1
        rw [beq_false_of_ne h0]; rfl
      have e1 : IntOp.cmpi .eq x 1#32 = 0#1 := by
        show BitVec.ofBool (x == 1#32) = 0#1
        rw [beq_false_of_ne h1]; rfl
      rw [e0, e1] at h
      exact absurd h (by decide)

theorem core_of_pre {F : FTy → Type} [FloatOps F] (x : FVec F Cert.Pre_core.S4x2048x1408 .f32) (y : FVec F Cert.Pre_core.S4x1024x1408 .f32)
    (z : IVec Cert.Pre_core.S1 32) (h : Cert.Pre_core.fn (F := F) x y z = fun _ => 1#1) : ∃ k : Fin 2, z = fun _ => BitVec.ofNat 32 k.val := by
  have e := congrFun h (fun a => a.elim0)
  dsimp only [Cert.Pre_core.fn] at e
  have w := Host.reduce_andi_all _ _ _ _ _ e (fun a => ⟨0, by fin_cases a; decide⟩)
  obtain ⟨k, hk⟩ := core_word _ w
  refine ⟨k, funext fun i => (congrArg z (funext fun a => Fin.ext ?_)).trans hk⟩
  have := (i a).isLt
  have hs : Cert.Pre_core.S1.size a = 1 := by fin_cases a; rfl
  omega

section
open Cert.ChipSum Cert.ChipSum.Gen

/-- The table with a core's number. -/
def tableB (k : Fin 2) : pre0.Contents (Elt Bits) := fun | ⟨0, _⟩ => fun _ => BitVec.ofNat 32 k.val | ⟨_ + 1, h⟩ => absurd h (by simp)
theorem okB : ∀ k : Fin 2, ok0 (F := Bits) (tableB k) := fun k => by fin_cases k <;> decide +kernel
theorem ok_of_preB (m : (ℓ : Loc nD τ sig) → Buf (Elt Bits) ℓ) (h : Cert.Pre_ChipSum m) : Ok (F := Bits) m := by
  obtain ⟨k, hk⟩ := core_of_pre _ _ _ (h 0)
  have e : tbl m = tableB k := by
    funext j
    match j with
    | ⟨0, _⟩ => exact hk
  unfold Ok; rw [e]; exact okB k

end

open Cert.ChipSumIdeal Cert.ChipSumIdeal.Gen

/-- The table with a core's number. -/
def table (k : Fin 2) : pre0.Contents (Elt Ideal) := fun | ⟨0, _⟩ => fun _ => BitVec.ofNat 32 k.val | ⟨_ + 1, h⟩ => absurd h (by simp)
theorem okI : ∀ k : Fin 2, ok0 (F := Ideal) (table k) := fun k => by fin_cases k <;> decide +kernel

variable (m : (ℓ : Loc nD τ sig) → Buf (Elt Ideal) ℓ)

theorem table_of_pre (h : Cert.Pre_ChipSumIdeal m) : ∃ k : Fin 2, m ((0 : Dev nD).tc.loc main_arg2) = fun _ => BitVec.ofNat 32 k.val :=
  core_of_pre _ _ _ (h 0)
theorem tbl_eq (k : Fin 2) (hk : m ((0 : Dev nD).tc.loc main_arg2) = fun _ => BitVec.ofNat 32 k.val) : tbl m = table k := by
  funext j
  match j with
  | ⟨0, _⟩ => exact hk
theorem ok_of (k : Fin 2) (hk : m ((0 : Dev nD).tc.loc main_arg2) = fun _ => BitVec.ofNat 32 k.val) : Ok (F := Ideal) m := by
  unfold Ok; rw [tbl_eq m k hk]; exact okI k

/-! ## What a point leaves -/

theorem origin3 : (![0, 0, 0] : Fin 3 → Nat) = fun _ => 0 := funext fun a => by fin_cases a <;> rfl
/-- After a store over the whole of a view the view reads what was stored. -/
theorem after_store {s : Shape} {e : EltTy} (v : View sig .tc .vmem s e) (f : v.ty.Contents (Elt Ideal))
    {off : Fin s.rank → Nat} (ho : off = fun _ => 0) (inb : ∀ a, off a + s.size a ≤ s.size a) (w : s.Idx → Elt Ideal e)
    (L : List (View.Piece (Elt Ideal) s e)) :
    v.read (Elt Ideal) (v.writes (Elt Ideal) f ((⟨Rect.unit off s.size inb, w⟩ : View.Piece (Elt Ideal) s e) :: L)) = w := by
  subst ho
  exact funext fun y => View.read_writes_cons_unit_of_mem v f inb w L y y rfl fun a => (Nat.zero_add _).symm
theorem whole_load {s : Shape} {e : EltTy} (v : View sig .tc .vmem s e) (f : v.ty.Contents (Elt Ideal))
    {off : Fin s.rank → Nat} (ho : off = fun _ => 0) (inb : ∀ a, off a + s.size a ≤ s.size a) :
    v.readAt (Elt Ideal) (Rect.unit off s.size inb).toLoadRect f = v.read (Elt Ideal) f :=
  View.ld_unit_zero (S := s) ho inb _

theorem out_is (c : Dev nD) (i : grid0.Coords) (arg3 : Memref sig .tc .vmem S1x256x1408 .f32) (harg3 : arg3.IsWhole) (arg4 : Memref sig .tc .vmem S1x256x1408 .f32) (harg4 : arg4.IsWhole) (arg5 : Memref sig .tc .vmem S1x256x1408 .bf16) (harg5 : arg5.IsWhole)
    (x0 x1 : Vec Ideal S1x256x1408 .f32) (xt0 : TbBuf0 (F := Ideal) c tbM0_0) :
    out0_A_2 c i arg3 harg3 arg4 harg4 arg5 harg5 x0 x1 xt0 = k0_pay1 x0 x1 := by
  unfold out0_A_2 kernelRun0_A
  refine (after_store VO0_2 _ origin3 inb_S1x256x1408_S1x256x1408_0_0_0 _ []).trans ?_
  rw [whole_load arg3.view _ origin3, whole_load arg4.view _ origin3, harg3.read_unread, harg4.read_unread]

theorem pay1_at (x y : Vec Ideal S1x256x1408 .f32) (p : Fin 256) (n : Fin 1408) :
    (k0_pay1 x y (ix3 0 p n) : EReal) = x (ix3 0 p n) + y (ix3 0 p n) := by
  pointwise [k0_pay1]

/-! ## The blocks and the array -/

theorem at0 : ∀ (k : Fin 2) (t : Fin grid0.N), cc0_transform_0 inb_S1_S1_0 numel1_S1 (table k) (grid0.coords t) 0 = t.val / 4
    ∧ cc0_transform_0 inb_S1_S1_0 numel1_S1 (table k) (grid0.coords t) 1 = k.val * 4 + t.val % 4
    ∧ cc0_transform_0 inb_S1_S1_0 numel1_S1 (table k) (grid0.coords t) 2 = 0 := by decide +kernel
theorem at1 : ∀ t : Fin grid0.N, cc0_transform_1 (grid0.coords t) 0 = t.val / 4 ∧ cc0_transform_1 (grid0.coords t) 1 = t.val % 4 ∧ cc0_transform_1 (grid0.coords t) 2 = 0 := by decide +kernel
theorem at2 : ∀ t : Fin grid0.N, cc0_transform_2 (grid0.coords t) 0 = t.val / 4 ∧ cc0_transform_2 (grid0.coords t) 1 = t.val % 4 ∧ cc0_transform_2 (grid0.coords t) 2 = 0 := by decide +kernel

section Arrays
variable (hO : Ok m) (k : Fin 2) (hk : m ((0 : Dev nD).tc.loc main_arg2) = fun _ => BitVec.ofNat 32 k.val) (c : Dev nD)

abbrev argG : S4x2048x1408.Idx → EReal := m (c.tc.loc main_arg0)
abbrev argR : S4x1024x1408.Idx → EReal := m (c.tc.loc main_arg1)

/-- Half `k` of each of the four parts, plus what was received. -/
abbrev arrS : FVec Ideal S4x1024x1408 .bf16 := fun i => argG m c (ix3 (i 0) ⟨k.val * 1024 + (i 1).val, by have h : (i 1).val < 1024 := (i 1).isLt; have := k.isLt; omega⟩ (i 2)) + argR m c i

abbrev blkG (t : Fin (cfgM m hO).N) : Vec Ideal S1x256x1408 .f32 := iblk m hO c 0 t
abbrev blkR (t : Fin (cfgM m hO).N) : Vec Ideal S1x256x1408 .f32 := iblk m hO c 1 t

include hk in
theorem blkG_at (t : Fin (cfgM m hO).N) (p : Fin 256) (n : Fin 1408) (s : Fin 4) (r : Fin 2048) (hs : t.val / 4 = s.val) (hr : (k.val * 4 + t.val % 4) * 256 + p.val = r.val) :
    (blkG m hO c t (ix3 0 p n) : EReal) = argG m c (ix3 s r n) := by
  have e := at0 k t
  rw [← tbl_eq m k hk] at e
  refine congrArg (m (c.tc.loc main_arg0)) (funext fun a => Fin.ext ?_)
  match a with
  | ⟨0, _⟩ =>
    refine (Rect.idx_unit_val _ _ _ _ _).trans ?_
    show cc0_transform_0 inb_S1_S1_0 numel1_S1 (tbl m) (grid0.coords t) 0 * 1 + 0 = s.val
    rw [e.1]; omega
  | ⟨1, _⟩ =>
    refine (Rect.idx_unit_val _ _ _ _ _).trans ?_
    show cc0_transform_0 inb_S1_S1_0 numel1_S1 (tbl m) (grid0.coords t) 1 * 256 + p.val = r.val
    rw [e.2.1, hr]
  | ⟨2, _⟩ =>
    refine (Rect.idx_unit_val _ _ _ _ _).trans ?_
    show cc0_transform_0 inb_S1_S1_0 numel1_S1 (tbl m) (grid0.coords t) 2 * 1408 + n.val = n.val
    rw [e.2.2, Nat.zero_mul, Nat.zero_add]

theorem blkR_at (t : Fin (cfgM m hO).N) (p : Fin 256) (n : Fin 1408) (s : Fin 4) (r : Fin 1024) (hs : t.val / 4 = s.val) (hr : t.val % 4 * 256 + p.val = r.val) :
    (blkR m hO c t (ix3 0 p n) : EReal) = argR m c (ix3 s r n) := by
  have e := at1 t
  refine congrArg (m (c.tc.loc main_arg1)) (funext fun a => Fin.ext ?_)
  match a with
  | ⟨0, _⟩ =>
    refine (Rect.idx_unit_val _ _ _ _ _).trans ?_
    show cc0_transform_1 (grid0.coords t) 0 * 1 + 0 = s.val
    rw [e.1]; omega
  | ⟨1, _⟩ =>
    refine (Rect.idx_unit_val _ _ _ _ _).trans ?_
    show cc0_transform_1 (grid0.coords t) 1 * 256 + p.val = r.val
    rw [e.2.1, hr]
  | ⟨2, _⟩ =>
    refine (Rect.idx_unit_val _ _ _ _ _).trans ?_
    show cc0_transform_1 (grid0.coords t) 2 * 1408 + n.val = n.val
    rw [e.2.2, Nat.zero_mul, Nat.zero_add]

theorem read2 (t : Fin (cfgM m hO).N) (G : S4x1024x1408.Idx → EReal) (j : S1x256x1408.Idx) (i : S4x1024x1408.Idx)
    (h0 : t.val / 4 * 1 + (j 0).val = (i 0).val) (h1 : t.val % 4 * 256 + (j 1).val = (i 1).val) (h2 : (j 2).val = (i 2).val) :
    ((((cfgM m hO).win 2).blk t).view.read (Elt Ideal) G : _ → EReal) j = G i := by
  have e := at2 t
  refine congrArg G (funext fun a => Fin.ext ?_)
  match a with
  | ⟨0, _⟩ =>
    refine (Rect.idx_unit_val _ _ _ _ _).trans ?_
    show cc0_transform_2 (grid0.coords t) 0 * 1 + (j 0).val = (i 0).val
    rw [e.1, h0]
  | ⟨1, _⟩ =>
    refine (Rect.idx_unit_val _ _ _ _ _).trans ?_
    show cc0_transform_2 (grid0.coords t) 1 * 256 + (j 1).val = (i 1).val
    rw [e.2.1, h1]
  | ⟨2, _⟩ =>
    refine (Rect.idx_unit_val _ _ _ _ _).trans ?_
    show cc0_transform_2 (grid0.coords t) 2 * 1408 + (j 2).val = (i 2).val
    rw [e.2.2, Nat.zero_mul, Nat.zero_add, h2]

include hk in
theorem finalS : (dats m hO 0 c).arrAt 2 (cfgM m hO).N = arrS m k c := by
  refine (dats m hO 0 c).arrAt_eq_of_cover 2 (arrS m k c) (fun t _ => ?_) (fun (i : S4x1024x1408.Idx) => ?_)
  · have hN : t.val < 16 := t.isLt
    have hflush : (dats m hO 0 c).flushed 2 t = ((cfgM m hO).win 2).cut (grid0.coords t) (outsAt0 m hO c t) := by
      show ((cfgM m hO).win 2).cut (grid0.coords t) ((dats m hO 0 c).after 2 t) = _
      rw [after0_2]
    rw [hflush]
    refine funext fun (j : S1x256x1408.Idx) => ?_
    have j0 : (j 0).val < 1 := (j 0).isLt
    have j1 : (j 1).val < 256 := (j 1).isLt
    have j2 : (j 2).val < 1408 := (j 2).isLt
    have hs : t.val / 4 < 4 := by omega
    have hr : t.val % 4 * 256 + (j 1).val < 1024 := by omega
    refine Eq.trans ?_ (read2 m hO t (arrS m k c) j (ix3 ⟨t.val / 4, hs⟩ ⟨t.val % 4 * 256 + (j 1).val, hr⟩ ⟨(j 2).val, j2⟩)
      (by show t.val / 4 * 1 + (j 0).val = t.val / 4; omega) rfl rfl).symm
    refine Eq.trans (congrArg (outsAt0 m hO c t) (?_ : _ = ix3 0 ⟨(j 1).val, j1⟩ ⟨(j 2).val, j2⟩)) ?_
    · funext a
      match a with
      | ⟨0, _⟩ => exact Fin.ext (show (j 0).val = 0 by omega)
      | ⟨1, _⟩ => rfl
      | ⟨2, _⟩ => rfl
    refine (congrFun (out_is c (grid0.coords t) _ _ _ _ _ _ (blkG m hO c t) (blkR m hO c t) (tbl m 0)) _).trans ((pay1_at _ _ _ _).trans ?_)
    exact congrArg₂ (· + ·) (blkG_at m hO k hk c t _ _ ⟨t.val / 4, hs⟩ _ rfl (by show (k.val * 4 + t.val % 4) * 256 + (j 1).val = k.val * 1024 + (t.val % 4 * 256 + (j 1).val); omega))
      (blkR_at m hO c t _ _ ⟨t.val / 4, hs⟩ ⟨_, hr⟩ rfl rfl)
  · have i0 : (i 0).val < 4 := (i 0).isLt
    have i1 : (i 1).val < 1024 := (i 1).isLt
    have i2 : (i 2).val < 1408 := (i 2).isLt
    have hN : (i 0).val * 4 + (i 1).val / 256 < (cfgM m hO).N := by show _ < 16; omega
    refine ⟨⟨(i 0).val * 4 + (i 1).val / 256, hN⟩, flush0_2 _ _, ?_⟩
    show i ∈ ((View.whole main_v0).slice (((cfgM m hO).win 2).rect ⟨_, hN⟩)).set
    refine (Finset.ext_iff.1 (View.set_slice_whole main_v0 (((cfgM m hO).win 2).rect ⟨_, hN⟩)) i).2 ?_
    refine Rect.mem_set_unit.2 fun a => ?_
    have ea := at2 ⟨(i 0).val * 4 + (i 1).val / 256, hN⟩
    match a with
    | ⟨0, _⟩ =>
      show cc0_transform_2 (grid0.coords ⟨(i 0).val * 4 + (i 1).val / 256, hN⟩) 0 * 1 ≤ (i 0).val ∧ (i 0).val < cc0_transform_2 (grid0.coords ⟨(i 0).val * 4 + (i 1).val / 256, hN⟩) 0 * 1 + 1
      rw [ea.1]; dsimp only; omega
    | ⟨1, _⟩ =>
      show cc0_transform_2 (grid0.coords ⟨(i 0).val * 4 + (i 1).val / 256, hN⟩) 1 * 256 ≤ (i 1).val ∧ (i 1).val < cc0_transform_2 (grid0.coords ⟨(i 0).val * 4 + (i 1).val / 256, hN⟩) 1 * 256 + 256
      rw [ea.2.1]; dsimp only; omega
    | ⟨2, _⟩ =>
      show cc0_transform_2 (grid0.coords ⟨(i 0).val * 4 + (i 1).val / 256, hN⟩) 2 * 1408 ≤ (i 2).val ∧ (i 2).val < cc0_transform_2 (grid0.coords ⟨(i 0).val * 4 + (i 1).val / 256, hN⟩) 2 * 1408 + 1408
      rw [ea.2.2]; omega

end Arrays

/-! ## The claims -/

theorem frame_kernel : Cert.quiescent_ChipSum := fun m ρ h => Cert.ChipSum.Gen.frame m ρ (ok_of_preB m h)
theorem frame_ideal : Cert.quiescent_ChipSumIdeal := fun m ρ h =>
  (table_of_pre m h).elim fun k hk => Cert.ChipSumIdeal.Gen.frame m ρ (ok_of m k hk)
theorem frame_ref : Cert.quiescent_ChipSumRefIdeal := fun m ρ _ =>
  (θ_run _ _ _).mono (fun r h => ⟨fun c => (h c).2, sem_eq_zero_of_no_sems (by decide) r.2⟩) (Cert.ChipSumRefIdeal.Value.run (F := Ideal) m ρ)
theorem frame_ref_core : Cert.quiescent_ChipSumRefIdeal_pre_core := fun m ρ _ => frame_ref m ρ trivial

theorem pick0 (p q : EReal) : Scalar.select (IntOp.cmpi .eq (BitVec.ofNat 32 0) 0#32) p q = p := rfl
theorem pick1 (p q : EReal) : Scalar.select (IntOp.cmpi .eq (BitVec.ofNat 32 1) 0#32) p q = q := rfl

/-- Both programs run, and their results are equal. -/
theorem values : Cert.algebraic_ChipSumIdeal_ChipSumRefIdeal := by
  intro m g m' g' hpre hargs
  obtain ⟨k, hk⟩ := table_of_pre m hpre
  refine ⟨fun c => arrS m k c, ?_, ?_⟩
  · refine (θ_run Cert.ChipSumIdeal.defs _ _).mono (fun r h c => ?_) (run_main m g (ok_of m k hk))
    exact ⟨((h c).1 2).trans (finalS m (ok_of m k hk) k hk c),
      ((h c).1 0).trans (((dats m (ok_of m k hk) 0 c).arrAt_in 0 rfl _).trans ((A_eq m (ok_of m k hk) c 0).trans (V_main_arg0 m c))),
      ((h c).1 1).trans (((dats m (ok_of m k hk) 0 c).arrAt_in 1 rfl _).trans ((A_eq m (ok_of m k hk) c 1).trans (V_main_arg1 m c))),
      ((h c).2 main_arg2 (by decide : main_arg2 ∈ Pipeline.restRefs sig spec0)).trans (V_main_arg2 m c)⟩
  · refine (θ_run Cert.ChipSumRefIdeal.defs _ _).mono (fun r h c => ?_) (Cert.ChipSumRefIdeal.Value.run (F := Ideal) m' g')
    obtain ⟨h0, hkept⟩ := h c
    obtain ⟨e0, e1, e2⟩ := hargs c
    obtain rfl : c = 0 := Subsingleton.elim _ _
    rw [e0, e1, e2, hk] at h0
    refine ⟨h0.trans (funext fun (i : S4x1024x1408.Idx) => ?_), hkept⟩
    have i1 : (i 1).val < 1024 := (i 1).isLt
    refine congrArg₂ (fun x y : EReal => x + y) ?_ rfl
    match k with
    | ⟨0, _⟩ =>
      refine (pick0 _ _).trans ?_
      refine congrArg (argG m 0) (funext fun a => Fin.ext ?_)
      match a with
      | ⟨0, _⟩ => exact Nat.zero_add _
      | ⟨1, _⟩ => show 0 + (i 1).val = 0 * 1024 + (i 1).val; omega
      | ⟨2, _⟩ => exact Nat.zero_add _
    | ⟨1, _⟩ =>
      refine (pick1 _ _).trans ?_
      refine congrArg (argG m 0) (funext fun a => Fin.ext ?_)
      match a with
      | ⟨0, _⟩ => exact Nat.zero_add _
      | ⟨1, _⟩ => show 1024 + (i 1).val = 1 * 1024 + (i 1).val; omega
      | ⟨2, _⟩ => exact Nat.zero_add _

end Cert.ChipSumIdeal.Sum

end
-- ==== Proof.NormLoops.lean ====
module

public import proofs.«01_k».proof.Proof.ChipSum
public import proofs.«01_k».proof.Proof.Gen.NormBwdIdeal.Launch
public import proofs.«01_k».proof.Proof.Gen.NormBwdIdeal.Loops
public import proofs.«01_k».proof.Proof.Gen.NormBwdIdeal.Skeleton
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise.Index

@[expose] public section

set_option maxRecDepth 16384

noncomputable section

/-! The backward pass of the norm and its modulation: what one grid point's loop over four groups of 64 rows stores. -/

namespace Cert.NormBwdIdeal.Grad

open Idealize.ShloMosaic Idealize.ShloMosaic.TcCoe Idealize.ShloMosaic.Tactic Idealize.SL.Sem
open Cert.NormBwdIdeal Cert.NormBwdIdeal.Gen

variable {F : FTy → Type} [FloatOps F]

/-- Rows `64 q` to `64 q + 63` of a row block. -/
def rowsOf {e : EltTy} (X : Vec F S256x2048 e) (q : Fin 4) : Vec F S64x2048 e :=
  fun i => X (ix2 ⟨64 * q.val + (i 0).val, by have h : (i 0).val < 64 := (i 0).isLt; omega⟩ (i 1))
/-- The row block whose rows `64 q` to `64 q + 63` are `P q`. -/
def joinRows {e : EltTy} (P : Fin 4 → Vec F S64x2048 e) : Vec F S256x2048 e :=
  fun j => P ⟨(j 0).val / 64, by have h : (j 0).val < 256 := (j 0).isLt; omega⟩ (ix2 ⟨(j 0).val % 64, Nat.mod_lt _ (by decide)⟩ (j 1))

theorem origin2 : (![0, 0] : Fin 2 → Nat) = fun _ => 0 := funext fun a => by fin_cases a <;> rfl

/-- After a store over the whole of a view the view reads what was stored. -/
theorem after_store {s : Shape} {e : EltTy} (v : View sig .tc .vmem s e) (f : v.ty.Contents (Elt F))
    {off : Fin s.rank → Nat} (ho : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  subst ho
  exact funext fun y => View.read_writes_cons_unit_of_mem v f inb w L y y rfl fun a => (Nat.zero_add _).symm

/-- A load of the whole of a view reads what the view reads. -/
theorem whole_load {s : Shape} {e : EltTy} (v : View sig .tc .vmem s e) (f : v.ty.Contents (Elt F))
    {off : Fin s.rank → Nat} (ho : off = fun _ => 0) (inb : ∀ a, off a + s.size a ≤ s.size a) :
    v.readAt (Elt F) (Rect.unit off s.size inb).toLoadRect f = v.read (Elt F) f :=
  View.ld_unit_zero (S := s) ho inb _

/-- A load of 64 rows of a row block. -/
theorem group_load {e : EltTy} (v : View sig .tc .vmem S256x2048 e) (f : v.ty.Contents (Elt F))
    (off : Fin 2 → Nat) (q : Fin 4) (ho : off = ![64 * q.val, 0]) (inb : ∀ a, off a + S64x2048.size a ≤ S256x2048.size a) :
    v.readAt (Elt F) (Rect.unit (s := S256x2048) off S64x2048.size inb).toLoadRect f = rowsOf (v.read (Elt F) f) q := by
  subst ho
  funext i
  refine congrArg (v.read (Elt F) f) (funext fun a => Fin.ext ?_)
  match a with
  | ⟨0, _⟩ => exact Rect.idx_unit_val _ _ _ _ _
  | ⟨1, _⟩ => exact (Rect.idx_unit_val _ _ _ _ _).trans (Nat.zero_add _)

/-- Stores of 64 rows each, from the top downwards: the rows stored so far hold their groups. -/
theorem groups_stored {e : EltTy} (v : View sig .tc .vmem S256x2048 e) (f : v.ty.Contents (Elt F))
    (P : Fin 4 → Vec F S64x2048 e) (pb : Nat → List (View.Piece (Elt F) S256x2048 e))
    (hs : ∀ k : Fin 4, ∃ (off : Fin 2 → Nat) (ho : off = ![64 * k.val, 0]) (inb : ∀ a, off a + S64x2048.size a ≤ S256x2048.size a),
      pb (k.val + 1) = ⟨Rect.unit (s := S256x2048) off S64x2048.size inb, P k⟩ :: pb k.val) (j : S256x2048.Idx) :
    ∀ n : Nat, n ≤ 4 → (j 0).val < 64 * n → v.read (Elt F) (v.writes (Elt F) f (pb n)) j = joinRows P j
  | 0, _, h => absurd h (by omega)
  | n + 1, hn, h => by
    obtain ⟨off, ho, inb, e⟩ := hs ⟨n, hn⟩
    rw [show pb (n + 1) = _ from e]
    by_cases hj : (j 0).val < 64 * n
    · refine (View.read_writes_cons_unit_of_not_mem v f inb (P ⟨n, hn⟩) _ j ho (0 : Fin 2) (Or.inl hj)).trans ?_
      exact groups_stored v f P pb hs j n (by omega) hj
    · refine (View.read_writes_cons_unit_of_mem v f inb (P ⟨n, hn⟩) _ j
        (ix2 ⟨(j 0).val % 64, Nat.mod_lt _ (by decide)⟩ (j 1)) ho
        (Fin.forall_fin_two.mpr ⟨?_, (Nat.zero_add _).symm⟩)).trans ?_
      · show (j 0).val = 64 * n + (j 0).val % 64
        omega
      · unfold joinRows
        exact congrArg (fun q : Fin 4 => P q (ix2 ⟨(j 0).val % 64, Nat.mod_lt _ (by decide)⟩ (j 1))) (Fin.ext (by show n = (j 0).val / 64; omega))

/-- An accumulator after the first `n` of four groups. -/
def runSum {β : Type} (step : Fin 4 → β → β) (p : β) : Nat → β
  | 0 => p
  | n + 1 => if h : n < 4 then step ⟨n, h⟩ (runSum step p n) else p
theorem runSum_succ {β : Type} (step : Fin 4 → β → β) (p : β) (n : Nat) (h : n < 4) :
    runSum step p (n + 1) = step ⟨n, h⟩ (runSum step p n) := dif_pos h

/-- A buffer stored over whole in each trip, with what the trip computes of what it held. -/
theorem sums_stored {s : Shape} {e : EltTy} (v : View sig .tc .vmem s e) (f : v.ty.Contents (Elt F))
    {off : Fin s.rank → Nat} (ho : off = fun _ => 0) (inb : ∀ a, off a + s.size a ≤ s.size a)
    (step : Fin 4 → Vec F s e → Vec F s e) (pb : Nat → List (View.Piece (Elt F) s e)) (h0 : pb 0 = [])
    (hs : ∀ k : Fin 4, pb (k.val + 1) = ⟨Rect.unit off s.size inb,
      step k (v.readAt (Elt F) (Rect.unit off s.size inb).toLoadRect (v.writes (Elt F) f (pb k.val)))⟩ :: pb k.val) :
    ∀ n : Nat, n ≤ 4 → v.read (Elt F) (v.writes (Elt F) f (pb n)) = runSum step (v.read (Elt F) f) n
  | 0, _ => by rw [h0]; rfl
  | n + 1, h => by
    rw [show pb (n + 1) = _ from hs ⟨n, h⟩, after_store v f ho, whole_load v _ ho, sums_stored v f ho inb step pb h0 hs n (by omega),
      runSum_succ _ _ n h]

theorem trips4 : k0_t1_loop.trips = 4 := by decide +kernel

/-- A row block of the gradient of the norm's input. -/
def gradX (dh : Vec F S256x2048 .bf16) (x gres : Vec F S256x2048 .f32) (g sc : Vec F S1x2048 .f32) : Vec F S256x2048 .f32 :=
  joinRows fun q => k0_pay11 (rowsOf dh q) (rowsOf x q) g sc (rowsOf gres q)
/-- One group's part of the gradients of the shift, of the scale and of the norm's weight. -/
def stepSh (dh : Vec F S256x2048 .bf16) (q : Fin 4) (p : Vec F S1x2048 .f32) : Vec F S1x2048 .f32 :=
  k0_pay4 (k0_pay7 (rowsOf dh q)) p
def stepSc (dh : Vec F S256x2048 .bf16) (x : Vec F S256x2048 .f32) (g : Vec F S1x2048 .f32) (q : Fin 4) (p : Vec F S1x2048 .f32) : Vec F S1x2048 .f32 :=
  k0_pay5 (k0_pay7 (rowsOf dh q)) (k0_pay12 (rowsOf x q) g) p
def stepG (dh : Vec F S256x2048 .bf16) (x : Vec F S256x2048 .f32) (sc : Vec F S1x2048 .f32) (q : Fin 4) (p : Vec F S1x2048 .f32) : Vec F S1x2048 .f32 :=
  k0_pay6 (k0_pay7 (rowsOf dh q)) (k0_pay9 (rowsOf x q)) (k0_pay10 sc) p

section Loop

variable (c : Dev nD) (i : grid0.Coords) (arg1 : Memref sig .tc .vmem S256x2048 .bf16) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole)

/-- What one trip stores in each of the four outputs' buffers. -/
theorem trip_is (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (k : Fin k0_t1_loop.trips)
    (f6 : BufTy.Contents (Elt F) arg6.view.ty) (f7 : BufTy.Contents (Elt F) arg7.view.ty) (f8 : BufTy.Contents (Elt F) arg8.view.ty)
    (f9 : BufTy.Contents (Elt F) arg9.view.ty) :
    tripL_k0_t1 (F := F) Variants.none c none i arg1 harg1 arg2 harg2 arg3 harg3 arg4 harg4 arg5 harg5 arg6 harg6 arg7 harg7 arg8 harg8 arg9 harg9 X1 X2 X3 X4 X5 k f6 f7 f8 f9 =
      let q := Rect.unit (s := S256x2048) (k0_off1 k) S64x2048.size (k0_off1_inb k)
      let v := Rect.unit (s := S1x2048) ![0, 0] S1x2048.size inb_S1x2048_S1x2048_0_0
      let d := arg1.view.readAt (Elt F) q.toLoadRect X1
      let x := arg2.view.readAt (Elt F) q.toLoadRect X2
      let r := arg3.view.readAt (Elt F) q.toLoadRect X3
      let g := arg4.view.readAt (Elt F) v.toLoadRect X4
      let s := arg5.view.readAt (Elt F) v.toLoadRect X5;
      ([⟨q, k0_pay11 d x g s r⟩], [⟨v, k0_pay4 (k0_pay7 d) (arg7.view.readAt (Elt F) v.toLoadRect f7)⟩],
        [⟨v, k0_pay5 (k0_pay7 d) (k0_pay12 x g) (arg8.view.readAt (Elt F) v.toLoadRect f8)⟩],
        [⟨v, k0_pay6 (k0_pay7 d) (k0_pay9 x) (k0_pay10 s) (arg9.view.readAt (Elt F) v.toLoadRect f9)⟩]) := by
  unfold tripL_k0_t1 trip_k0_t1
  rfl

variable (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty)
    (G6 : BufTy.Contents (Elt F) arg6.view.ty) (G7 : BufTy.Contents (Elt F) arg7.view.ty) (G8 : BufTy.Contents (Elt F) arg8.view.ty)
    (G9 : BufTy.Contents (Elt F) arg9.view.ty)

/-- The pieces of the trips before `n`. -/
abbrev pieces (n : Nat) := pb_k0_t1 (F := F) Variants.none c none i arg1 harg1 arg2 harg2 arg3 harg3 arg4 harg4 arg5 harg5 arg6 harg6 arg7 harg7 arg8 harg8 arg9 harg9 X1 X2 X3 X4 X5 G6 G7 G8 G9 n

/-- One trip more. -/
theorem pieces_succ (k : Fin 4) : pieces c i arg1 harg1 arg2 harg2 arg3 harg3 arg4 harg4 arg5 harg5 arg6 harg6 arg7 harg7 arg8 harg8 arg9 harg9 X1 X2 X3 X4 X5 G6 G7 G8 G9 (k.val + 1) =
      let P := pieces c i arg1 harg1 arg2 harg2 arg3 harg3 arg4 harg4 arg5 harg5 arg6 harg6 arg7 harg7 arg8 harg8 arg9 harg9 X1 X2 X3 X4 X5 G6 G7 G8 G9 k.val
      let q := Rect.unit (s := S256x2048) (k0_off1 ⟨k.val, k.isLt.trans_eq trips4.symm⟩) S64x2048.size (k0_off1_inb ⟨k.val, k.isLt.trans_eq trips4.symm⟩)
      let v := Rect.unit (s := S1x2048) ![0, 0] S1x2048.size inb_S1x2048_S1x2048_0_0
      let d := rowsOf (arg1.view.read (Elt F) X1) k
      let x := rowsOf (arg2.view.read (Elt F) X2) k
      let r := rowsOf (arg3.view.read (Elt F) X3) k
      let g := arg4.view.read (Elt F) X4
      let s := arg5.view.read (Elt F) X5;
      (⟨q, k0_pay11 d x g s r⟩ :: P.1, ⟨v, k0_pay4 (k0_pay7 d) (arg7.view.readAt (Elt F) v.toLoadRect (arg7.view.writes (Elt F) G7 P.2.1))⟩ :: P.2.1,
        ⟨v, k0_pay5 (k0_pay7 d) (k0_pay12 x g) (arg8.view.readAt (Elt F) v.toLoadRect (arg8.view.writes (Elt F) G8 P.2.2.1))⟩ :: P.2.2.1,
        ⟨v, k0_pay6 (k0_pay7 d) (k0_pay9 x) (k0_pay10 s) (arg9.view.readAt (Elt F) v.toLoadRect (arg9.view.writes (Elt F) G9 P.2.2.2))⟩ :: P.2.2.2) := by
  have e := pb_k0_t1_succ (F := F) Variants.none c none i arg1 harg1 arg2 harg2 arg3 harg3 arg4 harg4 arg5 harg5 arg6 harg6 arg7 harg7 arg8 harg8 arg9 harg9 X1 X2 X3 X4 X5 G6 G7 G8 G9 ⟨k.val, k.isLt.trans_eq trips4.symm⟩
  rw [trip_is] at e
  have rows : ∀ {e : EltTy} (v : View sig .tc .vmem S256x2048 e) (f : v.ty.Contents (Elt F)),
      v.readAt (Elt F) (Rect.unit (s := S256x2048) (k0_off1 ⟨k.val, k.isLt.trans_eq trips4.symm⟩) S64x2048.size
        (k0_off1_inb ⟨k.val, k.isLt.trans_eq trips4.symm⟩)).toLoadRect f = rowsOf (v.read (Elt F) f) k :=
    fun v f => group_load v f _ k (k0_off1_eq _) _
  rw [← rows, ← rows, ← rows, ← whole_load arg4.view X4 origin2 inb_S1x2048_S1x2048_0_0, ← whole_load arg5.view X5 origin2 inb_S1x2048_S1x2048_0_0]
  exact e

theorem loop_x : arg6.view.read (Elt F) (arg6.view.writes (Elt F) G6 (pieces c i arg1 harg1 arg2 harg2 arg3 harg3 arg4 harg4 arg5 harg5 arg6 harg6 arg7 harg7 arg8 harg8 arg9 harg9 X1 X2 X3 X4 X5 G6 G7 G8 G9 4).1)
    = gradX (arg1.view.read (Elt F) X1) (arg2.view.read (Elt F) X2) (arg3.view.read (Elt F) X3) (arg4.view.read (Elt F) X4) (arg5.view.read (Elt F) X5) :=
  funext fun j => groups_stored arg6.view G6 _ (fun n => (pieces c i arg1 harg1 arg2 harg2 arg3 harg3 arg4 harg4 arg5 harg5 arg6 harg6 arg7 harg7 arg8 harg8 arg9 harg9 X1 X2 X3 X4 X5 G6 G7 G8 G9 n).1)
    (fun k => ⟨_, k0_off1_eq ⟨k.val, k.isLt.trans_eq trips4.symm⟩, _, congrArg (fun P => P.1) (pieces_succ c i arg1 harg1 arg2 harg2 arg3 harg3 arg4 harg4 arg5 harg5 arg6 harg6 arg7 harg7 arg8 harg8 arg9 harg9 X1 X2 X3 X4 X5 G6 G7 G8 G9 k)⟩)
    j 4 (Nat.le_refl _) (j 0).isLt
theorem loop_sh : arg7.view.read (Elt F) (arg7.view.writes (Elt F) G7 (pieces c i arg1 harg1 arg2 harg2 arg3 harg3 arg4 harg4 arg5 harg5 arg6 harg6 arg7 harg7 arg8 harg8 arg9 harg9 X1 X2 X3 X4 X5 G6 G7 G8 G9 4).2.1)
    = runSum (stepSh (arg1.view.read (Elt F) X1)) (arg7.view.read (Elt F) G7) 4 :=
  sums_stored arg7.view G7 origin2 inb_S1x2048_S1x2048_0_0 (stepSh (arg1.view.read (Elt F) X1)) (fun n => (pieces c i arg1 harg1 arg2 harg2 arg3 harg3 arg4 harg4 arg5 harg5 arg6 harg6 arg7 harg7 arg8 harg8 arg9 harg9 X1 X2 X3 X4 X5 G6 G7 G8 G9 n).2.1) rfl
    (fun k => congrArg (fun P => P.2.1) (pieces_succ c i arg1 harg1 arg2 harg2 arg3 harg3 arg4 harg4 arg5 harg5 arg6 harg6 arg7 harg7 arg8 harg8 arg9 harg9 X1 X2 X3 X4 X5 G6 G7 G8 G9 k)) 4 (Nat.le_refl _)
theorem loop_sc : arg8.view.read (Elt F) (arg8.view.writes (Elt F) G8 (pieces c i arg1 harg1 arg2 harg2 arg3 harg3 arg4 harg4 arg5 harg5 arg6 harg6 arg7 harg7 arg8 harg8 arg9 harg9 X1 X2 X3 X4 X5 G6 G7 G8 G9 4).2.2.1)
    = runSum (stepSc (arg1.view.read (Elt F) X1) (arg2.view.read (Elt F) X2) (arg4.view.read (Elt F) X4)) (arg8.view.read (Elt F) G8) 4 :=
  sums_stored arg8.view G8 origin2 inb_S1x2048_S1x2048_0_0 (stepSc (arg1.view.read (Elt F) X1) (arg2.view.read (Elt F) X2) (arg4.view.read (Elt F) X4))
    (fun n => (pieces c i arg1 harg1 arg2 harg2 arg3 harg3 arg4 harg4 arg5 harg5 arg6 harg6 arg7 harg7 arg8 harg8 arg9 harg9 X1 X2 X3 X4 X5 G6 G7 G8 G9 n).2.2.1) rfl
    (fun k => congrArg (fun P => P.2.2.1) (pieces_succ c i arg1 harg1 arg2 harg2 arg3 harg3 arg4 harg4 arg5 harg5 arg6 harg6 arg7 harg7 arg8 harg8 arg9 harg9 X1 X2 X3 X4 X5 G6 G7 G8 G9 k)) 4 (Nat.le_refl _)
theorem loop_g : arg9.view.read (Elt F) (arg9.view.writes (Elt F) G9 (pieces c i arg1 harg1 arg2 harg2 arg3 harg3 arg4 harg4 arg5 harg5 arg6 harg6 arg7 harg7 arg8 harg8 arg9 harg9 X1 X2 X3 X4 X5 G6 G7 G8 G9 4).2.2.2)
    = runSum (stepG (arg1.view.read (Elt F) X1) (arg2.view.read (Elt F) X2) (arg5.view.read (Elt F) X5)) (arg9.view.read (Elt F) G9) 4 :=
  sums_stored arg9.view G9 origin2 inb_S1x2048_S1x2048_0_0 (stepG (arg1.view.read (Elt F) X1) (arg2.view.read (Elt F) X2) (arg5.view.read (Elt F) X5))
    (fun n => (pieces c i arg1 harg1 arg2 harg2 arg3 harg3 arg4 harg4 arg5 harg5 arg6 harg6 arg7 harg7 arg8 harg8 arg9 harg9 X1 X2 X3 X4 X5 G6 G7 G8 G9 n).2.2.2) rfl
    (fun k => congrArg (fun P => P.2.2.2) (pieces_succ c i arg1 harg1 arg2 harg2 arg3 harg3 arg4 harg4 arg5 harg5 arg6 harg6 arg7 harg7 arg8 harg8 arg9 harg9 X1 X2 X3 X4 X5 G6 G7 G8 G9 k)) 4 (Nat.le_refl _)

end Loop

end Cert.NormBwdIdeal.Grad

end
-- ==== Proof.NormBody.lean ====
module

public import proofs.«01_k».proof.Proof.NormLoops
public import proofs.«01_k».proof.Proof.Gen.NormBwdIdeal.Frame.Runs

@[expose] public section

set_option maxRecDepth 16384

noncomputable section

/-! The body at the first row block, where the three sums start, and at the others. -/

namespace Cert.NormBwdIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NormBwdIdeal.Gen

variable {F : FTy → Type} [FloatOps F]

local notation "𝕄" => MT nD τ sig Unit (Elt F) ℕ (UR sig nD τ) ℕ

/-- A row of sums read back after it was started. -/
theorem read_start (v : View sig .tc .vmem S1x2048 .f32) (f : v.ty.Contents (Elt F)) (w : Vec F S1x2048 .f32) :
    v.read (Elt F) (v.writes (Elt F) f [(⟨Rect.unit (s := S1x2048) ![0, 0] ![1, 2048] inb_S1x2048_S1x2048_0_0, w⟩ : View.Piece (Elt F) S1x2048 .f32)]) = w :=
  after_store v f origin2 inb_S1x2048_S1x2048_0_0 w []

section Body

variable (c : Dev nD) (i : grid0.Coords) (arg1 : Memref sig .tc .vmem S256x2048 .bf16) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole)
    (dh : Vec F S256x2048 .bf16) (x gres : Vec F S256x2048 .f32) (g sc : Vec F S1x2048 .f32)

set_option maxHeartbeats 4000000 in
/-- At the first row block. -/
theorem run_start (h1 : cond0_0 i) (y6 : Vec F S256x2048 .f32) (y7 y8 y9 : Vec F S1x2048 .f32) (E : Set ℕ) (K : PUnit → sProp 𝕄) :
    iprop(owns (c : Thread nD τ) arg1 fullShare dh ∗ owns (c : Thread nD τ) arg2 fullShare x ∗ owns (c : Thread nD τ) arg3 fullShare gres ∗ owns (c : Thread nD τ) arg4 fullShare g ∗ owns (c : Thread nD τ) arg5 fullShare sc ∗ owns (c : Thread nD τ) arg6 fullShare y6 ∗ owns (c : Thread nD τ) arg7 fullShare y7 ∗ owns (c : Thread nD τ) arg8 fullShare y8 ∗ owns (c : Thread nD τ) arg9 fullShare y9
        ∗ (iprop(owns (c : Thread nD τ) arg1 fullShare dh ∗ owns (c : Thread nD τ) arg2 fullShare x ∗ owns (c : Thread nD τ) arg3 fullShare gres ∗ owns (c : Thread nD τ) arg4 fullShare g ∗ owns (c : Thread nD τ) arg5 fullShare sc ∗ owns (c : Thread nD τ) arg6 fullShare (gradX dh x gres g sc) ∗ owns (c : Thread nD τ) arg7 fullShare (runSum (stepSh dh) (k0_pay1 (F := F)) 4) ∗ owns (c : Thread nD τ) arg8 fullShare (runSum (stepSc dh x g) (k0_pay2 (F := F)) 4) ∗ owns (c : Thread nD τ) arg9 fullShare (runSum (stepG dh x sc) (k0_pay3 (F := F)) 4)) -∗ K ⟨⟩))
      ⊢ wp frame (wpE (defs₀ (F := F)) Variants.none c none) E (cc0_ffn1_norm_bwd i arg1 harg1 arg2 harg2 arg3 harg3 arg4 harg4 arg5 harg5 arg6 harg6 arg7 harg7 arg8 harg8 arg9 harg9) K := by
  rw [cc0_ffn1_norm_bwd_eq_skeleton]
  unfold cc0_ffn1_norm_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact h1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; refine (loop_x c i arg1 harg1 arg2 harg2 arg3 harg3 arg4 harg4 arg5 harg5 arg6 harg6 arg7 harg7 arg8 harg8 arg9 harg9 _ _ _ _ _ _ _ _ _).trans ?_; sl_unfold_words; simp only [read_start, hf0, hf1, hf2, hf3, hf4, hf5, hf6, hf7, hf8]
  isplitl [H6]
  · iexists _; isplitr; swap; · iexact H6
    ipureintro; rw [View.writes_append]; refine (loop_sh c i arg1 harg1 arg2 harg2 arg3 harg3 arg4 harg4 arg5 harg5 arg6 harg6 arg7 harg7 arg8 harg8 arg9 harg9 _ _ _ _ _ _ _ _ _).trans ?_; sl_unfold_words; simp only [read_start, hf0, hf1, hf2, hf3, hf4, hf5, hf6, hf7, hf8]
  isplitl [H7]
  · iexists _; isplitr; swap; · iexact H7
    ipureintro; rw [View.writes_append]; refine (loop_sc c i arg1 harg1 arg2 harg2 arg3 harg3 arg4 harg4 arg5 harg5 arg6 harg6 arg7 harg7 arg8 harg8 arg9 harg9 _ _ _ _ _ _ _ _ _).trans ?_; sl_unfold_words; simp only [read_start, hf0, hf1, hf2, hf3, hf4, hf5, hf6, hf7, hf8]
  iexists _; isplitr; swap; · iexact H8
  ipureintro; rw [View.writes_append]; refine (loop_g c i arg1 harg1 arg2 harg2 arg3 harg3 arg4 harg4 arg5 harg5 arg6 harg6 arg7 harg7 arg8 harg8 arg9 harg9 _ _ _ _ _ _ _ _ _).trans ?_; sl_unfold_words; simp only [read_start, hf0, hf1, hf2, hf3, hf4, hf5, hf6, hf7, hf8]

set_option maxHeartbeats 4000000 in
/-- At a later row block. -/
theorem run_next (h1 : ¬ cond0_0 i) (y6 : Vec F S256x2048 .f32) (y7 y8 y9 : Vec F S1x2048 .f32) (E : Set ℕ) (K : PUnit → sProp 𝕄) :
    iprop(owns (c : Thread nD τ) arg1 fullShare dh ∗ owns (c : Thread nD τ) arg2 fullShare x ∗ owns (c : Thread nD τ) arg3 fullShare gres ∗ owns (c : Thread nD τ) arg4 fullShare g ∗ owns (c : Thread nD τ) arg5 fullShare sc ∗ owns (c : Thread nD τ) arg6 fullShare y6 ∗ owns (c : Thread nD τ) arg7 fullShare y7 ∗ owns (c : Thread nD τ) arg8 fullShare y8 ∗ owns (c : Thread nD τ) arg9 fullShare y9
        ∗ (iprop(owns (c : Thread nD τ) arg1 fullShare dh ∗ owns (c : Thread nD τ) arg2 fullShare x ∗ owns (c : Thread nD τ) arg3 fullShare gres ∗ owns (c : Thread nD τ) arg4 fullShare g ∗ owns (c : Thread nD τ) arg5 fullShare sc ∗ owns (c : Thread nD τ) arg6 fullShare (gradX dh x gres g sc) ∗ owns (c : Thread nD τ) arg7 fullShare (runSum (stepSh dh) (y7) 4) ∗ owns (c : Thread nD τ) arg8 fullShare (runSum (stepSc dh x g) (y8) 4) ∗ owns (c : Thread nD τ) arg9 fullShare (runSum (stepG dh x sc) (y9) 4)) -∗ K ⟨⟩))
      ⊢ wp frame (wpE (defs₀ (F := F)) Variants.none c none) E (cc0_ffn1_norm_bwd i arg1 harg1 arg2 harg2 arg3 harg3 arg4 harg4 arg5 harg5 arg6 harg6 arg7 harg7 arg8 harg8 arg9 harg9) K := by
  rw [cc0_ffn1_norm_bwd_eq_skeleton]
  unfold cc0_ffn1_norm_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact h1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; refine (loop_x c i arg1 harg1 arg2 harg2 arg3 harg3 arg4 harg4 arg5 harg5 arg6 harg6 arg7 harg7 arg8 harg8 arg9 harg9 _ _ _ _ _ _ _ _ _).trans ?_; sl_unfold_words; simp only [read_start, hf0, hf1, hf2, hf3, hf4, hf5, hf6, hf7, hf8]
  isplitl [H6]
  · iexists _; isplitr; swap; · iexact H6
    ipureintro; refine (loop_sh c i arg1 harg1 arg2 harg2 arg3 harg3 arg4 harg4 arg5 harg5 arg6 harg6 arg7 harg7 arg8 harg8 arg9 harg9 _ _ _ _ _ _ _ _ _).trans ?_; sl_unfold_words; simp only [read_start, hf0, hf1, hf2, hf3, hf4, hf5, hf6, hf7, hf8]
  isplitl [H7]
  · iexists _; isplitr; swap; · iexact H7
    ipureintro; refine (loop_sc c i arg1 harg1 arg2 harg2 arg3 harg3 arg4 harg4 arg5 harg5 arg6 harg6 arg7 harg7 arg8 harg8 arg9 harg9 _ _ _ _ _ _ _ _ _).trans ?_; sl_unfold_words; simp only [read_start, hf0, hf1, hf2, hf3, hf4, hf5, hf6, hf7, hf8]
  iexists _; isplitr; swap; · iexact H8
  ipureintro; refine (loop_g c i arg1 harg1 arg2 harg2 arg3 harg3 arg4 harg4 arg5 harg5 arg6 harg6 arg7 harg7 arg8 harg8 arg9 harg9 _ _ _ _ _ _ _ _ _).trans ?_; sl_unfold_words; simp only [read_start, hf0, hf1, hf2, hf3, hf4, hf5, hf6, hf7, hf8]

end Body

end Cert.NormBwdIdeal.Grad

end
-- ==== Proof.NormRun.lean ====
module

public import proofs.«01_k».proof.Proof.NormBody
public import Idealize.ShloMosaic.Lib.Claim

@[expose] public section

set_option maxRecDepth 16384

noncomputable section

/-! The run over all 32 row blocks: what each leaves in the four outputs' buffers. -/

namespace Cert.NormBwdIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three sums after row block `n`. -/
def upTo (c : Dev nD) : (n : ℕ) → n < cfg0.N → Vec F S1x2048 .f32 × Vec F S1x2048 .f32 × Vec F S1x2048 .f32
  | 0, hn => (runSum (stepSh (iblk m c 0 ⟨0, hn⟩)) (k0_pay1 (F := F)) 4,
      runSum (stepSc (iblk m c 0 ⟨0, hn⟩) (iblk m c 1 ⟨0, hn⟩) (iblk m c 3 ⟨0, hn⟩)) (k0_pay2 (F := F)) 4,
      runSum (stepG (iblk m c 0 ⟨0, hn⟩) (iblk m c 1 ⟨0, hn⟩) (iblk m c 4 ⟨0, hn⟩)) (k0_pay3 (F := F)) 4)
  | n + 1, hn => (runSum (stepSh (iblk m c 0 ⟨n + 1, hn⟩)) (upTo c n (Nat.lt_of_succ_lt hn)).1 4,
      runSum (stepSc (iblk m c 0 ⟨n + 1, hn⟩) (iblk m c 1 ⟨n + 1, hn⟩) (iblk m c 3 ⟨n + 1, hn⟩)) (upTo c n (Nat.lt_of_succ_lt hn)).2.1 4,
      runSum (stepG (iblk m c 0 ⟨n + 1, hn⟩) (iblk m c 1 ⟨n + 1, hn⟩) (iblk m c 4 ⟨n + 1, hn⟩)) (upTo c n (Nat.lt_of_succ_lt hn)).2.2 4)

theorem upTo_start (c : Dev nD) (t : Fin cfg0.N) (h0 : t.val % 32 = 0) :
    upTo m c t.val t.isLt = (runSum (stepSh (iblk m c 0 t)) (k0_pay1 (F := F)) 4,
      runSum (stepSc (iblk m c 0 t) (iblk m c 1 t) (iblk m c 3 t)) (k0_pay2 (F := F)) 4,
      runSum (stepG (iblk m c 0 t) (iblk m c 1 t) (iblk m c 4 t)) (k0_pay3 (F := F)) 4) := by
  obtain ⟨n, hn⟩ := t
  cases n with
  | zero => rfl
  | succ n => exact absurd h0 (by have : n + 1 < 32 := lt_of_lt_of_eq hn (show cfg0.N = 32 from N_0); simp only; omega)

theorem upTo_next (c : Dev nD) (t : Fin cfg0.N) (h0 : ¬ t.val % 32 = 0) :
    upTo m c t.val t.isLt = (runSum (stepSh (iblk m c 0 t)) (upTo m c (t.val - 1) (Nat.lt_of_le_of_lt (Nat.sub_le _ _) t.isLt)).1 4,
      runSum (stepSc (iblk m c 0 t) (iblk m c 1 t) (iblk m c 3 t)) (upTo m c (t.val - 1) (Nat.lt_of_le_of_lt (Nat.sub_le _ _) t.isLt)).2.1 4,
      runSum (stepG (iblk m c 0 t) (iblk m c 1 t) (iblk m c 4 t)) (upTo m c (t.val - 1) (Nat.lt_of_le_of_lt (Nat.sub_le _ _) t.isLt)).2.2 4) := by
  obtain ⟨n, hn⟩ := t
  cases n with
  | zero => exact absurd (Nat.zero_mod _) h0
  | succ n => rfl

/-- The proof data of the one pipeline on core `c`: the arrays as the region finds them (`V`); after the body at
    point `t` each input's buffer at its block and the outputs' at what the body leaves; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gradX (iblk m c 0 t) (iblk m c 1 t) (iblk m c 2 t) (iblk m c 3 t) (iblk m c 4 t)
    | ⟨6, _⟩ => (upTo m c t.val t.isLt).1
    | ⟨7, _⟩ => (upTo m c t.val t.isLt).2.1
    | ⟨8, _⟩ => (upTo m c t.val t.isLt).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = gradX (iblk m c 0 t) (iblk m c 1 t) (iblk m c 2 t) (iblk m c 3 t) (iblk m c 4 t) := by dsimp only [dats]
theorem after0_6 (c : Dev nD) (t : Fin cfg0.N) : (dats m 0 c).after 6 t = (upTo m c t.val t.isLt).1 := by dsimp only [dats]
theorem after0_7 (c : Dev nD) (t : Fin cfg0.N) : (dats m 0 c).after 7 t = (upTo m c t.val t.isLt).2.1 := by dsimp only [dats]
theorem after0_8 (c : Dev nD) (t : Fin cfg0.N) : (dats m 0 c).after 8 t = (upTo m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 32 = 0) (d) :
    (dats m 0 c).before 6 t d = (upTo m c (t.val - 1) (Nat.lt_of_le_of_lt (Nat.sub_le _ _) t.isLt)).1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 32 = 0) (d) :
    (dats m 0 c).before 7 t d = (upTo m c (t.val - 1) (Nat.lt_of_le_of_lt (Nat.sub_le _ _) t.isLt)).2.1 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 32 = 0) (d) :
    (dats m 0 c).before 8 t d = (upTo m c (t.val - 1) (Nat.lt_of_le_of_lt (Nat.sub_le _ _) t.isLt)).2.2 := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases h0 : t.val % 32 = 0
  · rw [upTo_start m c t h0]
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_start c (grid0.coords t) _ _ _ _ _ _ _ _ _ _ _ _ _ _ _ _ _ _ (iblk m c 0 t) (iblk m c 1 t) (iblk m c 2 t) (iblk m c 3 t) (iblk m c 4 t) ((hcond0_0 t).mpr h0) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [upTo_next m c t h0]
    simp only [before0_6_B m c t h0, before0_7_B m c t h0, before0_8_B m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_next c (grid0.coords t) _ _ _ _ _ _ _ _ _ _ _ _ _ _ _ _ _ _ (iblk m c 0 t) (iblk m c 1 t) (iblk m c 2 t) (iblk m c 3 t) (iblk m c 4 t) (fun h => h0 ((hcond0_0 t).mp h)) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The run, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.NormBwdIdeal.Grad

end
-- ==== Proof.NormValue.lean ====
module

public import proofs.«01_k».proof.Proof.NormRun
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! What the norm's backward call leaves in its four result arrays, at each entry. -/

namespace Cert.NormBwdIdeal.Grad

open Idealize.ShloMosaic Idealize.ShloMosaic.TcCoe Idealize.ShloMosaic.Tactic
open Idealize.SL Idealize.SL.RA Idealize.SL.BI
open Idealize.SL.Sem
open Idealize.ShloMosaic.Pipeline (Dat Cfg Window cellOf)
open Cert.NormBwdIdeal.Gen

/-! ## One row -/

abbrev width : EReal := (Scalar.ofBits .f32 0x45000000#32 : Ideal .f32)
abbrev tiny : EReal := (Scalar.ofBits .f32 0x358637BD#32 : Ideal .f32)
/-- A row's scale: one over the root of its mean square. -/
def rInv (x : Fin 2048 → EReal) : EReal := Ideal.rsqrt (Ideal.div (∑ k : Fin 2048, x k * x k) width + tiny)
/-- The gradient of the normalised row, of the gradient `d` of the modulated one. -/
def rU (d g sc : Fin 2048 → EReal) (n : Fin 2048) : EReal := d n * (1 + sc n) * g n
/-- The gradient of the row, as the kernel computes it. -/
def rDx (d x g sc : Fin 2048 → EReal) (n : Fin 2048) : EReal :=
  rInv x * (rU d g sc n - x n * rInv x * Ideal.div (∑ k : Fin 2048, rU d g sc k * (x k * rInv x)) width)

theorem pay11_at (d : Vec Ideal S64x2048 .bf16) (x : Vec Ideal S64x2048 .f32) (g sc : Vec Ideal S1x2048 .f32) (y : Vec Ideal S64x2048 .f32) (p : Fin 64) (n : Fin 2048) :
    k0_pay11 d x g sc y (ix2 p n) = y (ix2 p n) + rDx (fun k => d (ix2 p k)) (fun k => x (ix2 p k)) (fun k => g (ix2 0 k)) (fun k => sc (ix2 0 k)) n := by
  unfold rDx rU rInv
  pointwise [k0_pay11, k0_pay10, k0_pay9, k0_pay8, k0_pay7]
theorem pay4_at (d : Vec Ideal S64x2048 .bf16) (v : Vec Ideal S1x2048 .f32) (n : Fin 2048) :
    k0_pay4 (k0_pay7 d) v (ix2 0 n) = v (ix2 0 n) + ∑ p : Fin 64, d (ix2 p n) := by
  pointwise [k0_pay4, k0_pay7]
theorem pay5_at (d : Vec Ideal S64x2048 .bf16) (x : Vec Ideal S64x2048 .f32) (g v : Vec Ideal S1x2048 .f32) (n : Fin 2048) :
    k0_pay5 (k0_pay7 d) (k0_pay12 x g) v (ix2 0 n)
      = v (ix2 0 n) + ∑ p : Fin 64, d (ix2 p n) * (x (ix2 p n) * rInv (fun k => x (ix2 p k)) * g (ix2 0 n)) := by
  unfold rInv
  pointwise [k0_pay5, k0_pay12, k0_pay9, k0_pay8, k0_pay7]
theorem pay6_at (d : Vec Ideal S64x2048 .bf16) (x : Vec Ideal S64x2048 .f32) (sc v : Vec Ideal S1x2048 .f32) (n : Fin 2048) :
    k0_pay6 (k0_pay7 d) (k0_pay9 x) (k0_pay10 sc) v (ix2 0 n)
      = v (ix2 0 n) + ∑ p : Fin 64, d (ix2 p n) * (1 + sc (ix2 0 n)) * (x (ix2 p n) * rInv (fun k => x (ix2 p k))) := by
  unfold rInv
  pointwise [k0_pay6, k0_pay10, k0_pay9, k0_pay8, k0_pay7]
theorem pay1_at (n : Fin 2048) : (k0_pay1 (F := Ideal) (ix2 0 n) : EReal) = 0 := by pointwise [k0_pay1]
theorem pay2_at (n : Fin 2048) : (k0_pay2 (F := Ideal) (ix2 0 n) : EReal) = 0 := by pointwise [k0_pay2]
theorem pay3_at (n : Fin 2048) : (k0_pay3 (F := Ideal) (ix2 0 n) : EReal) = 0 := by pointwise [k0_pay3]

/-! ## Sums over all rows -/

/-- After `k` of a row block's groups: what was there, and the terms of their rows. -/
theorem groups_at (T : ℕ → EReal) (step : Fin 4 → Vec Ideal S1x2048 .f32 → Vec Ideal S1x2048 .f32) (b : ℕ) (n : Fin 2048)
    (h : ∀ q v, (step q v (ix2 0 n) : EReal) = v (ix2 0 n) + ∑ p : Fin 64, T (256 * b + (64 * q.val + p.val))) (v : Vec Ideal S1x2048 .f32) :
    ∀ k : ℕ, k ≤ 4 → (runSum step v k (ix2 0 n) : EReal) = v (ix2 0 n) + ∑ r ∈ Finset.range (64 * k), T (256 * b + r)
  | 0, _ => (add_zero _).symm
  | k + 1, hk => by
    rw [runSum_succ step v k hk, h, groups_at T step b n h v k (by omega), add_assoc, show 64 * (k + 1) = 64 * k + 64 by omega,
      Finset.sum_range_add _ (64 * k) 64, Finset.sum_range (fun r => T (256 * b + (64 * k + r)))]
/-- After all 32 row blocks: the terms of all 8192 rows. -/
theorem blocks_at (T : ℕ → EReal) (n : Fin 2048) (step : ∀ t : ℕ, t < cfg0.N → Fin 4 → Vec Ideal S1x2048 .f32 → Vec Ideal S1x2048 .f32)
    (w : ∀ t : ℕ, t < cfg0.N → Vec Ideal S1x2048 .f32) (z : Vec Ideal S1x2048 .f32) (hz : (z (ix2 0 n) : EReal) = 0)
    (h0 : ∀ h, w 0 h = runSum (step 0 h) z 4) (hs : ∀ t h, w (t + 1) h = runSum (step (t + 1) h) (w t (Nat.lt_of_succ_lt h)) 4)
    (h : ∀ t ht q v, (step t ht q v (ix2 0 n) : EReal) = v (ix2 0 n) + ∑ p : Fin 64, T (256 * t + (64 * q.val + p.val))) :
    ∀ t ht, (w t ht (ix2 0 n) : EReal) = ∑ r ∈ Finset.range (256 * (t + 1)), T r
  | 0, ht => by
    rw [h0, groups_at T _ 0 n (h 0 ht) z 4 (Nat.le_refl _), hz, zero_add]
    exact Finset.sum_congr rfl fun r _ => congrArg T (by omega)
  | t + 1, ht => by
    rw [hs, groups_at T _ (t + 1) n (h (t + 1) ht) _ 4 (Nat.le_refl _), blocks_at T n step w z hz h0 hs h t _,
      show 256 * (t + 1 + 1) = 256 * (t + 1) + 256 by omega, Finset.sum_range_add _ (256 * (t + 1)) 256]

/-! ## Where the blocks lie -/

theorem lt32 (t : Fin cfg0.N) : t.val < 32 := lt_of_lt_of_eq t.isLt (show cfg0.N = 32 from N_0)
theorem at0 : ∀ t : Fin grid0.N, win0_0.index t 0 = t.val ∧ win0_0.index t 1 = 0 := by decide +kernel
theorem read0 (t : Fin cfg0.N) (G : S8192x2048.Idx → EReal) (j : (win0_0.xblock (grid0.coords t)).Idx) (i : S8192x2048.Idx)
    (h0 : t.val * 256 + (j 0).val = (i 0).val) (h1 : 0 * 2048 + (j 1).val = (i 1).val) :
    ((win0_0.blk t).view.read (Elt Ideal) G : _ → EReal) j = G i :=
  congrArg G (funext (Fin.forall_fin_two.mpr
    ⟨Fin.ext ((Rect.idx_unit_val _ _ _ _ _).trans ((congrArg (· * 256 + (j 0).val) (at0 t).1).trans h0)),
      Fin.ext ((Rect.idx_unit_val _ _ _ _ _).trans ((congrArg (· * 2048 + (j 1).val) (at0 t).2).trans h1))⟩))
theorem at1 : ∀ t : Fin grid0.N, win0_1.index t 0 = t.val ∧ win0_1.index t 1 = 0 := by decide +kernel
theorem read1 (t : Fin cfg0.N) (G : S8192x2048.Idx → EReal) (j : (win0_1.xblock (grid0.coords t)).Idx) (i : S8192x2048.Idx)
    (h0 : t.val * 256 + (j 0).val = (i 0).val) (h1 : 0 * 2048 + (j 1).val = (i 1).val) :
    ((win0_1.blk t).view.read (Elt Ideal) G : _ → EReal) j = G i :=
  congrArg G (funext (Fin.forall_fin_two.mpr
    ⟨Fin.ext ((Rect.idx_unit_val _ _ _ _ _).trans ((congrArg (· * 256 + (j 0).val) (at1 t).1).trans h0)),
      Fin.ext ((Rect.idx_unit_val _ _ _ _ _).trans ((congrArg (· * 2048 + (j 1).val) (at1 t).2).trans h1))⟩))
theorem at2 : ∀ t : Fin grid0.N, win0_2.index t 0 = t.val ∧ win0_2.index t 1 = 0 := by decide +kernel
theorem read2 (t : Fin cfg0.N) (G : S8192x2048.Idx → EReal) (j : (win0_2.xblock (grid0.coords t)).Idx) (i : S8192x2048.Idx)
    (h0 : t.val * 256 + (j 0).val = (i 0).val) (h1 : 0 * 2048 + (j 1).val = (i 1).val) :
    ((win0_2.blk t).view.read (Elt Ideal) G : _ → EReal) j = G i :=
  congrArg G (funext (Fin.forall_fin_two.mpr
    ⟨Fin.ext ((Rect.idx_unit_val _ _ _ _ _).trans ((congrArg (· * 256 + (j 0).val) (at2 t).1).trans h0)),
      Fin.ext ((Rect.idx_unit_val _ _ _ _ _).trans ((congrArg (· * 2048 + (j 1).val) (at2 t).2).trans h1))⟩))
theorem at3 : ∀ t : Fin grid0.N, win0_3.index t 0 = 0 ∧ win0_3.index t 1 = 0 := by decide +kernel
theorem read3 (t : Fin cfg0.N) (G : S1x2048.Idx → EReal) (j : (win0_3.xblock (grid0.coords t)).Idx) (i : S1x2048.Idx)
    (h0 : 0 * 1 + (j 0).val = (i 0).val) (h1 : 0 * 2048 + (j 1).val = (i 1).val) :
    ((win0_3.blk t).view.read (Elt Ideal) G : _ → EReal) j = G i :=
  congrArg G (funext (Fin.forall_fin_two.mpr
    ⟨Fin.ext ((Rect.idx_unit_val _ _ _ _ _).trans ((congrArg (· * 1 + (j 0).val) (at3 t).1).trans h0)),
      Fin.ext ((Rect.idx_unit_val _ _ _ _ _).trans ((congrArg (· * 2048 + (j 1).val) (at3 t).2).trans h1))⟩))
theorem at4 : ∀ t : Fin grid0.N, win0_4.index t 0 = 0 ∧ win0_4.index t 1 = 0 := by decide +kernel
theorem read4 (t : Fin cfg0.N) (G : S1x2048.Idx → EReal) (j : (win0_4.xblock (grid0.coords t)).Idx) (i : S1x2048.Idx)
    (h0 : 0 * 1 + (j 0).val = (i 0).val) (h1 : 0 * 2048 + (j 1).val = (i 1).val) :
    ((win0_4.blk t).view.read (Elt Ideal) G : _ → EReal) j = G i :=
  congrArg G (funext (Fin.forall_fin_two.mpr
    ⟨Fin.ext ((Rect.idx_unit_val _ _ _ _ _).trans ((congrArg (· * 1 + (j 0).val) (at4 t).1).trans h0)),
      Fin.ext ((Rect.idx_unit_val _ _ _ _ _).trans ((congrArg (· * 2048 + (j 1).val) (at4 t).2).trans h1))⟩))
theorem at5 : ∀ t : Fin grid0.N, win0_5.index t 0 = t.val ∧ win0_5.index t 1 = 0 := by decide +kernel
theorem read5 (t : Fin cfg0.N) (G : S8192x2048.Idx → EReal) (j : (win0_5.xblock (grid0.coords t)).Idx) (i : S8192x2048.Idx)
    (h0 : t.val * 256 + (j 0).val = (i 0).val) (h1 : 0 * 2048 + (j 1).val = (i 1).val) :
    ((win0_5.blk t).view.read (Elt Ideal) G : _ → EReal) j = G i :=
  congrArg G (funext (Fin.forall_fin_two.mpr
    ⟨Fin.ext ((Rect.idx_unit_val _ _ _ _ _).trans ((congrArg (· * 256 + (j 0).val) (at5 t).1).trans h0)),
      Fin.ext ((Rect.idx_unit_val _ _ _ _ _).trans ((congrArg (· * 2048 + (j 1).val) (at5 t).2).trans h1))⟩))
theorem at6 : ∀ t : Fin grid0.N, win0_6.index t 0 = 0 ∧ win0_6.index t 1 = 0 := by decide +kernel
theorem read6 (t : Fin cfg0.N) (G : S1x2048.Idx → EReal) (j : (win0_6.xblock (grid0.coords t)).Idx) (i : S1x2048.Idx)
    (h0 : 0 * 1 + (j 0).val = (i 0).val) (h1 : 0 * 2048 + (j 1).val = (i 1).val) :
    ((win0_6.blk t).view.read (Elt Ideal) G : _ → EReal) j = G i :=
  congrArg G (funext (Fin.forall_fin_two.mpr
    ⟨Fin.ext ((Rect.idx_unit_val _ _ _ _ _).trans ((congrArg (· * 1 + (j 0).val) (at6 t).1).trans h0)),
      Fin.ext ((Rect.idx_unit_val _ _ _ _ _).trans ((congrArg (· * 2048 + (j 1).val) (at6 t).2).trans h1))⟩))
theorem at7 : ∀ t : Fin grid0.N, win0_7.index t 0 = 0 ∧ win0_7.index t 1 = 0 := by decide +kernel
theorem read7 (t : Fin cfg0.N) (G : S1x2048.Idx → EReal) (j : (win0_7.xblock (grid0.coords t)).Idx) (i : S1x2048.Idx)
    (h0 : 0 * 1 + (j 0).val = (i 0).val) (h1 : 0 * 2048 + (j 1).val = (i 1).val) :
    ((win0_7.blk t).view.read (Elt Ideal) G : _ → EReal) j = G i :=
  congrArg G (funext (Fin.forall_fin_two.mpr
    ⟨Fin.ext ((Rect.idx_unit_val _ _ _ _ _).trans ((congrArg (· * 1 + (j 0).val) (at7 t).1).trans h0)),
      Fin.ext ((Rect.idx_unit_val _ _ _ _ _).trans ((congrArg (· * 2048 + (j 1).val) (at7 t).2).trans h1))⟩))
theorem at8 : ∀ t : Fin grid0.N, win0_8.index t 0 = 0 ∧ win0_8.index t 1 = 0 := by decide +kernel
theorem read8 (t : Fin cfg0.N) (G : S1x2048.Idx → EReal) (j : (win0_8.xblock (grid0.coords t)).Idx) (i : S1x2048.Idx)
    (h0 : 0 * 1 + (j 0).val = (i 0).val) (h1 : 0 * 2048 + (j 1).val = (i 1).val) :
    ((win0_8.blk t).view.read (Elt Ideal) G : _ → EReal) j = G i :=
  congrArg G (funext (Fin.forall_fin_two.mpr
    ⟨Fin.ext ((Rect.idx_unit_val _ _ _ _ _).trans ((congrArg (· * 1 + (j 0).val) (at8 t).1).trans h0)),
      Fin.ext ((Rect.idx_unit_val _ _ _ _ _).trans ((congrArg (· * 2048 + (j 1).val) (at8 t).2).trans h1))⟩))

section Arrays
variable (m : (ℓ : Loc nD τ sig) → Buf (Elt Ideal) ℓ) (c : Dev nD)

/-! ## The blocks at an index -/

abbrev argX : S8192x2048.Idx → EReal := m ((c.tc : Thread nD τ).loc main_arg0)
abbrev argG : S1x2048.Idx → EReal := m ((c.tc : Thread nD τ).loc main_arg1)
abbrev argSc : S1x2048.Idx → EReal := m ((c.tc : Thread nD τ).loc main_arg3)
abbrev argY : S8192x2048.Idx → EReal := m ((c.tc : Thread nD τ).loc main_arg4)
abbrev argD : S8192x2048.Idx → EReal := m ((c.tc : Thread nD τ).loc main_arg5)

theorem V_d : V m c main_v0 = argD m c := by
  have h : V m c main_v0 = truncf (F := Ideal) .bf16 (argD m c) bitsLt_bf16_f32 := by
    unfold V; simp only [hostOps0]; after_results_simp
  rw [h]; exact funext fun i => rfl

variable (t : Fin cfg0.N)

theorem blkD_at (p : Fin 256) (k : Fin 2048) (r : Fin 8192) (hr : t.val * 256 + p.val = r.val) :
    (iblk m c 0 t (ix2 p k) : EReal) = argD m c (ix2 r k) := by
  show ((win0_0.blk t).view.read (Elt Ideal) (V m c main_v0) : _ → EReal) (ix2 p k) = _
  rw [V_d]
  exact read0 t _ _ (ix2 r k) hr (Nat.zero_add _)
theorem blkX_at (p : Fin 256) (k : Fin 2048) (r : Fin 8192) (hr : t.val * 256 + p.val = r.val) :
    (iblk m c 1 t (ix2 p k) : EReal) = argX m c (ix2 r k) := by
  show ((win0_1.blk t).view.read (Elt Ideal) (V m c main_arg0) : _ → EReal) (ix2 p k) = _
  rw [V_main_arg0]
  exact read1 t _ _ (ix2 r k) hr (Nat.zero_add _)
theorem blkY_at (p : Fin 256) (k : Fin 2048) (r : Fin 8192) (hr : t.val * 256 + p.val = r.val) :
    (iblk m c 2 t (ix2 p k) : EReal) = argY m c (ix2 r k) := by
  show ((win0_2.blk t).view.read (Elt Ideal) (V m c main_arg4) : _ → EReal) (ix2 p k) = _
  rw [V_main_arg4]
  exact read2 t _ _ (ix2 r k) hr (Nat.zero_add _)
theorem rowG_at (k : Fin 2048) : (iblk m c 3 t (ix2 0 k) : EReal) = argG m c (ix2 0 k) := by
  show ((win0_3.blk t).view.read (Elt Ideal) (V m c main_arg1) : _ → EReal) (ix2 0 k) = _
  rw [V_main_arg1]
  exact read3 t _ _ (ix2 0 k) rfl (Nat.zero_add _)
theorem rowSc_at (k : Fin 2048) : (iblk m c 4 t (ix2 0 k) : EReal) = argSc m c (ix2 0 k) := by
  show ((win0_4.blk t).view.read (Elt Ideal) (V m c main_arg3) : _ → EReal) (ix2 0 k) = _
  rw [V_main_arg3]
  exact read4 t _ _ (ix2 0 k) rfl (Nat.zero_add _)

/-! ## The four results, at an entry -/

/-- A row of the gradient of the norm's input and the three terms it adds to the sums. -/
abbrev rowD (r : Fin 8192) : Fin 2048 → EReal := fun k => argD m c (ix2 r k)
abbrev rowX (r : Fin 8192) : Fin 2048 → EReal := fun k => argX m c (ix2 r k)
abbrev rowG : Fin 2048 → EReal := fun k => argG m c (ix2 0 k)
abbrev rowSc : Fin 2048 → EReal := fun k => argSc m c (ix2 0 k)
def dxV (r : Fin 8192) (n : Fin 2048) : EReal := argY m c (ix2 r n) + rDx (rowD m c r) (rowX m c r) (rowG m c) (rowSc m c) n
def shT (n : Fin 2048) (r : Fin 8192) : EReal := rowD m c r n
def scT (n : Fin 2048) (r : Fin 8192) : EReal := rowD m c r n * (rowX m c r n * rInv (rowX m c r) * rowG m c n)
def gT (n : Fin 2048) (r : Fin 8192) : EReal := rowD m c r n * (1 + rowSc m c n) * (rowX m c r n * rInv (rowX m c r))
/-- A term over the rows, zero past the arrays' end. -/
def pad (T : Fin 8192 → EReal) (r : ℕ) : EReal := if h : r < 8192 then T ⟨r, h⟩ else 0
theorem pad_at (T : Fin 8192 → EReal) (r : ℕ) (h : r < 8192) : pad T r = T ⟨r, h⟩ := dif_pos h
theorem pad_sum (T : Fin 8192 → EReal) : ∑ r ∈ Finset.range (256 * (31 + 1)), pad T r = ∑ r : Fin 8192, T r := by
  rw [show 256 * (31 + 1) = 8192 from rfl, Finset.sum_range]
  exact Finset.sum_congr rfl fun r _ => pad_at T r.val r.isLt

/-- A group's rows, among the whole arrays' rows. -/
theorem groupD_at (q : Fin 4) (p : Fin 64) (k : Fin 2048) (r : Fin 8192) (hr : 256 * t.val + (64 * q.val + p.val) = r.val) :
    (rowsOf (iblk m c 0 t) q (ix2 p k) : EReal) = rowD m c r k :=
  blkD_at m c t ⟨64 * q.val + p.val, by omega⟩ k r (by show t.val * 256 + (64 * q.val + p.val) = r.val; omega)
theorem groupX_at (q : Fin 4) (p : Fin 64) (k : Fin 2048) (r : Fin 8192) (hr : 256 * t.val + (64 * q.val + p.val) = r.val) :
    (rowsOf (iblk m c 1 t) q (ix2 p k) : EReal) = rowX m c r k :=
  blkX_at m c t ⟨64 * q.val + p.val, by omega⟩ k r (by show t.val * 256 + (64 * q.val + p.val) = r.val; omega)
theorem groupY_at (q : Fin 4) (p : Fin 64) (k : Fin 2048) (r : Fin 8192) (hr : 256 * t.val + (64 * q.val + p.val) = r.val) :
    (rowsOf (iblk m c 2 t) q (ix2 p k) : EReal) = argY m c (ix2 r k) :=
  blkY_at m c t ⟨64 * q.val + p.val, by omega⟩ k r (by show t.val * 256 + (64 * q.val + p.val) = r.val; omega)

theorem gradX_at (p : Fin 256) (n : Fin 2048) (r : Fin 8192) (hr : t.val * 256 + p.val = r.val) :
    (gradX (iblk m c 0 t) (iblk m c 1 t) (iblk m c 2 t) (iblk m c 3 t) (iblk m c 4 t) (ix2 p n) : EReal) = dxV m c r n := by
  have hq : 256 * t.val + (64 * (⟨p.val / 64, by omega⟩ : Fin 4).val + (⟨p.val % 64, Nat.mod_lt _ (by decide)⟩ : Fin 64).val) = r.val := by
    show 256 * t.val + (64 * (p.val / 64) + p.val % 64) = r.val; omega
  refine (pay11_at (rowsOf (iblk m c 0 t) ⟨p.val / 64, by omega⟩) (rowsOf (iblk m c 1 t) ⟨p.val / 64, by omega⟩) (iblk m c 3 t) (iblk m c 4 t)
    (rowsOf (iblk m c 2 t) ⟨p.val / 64, by omega⟩) ⟨p.val % 64, Nat.mod_lt _ (by decide)⟩ n).trans ?_
  unfold dxV
  refine congrArg₂ (· + ·) (groupY_at m c t _ _ n r hq) ?_
  rw [show (fun k => (rowsOf (iblk m c 0 t) ⟨p.val / 64, by omega⟩ (ix2 ⟨p.val % 64, Nat.mod_lt _ (by decide)⟩ k) : EReal)) = rowD m c r from funext fun k => groupD_at m c t _ _ k r hq,
    show (fun k => (rowsOf (iblk m c 1 t) ⟨p.val / 64, by omega⟩ (ix2 ⟨p.val % 64, Nat.mod_lt _ (by decide)⟩ k) : EReal)) = rowX m c r from funext fun k => groupX_at m c t _ _ k r hq,
    show (fun k => (iblk m c 3 t (ix2 0 k) : EReal)) = rowG m c from funext fun k => rowG_at m c t k,
    show (fun k => (iblk m c 4 t (ix2 0 k) : EReal)) = rowSc m c from funext fun k => rowSc_at m c t k]

/-- One group's step adds its rows' terms. -/
theorem stepSh_at (q : Fin 4) (v : Vec Ideal S1x2048 .f32) (n : Fin 2048) :
    (stepSh (iblk m c 0 t) q v (ix2 0 n) : EReal) = v (ix2 0 n) + ∑ p : Fin 64, pad (shT m c n) (256 * t.val + (64 * q.val + p.val)) := by
  refine (pay4_at (rowsOf (iblk m c 0 t) q) v n).trans (congrArg (_ + ·) (Finset.sum_congr rfl fun p _ => ?_))
  have hr : 256 * t.val + (64 * q.val + p.val) < 8192 := by have := lt32 t; omega
  rw [pad_at _ _ hr]
  exact groupD_at m c t q p n ⟨_, hr⟩ rfl
theorem stepSc_at (q : Fin 4) (v : Vec Ideal S1x2048 .f32) (n : Fin 2048) :
    (stepSc (iblk m c 0 t) (iblk m c 1 t) (iblk m c 3 t) q v (ix2 0 n) : EReal) = v (ix2 0 n) + ∑ p : Fin 64, pad (scT m c n) (256 * t.val + (64 * q.val + p.val)) := by
  refine (pay5_at (rowsOf (iblk m c 0 t) q) (rowsOf (iblk m c 1 t) q) (iblk m c 3 t) v n).trans (congrArg (_ + ·) (Finset.sum_congr rfl fun p _ => ?_))
  have hr : 256 * t.val + (64 * q.val + p.val) < 8192 := by have := lt32 t; omega
  rw [pad_at _ _ hr]
  unfold scT
  rw [show (fun k => (rowsOf (iblk m c 1 t) q (ix2 p k) : EReal)) = rowX m c ⟨_, hr⟩ from funext fun k => groupX_at m c t q p k ⟨_, hr⟩ rfl]
  exact congrArg₂ (· * ·) (groupD_at m c t q p n ⟨_, hr⟩ rfl) (congrArg₂ (· * ·) (congrArg (· * _) (groupX_at m c t q p n ⟨_, hr⟩ rfl)) (rowG_at m c t n))
theorem stepG_at (q : Fin 4) (v : Vec Ideal S1x2048 .f32) (n : Fin 2048) :
    (stepG (iblk m c 0 t) (iblk m c 1 t) (iblk m c 4 t) q v (ix2 0 n) : EReal) = v (ix2 0 n) + ∑ p : Fin 64, pad (gT m c n) (256 * t.val + (64 * q.val + p.val)) := by
  refine (pay6_at (rowsOf (iblk m c 0 t) q) (rowsOf (iblk m c 1 t) q) (iblk m c 4 t) v n).trans (congrArg (_ + ·) (Finset.sum_congr rfl fun p _ => ?_))
  have hr : 256 * t.val + (64 * q.val + p.val) < 8192 := by have := lt32 t; omega
  rw [pad_at _ _ hr]
  unfold gT
  rw [show (fun k => (rowsOf (iblk m c 1 t) q (ix2 p k) : EReal)) = rowX m c ⟨_, hr⟩ from funext fun k => groupX_at m c t q p k ⟨_, hr⟩ rfl]
  exact congrArg₂ (· * ·) (congrArg₂ (· * ·) (groupD_at m c t q p n ⟨_, hr⟩ rfl) (congrArg (1 + ·) (rowSc_at m c t n))) (congrArg (· * _) (groupX_at m c t q p n ⟨_, hr⟩ rfl))

/-- The three sums, one row block at a time. -/
theorem upTo_zero (h : 0 < cfg0.N) : upTo m c 0 h = (runSum (stepSh (iblk m c 0 ⟨0, h⟩)) (k0_pay1 (F := Ideal)) 4,
    runSum (stepSc (iblk m c 0 ⟨0, h⟩) (iblk m c 1 ⟨0, h⟩) (iblk m c 3 ⟨0, h⟩)) (k0_pay2 (F := Ideal)) 4,
    runSum (stepG (iblk m c 0 ⟨0, h⟩) (iblk m c 1 ⟨0, h⟩) (iblk m c 4 ⟨0, h⟩)) (k0_pay3 (F := Ideal)) 4) := by rw [upTo]
theorem upTo_succ (t : ℕ) (h : t + 1 < cfg0.N) : upTo m c (t + 1) h = (runSum (stepSh (iblk m c 0 ⟨t + 1, h⟩)) (upTo m c t (Nat.lt_of_succ_lt h)).1 4,
    runSum (stepSc (iblk m c 0 ⟨t + 1, h⟩) (iblk m c 1 ⟨t + 1, h⟩) (iblk m c 3 ⟨t + 1, h⟩)) (upTo m c t (Nat.lt_of_succ_lt h)).2.1 4,
    runSum (stepG (iblk m c 0 ⟨t + 1, h⟩) (iblk m c 1 ⟨t + 1, h⟩) (iblk m c 4 ⟨t + 1, h⟩)) (upTo m c t (Nat.lt_of_succ_lt h)).2.2 4) := by rw [upTo]
/-- The three sums after the last row block. -/
theorem sh_all (h : 31 < cfg0.N) (n : Fin 2048) : ((upTo m c 31 h).1 (ix2 0 n) : EReal) = ∑ r : Fin 8192, shT m c n r := by
  have e := blocks_at (pad (shT m c n)) n (fun t ht => stepSh (iblk m c 0 ⟨t, ht⟩)) (fun t ht => (upTo m c t ht).1) (k0_pay1 (F := Ideal)) (pay1_at n)
    (fun h => by rw [upTo_zero]) (fun t h => by rw [upTo_succ]) (fun t ht q v => stepSh_at m c ⟨t, ht⟩ q v n) 31 h
  exact e.trans (pad_sum _)
theorem sc_all (h : 31 < cfg0.N) (n : Fin 2048) : ((upTo m c 31 h).2.1 (ix2 0 n) : EReal) = ∑ r : Fin 8192, scT m c n r := by
  have e := blocks_at (pad (scT m c n)) n (fun t ht => stepSc (iblk m c 0 ⟨t, ht⟩) (iblk m c 1 ⟨t, ht⟩) (iblk m c 3 ⟨t, ht⟩)) (fun t ht => (upTo m c t ht).2.1) (k0_pay2 (F := Ideal)) (pay2_at n)
    (fun h => by rw [upTo_zero]) (fun t h => by rw [upTo_succ]) (fun t ht q v => stepSc_at m c ⟨t, ht⟩ q v n) 31 h
  exact e.trans (pad_sum _)
theorem g_all (h : 31 < cfg0.N) (n : Fin 2048) : ((upTo m c 31 h).2.2 (ix2 0 n) : EReal) = ∑ r : Fin 8192, gT m c n r := by
  have e := blocks_at (pad (gT m c n)) n (fun t ht => stepG (iblk m c 0 ⟨t, ht⟩) (iblk m c 1 ⟨t, ht⟩) (iblk m c 4 ⟨t, ht⟩)) (fun t ht => (upTo m c t ht).2.2) (k0_pay3 (F := Ideal)) (pay3_at n)
    (fun h => by rw [upTo_zero]) (fun t h => by rw [upTo_succ]) (fun t ht q v => stepG_at m c ⟨t, ht⟩ q v n) 31 h
  exact e.trans (pad_sum _)
end Arrays

/-! ## The four result arrays -/

section Results
variable (m : (ℓ : Loc nD τ sig) → Buf (Elt Ideal) ℓ) (c : Dev nD)

abbrev arr5 : S8192x2048.Idx → EReal := fun i => dxV m c (i 0) (i 1)
theorem whole5 : ∀ t : Fin grid0.N, ∀ a : Fin 2, win0_5.xsize (grid0.coords t) a = S256x2048.size a := by decide +kernel
theorem flushed5 (t : Fin cfg0.N) : ∀ j : (win0_5.xblock (grid0.coords t)).Idx,
    (win0_5.cut (grid0.coords t) (gradX (iblk m c 0 t) (iblk m c 1 t) (iblk m c 2 t) (iblk m c 3 t) (iblk m c 4 t)) j : EReal)
      = ((win0_5.blk t).view.read (Elt Ideal) (arr5 m c) : _ → EReal) j := by
  intro j
  have ht := lt32 t
  have e0 : (j 0).val < 256 := lt_of_lt_of_eq (j 0).isLt (whole5 t 0)
  have e1 : (j 1).val < 2048 := lt_of_lt_of_eq (j 1).isLt (whole5 t 1)
  rw [read5 t (arr5 m c) j (ix2 ⟨t.val * 256 + (j 0).val, by omega⟩ ⟨(j 1).val, e1⟩) rfl (Nat.zero_add _)]
  refine (congrArg (gradX (iblk m c 0 t) (iblk m c 1 t) (iblk m c 2 t) (iblk m c 3 t) (iblk m c 4 t))
    ((eq_ix2 _).trans (congrArg₂ ix2 (Fin.ext rfl) (Fin.ext rfl)))).trans (gradX_at m c t ⟨(j 0).val, e0⟩ ⟨(j 1).val, e1⟩ _ rfl)
theorem final5 : (dats m 0 c).arrAt 5 cfg0.N = arr5 m c := by
  refine (dats m 0 c).arrAt_eq_of_cover 5 (arr5 m c) (fun t ht => ?_) (fun i => ?_)
  · exact (congrArg (win0_5.cut (grid0.coords t)) (after0_5 m c t)).trans (funext fun j => flushed5 m c t j)
  · have i0 : (i 0).val < 8192 := (i 0).isLt
    have i1 : (i 1).val < 2048 := (i 1).isLt
    have hN : (i 0).val / 256 < cfg0.N := by show _ < 32; omega
    refine ⟨⟨(i 0).val / 256, hN⟩, flush0_5 _, ?_⟩
    show i ∈ ((View.whole main_v1_0).slice (win0_5.rect ⟨(i 0).val / 256, hN⟩)).set
    rw [View.set_slice_whole]
    refine Rect.mem_set_unit.2 fun a => ?_
    have hx := whole5 ⟨(i 0).val / 256, hN⟩ a
    have ea := at5 ⟨(i 0).val / 256, hN⟩
    match a with
    | ⟨0, _⟩ =>
      show win0_5.index _ 0 * 256 ≤ (i 0).val ∧ (i 0).val < win0_5.index _ 0 * 256 + win0_5.xsize (grid0.coords _) 0
      rw [ea.1, show win0_5.xsize (grid0.coords _) 0 = 256 from hx]
      show (i 0).val / 256 * 256 ≤ (i 0).val ∧ (i 0).val < (i 0).val / 256 * 256 + 256
      omega
    | ⟨1, _⟩ =>
      show win0_5.index _ 1 * 2048 ≤ (i 1).val ∧ (i 1).val < win0_5.index _ 1 * 2048 + win0_5.xsize (grid0.coords _) 1
      rw [ea.2, show win0_5.xsize (grid0.coords _) 1 = 2048 from hx]
      omega

abbrev arr6 : S1x2048.Idx → EReal := fun i => ∑ r : Fin 8192, shT m c (i 1) r
theorem whole6 : ∀ t : Fin grid0.N, ∀ a : Fin 2, win0_6.xsize (grid0.coords t) a = S1x2048.size a := by decide +kernel
theorem final6 : (dats m 0 c).arrAt 6 cfg0.N = arr6 m c := by
  have hN : 31 < cfg0.N := by show _ < 32; omega
  refine (dats m 0 c).arrAt_eq_of_cover 6 (arr6 m c) (fun t ht => ?_) (fun i => ?_)
  · obtain rfl : t = ⟨31, hN⟩ := Fin.ext (by have := (flush0_6 t).1 ht; have h := lt32 t; show t.val = 31; omega)
    refine (congrArg (win0_6.cut (grid0.coords _)) (after0_6 m c _)).trans (funext fun j => ?_)
    have e0 : (j 0).val < 1 := lt_of_lt_of_eq (j 0).isLt (whole6 ⟨31, hN⟩ 0)
    have e1 : (j 1).val < 2048 := lt_of_lt_of_eq (j 1).isLt (whole6 ⟨31, hN⟩ 1)
    refine Eq.trans ?_ (read6 ⟨31, hN⟩ (arr6 m c) j (ix2 0 ⟨(j 1).val, e1⟩) (by show 0 * 1 + (j 0).val = 0; omega) (Nat.zero_add _)).symm
    exact (congrArg ((upTo m c 31 hN).1 : S1x2048.Idx → EReal) ((eq_ix2 _).trans (congrArg₂ ix2 (Fin.ext (by show (j 0).val = 0; omega)) (Fin.ext rfl)))).trans (sh_all m c hN ⟨(j 1).val, e1⟩)
  · have i0 : (i 0).val < 1 := (i 0).isLt
    have i1 : (i 1).val < 2048 := (i 1).isLt
    refine ⟨⟨31, hN⟩, (flush0_6 _).2 rfl, ?_⟩
    show i ∈ ((View.whole main_v1_1).slice (win0_6.rect ⟨31, hN⟩)).set
    rw [View.set_slice_whole]
    refine Rect.mem_set_unit.2 fun a => ?_
    have hx := whole6 ⟨31, hN⟩ a
    have ea := at6 ⟨31, hN⟩
    match a with
    | ⟨0, _⟩ =>
      show win0_6.index _ 0 * 1 ≤ (i 0).val ∧ (i 0).val < win0_6.index _ 0 * 1 + win0_6.xsize (grid0.coords _) 0
      rw [ea.1, show win0_6.xsize (grid0.coords _) 0 = 1 from hx]
      omega
    | ⟨1, _⟩ =>
      show win0_6.index _ 1 * 2048 ≤ (i 1).val ∧ (i 1).val < win0_6.index _ 1 * 2048 + win0_6.xsize (grid0.coords _) 1
      rw [ea.2, show win0_6.xsize (grid0.coords _) 1 = 2048 from hx]
      omega

abbrev arr7 : S1x2048.Idx → EReal := fun i => ∑ r : Fin 8192, scT m c (i 1) r
theorem whole7 : ∀ t : Fin grid0.N, ∀ a : Fin 2, win0_7.xsize (grid0.coords t) a = S1x2048.size a := by decide +kernel
theorem final7 : (dats m 0 c).arrAt 7 cfg0.N = arr7 m c := by
  have hN : 31 < cfg0.N := by show _ < 32; omega
  refine (dats m 0 c).arrAt_eq_of_cover 7 (arr7 m c) (fun t ht => ?_) (fun i => ?_)
  · obtain rfl : t = ⟨31, hN⟩ := Fin.ext (by have := (flush0_7 t).1 ht; have h := lt32 t; show t.val = 31; omega)
    refine (congrArg (win0_7.cut (grid0.coords _)) (after0_7 m c _)).trans (funext fun j => ?_)
    have e0 : (j 0).val < 1 := lt_of_lt_of_eq (j 0).isLt (whole7 ⟨31, hN⟩ 0)
    have e1 : (j 1).val < 2048 := lt_of_lt_of_eq (j 1).isLt (whole7 ⟨31, hN⟩ 1)
    refine Eq.trans ?_ (read7 ⟨31, hN⟩ (arr7 m c) j (ix2 0 ⟨(j 1).val, e1⟩) (by show 0 * 1 + (j 0).val = 0; omega) (Nat.zero_add _)).symm
    exact (congrArg ((upTo m c 31 hN).2.1 : S1x2048.Idx → EReal) ((eq_ix2 _).trans (congrArg₂ ix2 (Fin.ext (by show (j 0).val = 0; omega)) (Fin.ext rfl)))).trans (sc_all m c hN ⟨(j 1).val, e1⟩)
  · have i0 : (i 0).val < 1 := (i 0).isLt
    have i1 : (i 1).val < 2048 := (i 1).isLt
    refine ⟨⟨31, hN⟩, (flush0_7 _).2 rfl, ?_⟩
    show i ∈ ((View.whole main_v1_2).slice (win0_7.rect ⟨31, hN⟩)).set
    rw [View.set_slice_whole]
    refine Rect.mem_set_unit.2 fun a => ?_
    have hx := whole7 ⟨31, hN⟩ a
    have ea := at7 ⟨31, hN⟩
    match a with
    | ⟨0, _⟩ =>
      show win0_7.index _ 0 * 1 ≤ (i 0).val ∧ (i 0).val < win0_7.index _ 0 * 1 + win0_7.xsize (grid0.coords _) 0
      rw [ea.1, show win0_7.xsize (grid0.coords _) 0 = 1 from hx]
      omega
    | ⟨1, _⟩ =>
      show win0_7.index _ 1 * 2048 ≤ (i 1).val ∧ (i 1).val < win0_7.index _ 1 * 2048 + win0_7.xsize (grid0.coords _) 1
      rw [ea.2, show win0_7.xsize (grid0.coords _) 1 = 2048 from hx]
      omega

abbrev arr8 : S1x2048.Idx → EReal := fun i => ∑ r : Fin 8192, gT m c (i 1) r
theorem whole8 : ∀ t : Fin grid0.N, ∀ a : Fin 2, win0_8.xsize (grid0.coords t) a = S1x2048.size a := by decide +kernel
theorem final8 : (dats m 0 c).arrAt 8 cfg0.N = arr8 m c := by
  have hN : 31 < cfg0.N := by show _ < 32; omega
  refine (dats m 0 c).arrAt_eq_of_cover 8 (arr8 m c) (fun t ht => ?_) (fun i => ?_)
  · obtain rfl : t = ⟨31, hN⟩ := Fin.ext (by have := (flush0_8 t).1 ht; have h := lt32 t; show t.val = 31; omega)
    refine (congrArg (win0_8.cut (grid0.coords _)) (after0_8 m c _)).trans (funext fun j => ?_)
    have e0 : (j 0).val < 1 := lt_of_lt_of_eq (j 0).isLt (whole8 ⟨31, hN⟩ 0)
    have e1 : (j 1).val < 2048 := lt_of_lt_of_eq (j 1).isLt (whole8 ⟨31, hN⟩ 1)
    refine Eq.trans ?_ (read8 ⟨31, hN⟩ (arr8 m c) j (ix2 0 ⟨(j 1).val, e1⟩) (by show 0 * 1 + (j 0).val = 0; omega) (Nat.zero_add _)).symm
    exact (congrArg ((upTo m c 31 hN).2.2 : S1x2048.Idx → EReal) ((eq_ix2 _).trans (congrArg₂ ix2 (Fin.ext (by show (j 0).val = 0; omega)) (Fin.ext rfl)))).trans (g_all m c hN ⟨(j 1).val, e1⟩)
  · have i0 : (i 0).val < 1 := (i 0).isLt
    have i1 : (i 1).val < 2048 := (i 1).isLt
    refine ⟨⟨31, hN⟩, (flush0_8 _).2 rfl, ?_⟩
    show i ∈ ((View.whole main_v1_3).slice (win0_8.rect ⟨31, hN⟩)).set
    rw [View.set_slice_whole]
    refine Rect.mem_set_unit.2 fun a => ?_
    have hx := whole8 ⟨31, hN⟩ a
    have ea := at8 ⟨31, hN⟩
    match a with
    | ⟨0, _⟩ =>
      show win0_8.index _ 0 * 1 ≤ (i 0).val ∧ (i 0).val < win0_8.index _ 0 * 1 + win0_8.xsize (grid0.coords _) 0
      rw [ea.1, show win0_8.xsize (grid0.coords _) 0 = 1 from hx]
      omega
    | ⟨1, _⟩ =>
      show win0_8.index _ 1 * 2048 ≤ (i 1).val ∧ (i 1).val < win0_8.index _ 1 * 2048 + win0_8.xsize (grid0.coords _) 1
      rw [ea.2, show win0_8.xsize (grid0.coords _) 1 = 2048 from hx]
      omega

end Results

end Cert.NormBwdIdeal.Grad

end
-- ==== Proof.NormRef.lean ====
module

public import proofs.«01_k».proof.Proof.NormValue
public import proofs.«01_k».proof.Proof.Gen.NormBwdRefIdeal.Run
public import Idealize.ShloMosaic.Lib.Pipeline.Value
public import Idealize.ShloMosaic.Lib.Pipeline.ValueKit.Basic
public import Idealize.ShloMosaic.Lib.WritesUnit
public import Idealize.ShloMosaic.Lib.Pipeline.ValueKit.Tiles
public import Idealize.ShloMosaic.Lib.Pointwise
public import Idealize.ShloMosaic.Lib.StableHlo.Run

@[expose] public section

set_option maxRecDepth 16384

noncomputable section

/-! The gradient of the norm as the reference computes it, and why it is the kernel's. -/

namespace Cert.NormBwdRefIdeal.NormRef

open Idealize.ShloMosaic Idealize.ShloMosaic.TcCoe Idealize.SL.Sem
open Cert.NormBwdRefIdeal Cert.NormBwdRefIdeal.Gen
open Cert.NormBwdIdeal.Grad (width tiny rInv rU rDx)

/-! ## The two forms of a row's gradient are one -/

theorem width_eq : width = ((2048 : ℝ) : EReal) := by
  show Ideal.ofBits .f32 0x45000000#32 = _
  simp [Ideal.ofBits, Ideal.ieee, -EReal.coe_mul]; norm_num
theorem tiny_eq : ∃ e : ℝ, 0 < e ∧ tiny = (e : EReal) := by
  refine ⟨(8796093 : ℝ) / 2 ^ 43, by positivity, ?_⟩
  show Ideal.ofBits .f32 0x358637BD#32 = _
  simp [Ideal.ofBits, Ideal.ieee, -EReal.coe_mul]; norm_num
abbrev negHalf : EReal := (Scalar.ofBits .f32 0xBF000000#32 : Ideal .f32)
theorem negHalf_eq : negHalf = ((-(1 / 2) : ℝ) : EReal) := by
  show Ideal.ofBits .f32 0xBF000000#32 = _
  simp [Ideal.ofBits, Ideal.ieee, -EReal.coe_mul]; norm_num
theorem div_width (s : EReal) : Ideal.div s width = s * ((1 / 2048 : ℝ) : EReal) := by
  rw [width_eq]
  unfold Ideal.div
  rw [if_neg (by norm_num), ← EReal.coe_inv]
  norm_num
/-- A row's mean square plus the constant: positive. -/
def rMean (x : Fin 2048 → EReal) : EReal := Ideal.div (∑ k : Fin 2048, x k * x k) width + tiny
theorem square_nonneg (a : EReal) : 0 ≤ a * a := by
  rcases le_total 0 a with h | h
  · exact mul_nonneg h h
  · rw [← neg_mul_neg]; exact mul_nonneg (EReal.neg_nonneg.2 h) (EReal.neg_nonneg.2 h)
theorem rMean_pos (x : Fin 2048 → EReal) : 0 < rMean x := by
  obtain ⟨e, he, h⟩ := tiny_eq
  unfold rMean
  rw [div_width, h]
  have h1 : (0 : EReal) ≤ (∑ k : Fin 2048, x k * x k) * ((1 / 2048 : ℝ) : EReal) :=
    mul_nonneg (Finset.sum_nonneg fun k _ => square_nonneg _) (EReal.coe_nonneg.2 (by norm_num))
  have h2 : (0 : EReal) < (e : EReal) := EReal.coe_pos.2 he
  exact lt_of_lt_of_le h2 (le_add_of_nonneg_left h1)
/-- One over the root of a positive number is a real number, and over that number it is its cube. -/
theorem rsqrt_pos (n : EReal) (hn : 0 < n) : ∃ ρ : ℝ, 0 ≤ ρ ∧ Ideal.rsqrt n = (ρ : EReal) ∧ Ideal.div (Ideal.rsqrt n) n = ((ρ * ρ * ρ : ℝ) : EReal) := by
  induction n using EReal.rec with
  | bot => exact absurd hn (by simp)
  | top =>
    refine ⟨0, le_refl _, by simp, ?_⟩
    unfold Ideal.div
    simp
  | coe ν =>
    have hν : 0 < ν := EReal.coe_pos.1 hn
    refine ⟨(Real.sqrt ν)⁻¹, inv_nonneg.2 (Real.sqrt_nonneg _), ?_, ?_⟩
    · rw [Ideal.rsqrt_coe, if_neg (not_lt.2 hν.le), if_neg hν.ne']
    · rw [Ideal.rsqrt_coe, if_neg (not_lt.2 hν.le), if_neg hν.ne']
      unfold Ideal.div
      rw [if_neg hn.ne', ← EReal.coe_inv, ← EReal.coe_mul]
      refine congrArg _ ?_
      conv_rhs => rw [mul_assoc, ← mul_inv, Real.mul_self_sqrt hν.le]
/-- A real number that is not negative goes into a sum. -/
theorem mul_sum_real (ρ : ℝ) (hρ : 0 ≤ ρ) (a : Fin 2048 → EReal) (s : Finset (Fin 2048)) : (ρ : EReal) * ∑ k ∈ s, a k = ∑ k ∈ s, (ρ : EReal) * a k := by
  induction s using Finset.induction_on with
  | empty => simp
  | insert i s hi ih =>
    rw [Finset.sum_insert hi, Finset.sum_insert hi, ← ih]
    exact EReal.left_distrib_of_nonneg_of_ne_top (EReal.coe_nonneg.2 hρ) (EReal.coe_ne_top _) _ _
theorem twice (a : EReal) : a + a = ((2 : ℝ) : EReal) * a := by
  induction a using EReal.rec with
  | bot => rw [EReal.coe_mul_bot_of_pos (by norm_num)]; rfl
  | top => rw [EReal.coe_mul_top_of_pos (by norm_num)]; rfl
  | coe r => rw [← EReal.coe_add, ← EReal.coe_mul, two_mul]

/-- The correction the reference adds twice. -/
def rW (d x g sc : Fin 2048 → EReal) : EReal :=
  Ideal.div ((∑ k : Fin 2048, x k * rU d g sc k) * (negHalf * Ideal.div (rInv x) (rMean x))) width
/-- The gradient of the row, as the reference computes it. -/
def refDx (d x g sc : Fin 2048 → EReal) (n : Fin 2048) : EReal := rU d g sc n * rInv x + x n * rW d x g sc + rW d x g sc * x n

theorem refDx_eq (d x g sc : Fin 2048 → EReal) (n : Fin 2048) : refDx d x g sc n = rDx d x g sc n := by
  obtain ⟨ρ, hρ, h1, h2⟩ := rsqrt_pos (rMean x) (rMean_pos x)
  have hi : rInv x = (ρ : EReal) := h1
  have hc : Ideal.div (rInv x) (rMean x) = ((ρ * ρ * ρ : ℝ) : EReal) := h2
  unfold refDx rDx rW
  rw [hc, hi, div_width, div_width, negHalf_eq]
  have hs : (∑ k : Fin 2048, rU d g sc k * (x k * (ρ : EReal))) = (ρ : EReal) * ∑ k : Fin 2048, x k * rU d g sc k := by
    rw [mul_sum_real ρ hρ]
    exact Finset.sum_congr rfl fun k _ => by rw [← mul_assoc, mul_comm (ρ : EReal), mul_comm (rU d g sc k)]
  rw [hs]
  generalize (∑ k : Fin 2048, x k * rU d g sc k) = S
  generalize rU d g sc n = u
  generalize x n = y
  have e1 : y * (S * (((-(1 / 2) : ℝ) : EReal) * ((ρ * ρ * ρ : ℝ) : EReal)) * ((1 / 2048 : ℝ) : EReal))
      = ((-(ρ * ρ * ρ) / 4096 : ℝ) : EReal) * (y * S) := by
    have e : ((-(ρ * ρ * ρ) / 4096 : ℝ) : EReal) = ((-(1 / 2) : ℝ) : EReal) * ((ρ * ρ * ρ : ℝ) : EReal) * ((1 / 2048 : ℝ) : EReal) := by
      rw [← EReal.coe_mul, ← EReal.coe_mul]; congr 1; ring
    rw [e]; ac_rfl
  rw [mul_comm _ y, e1, add_assoc, twice, ← mul_assoc ((2 : ℝ) : EReal), ← EReal.coe_mul, sub_eq_add_neg,
    EReal.left_distrib_of_nonneg_of_ne_top (EReal.coe_nonneg.2 hρ) (EReal.coe_ne_top _), mul_comm u]
  refine congrArg ((ρ : EReal) * u + ·) ?_
  have e2 : y * (ρ : EReal) * ((ρ : EReal) * S * ((1 / 2048 : ℝ) : EReal)) = ((ρ * ρ / 2048 : ℝ) : EReal) * (y * S) := by
    have e : ((ρ * ρ / 2048 : ℝ) : EReal) = (ρ : EReal) * (ρ : EReal) * ((1 / 2048 : ℝ) : EReal) := by
      rw [← EReal.coe_mul, ← EReal.coe_mul]; congr 1; ring
    rw [e]; ac_rfl
  rw [e2, ← EReal.neg_mul, ← EReal.coe_neg, ← mul_assoc (ρ : EReal), ← EReal.coe_mul]
  refine congrArg (fun z : ℝ => (z : EReal) * (y * S)) ?_
  ring

/-! ## The reference's composed terms, in pieces -/

abbrev means (x : FVec Ideal S8192x2048 .f32) : FVec Ideal S8192x1 .f32 :=
  addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))
abbrev scales (x : FVec Ideal S8192x2048 .f32) : FVec Ideal S8192x1 .f32 := Host.rsqrt (means x)
/-- A row vector, over all rows, and a column over all columns. -/
abbrev rows (v : FVec Ideal S1x2048 .f32) : FVec Ideal S8192x2048 .f32 := broadcastInDim S8192x2048 ![0, 1] bcast_S1x2048_S8192x2048_0_1 v
abbrev cols (v : FVec Ideal S8192x1 .f32) : FVec Ideal S8192x2048 .f32 := broadcastInDim S8192x2048 ![0, 1] bcast_S8192x1_S8192x2048_0_1 v
/-- The gradient at the norm's output before the shift and the scale. -/
abbrev afters (d : FVec Ideal S8192x2048 .f32) (sc : FVec Ideal S1x2048 .f32) : FVec Ideal S8192x2048 .f32 :=
  mulf (shapeCast S8192x2048 d shapeCasts_S8192x2048_S8192x2048) (rows (addf (broadcastInDim S1x2048 ![] bcast_S_S1x2048 (constant S_ .f32 0x3F800000#32)) sc))
abbrev us (d : FVec Ideal S8192x2048 .f32) (g sc : FVec Ideal S1x2048 .f32) : FVec Ideal S8192x2048 .f32 := mulf (afters d sc) (rows g)
/-- The corrections, one a row, and over all columns. -/
abbrev corrs (d x : FVec Ideal S8192x2048 .f32) (g sc : FVec Ideal S1x2048 .f32) : FVec Ideal S8192x1 .f32 :=
  Host.divf (mulf (shapeCast S8192x1 (Host.reduceAdd (mulf x (us d g sc)) (constant S_ .f32 0x00000000#32) reducesTo_S8192x2048_S8192_d1 h_S_) shapeCasts_S8192_S8192x1)
    (mulf (broadcastInDim S8192x1 ![] bcast_S_S8192x1 (constant S_ .f32 0xBF000000#32)) (Host.divf (scales x) (means x))))
    (broadcastInDim S8192x1 ![] bcast_S_S8192x1 (constant S_ .f32 0x45000000#32))
abbrev wides (d x : FVec Ideal S8192x2048 .f32) (g sc : FVec Ideal S1x2048 .f32) : FVec Ideal S8192x2048 .f32 :=
  broadcastInDim S8192x2048 ![0] bcast_S8192_S8192x2048_0 (Host.reduceAdd (corrs d x g sc) (constant S_ .f32 0x00000000#32) reducesTo_S8192x1_S8192_d1 h_S_)
abbrev dxs (d x y : FVec Ideal S8192x2048 .f32) (g sc : FVec Ideal S1x2048 .f32) : FVec Ideal S8192x2048 .f32 :=
  addf y (addf (addf (mulf (us d g sc) (cols (scales x))) (mulf x (wides d x g sc))) (mulf (wides d x g sc) x))
/-- A sum over the rows. -/
abbrev total (v : FVec Ideal S8192x2048 .f32) : FVec Ideal S1x2048 .f32 :=
  shapeCast S1x2048 (Host.reduceAdd v (constant S_ .f32 0x00000000#32) reducesTo_S8192x2048_S2048_d0 h_S_) shapeCasts_S2048_S1x2048
abbrev dscs (d x : FVec Ideal S8192x2048 .f32) (g : FVec Ideal S1x2048 .f32) : FVec Ideal S1x2048 .f32 :=
  total (mulf (mulf (mulf x (cols (scales x))) (rows g)) (shapeCast S8192x2048 d shapeCasts_S8192x2048_S8192x2048))
abbrev dgs (d x : FVec Ideal S8192x2048 .f32) (sc : FVec Ideal S1x2048 .f32) : FVec Ideal S1x2048 .f32 :=
  total (mulf (mulf x (cols (scales x))) (afters d sc))

section Whole
variable (d x y : FVec Ideal S8192x2048 .f32) (g sc : FVec Ideal S1x2048 .f32) (r : Fin 8192) (n : Fin 2048)

theorem means_at : means x (ix2 r 0) = rMean (fun k => x (ix2 r k)) := by unfold rMean; pointwise
theorem scales_at : scales x (ix2 r 0) = rInv (fun k => x (ix2 r k)) := by unfold rInv; pointwise
theorem afters_at : afters d sc (ix2 r n) = d (ix2 r n) * (1 + sc (ix2 0 n)) := by pointwise
theorem us_at : us d g sc (ix2 r n) = rU (fun k => d (ix2 r k)) (fun k => g (ix2 0 k)) (fun k => sc (ix2 0 k)) n := by unfold rU; pointwise
theorem corrs_at : corrs d x g sc (ix2 r 0) = rW (fun k => d (ix2 r k)) (fun k => x (ix2 r k)) (fun k => g (ix2 0 k)) (fun k => sc (ix2 0 k)) := by
  unfold rW rU rInv rMean; pointwise
theorem wides_of (v : FVec Ideal S8192x1 .f32) :
    broadcastInDim S8192x2048 ![0] bcast_S8192_S8192x2048_0 (Host.reduceAdd v (constant S_ .f32 0x00000000#32) reducesTo_S8192x1_S8192_d1 h_S_) (ix2 r n)
      = ∑ k : Fin 1, v (ix2 r k) := by pointwise
theorem wides_at : wides d x g sc (ix2 r n) = rW (fun k => d (ix2 r k)) (fun k => x (ix2 r k)) (fun k => g (ix2 0 k)) (fun k => sc (ix2 0 k)) :=
  (wides_of r n _).trans ((Fin.sum_univ_one _).trans (corrs_at d x g sc r))
theorem dxs_of (u w : FVec Ideal S8192x2048 .f32) (s : FVec Ideal S8192x1 .f32) :
    addf y (addf (addf (mulf u (cols s)) (mulf x w)) (mulf w x)) (ix2 r n)
      = y (ix2 r n) + (u (ix2 r n) * s (ix2 r 0) + x (ix2 r n) * w (ix2 r n) + w (ix2 r n) * x (ix2 r n)) := by pointwise
theorem dxs_at : dxs d x y g sc (ix2 r n)
    = y (ix2 r n) + rDx (fun k => d (ix2 r k)) (fun k => x (ix2 r k)) (fun k => g (ix2 0 k)) (fun k => sc (ix2 0 k)) n := by
  refine (dxs_of x y r n (us d g sc) (wides d x g sc) (scales x)).trans ?_
  rw [← refDx_eq, wides_at d x g sc r n, us_at d g sc r n, scales_at x r]
  rfl
theorem total_at (v : FVec Ideal S8192x2048 .f32) : total v (ix2 0 n) = ∑ r : Fin 8192, v (ix2 r n) := by pointwise
theorem dscs_at : dscs d x g (ix2 0 n) = ∑ r : Fin 8192, d (ix2 r n) * (x (ix2 r n) * rInv (fun k => x (ix2 r k)) * g (ix2 0 n)) := by
  refine (total_at n _).trans (Finset.sum_congr rfl fun r _ => ?_)
  rw [← scales_at x r, mul_comm (d (ix2 r n))]
  generalize scales x = s
  pointwise
theorem dgs_at : dgs d x sc (ix2 0 n) = ∑ r : Fin 8192, d (ix2 r n) * (1 + sc (ix2 0 n)) * (x (ix2 r n) * rInv (fun k => x (ix2 r k))) := by
  refine (total_at n _).trans (Finset.sum_congr rfl fun r _ => ?_)
  rw [← scales_at x r, ← afters_at d sc r n, mul_comm (afters d sc (ix2 r n))]
  generalize scales x = s
  generalize afters d sc = a
  pointwise

end Whole

end Cert.NormBwdRefIdeal.NormRef

end
-- ==== Proof.NormBwd.lean ====
module

public import proofs.«01_k».proof.Proof.NormRef
public import proofs.«01_k».proof.Defs
public import proofs.«01_k».proof.Proof.Gen.NormBwd
public import proofs.«01_k».proof.Proof.Gen.NormBwdRefIdeal
public import Idealize.ShloMosaic.Lib.Quiescent

@[expose] public section

set_option maxRecDepth 16384

noncomputable section

/-! The claims about the norm's backward call, from its run (`NormRun`), its arrays (`NormValue`) and the reference's terms (`NormRef`). -/

namespace Cert.NormBwdIdeal.Grad

open Idealize.ShloMosaic Idealize.ShloMosaic.TcCoe Idealize.SL.Sem

section Kernel
open Cert.NormBwdIdeal Cert.NormBwdIdeal.Gen
variable {F : FTy → Type} [FloatOps F]

/-- The arguments end unchanged. -/
theorem kept (m : (ℓ : Loc nD τ sig) → Buf (Elt F) ℓ) (r : PUnit × MemSt nD τ sig (Elt F))
    (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).1 1).trans (((dats m 0 c).arrAt_in 1 rfl _).trans ((A_eq m c 1).trans (V_main_arg0 m c))),
   ((h c).1 3).trans (((dats m 0 c).arrAt_in 3 rfl _).trans ((A_eq m c 3).trans (V_main_arg1 m c))),
   ((h c).2 main_arg2 (Pipeline.mem_restRefs_of main_arg2 (by decide) (by decide))).trans (V_main_arg2 m c),
   ((h c).1 4).trans (((dats m 0 c).arrAt_in 4 rfl _).trans ((A_eq m c 4).trans (V_main_arg3 m c))),
   ((h c).1 2).trans (((dats m 0 c).arrAt_in 2 rfl _).trans ((A_eq m c 2).trans (V_main_arg4 m c))),
   ((h c).2 main_arg5 (Pipeline.mem_restRefs_of main_arg5 (by decide) (by decide))).trans (V_main_arg5 m c)⟩

theorem frame_ideal : Cert.quiescent_NormBwdIdeal := fun m ρ _ => frame (F := Ideal) m ρ
set_option backward.isDefEq.respectTransparency.types false
/-- The two programs have one text: their bodies, their body tables and their mains are the same. -/
theorem same_body : Cert.NormBwd.defs₀ (F := Bits) = Cert.NormBwdIdeal.defs₀ := by
  unfold Cert.NormBwd.defs₀ Cert.NormBwdIdeal.defs₀
  refine congrArg Defs.onTc ?_
  funext l a
  obtain rfl : l = 0 := Subsingleton.elim _ _
  rfl
theorem same_defs : Cert.NormBwd.defs (F := Bits) = Cert.NormBwdIdeal.defs := by
  unfold Cert.NormBwd.defs Cert.NormBwdIdeal.defs
  exact congrArg (Pipeline.defs Cert.NormBwdIdeal.pcfgs) same_body
theorem same_main : Cert.NormBwd.main (F := Bits) = Cert.NormBwdIdeal.main (F := Bits) := rfl

theorem frame_kernel : Cert.quiescent_NormBwd := by
  intro m ρ _
  rw [same_defs, same_main]
  exact frame (F := Bits) m ρ

end Kernel

section Ref
open Cert.NormBwdRefIdeal

theorem frame_ref : Cert.quiescent_NormBwdRefIdeal := fun m g _ =>
  (θ_run _ _ _).mono (fun r h => ⟨fun c => (h c).2.2.2.2, sem_eq_zero_of_no_sems (by decide) r.2⟩) (Value.run (F := Ideal) m g)

end Ref

section Values
open Cert.NormBwdIdeal Cert.NormBwdRefIdeal.NormRef

/-- Both programs run, and their four results are equal. -/
theorem values : Cert.algebraic_NormBwdIdeal_NormBwdRefIdeal := by
  intro m g m' g' _ hargs
  refine ⟨fun c => arr5 m c, fun c => arr6 m c, fun c => arr7 m c, fun c => arr8 m c, ?_, ?_⟩
  · refine (θ_run Cert.NormBwdIdeal.defs _ _).mono (fun r h c => ?_) (run_main (F := Ideal) m g)
    exact ⟨((h c).1 5).trans (final5 m c), ((h c).1 6).trans (final6 m c), ((h c).1 7).trans (final7 m c), ((h c).1 8).trans (final8 m c), kept m r h c⟩
  · refine (θ_run Cert.NormBwdRefIdeal.defs _ _).mono (fun r h c => ?_) (Cert.NormBwdRefIdeal.Value.run (F := Ideal) m' g')
    obtain ⟨h0, h1, h2, h3, hk⟩ := h c
    obtain ⟨e0, e1, e2, e3, e4, e5⟩ := hargs c
    unfold Cert.NormBwdRefIdeal.Value.res_main_v48 at h0
    rw [e0, e1, e3, e4, e5] at h0
    rw [e5] at h1
    rw [e0, e1, e5] at h2
    rw [e0, e3, e5] at h3
    refine ⟨h0.trans ?_, h1.trans ?_, h2.trans ?_, h3.trans ?_, hk⟩
    · funext i; obtain ⟨p, n, rfl⟩ : ∃ p n, i = ix2 p n := ⟨i 0, i 1, eq_ix2 i⟩
      exact dxs_at (argD m c) (argX m c) (argY m c) (argG m c) (argSc m c) p n
    · funext i; obtain ⟨z, n, rfl⟩ : ∃ z n, i = ix2 z n := ⟨i 0, i 1, eq_ix2 i⟩
      obtain rfl : z = 0 := Subsingleton.elim _ _
      exact total_at n (argD m c)
    · funext i; obtain ⟨z, n, rfl⟩ : ∃ z n, i = ix2 z n := ⟨i 0, i 1, eq_ix2 i⟩
      obtain rfl : z = 0 := Subsingleton.elim _ _
      exact dscs_at (argD m c) (argX m c) (argG m c) n
    · funext i; obtain ⟨z, n, rfl⟩ : ∃ z n, i = ix2 z n := ⟨i 0, i 1, eq_ix2 i⟩
      obtain rfl : z = 0 := Subsingleton.elim _ _
      exact dgs_at (argD m c) (argX m c) (argSc m c) n

end Values

end Cert.NormBwdIdeal.Grad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.FfnFwd
public import proofs.«01_k».proof.Proof.Gen.FfnFwd.Skeleton
public import proofs.«01_k».proof.Proof.Gen.FfnFwd.Loops
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Loops
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.FfnFwdRefIdeal.Run
public import proofs.«01_k».proof.Proof.Gen.Adam1
public import proofs.«01_k».proof.Proof.Gen.Adam1.Skeleton
public import proofs.«01_k».proof.Proof.Gen.Adam1.Launch
public import proofs.«01_k».proof.Proof.Gen.Adam1.Points
public import proofs.«01_k».proof.Proof.Gen.Adam1.Frame
public import proofs.«01_k».proof.Proof.Gen.Adam1Ideal
public import proofs.«01_k».proof.Proof.Gen.Adam1Ideal.Skeleton
public import proofs.«01_k».proof.Proof.Gen.Adam1Ideal.Launch
public import proofs.«01_k».proof.Proof.Gen.Adam1Ideal.Points
public import proofs.«01_k».proof.Proof.Gen.Adam1Ideal.Frame
public import proofs.«01_k».proof.Proof.Gen.Adam1Ideal.Value
public import proofs.«01_k».proof.Proof.Gen.Adam1RefIdeal
public import proofs.«01_k».proof.Proof.Gen.Adam1RefIdeal.Run
public import proofs.«01_k».proof.Proof.Gen.Adam2
public import proofs.«01_k».proof.Proof.Gen.Adam2.Skeleton
public import proofs.«01_k».proof.Proof.Gen.Adam2.Launch
public import proofs.«01_k».proof.Proof.Gen.Adam2.Points
public import proofs.«01_k».proof.Proof.Gen.Adam2.Frame
public import proofs.«01_k».proof.Proof.Gen.Adam2Ideal
public import proofs.«01_k».proof.Proof.Gen.Adam2Ideal.Skeleton
public import proofs.«01_k».proof.Proof.Gen.Adam2Ideal.Launch
public import proofs.«01_k».proof.Proof.Gen.Adam2Ideal.Points
public import proofs.«01_k».proof.Proof.Gen.Adam2Ideal.Frame
public import proofs.«01_k».proof.Proof.Gen.Adam2Ideal.Value
public import proofs.«01_k».proof.Proof.Gen.Adam2RefIdeal
public import proofs.«01_k».proof.Proof.Gen.Adam2RefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallIdeal.Value
public import proofs.«01_k».proof.Proof.Gen.SmallRefIdeal
public import proofs.«01_k».proof.Proof.Gen.SmallRefIdeal.Run
public import proofs.«01_k».proof.Proof.Gen.GradWAda
public import proofs.«01_k».proof.Proof.Gen.GradWAda.Skeleton
public import proofs.«01_k».proof.Proof.Gen.GradWAda.Launch
public import proofs.«01_k».proof.Proof.Gen.GradWAda.Points
public import proofs.«01_k».proof.Proof.Gen.GradWAda.Frame
public import proofs.«01_k».proof.Proof.Gen.GradWAdaIdeal
public import proofs.«01_k».proof.Proof.Gen.GradWAdaIdeal.Skeleton
public import proofs.«01_k».proof.Proof.Gen.GradWAdaIdeal.Launch
public import proofs.«01_k».proof.Proof.Gen.GradWAdaIdeal.Points
public import proofs.«01_k».proof.Proof.Gen.GradWAdaIdeal.Frame
public import proofs.«01_k».proof.Proof.Gen.GradWAdaIdeal.Value
public import proofs.«01_k».proof.Proof.Gen.GradWAdaRefIdeal
public import proofs.«01_k».proof.Proof.Gen.GradWAdaRefIdeal.Run
public import proofs.«01_k».proof.Proof.Gen.GradW1
public import proofs.«01_k».proof.Proof.Gen.GradW1.Skeleton
public import proofs.«01_k».proof.Proof.Gen.GradW1.Launch
public import proofs.«01_k».proof.Proof.Gen.GradW1.Points
public import proofs.«01_k».proof.Proof.Gen.GradW1.Frame
public import proofs.«01_k».proof.Proof.Gen.GradW1Ideal
public import proofs.«01_k».proof.Proof.Gen.GradW1Ideal.Skeleton
public import proofs.«01_k».proof.Proof.Gen.GradW1Ideal.Launch
public import proofs.«01_k».proof.Proof.Gen.GradW1Ideal.Points
public import proofs.«01_k».proof.Proof.Gen.GradW1Ideal.Frame
public import proofs.«01_k».proof.Proof.Gen.GradW1Ideal.Value
public import proofs.«01_k».proof.Proof.Gen.GradW1RefIdeal
public import proofs.«01_k».proof.Proof.Gen.GradW1RefIdeal.Run
public import proofs.«01_k».proof.Proof.Gen.GradWOut
public import proofs.«01_k».proof.Proof.Gen.GradWOut.Skeleton
public import proofs.«01_k».proof.Proof.Gen.GradWOut.Launch
public import proofs.«01_k».proof.Proof.Gen.GradWOut.Points
public import proofs.«01_k».proof.Proof.Gen.GradWOut.Frame
public import proofs.«01_k».proof.Proof.Gen.GradWOutIdeal
public import proofs.«01_k».proof.Proof.Gen.GradWOutIdeal.Skeleton
public import proofs.«01_k».proof.Proof.Gen.GradWOutIdeal.Launch
public import proofs.«01_k».proof.Proof.Gen.GradWOutIdeal.Points
public import proofs.«01_k».proof.Proof.Gen.GradWOutIdeal.Frame
public import proofs.«01_k».proof.Proof.Gen.GradWOutIdeal.Value
public import proofs.«01_k».proof.Proof.Gen.GradWOutRefIdeal
public import proofs.«01_k».proof.Proof.Gen.GradWOutRefIdeal.Run
public import proofs.«01_k».proof.Proof.Gen.DMix
public import proofs.«01_k».proof.Proof.Gen.DMix.Skeleton
public import proofs.«01_k».proof.Proof.Gen.DMix.Launch
public import proofs.«01_k».proof.Proof.Gen.DMix.Points
public import proofs.«01_k».proof.Proof.Gen.DMix.Frame
public import proofs.«01_k».proof.Proof.Gen.DMixIdeal
public import proofs.«01_k».proof.Proof.Gen.DMixIdeal.Skeleton
public import proofs.«01_k».proof.Proof.Gen.DMixIdeal.Launch
public import proofs.«01_k».proof.Proof.Gen.DMixIdeal.Points
public import proofs.«01_k».proof.Proof.Gen.DMixIdeal.Frame
public import proofs.«01_k».proof.Proof.Gen.DMixIdeal.Value
public import proofs.«01_k».proof.Proof.Gen.DMixRefIdeal
public import proofs.«01_k».proof.Proof.Gen.DMixRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.ModPart
public import proofs.«01_k».proof.Proof.Gen.ModPart.Skeleton
public import proofs.«01_k».proof.Proof.Gen.ModPart.Launch
public import proofs.«01_k».proof.Proof.Gen.ModPart.Points
public import proofs.«01_k».proof.Proof.Gen.ModPart.Frame
public import proofs.«01_k».proof.Proof.Gen.ModPartIdeal
public import proofs.«01_k».proof.Proof.Gen.ModPartIdeal.Skeleton
public import proofs.«01_k».proof.Proof.Gen.ModPartIdeal.Launch
public import proofs.«01_k».proof.Proof.Gen.ModPartIdeal.Points
public import proofs.«01_k».proof.Proof.Gen.ModPartIdeal.Frame
public import proofs.«01_k».proof.Proof.Gen.ModPartIdeal.Value
public import proofs.«01_k».proof.Proof.Gen.ModPartRefIdeal
public import proofs.«01_k».proof.Proof.Gen.ModPartRefIdeal.Run
public import proofs.«01_k».proof.Proof.Gen.RelBias
public import proofs.«01_k».proof.Proof.Gen.RelBias.Skeleton
public import proofs.«01_k».proof.Proof.Gen.RelBias.Launch
public import proofs.«01_k».proof.Proof.Gen.RelBias.Points
public import proofs.«01_k».proof.Proof.Gen.RelBias.Frame
public import proofs.«01_k».proof.Proof.Gen.RelBiasIdeal
public import proofs.«01_k».proof.Proof.Gen.RelBiasIdeal.Skeleton
public import proofs.«01_k».proof.Proof.Gen.RelBiasIdeal.Launch
public import proofs.«01_k».proof.Proof.Gen.RelBiasIdeal.Points
public import proofs.«01_k».proof.Proof.Gen.RelBiasIdeal.Frame
public import proofs.«01_k».proof.Proof.Gen.RelBiasIdeal.Value
public import proofs.«01_k».proof.Proof.Gen.RelBiasRefIdeal
public import proofs.«01_k».proof.Proof.Gen.RelBiasRefIdeal.Run
public import proofs.«01_k».proof.Proof.Gen.PreNorm
public import proofs.«01_k».proof.Proof.Gen.PreNorm.Skeleton
public import proofs.«01_k».proof.Proof.Gen.PreNorm.Loops
public import proofs.«01_k».proof.Proof.Gen.PreNorm.Launch
public import proofs.«01_k».proof.Proof.Gen.PreNorm.Points
public import proofs.«01_k».proof.Proof.Gen.PreNorm.Frame
public import proofs.«01_k».proof.Proof.Gen.PreNormIdeal
public import proofs.«01_k».proof.Proof.Gen.PreNormIdeal.Skeleton
public import proofs.«01_k».proof.Proof.Gen.PreNormIdeal.Loops
public import proofs.«01_k».proof.Proof.Gen.PreNormIdeal.Launch
public import proofs.«01_k».proof.Proof.Gen.PreNormIdeal.Points
public import proofs.«01_k».proof.Proof.Gen.PreNormIdeal.Frame
public import proofs.«01_k».proof.Proof.Gen.PreNormIdeal.Value
public import proofs.«01_k».proof.Proof.Gen.PreNormRefIdeal
public import proofs.«01_k».proof.Proof.Gen.PreNormRefIdeal.Run
public import proofs.«01_k».proof.Proof.Gen.Pre_core
public import proofs.«01_k».proof.Proof.Gen.ChipSum
public import proofs.«01_k».proof.Proof.Gen.ChipSum.Skeleton
public import proofs.«01_k».proof.Proof.Gen.ChipSum.Launch
public import proofs.«01_k».proof.Proof.Gen.ChipSum.Points
public import proofs.«01_k».proof.Proof.Gen.ChipSum.Frame
public import proofs.«01_k».proof.Proof.Gen.ChipSumIdeal
public import proofs.«01_k».proof.Proof.Gen.ChipSumIdeal.Skeleton
public import proofs.«01_k».proof.Proof.Gen.ChipSumIdeal.Launch
public import proofs.«01_k».proof.Proof.Gen.ChipSumIdeal.Points
public import proofs.«01_k».proof.Proof.Gen.ChipSumIdeal.Frame
public import proofs.«01_k».proof.Proof.Gen.ChipSumRefIdeal
public import proofs.«01_k».proof.Proof.Gen.ChipSumRefIdeal.Run
public import proofs.«01_k».proof.Proof.Gen.NormBwd
public import proofs.«01_k».proof.Proof.Gen.NormBwd.Skeleton
public import proofs.«01_k».proof.Proof.Gen.NormBwd.Loops
public import proofs.«01_k».proof.Proof.Gen.NormBwd.Launch
public import proofs.«01_k».proof.Proof.Gen.NormBwd.Points
public import proofs.«01_k».proof.Proof.Gen.NormBwdIdeal
public import proofs.«01_k».proof.Proof.Gen.NormBwdIdeal.Skeleton
public import proofs.«01_k».proof.Proof.Gen.NormBwdIdeal.Loops
public import proofs.«01_k».proof.Proof.Gen.NormBwdIdeal.Launch
public import proofs.«01_k».proof.Proof.Gen.NormBwdIdeal.Points
public import proofs.«01_k».proof.Proof.Gen.NormBwdRefIdeal
public import proofs.«01_k».proof.Proof.Gen.NormBwdRefIdeal.Run
public import proofs.«01_k».proof.Proof.NormBwd
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.FfnFwd.Gen.facts, Cert.FfnFwdIdeal.Gen.facts, Cert.FfnFwdRefIdeal.Gen.facts,
  Cert.Adam1.Gen.facts, Cert.Adam1Ideal.Gen.facts, Cert.Adam1RefIdeal.Gen.facts,
  Cert.Adam2.Gen.facts, Cert.Adam2Ideal.Gen.facts, Cert.Adam2RefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamAda.Gen.facts, Cert.AdamAdaIdeal.Gen.facts, Cert.AdamAdaRefIdeal.Gen.facts,
  Cert.Small.Gen.facts, Cert.SmallIdeal.Gen.facts, Cert.SmallRefIdeal.Gen.facts,
  Cert.GradWAda.Gen.facts, Cert.GradWAdaIdeal.Gen.facts, Cert.GradWAdaRefIdeal.Gen.facts,
  Cert.GradW1.Gen.facts, Cert.GradW1Ideal.Gen.facts, Cert.GradW1RefIdeal.Gen.facts,
  Cert.GradWOut.Gen.facts, Cert.GradWOutIdeal.Gen.facts, Cert.GradWOutRefIdeal.Gen.facts,
  Cert.DMix.Gen.facts, Cert.DMixIdeal.Gen.facts, Cert.DMixRefIdeal.Gen.facts,
  Cert.Out.Gen.facts, Cert.OutIdeal.Gen.facts, Cert.OutRefIdeal.Gen.facts,
  Cert.ModPart.Gen.facts, Cert.ModPartIdeal.Gen.facts, Cert.ModPartRefIdeal.Gen.facts,
  Cert.RelBias.Gen.facts, Cert.RelBiasIdeal.Gen.facts, Cert.RelBiasRefIdeal.Gen.facts,
  Cert.PreNorm.Gen.facts, Cert.PreNormIdeal.Gen.facts, Cert.PreNormRefIdeal.Gen.facts,
  Cert.ChipSum.Gen.facts, Cert.ChipSumIdeal.Gen.facts, Cert.ChipSumRefIdeal.Gen.facts,
  Cert.NormBwd.Gen.facts, Cert.NormBwdIdeal.Gen.facts, Cert.NormBwdRefIdeal.Gen.facts,
  Cert.FfnClaims.preFacts, Cert.Pre_core.Gen.facts,
  Cert.FfnClaims.frame_kernel, Cert.FfnClaims.frame_ideal, Cert.FfnClaims.frame_ideal_finite, Cert.FfnClaims.frame_ref,
  Cert.FfnClaims.frame_ref_finite,
  Cert.FwdClaims.frame_kernel, Cert.FwdClaims.frame_ideal, Cert.FwdClaims.frame_ref,
  Cert.Adam1Ideal.Update.frame_kernel, Cert.Adam1Ideal.Update.frame_ideal, Cert.Adam1Ideal.Update.frame_ref,
  Cert.Adam2Ideal.Update.frame_kernel, Cert.Adam2Ideal.Update.frame_ideal, Cert.Adam2Ideal.Update.frame_ref,
  Cert.AdamInIdeal.Update.frame_kernel, Cert.AdamInIdeal.Update.frame_ideal, Cert.AdamInIdeal.Update.frame_ref,
  Cert.AdamOutIdeal.Update.frame_kernel, Cert.AdamOutIdeal.Update.frame_ideal, Cert.AdamOutIdeal.Update.frame_ref,
  Cert.AdamAdaIdeal.Update.frame_kernel, Cert.AdamAdaIdeal.Update.frame_ideal, Cert.AdamAdaIdeal.Update.frame_ref,
  Cert.SmallIdeal.Update.frame_kernel, Cert.SmallIdeal.Update.frame_ideal, Cert.SmallIdeal.Update.frame_ref,
  Cert.GradWAdaIdeal.Grad.frame_kernel, Cert.GradWAdaIdeal.Grad.frame_ideal, Cert.GradWAdaIdeal.Grad.frame_ref,
  Cert.GradW1Ideal.Grad.frame_kernel, Cert.GradW1Ideal.Grad.frame_ideal, Cert.GradW1Ideal.Grad.frame_ref,
  Cert.GradWOutIdeal.Grad.frame_kernel, Cert.GradWOutIdeal.Grad.frame_ideal, Cert.GradWOutIdeal.Grad.frame_ref,
  Cert.DMixIdeal.Grad.frame_kernel, Cert.DMixIdeal.Grad.frame_ideal, Cert.DMixIdeal.Grad.frame_ref,
  Cert.OutIdeal.Sum.frame_kernel, Cert.OutIdeal.Sum.frame_ideal, Cert.OutIdeal.Sum.frame_ref,
  Cert.ModPartIdeal.Sum.frame_kernel, Cert.ModPartIdeal.Sum.frame_ideal, Cert.ModPartIdeal.Sum.frame_ref,
  Cert.RelBiasIdeal.Sum.frame_kernel, Cert.RelBiasIdeal.Sum.frame_ideal, Cert.RelBiasIdeal.Sum.frame_ref,
  Cert.PreNormIdeal.Rows.frame_kernel, Cert.PreNormIdeal.Rows.frame_ideal, Cert.PreNormIdeal.Rows.frame_ref,
  Cert.ChipSumIdeal.Sum.frame_kernel, Cert.ChipSumIdeal.Sum.frame_ideal, Cert.ChipSumIdeal.Sum.frame_ref, Cert.ChipSumIdeal.Sum.frame_ref_core,
  Cert.NormBwdIdeal.Grad.frame_kernel, Cert.NormBwdIdeal.Grad.frame_ideal, Cert.NormBwdIdeal.Grad.frame_ref,
  trivial, Cert.FfnClaims.values,
  trivial, Cert.FwdClaims.values,
  trivial, Cert.Adam1Ideal.Update.values,
  trivial, Cert.Adam2Ideal.Update.values,
  trivial, Cert.AdamInIdeal.Update.values,
  trivial, Cert.AdamOutIdeal.Update.values,
  trivial, Cert.AdamAdaIdeal.Update.values,
  trivial, Cert.SmallIdeal.Update.values,
  trivial, Cert.GradWAdaIdeal.Grad.values,
  trivial, Cert.GradW1Ideal.Grad.values,
  trivial, Cert.GradWOutIdeal.Grad.values,
  trivial, Cert.DMixIdeal.Grad.values,
  trivial, Cert.OutIdeal.Sum.values,
  trivial, Cert.ModPartIdeal.Sum.values,
  trivial, Cert.RelBiasIdeal.Sum.values,
  trivial, Cert.PreNormIdeal.Rows.values,
  trivial, Cert.ChipSumIdeal.Sum.values,
  trivial, Cert.NormBwdIdeal.Grad.values⟩

end Cert.Proof

end
